-- ==== Defs.lean ====
def Pre_Kernel [hPre_idx_ok : Cert.Pre_idx_ok.Facts] (m : (ℓ : Loc Cert.Kernel.nD Cert.Kernel.τ Cert.Kernel.sig) → Buf (Elt Bits) ℓ) : Prop :=
  ∀ c : Dev Cert.Kernel.nD,
    (Cert.Pre_idx_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_idx_ok : Cert.Pre_idx_ok.Facts] (m : (ℓ : Loc Cert.KernelIdeal.nD Cert.KernelIdeal.τ Cert.KernelIdeal.sig) → Buf (Elt Ideal) ℓ) : Prop :=
  ∀ c : Dev Cert.KernelIdeal.nD,
    (Cert.Pre_idx_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_ok [hPre_idx_ok : Cert.Pre_idx_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_AffKernel (m : (ℓ : Loc Cert.AffKernel.nD Cert.AffKernel.τ Cert.AffKernel.sig) → Buf (Elt Bits) ℓ) : Prop :=
  True

def Pre_AffKernelIdeal (m : (ℓ : Loc Cert.AffKernelIdeal.nD Cert.AffKernelIdeal.τ Cert.AffKernelIdeal.sig) → Buf (Elt Ideal) ℓ) : Prop :=
  True

def Pre_AffKernelIdeal_finite [hPre_finite : Cert.Pre_finite.Facts] (m : (ℓ : Loc Cert.AffKernelIdeal.nD Cert.AffKernelIdeal.τ Cert.AffKernelIdeal.sig) → Buf (Elt Ideal) ℓ) : Prop :=
  ∀ c : Dev Cert.AffKernelIdeal.nD,
    (Cert.Pre_finite.fn (F := Ideal) (m ((c.tc : Thread Cert.AffKernelIdeal.nD Cert.AffKernelIdeal.τ).loc Cert.AffKernelIdeal.main_arg0)) (m ((c.tc : Thread Cert.AffKernelIdeal.nD Cert.AffKernelIdeal.τ).loc Cert.AffKernelIdeal.main_arg1)) (m ((c.tc : Thread Cert.AffKernelIdeal.nD Cert.AffKernelIdeal.τ).loc Cert.AffKernelIdeal.main_arg2)) (m ((c.tc : Thread Cert.AffKernelIdeal.nD Cert.AffKernelIdeal.τ).loc Cert.AffKernelIdeal.main_arg3)) (m ((c.tc : Thread Cert.AffKernelIdeal.nD Cert.AffKernelIdeal.τ).loc Cert.AffKernelIdeal.main_arg4)) (m ((c.tc : Thread Cert.AffKernelIdeal.nD Cert.AffKernelIdeal.τ).loc Cert.AffKernelIdeal.main_arg5)) (m ((c.tc : Thread Cert.AffKernelIdeal.nD Cert.AffKernelIdeal.τ).loc Cert.AffKernelIdeal.main_arg6)) (m ((c.tc : Thread Cert.AffKernelIdeal.nD Cert.AffKernelIdeal.τ).loc Cert.AffKernelIdeal.main_arg7)) (m ((c.tc : Thread Cert.AffKernelIdeal.nD Cert.AffKernelIdeal.τ).loc Cert.AffKernelIdeal.main_arg8)) (m ((c.tc : Thread Cert.AffKernelIdeal.nD Cert.AffKernelIdeal.τ).loc Cert.AffKernelIdeal.main_arg9)) (m ((c.tc : Thread Cert.AffKernelIdeal.nD Cert.AffKernelIdeal.τ).loc Cert.AffKernelIdeal.main_arg10)) (m ((c.tc : Thread Cert.AffKernelIdeal.nD Cert.AffKernelIdeal.τ).loc Cert.AffKernelIdeal.main_arg11)) (m ((c.tc : Thread Cert.AffKernelIdeal.nD Cert.AffKernelIdeal.τ).loc Cert.AffKernelIdeal.main_arg12)) (m ((c.tc : Thread Cert.AffKernelIdeal.nD Cert.AffKernelIdeal.τ).loc Cert.AffKernelIdeal.main_arg13)) (m ((c.tc : Thread Cert.AffKernelIdeal.nD Cert.AffKernelIdeal.τ).loc Cert.AffKernelIdeal.main_arg14)) (m ((c.tc : Thread Cert.AffKernelIdeal.nD Cert.AffKernelIdeal.τ).loc Cert.AffKernelIdeal.main_arg15)) (m ((c.tc : Thread Cert.AffKernelIdeal.nD Cert.AffKernelIdeal.τ).loc Cert.AffKernelIdeal.main_arg16)) (m ((c.tc : Thread Cert.AffKernelIdeal.nD Cert.AffKernelIdeal.τ).loc Cert.AffKernelIdeal.main_arg17))) = (fun _ => 1#1)

def Pre_AffReferenceIdeal (m : (ℓ : Loc Cert.AffReferenceIdeal.nD Cert.AffReferenceIdeal.τ Cert.AffReferenceIdeal.sig) → Buf (Elt Ideal) ℓ) : Prop :=
  True

def Pre_AffReferenceIdeal_finite [hPre_finite : Cert.Pre_finite.Facts] (m : (ℓ : Loc Cert.AffReferenceIdeal.nD Cert.AffReferenceIdeal.τ Cert.AffReferenceIdeal.sig) → Buf (Elt Ideal) ℓ) : Prop :=
  ∀ c : Dev Cert.AffReferenceIdeal.nD,
    (Cert.Pre_finite.fn (F := Ideal) (m ((c.tc : Thread Cert.AffReferenceIdeal.nD Cert.AffReferenceIdeal.τ).loc Cert.AffReferenceIdeal.main_arg0)) (m ((c.tc : Thread Cert.AffReferenceIdeal.nD Cert.AffReferenceIdeal.τ).loc Cert.AffReferenceIdeal.main_arg1)) (m ((c.tc : Thread Cert.AffReferenceIdeal.nD Cert.AffReferenceIdeal.τ).loc Cert.AffReferenceIdeal.main_arg2)) (m ((c.tc : Thread Cert.AffReferenceIdeal.nD Cert.AffReferenceIdeal.τ).loc Cert.AffReferenceIdeal.main_arg3)) (m ((c.tc : Thread Cert.AffReferenceIdeal.nD Cert.AffReferenceIdeal.τ).loc Cert.AffReferenceIdeal.main_arg4)) (m ((c.tc : Thread Cert.AffReferenceIdeal.nD Cert.AffReferenceIdeal.τ).loc Cert.AffReferenceIdeal.main_arg5)) (m ((c.tc : Thread Cert.AffReferenceIdeal.nD Cert.AffReferenceIdeal.τ).loc Cert.AffReferenceIdeal.main_arg6)) (m ((c.tc : Thread Cert.AffReferenceIdeal.nD Cert.AffReferenceIdeal.τ).loc Cert.AffReferenceIdeal.main_arg7)) (m ((c.tc : Thread Cert.AffReferenceIdeal.nD Cert.AffReferenceIdeal.τ).loc Cert.AffReferenceIdeal.main_arg8)) (m ((c.tc : Thread Cert.AffReferenceIdeal.nD Cert.AffReferenceIdeal.τ).loc Cert.AffReferenceIdeal.main_arg9)) (m ((c.tc : Thread Cert.AffReferenceIdeal.nD Cert.AffReferenceIdeal.τ).loc Cert.AffReferenceIdeal.main_arg10)) (m ((c.tc : Thread Cert.AffReferenceIdeal.nD Cert.AffReferenceIdeal.τ).loc Cert.AffReferenceIdeal.main_arg11)) (m ((c.tc : Thread Cert.AffReferenceIdeal.nD Cert.AffReferenceIdeal.τ).loc Cert.AffReferenceIdeal.main_arg12)) (m ((c.tc : Thread Cert.AffReferenceIdeal.nD Cert.AffReferenceIdeal.τ).loc Cert.AffReferenceIdeal.main_arg13)) (m ((c.tc : Thread Cert.AffReferenceIdeal.nD Cert.AffReferenceIdeal.τ).loc Cert.AffReferenceIdeal.main_arg14)) (m ((c.tc : Thread Cert.AffReferenceIdeal.nD Cert.AffReferenceIdeal.τ).loc Cert.AffReferenceIdeal.main_arg15)) (m ((c.tc : Thread Cert.AffReferenceIdeal.nD Cert.AffReferenceIdeal.τ).loc Cert.AffReferenceIdeal.main_arg16)) (m ((c.tc : Thread Cert.AffReferenceIdeal.nD Cert.AffReferenceIdeal.τ).loc Cert.AffReferenceIdeal.main_arg17))) = (fun _ => 1#1)

def quiescent_Kernel [hKernel : Cert.Kernel.Facts] [hPre_idx_ok : Cert.Pre_idx_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_idx_ok : Cert.Pre_idx_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_idx_ok [hReferenceIdeal : Cert.ReferenceIdeal.Facts] [hPre_idx_ok : Cert.Pre_idx_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13)
      ∧ r.2.mem ((c.tc : Thread Cert.MixKernel.nD Cert.MixKernel.τ).loc Cert.MixKernel.main_arg14) = m ((c.tc : Thread Cert.MixKernel.nD Cert.MixKernel.τ).loc Cert.MixKernel.main_arg14)
      ∧ r.2.mem ((c.tc : Thread Cert.MixKernel.nD Cert.MixKernel.τ).loc Cert.MixKernel.main_arg15) = m ((c.tc : Thread Cert.MixKernel.nD Cert.MixKernel.τ).loc Cert.MixKernel.main_arg15)
      ∧ r.2.mem ((c.tc : Thread Cert.MixKernel.nD Cert.MixKernel.τ).loc Cert.MixKernel.main_arg16) = m ((c.tc : Thread Cert.MixKernel.nD Cert.MixKernel.τ).loc Cert.MixKernel.main_arg16)
      ∧ r.2.mem ((c.tc : Thread Cert.MixKernel.nD Cert.MixKernel.τ).loc Cert.MixKernel.main_arg17) = m ((c.tc : Thread Cert.MixKernel.nD Cert.MixKernel.τ).loc Cert.MixKernel.main_arg17))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14)
      ∧ r.2.mem ((c.tc : Thread Cert.MixKernelIdeal.nD Cert.MixKernelIdeal.τ).loc Cert.MixKernelIdeal.main_arg15) = m ((c.tc : Thread Cert.MixKernelIdeal.nD Cert.MixKernelIdeal.τ).loc Cert.MixKernelIdeal.main_arg15)
      ∧ r.2.mem ((c.tc : Thread Cert.MixKernelIdeal.nD Cert.MixKernelIdeal.τ).loc Cert.MixKernelIdeal.main_arg16) = m ((c.tc : Thread Cert.MixKernelIdeal.nD Cert.MixKernelIdeal.τ).loc Cert.MixKernelIdeal.main_arg16)
      ∧ r.2.mem ((c.tc : Thread Cert.MixKernelIdeal.nD Cert.MixKernelIdeal.τ).loc Cert.MixKernelIdeal.main_arg17) = m ((c.tc : Thread Cert.MixKernelIdeal.nD Cert.MixKernelIdeal.τ).loc Cert.MixKernelIdeal.main_arg17))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16)
      ∧ r.2.mem ((c.tc : Thread Cert.MixReferenceIdeal.nD Cert.MixReferenceIdeal.τ).loc Cert.MixReferenceIdeal.main_arg17) = m ((c.tc : Thread Cert.MixReferenceIdeal.nD Cert.MixReferenceIdeal.τ).loc Cert.MixReferenceIdeal.main_arg17))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3)
      ∧ r.2.mem ((c.tc : Thread Cert.CtxKernel.nD Cert.CtxKernel.τ).loc Cert.CtxKernel.main_arg4) = m ((c.tc : Thread Cert.CtxKernel.nD Cert.CtxKernel.τ).loc Cert.CtxKernel.main_arg4)
      ∧ r.2.mem ((c.tc : Thread Cert.CtxKernel.nD Cert.CtxKernel.τ).loc Cert.CtxKernel.main_arg5) = m ((c.tc : Thread Cert.CtxKernel.nD Cert.CtxKernel.τ).loc Cert.CtxKernel.main_arg5)
      ∧ r.2.mem ((c.tc : Thread Cert.CtxKernel.nD Cert.CtxKernel.τ).loc Cert.CtxKernel.main_arg6) = m ((c.tc : Thread Cert.CtxKernel.nD Cert.CtxKernel.τ).loc Cert.CtxKernel.main_arg6))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
      ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
      ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5)
      ∧ r.2.mem ((c.tc : Thread Cert.CtxKernelIdeal.nD Cert.CtxKernelIdeal.τ).loc Cert.CtxKernelIdeal.main_arg6) = m ((c.tc : Thread Cert.CtxKernelIdeal.nD Cert.CtxKernelIdeal.τ).loc Cert.CtxKernelIdeal.main_arg6))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5)
      ∧ r.2.mem ((c.tc : Thread Cert.CtxReferenceIdeal.nD Cert.CtxReferenceIdeal.τ).loc Cert.CtxReferenceIdeal.main_arg6) = m ((c.tc : Thread Cert.CtxReferenceIdeal.nD Cert.CtxReferenceIdeal.τ).loc Cert.CtxReferenceIdeal.main_arg6))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_AffKernel [hAffKernel : Cert.AffKernel.Facts] : Prop :=
  ∀ (m : (ℓ : Loc Cert.AffKernel.nD Cert.AffKernel.τ Cert.AffKernel.sig) → Buf (Elt Bits) ℓ) (g : Dev Cert.AffKernel.nD → PrngReg), Pre_AffKernel m →
    θ_run (Cert.AffKernel.defs (F := Bits)) (onTc (τ := Cert.AffKernel.τ) (Cert.AffKernel.main (F := Bits))) ⟨m, fun _ => 0, g⟩ (fun r => (∀ c : Dev Cert.AffKernel.nD,
      r.2.mem ((c.tc : Thread Cert.AffKernel.nD Cert.AffKernel.τ).loc Cert.AffKernel.main_arg0) = m ((c.tc : Thread Cert.AffKernel.nD Cert.AffKernel.τ).loc Cert.AffKernel.main_arg0)
      ∧ r.2.mem ((c.tc : Thread Cert.AffKernel.nD Cert.AffKernel.τ).loc Cert.AffKernel.main_arg1) = m ((c.tc : Thread Cert.AffKernel.nD Cert.AffKernel.τ).loc Cert.AffKernel.main_arg1)
      ∧ r.2.mem ((c.tc : Thread Cert.AffKernel.nD Cert.AffKernel.τ).loc Cert.AffKernel.main_arg2) = m ((c.tc : Thread Cert.AffKernel.nD Cert.AffKernel.τ).loc Cert.AffKernel.main_arg2)
      ∧ r.2.mem ((c.tc : Thread Cert.AffKernel.nD Cert.AffKernel.τ).loc Cert.AffKernel.main_arg3) = m ((c.tc : Thread Cert.AffKernel.nD Cert.AffKernel.τ).loc Cert.AffKernel.main_arg3)
      ∧ r.2.mem ((c.tc : Thread Cert.AffKernel.nD Cert.AffKernel.τ).loc Cert.AffKernel.main_arg4) = m ((c.tc : Thread Cert.AffKernel.nD Cert.AffKernel.τ).loc Cert.AffKernel.main_arg4)
      ∧ r.2.mem ((c.tc : Thread Cert.AffKernel.nD Cert.AffKernel.τ).loc Cert.AffKernel.main_arg5) = m ((c.tc : Thread Cert.AffKernel.nD Cert.AffKernel.τ).loc Cert.AffKernel.main_arg5)
      ∧ r.2.mem ((c.tc : Thread Cert.AffKernel.nD Cert.AffKernel.τ).loc Cert.AffKernel.main_arg6) = m ((c.tc : Thread Cert.AffKernel.nD Cert.AffKernel.τ).loc Cert.AffKernel.main_arg6)
      ∧ r.2.mem ((c.tc : Thread Cert.AffKernel.nD Cert.AffKernel.τ).loc Cert.AffKernel.main_arg7) = m ((c.tc : Thread Cert.AffKernel.nD Cert.AffKernel.τ).loc Cert.AffKernel.main_arg7)
      ∧ r.2.mem ((c.tc : Thread Cert.AffKernel.nD Cert.AffKernel.τ).loc Cert.AffKernel.main_arg8) = m ((c.tc : Thread Cert.AffKernel.nD Cert.AffKernel.τ).loc Cert.AffKernel.main_arg8)
      ∧ r.2.mem ((c.tc : Thread Cert.AffKernel.nD Cert.AffKernel.τ).loc Cert.AffKernel.main_arg9) = m ((c.tc : Thread Cert.AffKernel.nD Cert.AffKernel.τ).loc Cert.AffKernel.main_arg9)
      ∧ r.2.mem ((c.tc : Thread Cert.AffKernel.nD Cert.AffKernel.τ).loc Cert.AffKernel.main_arg10) = m ((c.tc : Thread Cert.AffKernel.nD Cert.AffKernel.τ).loc Cert.AffKernel.main_arg10)
      ∧ r.2.mem ((c.tc : Thread Cert.AffKernel.nD Cert.AffKernel.τ).loc Cert.AffKernel.main_arg11) = m ((c.tc : Thread Cert.AffKernel.nD Cert.AffKernel.τ).loc Cert.AffKernel.main_arg11)
      ∧ r.2.mem ((c.tc : Thread Cert.AffKernel.nD Cert.AffKernel.τ).loc Cert.AffKernel.main_arg12) = m ((c.tc : Thread Cert.AffKernel.nD Cert.AffKernel.τ).loc Cert.AffKernel.main_arg12)
      ∧ r.2.mem ((c.tc : Thread Cert.AffKernel.nD Cert.AffKernel.τ).loc Cert.AffKernel.main_arg13) = m ((c.tc : Thread Cert.AffKernel.nD Cert.AffKernel.τ).loc Cert.AffKernel.main_arg13)
      ∧ r.2.mem ((c.tc : Thread Cert.AffKernel.nD Cert.AffKernel.τ).loc Cert.AffKernel.main_arg14) = m ((c.tc : Thread Cert.AffKernel.nD Cert.AffKernel.τ).loc Cert.AffKernel.main_arg14)
      ∧ r.2.mem ((c.tc : Thread Cert.AffKernel.nD Cert.AffKernel.τ).loc Cert.AffKernel.main_arg15) = m ((c.tc : Thread Cert.AffKernel.nD Cert.AffKernel.τ).loc Cert.AffKernel.main_arg15)
      ∧ r.2.mem ((c.tc : Thread Cert.AffKernel.nD Cert.AffKernel.τ).loc Cert.AffKernel.main_arg16) = m ((c.tc : Thread Cert.AffKernel.nD Cert.AffKernel.τ).loc Cert.AffKernel.main_arg16)
      ∧ r.2.mem ((c.tc : Thread Cert.AffKernel.nD Cert.AffKernel.τ).loc Cert.AffKernel.main_arg17) = m ((c.tc : Thread Cert.AffKernel.nD Cert.AffKernel.τ).loc Cert.AffKernel.main_arg17))
      ∧ r.2.sem = fun _ => 0)

def quiescent_AffKernelIdeal [hAffKernelIdeal : Cert.AffKernelIdeal.Facts] : Prop :=
  ∀ (m : (ℓ : Loc Cert.AffKernelIdeal.nD Cert.AffKernelIdeal.τ Cert.AffKernelIdeal.sig) → Buf (Elt Ideal) ℓ) (g : Dev Cert.AffKernelIdeal.nD → PrngReg), Pre_AffKernelIdeal m →
    θ_run (Cert.AffKernelIdeal.defs (F := Ideal)) (onTc (τ := Cert.AffKernelIdeal.τ) (Cert.AffKernelIdeal.main (F := Ideal))) ⟨m, fun _ => 0, g⟩ (fun r => (∀ c : Dev Cert.AffKernelIdeal.nD,
      r.2.mem ((c.tc : Thread Cert.AffKernelIdeal.nD Cert.AffKernelIdeal.τ).loc Cert.AffKernelIdeal.main_arg0) = m ((c.tc : Thread Cert.AffKernelIdeal.nD Cert.AffKernelIdeal.τ).loc Cert.AffKernelIdeal.main_arg0)
      ∧ r.2.mem ((c.tc : Thread Cert.AffKernelIdeal.nD Cert.AffKernelIdeal.τ).loc Cert.AffKernelIdeal.main_arg1) = m ((c.tc : Thread Cert.AffKernelIdeal.nD Cert.AffKernelIdeal.τ).loc Cert.AffKernelIdeal.main_arg1)
      ∧ r.2.mem ((c.tc : Thread Cert.AffKernelIdeal.nD Cert.AffKernelIdeal.τ).loc Cert.AffKernelIdeal.main_arg2) = m ((c.tc : Thread Cert.AffKernelIdeal.nD Cert.AffKernelIdeal.τ).loc Cert.AffKernelIdeal.main_arg2)
      ∧ r.2.mem ((c.tc : Thread Cert.AffKernelIdeal.nD Cert.AffKernelIdeal.τ).loc Cert.AffKernelIdeal.main_arg3) = m ((c.tc : Thread Cert.AffKernelIdeal.nD Cert.AffKernelIdeal.τ).loc Cert.AffKernelIdeal.main_arg3)
      ∧ r.2.mem ((c.tc : Thread Cert.AffKernelIdeal.nD Cert.AffKernelIdeal.τ).loc Cert.AffKernelIdeal.main_arg4) = m ((c.tc : Thread Cert.AffKernelIdeal.nD Cert.AffKernelIdeal.τ).loc Cert.AffKernelIdeal.main_arg4)
      ∧ r.2.mem ((c.tc : Thread Cert.AffKernelIdeal.nD Cert.AffKernelIdeal.τ).loc Cert.AffKernelIdeal.main_arg5) = m ((c.tc : Thread Cert.AffKernelIdeal.nD Cert.AffKernelIdeal.τ).loc Cert.AffKernelIdeal.main_arg5)
      ∧ r.2.mem ((c.tc : Thread Cert.AffKernelIdeal.nD Cert.AffKernelIdeal.τ).loc Cert.AffKernelIdeal.main_arg6) = m ((c.tc : Thread Cert.AffKernelIdeal.nD Cert.AffKernelIdeal.τ).loc Cert.AffKernelIdeal.main_arg6)
      ∧ r.2.mem ((c.tc : Thread Cert.AffKernelIdeal.nD Cert.AffKernelIdeal.τ).loc Cert.AffKernelIdeal.main_arg7) = m ((c.tc : Thread Cert.AffKernelIdeal.nD Cert.AffKernelIdeal.τ).loc Cert.AffKernelIdeal.main_arg7)
      ∧ r.2.mem ((c.tc : Thread Cert.AffKernelIdeal.nD Cert.AffKernelIdeal.τ).loc Cert.AffKernelIdeal.main_arg8) = m ((c.tc : Thread Cert.AffKernelIdeal.nD Cert.AffKernelIdeal.τ).loc Cert.AffKernelIdeal.main_arg8)
      ∧ r.2.mem ((c.tc : Thread Cert.AffKernelIdeal.nD Cert.AffKernelIdeal.τ).loc Cert.AffKernelIdeal.main_arg9) = m ((c.tc : Thread Cert.AffKernelIdeal.nD Cert.AffKernelIdeal.τ).loc Cert.AffKernelIdeal.main_arg9)
      ∧ r.2.mem ((c.tc : Thread Cert.AffKernelIdeal.nD Cert.AffKernelIdeal.τ).loc Cert.AffKernelIdeal.main_arg10) = m ((c.tc : Thread Cert.AffKernelIdeal.nD Cert.AffKernelIdeal.τ).loc Cert.AffKernelIdeal.main_arg10)
      ∧ r.2.mem ((c.tc : Thread Cert.AffKernelIdeal.nD Cert.AffKernelIdeal.τ).loc Cert.AffKernelIdeal.main_arg11) = m ((c.tc : Thread Cert.AffKernelIdeal.nD Cert.AffKernelIdeal.τ).loc Cert.AffKernelIdeal.main_arg11)
      ∧ r.2.mem ((c.tc : Thread Cert.AffKernelIdeal.nD Cert.AffKernelIdeal.τ).loc Cert.AffKernelIdeal.main_arg12) = m ((c.tc : Thread Cert.AffKernelIdeal.nD Cert.AffKernelIdeal.τ).loc Cert.AffKernelIdeal.main_arg12)
      ∧ r.2.mem ((c.tc : Thread Cert.AffKernelIdeal.nD Cert.AffKernelIdeal.τ).loc Cert.AffKernelIdeal.main_arg13) = m ((c.tc : Thread Cert.AffKernelIdeal.nD Cert.AffKernelIdeal.τ).loc Cert.AffKernelIdeal.main_arg13)
      ∧ r.2.mem ((c.tc : Thread Cert.AffKernelIdeal.nD Cert.AffKernelIdeal.τ).loc Cert.AffKernelIdeal.main_arg14) = m ((c.tc : Thread Cert.AffKernelIdeal.nD Cert.AffKernelIdeal.τ).loc Cert.AffKernelIdeal.main_arg14)
      ∧ r.2.mem ((c.tc : Thread Cert.AffKernelIdeal.nD Cert.AffKernelIdeal.τ).loc Cert.AffKernelIdeal.main_arg15) = m ((c.tc : Thread Cert.AffKernelIdeal.nD Cert.AffKernelIdeal.τ).loc Cert.AffKernelIdeal.main_arg15)
      ∧ r.2.mem ((c.tc : Thread Cert.AffKernelIdeal.nD Cert.AffKernelIdeal.τ).loc Cert.AffKernelIdeal.main_arg16) = m ((c.tc : Thread Cert.AffKernelIdeal.nD Cert.AffKernelIdeal.τ).loc Cert.AffKernelIdeal.main_arg16)
      ∧ r.2.mem ((c.tc : Thread Cert.AffKernelIdeal.nD Cert.AffKernelIdeal.τ).loc Cert.AffKernelIdeal.main_arg17) = m ((c.tc : Thread Cert.AffKernelIdeal.nD Cert.AffKernelIdeal.τ).loc Cert.AffKernelIdeal.main_arg17))
      ∧ r.2.sem = fun _ => 0)

def quiescent_AffKernelIdeal_pre_finite [hAffKernelIdeal : Cert.AffKernelIdeal.Facts] [hPre_finite : Cert.Pre_finite.Facts] : Prop :=
  ∀ (m : (ℓ : Loc Cert.AffKernelIdeal.nD Cert.AffKernelIdeal.τ Cert.AffKernelIdeal.sig) → Buf (Elt Ideal) ℓ) (g : Dev Cert.AffKernelIdeal.nD → PrngReg), Pre_AffKernelIdeal_finite m →
    θ_run (Cert.AffKernelIdeal.defs (F := Ideal)) (onTc (τ := Cert.AffKernelIdeal.τ) (Cert.AffKernelIdeal.main (F := Ideal))) ⟨m, fun _ => 0, g⟩ (fun r => (∀ c : Dev Cert.AffKernelIdeal.nD,
      r.2.mem ((c.tc : Thread Cert.AffKernelIdeal.nD Cert.AffKernelIdeal.τ).loc Cert.AffKernelIdeal.main_arg0) = m ((c.tc : Thread Cert.AffKernelIdeal.nD Cert.AffKernelIdeal.τ).loc Cert.AffKernelIdeal.main_arg0)
      ∧ r.2.mem ((c.tc : Thread Cert.AffKernelIdeal.nD Cert.AffKernelIdeal.τ).loc Cert.AffKernelIdeal.main_arg1) = m ((c.tc : Thread Cert.AffKernelIdeal.nD Cert.AffKernelIdeal.τ).loc Cert.AffKernelIdeal.main_arg1)
      ∧ r.2.mem ((c.tc : Thread Cert.AffKernelIdeal.nD Cert.AffKernelIdeal.τ).loc Cert.AffKernelIdeal.main_arg2) = m ((c.tc : Thread Cert.AffKernelIdeal.nD Cert.AffKernelIdeal.τ).loc Cert.AffKernelIdeal.main_arg2)
      ∧ r.2.mem ((c.tc : Thread Cert.AffKernelIdeal.nD Cert.AffKernelIdeal.τ).loc Cert.AffKernelIdeal.main_arg3) = m ((c.tc : Thread Cert.AffKernelIdeal.nD Cert.AffKernelIdeal.τ).loc Cert.AffKernelIdeal.main_arg3)
      ∧ r.2.mem ((c.tc : Thread Cert.AffKernelIdeal.nD Cert.AffKernelIdeal.τ).loc Cert.AffKernelIdeal.main_arg4) = m ((c.tc : Thread Cert.AffKernelIdeal.nD Cert.AffKernelIdeal.τ).loc Cert.AffKernelIdeal.main_arg4)
      ∧ r.2.mem ((c.tc : Thread Cert.AffKernelIdeal.nD Cert.AffKernelIdeal.τ).loc Cert.AffKernelIdeal.main_arg5) = m ((c.tc : Thread Cert.AffKernelIdeal.nD Cert.AffKernelIdeal.τ).loc Cert.AffKernelIdeal.main_arg5)
      ∧ r.2.mem ((c.tc : Thread Cert.AffKernelIdeal.nD Cert.AffKernelIdeal.τ).loc Cert.AffKernelIdeal.main_arg6) = m ((c.tc : Thread Cert.AffKernelIdeal.nD Cert.AffKernelIdeal.τ).loc Cert.AffKernelIdeal.main_arg6)
      ∧ r.2.mem ((c.tc : Thread Cert.AffKernelIdeal.nD Cert.AffKernelIdeal.τ).loc Cert.AffKernelIdeal.main_arg7) = m ((c.tc : Thread Cert.AffKernelIdeal.nD Cert.AffKernelIdeal.τ).loc Cert.AffKernelIdeal.main_arg7)
      ∧ r.2.mem ((c.tc : Thread Cert.AffKernelIdeal.nD Cert.AffKernelIdeal.τ).loc Cert.AffKernelIdeal.main_arg8) = m ((c.tc : Thread Cert.AffKernelIdeal.nD Cert.AffKernelIdeal.τ).loc Cert.AffKernelIdeal.main_arg8)
      ∧ r.2.mem ((c.tc : Thread Cert.AffKernelIdeal.nD Cert.AffKernelIdeal.τ).loc Cert.AffKernelIdeal.main_arg9) = m ((c.tc : Thread Cert.AffKernelIdeal.nD Cert.AffKernelIdeal.τ).loc Cert.AffKernelIdeal.main_arg9)
      ∧ r.2.mem ((c.tc : Thread Cert.AffKernelIdeal.nD Cert.AffKernelIdeal.τ).loc Cert.AffKernelIdeal.main_arg10) = m ((c.tc : Thread Cert.AffKernelIdeal.nD Cert.AffKernelIdeal.τ).loc Cert.AffKernelIdeal.main_arg10)
      ∧ r.2.mem ((c.tc : Thread Cert.AffKernelIdeal.nD Cert.AffKernelIdeal.τ).loc Cert.AffKernelIdeal.main_arg11) = m ((c.tc : Thread Cert.AffKernelIdeal.nD Cert.AffKernelIdeal.τ).loc Cert.AffKernelIdeal.main_arg11)
      ∧ r.2.mem ((c.tc : Thread Cert.AffKernelIdeal.nD Cert.AffKernelIdeal.τ).loc Cert.AffKernelIdeal.main_arg12) = m ((c.tc : Thread Cert.AffKernelIdeal.nD Cert.AffKernelIdeal.τ).loc Cert.AffKernelIdeal.main_arg12)
      ∧ r.2.mem ((c.tc : Thread Cert.AffKernelIdeal.nD Cert.AffKernelIdeal.τ).loc Cert.AffKernelIdeal.main_arg13) = m ((c.tc : Thread Cert.AffKernelIdeal.nD Cert.AffKernelIdeal.τ).loc Cert.AffKernelIdeal.main_arg13)
      ∧ r.2.mem ((c.tc : Thread Cert.AffKernelIdeal.nD Cert.AffKernelIdeal.τ).loc Cert.AffKernelIdeal.main_arg14) = m ((c.tc : Thread Cert.AffKernelIdeal.nD Cert.AffKernelIdeal.τ).loc Cert.AffKernelIdeal.main_arg14)
      ∧ r.2.mem ((c.tc : Thread Cert.AffKernelIdeal.nD Cert.AffKernelIdeal.τ).loc Cert.AffKernelIdeal.main_arg15) = m ((c.tc : Thread Cert.AffKernelIdeal.nD Cert.AffKernelIdeal.τ).loc Cert.AffKernelIdeal.main_arg15)
      ∧ r.2.mem ((c.tc : Thread Cert.AffKernelIdeal.nD Cert.AffKernelIdeal.τ).loc Cert.AffKernelIdeal.main_arg16) = m ((c.tc : Thread Cert.AffKernelIdeal.nD Cert.AffKernelIdeal.τ).loc Cert.AffKernelIdeal.main_arg16)
      ∧ r.2.mem ((c.tc : Thread Cert.AffKernelIdeal.nD Cert.AffKernelIdeal.τ).loc Cert.AffKernelIdeal.main_arg17) = m ((c.tc : Thread Cert.AffKernelIdeal.nD Cert.AffKernelIdeal.τ).loc Cert.AffKernelIdeal.main_arg17))
      ∧ r.2.sem = fun _ => 0)

def quiescent_AffReferenceIdeal [hAffReferenceIdeal : Cert.AffReferenceIdeal.Facts] : Prop :=
  ∀ (m : (ℓ : Loc Cert.AffReferenceIdeal.nD Cert.AffReferenceIdeal.τ Cert.AffReferenceIdeal.sig) → Buf (Elt Ideal) ℓ) (g : Dev Cert.AffReferenceIdeal.nD → PrngReg), Pre_AffReferenceIdeal m →
    θ_run (Cert.AffReferenceIdeal.defs (F := Ideal)) (onTc (τ := Cert.AffReferenceIdeal.τ) (Cert.AffReferenceIdeal.main (F := Ideal))) ⟨m, fun _ => 0, g⟩ (fun r => (∀ c : Dev Cert.AffReferenceIdeal.nD,
      r.2.mem ((c.tc : Thread Cert.AffReferenceIdeal.nD Cert.AffReferenceIdeal.τ).loc Cert.AffReferenceIdeal.main_arg0) = m ((c.tc : Thread Cert.AffReferenceIdeal.nD Cert.AffReferenceIdeal.τ).loc Cert.AffReferenceIdeal.main_arg0)
      ∧ r.2.mem ((c.tc : Thread Cert.AffReferenceIdeal.nD Cert.AffReferenceIdeal.τ).loc Cert.AffReferenceIdeal.main_arg1) = m ((c.tc : Thread Cert.AffReferenceIdeal.nD Cert.AffReferenceIdeal.τ).loc Cert.AffReferenceIdeal.main_arg1)
      ∧ r.2.mem ((c.tc : Thread Cert.AffReferenceIdeal.nD Cert.AffReferenceIdeal.τ).loc Cert.AffReferenceIdeal.main_arg2) = m ((c.tc : Thread Cert.AffReferenceIdeal.nD Cert.AffReferenceIdeal.τ).loc Cert.AffReferenceIdeal.main_arg2)
      ∧ r.2.mem ((c.tc : Thread Cert.AffReferenceIdeal.nD Cert.AffReferenceIdeal.τ).loc Cert.AffReferenceIdeal.main_arg3) = m ((c.tc : Thread Cert.AffReferenceIdeal.nD Cert.AffReferenceIdeal.τ).loc Cert.AffReferenceIdeal.main_arg3)
      ∧ r.2.mem ((c.tc : Thread Cert.AffReferenceIdeal.nD Cert.AffReferenceIdeal.τ).loc Cert.AffReferenceIdeal.main_arg4) = m ((c.tc : Thread Cert.AffReferenceIdeal.nD Cert.AffReferenceIdeal.τ).loc Cert.AffReferenceIdeal.main_arg4)
      ∧ r.2.mem ((c.tc : Thread Cert.AffReferenceIdeal.nD Cert.AffReferenceIdeal.τ).loc Cert.AffReferenceIdeal.main_arg5) = m ((c.tc : Thread Cert.AffReferenceIdeal.nD Cert.AffReferenceIdeal.τ).loc Cert.AffReferenceIdeal.main_arg5)
      ∧ r.2.mem ((c.tc : Thread Cert.AffReferenceIdeal.nD Cert.AffReferenceIdeal.τ).loc Cert.AffReferenceIdeal.main_arg6) = m ((c.tc : Thread Cert.AffReferenceIdeal.nD Cert.AffReferenceIdeal.τ).loc Cert.AffReferenceIdeal.main_arg6)
      ∧ r.2.mem ((c.tc : Thread Cert.AffReferenceIdeal.nD Cert.AffReferenceIdeal.τ).loc Cert.AffReferenceIdeal.main_arg7) = m ((c.tc : Thread Cert.AffReferenceIdeal.nD Cert.AffReferenceIdeal.τ).loc Cert.AffReferenceIdeal.main_arg7)
      ∧ r.2.mem ((c.tc : Thread Cert.AffReferenceIdeal.nD Cert.AffReferenceIdeal.τ).loc Cert.AffReferenceIdeal.main_arg8) = m ((c.tc : Thread Cert.AffReferenceIdeal.nD Cert.AffReferenceIdeal.τ).loc Cert.AffReferenceIdeal.main_arg8)
      ∧ r.2.mem ((c.tc : Thread Cert.AffReferenceIdeal.nD Cert.AffReferenceIdeal.τ).loc Cert.AffReferenceIdeal.main_arg9) = m ((c.tc : Thread Cert.AffReferenceIdeal.nD Cert.AffReferenceIdeal.τ).loc Cert.AffReferenceIdeal.main_arg9)
      ∧ r.2.mem ((c.tc : Thread Cert.AffReferenceIdeal.nD Cert.AffReferenceIdeal.τ).loc Cert.AffReferenceIdeal.main_arg10) = m ((c.tc : Thread Cert.AffReferenceIdeal.nD Cert.AffReferenceIdeal.τ).loc Cert.AffReferenceIdeal.main_arg10)
      ∧ r.2.mem ((c.tc : Thread Cert.AffReferenceIdeal.nD Cert.AffReferenceIdeal.τ).loc Cert.AffReferenceIdeal.main_arg11) = m ((c.tc : Thread Cert.AffReferenceIdeal.nD Cert.AffReferenceIdeal.τ).loc Cert.AffReferenceIdeal.main_arg11)
      ∧ r.2.mem ((c.tc : Thread Cert.AffReferenceIdeal.nD Cert.AffReferenceIdeal.τ).loc Cert.AffReferenceIdeal.main_arg12) = m ((c.tc : Thread Cert.AffReferenceIdeal.nD Cert.AffReferenceIdeal.τ).loc Cert.AffReferenceIdeal.main_arg12)
      ∧ r.2.mem ((c.tc : Thread Cert.AffReferenceIdeal.nD Cert.AffReferenceIdeal.τ).loc Cert.AffReferenceIdeal.main_arg13) = m ((c.tc : Thread Cert.AffReferenceIdeal.nD Cert.AffReferenceIdeal.τ).loc Cert.AffReferenceIdeal.main_arg13)
      ∧ r.2.mem ((c.tc : Thread Cert.AffReferenceIdeal.nD Cert.AffReferenceIdeal.τ).loc Cert.AffReferenceIdeal.main_arg14) = m ((c.tc : Thread Cert.AffReferenceIdeal.nD Cert.AffReferenceIdeal.τ).loc Cert.AffReferenceIdeal.main_arg14)
      ∧ r.2.mem ((c.tc : Thread Cert.AffReferenceIdeal.nD Cert.AffReferenceIdeal.τ).loc Cert.AffReferenceIdeal.main_arg15) = m ((c.tc : Thread Cert.AffReferenceIdeal.nD Cert.AffReferenceIdeal.τ).loc Cert.AffReferenceIdeal.main_arg15)
      ∧ r.2.mem ((c.tc : Thread Cert.AffReferenceIdeal.nD Cert.AffReferenceIdeal.τ).loc Cert.AffReferenceIdeal.main_arg16) = m ((c.tc : Thread Cert.AffReferenceIdeal.nD Cert.AffReferenceIdeal.τ).loc Cert.AffReferenceIdeal.main_arg16)
      ∧ r.2.mem ((c.tc : Thread Cert.AffReferenceIdeal.nD Cert.AffReferenceIdeal.τ).loc Cert.AffReferenceIdeal.main_arg17) = m ((c.tc : Thread Cert.AffReferenceIdeal.nD Cert.AffReferenceIdeal.τ).loc Cert.AffReferenceIdeal.main_arg17))
      ∧ r.2.sem = fun _ => 0)

def quiescent_AffReferenceIdeal_pre_finite [hAffReferenceIdeal : Cert.AffReferenceIdeal.Facts] [hPre_finite : Cert.Pre_finite.Facts] : Prop :=
  ∀ (m : (ℓ : Loc Cert.AffReferenceIdeal.nD Cert.AffReferenceIdeal.τ Cert.AffReferenceIdeal.sig) → Buf (Elt Ideal) ℓ) (g : Dev Cert.AffReferenceIdeal.nD → PrngReg), Pre_AffReferenceIdeal_finite m →
    θ_run (Cert.AffReferenceIdeal.defs (F := Ideal)) (onTc (τ := Cert.AffReferenceIdeal.τ) (Cert.AffReferenceIdeal.main (F := Ideal))) ⟨m, fun _ => 0, g⟩ (fun r => (∀ c : Dev Cert.AffReferenceIdeal.nD,
      r.2.mem ((c.tc : Thread Cert.AffReferenceIdeal.nD Cert.AffReferenceIdeal.τ).loc Cert.AffReferenceIdeal.main_arg0) = m ((c.tc : Thread Cert.AffReferenceIdeal.nD Cert.AffReferenceIdeal.τ).loc Cert.AffReferenceIdeal.main_arg0)
      ∧ r.2.mem ((c.tc : Thread Cert.AffReferenceIdeal.nD Cert.AffReferenceIdeal.τ).loc Cert.AffReferenceIdeal.main_arg1) = m ((c.tc : Thread Cert.AffReferenceIdeal.nD Cert.AffReferenceIdeal.τ).loc Cert.AffReferenceIdeal.main_arg1)
      ∧ r.2.mem ((c.tc : Thread Cert.AffReferenceIdeal.nD Cert.AffReferenceIdeal.τ).loc Cert.AffReferenceIdeal.main_arg2) = m ((c.tc : Thread Cert.AffReferenceIdeal.nD Cert.AffReferenceIdeal.τ).loc Cert.AffReferenceIdeal.main_arg2)
      ∧ r.2.mem ((c.tc : Thread Cert.AffReferenceIdeal.nD Cert.AffReferenceIdeal.τ).loc Cert.AffReferenceIdeal.main_arg3) = m ((c.tc : Thread Cert.AffReferenceIdeal.nD Cert.AffReferenceIdeal.τ).loc Cert.AffReferenceIdeal.main_arg3)
      ∧ r.2.mem ((c.tc : Thread Cert.AffReferenceIdeal.nD Cert.AffReferenceIdeal.τ).loc Cert.AffReferenceIdeal.main_arg4) = m ((c.tc : Thread Cert.AffReferenceIdeal.nD Cert.AffReferenceIdeal.τ).loc Cert.AffReferenceIdeal.main_arg4)
      ∧ r.2.mem ((c.tc : Thread Cert.AffReferenceIdeal.nD Cert.AffReferenceIdeal.τ).loc Cert.AffReferenceIdeal.main_arg5) = m ((c.tc : Thread Cert.AffReferenceIdeal.nD Cert.AffReferenceIdeal.τ).loc Cert.AffReferenceIdeal.main_arg5)
      ∧ r.2.mem ((c.tc : Thread Cert.AffReferenceIdeal.nD Cert.AffReferenceIdeal.τ).loc Cert.AffReferenceIdeal.main_arg6) = m ((c.tc : Thread Cert.AffReferenceIdeal.nD Cert.AffReferenceIdeal.τ).loc Cert.AffReferenceIdeal.main_arg6)
      ∧ r.2.mem ((c.tc : Thread Cert.AffReferenceIdeal.nD Cert.AffReferenceIdeal.τ).loc Cert.AffReferenceIdeal.main_arg7) = m ((c.tc : Thread Cert.AffReferenceIdeal.nD Cert.AffReferenceIdeal.τ).loc Cert.AffReferenceIdeal.main_arg7)
      ∧ r.2.mem ((c.tc : Thread Cert.AffReferenceIdeal.nD Cert.AffReferenceIdeal.τ).loc Cert.AffReferenceIdeal.main_arg8) = m ((c.tc : Thread Cert.AffReferenceIdeal.nD Cert.AffReferenceIdeal.τ).loc Cert.AffReferenceIdeal.main_arg8)
      ∧ r.2.mem ((c.tc : Thread Cert.AffReferenceIdeal.nD Cert.AffReferenceIdeal.τ).loc Cert.AffReferenceIdeal.main_arg9) = m ((c.tc : Thread Cert.AffReferenceIdeal.nD Cert.AffReferenceIdeal.τ).loc Cert.AffReferenceIdeal.main_arg9)
      ∧ r.2.mem ((c.tc : Thread Cert.AffReferenceIdeal.nD Cert.AffReferenceIdeal.τ).loc Cert.AffReferenceIdeal.main_arg10) = m ((c.tc : Thread Cert.AffReferenceIdeal.nD Cert.AffReferenceIdeal.τ).loc Cert.AffReferenceIdeal.main_arg10)
      ∧ r.2.mem ((c.tc : Thread Cert.AffReferenceIdeal.nD Cert.AffReferenceIdeal.τ).loc Cert.AffReferenceIdeal.main_arg11) = m ((c.tc : Thread Cert.AffReferenceIdeal.nD Cert.AffReferenceIdeal.τ).loc Cert.AffReferenceIdeal.main_arg11)
      ∧ r.2.mem ((c.tc : Thread Cert.AffReferenceIdeal.nD Cert.AffReferenceIdeal.τ).loc Cert.AffReferenceIdeal.main_arg12) = m ((c.tc : Thread Cert.AffReferenceIdeal.nD Cert.AffReferenceIdeal.τ).loc Cert.AffReferenceIdeal.main_arg12)
      ∧ r.2.mem ((c.tc : Thread Cert.AffReferenceIdeal.nD Cert.AffReferenceIdeal.τ).loc Cert.AffReferenceIdeal.main_arg13) = m ((c.tc : Thread Cert.AffReferenceIdeal.nD Cert.AffReferenceIdeal.τ).loc Cert.AffReferenceIdeal.main_arg13)
      ∧ r.2.mem ((c.tc : Thread Cert.AffReferenceIdeal.nD Cert.AffReferenceIdeal.τ).loc Cert.AffReferenceIdeal.main_arg14) = m ((c.tc : Thread Cert.AffReferenceIdeal.nD Cert.AffReferenceIdeal.τ).loc Cert.AffReferenceIdeal.main_arg14)
      ∧ r.2.mem ((c.tc : Thread Cert.AffReferenceIdeal.nD Cert.AffReferenceIdeal.τ).loc Cert.AffReferenceIdeal.main_arg15) = m ((c.tc : Thread Cert.AffReferenceIdeal.nD Cert.AffReferenceIdeal.τ).loc Cert.AffReferenceIdeal.main_arg15)
      ∧ r.2.mem ((c.tc : Thread Cert.AffReferenceIdeal.nD Cert.AffReferenceIdeal.τ).loc Cert.AffReferenceIdeal.main_arg16) = m ((c.tc : Thread Cert.AffReferenceIdeal.nD Cert.AffReferenceIdeal.τ).loc Cert.AffReferenceIdeal.main_arg16)
      ∧ r.2.mem ((c.tc : Thread Cert.AffReferenceIdeal.nD Cert.AffReferenceIdeal.τ).loc Cert.AffReferenceIdeal.main_arg17) = m ((c.tc : Thread Cert.AffReferenceIdeal.nD Cert.AffReferenceIdeal.τ).loc Cert.AffReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_ok : Cert.Pre_idx_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)) →
    ∃ (v0 : (c : Dev Cert.InKernelIdeal.nD) → Buf (Elt Ideal) ((c.tc : Thread Cert.InKernelIdeal.nD Cert.InKernelIdeal.τ).loc Cert.InKernelIdeal.main_v49_0)) (v1 : (c : Dev Cert.InKernelIdeal.nD) → Buf (Elt Ideal) ((c.tc : Thread Cert.InKernelIdeal.nD Cert.InKernelIdeal.τ).loc Cert.InKernelIdeal.main_v49_1)) (v2 : (c : Dev Cert.InKernelIdeal.nD) → Buf (Elt Ideal) ((c.tc : Thread Cert.InKernelIdeal.nD Cert.InKernelIdeal.τ).loc Cert.InKernelIdeal.main_v49_2)) (v3 : (c : Dev Cert.InKernelIdeal.nD) → Buf (Elt Ideal) ((c.tc : Thread Cert.InKernelIdeal.nD Cert.InKernelIdeal.τ).loc Cert.InKernelIdeal.main_v49_3)) (v4 : (c : Dev Cert.InKernelIdeal.nD) → Buf (Elt Ideal) ((c.tc : Thread Cert.InKernelIdeal.nD Cert.InKernelIdeal.τ).loc Cert.InKernelIdeal.main_v49_4)) (v5 : (c : Dev Cert.InKernelIdeal.nD) → Buf (Elt Ideal) ((c.tc : Thread Cert.InKernelIdeal.nD Cert.InKernelIdeal.τ).loc Cert.InKernelIdeal.main_v49_5)) (v6 : (c : Dev Cert.InKernelIdeal.nD) → Buf (Elt Ideal) ((c.tc : Thread Cert.InKernelIdeal.nD Cert.InKernelIdeal.τ).loc Cert.InKernelIdeal.main_v49_6)) (v7 : (c : Dev Cert.InKernelIdeal.nD) → Buf (Elt Ideal) ((c.tc : Thread Cert.InKernelIdeal.nD Cert.InKernelIdeal.τ).loc Cert.InKernelIdeal.main_v49_7)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v49_0) = v0 c
          ∧ r.2.mem ((c.tc : Thread Cert.InKernelIdeal.nD Cert.InKernelIdeal.τ).loc Cert.InKernelIdeal.main_v49_1) = v1 c
          ∧ r.2.mem ((c.tc : Thread Cert.InKernelIdeal.nD Cert.InKernelIdeal.τ).loc Cert.InKernelIdeal.main_v49_2) = v2 c
          ∧ r.2.mem ((c.tc : Thread Cert.InKernelIdeal.nD Cert.InKernelIdeal.τ).loc Cert.InKernelIdeal.main_v49_3) = v3 c
          ∧ r.2.mem ((c.tc : Thread Cert.InKernelIdeal.nD Cert.InKernelIdeal.τ).loc Cert.InKernelIdeal.main_v49_4) = v4 c
          ∧ r.2.mem ((c.tc : Thread Cert.InKernelIdeal.nD Cert.InKernelIdeal.τ).loc Cert.InKernelIdeal.main_v49_5) = v5 c
          ∧ r.2.mem ((c.tc : Thread Cert.InKernelIdeal.nD Cert.InKernelIdeal.τ).loc Cert.InKernelIdeal.main_v49_6) = v6 c
          ∧ r.2.mem ((c.tc : Thread Cert.InKernelIdeal.nD Cert.InKernelIdeal.τ).loc Cert.InKernelIdeal.main_v49_7) = v7 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v88) = v0 c
          ∧ r.2.mem ((c.tc : Thread Cert.InReferenceIdeal.nD Cert.InReferenceIdeal.τ).loc Cert.InReferenceIdeal.main_v89) = v1 c
          ∧ r.2.mem ((c.tc : Thread Cert.InReferenceIdeal.nD Cert.InReferenceIdeal.τ).loc Cert.InReferenceIdeal.main_v91) = v2 c
          ∧ r.2.mem ((c.tc : Thread Cert.InReferenceIdeal.nD Cert.InReferenceIdeal.τ).loc Cert.InReferenceIdeal.main_v92) = v3 c
          ∧ r.2.mem ((c.tc : Thread Cert.InReferenceIdeal.nD Cert.InReferenceIdeal.τ).loc Cert.InReferenceIdeal.main_v93) = v4 c
          ∧ r.2.mem ((c.tc : Thread Cert.InReferenceIdeal.nD Cert.InReferenceIdeal.τ).loc Cert.InReferenceIdeal.main_v94) = v5 c
          ∧ r.2.mem ((c.tc : Thread Cert.InReferenceIdeal.nD Cert.InReferenceIdeal.τ).loc Cert.InReferenceIdeal.main_v75) = v6 c
          ∧ r.2.mem ((c.tc : Thread Cert.InReferenceIdeal.nD Cert.InReferenceIdeal.τ).loc Cert.InReferenceIdeal.main_v95) = v7 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)
      ∧ m' ((c.tc : Thread Cert.MixReferenceIdeal.nD Cert.MixReferenceIdeal.τ).loc Cert.MixReferenceIdeal.main_arg14) = m ((c.tc : Thread Cert.MixKernelIdeal.nD Cert.MixKernelIdeal.τ).loc Cert.MixKernelIdeal.main_arg14)
      ∧ m' ((c.tc : Thread Cert.MixReferenceIdeal.nD Cert.MixReferenceIdeal.τ).loc Cert.MixReferenceIdeal.main_arg15) = m ((c.tc : Thread Cert.MixKernelIdeal.nD Cert.MixKernelIdeal.τ).loc Cert.MixKernelIdeal.main_arg15)
      ∧ m' ((c.tc : Thread Cert.MixReferenceIdeal.nD Cert.MixReferenceIdeal.τ).loc Cert.MixReferenceIdeal.main_arg16) = m ((c.tc : Thread Cert.MixKernelIdeal.nD Cert.MixKernelIdeal.τ).loc Cert.MixKernelIdeal.main_arg16)
      ∧ m' ((c.tc : Thread Cert.MixReferenceIdeal.nD Cert.MixReferenceIdeal.τ).loc Cert.MixReferenceIdeal.main_arg17) = m ((c.tc : Thread Cert.MixKernelIdeal.nD Cert.MixKernelIdeal.τ).loc Cert.MixKernelIdeal.main_arg17)) →
    ∃ (v0 : (c : Dev Cert.MixKernelIdeal.nD) → Buf (Elt Ideal) ((c.tc : Thread Cert.MixKernelIdeal.nD Cert.MixKernelIdeal.τ).loc Cert.MixKernelIdeal.main_v18_0)) (v1 : (c : Dev Cert.MixKernelIdeal.nD) → Buf (Elt Ideal) ((c.tc : Thread Cert.MixKernelIdeal.nD Cert.MixKernelIdeal.τ).loc Cert.MixKernelIdeal.main_v18_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v18_0) = v0 c
          ∧ r.2.mem ((c.tc : Thread Cert.MixKernelIdeal.nD Cert.MixKernelIdeal.τ).loc Cert.MixKernelIdeal.main_v18_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
          ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14)
          ∧ r.2.mem ((c.tc : Thread Cert.MixKernelIdeal.nD Cert.MixKernelIdeal.τ).loc Cert.MixKernelIdeal.main_arg15) = m ((c.tc : Thread Cert.MixKernelIdeal.nD Cert.MixKernelIdeal.τ).loc Cert.MixKernelIdeal.main_arg15)
          ∧ r.2.mem ((c.tc : Thread Cert.MixKernelIdeal.nD Cert.MixKernelIdeal.τ).loc Cert.MixKernelIdeal.main_arg16) = m ((c.tc : Thread Cert.MixKernelIdeal.nD Cert.MixKernelIdeal.τ).loc Cert.MixKernelIdeal.main_arg16)
          ∧ r.2.mem ((c.tc : Thread Cert.MixKernelIdeal.nD Cert.MixKernelIdeal.τ).loc Cert.MixKernelIdeal.main_arg17) = m ((c.tc : Thread Cert.MixKernelIdeal.nD Cert.MixKernelIdeal.τ).loc Cert.MixKernelIdeal.main_arg17))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v60) = v0 c
          ∧ r.2.mem ((c.tc : Thread Cert.MixReferenceIdeal.nD Cert.MixReferenceIdeal.τ).loc Cert.MixReferenceIdeal.main_v81) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16)
          ∧ r.2.mem ((c.tc : Thread Cert.MixReferenceIdeal.nD Cert.MixReferenceIdeal.τ).loc Cert.MixReferenceIdeal.main_arg17) = m' ((c.tc : Thread Cert.MixReferenceIdeal.nD Cert.MixReferenceIdeal.τ).loc Cert.MixReferenceIdeal.main_arg17))

def preserves_CtxKernel_CtxKernelIdeal : Prop :=
  True

def algebraic_CtxKernelIdeal_CtxReferenceIdeal [hCtxKernelIdeal : Cert.CtxKernelIdeal.Facts] [hCtxReferenceIdeal : Cert.CtxReferenceIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)
      ∧ m' ((c.tc : Thread Cert.CtxReferenceIdeal.nD Cert.CtxReferenceIdeal.τ).loc Cert.CtxReferenceIdeal.main_arg4) = m ((c.tc : Thread Cert.CtxKernelIdeal.nD Cert.CtxKernelIdeal.τ).loc Cert.CtxKernelIdeal.main_arg4)
      ∧ m' ((c.tc : Thread Cert.CtxReferenceIdeal.nD Cert.CtxReferenceIdeal.τ).loc Cert.CtxReferenceIdeal.main_arg5) = m ((c.tc : Thread Cert.CtxKernelIdeal.nD Cert.CtxKernelIdeal.τ).loc Cert.CtxKernelIdeal.main_arg5)
      ∧ m' ((c.tc : Thread Cert.CtxReferenceIdeal.nD Cert.CtxReferenceIdeal.τ).loc Cert.CtxReferenceIdeal.main_arg6) = m ((c.tc : Thread Cert.CtxKernelIdeal.nD Cert.CtxKernelIdeal.τ).loc Cert.CtxKernelIdeal.main_arg6)) →
    ∃ (v0 : (c : Dev Cert.CtxKernelIdeal.nD) → Buf (Elt Ideal) ((c.tc : Thread Cert.CtxKernelIdeal.nD Cert.CtxKernelIdeal.τ).loc Cert.CtxKernelIdeal.main_v47_0)) (v1 : (c : Dev Cert.CtxKernelIdeal.nD) → Buf (Elt Ideal) ((c.tc : Thread Cert.CtxKernelIdeal.nD Cert.CtxKernelIdeal.τ).loc Cert.CtxKernelIdeal.main_v47_1)) (v2 : (c : Dev Cert.CtxKernelIdeal.nD) → Buf (Elt Ideal) ((c.tc : Thread Cert.CtxKernelIdeal.nD Cert.CtxKernelIdeal.τ).loc Cert.CtxKernelIdeal.main_v47_2)) (v3 : (c : Dev Cert.CtxKernelIdeal.nD) → Buf (Elt Ideal) ((c.tc : Thread Cert.CtxKernelIdeal.nD Cert.CtxKernelIdeal.τ).loc Cert.CtxKernelIdeal.main_v47_3)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v47_0) = v0 c
          ∧ r.2.mem ((c.tc : Thread Cert.CtxKernelIdeal.nD Cert.CtxKernelIdeal.τ).loc Cert.CtxKernelIdeal.main_v47_1) = v1 c
          ∧ r.2.mem ((c.tc : Thread Cert.CtxKernelIdeal.nD Cert.CtxKernelIdeal.τ).loc Cert.CtxKernelIdeal.main_v47_2) = v2 c
          ∧ r.2.mem ((c.tc : Thread Cert.CtxKernelIdeal.nD Cert.CtxKernelIdeal.τ).loc Cert.CtxKernelIdeal.main_v47_3) = v3 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3)
          ∧ r.2.mem ((c.tc : Thread Cert.CtxKernelIdeal.nD Cert.CtxKernelIdeal.τ).loc Cert.CtxKernelIdeal.main_arg4) = m ((c.tc : Thread Cert.CtxKernelIdeal.nD Cert.CtxKernelIdeal.τ).loc Cert.CtxKernelIdeal.main_arg4)
          ∧ r.2.mem ((c.tc : Thread Cert.CtxKernelIdeal.nD Cert.CtxKernelIdeal.τ).loc Cert.CtxKernelIdeal.main_arg5) = m ((c.tc : Thread Cert.CtxKernelIdeal.nD Cert.CtxKernelIdeal.τ).loc Cert.CtxKernelIdeal.main_arg5)
          ∧ r.2.mem ((c.tc : Thread Cert.CtxKernelIdeal.nD Cert.CtxKernelIdeal.τ).loc Cert.CtxKernelIdeal.main_arg6) = m ((c.tc : Thread Cert.CtxKernelIdeal.nD Cert.CtxKernelIdeal.τ).loc Cert.CtxKernelIdeal.main_arg6))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v76) = v0 c
          ∧ r.2.mem ((c.tc : Thread Cert.CtxReferenceIdeal.nD Cert.CtxReferenceIdeal.τ).loc Cert.CtxReferenceIdeal.main_v77) = v1 c
          ∧ r.2.mem ((c.tc : Thread Cert.CtxReferenceIdeal.nD Cert.CtxReferenceIdeal.τ).loc Cert.CtxReferenceIdeal.main_v78) = v2 c
          ∧ r.2.mem ((c.tc : Thread Cert.CtxReferenceIdeal.nD Cert.CtxReferenceIdeal.τ).loc Cert.CtxReferenceIdeal.main_v75) = v3 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5)
          ∧ r.2.mem ((c.tc : Thread Cert.CtxReferenceIdeal.nD Cert.CtxReferenceIdeal.τ).loc Cert.CtxReferenceIdeal.main_arg6) = m' ((c.tc : Thread Cert.CtxReferenceIdeal.nD Cert.CtxReferenceIdeal.τ).loc Cert.CtxReferenceIdeal.main_arg6))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v8)) (v1 : (c : Dev Cert.ModKernelIdeal.nD) → Buf (Elt Ideal) ((c.tc : Thread Cert.ModKernelIdeal.nD Cert.ModKernelIdeal.τ).loc Cert.ModKernelIdeal.main_v10)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v8) = v0 c
          ∧ r.2.mem ((c.tc : Thread Cert.ModKernelIdeal.nD Cert.ModKernelIdeal.τ).loc Cert.ModKernelIdeal.main_v10) = v1 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_v12) = v1 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_AffKernel_AffKernelIdeal : Prop :=
  IdealRules.named_const.Statement Cert.AffKernelIdeal.κ "mask" .f32 0xF149F2CA#32 ⊥

def algebraic_AffKernelIdeal_AffReferenceIdeal_pre_finite [hAffKernelIdeal : Cert.AffKernelIdeal.Facts] [hAffReferenceIdeal : Cert.AffReferenceIdeal.Facts] [hPre_finite : Cert.Pre_finite.Facts] : Prop :=
  ∀ (m : (ℓ : Loc Cert.AffKernelIdeal.nD Cert.AffKernelIdeal.τ Cert.AffKernelIdeal.sig) → Buf (Elt Ideal) ℓ) (g : Dev Cert.AffKernelIdeal.nD → PrngReg)
    (m' : (ℓ : Loc Cert.AffReferenceIdeal.nD Cert.AffReferenceIdeal.τ Cert.AffReferenceIdeal.sig) → Buf (Elt Ideal) ℓ) (g' : Dev Cert.AffReferenceIdeal.nD → PrngReg), Pre_AffKernelIdeal_finite m →
    (∀ c : Dev Cert.AffKernelIdeal.nD,
      m' ((c.tc : Thread Cert.AffReferenceIdeal.nD Cert.AffReferenceIdeal.τ).loc Cert.AffReferenceIdeal.main_arg0) = m ((c.tc : Thread Cert.AffKernelIdeal.nD Cert.AffKernelIdeal.τ).loc Cert.AffKernelIdeal.main_arg0)
      ∧ m' ((c.tc : Thread Cert.AffReferenceIdeal.nD Cert.AffReferenceIdeal.τ).loc Cert.AffReferenceIdeal.main_arg1) = m ((c.tc : Thread Cert.AffKernelIdeal.nD Cert.AffKernelIdeal.τ).loc Cert.AffKernelIdeal.main_arg1)
      ∧ m' ((c.tc : Thread Cert.AffReferenceIdeal.nD Cert.AffReferenceIdeal.τ).loc Cert.AffReferenceIdeal.main_arg2) = m ((c.tc : Thread Cert.AffKernelIdeal.nD Cert.AffKernelIdeal.τ).loc Cert.AffKernelIdeal.main_arg2)
      ∧ m' ((c.tc : Thread Cert.AffReferenceIdeal.nD Cert.AffReferenceIdeal.τ).loc Cert.AffReferenceIdeal.main_arg3) = m ((c.tc : Thread Cert.AffKernelIdeal.nD Cert.AffKernelIdeal.τ).loc Cert.AffKernelIdeal.main_arg3)
      ∧ m' ((c.tc : Thread Cert.AffReferenceIdeal.nD Cert.AffReferenceIdeal.τ).loc Cert.AffReferenceIdeal.main_arg4) = m ((c.tc : Thread Cert.AffKernelIdeal.nD Cert.AffKernelIdeal.τ).loc Cert.AffKernelIdeal.main_arg4)
      ∧ m' ((c.tc : Thread Cert.AffReferenceIdeal.nD Cert.AffReferenceIdeal.τ).loc Cert.AffReferenceIdeal.main_arg5) = m ((c.tc : Thread Cert.AffKernelIdeal.nD Cert.AffKernelIdeal.τ).loc Cert.AffKernelIdeal.main_arg5)
      ∧ m' ((c.tc : Thread Cert.AffReferenceIdeal.nD Cert.AffReferenceIdeal.τ).loc Cert.AffReferenceIdeal.main_arg6) = m ((c.tc : Thread Cert.AffKernelIdeal.nD Cert.AffKernelIdeal.τ).loc Cert.AffKernelIdeal.main_arg6)
      ∧ m' ((c.tc : Thread Cert.AffReferenceIdeal.nD Cert.AffReferenceIdeal.τ).loc Cert.AffReferenceIdeal.main_arg7) = m ((c.tc : Thread Cert.AffKernelIdeal.nD Cert.AffKernelIdeal.τ).loc Cert.AffKernelIdeal.main_arg7)
      ∧ m' ((c.tc : Thread Cert.AffReferenceIdeal.nD Cert.AffReferenceIdeal.τ).loc Cert.AffReferenceIdeal.main_arg8) = m ((c.tc : Thread Cert.AffKernelIdeal.nD Cert.AffKernelIdeal.τ).loc Cert.AffKernelIdeal.main_arg8)
      ∧ m' ((c.tc : Thread Cert.AffReferenceIdeal.nD Cert.AffReferenceIdeal.τ).loc Cert.AffReferenceIdeal.main_arg9) = m ((c.tc : Thread Cert.AffKernelIdeal.nD Cert.AffKernelIdeal.τ).loc Cert.AffKernelIdeal.main_arg9)
      ∧ m' ((c.tc : Thread Cert.AffReferenceIdeal.nD Cert.AffReferenceIdeal.τ).loc Cert.AffReferenceIdeal.main_arg10) = m ((c.tc : Thread Cert.AffKernelIdeal.nD Cert.AffKernelIdeal.τ).loc Cert.AffKernelIdeal.main_arg10)
      ∧ m' ((c.tc : Thread Cert.AffReferenceIdeal.nD Cert.AffReferenceIdeal.τ).loc Cert.AffReferenceIdeal.main_arg11) = m ((c.tc : Thread Cert.AffKernelIdeal.nD Cert.AffKernelIdeal.τ).loc Cert.AffKernelIdeal.main_arg11)
      ∧ m' ((c.tc : Thread Cert.AffReferenceIdeal.nD Cert.AffReferenceIdeal.τ).loc Cert.AffReferenceIdeal.main_arg12) = m ((c.tc : Thread Cert.AffKernelIdeal.nD Cert.AffKernelIdeal.τ).loc Cert.AffKernelIdeal.main_arg12)
      ∧ m' ((c.tc : Thread Cert.AffReferenceIdeal.nD Cert.AffReferenceIdeal.τ).loc Cert.AffReferenceIdeal.main_arg13) = m ((c.tc : Thread Cert.AffKernelIdeal.nD Cert.AffKernelIdeal.τ).loc Cert.AffKernelIdeal.main_arg13)
      ∧ m' ((c.tc : Thread Cert.AffReferenceIdeal.nD Cert.AffReferenceIdeal.τ).loc Cert.AffReferenceIdeal.main_arg14) = m ((c.tc : Thread Cert.AffKernelIdeal.nD Cert.AffKernelIdeal.τ).loc Cert.AffKernelIdeal.main_arg14)
      ∧ m' ((c.tc : Thread Cert.AffReferenceIdeal.nD Cert.AffReferenceIdeal.τ).loc Cert.AffReferenceIdeal.main_arg15) = m ((c.tc : Thread Cert.AffKernelIdeal.nD Cert.AffKernelIdeal.τ).loc Cert.AffKernelIdeal.main_arg15)
      ∧ m' ((c.tc : Thread Cert.AffReferenceIdeal.nD Cert.AffReferenceIdeal.τ).loc Cert.AffReferenceIdeal.main_arg16) = m ((c.tc : Thread Cert.AffKernelIdeal.nD Cert.AffKernelIdeal.τ).loc Cert.AffKernelIdeal.main_arg16)
      ∧ m' ((c.tc : Thread Cert.AffReferenceIdeal.nD Cert.AffReferenceIdeal.τ).loc Cert.AffReferenceIdeal.main_arg17) = m ((c.tc : Thread Cert.AffKernelIdeal.nD Cert.AffKernelIdeal.τ).loc Cert.AffKernelIdeal.main_arg17)) →
    ∃ (v0 : (c : Dev Cert.AffKernelIdeal.nD) → Buf (Elt Ideal) ((c.tc : Thread Cert.AffKernelIdeal.nD Cert.AffKernelIdeal.τ).loc Cert.AffKernelIdeal.main_v18_2)),
      θ_run (Cert.AffKernelIdeal.defs (F := Ideal)) (onTc (τ := Cert.AffKernelIdeal.τ) (Cert.AffKernelIdeal.main (F := Ideal))) ⟨m, fun _ => 0, g⟩ (fun r => ∀ c : Dev Cert.AffKernelIdeal.nD,
          r.2.mem ((c.tc : Thread Cert.AffKernelIdeal.nD Cert.AffKernelIdeal.τ).loc Cert.AffKernelIdeal.main_v18_2) = v0 c
          ∧ r.2.mem ((c.tc : Thread Cert.AffKernelIdeal.nD Cert.AffKernelIdeal.τ).loc Cert.AffKernelIdeal.main_arg0) = m ((c.tc : Thread Cert.AffKernelIdeal.nD Cert.AffKernelIdeal.τ).loc Cert.AffKernelIdeal.main_arg0)
          ∧ r.2.mem ((c.tc : Thread Cert.AffKernelIdeal.nD Cert.AffKernelIdeal.τ).loc Cert.AffKernelIdeal.main_arg1) = m ((c.tc : Thread Cert.AffKernelIdeal.nD Cert.AffKernelIdeal.τ).loc Cert.AffKernelIdeal.main_arg1)
          ∧ r.2.mem ((c.tc : Thread Cert.AffKernelIdeal.nD Cert.AffKernelIdeal.τ).loc Cert.AffKernelIdeal.main_arg2) = m ((c.tc : Thread Cert.AffKernelIdeal.nD Cert.AffKernelIdeal.τ).loc Cert.AffKernelIdeal.main_arg2)
          ∧ r.2.mem ((c.tc : Thread Cert.AffKernelIdeal.nD Cert.AffKernelIdeal.τ).loc Cert.AffKernelIdeal.main_arg3) = m ((c.tc : Thread Cert.AffKernelIdeal.nD Cert.AffKernelIdeal.τ).loc Cert.AffKernelIdeal.main_arg3)
          ∧ r.2.mem ((c.tc : Thread Cert.AffKernelIdeal.nD Cert.AffKernelIdeal.τ).loc Cert.AffKernelIdeal.main_arg4) = m ((c.tc : Thread Cert.AffKernelIdeal.nD Cert.AffKernelIdeal.τ).loc Cert.AffKernelIdeal.main_arg4)
          ∧ r.2.mem ((c.tc : Thread Cert.AffKernelIdeal.nD Cert.AffKernelIdeal.τ).loc Cert.AffKernelIdeal.main_arg5) = m ((c.tc : Thread Cert.AffKernelIdeal.nD Cert.AffKernelIdeal.τ).loc Cert.AffKernelIdeal.main_arg5)
          ∧ r.2.mem ((c.tc : Thread Cert.AffKernelIdeal.nD Cert.AffKernelIdeal.τ).loc Cert.AffKernelIdeal.main_arg6) = m ((c.tc : Thread Cert.AffKernelIdeal.nD Cert.AffKernelIdeal.τ).loc Cert.AffKernelIdeal.main_arg6)
          ∧ r.2.mem ((c.tc : Thread Cert.AffKernelIdeal.nD Cert.AffKernelIdeal.τ).loc Cert.AffKernelIdeal.main_arg7) = m ((c.tc : Thread Cert.AffKernelIdeal.nD Cert.AffKernelIdeal.τ).loc Cert.AffKernelIdeal.main_arg7)
          ∧ r.2.mem ((c.tc : Thread Cert.AffKernelIdeal.nD Cert.AffKernelIdeal.τ).loc Cert.AffKernelIdeal.main_arg8) = m ((c.tc : Thread Cert.AffKernelIdeal.nD Cert.AffKernelIdeal.τ).loc Cert.AffKernelIdeal.main_arg8)
          ∧ r.2.mem ((c.tc : Thread Cert.AffKernelIdeal.nD Cert.AffKernelIdeal.τ).loc Cert.AffKernelIdeal.main_arg9) = m ((c.tc : Thread Cert.AffKernelIdeal.nD Cert.AffKernelIdeal.τ).loc Cert.AffKernelIdeal.main_arg9)
          ∧ r.2.mem ((c.tc : Thread Cert.AffKernelIdeal.nD Cert.AffKernelIdeal.τ).loc Cert.AffKernelIdeal.main_arg10) = m ((c.tc : Thread Cert.AffKernelIdeal.nD Cert.AffKernelIdeal.τ).loc Cert.AffKernelIdeal.main_arg10)
          ∧ r.2.mem ((c.tc : Thread Cert.AffKernelIdeal.nD Cert.AffKernelIdeal.τ).loc Cert.AffKernelIdeal.main_arg11) = m ((c.tc : Thread Cert.AffKernelIdeal.nD Cert.AffKernelIdeal.τ).loc Cert.AffKernelIdeal.main_arg11)
          ∧ r.2.mem ((c.tc : Thread Cert.AffKernelIdeal.nD Cert.AffKernelIdeal.τ).loc Cert.AffKernelIdeal.main_arg12) = m ((c.tc : Thread Cert.AffKernelIdeal.nD Cert.AffKernelIdeal.τ).loc Cert.AffKernelIdeal.main_arg12)
          ∧ r.2.mem ((c.tc : Thread Cert.AffKernelIdeal.nD Cert.AffKernelIdeal.τ).loc Cert.AffKernelIdeal.main_arg13) = m ((c.tc : Thread Cert.AffKernelIdeal.nD Cert.AffKernelIdeal.τ).loc Cert.AffKernelIdeal.main_arg13)
          ∧ r.2.mem ((c.tc : Thread Cert.AffKernelIdeal.nD Cert.AffKernelIdeal.τ).loc Cert.AffKernelIdeal.main_arg14) = m ((c.tc : Thread Cert.AffKernelIdeal.nD Cert.AffKernelIdeal.τ).loc Cert.AffKernelIdeal.main_arg14)
          ∧ r.2.mem ((c.tc : Thread Cert.AffKernelIdeal.nD Cert.AffKernelIdeal.τ).loc Cert.AffKernelIdeal.main_arg15) = m ((c.tc : Thread Cert.AffKernelIdeal.nD Cert.AffKernelIdeal.τ).loc Cert.AffKernelIdeal.main_arg15)
          ∧ r.2.mem ((c.tc : Thread Cert.AffKernelIdeal.nD Cert.AffKernelIdeal.τ).loc Cert.AffKernelIdeal.main_arg16) = m ((c.tc : Thread Cert.AffKernelIdeal.nD Cert.AffKernelIdeal.τ).loc Cert.AffKernelIdeal.main_arg16)
          ∧ r.2.mem ((c.tc : Thread Cert.AffKernelIdeal.nD Cert.AffKernelIdeal.τ).loc Cert.AffKernelIdeal.main_arg17) = m ((c.tc : Thread Cert.AffKernelIdeal.nD Cert.AffKernelIdeal.τ).loc Cert.AffKernelIdeal.main_arg17))
      ∧ θ_run (Cert.AffReferenceIdeal.defs (F := Ideal)) (onTc (τ := Cert.AffReferenceIdeal.τ) (Cert.AffReferenceIdeal.main (F := Ideal))) ⟨m', fun _ => 0, g'⟩ (fun r => ∀ c : Dev Cert.AffReferenceIdeal.nD,
          r.2.mem ((c.tc : Thread Cert.AffReferenceIdeal.nD Cert.AffReferenceIdeal.τ).loc Cert.AffReferenceIdeal.main_v94) = v0 c
          ∧ r.2.mem ((c.tc : Thread Cert.AffReferenceIdeal.nD Cert.AffReferenceIdeal.τ).loc Cert.AffReferenceIdeal.main_arg0) = m' ((c.tc : Thread Cert.AffReferenceIdeal.nD Cert.AffReferenceIdeal.τ).loc Cert.AffReferenceIdeal.main_arg0)
          ∧ r.2.mem ((c.tc : Thread Cert.AffReferenceIdeal.nD Cert.AffReferenceIdeal.τ).loc Cert.AffReferenceIdeal.main_arg1) = m' ((c.tc : Thread Cert.AffReferenceIdeal.nD Cert.AffReferenceIdeal.τ).loc Cert.AffReferenceIdeal.main_arg1)
          ∧ r.2.mem ((c.tc : Thread Cert.AffReferenceIdeal.nD Cert.AffReferenceIdeal.τ).loc Cert.AffReferenceIdeal.main_arg2) = m' ((c.tc : Thread Cert.AffReferenceIdeal.nD Cert.AffReferenceIdeal.τ).loc Cert.AffReferenceIdeal.main_arg2)
          ∧ r.2.mem ((c.tc : Thread Cert.AffReferenceIdeal.nD Cert.AffReferenceIdeal.τ).loc Cert.AffReferenceIdeal.main_arg3) = m' ((c.tc : Thread Cert.AffReferenceIdeal.nD Cert.AffReferenceIdeal.τ).loc Cert.AffReferenceIdeal.main_arg3)
          ∧ r.2.mem ((c.tc : Thread Cert.AffReferenceIdeal.nD Cert.AffReferenceIdeal.τ).loc Cert.AffReferenceIdeal.main_arg4) = m' ((c.tc : Thread Cert.AffReferenceIdeal.nD Cert.AffReferenceIdeal.τ).loc Cert.AffReferenceIdeal.main_arg4)
          ∧ r.2.mem ((c.tc : Thread Cert.AffReferenceIdeal.nD Cert.AffReferenceIdeal.τ).loc Cert.AffReferenceIdeal.main_arg5) = m' ((c.tc : Thread Cert.AffReferenceIdeal.nD Cert.AffReferenceIdeal.τ).loc Cert.AffReferenceIdeal.main_arg5)
          ∧ r.2.mem ((c.tc : Thread Cert.AffReferenceIdeal.nD Cert.AffReferenceIdeal.τ).loc Cert.AffReferenceIdeal.main_arg6) = m' ((c.tc : Thread Cert.AffReferenceIdeal.nD Cert.AffReferenceIdeal.τ).loc Cert.AffReferenceIdeal.main_arg6)
          ∧ r.2.mem ((c.tc : Thread Cert.AffReferenceIdeal.nD Cert.AffReferenceIdeal.τ).loc Cert.AffReferenceIdeal.main_arg7) = m' ((c.tc : Thread Cert.AffReferenceIdeal.nD Cert.AffReferenceIdeal.τ).loc Cert.AffReferenceIdeal.main_arg7)
          ∧ r.2.mem ((c.tc : Thread Cert.AffReferenceIdeal.nD Cert.AffReferenceIdeal.τ).loc Cert.AffReferenceIdeal.main_arg8) = m' ((c.tc : Thread Cert.AffReferenceIdeal.nD Cert.AffReferenceIdeal.τ).loc Cert.AffReferenceIdeal.main_arg8)
          ∧ r.2.mem ((c.tc : Thread Cert.AffReferenceIdeal.nD Cert.AffReferenceIdeal.τ).loc Cert.AffReferenceIdeal.main_arg9) = m' ((c.tc : Thread Cert.AffReferenceIdeal.nD Cert.AffReferenceIdeal.τ).loc Cert.AffReferenceIdeal.main_arg9)
          ∧ r.2.mem ((c.tc : Thread Cert.AffReferenceIdeal.nD Cert.AffReferenceIdeal.τ).loc Cert.AffReferenceIdeal.main_arg10) = m' ((c.tc : Thread Cert.AffReferenceIdeal.nD Cert.AffReferenceIdeal.τ).loc Cert.AffReferenceIdeal.main_arg10)
          ∧ r.2.mem ((c.tc : Thread Cert.AffReferenceIdeal.nD Cert.AffReferenceIdeal.τ).loc Cert.AffReferenceIdeal.main_arg11) = m' ((c.tc : Thread Cert.AffReferenceIdeal.nD Cert.AffReferenceIdeal.τ).loc Cert.AffReferenceIdeal.main_arg11)
          ∧ r.2.mem ((c.tc : Thread Cert.AffReferenceIdeal.nD Cert.AffReferenceIdeal.τ).loc Cert.AffReferenceIdeal.main_arg12) = m' ((c.tc : Thread Cert.AffReferenceIdeal.nD Cert.AffReferenceIdeal.τ).loc Cert.AffReferenceIdeal.main_arg12)
          ∧ r.2.mem ((c.tc : Thread Cert.AffReferenceIdeal.nD Cert.AffReferenceIdeal.τ).loc Cert.AffReferenceIdeal.main_arg13) = m' ((c.tc : Thread Cert.AffReferenceIdeal.nD Cert.AffReferenceIdeal.τ).loc Cert.AffReferenceIdeal.main_arg13)
          ∧ r.2.mem ((c.tc : Thread Cert.AffReferenceIdeal.nD Cert.AffReferenceIdeal.τ).loc Cert.AffReferenceIdeal.main_arg14) = m' ((c.tc : Thread Cert.AffReferenceIdeal.nD Cert.AffReferenceIdeal.τ).loc Cert.AffReferenceIdeal.main_arg14)
          ∧ r.2.mem ((c.tc : Thread Cert.AffReferenceIdeal.nD Cert.AffReferenceIdeal.τ).loc Cert.AffReferenceIdeal.main_arg15) = m' ((c.tc : Thread Cert.AffReferenceIdeal.nD Cert.AffReferenceIdeal.τ).loc Cert.AffReferenceIdeal.main_arg15)
          ∧ r.2.mem ((c.tc : Thread Cert.AffReferenceIdeal.nD Cert.AffReferenceIdeal.τ).loc Cert.AffReferenceIdeal.main_arg16) = m' ((c.tc : Thread Cert.AffReferenceIdeal.nD Cert.AffReferenceIdeal.τ).loc Cert.AffReferenceIdeal.main_arg16)
          ∧ r.2.mem ((c.tc : Thread Cert.AffReferenceIdeal.nD Cert.AffReferenceIdeal.τ).loc Cert.AffReferenceIdeal.main_arg17) = m' ((c.tc : Thread Cert.AffReferenceIdeal.nD Cert.AffReferenceIdeal.τ).loc Cert.AffReferenceIdeal.main_arg17))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hMixKernel : Cert.MixKernel.Facts) (hMixKernelIdeal : Cert.MixKernelIdeal.Facts) (hMixReferenceIdeal : Cert.MixReferenceIdeal.Facts) (hCtxKernel : Cert.CtxKernel.Facts) (hCtxKernelIdeal : Cert.CtxKernelIdeal.Facts) (hCtxReferenceIdeal : Cert.CtxReferenceIdeal.Facts) (hModKernel : Cert.ModKernel.Facts) (hModKernelIdeal : Cert.ModKernelIdeal.Facts) (hModReferenceIdeal : Cert.ModReferenceIdeal.Facts) (hAffKernel : Cert.AffKernel.Facts) (hAffKernelIdeal : Cert.AffKernelIdeal.Facts) (hAffReferenceIdeal : Cert.AffReferenceIdeal.Facts) (hPre_idx_ok : Cert.Pre_idx_ok.Facts) (hPre_finite : Cert.Pre_finite.Facts),
    quiescent_Kernel (hKernel := hKernel) (hPre_idx_ok := hPre_idx_ok)
    ∧ quiescent_KernelIdeal (hKernelIdeal := hKernelIdeal) (hPre_idx_ok := hPre_idx_ok)
    ∧ quiescent_ReferenceIdeal (hReferenceIdeal := hReferenceIdeal)
    ∧ quiescent_ReferenceIdeal_pre_idx_ok (hReferenceIdeal := hReferenceIdeal) (hPre_idx_ok := hPre_idx_ok)
    ∧ quiescent_InKernel (hInKernel := hInKernel)
    ∧ quiescent_InKernelIdeal (hInKernelIdeal := hInKernelIdeal)
    ∧ quiescent_InReferenceIdeal (hInReferenceIdeal := hInReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_CtxKernel (hCtxKernel := hCtxKernel)
    ∧ quiescent_CtxKernelIdeal (hCtxKernelIdeal := hCtxKernelIdeal)
    ∧ quiescent_CtxReferenceIdeal (hCtxReferenceIdeal := hCtxReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_AffKernel (hAffKernel := hAffKernel)
    ∧ quiescent_AffKernelIdeal (hAffKernelIdeal := hAffKernelIdeal)
    ∧ quiescent_AffKernelIdeal_pre_finite (hAffKernelIdeal := hAffKernelIdeal) (hPre_finite := hPre_finite)
    ∧ quiescent_AffReferenceIdeal (hAffReferenceIdeal := hAffReferenceIdeal)
    ∧ quiescent_AffReferenceIdeal_pre_finite (hAffReferenceIdeal := hAffReferenceIdeal) (hPre_finite := hPre_finite)
    ∧ preserves_Kernel_KernelIdeal
    ∧ algebraic_KernelIdeal_ReferenceIdeal (hKernelIdeal := hKernelIdeal) (hReferenceIdeal := hReferenceIdeal) (hPre_idx_ok := hPre_idx_ok)
    ∧ preserves_InKernel_InKernelIdeal
    ∧ algebraic_InKernelIdeal_InReferenceIdeal (hInKernelIdeal := hInKernelIdeal) (hInReferenceIdeal := hInReferenceIdeal)
    ∧ preserves_MixKernel_MixKernelIdeal
    ∧ algebraic_MixKernelIdeal_MixReferenceIdeal (hMixKernelIdeal := hMixKernelIdeal) (hMixReferenceIdeal := hMixReferenceIdeal)
    ∧ preserves_CtxKernel_CtxKernelIdeal
    ∧ algebraic_CtxKernelIdeal_CtxReferenceIdeal (hCtxKernelIdeal := hCtxKernelIdeal) (hCtxReferenceIdeal := hCtxReferenceIdeal)
    ∧ preserves_ModKernel_ModKernelIdeal
    ∧ algebraic_ModKernelIdeal_ModReferenceIdeal (hModKernelIdeal := hModKernelIdeal) (hModReferenceIdeal := hModReferenceIdeal)
    ∧ preserves_AffKernel_AffKernelIdeal
    ∧ algebraic_AffKernelIdeal_AffReferenceIdeal_pre_finite (hAffKernelIdeal := hAffKernelIdeal) (hAffReferenceIdeal := hAffReferenceIdeal) (hPre_finite := hPre_finite)
-- ==== Pre_finite.lean ====
abbrev S8x4096x1536 : Shape := ⟨3, ![8, 4096, 1536]⟩
abbrev S8x4096x512 : Shape := ⟨3, ![8, 4096, 512]⟩
abbrev S8x4096x2048 : Shape := ⟨3, ![8, 4096, 2048]⟩
abbrev S8x4096x1024 : Shape := ⟨3, ![8, 4096, 1024]⟩
abbrev S8x1x1024 : Shape := ⟨3, ![8, 1, 1024]⟩
abbrev S1x24 : Shape := ⟨2, ![1, 24]⟩
abbrev S1x1536 : Shape := ⟨2, ![1, 1536]⟩
abbrev S1x1024 : Shape := ⟨2, ![1, 1024]⟩
abbrev S1x1536x1024 : Shape := ⟨3, ![1, 1536, 1024]⟩
abbrev S1x512x1024 : Shape := ⟨3, ![1, 512, 1024]⟩
abbrev S1x1024x1024 : Shape := ⟨3, ![1, 1024, 1024]⟩
abbrev S1x1024x16 : Shape := ⟨3, ![1, 1024, 16]⟩
abbrev S_ : Shape := ⟨0, ![]⟩

class Facts : Prop where
  bcast_S_S8x4096x1536 : S_.BroadcastsInDim S8x4096x1536 (![] : Fin 0 → Fin S8x4096x1536.rank)
  reducesTo_S8x4096x1536_S_d0_1_2 : S8x4096x1536.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_
  bcast_S_S1x24 : S_.BroadcastsInDim S1x24 (![] : Fin 0 → Fin S1x24.rank)
  reducesTo_S1x24_S_d0_1 : S1x24.ReducesTo [0, 1] S_
  bcast_S_S1x1536 : S_.BroadcastsInDim S1x1536 (![] : Fin 0 → Fin S1x1536.rank)
  reducesTo_S1x1536_S_d0_1 : S1x1536.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1536x1024 : S_.BroadcastsInDim S1x1536x1024 (![] : Fin 0 → Fin S1x1536x1024.rank)
  reducesTo_S1x1536x1024_S_d0_1_2 : S1x1536x1024.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x16 : S_.BroadcastsInDim S1x1024x16 (![] : Fin 0 → Fin S1x1024x16.rank)
  reducesTo_S1x1024x16_S_d0_1_2 : S1x1024x16.ReducesTo [0, 1, 2] S_

variable [Facts]

def fn_part5 {F : FTy → Type} [FloatOps F] (main_v83 : IVec S_ 1) (main_v84 : FVec F S1x1024x16 .f32) (main_cst_32 : FVec F S_ .f32) : IVec S_ 1 :=
  let main_v85 : FVec F S1x1024x16 .f32 := broadcastInDim S1x1024x16 ![] bcast_S_S1x1024x16 main_cst_32
  let main_v86 : IVec S1x1024x16 1 := cmpf .olt main_v84 main_v85
  let main_c_33 : IVec S_ 1 := constantI S_ 1 1#1
  let main_v87 : IVec S_ 1 := (fun x v => Host.reduce IntOp.andi x v reducesTo_S1x1024x16_S_d0_1_2 h_S_) main_v86 main_c_33
  let main_v88 : IVec S_ 1 := andi main_v83 main_v87
  main_v88

def fn_part4 {F : FTy → Type} [FloatOps F] (main_arg14 : FVec F S1x1536x1024 .f32) (main_arg15 : FVec F S1x512x1024 .f32) (main_arg16 : FVec F S1x1024x1024 .f32) (main_arg17 : FVec F S1x1024x16 .f32) (main_v63 : IVec S_ 1) (main_v67 : IVec S_ 1) : IVec S_ 1 :=
  let main_v68 : IVec S_ 1 := andi main_v63 main_v67
  let main_v69 : FVec F S1x1536x1024 .f32 := Host.absf main_arg14
  let main_cst_26 : FVec F S_ .f32 := constant S_ .f32 0x7F800000#32
  let main_v70 : FVec F S1x1536x1024 .f32 := broadcastInDim S1x1536x1024 ![] bcast_S_S1x1536x1024 main_cst_26
  let main_v71 : IVec S1x1536x1024 1 := cmpf .olt main_v69 main_v70
  let main_c_27 : IVec S_ 1 := constantI S_ 1 1#1
  let main_v72 : IVec S_ 1 := (fun x v => Host.reduce IntOp.andi x v reducesTo_S1x1536x1024_S_d0_1_2 h_S_) main_v71 main_c_27
  let main_v73 : IVec S_ 1 := andi main_v68 main_v72
  let main_v74 : FVec F S1x512x1024 .f32 := Host.absf main_arg15
  let main_cst_28 : FVec F S_ .f32 := constant S_ .f32 0x7F800000#32
  let main_v75 : FVec F S1x512x1024 .f32 := broadcastInDim S1x512x1024 ![] bcast_S_S1x512x1024 main_cst_28
  let main_v76 : IVec S1x512x1024 1 := cmpf .olt main_v74 main_v75
  let main_c_29 : IVec S_ 1 := constantI S_ 1 1#1
  let main_v77 : IVec S_ 1 := (fun x v => Host.reduce IntOp.andi x v reducesTo_S1x512x1024_S_d0_1_2 h_S_) main_v76 main_c_29
  let main_v78 : IVec S_ 1 := andi main_v73 main_v77
  let main_v79 : FVec F S1x1024x1024 .f32 := Host.absf main_arg16
  let main_cst_30 : FVec F S_ .f32 := constant S_ .f32 0x7F800000#32
  let main_v80 : FVec F S1x1024x1024 .f32 := broadcastInDim S1x1024x1024 ![] bcast_S_S1x1024x1024 main_cst_30
  let main_v81 : IVec S1x1024x1024 1 := cmpf .olt main_v79 main_v80
  let main_c_31 : IVec S_ 1 := constantI S_ 1 1#1
  let main_v82 : IVec S_ 1 := (fun x v => Host.reduce IntOp.andi x v reducesTo_S1x1024x1024_S_d0_1_2 h_S_) main_v81 main_c_31
  let main_v83 : IVec S_ 1 := andi main_v78 main_v82
  let main_v84 : FVec F S1x1024x16 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1x1536 .f32) (main_arg12 : FVec F S1x1024 .f32) (main_arg13 : FVec F S1x1024 .f32) (main_arg14 : FVec F S1x1536x1024 .f32) (main_arg15 : FVec F S1x512x1024 .f32) (main_arg16 : FVec F S1x1024x1024 .f32) (main_arg17 : FVec F S1x1024x16 .f32) (main_v48 : IVec S_ 1) (main_v49 : FVec F S1x24 .f32) (main_v50 : FVec F S1x24 .f32) : IVec S_ 1 :=
  let main_v51 : IVec S1x24 1 := cmpf .olt main_v49 main_v50
  let main_c_19 : IVec S_ 1 := constantI S_ 1 1#1
  let main_v52 : IVec S_ 1 := (fun x v => Host.reduce IntOp.andi x v reducesTo_S1x24_S_d0_1 h_S_) main_v51 main_c_19
  let main_v53 : IVec S_ 1 := andi main_v48 main_v52
  let main_v54 : FVec F S1x1536 .f32 := Host.absf main_arg11
  let main_cst_20 : FVec F S_ .f32 := constant S_ .f32 0x7F800000#32
  let main_v55 : FVec F S1x1536 .f32 := broadcastInDim S1x1536 ![] bcast_S_S1x1536 main_cst_20
  let main_v56 : IVec S1x1536 1 := cmpf .olt main_v54 main_v55
  let main_c_21 : IVec S_ 1 := constantI S_ 1 1#1
  let main_v57 : IVec S_ 1 := (fun x v => Host.reduce IntOp.andi x v reducesTo_S1x1536_S_d0_1 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S1x1024 .f32 := Host.absf main_arg13
  let main_cst_24 : FVec F S_ .f32 := constant S_ .f32 0x7F800000#32
  let main_v65 : FVec F S1x1024 .f32 := broadcastInDim S1x1024 ![] bcast_S_S1x1024 main_cst_24
  let main_v66 : IVec S1x1024 1 := cmpf .olt main_v64 main_v65
  let main_c_25 : IVec S_ 1 := constantI S_ 1 1#1
  let main_v67 : IVec S_ 1 := (fun x v => Host.reduce IntOp.andi x v reducesTo_S1x1024_S_d0_1 h_S_) main_v66 main_c_25
  fn_part4 (F := F) main_arg14 main_arg15 main_arg16 main_arg17 main_v63 main_v67

def fn_part2 {F : FTy → Type} [FloatOps F] (main_arg7 : FVec F S8x1x1024 .f32) (main_arg8 : FVec F S8x1x1024 .f32) (main_arg9 : FVec F S8x1x1024 .f32) (main_arg10 : FVec F S1x24 .f32) (main_arg11 : FVec F S1x1536 .f32) (main_arg12 : FVec F S1x1024 .f32) (main_arg13 : FVec F S1x1024 .f32) (main_arg14 : FVec F S1x1536x1024 .f32) (main_arg15 : FVec F S1x512x1024 .f32) (main_arg16 : FVec F S1x1024x1024 .f32) (main_arg17 : FVec F S1x1024x16 .f32) (main_v33 : IVec S_ 1) : IVec S_ 1 :=
  let main_v34 : FVec F S8x1x1024 .f32 := Host.absf main_arg7
  let main_cst_12 : FVec F S_ .f32 := constant S_ .f32 0x7F800000#32
  let main_v35 : FVec F S8x1x1024 .f32 := broadcastInDim S8x1x1024 ![] bcast_S_S8x1x1024 main_cst_12
  let main_v36 : IVec S8x1x1024 1 := cmpf .olt main_v34 main_v35
  let main_c_13 : IVec S_ 1 := constantI S_ 1 1#1
  let main_v37 : IVec S_ 1 := (fun x v => Host.reduce IntOp.andi x v reducesTo_S8x1x1024_S_d0_1_2 h_S_) main_v36 main_c_13
  let main_v38 : IVec S_ 1 := andi main_v33 main_v37
  let main_v39 : FVec F S8x1x1024 .f32 := Host.absf main_arg8
  let main_cst_14 : FVec F S_ .f32 := constant S_ .f32 0x7F800000#32
  let main_v40 : FVec F S8x1x1024 .f32 := broadcastInDim S8x1x1024 ![] bcast_S_S8x1x1024 main_cst_14
  let main_v41 : IVec S8x1x1024 1 := cmpf .olt main_v39 main_v40
  let main_c_15 : IVec S_ 1 := constantI S_ 1 1#1
  let main_v42 : IVec S_ 1 := (fun x v => Host.reduce IntOp.andi x v reducesTo_S8x1x1024_S_d0_1_2 h_S_) main_v41 main_c_15
  let main_v43 : IVec S_ 1 := andi main_v38 main_v42
  let main_v44 : FVec F S8x1x1024 .f32 := Host.absf main_arg9
  let main_cst_16 : FVec F S_ .f32 := constant S_ .f32 0x7F800000#32
  let main_v45 : FVec F S8x1x1024 .f32 := broadcastInDim S8x1x1024 ![] bcast_S_S8x1x1024 main_cst_16
  let main_v46 : IVec S8x1x1024 1 := cmpf .olt main_v44 main_v45
  let main_c_17 : IVec S_ 1 := constantI S_ 1 1#1
  let main_v47 : IVec S_ 1 := (fun x v => Host.reduce IntOp.andi x v reducesTo_S8x1x1024_S_d0_1_2 h_S_) main_v46 main_c_17
  let main_v48 : IVec S_ 1 := andi main_v43 main_v47
  let main_v49 : FVec F S1x24 .f32 := Host.absf main_arg10
  let main_cst_18 : FVec F S_ .f32 := constant S_ .f32 0x7F800000#32
  let main_v50 : FVec F S1x24 .f32 := broadcastInDim S1x24 ![] bcast_S_S1x24 main_cst_18
  fn_part3 (F := F) main_arg11 main_arg12 main_arg13 main_arg14 main_arg15 main_arg16 main_arg17 main_v48 main_v49 main_v50

def fn_part1 {F : FTy → Type} [FloatOps F] (main_arg4 : FVec F S8x4096x512 .f32) (main_arg5 : FVec F S8x4096x2048 .bf16) (main_arg6 : FVec F S8x4096x1024 .f32) (main_arg7 : FVec F S8x1x1024 .f32) (main_arg8 : FVec F S8x1x1024 .f32) (main_arg9 : FVec F S8x1x1024 .f32) (main_arg10 : FVec F S1x24 .f32) (main_arg11 : FVec F S1x1536 .f32) (main_arg12 : FVec F S1x1024 .f32) (main_arg13 : FVec F S1x1024 .f32) (main_arg14 : FVec F S1x1536x1024 .f32) (main_arg15 : FVec F S1x512x1024 .f32) (main_arg16 : FVec F S1x1024x1024 .f32) (main_arg17 : FVec F S1x1024x16 .f32) (main_v13 : IVec S_ 1) (main_v16 : IVec S8x4096x1536 1) : IVec S_ 1 :=
  let main_c_5 : IVec S_ 1 := constantI S_ 1 1#1
  let main_v17 : IVec S_ 1 := (fun x v => Host.reduce IntOp.andi x v reducesTo_S8x4096x1536_S_d0_1_2 h_S_) main_v16 main_c_5
  let main_v18 : IVec S_ 1 := andi main_v13 main_v17
  let main_v19 : FVec F S8x4096x512 .f32 := Host.absf main_arg4
  let main_cst_6 : FVec F S_ .f32 := constant S_ .f32 0x7F800000#32
  let main_v20 : FVec F S8x4096x512 .f32 := broadcastInDim S8x4096x512 ![] bcast_S_S8x4096x512 main_cst_6
  let main_v21 : IVec S8x4096x512 1 := cmpf .olt main_v19 main_v20
  let main_c_7 : IVec S_ 1 := constantI S_ 1 1#1
  let main_v22 : IVec S_ 1 := (fun x v => Host.reduce IntOp.andi x v reducesTo_S8x4096x512_S_d0_1_2 h_S_) main_v21 main_c_7
  let main_v23 : IVec S_ 1 := andi main_v18 main_v22
  let main_v24 : FVec F S8x4096x2048 .bf16 := Host.absf main_arg5
  let main_cst_8 : FVec F S_ .bf16 := constant S_ .bf16 0x7F80#16
  let main_v25 : FVec F S8x4096x2048 .bf16 := broadcastInDim S8x4096x2048 ![] bcast_S_S8x4096x2048 main_cst_8
  let main_v26 : IVec S8x4096x2048 1 := cmpf .olt main_v24 main_v25
  let main_c_9 : IVec S_ 1 := constantI S_ 1 1#1
  let main_v27 : IVec S_ 1 := (fun x v => Host.reduce IntOp.andi x v reducesTo_S8x4096x2048_S_d0_1_2 h_S_) main_v26 main_c_9
  let main_v28 : IVec S_ 1 := andi main_v23 main_v27
  let main_v29 : FVec F S8x4096x1024 .f32 := Host.absf main_arg6
  let main_cst_10 : FVec F S_ .f32 := constant S_ .f32 0x7F800000#32
  let main_v30 : FVec F S8x4096x1024 .f32 := broadcastInDim S8x4096x1024 ![] bcast_S_S8x4096x1024 main_cst_10
  let main_v31 : IVec S8x4096x1024 1 := cmpf .olt main_v29 main_v30
  let main_c_11 : IVec S_ 1 := constantI S_ 1 1#1
  let main_v32 : IVec S_ 1 := (fun x v => Host.reduce IntOp.andi x v reducesTo_S8x4096x1024_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8x4096x1536 .bf16) (main_arg1 : FVec F S8x4096x1536 .bf16) (main_arg2 : FVec F S8x4096x1536 .bf16) (main_arg3 : FVec F S8x4096x1536 .bf16) (main_arg4 : FVec F S8x4096x512 .f32) (main_arg5 : FVec F S8x4096x2048 .bf16) (main_arg6 : FVec F S8x4096x1024 .f32) (main_arg7 : FVec F S8x1x1024 .f32) (main_arg8 : FVec F S8x1x1024 .f32) (main_arg9 : FVec F S8x1x1024 .f32) (main_arg10 : FVec F S1x24 .f32) (main_arg11 : FVec F S1x1536 .f32) (main_arg12 : FVec F S1x1024 .f32) (main_arg13 : FVec F S1x1024 .f32) (main_arg14 : FVec F S1x1536x1024 .f32) (main_arg15 : FVec F S1x512x1024 .f32) (main_arg16 : FVec F S1x1024x1024 .f32) (main_arg17 : FVec F S1x1024x16 .f32) : IVec S_ 1 :=
  let main_v0 : FVec F S8x4096x1536 .bf16 := Host.absf main_arg0
  let main_cst : FVec F S_ .bf16 := constant S_ .bf16 0x7F80#16
  let main_v1 : FVec F S8x4096x1536 .bf16 := broadcastInDim S8x4096x1536 ![] bcast_S_S8x4096x1536 main_cst
  let main_v2 : IVec S8x4096x1536 1 := cmpf .olt main_v0 main_v1
  let main_c : IVec S_ 1 := constantI S_ 1 1#1
  let main_v3 : IVec S_ 1 := (fun x v => Host.reduce IntOp.andi x v reducesTo_S8x4096x1536_S_d0_1_2 h_S_) main_v2 main_c
  let main_v4 : FVec F S8x4096x1536 .bf16 := Host.absf main_arg1
  let main_cst_0 : FVec F S_ .bf16 := constant S_ .bf16 0x7F80#16
  let main_v5 : FVec F S8x4096x1536 .bf16 := broadcastInDim S8x4096x1536 ![] bcast_S_S8x4096x1536 main_cst_0
  let main_v6 : IVec S8x4096x1536 1 := cmpf .olt main_v4 main_v5
  let main_c_1 : IVec S_ 1 := constantI S_ 1 1#1
  let main_v7 : IVec S_ 1 := (fun x v => Host.reduce IntOp.andi x v reducesTo_S8x4096x1536_S_d0_1_2 h_S_) main_v6 main_c_1
  let main_v8 : IVec S_ 1 := andi main_v3 main_v7
  let main_v9 : FVec F S8x4096x1536 .bf16 := Host.absf main_arg2
  let main_cst_2 : FVec F S_ .bf16 := constant S_ .bf16 0x7F80#16
  let main_v10 : FVec F S8x4096x1536 .bf16 := broadcastInDim S8x4096x1536 ![] bcast_S_S8x4096x1536 main_cst_2
  let main_v11 : IVec S8x4096x1536 1 := cmpf .olt main_v9 main_v10
  let main_c_3 : IVec S_ 1 := constantI S_ 1 1#1
  let main_v12 : IVec S_ 1 := (fun x v => Host.reduce IntOp.andi x v reducesTo_S8x4096x1536_S_d0_1_2 h_S_) main_v11 main_c_3
  let main_v13 : IVec S_ 1 := andi main_v8 main_v12
  let main_v14 : FVec F S8x4096x1536 .bf16 := Host.absf main_arg3
  let main_cst_4 : FVec F S_ .bf16 := constant S_ .bf16 0x7F80#16
  let main_v15 : FVec F S8x4096x1536 .bf16 := broadcastInDim S8x4096x1536 ![] bcast_S_S8x4096x1536 main_cst_4
  let main_v16 : IVec S8x4096x1536 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Pre_idx_ok.lean ====
abbrev S8x16x512 : Shape := ⟨3, ![8, 16, 512]⟩
abbrev S128x256x16x128 : Shape := ⟨4, ![128, 256, 16, 128]⟩
abbrev S8x4096x1024 : Shape := ⟨3, ![8, 4096, 1024]⟩
abbrev S8x1x1024 : Shape := ⟨3, ![8, 1, 1024]⟩
abbrev S1x1024 : Shape := ⟨2, ![1, 1024]⟩
abbrev S512 : Shape := ⟨1, ![512]⟩
abbrev S_ : Shape := ⟨0, ![]⟩
abbrev S8x16x512x1 : Shape := ⟨4, ![8, 16, 512, 1]⟩
abbrev S8x16x1x512 : Shape := ⟨4, ![8, 16, 1, 512]⟩
abbrev S8x16x512x512 : Shape := ⟨4, ![8, 16, 512, 512]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩

class Facts : Prop where
  bcast_S_S8x16x512 : S_.BroadcastsInDim S8x16x512 (![] : Fin 0 → Fin S8x16x512.rank)
  reducesTo_S8x16x512_S_d0_1_2 : S8x16x512.ReducesTo [0, 1, 2] S_
  h_S_ : 0 < S_.numel
  bcast_S8x16x512_S8x16x512x1_0_1_2 : S8x16x512.BroadcastsInDim S8x16x512x1 (![0, 1, 2] : Fin 3 → Fin S8x16x512x1.rank)
  bcast_S8x16x512_S8x16x1x512_0_1_3 : S8x16x512.BroadcastsInDim S8x16x1x512 (![0, 1, 3] : Fin 3 → Fin S8x16x1x512.rank)
  bcast_S8x16x512x1_S8x16x512x512_0_1_2_3 : S8x16x512x1.BroadcastsInDim S8x16x512x512 (![0, 1, 2, 3] : Fin 4 → Fin S8x16x512x512.rank)
  bcast_S8x16x1x512_S8x16x512x512_0_1_2_3 : S8x16x1x512.BroadcastsInDim S8x16x512x512 (![0, 1, 2, 3] : Fin 4 → Fin S8x16x512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x1x512x512_2_3 : S512x512.BroadcastsInDim S1x1x512x512 (![2, 3] : Fin 2 → Fin S1x1x512x512.rank)
  bcast_S1x1x512x512_S8x16x512x512_0_1_2_3 : S1x1x512x512.BroadcastsInDim S8x16x512x512 (![0, 1, 2, 3] : Fin 4 → Fin S8x16x512x512.rank)
  reducesTo_S8x16x512x512_S_d0_1_2_3 : S8x16x512x512.ReducesTo [0, 1, 2, 3] S_

variable [Facts]

def fn_part1 {F : FTy → Type} [FloatOps F] (main_v6 : IVec S_ 1) (main_v19 : IVec S8x16x512x512 1) (main_c_2 : IVec S_ 1) : IVec S_ 1 :=
  let main_v20 : IVec S_ 1 := (fun x v => Host.reduce IntOp.andi x v reducesTo_S8x16x512x512_S_d0_1_2_3 h_S_) main_v19 main_c_2
  let main_v21 : IVec S_ 1 := andi main_v6 main_v20
  main_v21

def fn {F : FTy → Type} [FloatOps F] (main_arg0 : IVec S8x16x512 32) (main_arg1 : FVec F S8x16x512 .f32) (main_arg2 : FVec F S128x256x16x128 .bf16) (main_arg3 : FVec F S8x4096x1024 .f32) (main_arg4 : FVec F S8x1x1024 .f32) (main_arg5 : FVec F S1x1024 .f32) : IVec S_ 1 :=
  let main_v0 : IVec S512 32 := iotaInDim S512 32 0
  let main_c : IVec S_ 32 := constantI S_ 32 0#32
  let main_v1 : IVec S8x16x512 32 := broadcastInDim S8x16x512 ![] bcast_S_S8x16x512 main_c
  let main_v2 : IVec S8x16x512 1 := cmpi .sge main_arg0 main_v1
  let main_c_0 : IVec S_ 32 := constantI S_ 32 4096#32
  let main_v3 : IVec S8x16x512 32 := broadcastInDim S8x16x512 ![] bcast_S_S8x16x512 main_c_0
  let main_v4 : IVec S8x16x512 1 := cmpi .slt main_arg0 main_v3
  let main_v5 : IVec S8x16x512 1 := andi main_v2 main_v4
  let main_c_1 : IVec S_ 1 := constantI S_ 1 1#1
  let main_v6 : IVec S_ 1 := (fun x v => Host.reduce IntOp.andi x v reducesTo_S8x16x512_S_d0_1_2 h_S_) main_v5 main_c_1
  let main_v7 : IVec S8x16x512x1 32 := broadcastInDim S8x16x512x1 ![0, 1, 2] bcast_S8x16x512_S8x16x512x1_0_1_2 main_arg0
  let main_v8 : IVec S8x16x1x512 32 := broadcastInDim S8x16x1x512 ![0, 1, 3] bcast_S8x16x512_S8x16x1x512_0_1_3 main_arg0
  let main_v9 : IVec S8x16x512x512 32 := broadcastInDim S8x16x512x512 ![0, 1, 2, 3] bcast_S8x16x512x1_S8x16x512x512_0_1_2_3 main_v7
  let main_v10 : IVec S8x16x512x512 32 := broadcastInDim S8x16x512x512 ![0, 1, 2, 3] bcast_S8x16x1x512_S8x16x512x512_0_1_2_3 main_v8
  let main_v11 : IVec S8x16x512x512 1 := cmpi .ne main_v9 main_v10
  let main_v12 : IVec S512x1 32 := broadcastInDim S512x1 ![0] bcast_S512_S512x1_0 main_v0
  let main_v13 : IVec S1x512 32 := broadcastInDim S1x512 ![1] bcast_S512_S1x512_1 main_v0
  let main_v14 : IVec S512x512 32 := broadcastInDim S512x512 ![0, 1] bcast_S512x1_S512x512_0_1 main_v12
  let main_v15 : IVec S512x512 32 := broadcastInDim S512x512 ![0, 1] bcast_S1x512_S512x512_0_1 main_v13
  let main_v16 : IVec S512x512 1 := cmpi .eq main_v14 main_v15
  let main_v17 : IVec S1x1x512x512 1 := broadcastInDim S1x1x512x512 ![2, 3] bcast_S512x512_S1x1x512x512_2_3 main_v16
  let main_v18 : IVec S8x16x512x512 1 := broadcastInDim S8x16x512x512 ![0, 1, 2, 3] bcast_S1x1x512x512_S8x16x512x512_0_1_2_3 main_v17
  let main_v19 : IVec S8x16x512x512 1 := ori main_v11 main_v18
  let main_c_2 : IVec S_ 1 := constantI S_ 1 1#1
  fn_part1 (F := F) main_v6 main_v19 main_c_2
-- ==== Kernel.lean ====
abbrev S8x16x512 : Shape := ⟨3, ![8, 16, 512]⟩
abbrev S128x256x16x128 : Shape := ⟨4, ![128, 256, 16, 128]⟩
abbrev S8x4096x1024 : Shape := ⟨3, ![8, 4096, 1024]⟩
abbrev S8x1x1024 : Shape := ⟨3, ![8, 1, 1024]⟩
abbrev S1x1024 : Shape := ⟨2, ![1, 1024]⟩
abbrev S16x8x512 : Shape := ⟨3, ![16, 8, 512]⟩
abbrev S128x1x512 : Shape := ⟨3, ![128, 1, 512]⟩
abbrev S1024 : Shape := ⟨1, ![1024]⟩
abbrev S1x8x128 : Shape := ⟨3, ![1, 8, 128]⟩
abbrev S1x1x512 : Shape := ⟨3, ![1, 1, 512]⟩
abbrev S1x256x16x128 : Shape := ⟨4, ![1, 256, 16, 128]⟩
abbrev S1x512x1024 : Shape := ⟨3, ![1, 512, 1024]⟩
abbrev S1x1x1024 : Shape := ⟨3, ![1, 1, 1024]⟩
abbrev S2x4096x8x128 : Shape := ⟨4, ![2, 4096, 8, 128]⟩
abbrev S4096x8x128 : Shape := ⟨3, ![4096, 8, 128]⟩
abbrev S1x4096x8x128 : Shape := ⟨4, ![1, 4096, 8, 128]⟩
abbrev S1x1x1 : Shape := ⟨3, ![1, 1, 1]⟩
abbrev S1x1x16x128 : Shape := ⟨4, ![1, 1, 16, 128]⟩
abbrev S16x128 : Shape := ⟨2, ![16, 128]⟩
abbrev S8x128 : Shape := ⟨2, ![8, 128]⟩
abbrev S1x512x8x128 : Shape := ⟨4, ![1, 512, 8, 128]⟩
abbrev S512x8x128 : Shape := ⟨3, ![512, 8, 128]⟩
abbrev S512 : Shape := ⟨1, ![512]⟩
abbrev S512x1x1 : Shape := ⟨3, ![512, 1, 1]⟩
abbrev S8x512x128 : Shape := ⟨3, ![8, 512, 128]⟩
abbrev S1x512x128 : Shape := ⟨3, ![1, 512, 128]⟩
abbrev S512x128 : Shape := ⟨2, ![512, 128]⟩
abbrev S512x1024 : Shape := ⟨2, ![512, 1024]⟩

abbrev nBuf : Space → Nat
  | .hbm => 14
  | .vmem => 12
  | .smem => 8
  | _ => 0

abbrev bufTy : (tb : Table) → Fin (tcTables nBuf tb) → BufTy
  | .hbm, ⟨0, _⟩ => ⟨S8x16x512, .i32⟩
  | .hbm, ⟨1, _⟩ => ⟨S8x16x512, .f32⟩
  | .hbm, ⟨2, _⟩ => ⟨S128x256x16x128, .bf16⟩
  | .hbm, ⟨3, _⟩ => ⟨S8x4096x1024, .f32⟩
  | .hbm, ⟨4, _⟩ => ⟨S8x1x1024, .f32⟩
  | .hbm, ⟨5, _⟩ => ⟨S1x1024, .f32⟩
  | .hbm, ⟨6, _⟩ => ⟨S16x8x512, .i32⟩
  | .hbm, ⟨7, _⟩ => ⟨S128x1x512, .i32⟩
  | .hbm, ⟨8, _⟩ => ⟨S16x8x512, .f32⟩
  | .hbm, ⟨9, _⟩ => ⟨S128x1x512, .f32⟩
  | .hbm, ⟨10, _⟩ => ⟨S1024, .f32⟩
  | .hbm, ⟨11, _⟩ => ⟨S1x1024, .f32⟩
  | .hbm, ⟨12, _⟩ => ⟨S1x8x128, .f32⟩
  | .hbm, ⟨13, _⟩ => ⟨S8x4096x1024, .f32⟩
  | .local _ .vmem, ⟨0, _⟩ => ⟨S1x256x16x128, .bf16⟩
  | .local _ .vmem, ⟨1, _⟩ => ⟨S1x256x16x128, .bf16⟩
  | .local _ .vmem, ⟨2, _⟩ => ⟨S1x256x16x128, .bf16⟩
  | .local _ .vmem, ⟨3, _⟩ => ⟨S1x256x16x128, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128, .f32⟩
  | .local _ .vmem, ⟨9, _⟩ => ⟨S1x512x1024, .f32⟩
  | .local _ .vmem, ⟨10, _⟩ => ⟨S1x512x1024, .f32⟩
  | .local _ .vmem, ⟨11, _⟩ => ⟨S2x4096x8x128, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | .local _ .smem, ⟨4, _⟩ => ⟨S1x1x512, .f32⟩
  | .local _ .smem, ⟨5, _⟩ => ⟨S1x1x512, .f32⟩
  | .local _ .smem, ⟨6, _⟩ => ⟨S1x1x512, .f32⟩
  | .local _ .smem, ⟨7, _⟩ => ⟨S1x1x512, .f32⟩
  | _, _ => ⟨S8x16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_stg3_0 : Ref sig .tc := ⟨.smem, 6, rfl⟩
abbrev cc0_stg3_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let arg0 : BitVec 32 := BitVec.ofNat 32 (i 0).val
  let c8_i32 : BitVec 32 := 8#32
  let v11 : BitVec 1 := Scalar.cmpi .slt arg0 c8_i32
  let v12 : BitVec 1 := Scalar.andi v10 v11
  let v13 : BitVec 32 := Scalar.extui v12
  let c0_i32_4 : BitVec 32 := 0#32
  let v14 : BitVec 1 := Scalar.cmpi .ne v13 c0_i32_4
  v14

def k0_off1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v22 : Index := Scalar.indexCast v9
  let c0 : Index := 0#32
  let c0_9 : Index := 0#32
  let c0_10 : Index := 0#32
  ![v22.toNat, 0, 0, 0]
def k0_cond2 (i : grid0.Coords) : BitVec 1 :=
  let arg0 : BitVec 32 := BitVec.ofNat 32 (i 0).val
  let c8_i32_5 : BitVec 32 := 8#32
  let v15 : BitVec 1 := Scalar.cmpi .slt arg0 c8_i32_5
  let v16 : BitVec 32 := Scalar.extui v15
  let c0_i32_6 : BitVec 32 := 0#32
  let v17 : BitVec 1 := Scalar.cmpi .ne v16 c0_i32_6
  v17

@[reducible] def k0_t1_loop : Scf.Loop 32 :=
  let c0_i32_9 : BitVec 32 := 0#32
  let c32_i32 : BitVec 32 := 32#32
  let v21 : BitVec 32 := Scalar.addi c0_i32_9 c32_i32
  let c1_i32_10 : BitVec 32 := 1#32
  ⟨c0_i32_9, v21, c1_i32_10⟩
def k0_off2 (k0_t1 : Fin k0_t1_loop.trips) (c0_i32_16 : BitVec 32) : Fin 3 → Nat :=
  let c0 : Index := 0#32
  let c0_17 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let v24 : BitVec 32 := Scalar.addi v23 c0_i32_16
  let v25 : Index := Scalar.indexCast v24
  ![0, 0, v25.toNat]
def k0_off3 (k0_t1 : Fin k0_t1_loop.trips) (c0_i32_52 : BitVec 32) : Fin 4 → Nat :=
  let c0_53 : Index := 0#32
  let c0_i32_9 : BitVec 32 := 0#32
  let c1_i32_10 : BitVec 32 := 1#32
  let arg13 : BitVec 32 := Scf.iv c0_i32_9 c1_i32_10 k0_t1
  let c8_i32_51 : BitVec 32 := 8#32
  let v72 : BitVec 32 := Scalar.muli arg13 c8_i32_51
  let v73 : BitVec 32 := Scalar.addi v72 c0_i32_52
  let v74 : Index := Scalar.indexCast v73
  let c0_54 : Index := 0#32
  let c0_55 : Index := 0#32
  ![0, v74.toNat, 0, 0]
def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_91 : BitVec 32 := 0#32
  let c0_i32_92 : BitVec 32 := 0#32
  let c0_i32_93 : BitVec 32 := 0#32
  ![v9.toNat, 0, 0, 0]
def k0_off5 (v26 : BitVec 32) : Fin 3 → Nat :=
  let v138 : Index := Scalar.indexCast v26
  let c0_94 : Index := 0#32
  let c0_95 : Index := 0#32
  ![v138.toNat, 0, 0]

def k0_off6 (k0_t1 : Fin k0_t1_loop.trips) : Fin 3 → Nat :=
  let c0_97 : Index := 0#32
  let c0_98 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c0_i32_96 : BitVec 32 := 0#32
  let v141 : BitVec 32 := Scalar.addi v23 c0_i32_96
  let v142 : Index := Scalar.indexCast v141
  ![0, 0, v142.toNat]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_99 : BitVec 32 := 0#32
  let c0_i32_100 : BitVec 32 := 0#32
  let c0_i32_101 : BitVec 32 := 0#32
  ![v9.toNat, 0, 0, 0]
def k0_off8 (v29 : BitVec 32) : Fin 3 → Nat :=
  let v149 : Index := Scalar.indexCast v29
  let c0_102 : Index := 0#32
  let c0_103 : Index := 0#32
  ![v149.toNat, 0, 0]

def k0_off9 (k0_t1 : Fin k0_t1_loop.trips) : Fin 3 → Nat :=
  let c0_105 : Index := 0#32
  let c0_106 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c1_i32_104 : BitVec 32 := 1#32
  let v152 : BitVec 32 := Scalar.addi v23 c1_i32_104
  let v153 : Index := Scalar.indexCast v152
  ![0, 0, v153.toNat]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_107 : BitVec 32 := 0#32
  let c0_i32_108 : BitVec 32 := 0#32
  let c0_i32_109 : BitVec 32 := 0#32
  ![v9.toNat, 0, 0, 0]
def k0_off11 (v32 : BitVec 32) : Fin 3 → Nat :=
  let v160 : Index := Scalar.indexCast v32
  let c0_110 : Index := 0#32
  let c0_111 : Index := 0#32
  ![v160.toNat, 0, 0]

def k0_off12 (k0_t1 : Fin k0_t1_loop.trips) : Fin 3 → Nat :=
  let c0_113 : Index := 0#32
  let c0_114 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c2_i32_112 : BitVec 32 := 2#32
  let v163 : BitVec 32 := Scalar.addi v23 c2_i32_112
  let v164 : Index := Scalar.indexCast v163
  ![0, 0, v164.toNat]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_115 : BitVec 32 := 0#32
  let c0_i32_116 : BitVec 32 := 0#32
  let c0_i32_117 : BitVec 32 := 0#32
  ![v9.toNat, 0, 0, 0]
def k0_off14 (v35 : BitVec 32) : Fin 3 → Nat :=
  let v171 : Index := Scalar.indexCast v35
  let c0_118 : Index := 0#32
  let c0_119 : Index := 0#32
  ![v171.toNat, 0, 0]

def k0_off15 (k0_t1 : Fin k0_t1_loop.trips) : Fin 3 → Nat :=
  let c0_121 : Index := 0#32
  let c0_122 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c3_i32_120 : BitVec 32 := 3#32
  let v174 : BitVec 32 := Scalar.addi v23 c3_i32_120
  let v175 : Index := Scalar.indexCast v174
  ![0, 0, v175.toNat]
def k0_off16 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_123 : BitVec 32 := 0#32
  let c0_i32_124 : BitVec 32 := 0#32
  let c0_i32_125 : BitVec 32 := 0#32
  ![v9.toNat, 0, 0, 0]
def k0_off17 (v38 : BitVec 32) : Fin 3 → Nat :=
  let v182 : Index := Scalar.indexCast v38
  let c0_126 : Index := 0#32
  let c0_127 : Index := 0#32
  ![v182.toNat, 0, 0]

def k0_off18 (k0_t1 : Fin k0_t1_loop.trips) : Fin 3 → Nat :=
  let c0_129 : Index := 0#32
  let c0_130 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c4_i32_128 : BitVec 32 := 4#32
  let v185 : BitVec 32 := Scalar.addi v23 c4_i32_128
  let v186 : Index := Scalar.indexCast v185
  ![0, 0, v186.toNat]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_131 : BitVec 32 := 0#32
  let c0_i32_132 : BitVec 32 := 0#32
  let c0_i32_133 : BitVec 32 := 0#32
  ![v9.toNat, 0, 0, 0]
def k0_off20 (v41 : BitVec 32) : Fin 3 → Nat :=
  let v193 : Index := Scalar.indexCast v41
  let c0_134 : Index := 0#32
  let c0_135 : Index := 0#32
  ![v193.toNat, 0, 0]

def k0_off21 (k0_t1 : Fin k0_t1_loop.trips) : Fin 3 → Nat :=
  let c0_137 : Index := 0#32
  let c0_138 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c5_i32_136 : BitVec 32 := 5#32
  let v196 : BitVec 32 := Scalar.addi v23 c5_i32_136
  let v197 : Index := Scalar.indexCast v196
  ![0, 0, v197.toNat]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_139 : BitVec 32 := 0#32
  let c0_i32_140 : BitVec 32 := 0#32
  let c0_i32_141 : BitVec 32 := 0#32
  ![v9.toNat, 0, 0, 0]
def k0_off23 (v44 : BitVec 32) : Fin 3 → Nat :=
  let v204 : Index := Scalar.indexCast v44
  let c0_142 : Index := 0#32
  let c0_143 : Index := 0#32
  ![v204.toNat, 0, 0]

def k0_off24 (k0_t1 : Fin k0_t1_loop.trips) : Fin 3 → Nat :=
  let c0_145 : Index := 0#32
  let c0_146 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c6_i32_144 : BitVec 32 := 6#32
  let v207 : BitVec 32 := Scalar.addi v23 c6_i32_144
  let v208 : Index := Scalar.indexCast v207
  ![0, 0, v208.toNat]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_147 : BitVec 32 := 0#32
  let c0_i32_148 : BitVec 32 := 0#32
  let c0_i32_149 : BitVec 32 := 0#32
  ![v9.toNat, 0, 0, 0]
def k0_off26 (v47 : BitVec 32) : Fin 3 → Nat :=
  let v215 : Index := Scalar.indexCast v47
  let c0_150 : Index := 0#32
  let c0_151 : Index := 0#32
  ![v215.toNat, 0, 0]

def k0_off27 (k0_t1 : Fin k0_t1_loop.trips) : Fin 3 → Nat :=
  let c0_153 : Index := 0#32
  let c0_154 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c7_i32_152 : BitVec 32 := 7#32
  let v218 : BitVec 32 := Scalar.addi v23 c7_i32_152
  let v219 : Index := Scalar.indexCast v218
  ![0, 0, v219.toNat]
def k0_off28 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_155 : BitVec 32 := 0#32
  let c0_i32_156 : BitVec 32 := 0#32
  let c0_i32_157 : BitVec 32 := 0#32
  ![v9.toNat, 0, 0, 0]
def k0_off29 (v50 : BitVec 32) : Fin 3 → Nat :=
  let v226 : Index := Scalar.indexCast v50
  let c0_158 : Index := 0#32
  let c0_159 : Index := 0#32
  ![v226.toNat, 0, 0]

def k0_off30 (k0_t1 : Fin k0_t1_loop.trips) : Fin 3 → Nat :=
  let c0_161 : Index := 0#32
  let c0_162 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c8_i32_160 : BitVec 32 := 8#32
  let v229 : BitVec 32 := Scalar.addi v23 c8_i32_160
  let v230 : Index := Scalar.indexCast v229
  ![0, 0, v230.toNat]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_163 : BitVec 32 := 0#32
  let c0_i32_164 : BitVec 32 := 0#32
  let c0_i32_165 : BitVec 32 := 0#32
  ![v9.toNat, 0, 0, 0]
def k0_off32 (v53 : BitVec 32) : Fin 3 → Nat :=
  let v237 : Index := Scalar.indexCast v53
  let c0_166 : Index := 0#32
  let c0_167 : Index := 0#32
  ![v237.toNat, 0, 0]

def k0_off33 (k0_t1 : Fin k0_t1_loop.trips) : Fin 3 → Nat :=
  let c0_169 : Index := 0#32
  let c0_170 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c9_i32_168 : BitVec 32 := 9#32
  let v240 : BitVec 32 := Scalar.addi v23 c9_i32_168
  let v241 : Index := Scalar.indexCast v240
  ![0, 0, v241.toNat]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_171 : BitVec 32 := 0#32
  let c0_i32_172 : BitVec 32 := 0#32
  let c0_i32_173 : BitVec 32 := 0#32
  ![v9.toNat, 0, 0, 0]
def k0_off35 (v56 : BitVec 32) : Fin 3 → Nat :=
  let v248 : Index := Scalar.indexCast v56
  let c0_174 : Index := 0#32
  let c0_175 : Index := 0#32
  ![v248.toNat, 0, 0]

def k0_off36 (k0_t1 : Fin k0_t1_loop.trips) : Fin 3 → Nat :=
  let c0_177 : Index := 0#32
  let c0_178 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c10_i32_176 : BitVec 32 := 10#32
  let v251 : BitVec 32 := Scalar.addi v23 c10_i32_176
  let v252 : Index := Scalar.indexCast v251
  ![0, 0, v252.toNat]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_179 : BitVec 32 := 0#32
  let c0_i32_180 : BitVec 32 := 0#32
  let c0_i32_181 : BitVec 32 := 0#32
  ![v9.toNat, 0, 0, 0]
def k0_off38 (v59 : BitVec 32) : Fin 3 → Nat :=
  let v259 : Index := Scalar.indexCast v59
  let c0_182 : Index := 0#32
  let c0_183 : Index := 0#32
  ![v259.toNat, 0, 0]

def k0_off39 (k0_t1 : Fin k0_t1_loop.trips) : Fin 3 → Nat :=
  let c0_185 : Index := 0#32
  let c0_186 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c11_i32_184 : BitVec 32 := 11#32
  let v262 : BitVec 32 := Scalar.addi v23 c11_i32_184
  let v263 : Index := Scalar.indexCast v262
  ![0, 0, v263.toNat]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_187 : BitVec 32 := 0#32
  let c0_i32_188 : BitVec 32 := 0#32
  let c0_i32_189 : BitVec 32 := 0#32
  ![v9.toNat, 0, 0, 0]
def k0_off41 (v62 : BitVec 32) : Fin 3 → Nat :=
  let v270 : Index := Scalar.indexCast v62
  let c0_190 : Index := 0#32
  let c0_191 : Index := 0#32
  ![v270.toNat, 0, 0]

def k0_off42 (k0_t1 : Fin k0_t1_loop.trips) : Fin 3 → Nat :=
  let c0_193 : Index := 0#32
  let c0_194 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c12_i32_192 : BitVec 32 := 12#32
  let v273 : BitVec 32 := Scalar.addi v23 c12_i32_192
  let v274 : Index := Scalar.indexCast v273
  ![0, 0, v274.toNat]
def k0_off43 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_195 : BitVec 32 := 0#32
  let c0_i32_196 : BitVec 32 := 0#32
  let c0_i32_197 : BitVec 32 := 0#32
  ![v9.toNat, 0, 0, 0]
def k0_off44 (v65 : BitVec 32) : Fin 3 → Nat :=
  let v281 : Index := Scalar.indexCast v65
  let c0_198 : Index := 0#32
  let c0_199 : Index := 0#32
  ![v281.toNat, 0, 0]

def k0_off45 (k0_t1 : Fin k0_t1_loop.trips) : Fin 3 → Nat :=
  let c0_201 : Index := 0#32
  let c0_202 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c13_i32_200 : BitVec 32 := 13#32
  let v284 : BitVec 32 := Scalar.addi v23 c13_i32_200
  let v285 : Index := Scalar.indexCast v284
  ![0, 0, v285.toNat]
def k0_off46 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_203 : BitVec 32 := 0#32
  let c0_i32_204 : BitVec 32 := 0#32
  let c0_i32_205 : BitVec 32 := 0#32
  ![v9.toNat, 0, 0, 0]
def k0_off47 (v68 : BitVec 32) : Fin 3 → Nat :=
  let v292 : Index := Scalar.indexCast v68
  let c0_206 : Index := 0#32
  let c0_207 : Index := 0#32
  ![v292.toNat, 0, 0]

def k0_off48 (k0_t1 : Fin k0_t1_loop.trips) : Fin 3 → Nat :=
  let c0_209 : Index := 0#32
  let c0_210 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c14_i32_208 : BitVec 32 := 14#32
  let v295 : BitVec 32 := Scalar.addi v23 c14_i32_208
  let v296 : Index := Scalar.indexCast v295
  ![0, 0, v296.toNat]
def k0_off49 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_211 : BitVec 32 := 0#32
  let c0_i32_212 : BitVec 32 := 0#32
  let c0_i32_213 : BitVec 32 := 0#32
  ![v9.toNat, 0, 0, 0]
def k0_off50 (v71 : BitVec 32) : Fin 3 → Nat :=
  let v303 : Index := Scalar.indexCast v71
  let c0_214 : Index := 0#32
  let c0_215 : Index := 0#32
  ![v303.toNat, 0, 0]

def k0_chk16 (i : grid0.Coords) (v71 : BitVec 32) : Prop :=
  (∀ (k0_h2 : k0_cond2 i = 1#1), ∀ a, (k0_off50 v71) a + S1x8x128.size a ≤ S4096x8x128.size a)
theorem k0_off50_inb : ∀ (i : grid0.Coords) (v71 : BitVec 32) (k0_hw16 : k0_chk16 i v71), ∀ (k0_h2 : k0_cond2 i = 1#1), ∀ a, (k0_off50 v71) a + S1x8x128.size a ≤ S4096x8x128.size a := fun i v71 k0_hw16 k0_h2 => k0_hw16 k0_h2

def k0_off51 (k0_t1 : Fin k0_t1_loop.trips) : Fin 3 → Nat :=
  let c0_217 : Index := 0#32
  let c0_218 : Index := 0#32
  let c0_i32_9 : BitVec 32 := 0#32
  let c1_i32_10 : BitVec 32 := 1#32
  let arg13 : BitVec 32 := Scf.iv c0_i32_9 c1_i32_10 k0_t1
  let c16_i32 : BitVec 32 := 16#32
  let v23 : BitVec 32 := Scalar.muli arg13 c16_i32
  let c15_i32_216 : BitVec 32 := 15#32
  let v306 : BitVec 32 := Scalar.addi v23 c15_i32_216
  let v307 : Index := Scalar.indexCast v306
  ![0, 0, v307.toNat]
def k0_off52 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_219 : BitVec 32 := 0#32
  let c0_i32_220 : BitVec 32 := 0#32
  let c0_i32_221 : BitVec 32 := 0#32
  ![v9.toNat, 0, 0, 0]
def k0_off53 (v26 : BitVec 32) : Fin 3 → Nat :=
  let v314 : Index := Scalar.indexCast v26
  let c0_222 : Index := 0#32
  let c0_223 : Index := 0#32
  ![v314.toNat, 0, 0]

def k0_chk1 (i : grid0.Coords) (v26 : BitVec 32) : Prop :=
  (∀ (k0_h2 : k0_cond2 i = 1#1), ∀ a, (k0_off5 v26) a + S1x8x128.size a ≤ S4096x8x128.size a) ∧
  (∀ (k0_h2 : k0_cond2 i = 1#1), ∀ a, (k0_off53 v26) a + S1x8x128.size a ≤ S4096x8x128.size a)
theorem k0_off5_inb : ∀ (i : grid0.Coords) (v26 : BitVec 32) (k0_hw1 : k0_chk1 i v26), ∀ (k0_h2 : k0_cond2 i = 1#1), ∀ a, (k0_off5 v26) a + S1x8x128.size a ≤ S4096x8x128.size a := fun i v26 k0_hw1 k0_h2 => k0_hw1.1 k0_h2
theorem k0_off53_inb : ∀ (i : grid0.Coords) (v26 : BitVec 32) (k0_hw1 : k0_chk1 i v26), ∀ (k0_h2 : k0_cond2 i = 1#1), ∀ a, (k0_off53 v26) a + S1x8x128.size a ≤ S4096x8x128.size a := fun i v26 k0_hw1 k0_h2 => k0_hw1.2 k0_h2

def k0_off54 (v29 : BitVec 32) : Fin 3 → Nat :=
  let v320 : Index := Scalar.indexCast v29
  let c0_227 : Index := 0#32
  let c0_228 : Index := 0#32
  ![v320.toNat, 0, 0]

def k0_chk2 (i : grid0.Coords) (v29 : BitVec 32) : Prop :=
  (∀ (k0_h2 : k0_cond2 i = 1#1), ∀ a, (k0_off8 v29) a + S1x8x128.size a ≤ S4096x8x128.size a) ∧
  (∀ (k0_h2 : k0_cond2 i = 1#1), ∀ a, (k0_off54 v29) a + S1x8x128.size a ≤ S4096x8x128.size a)
theorem k0_off8_inb : ∀ (i : grid0.Coords) (v29 : BitVec 32) (k0_hw2 : k0_chk2 i v29), ∀ (k0_h2 : k0_cond2 i = 1#1), ∀ a, (k0_off8 v29) a + S1x8x128.size a ≤ S4096x8x128.size a := fun i v29 k0_hw2 k0_h2 => k0_hw2.1 k0_h2
theorem k0_off54_inb : ∀ (i : grid0.Coords) (v29 : BitVec 32) (k0_hw2 : k0_chk2 i v29), ∀ (k0_h2 : k0_cond2 i = 1#1), ∀ a, (k0_off54 v29) a + S1x8x128.size a ≤ S4096x8x128.size a := fun i v29 k0_hw2 k0_h2 => k0_hw2.2 k0_h2

def k0_off55 (v32 : BitVec 32) : Fin 3 → Nat :=
  let v326 : Index := Scalar.indexCast v32
  let c0_232 : Index := 0#32
  let c0_233 : Index := 0#32
  ![v326.toNat, 0, 0]

def k0_chk3 (i : grid0.Coords) (v32 : BitVec 32) : Prop :=
  (∀ (k0_h2 : k0_cond2 i = 1#1), ∀ a, (k0_off11 v32) a + S1x8x128.size a ≤ S4096x8x128.size a) ∧
  (∀ (k0_h2 : k0_cond2 i = 1#1), ∀ a, (k0_off55 v32) a + S1x8x128.size a ≤ S4096x8x128.size a)
theorem k0_off11_inb : ∀ (i : grid0.Coords) (v32 : BitVec 32) (k0_hw3 : k0_chk3 i v32), ∀ (k0_h2 : k0_cond2 i = 1#1), ∀ a, (k0_off11 v32) a + S1x8x128.size a ≤ S4096x8x128.size a := fun i v32 k0_hw3 k0_h2 => k0_hw3.1 k0_h2
theorem k0_off55_inb : ∀ (i : grid0.Coords) (v32 : BitVec 32) (k0_hw3 : k0_chk3 i v32), ∀ (k0_h2 : k0_cond2 i = 1#1), ∀ a, (k0_off55 v32) a + S1x8x128.size a ≤ S4096x8x128.size a := fun i v32 k0_hw3 k0_h2 => k0_hw3.2 k0_h2

def k0_off56 (v35 : BitVec 32) : Fin 3 → Nat :=
  let v332 : Index := Scalar.indexCast v35
  let c0_237 : Index := 0#32
  let c0_238 : Index := 0#32
  ![v332.toNat, 0, 0]

def k0_chk4 (i : grid0.Coords) (v35 : BitVec 32) : Prop :=
  (∀ (k0_h2 : k0_cond2 i = 1#1), ∀ a, (k0_off14 v35) a + S1x8x128.size a ≤ S4096x8x128.size a) ∧
  (∀ (k0_h2 : k0_cond2 i = 1#1), ∀ a, (k0_off56 v35) a + S1x8x128.size a ≤ S4096x8x128.size a)
theorem k0_off14_inb : ∀ (i : grid0.Coords) (v35 : BitVec 32) (k0_hw4 : k0_chk4 i v35), ∀ (k0_h2 : k0_cond2 i = 1#1), ∀ a, (k0_off14 v35) a + S1x8x128.size a ≤ S4096x8x128.size a := fun i v35 k0_hw4 k0_h2 => k0_hw4.1 k0_h2
theorem k0_off56_inb : ∀ (i : grid0.Coords) (v35 : BitVec 32) (k0_hw4 : k0_chk4 i v35), ∀ (k0_h2 : k0_cond2 i = 1#1), ∀ a, (k0_off56 v35) a + S1x8x128.size a ≤ S4096x8x128.size a := fun i v35 k0_hw4 k0_h2 => k0_hw4.2 k0_h2

def k0_off57 (v38 : BitVec 32) : Fin 3 → Nat :=
  let v338 : Index := Scalar.indexCast v38
  let c0_242 : Index := 0#32
  let c0_243 : Index := 0#32
  ![v338.toNat, 0, 0]

def k0_chk5 (i : grid0.Coords) (v38 : BitVec 32) : Prop :=
  (∀ (k0_h2 : k0_cond2 i = 1#1), ∀ a, (k0_off17 v38) a + S1x8x128.size a ≤ S4096x8x128.size a) ∧
  (∀ (k0_h2 : k0_cond2 i = 1#1), ∀ a, (k0_off57 v38) a + S1x8x128.size a ≤ S4096x8x128.size a)
theorem k0_off17_inb : ∀ (i : grid0.Coords) (v38 : BitVec 32) (k0_hw5 : k0_chk5 i v38), ∀ (k0_h2 : k0_cond2 i = 1#1), ∀ a, (k0_off17 v38) a + S1x8x128.size a ≤ S4096x8x128.size a := fun i v38 k0_hw5 k0_h2 => k0_hw5.1 k0_h2
theorem k0_off57_inb : ∀ (i : grid0.Coords) (v38 : BitVec 32) (k0_hw5 : k0_chk5 i v38), ∀ (k0_h2 : k0_cond2 i = 1#1), ∀ a, (k0_off57 v38) a + S1x8x128.size a ≤ S4096x8x128.size a := fun i v38 k0_hw5 k0_h2 => k0_hw5.2 k0_h2

def k0_off58 (v41 : BitVec 32) : Fin 3 → Nat :=
  let v344 : Index := Scalar.indexCast v41
  let c0_247 : Index := 0#32
  let c0_248 : Index := 0#32
  ![v344.toNat, 0, 0]

def k0_chk6 (i : grid0.Coords) (v41 : BitVec 32) : Prop :=
  (∀ (k0_h2 : k0_cond2 i = 1#1), ∀ a, (k0_off20 v41) a + S1x8x128.size a ≤ S4096x8x128.size a) ∧
  (∀ (k0_h2 : k0_cond2 i = 1#1), ∀ a, (k0_off58 v41) a + S1x8x128.size a ≤ S4096x8x128.size a)
theorem k0_off20_inb : ∀ (i : grid0.Coords) (v41 : BitVec 32) (k0_hw6 : k0_chk6 i v41), ∀ (k0_h2 : k0_cond2 i = 1#1), ∀ a, (k0_off20 v41) a + S1x8x128.size a ≤ S4096x8x128.size a := fun i v41 k0_hw6 k0_h2 => k0_hw6.1 k0_h2
theorem k0_off58_inb : ∀ (i : grid0.Coords) (v41 : BitVec 32) (k0_hw6 : k0_chk6 i v41), ∀ (k0_h2 : k0_cond2 i = 1#1), ∀ a, (k0_off58 v41) a + S1x8x128.size a ≤ S4096x8x128.size a := fun i v41 k0_hw6 k0_h2 => k0_hw6.2 k0_h2

def k0_off59 (v44 : BitVec 32) : Fin 3 → Nat :=
  let v350 : Index := Scalar.indexCast v44
  let c0_252 : Index := 0#32
  let c0_253 : Index := 0#32
  ![v350.toNat, 0, 0]

def k0_chk7 (i : grid0.Coords) (v44 : BitVec 32) : Prop :=
  (∀ (k0_h2 : k0_cond2 i = 1#1), ∀ a, (k0_off23 v44) a + S1x8x128.size a ≤ S4096x8x128.size a) ∧
  (∀ (k0_h2 : k0_cond2 i = 1#1), ∀ a, (k0_off59 v44) a + S1x8x128.size a ≤ S4096x8x128.size a)
theorem k0_off23_inb : ∀ (i : grid0.Coords) (v44 : BitVec 32) (k0_hw7 : k0_chk7 i v44), ∀ (k0_h2 : k0_cond2 i = 1#1), ∀ a, (k0_off23 v44) a + S1x8x128.size a ≤ S4096x8x128.size a := fun i v44 k0_hw7 k0_h2 => k0_hw7.1 k0_h2
theorem k0_off59_inb : ∀ (i : grid0.Coords) (v44 : BitVec 32) (k0_hw7 : k0_chk7 i v44), ∀ (k0_h2 : k0_cond2 i = 1#1), ∀ a, (k0_off59 v44) a + S1x8x128.size a ≤ S4096x8x128.size a := fun i v44 k0_hw7 k0_h2 => k0_hw7.2 k0_h2

def k0_off60 (v47 : BitVec 32) : Fin 3 → Nat :=
  let v356 : Index := Scalar.indexCast v47
  let c0_257 : Index := 0#32
  let c0_258 : Index := 0#32
  ![v356.toNat, 0, 0]

def k0_chk8 (i : grid0.Coords) (v47 : BitVec 32) : Prop :=
  (∀ (k0_h2 : k0_cond2 i = 1#1), ∀ a, (k0_off26 v47) a + S1x8x128.size a ≤ S4096x8x128.size a) ∧
  (∀ (k0_h2 : k0_cond2 i = 1#1), ∀ a, (k0_off60 v47) a + S1x8x128.size a ≤ S4096x8x128.size a)
theorem k0_off26_inb : ∀ (i : grid0.Coords) (v47 : BitVec 32) (k0_hw8 : k0_chk8 i v47), ∀ (k0_h2 : k0_cond2 i = 1#1), ∀ a, (k0_off26 v47) a + S1x8x128.size a ≤ S4096x8x128.size a := fun i v47 k0_hw8 k0_h2 => k0_hw8.1 k0_h2
theorem k0_off60_inb : ∀ (i : grid0.Coords) (v47 : BitVec 32) (k0_hw8 : k0_chk8 i v47), ∀ (k0_h2 : k0_cond2 i = 1#1), ∀ a, (k0_off60 v47) a + S1x8x128.size a ≤ S4096x8x128.size a := fun i v47 k0_hw8 k0_h2 => k0_hw8.2 k0_h2

def k0_off61 (v50 : BitVec 32) : Fin 3 → Nat :=
  let v362 : Index := Scalar.indexCast v50
  let c0_262 : Index := 0#32
  let c0_263 : Index := 0#32
  ![v362.toNat, 0, 0]

def k0_chk9 (i : grid0.Coords) (v50 : BitVec 32) : Prop :=
  (∀ (k0_h2 : k0_cond2 i = 1#1), ∀ a, (k0_off29 v50) a + S1x8x128.size a ≤ S4096x8x128.size a) ∧
  (∀ (k0_h2 : k0_cond2 i = 1#1), ∀ a, (k0_off61 v50) a + S1x8x128.size a ≤ S4096x8x128.size a)
theorem k0_off29_inb : ∀ (i : grid0.Coords) (v50 : BitVec 32) (k0_hw9 : k0_chk9 i v50), ∀ (k0_h2 : k0_cond2 i = 1#1), ∀ a, (k0_off29 v50) a + S1x8x128.size a ≤ S4096x8x128.size a := fun i v50 k0_hw9 k0_h2 => k0_hw9.1 k0_h2
theorem k0_off61_inb : ∀ (i : grid0.Coords) (v50 : BitVec 32) (k0_hw9 : k0_chk9 i v50), ∀ (k0_h2 : k0_cond2 i = 1#1), ∀ a, (k0_off61 v50) a + S1x8x128.size a ≤ S4096x8x128.size a := fun i v50 k0_hw9 k0_h2 => k0_hw9.2 k0_h2

def k0_off62 (v53 : BitVec 32) : Fin 3 → Nat :=
  let v368 : Index := Scalar.indexCast v53
  let c0_267 : Index := 0#32
  let c0_268 : Index := 0#32
  ![v368.toNat, 0, 0]

def k0_chk10 (i : grid0.Coords) (v53 : BitVec 32) : Prop :=
  (∀ (k0_h2 : k0_cond2 i = 1#1), ∀ a, (k0_off32 v53) a + S1x8x128.size a ≤ S4096x8x128.size a) ∧
  (∀ (k0_h2 : k0_cond2 i = 1#1), ∀ a, (k0_off62 v53) a + S1x8x128.size a ≤ S4096x8x128.size a)
theorem k0_off32_inb : ∀ (i : grid0.Coords) (v53 : BitVec 32) (k0_hw10 : k0_chk10 i v53), ∀ (k0_h2 : k0_cond2 i = 1#1), ∀ a, (k0_off32 v53) a + S1x8x128.size a ≤ S4096x8x128.size a := fun i v53 k0_hw10 k0_h2 => k0_hw10.1 k0_h2
theorem k0_off62_inb : ∀ (i : grid0.Coords) (v53 : BitVec 32) (k0_hw10 : k0_chk10 i v53), ∀ (k0_h2 : k0_cond2 i = 1#1), ∀ a, (k0_off62 v53) a + S1x8x128.size a ≤ S4096x8x128.size a := fun i v53 k0_hw10 k0_h2 => k0_hw10.2 k0_h2

def k0_off63 (v56 : BitVec 32) : Fin 3 → Nat :=
  let v374 : Index := Scalar.indexCast v56
  let c0_272 : Index := 0#32
  let c0_273 : Index := 0#32
  ![v374.toNat, 0, 0]

def k0_chk11 (i : grid0.Coords) (v56 : BitVec 32) : Prop :=
  (∀ (k0_h2 : k0_cond2 i = 1#1), ∀ a, (k0_off35 v56) a + S1x8x128.size a ≤ S4096x8x128.size a) ∧
  (∀ (k0_h2 : k0_cond2 i = 1#1), ∀ a, (k0_off63 v56) a + S1x8x128.size a ≤ S4096x8x128.size a)
theorem k0_off35_inb : ∀ (i : grid0.Coords) (v56 : BitVec 32) (k0_hw11 : k0_chk11 i v56), ∀ (k0_h2 : k0_cond2 i = 1#1), ∀ a, (k0_off35 v56) a + S1x8x128.size a ≤ S4096x8x128.size a := fun i v56 k0_hw11 k0_h2 => k0_hw11.1 k0_h2
theorem k0_off63_inb : ∀ (i : grid0.Coords) (v56 : BitVec 32) (k0_hw11 : k0_chk11 i v56), ∀ (k0_h2 : k0_cond2 i = 1#1), ∀ a, (k0_off63 v56) a + S1x8x128.size a ≤ S4096x8x128.size a := fun i v56 k0_hw11 k0_h2 => k0_hw11.2 k0_h2

def k0_off64 (v59 : BitVec 32) : Fin 3 → Nat :=
  let v380 : Index := Scalar.indexCast v59
  let c0_277 : Index := 0#32
  let c0_278 : Index := 0#32
  ![v380.toNat, 0, 0]

def k0_chk12 (i : grid0.Coords) (v59 : BitVec 32) : Prop :=
  (∀ (k0_h2 : k0_cond2 i = 1#1), ∀ a, (k0_off38 v59) a + S1x8x128.size a ≤ S4096x8x128.size a) ∧
  (∀ (k0_h2 : k0_cond2 i = 1#1), ∀ a, (k0_off64 v59) a + S1x8x128.size a ≤ S4096x8x128.size a)
theorem k0_off38_inb : ∀ (i : grid0.Coords) (v59 : BitVec 32) (k0_hw12 : k0_chk12 i v59), ∀ (k0_h2 : k0_cond2 i = 1#1), ∀ a, (k0_off38 v59) a + S1x8x128.size a ≤ S4096x8x128.size a := fun i v59 k0_hw12 k0_h2 => k0_hw12.1 k0_h2
theorem k0_off64_inb : ∀ (i : grid0.Coords) (v59 : BitVec 32) (k0_hw12 : k0_chk12 i v59), ∀ (k0_h2 : k0_cond2 i = 1#1), ∀ a, (k0_off64 v59) a + S1x8x128.size a ≤ S4096x8x128.size a := fun i v59 k0_hw12 k0_h2 => k0_hw12.2 k0_h2

def k0_off65 (v62 : BitVec 32) : Fin 3 → Nat :=
  let v386 : Index := Scalar.indexCast v62
  let c0_282 : Index := 0#32
  let c0_283 : Index := 0#32
  ![v386.toNat, 0, 0]

def k0_chk13 (i : grid0.Coords) (v62 : BitVec 32) : Prop :=
  (∀ (k0_h2 : k0_cond2 i = 1#1), ∀ a, (k0_off41 v62) a + S1x8x128.size a ≤ S4096x8x128.size a) ∧
  (∀ (k0_h2 : k0_cond2 i = 1#1), ∀ a, (k0_off65 v62) a + S1x8x128.size a ≤ S4096x8x128.size a)
theorem k0_off41_inb : ∀ (i : grid0.Coords) (v62 : BitVec 32) (k0_hw13 : k0_chk13 i v62), ∀ (k0_h2 : k0_cond2 i = 1#1), ∀ a, (k0_off41 v62) a + S1x8x128.size a ≤ S4096x8x128.size a := fun i v62 k0_hw13 k0_h2 => k0_hw13.1 k0_h2
theorem k0_off65_inb : ∀ (i : grid0.Coords) (v62 : BitVec 32) (k0_hw13 : k0_chk13 i v62), ∀ (k0_h2 : k0_cond2 i = 1#1), ∀ a, (k0_off65 v62) a + S1x8x128.size a ≤ S4096x8x128.size a := fun i v62 k0_hw13 k0_h2 => k0_hw13.2 k0_h2

def k0_off66 (v65 : BitVec 32) : Fin 3 → Nat :=
  let v392 : Index := Scalar.indexCast v65
  let c0_287 : Index := 0#32
  let c0_288 : Index := 0#32
  ![v392.toNat, 0, 0]

def k0_chk14 (i : grid0.Coords) (v65 : BitVec 32) : Prop :=
  (∀ (k0_h2 : k0_cond2 i = 1#1), ∀ a, (k0_off44 v65) a + S1x8x128.size a ≤ S4096x8x128.size a) ∧
  (∀ (k0_h2 : k0_cond2 i = 1#1), ∀ a, (k0_off66 v65) a + S1x8x128.size a ≤ S4096x8x128.size a)
theorem k0_off44_inb : ∀ (i : grid0.Coords) (v65 : BitVec 32) (k0_hw14 : k0_chk14 i v65), ∀ (k0_h2 : k0_cond2 i = 1#1), ∀ a, (k0_off44 v65) a + S1x8x128.size a ≤ S4096x8x128.size a := fun i v65 k0_hw14 k0_h2 => k0_hw14.1 k0_h2
theorem k0_off66_inb : ∀ (i : grid0.Coords) (v65 : BitVec 32) (k0_hw14 : k0_chk14 i v65), ∀ (k0_h2 : k0_cond2 i = 1#1), ∀ a, (k0_off66 v65) a + S1x8x128.size a ≤ S4096x8x128.size a := fun i v65 k0_hw14 k0_h2 => k0_hw14.2 k0_h2

def k0_off67 (v68 : BitVec 32) : Fin 3 → Nat :=
  let v398 : Index := Scalar.indexCast v68
  let c0_292 : Index := 0#32
  let c0_293 : Index := 0#32
  ![v398.toNat, 0, 0]

def k0_chk15 (i : grid0.Coords) (v68 : BitVec 32) : Prop :=
  (∀ (k0_h2 : k0_cond2 i = 1#1), ∀ a, (k0_off47 v68) a + S1x8x128.size a ≤ S4096x8x128.size a) ∧
  (∀ (k0_h2 : k0_cond2 i = 1#1), ∀ a, (k0_off67 v68) a + S1x8x128.size a ≤ S4096x8x128.size a)
theorem k0_off47_inb : ∀ (i : grid0.Coords) (v68 : BitVec 32) (k0_hw15 : k0_chk15 i v68), ∀ (k0_h2 : k0_cond2 i = 1#1), ∀ a, (k0_off47 v68) a + S1x8x128.size a ≤ S4096x8x128.size a := fun i v68 k0_hw15 k0_h2 => k0_hw15.1 k0_h2
theorem k0_off67_inb : ∀ (i : grid0.Coords) (v68 : BitVec 32) (k0_hw15 : k0_chk15 i v68), ∀ (k0_h2 : k0_cond2 i = 1#1), ∀ a, (k0_off67 v68) a + S1x8x128.size a ≤ S4096x8x128.size a := fun i v68 k0_hw15 k0_h2 => k0_hw15.2 k0_h2

@[reducible] def k0_t2_loop : Scf.Loop 32 :=
  let c0_i32_12 : BitVec 32 := 0#32
  let c32_i32_13 : BitVec 32 := 32#32
  let v22 : BitVec 32 := Scalar.addi c0_i32_12 c32_i32_13
  let c1_i32_14 : BitVec 32 := 1#32
  ⟨c0_i32_12, v22, c1_i32_14⟩
def k0_off68 (k0_t2 : Fin k0_t2_loop.trips) (c0_i32_16 : BitVec 32) : Fin 3 → Nat :=
  let c0 : Index := 0#32
  let c0_17 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let v24 : BitVec 32 := Scalar.addi v23 c0_i32_16
  let v25 : Index := Scalar.indexCast v24
  ![0, 0, v25.toNat]
def k0_off69 (k0_t2 : Fin k0_t2_loop.trips) (c0_i32_52 : BitVec 32) : Fin 4 → Nat :=
  let c0_53 : Index := 0#32
  let c0_i32_12 : BitVec 32 := 0#32
  let c1_i32_14 : BitVec 32 := 1#32
  let arg13 : BitVec 32 := Scf.iv c0_i32_12 c1_i32_14 k0_t2
  let c8_i32_51 : BitVec 32 := 8#32
  let v72 : BitVec 32 := Scalar.muli arg13 c8_i32_51
  let v73 : BitVec 32 := Scalar.addi v72 c0_i32_52
  let v74 : Index := Scalar.indexCast v73
  let c0_54 : Index := 0#32
  let c0_55 : Index := 0#32
  ![0, v74.toNat, 0, 0]
def k0_off70 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_91 : BitVec 32 := 0#32
  let c0_i32_92 : BitVec 32 := 0#32
  let c0_i32_93 : BitVec 32 := 0#32
  ![v9.toNat, 0, 0, 0]
def k0_off71 (v26 : BitVec 32) : Fin 3 → Nat :=
  let v138 : Index := Scalar.indexCast v26
  let c0_94 : Index := 0#32
  let c0_95 : Index := 0#32
  ![v138.toNat, 0, 0]

def k0_off72 (k0_t2 : Fin k0_t2_loop.trips) : Fin 3 → Nat :=
  let c0_97 : Index := 0#32
  let c0_98 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c0_i32_96 : BitVec 32 := 0#32
  let v141 : BitVec 32 := Scalar.addi v23 c0_i32_96
  let v142 : Index := Scalar.indexCast v141
  ![0, 0, v142.toNat]
def k0_off73 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_99 : BitVec 32 := 0#32
  let c0_i32_100 : BitVec 32 := 0#32
  let c0_i32_101 : BitVec 32 := 0#32
  ![v9.toNat, 0, 0, 0]
def k0_off74 (v29 : BitVec 32) : Fin 3 → Nat :=
  let v149 : Index := Scalar.indexCast v29
  let c0_102 : Index := 0#32
  let c0_103 : Index := 0#32
  ![v149.toNat, 0, 0]

def k0_off75 (k0_t2 : Fin k0_t2_loop.trips) : Fin 3 → Nat :=
  let c0_105 : Index := 0#32
  let c0_106 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c1_i32_104 : BitVec 32 := 1#32
  let v152 : BitVec 32 := Scalar.addi v23 c1_i32_104
  let v153 : Index := Scalar.indexCast v152
  ![0, 0, v153.toNat]
def k0_off76 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_107 : BitVec 32 := 0#32
  let c0_i32_108 : BitVec 32 := 0#32
  let c0_i32_109 : BitVec 32 := 0#32
  ![v9.toNat, 0, 0, 0]
def k0_off77 (v32 : BitVec 32) : Fin 3 → Nat :=
  let v160 : Index := Scalar.indexCast v32
  let c0_110 : Index := 0#32
  let c0_111 : Index := 0#32
  ![v160.toNat, 0, 0]

def k0_off78 (k0_t2 : Fin k0_t2_loop.trips) : Fin 3 → Nat :=
  let c0_113 : Index := 0#32
  let c0_114 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c2_i32_112 : BitVec 32 := 2#32
  let v163 : BitVec 32 := Scalar.addi v23 c2_i32_112
  let v164 : Index := Scalar.indexCast v163
  ![0, 0, v164.toNat]
def k0_off79 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_115 : BitVec 32 := 0#32
  let c0_i32_116 : BitVec 32 := 0#32
  let c0_i32_117 : BitVec 32 := 0#32
  ![v9.toNat, 0, 0, 0]
def k0_off80 (v35 : BitVec 32) : Fin 3 → Nat :=
  let v171 : Index := Scalar.indexCast v35
  let c0_118 : Index := 0#32
  let c0_119 : Index := 0#32
  ![v171.toNat, 0, 0]

def k0_off81 (k0_t2 : Fin k0_t2_loop.trips) : Fin 3 → Nat :=
  let c0_121 : Index := 0#32
  let c0_122 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c3_i32_120 : BitVec 32 := 3#32
  let v174 : BitVec 32 := Scalar.addi v23 c3_i32_120
  let v175 : Index := Scalar.indexCast v174
  ![0, 0, v175.toNat]
def k0_off82 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_123 : BitVec 32 := 0#32
  let c0_i32_124 : BitVec 32 := 0#32
  let c0_i32_125 : BitVec 32 := 0#32
  ![v9.toNat, 0, 0, 0]
def k0_off83 (v38 : BitVec 32) : Fin 3 → Nat :=
  let v182 : Index := Scalar.indexCast v38
  let c0_126 : Index := 0#32
  let c0_127 : Index := 0#32
  ![v182.toNat, 0, 0]

def k0_off84 (k0_t2 : Fin k0_t2_loop.trips) : Fin 3 → Nat :=
  let c0_129 : Index := 0#32
  let c0_130 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c4_i32_128 : BitVec 32 := 4#32
  let v185 : BitVec 32 := Scalar.addi v23 c4_i32_128
  let v186 : Index := Scalar.indexCast v185
  ![0, 0, v186.toNat]
def k0_off85 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_131 : BitVec 32 := 0#32
  let c0_i32_132 : BitVec 32 := 0#32
  let c0_i32_133 : BitVec 32 := 0#32
  ![v9.toNat, 0, 0, 0]
def k0_off86 (v41 : BitVec 32) : Fin 3 → Nat :=
  let v193 : Index := Scalar.indexCast v41
  let c0_134 : Index := 0#32
  let c0_135 : Index := 0#32
  ![v193.toNat, 0, 0]

def k0_off87 (k0_t2 : Fin k0_t2_loop.trips) : Fin 3 → Nat :=
  let c0_137 : Index := 0#32
  let c0_138 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c5_i32_136 : BitVec 32 := 5#32
  let v196 : BitVec 32 := Scalar.addi v23 c5_i32_136
  let v197 : Index := Scalar.indexCast v196
  ![0, 0, v197.toNat]
def k0_off88 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_139 : BitVec 32 := 0#32
  let c0_i32_140 : BitVec 32 := 0#32
  let c0_i32_141 : BitVec 32 := 0#32
  ![v9.toNat, 0, 0, 0]
def k0_off89 (v44 : BitVec 32) : Fin 3 → Nat :=
  let v204 : Index := Scalar.indexCast v44
  let c0_142 : Index := 0#32
  let c0_143 : Index := 0#32
  ![v204.toNat, 0, 0]

def k0_off90 (k0_t2 : Fin k0_t2_loop.trips) : Fin 3 → Nat :=
  let c0_145 : Index := 0#32
  let c0_146 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c6_i32_144 : BitVec 32 := 6#32
  let v207 : BitVec 32 := Scalar.addi v23 c6_i32_144
  let v208 : Index := Scalar.indexCast v207
  ![0, 0, v208.toNat]
def k0_off91 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_147 : BitVec 32 := 0#32
  let c0_i32_148 : BitVec 32 := 0#32
  let c0_i32_149 : BitVec 32 := 0#32
  ![v9.toNat, 0, 0, 0]
def k0_off92 (v47 : BitVec 32) : Fin 3 → Nat :=
  let v215 : Index := Scalar.indexCast v47
  let c0_150 : Index := 0#32
  let c0_151 : Index := 0#32
  ![v215.toNat, 0, 0]

def k0_off93 (k0_t2 : Fin k0_t2_loop.trips) : Fin 3 → Nat :=
  let c0_153 : Index := 0#32
  let c0_154 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c7_i32_152 : BitVec 32 := 7#32
  let v218 : BitVec 32 := Scalar.addi v23 c7_i32_152
  let v219 : Index := Scalar.indexCast v218
  ![0, 0, v219.toNat]
def k0_off94 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_155 : BitVec 32 := 0#32
  let c0_i32_156 : BitVec 32 := 0#32
  let c0_i32_157 : BitVec 32 := 0#32
  ![v9.toNat, 0, 0, 0]
def k0_off95 (v50 : BitVec 32) : Fin 3 → Nat :=
  let v226 : Index := Scalar.indexCast v50
  let c0_158 : Index := 0#32
  let c0_159 : Index := 0#32
  ![v226.toNat, 0, 0]

def k0_off96 (k0_t2 : Fin k0_t2_loop.trips) : Fin 3 → Nat :=
  let c0_161 : Index := 0#32
  let c0_162 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c8_i32_160 : BitVec 32 := 8#32
  let v229 : BitVec 32 := Scalar.addi v23 c8_i32_160
  let v230 : Index := Scalar.indexCast v229
  ![0, 0, v230.toNat]
def k0_off97 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_163 : BitVec 32 := 0#32
  let c0_i32_164 : BitVec 32 := 0#32
  let c0_i32_165 : BitVec 32 := 0#32
  ![v9.toNat, 0, 0, 0]
def k0_off98 (v53 : BitVec 32) : Fin 3 → Nat :=
  let v237 : Index := Scalar.indexCast v53
  let c0_166 : Index := 0#32
  let c0_167 : Index := 0#32
  ![v237.toNat, 0, 0]

def k0_off99 (k0_t2 : Fin k0_t2_loop.trips) : Fin 3 → Nat :=
  let c0_169 : Index := 0#32
  let c0_170 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c9_i32_168 : BitVec 32 := 9#32
  let v240 : BitVec 32 := Scalar.addi v23 c9_i32_168
  let v241 : Index := Scalar.indexCast v240
  ![0, 0, v241.toNat]
def k0_off100 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_171 : BitVec 32 := 0#32
  let c0_i32_172 : BitVec 32 := 0#32
  let c0_i32_173 : BitVec 32 := 0#32
  ![v9.toNat, 0, 0, 0]
def k0_off101 (v56 : BitVec 32) : Fin 3 → Nat :=
  let v248 : Index := Scalar.indexCast v56
  let c0_174 : Index := 0#32
  let c0_175 : Index := 0#32
  ![v248.toNat, 0, 0]

def k0_off102 (k0_t2 : Fin k0_t2_loop.trips) : Fin 3 → Nat :=
  let c0_177 : Index := 0#32
  let c0_178 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c10_i32_176 : BitVec 32 := 10#32
  let v251 : BitVec 32 := Scalar.addi v23 c10_i32_176
  let v252 : Index := Scalar.indexCast v251
  ![0, 0, v252.toNat]
def k0_off103 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_179 : BitVec 32 := 0#32
  let c0_i32_180 : BitVec 32 := 0#32
  let c0_i32_181 : BitVec 32 := 0#32
  ![v9.toNat, 0, 0, 0]
def k0_off104 (v59 : BitVec 32) : Fin 3 → Nat :=
  let v259 : Index := Scalar.indexCast v59
  let c0_182 : Index := 0#32
  let c0_183 : Index := 0#32
  ![v259.toNat, 0, 0]

def k0_off105 (k0_t2 : Fin k0_t2_loop.trips) : Fin 3 → Nat :=
  let c0_185 : Index := 0#32
  let c0_186 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c11_i32_184 : BitVec 32 := 11#32
  let v262 : BitVec 32 := Scalar.addi v23 c11_i32_184
  let v263 : Index := Scalar.indexCast v262
  ![0, 0, v263.toNat]
def k0_off106 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_187 : BitVec 32 := 0#32
  let c0_i32_188 : BitVec 32 := 0#32
  let c0_i32_189 : BitVec 32 := 0#32
  ![v9.toNat, 0, 0, 0]
def k0_off107 (v62 : BitVec 32) : Fin 3 → Nat :=
  let v270 : Index := Scalar.indexCast v62
  let c0_190 : Index := 0#32
  let c0_191 : Index := 0#32
  ![v270.toNat, 0, 0]

def k0_off108 (k0_t2 : Fin k0_t2_loop.trips) : Fin 3 → Nat :=
  let c0_193 : Index := 0#32
  let c0_194 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c12_i32_192 : BitVec 32 := 12#32
  let v273 : BitVec 32 := Scalar.addi v23 c12_i32_192
  let v274 : Index := Scalar.indexCast v273
  ![0, 0, v274.toNat]
def k0_off109 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_195 : BitVec 32 := 0#32
  let c0_i32_196 : BitVec 32 := 0#32
  let c0_i32_197 : BitVec 32 := 0#32
  ![v9.toNat, 0, 0, 0]
def k0_off110 (v65 : BitVec 32) : Fin 3 → Nat :=
  let v281 : Index := Scalar.indexCast v65
  let c0_198 : Index := 0#32
  let c0_199 : Index := 0#32
  ![v281.toNat, 0, 0]

def k0_off111 (k0_t2 : Fin k0_t2_loop.trips) : Fin 3 → Nat :=
  let c0_201 : Index := 0#32
  let c0_202 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c13_i32_200 : BitVec 32 := 13#32
  let v284 : BitVec 32 := Scalar.addi v23 c13_i32_200
  let v285 : Index := Scalar.indexCast v284
  ![0, 0, v285.toNat]
def k0_off112 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_203 : BitVec 32 := 0#32
  let c0_i32_204 : BitVec 32 := 0#32
  let c0_i32_205 : BitVec 32 := 0#32
  ![v9.toNat, 0, 0, 0]
def k0_off113 (v68 : BitVec 32) : Fin 3 → Nat :=
  let v292 : Index := Scalar.indexCast v68
  let c0_206 : Index := 0#32
  let c0_207 : Index := 0#32
  ![v292.toNat, 0, 0]

def k0_off114 (k0_t2 : Fin k0_t2_loop.trips) : Fin 3 → Nat :=
  let c0_209 : Index := 0#32
  let c0_210 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c14_i32_208 : BitVec 32 := 14#32
  let v295 : BitVec 32 := Scalar.addi v23 c14_i32_208
  let v296 : Index := Scalar.indexCast v295
  ![0, 0, v296.toNat]
def k0_off115 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_211 : BitVec 32 := 0#32
  let c0_i32_212 : BitVec 32 := 0#32
  let c0_i32_213 : BitVec 32 := 0#32
  ![v9.toNat, 0, 0, 0]
def k0_off116 (v71 : BitVec 32) : Fin 3 → Nat :=
  let v303 : Index := Scalar.indexCast v71
  let c0_214 : Index := 0#32
  let c0_215 : Index := 0#32
  ![v303.toNat, 0, 0]

def k0_chk32 (i : grid0.Coords) (v71 : BitVec 32) : Prop :=
  (∀ (k0_h2 : k0_cond2 i = 1#1), ∀ a, (k0_off116 v71) a + S1x8x128.size a ≤ S4096x8x128.size a)
theorem k0_off116_inb : ∀ (i : grid0.Coords) (v71 : BitVec 32) (k0_hw32 : k0_chk32 i v71), ∀ (k0_h2 : k0_cond2 i = 1#1), ∀ a, (k0_off116 v71) a + S1x8x128.size a ≤ S4096x8x128.size a := fun i v71 k0_hw32 k0_h2 => k0_hw32 k0_h2

def k0_off117 (k0_t2 : Fin k0_t2_loop.trips) : Fin 3 → Nat :=
  let c0_217 : Index := 0#32
  let c0_218 : Index := 0#32
  let c0_i32_12 : BitVec 32 := 0#32
  let c1_i32_14 : BitVec 32 := 1#32
  let arg13 : BitVec 32 := Scf.iv c0_i32_12 c1_i32_14 k0_t2
  let c16_i32 : BitVec 32 := 16#32
  let v23 : BitVec 32 := Scalar.muli arg13 c16_i32
  let c15_i32_216 : BitVec 32 := 15#32
  let v306 : BitVec 32 := Scalar.addi v23 c15_i32_216
  let v307 : Index := Scalar.indexCast v306
  ![0, 0, v307.toNat]
def k0_off118 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_219 : BitVec 32 := 0#32
  let c0_i32_220 : BitVec 32 := 0#32
  let c0_i32_221 : BitVec 32 := 0#32
  ![v9.toNat, 0, 0, 0]
def k0_off119 (v26 : BitVec 32) : Fin 3 → Nat :=
  let v314 : Index := Scalar.indexCast v26
  let c0_222 : Index := 0#32
  let c0_223 : Index := 0#32
  ![v314.toNat, 0, 0]

def k0_chk17 (i : grid0.Coords) (v26 : BitVec 32) : Prop :=
  (∀ (k0_h2 : k0_cond2 i = 1#1), ∀ a, (k0_off71 v26) a + S1x8x128.size a ≤ S4096x8x128.size a) ∧
  (∀ (k0_h2 : k0_cond2 i = 1#1), ∀ a, (k0_off119 v26) a + S1x8x128.size a ≤ S4096x8x128.size a)
theorem k0_off71_inb : ∀ (i : grid0.Coords) (v26 : BitVec 32) (k0_hw17 : k0_chk17 i v26), ∀ (k0_h2 : k0_cond2 i = 1#1), ∀ a, (k0_off71 v26) a + S1x8x128.size a ≤ S4096x8x128.size a := fun i v26 k0_hw17 k0_h2 => k0_hw17.1 k0_h2
theorem k0_off119_inb : ∀ (i : grid0.Coords) (v26 : BitVec 32) (k0_hw17 : k0_chk17 i v26), ∀ (k0_h2 : k0_cond2 i = 1#1), ∀ a, (k0_off119 v26) a + S1x8x128.size a ≤ S4096x8x128.size a := fun i v26 k0_hw17 k0_h2 => k0_hw17.2 k0_h2

def k0_off120 (v29 : BitVec 32) : Fin 3 → Nat :=
  let v320 : Index := Scalar.indexCast v29
  let c0_227 : Index := 0#32
  let c0_228 : Index := 0#32
  ![v320.toNat, 0, 0]

def k0_chk18 (i : grid0.Coords) (v29 : BitVec 32) : Prop :=
  (∀ (k0_h2 : k0_cond2 i = 1#1), ∀ a, (k0_off74 v29) a + S1x8x128.size a ≤ S4096x8x128.size a) ∧
  (∀ (k0_h2 : k0_cond2 i = 1#1), ∀ a, (k0_off120 v29) a + S1x8x128.size a ≤ S4096x8x128.size a)
theorem k0_off74_inb : ∀ (i : grid0.Coords) (v29 : BitVec 32) (k0_hw18 : k0_chk18 i v29), ∀ (k0_h2 : k0_cond2 i = 1#1), ∀ a, (k0_off74 v29) a + S1x8x128.size a ≤ S4096x8x128.size a := fun i v29 k0_hw18 k0_h2 => k0_hw18.1 k0_h2
theorem k0_off120_inb : ∀ (i : grid0.Coords) (v29 : BitVec 32) (k0_hw18 : k0_chk18 i v29), ∀ (k0_h2 : k0_cond2 i = 1#1), ∀ a, (k0_off120 v29) a + S1x8x128.size a ≤ S4096x8x128.size a := fun i v29 k0_hw18 k0_h2 => k0_hw18.2 k0_h2

def k0_off121 (v32 : BitVec 32) : Fin 3 → Nat :=
  let v326 : Index := Scalar.indexCast v32
  let c0_232 : Index := 0#32
  let c0_233 : Index := 0#32
  ![v326.toNat, 0, 0]

def k0_chk19 (i : grid0.Coords) (v32 : BitVec 32) : Prop :=
  (∀ (k0_h2 : k0_cond2 i = 1#1), ∀ a, (k0_off77 v32) a + S1x8x128.size a ≤ S4096x8x128.size a) ∧
  (∀ (k0_h2 : k0_cond2 i = 1#1), ∀ a, (k0_off121 v32) a + S1x8x128.size a ≤ S4096x8x128.size a)
theorem k0_off77_inb : ∀ (i : grid0.Coords) (v32 : BitVec 32) (k0_hw19 : k0_chk19 i v32), ∀ (k0_h2 : k0_cond2 i = 1#1), ∀ a, (k0_off77 v32) a + S1x8x128.size a ≤ S4096x8x128.size a := fun i v32 k0_hw19 k0_h2 => k0_hw19.1 k0_h2
theorem k0_off121_inb : ∀ (i : grid0.Coords) (v32 : BitVec 32) (k0_hw19 : k0_chk19 i v32), ∀ (k0_h2 : k0_cond2 i = 1#1), ∀ a, (k0_off121 v32) a + S1x8x128.size a ≤ S4096x8x128.size a := fun i v32 k0_hw19 k0_h2 => k0_hw19.2 k0_h2

def k0_off122 (v35 : BitVec 32) : Fin 3 → Nat :=
  let v332 : Index := Scalar.indexCast v35
  let c0_237 : Index := 0#32
  let c0_238 : Index := 0#32
  ![v332.toNat, 0, 0]

def k0_chk20 (i : grid0.Coords) (v35 : BitVec 32) : Prop :=
  (∀ (k0_h2 : k0_cond2 i = 1#1), ∀ a, (k0_off80 v35) a + S1x8x128.size a ≤ S4096x8x128.size a) ∧
  (∀ (k0_h2 : k0_cond2 i = 1#1), ∀ a, (k0_off122 v35) a + S1x8x128.size a ≤ S4096x8x128.size a)
theorem k0_off80_inb : ∀ (i : grid0.Coords) (v35 : BitVec 32) (k0_hw20 : k0_chk20 i v35), ∀ (k0_h2 : k0_cond2 i = 1#1), ∀ a, (k0_off80 v35) a + S1x8x128.size a ≤ S4096x8x128.size a := fun i v35 k0_hw20 k0_h2 => k0_hw20.1 k0_h2
theorem k0_off122_inb : ∀ (i : grid0.Coords) (v35 : BitVec 32) (k0_hw20 : k0_chk20 i v35), ∀ (k0_h2 : k0_cond2 i = 1#1), ∀ a, (k0_off122 v35) a + S1x8x128.size a ≤ S4096x8x128.size a := fun i v35 k0_hw20 k0_h2 => k0_hw20.2 k0_h2

def k0_off123 (v38 : BitVec 32) : Fin 3 → Nat :=
  let v338 : Index := Scalar.indexCast v38
  let c0_242 : Index := 0#32
  let c0_243 : Index := 0#32
  ![v338.toNat, 0, 0]

def k0_chk21 (i : grid0.Coords) (v38 : BitVec 32) : Prop :=
  (∀ (k0_h2 : k0_cond2 i = 1#1), ∀ a, (k0_off83 v38) a + S1x8x128.size a ≤ S4096x8x128.size a) ∧
  (∀ (k0_h2 : k0_cond2 i = 1#1), ∀ a, (k0_off123 v38) a + S1x8x128.size a ≤ S4096x8x128.size a)
theorem k0_off83_inb : ∀ (i : grid0.Coords) (v38 : BitVec 32) (k0_hw21 : k0_chk21 i v38), ∀ (k0_h2 : k0_cond2 i = 1#1), ∀ a, (k0_off83 v38) a + S1x8x128.size a ≤ S4096x8x128.size a := fun i v38 k0_hw21 k0_h2 => k0_hw21.1 k0_h2
theorem k0_off123_inb : ∀ (i : grid0.Coords) (v38 : BitVec 32) (k0_hw21 : k0_chk21 i v38), ∀ (k0_h2 : k0_cond2 i = 1#1), ∀ a, (k0_off123 v38) a + S1x8x128.size a ≤ S4096x8x128.size a := fun i v38 k0_hw21 k0_h2 => k0_hw21.2 k0_h2

def k0_off124 (v41 : BitVec 32) : Fin 3 → Nat :=
  let v344 : Index := Scalar.indexCast v41
  let c0_247 : Index := 0#32
  let c0_248 : Index := 0#32
  ![v344.toNat, 0, 0]

def k0_chk22 (i : grid0.Coords) (v41 : BitVec 32) : Prop :=
  (∀ (k0_h2 : k0_cond2 i = 1#1), ∀ a, (k0_off86 v41) a + S1x8x128.size a ≤ S4096x8x128.size a) ∧
  (∀ (k0_h2 : k0_cond2 i = 1#1), ∀ a, (k0_off124 v41) a + S1x8x128.size a ≤ S4096x8x128.size a)
theorem k0_off86_inb : ∀ (i : grid0.Coords) (v41 : BitVec 32) (k0_hw22 : k0_chk22 i v41), ∀ (k0_h2 : k0_cond2 i = 1#1), ∀ a, (k0_off86 v41) a + S1x8x128.size a ≤ S4096x8x128.size a := fun i v41 k0_hw22 k0_h2 => k0_hw22.1 k0_h2
theorem k0_off124_inb : ∀ (i : grid0.Coords) (v41 : BitVec 32) (k0_hw22 : k0_chk22 i v41), ∀ (k0_h2 : k0_cond2 i = 1#1), ∀ a, (k0_off124 v41) a + S1x8x128.size a ≤ S4096x8x128.size a := fun i v41 k0_hw22 k0_h2 => k0_hw22.2 k0_h2

def k0_off125 (v44 : BitVec 32) : Fin 3 → Nat :=
  let v350 : Index := Scalar.indexCast v44
  let c0_252 : Index := 0#32
  let c0_253 : Index := 0#32
  ![v350.toNat, 0, 0]

def k0_chk23 (i : grid0.Coords) (v44 : BitVec 32) : Prop :=
  (∀ (k0_h2 : k0_cond2 i = 1#1), ∀ a, (k0_off89 v44) a + S1x8x128.size a ≤ S4096x8x128.size a) ∧
  (∀ (k0_h2 : k0_cond2 i = 1#1), ∀ a, (k0_off125 v44) a + S1x8x128.size a ≤ S4096x8x128.size a)
theorem k0_off89_inb : ∀ (i : grid0.Coords) (v44 : BitVec 32) (k0_hw23 : k0_chk23 i v44), ∀ (k0_h2 : k0_cond2 i = 1#1), ∀ a, (k0_off89 v44) a + S1x8x128.size a ≤ S4096x8x128.size a := fun i v44 k0_hw23 k0_h2 => k0_hw23.1 k0_h2
theorem k0_off125_inb : ∀ (i : grid0.Coords) (v44 : BitVec 32) (k0_hw23 : k0_chk23 i v44), ∀ (k0_h2 : k0_cond2 i = 1#1), ∀ a, (k0_off125 v44) a + S1x8x128.size a ≤ S4096x8x128.size a := fun i v44 k0_hw23 k0_h2 => k0_hw23.2 k0_h2

def k0_off126 (v47 : BitVec 32) : Fin 3 → Nat :=
  let v356 : Index := Scalar.indexCast v47
  let c0_257 : Index := 0#32
  let c0_258 : Index := 0#32
  ![v356.toNat, 0, 0]

def k0_chk24 (i : grid0.Coords) (v47 : BitVec 32) : Prop :=
  (∀ (k0_h2 : k0_cond2 i = 1#1), ∀ a, (k0_off92 v47) a + S1x8x128.size a ≤ S4096x8x128.size a) ∧
  (∀ (k0_h2 : k0_cond2 i = 1#1), ∀ a, (k0_off126 v47) a + S1x8x128.size a ≤ S4096x8x128.size a)
theorem k0_off92_inb : ∀ (i : grid0.Coords) (v47 : BitVec 32) (k0_hw24 : k0_chk24 i v47), ∀ (k0_h2 : k0_cond2 i = 1#1), ∀ a, (k0_off92 v47) a + S1x8x128.size a ≤ S4096x8x128.size a := fun i v47 k0_hw24 k0_h2 => k0_hw24.1 k0_h2
theorem k0_off126_inb : ∀ (i : grid0.Coords) (v47 : BitVec 32) (k0_hw24 : k0_chk24 i v47), ∀ (k0_h2 : k0_cond2 i = 1#1), ∀ a, (k0_off126 v47) a + S1x8x128.size a ≤ S4096x8x128.size a := fun i v47 k0_hw24 k0_h2 => k0_hw24.2 k0_h2

def k0_off127 (v50 : BitVec 32) : Fin 3 → Nat :=
  let v362 : Index := Scalar.indexCast v50
  let c0_262 : Index := 0#32
  let c0_263 : Index := 0#32
  ![v362.toNat, 0, 0]

def k0_chk25 (i : grid0.Coords) (v50 : BitVec 32) : Prop :=
  (∀ (k0_h2 : k0_cond2 i = 1#1), ∀ a, (k0_off95 v50) a + S1x8x128.size a ≤ S4096x8x128.size a) ∧
  (∀ (k0_h2 : k0_cond2 i = 1#1), ∀ a, (k0_off127 v50) a + S1x8x128.size a ≤ S4096x8x128.size a)
theorem k0_off95_inb : ∀ (i : grid0.Coords) (v50 : BitVec 32) (k0_hw25 : k0_chk25 i v50), ∀ (k0_h2 : k0_cond2 i = 1#1), ∀ a, (k0_off95 v50) a + S1x8x128.size a ≤ S4096x8x128.size a := fun i v50 k0_hw25 k0_h2 => k0_hw25.1 k0_h2
theorem k0_off127_inb : ∀ (i : grid0.Coords) (v50 : BitVec 32) (k0_hw25 : k0_chk25 i v50), ∀ (k0_h2 : k0_cond2 i = 1#1), ∀ a, (k0_off127 v50) a + S1x8x128.size a ≤ S4096x8x128.size a := fun i v50 k0_hw25 k0_h2 => k0_hw25.2 k0_h2

def k0_off128 (v53 : BitVec 32) : Fin 3 → Nat :=
  let v368 : Index := Scalar.indexCast v53
  let c0_267 : Index := 0#32
  let c0_268 : Index := 0#32
  ![v368.toNat, 0, 0]

def k0_chk26 (i : grid0.Coords) (v53 : BitVec 32) : Prop :=
  (∀ (k0_h2 : k0_cond2 i = 1#1), ∀ a, (k0_off98 v53) a + S1x8x128.size a ≤ S4096x8x128.size a) ∧
  (∀ (k0_h2 : k0_cond2 i = 1#1), ∀ a, (k0_off128 v53) a + S1x8x128.size a ≤ S4096x8x128.size a)
theorem k0_off98_inb : ∀ (i : grid0.Coords) (v53 : BitVec 32) (k0_hw26 : k0_chk26 i v53), ∀ (k0_h2 : k0_cond2 i = 1#1), ∀ a, (k0_off98 v53) a + S1x8x128.size a ≤ S4096x8x128.size a := fun i v53 k0_hw26 k0_h2 => k0_hw26.1 k0_h2
theorem k0_off128_inb : ∀ (i : grid0.Coords) (v53 : BitVec 32) (k0_hw26 : k0_chk26 i v53), ∀ (k0_h2 : k0_cond2 i = 1#1), ∀ a, (k0_off128 v53) a + S1x8x128.size a ≤ S4096x8x128.size a := fun i v53 k0_hw26 k0_h2 => k0_hw26.2 k0_h2

def k0_off129 (v56 : BitVec 32) : Fin 3 → Nat :=
  let v374 : Index := Scalar.indexCast v56
  let c0_272 : Index := 0#32
  let c0_273 : Index := 0#32
  ![v374.toNat, 0, 0]

def k0_chk27 (i : grid0.Coords) (v56 : BitVec 32) : Prop :=
  (∀ (k0_h2 : k0_cond2 i = 1#1), ∀ a, (k0_off101 v56) a + S1x8x128.size a ≤ S4096x8x128.size a) ∧
  (∀ (k0_h2 : k0_cond2 i = 1#1), ∀ a, (k0_off129 v56) a + S1x8x128.size a ≤ S4096x8x128.size a)
theorem k0_off101_inb : ∀ (i : grid0.Coords) (v56 : BitVec 32) (k0_hw27 : k0_chk27 i v56), ∀ (k0_h2 : k0_cond2 i = 1#1), ∀ a, (k0_off101 v56) a + S1x8x128.size a ≤ S4096x8x128.size a := fun i v56 k0_hw27 k0_h2 => k0_hw27.1 k0_h2
theorem k0_off129_inb : ∀ (i : grid0.Coords) (v56 : BitVec 32) (k0_hw27 : k0_chk27 i v56), ∀ (k0_h2 : k0_cond2 i = 1#1), ∀ a, (k0_off129 v56) a + S1x8x128.size a ≤ S4096x8x128.size a := fun i v56 k0_hw27 k0_h2 => k0_hw27.2 k0_h2

def k0_off130 (v59 : BitVec 32) : Fin 3 → Nat :=
  let v380 : Index := Scalar.indexCast v59
  let c0_277 : Index := 0#32
  let c0_278 : Index := 0#32
  ![v380.toNat, 0, 0]

def k0_chk28 (i : grid0.Coords) (v59 : BitVec 32) : Prop :=
  (∀ (k0_h2 : k0_cond2 i = 1#1), ∀ a, (k0_off104 v59) a + S1x8x128.size a ≤ S4096x8x128.size a) ∧
  (∀ (k0_h2 : k0_cond2 i = 1#1), ∀ a, (k0_off130 v59) a + S1x8x128.size a ≤ S4096x8x128.size a)
theorem k0_off104_inb : ∀ (i : grid0.Coords) (v59 : BitVec 32) (k0_hw28 : k0_chk28 i v59), ∀ (k0_h2 : k0_cond2 i = 1#1), ∀ a, (k0_off104 v59) a + S1x8x128.size a ≤ S4096x8x128.size a := fun i v59 k0_hw28 k0_h2 => k0_hw28.1 k0_h2
theorem k0_off130_inb : ∀ (i : grid0.Coords) (v59 : BitVec 32) (k0_hw28 : k0_chk28 i v59), ∀ (k0_h2 : k0_cond2 i = 1#1), ∀ a, (k0_off130 v59) a + S1x8x128.size a ≤ S4096x8x128.size a := fun i v59 k0_hw28 k0_h2 => k0_hw28.2 k0_h2

def k0_off131 (v62 : BitVec 32) : Fin 3 → Nat :=
  let v386 : Index := Scalar.indexCast v62
  let c0_282 : Index := 0#32
  let c0_283 : Index := 0#32
  ![v386.toNat, 0, 0]

def k0_chk29 (i : grid0.Coords) (v62 : BitVec 32) : Prop :=
  (∀ (k0_h2 : k0_cond2 i = 1#1), ∀ a, (k0_off107 v62) a + S1x8x128.size a ≤ S4096x8x128.size a) ∧
  (∀ (k0_h2 : k0_cond2 i = 1#1), ∀ a, (k0_off131 v62) a + S1x8x128.size a ≤ S4096x8x128.size a)
theorem k0_off107_inb : ∀ (i : grid0.Coords) (v62 : BitVec 32) (k0_hw29 : k0_chk29 i v62), ∀ (k0_h2 : k0_cond2 i = 1#1), ∀ a, (k0_off107 v62) a + S1x8x128.size a ≤ S4096x8x128.size a := fun i v62 k0_hw29 k0_h2 => k0_hw29.1 k0_h2
theorem k0_off131_inb : ∀ (i : grid0.Coords) (v62 : BitVec 32) (k0_hw29 : k0_chk29 i v62), ∀ (k0_h2 : k0_cond2 i = 1#1), ∀ a, (k0_off131 v62) a + S1x8x128.size a ≤ S4096x8x128.size a := fun i v62 k0_hw29 k0_h2 => k0_hw29.2 k0_h2

def k0_off132 (v65 : BitVec 32) : Fin 3 → Nat :=
  let v392 : Index := Scalar.indexCast v65
  let c0_287 : Index := 0#32
  let c0_288 : Index := 0#32
  ![v392.toNat, 0, 0]

def k0_chk30 (i : grid0.Coords) (v65 : BitVec 32) : Prop :=
  (∀ (k0_h2 : k0_cond2 i = 1#1), ∀ a, (k0_off110 v65) a + S1x8x128.size a ≤ S4096x8x128.size a) ∧
  (∀ (k0_h2 : k0_cond2 i = 1#1), ∀ a, (k0_off132 v65) a + S1x8x128.size a ≤ S4096x8x128.size a)
theorem k0_off110_inb : ∀ (i : grid0.Coords) (v65 : BitVec 32) (k0_hw30 : k0_chk30 i v65), ∀ (k0_h2 : k0_cond2 i = 1#1), ∀ a, (k0_off110 v65) a + S1x8x128.size a ≤ S4096x8x128.size a := fun i v65 k0_hw30 k0_h2 => k0_hw30.1 k0_h2
theorem k0_off132_inb : ∀ (i : grid0.Coords) (v65 : BitVec 32) (k0_hw30 : k0_chk30 i v65), ∀ (k0_h2 : k0_cond2 i = 1#1), ∀ a, (k0_off132 v65) a + S1x8x128.size a ≤ S4096x8x128.size a := fun i v65 k0_hw30 k0_h2 => k0_hw30.2 k0_h2

def k0_off133 (v68 : BitVec 32) : Fin 3 → Nat :=
  let v398 : Index := Scalar.indexCast v68
  let c0_292 : Index := 0#32
  let c0_293 : Index := 0#32
  ![v398.toNat, 0, 0]

def k0_chk31 (i : grid0.Coords) (v68 : BitVec 32) : Prop :=
  (∀ (k0_h2 : k0_cond2 i = 1#1), ∀ a, (k0_off113 v68) a + S1x8x128.size a ≤ S4096x8x128.size a) ∧
  (∀ (k0_h2 : k0_cond2 i = 1#1), ∀ a, (k0_off133 v68) a + S1x8x128.size a ≤ S4096x8x128.size a)
theorem k0_off113_inb : ∀ (i : grid0.Coords) (v68 : BitVec 32) (k0_hw31 : k0_chk31 i v68), ∀ (k0_h2 : k0_cond2 i = 1#1), ∀ a, (k0_off113 v68) a + S1x8x128.size a ≤ S4096x8x128.size a := fun i v68 k0_hw31 k0_h2 => k0_hw31.1 k0_h2
theorem k0_off133_inb : ∀ (i : grid0.Coords) (v68 : BitVec 32) (k0_hw31 : k0_chk31 i v68), ∀ (k0_h2 : k0_cond2 i = 1#1), ∀ a, (k0_off133 v68) a + S1x8x128.size a ≤ S4096x8x128.size a := fun i v68 k0_hw31 k0_h2 => k0_hw31.2 k0_h2

def k0_cond3 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off134 (i : grid0.Coords) : Fin 4 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : BitVec 32 := Scalar.subi c1_i32_9 v9
  let v24 : Index := Scalar.indexCast v21
  let arg1 : BitVec 32 := BitVec.ofNat 32 (i 1).val
  let c512_i32 : BitVec 32 := 512#32
  let v22 : BitVec 32 := Scalar.muli arg1 c512_i32
  let v23 : BitVec 32 := v22
  let v25 : Index := Scalar.indexCast v23
  let c0 : Index := 0#32
  let c0_10 : Index := 0#32
  ![v24.toNat, v25.toNat, 0, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32_0 : BitVec 32 := 0#32
  let c0_i32_1 : BitVec 32 := 0#32
  let c0_i32_2 : BitVec 32 := 0#32
  ![v4.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32 : BitVec 32 := 0#32
  let c0_i32_0 : BitVec 32 := 0#32
  let c0_i32_1 : BitVec 32 := 0#32
  ![v4.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32_0 : BitVec 32 := 0#32
  let c0_i32_1 : BitVec 32 := 0#32
  let c0_i32_2 : BitVec 32 := 0#32
  ![v4.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32 : BitVec 32 := 0#32
  let c0_i32_0 : BitVec 32 := 0#32
  let c0_i32_1 : BitVec 32 := 0#32
  ![v4.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c8_i32 : BitVec 32 := 8#32
  let v2 : BitVec 32 := Scalar.muli v1 c8_i32
  let c7_i32 : BitVec 32 := 7#32
  let v3 : BitVec 32 := Scalar.minsi arg0 c7_i32
  let v4 : BitVec 32 := Scalar.addi v2 v3
  let c0_i32 : BitVec 32 := 0#32
  let c0_i32_0 : BitVec 32 := 0#32
  let c0_i32_1 : BitVec 32 := 0#32
  let c0_i32_2 : BitVec 32 := 0#32
  ![v4.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .smem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x16x512 : Shape := ⟨3, ![8, 16, 512]⟩
abbrev S128x256x16x128 : Shape := ⟨4, ![128, 256, 16, 128]⟩
abbrev S8x4096x1024 : Shape := ⟨3, ![8, 4096, 1024]⟩
abbrev S8x1x1024 : Shape := ⟨3, ![8, 1, 1024]⟩
abbrev S1x1024 : Shape := ⟨2, ![1, 1024]⟩
abbrev S16x8x512x1024 : Shape := ⟨4, ![16, 8, 512, 1024]⟩
abbrev S8x16x512x1024 : Shape := ⟨4, ![8, 16, 512, 1024]⟩
abbrev S8x16x512x1 : Shape := ⟨4, ![8, 16, 512, 1]⟩
abbrev S_ : Shape := ⟨0, ![]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x16x512, .i32⟩
  | .hbm, ⟨1, _⟩ => ⟨S8x16x512, .f32⟩
  | .hbm, ⟨2, _⟩ => ⟨S128x256x16x128, .bf16⟩
  | .hbm, ⟨3, _⟩ => ⟨S8x4096x1024, .f32⟩
  | .hbm, ⟨4, _⟩ => ⟨S8x1x1024, .f32⟩
  | .hbm, ⟨5, _⟩ => ⟨S1x1024, .f32⟩
  | .hbm, ⟨6, _⟩ => ⟨S128x256x16x128, .f32⟩
  | .hbm, ⟨7, _⟩ => ⟨S16x8x512x1024, .f32⟩
  | .hbm, ⟨8, _⟩ => ⟨S8x16x512x1024, .f32⟩
  | .hbm, ⟨9, _⟩ => ⟨S8x16x512x1, .f32⟩
  | .hbm, ⟨10, _⟩ => ⟨S8x16x512x1024, .f32⟩
  | .hbm, ⟨11, _⟩ => ⟨S8x16x512x1024, .f32⟩
  | .hbm, ⟨12, _⟩ => ⟨S_, .f32⟩
  | .hbm, ⟨13, _⟩ => ⟨S8x4096x1024, .f32⟩
  | .hbm, ⟨14, _⟩ => ⟨S8, .i32⟩
  | .hbm, ⟨15, _⟩ => ⟨S8x1, .i32⟩
  | .hbm, ⟨16, _⟩ => ⟨S8x8192, .i32⟩
  | .hbm, ⟨17, _⟩ => ⟨S8x8192x1024, .f32⟩
  | .hbm, ⟨18, _⟩ => ⟨S_, .i32⟩
  | .hbm, ⟨19, _⟩ => ⟨S8x1, .i32⟩
  | .hbm, ⟨20, _⟩ => ⟨S8x1, .i1⟩
  | .hbm, ⟨21, _⟩ => ⟨S_, .i32⟩
  | .hbm, ⟨22, _⟩ => ⟨S8x1, .i32⟩
  | .hbm, ⟨23, _⟩ => ⟨S8x1, .i32⟩
  | .hbm, ⟨24, _⟩ => ⟨S8x1, .i32⟩
  | .hbm, ⟨25, _⟩ => ⟨S_, .i32⟩
  | .hbm, ⟨26, _⟩ => ⟨S8x8192, .i32⟩
  | .hbm, ⟨27, _⟩ => ⟨S8x8192, .i1⟩
  | .hbm, ⟨28, _⟩ => ⟨S_, .i32⟩
  | .hbm, ⟨29, _⟩ => ⟨S8x8192, .i32⟩
  | .hbm, ⟨30, _⟩ => ⟨S8x8192, .i32⟩
  | .hbm, ⟨31, _⟩ => ⟨S8x8192, .i32⟩
  | .hbm, ⟨32, _⟩ => ⟨S8x8192, .i32⟩
  | .hbm, ⟨33, _⟩ => ⟨S8x8192x1, .i32⟩
  | .hbm, ⟨34, _⟩ => ⟨S8x8192x1, .i32⟩
  | .hbm, ⟨35, _⟩ => ⟨S8x8192x2, .i32⟩
  | .hbm, ⟨36, _⟩ => ⟨S8x4096x1024, .f32⟩
  | .hbm, ⟨37, _⟩ => ⟨S1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | _, _ => ⟨S8x16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InKernel.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x6704 : Shape := ⟨3, ![1, 1024, 6704]⟩
abbrev S1x3x2560 : Shape := ⟨3, ![1, 3, 2560]⟩
abbrev S1x2560 : Shape := ⟨2, ![1, 2560]⟩
abbrev S1x2x24 : Shape := ⟨3, ![1, 2, 24]⟩
abbrev S1x2x1024 : Shape := ⟨3, ![1, 2, 1024]⟩
abbrev S128x256 : Shape := ⟨2, ![128, 256]⟩
abbrev S1024x6704 : Shape := ⟨2, ![1024, 6704]⟩
abbrev S_ : Shape := ⟨0, ![]⟩
abbrev S1024x256 : Shape := ⟨2, ![1024, 256]⟩
abbrev S1024x24 : Shape := ⟨2, ![1024, 24]⟩
abbrev S1 : Shape := ⟨1, ![1]⟩
abbrev S1x256 : Shape := ⟨2, ![1, 256]⟩
abbrev S1x1x24 : Shape := ⟨3, ![1, 1, 24]⟩
abbrev S24 : Shape := ⟨1, ![24]⟩
abbrev S2 : Shape := ⟨1, ![2]⟩
abbrev S3x2560 : Shape := ⟨2, ![3, 2560]⟩
abbrev S2560 : Shape := ⟨1, ![2560]⟩
abbrev S1024x512 : Shape := ⟨2, ![1024, 512]⟩
abbrev S1024x1536 : Shape := ⟨2, ![1024, 1536]⟩
abbrev S1024x2048 : Shape := ⟨2, ![1024, 2048]⟩
abbrev S3x1536 : Shape := ⟨2, ![3, 1536]⟩
abbrev S1536 : Shape := ⟨1, ![1536]⟩
abbrev S1x1536 : Shape := ⟨2, ![1, 1536]⟩
abbrev S3x512 : Shape := ⟨2, ![3, 512]⟩
abbrev S512 : Shape := ⟨1, ![512]⟩
abbrev S1x512 : Shape := ⟨2, ![1, 512]⟩
abbrev S2x1024 : Shape := ⟨2, ![2, 1024]⟩
abbrev S1x2048 : Shape := ⟨2, ![1, 2048]⟩
abbrev S1024 : Shape := ⟨1, ![1024]⟩
abbrev S8x4096x512 : Shape := ⟨3, ![8, 4096, 512]⟩
abbrev S8x4096x1536 : Shape := ⟨3, ![8, 4096, 1536]⟩
abbrev S8x4096x256 : Shape := ⟨3, ![8, 4096, 256]⟩
abbrev S8x4096x2048 : Shape := ⟨3, ![8, 4096, 2048]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x1536 : Shape := ⟨3, ![1, 512, 1536]⟩
abbrev S1x512x256 : Shape := ⟨3, ![1, 512, 256]⟩
abbrev S1x512x2048 : Shape := ⟨3, ![1, 512, 2048]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x1536 : Shape := ⟨2, ![128, 1536]⟩
abbrev S1x128x1536 : Shape := ⟨3, ![1, 128, 1536]⟩
abbrev S128x512 : Shape := ⟨2, ![128, 512]⟩
abbrev S1x128x512 : Shape := ⟨3, ![1, 128, 512]⟩
abbrev S1x128x256 : Shape := ⟨3, ![1, 128, 256]⟩
abbrev S128x128 : Shape := ⟨2, ![128, 128]⟩
abbrev S1x128x128 : Shape := ⟨3, ![1, 128, 128]⟩
abbrev S128x2048 : Shape := ⟨2, ![128, 2048]⟩
abbrev S1x128x2048 : Shape := ⟨3, ![1, 128, 2048]⟩

abbrev nBuf : Space → Nat
  | .hbm => 75
  | .vmem => 39
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x6704, .f32⟩
  | .hbm, ⟨5, _⟩ => ⟨S1x3x2560, .f32⟩
  | .hbm, ⟨6, _⟩ => ⟨S1x2560, .f32⟩
  | .hbm, ⟨7, _⟩ => ⟨S1x2x24, .f32⟩
  | .hbm, ⟨8, _⟩ => ⟨S1x2x1024, .f32⟩
  | .hbm, ⟨9, _⟩ => ⟨S128x256, .f32⟩
  | .hbm, ⟨10, _⟩ => ⟨S1024x6704, .f32⟩
  | .hbm, ⟨11, _⟩ => ⟨S_, .f32⟩
  | .hbm, ⟨12, _⟩ => ⟨S1024x256, .f32⟩
  | .hbm, ⟨13, _⟩ => ⟨S1024x24, .f32⟩
  | .hbm, ⟨14, _⟩ => ⟨S_, .i32⟩
  | .hbm, ⟨15, _⟩ => ⟨S1, .i32⟩
  | .hbm, ⟨16, _⟩ => ⟨S1024x256, .f32⟩
  | .hbm, ⟨17, _⟩ => ⟨S1024x24, .f32⟩
  | .hbm, ⟨18, _⟩ => ⟨S_, .i32⟩
  | .hbm, ⟨19, _⟩ => ⟨S1, .i32⟩
  | .hbm, ⟨20, _⟩ => ⟨S1024x256, .f32⟩
  | .hbm, ⟨21, _⟩ => ⟨S_, .f32⟩
  | .hbm, ⟨22, _⟩ => ⟨S1x256, .f32⟩
  | .hbm, ⟨23, _⟩ => ⟨S1x1x24, .f32⟩
  | .hbm, ⟨24, _⟩ => ⟨S24, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x256, .f32⟩
  | .hbm, ⟨31, _⟩ => ⟨S1x1x24, .f32⟩
  | .hbm, ⟨32, _⟩ => ⟨S24, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x256, .f32⟩
  | .hbm, ⟨39, _⟩ => ⟨S3x2560, .f32⟩
  | .hbm, ⟨40, _⟩ => ⟨S2560, .f32⟩
  | .hbm, ⟨41, _⟩ => ⟨S1024x512, .f32⟩
  | .hbm, ⟨42, _⟩ => ⟨S1024x512, .bf16⟩
  | .hbm, ⟨43, _⟩ => ⟨S1024x1536, .f32⟩
  | .hbm, ⟨44, _⟩ => ⟨S1024x1536, .bf16⟩
  | .hbm, ⟨45, _⟩ => ⟨S1024x1536, .f32⟩
  | .hbm, ⟨46, _⟩ => ⟨S1024x1536, .bf16⟩
  | .hbm, ⟨47, _⟩ => ⟨S1024x512, .f32⟩
  | .hbm, ⟨48, _⟩ => ⟨S1024x512, .bf16⟩
  | .hbm, ⟨49, _⟩ => ⟨S1024x512, .f32⟩
  | .hbm, ⟨50, _⟩ => ⟨S1024x512, .bf16⟩
  | .hbm, ⟨51, _⟩ => ⟨S1024x256, .bf16⟩
  | .hbm, ⟨52, _⟩ => ⟨S1024x2048, .f32⟩
  | .hbm, ⟨53, _⟩ => ⟨S1024x2048, .bf16⟩
  | .hbm, ⟨54, _⟩ => ⟨S3x1536, .f32⟩
  | .hbm, ⟨55, _⟩ => ⟨S1536, .f32⟩
  | .hbm, ⟨56, _⟩ => ⟨S1x1536, .f32⟩
  | .hbm, ⟨57, _⟩ => ⟨S3x512, .f32⟩
  | .hbm, ⟨58, _⟩ => ⟨S512, .f32⟩
  | .hbm, ⟨59, _⟩ => ⟨S1x512, .f32⟩
  | .hbm, ⟨60, _⟩ => ⟨S3x512, .f32⟩
  | .hbm, ⟨61, _⟩ => ⟨S512, .f32⟩
  | .hbm, ⟨62, _⟩ => ⟨S1x512, .f32⟩
  | .hbm, ⟨63, _⟩ => ⟨S2x1024, .f32⟩
  | .hbm, ⟨64, _⟩ => ⟨S1x2048, .f32⟩
  | .hbm, ⟨65, _⟩ => ⟨S1024, .f32⟩
  | .hbm, ⟨66, _⟩ => ⟨S1x1024, .f32⟩
  | .hbm, ⟨67, _⟩ => ⟨S8x4096x512, .bf16⟩
  | .hbm, ⟨68, _⟩ => ⟨S8x4096x512, .bf16⟩
  | .hbm, ⟨69, _⟩ => ⟨S8x4096x1536, .bf16⟩
  | .hbm, ⟨70, _⟩ => ⟨S8x4096x1536, .bf16⟩
  | .hbm, ⟨71, _⟩ => ⟨S8x4096x512, .bf16⟩
  | .hbm, ⟨72, _⟩ => ⟨S8x4096x512, .bf16⟩
  | .hbm, ⟨73, _⟩ => ⟨S8x4096x256, .f32⟩
  | .hbm, ⟨74, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x1536, .bf16⟩
  | .local _ .vmem, ⟨9, _⟩ => ⟨S1024x1536, .bf16⟩
  | .local _ .vmem, ⟨10, _⟩ => ⟨S1024x512, .bf16⟩
  | .local _ .vmem, ⟨11, _⟩ => ⟨S1024x512, .bf16⟩
  | .local _ .vmem, ⟨12, _⟩ => ⟨S1024x256, .bf16⟩
  | .local _ .vmem, ⟨13, _⟩ => ⟨S1024x2048, .bf16⟩
  | .local _ .vmem, ⟨14, _⟩ => ⟨S128x256, .f32⟩
  | .local _ .vmem, ⟨15, _⟩ => ⟨S3x1536, .f32⟩
  | .local _ .vmem, ⟨16, _⟩ => ⟨S1x1536, .f32⟩
  | .local _ .vmem, ⟨17, _⟩ => ⟨S3x512, .f32⟩
  | .local _ .vmem, ⟨18, _⟩ => ⟨S1x512, .f32⟩
  | .local _ .vmem, ⟨19, _⟩ => ⟨S3x512, .f32⟩
  | .local _ .vmem, ⟨20, _⟩ => ⟨S1x512, .f32⟩
  | .local _ .vmem, ⟨21, _⟩ => ⟨S1x256, .f32⟩
  | .local _ .vmem, ⟨22, _⟩ => ⟨S1x2048, .f32⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x1536, .bf16⟩
  | .local _ .vmem, ⟨28, _⟩ => ⟨S1x512x1536, .bf16⟩
  | .local _ .vmem, ⟨29, _⟩ => ⟨S1x512x1536, .bf16⟩
  | .local _ .vmem, ⟨30, _⟩ => ⟨S1x512x1536, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x256, .f32⟩
  | .local _ .vmem, ⟨36, _⟩ => ⟨S1x512x256, .f32⟩
  | .local _ .vmem, ⟨37, _⟩ => ⟨S1x512x2048, .bf16⟩
  | .local _ .vmem, ⟨38, _⟩ => ⟨S1x512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v49_2 : Ref sig .tc := ⟨.hbm, 69, rfl⟩
abbrev main_v49_3 : Ref sig .tc := ⟨.hbm, 70, rfl⟩
abbrev main_v49_4 : Ref sig .tc := ⟨.hbm, 71, rfl⟩
abbrev main_v49_5 : Ref sig .tc := ⟨.hbm, 72, rfl⟩
abbrev main_v49_6 : Ref sig .tc := ⟨.hbm, 73, rfl⟩
abbrev main_v49_7 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36
abbrev cc0_sem27_0 : DmaSem sig := 37
abbrev cc0_sem27_1 : DmaSem sig := 38

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1536 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1536 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x2048 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== InReferenceIdeal.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x6704 : Shape := ⟨3, ![1, 1024, 6704]⟩
abbrev S1x3x2560 : Shape := ⟨3, ![1, 3, 2560]⟩
abbrev S1x2560 : Shape := ⟨2, ![1, 2560]⟩
abbrev S1x2x24 : Shape := ⟨3, ![1, 2, 24]⟩
abbrev S1x2x1024 : Shape := ⟨3, ![1, 2, 1024]⟩
abbrev S128x256 : Shape := ⟨2, ![128, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x6704 : Shape := ⟨2, ![1024, 6704]⟩
abbrev S8x4096x6704 : Shape := ⟨3, ![8, 4096, 6704]⟩
abbrev S8x4096x512 : Shape := ⟨3, ![8, 4096, 512]⟩
abbrev S8x4096x1536 : Shape := ⟨3, ![8, 4096, 1536]⟩
abbrev S8x4096x2560 : Shape := ⟨3, ![8, 4096, 2560]⟩
abbrev S8x4096x48 : Shape := ⟨3, ![8, 4096, 48]⟩
abbrev S8x4096x2048 : Shape := ⟨3, ![8, 4096, 2048]⟩
abbrev S8x4096x4x128 : Shape := ⟨4, ![8, 4096, 4, 128]⟩
abbrev S128x128 : Shape := ⟨2, ![128, 128]⟩
abbrev S3x2560 : Shape := ⟨2, ![3, 2560]⟩
abbrev S2560 : Shape := ⟨1, ![2560]⟩
abbrev S8x64x64x2560 : Shape := ⟨4, ![8, 64, 64, 2560]⟩
abbrev S8x64x66x2560 : Shape := ⟨4, ![8, 64, 66, 2560]⟩
abbrev S1x1x1x2560 : Shape := ⟨4, ![1, 1, 1, 2560]⟩
abbrev S8x4096x2x24 : Shape := ⟨4, ![8, 4096, 2, 24]⟩
abbrev S2x24 : Shape := ⟨2, ![2, 24]⟩
abbrev S1x1x2x24 : Shape := ⟨4, ![1, 1, 2, 24]⟩
abbrev S8x4096x2x128 : Shape := ⟨4, ![8, 4096, 2, 128]⟩
abbrev S8x4096x256 : Shape := ⟨3, ![8, 4096, 256]⟩
abbrev S8x4096x2x1024 : Shape := ⟨4, ![8, 4096, 2, 1024]⟩
abbrev S2x1024 : Shape := ⟨2, ![2, 1024]⟩
abbrev S1x1x2x1024 : Shape := ⟨4, ![1, 1, 2, 1024]⟩

abbrev nBuf : Space → Nat
  | .hbm => 146
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1x1024, .f32⟩
  | 4 => ⟨S1x1024x6704, .f32⟩
  | 5 => ⟨S1x3x2560, .f32⟩
  | 6 => ⟨S1x2560, .f32⟩
  | 7 => ⟨S1x2x24, .f32⟩
  | 8 => ⟨S1x2x1024, .f32⟩
  | 9 => ⟨S128x256, .f32⟩
  | 10 => ⟨S1024, .f32⟩
  | 11 => ⟨S8x4096x1024, .f32⟩
  | 12 => ⟨S_, .f32⟩
  | 13 => ⟨S8x4096, .f32⟩
  | 14 => ⟨S8x4096x1, .f32⟩
  | 15 => ⟨S_, .f32⟩
  | 16 => ⟨S8x4096x1, .f32⟩
  | 17 => ⟨S8x4096x1, .f32⟩
  | 18 => ⟨S_, .f32⟩
  | 19 => ⟨S8x4096x1, .f32⟩
  | 20 => ⟨S8x4096x1, .f32⟩
  | 21 => ⟨S8x4096x1, .f32⟩
  | 22 => ⟨S8x4096x1024, .f32⟩
  | 23 => ⟨S8x4096x1024, .f32⟩
  | 24 => ⟨S1x1x1024, .f32⟩
  | 25 => ⟨S8x4096x1024, .f32⟩
  | 26 => ⟨S8x4096x1024, .f32⟩
  | 27 => ⟨S_, .f32⟩
  | 28 => ⟨S8x1x1024, .f32⟩
  | 29 => ⟨S8x1x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S1024x6704, .f32⟩
  | 35 => ⟨S8x4096x6704, .f32⟩
  | 36 => ⟨S8x4096x512, .f32⟩
  | 37 => ⟨S8x4096x1536, .f32⟩
  | 38 => ⟨S8x4096x2560, .f32⟩
  | 39 => ⟨S8x4096x48, .f32⟩
  | 40 => ⟨S8x4096x2048, .f32⟩
  | 41 => ⟨S8x4096x4x128, .f32⟩
  | 42 => ⟨S128x128, .f32⟩
  | 43 => ⟨S8x4096x4x128, .f32⟩
  | 44 => ⟨S8x4096x512, .f32⟩
  | 45 => ⟨S128x128, .f32⟩
  | 46 => ⟨S8x4096x4x128, .f32⟩
  | 47 => ⟨S8x4096x512, .f32⟩
  | 48 => ⟨S3x2560, .f32⟩
  | 49 => ⟨S2560, .f32⟩
  | 50 => ⟨S8x64x64x2560, .f32⟩
  | 51 => ⟨S_, .i32⟩
  | 52 => ⟨S_, .f32⟩
  | 53 => ⟨S8x64x66x2560, .f32⟩
  | 54 => ⟨S8x64x64x2560, .f32⟩
  | 55 => ⟨S1x2560, .f32⟩
  | 56 => ⟨S2560, .f32⟩
  | 57 => ⟨S1x1x1x2560, .f32⟩
  | 58 => ⟨S8x64x64x2560, .f32⟩
  | 59 => ⟨S8x64x64x2560, .f32⟩
  | 60 => ⟨S_, .f32⟩
  | 61 => ⟨S8x64x64x2560, .f32⟩
  | 62 => ⟨S8x64x64x2560, .f32⟩
  | 63 => ⟨S8x64x64x2560, .f32⟩
  | 64 => ⟨S1x2560, .f32⟩
  | 65 => ⟨S2560, .f32⟩
  | 66 => ⟨S1x1x1x2560, .f32⟩
  | 67 => ⟨S8x64x64x2560, .f32⟩
  | 68 => ⟨S8x64x64x2560, .f32⟩
  | 69 => ⟨S8x64x64x2560, .f32⟩
  | 70 => ⟨S8x64x64x2560, .f32⟩
  | 71 => ⟨S1x2560, .f32⟩
  | 72 => ⟨S2560, .f32⟩
  | 73 => ⟨S1x1x1x2560, .f32⟩
  | 74 => ⟨S8x64x64x2560, .f32⟩
  | 75 => ⟨S8x64x64x2560, .f32⟩
  | 76 => ⟨S8x64x64x2560, .f32⟩
  | 77 => ⟨S1x1x1x2560, .f32⟩
  | 78 => ⟨S8x64x64x2560, .f32⟩
  | 79 => ⟨S8x64x64x2560, .f32⟩
  | 80 => ⟨S8x4096x2560, .f32⟩
  | 81 => ⟨S8x4096x2560, .f32⟩
  | 82 => ⟨S8x4096x2560, .f32⟩
  | 83 => ⟨S_, .f32⟩
  | 84 => ⟨S8x4096x2560, .f32⟩
  | 85 => ⟨S8x4096x2560, .f32⟩
  | 86 => ⟨S_, .f32⟩
  | 87 => ⟨S8x4096x2560, .f32⟩
  | 88 => ⟨S8x4096x2560, .f32⟩
  | 89 => ⟨S8x4096x2560, .f32⟩
  | 90 => ⟨S8x4096x1536, .f32⟩
  | 91 => ⟨S8x4096x512, .f32⟩
  | 92 => ⟨S8x4096x512, .f32⟩
  | 93 => ⟨S8x4096x2x24, .f32⟩
  | 94 => ⟨S2x24, .f32⟩
  | 95 => ⟨S1x1x2x24, .f32⟩
  | 96 => ⟨S8x4096x2x24, .f32⟩
  | 97 => ⟨S8x4096x2x24, .f32⟩
  | 98 => ⟨S_, .i32⟩
  | 99 => ⟨S_, .f32⟩
  | 100 => ⟨S8x4096x2x128, .f32⟩
  | 101 => ⟨S8x4096x256, .f32⟩
  | 102 => ⟨S_, .f32⟩
  | 103 => ⟨S8x4096x256, .f32⟩
  | 104 => ⟨S8x4096x256, .f32⟩
  | 105 => ⟨S8x4096x256, .f32⟩
  | 106 => ⟨S8x4096x256, .f32⟩
  | 107 => ⟨S8x4096x256, .i1⟩
  | 108 => ⟨S8x4096x256, .f32⟩
  | 109 => ⟨S8x4096x256, .f32⟩
  | 110 => ⟨S8x4096x256, .f32⟩
  | 111 => ⟨S8x4096x256, .f32⟩
  | 112 => ⟨S8x4096x256, .f32⟩
  | 113 => ⟨S8x4096x256, .f32⟩
  | 114 => ⟨S8x4096x256, .f32⟩
  | 115 => ⟨S8x4096x256, .f32⟩
  | 116 => ⟨S8x4096x2x1024, .f32⟩
  | 117 => ⟨S2x1024, .f32⟩
  | 118 => ⟨S1x1x2x1024, .f32⟩
  | 119 => ⟨S8x4096x2x1024, .f32⟩
  | 120 => ⟨S8x4096x2x1024, .f32⟩
  | 121 => ⟨S8x4096x2x1024, .f32⟩
  | 122 => ⟨S8x4096x2x1024, .f32⟩
  | 123 => ⟨S_, .f32⟩
  | 124 => ⟨S8x4096x2x1024, .f32⟩
  | 125 => ⟨S8x4096x2x1024, .f32⟩
  | 126 => ⟨S_, .f32⟩
  | 127 => ⟨S8x4096x2x1024, .f32⟩
  | _ => ⟨S8x4096x1024, .f32⟩

abbrev hbmTy0_1 (i : Nat) : BufTy := match i % 128 with
  | 0 => ⟨S8x4096x2x1024, .f32⟩
  | 1 => ⟨S8x4096x2048, .f32⟩
  | 2 => ⟨S8x4096x512, .bf16⟩
  | 3 => ⟨S8x4096x512, .bf16⟩
  | 4 => ⟨S8x4096x1536, .f32⟩
  | 5 => ⟨S8x4096x1536, .f32⟩
  | 6 => ⟨S_, .f32⟩
  | 7 => ⟨S8x4096x1536, .f32⟩
  | 8 => ⟨S8x4096x1536, .f32⟩
  | 9 => ⟨S_, .f32⟩
  | 10 => ⟨S8x4096x1536, .f32⟩
  | 11 => ⟨S8x4096x1536, .f32⟩
  | 12 => ⟨S8x4096x1536, .f32⟩
  | 13 => ⟨S8x4096x1536, .bf16⟩
  | 14 => ⟨S8x4096x1536, .bf16⟩
  | 15 => ⟨S8x4096x512, .bf16⟩
  | 16 => ⟨S8x4096x512, .bf16⟩
  | 17 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_4 : Ref sig .tc := ⟨.hbm, 98, rfl⟩
abbrev main_call2_v0 : Ref sig .tc := ⟨.hbm, 99, rfl⟩
abbrev main_v73 : Ref sig .tc := ⟨.hbm, 100, rfl⟩
abbrev main_v74 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_5 : Ref sig .tc := ⟨.hbm, 123, rfl⟩
abbrev main_v83 : Ref sig .tc := ⟨.hbm, 124, rfl⟩
abbrev main_v84 : Ref sig .tc := ⟨.hbm, 125, rfl⟩
abbrev main_cst_6 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call4_v0 : Ref sig .tc := ⟨.hbm, 132, rfl⟩
abbrev main_call4_v1 : Ref sig .tc := ⟨.hbm, 133, rfl⟩
abbrev main_call4_cst : Ref sig .tc := ⟨.hbm, 134, rfl⟩
abbrev main_call4_v2 : Ref sig .tc := ⟨.hbm, 135, rfl⟩
abbrev main_call4_v3 : Ref sig .tc := ⟨.hbm, 136, rfl⟩
abbrev main_call4_cst_0 : Ref sig .tc := ⟨.hbm, 137, rfl⟩
abbrev main_call4_v4 : Ref sig .tc := ⟨.hbm, 138, rfl⟩
abbrev main_call4_v5 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩

abbrev nD : Nat := 1
abbrev τ : Topo := Topo.v7x

variable {F : FTy → Type} [FloatOps F]
-- ==== MixKernel.lean ====
abbrev S8x4096x1536 : Shape := ⟨3, ![8, 4096, 1536]⟩
abbrev S8x4096x512 : Shape := ⟨3, ![8, 4096, 512]⟩
abbrev S8x4096x2048 : Shape := ⟨3, ![8, 4096, 2048]⟩
abbrev S8x4096x1024 : Shape := ⟨3, ![8, 4096, 1024]⟩
abbrev S8x1x1024 : Shape := ⟨3, ![8, 1, 1024]⟩
abbrev S1x24 : Shape := ⟨2, ![1, 24]⟩
abbrev S1x1536 : Shape := ⟨2, ![1, 1536]⟩
abbrev S1x1024 : Shape := ⟨2, ![1, 1024]⟩
abbrev S1x1536x1024 : Shape := ⟨3, ![1, 1536, 1024]⟩
abbrev S1x512x1024 : Shape := ⟨3, ![1, 512, 1024]⟩
abbrev S1x1024x1024 : Shape := ⟨3, ![1, 1024, 1024]⟩
abbrev S1x1024x16 : Shape := ⟨3, ![1, 1024, 16]⟩
abbrev S24 : Shape := ⟨1, ![24]⟩
abbrev S24x64 : Shape := ⟨2, ![24, 64]⟩
abbrev S1536 : Shape := ⟨1, ![1536]⟩
abbrev S1024 : Shape := ⟨1, ![1024]⟩
abbrev S1536x1024 : Shape := ⟨2, ![1536, 1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S8x4096x8x128 : Shape := ⟨4, ![8, 4096, 8, 128]⟩
abbrev S8x16x4096 : Shape := ⟨3, ![8, 16, 4096]⟩
abbrev S1x512x1536 : Shape := ⟨3, ![1, 512, 1536]⟩
abbrev S1x512x512 : Shape := ⟨3, ![1, 512, 512]⟩
abbrev S1x512x2048 : Shape := ⟨3, ![1, 512, 2048]⟩
abbrev S1x1x1024 : Shape := ⟨3, ![1, 1, 1024]⟩
abbrev S1x512x8x128 : Shape := ⟨4, ![1, 512, 8, 128]⟩
abbrev S1x16x512 : Shape := ⟨3, ![1, 16, 512]⟩
abbrev S1x128x1536 : Shape := ⟨3, ![1, 128, 1536]⟩
abbrev S128x1536 : Shape := ⟨2, ![128, 1536]⟩
abbrev S128 : Shape := ⟨1, ![128]⟩
abbrev S128x1 : Shape := ⟨2, ![128, 1]⟩
abbrev S128x1024 : Shape := ⟨2, ![128, 1024]⟩
abbrev S1x128x512 : Shape := ⟨3, ![1, 128, 512]⟩
abbrev S128x512 : Shape := ⟨2, ![128, 512]⟩
abbrev S1x128x2048 : Shape := ⟨3, ![1, 128, 2048]⟩
abbrev S128x2048 : Shape := ⟨2, ![128, 2048]⟩
abbrev S1x128x1024 : Shape := ⟨3, ![1, 128, 1024]⟩
abbrev S128x128 : Shape := ⟨2, ![128, 128]⟩
abbrev S1x128x128 : Shape := ⟨3, ![1, 128, 128]⟩
abbrev S8x128x128 : Shape := ⟨3, ![8, 128, 128]⟩
abbrev S128x8x128 : Shape := ⟨3, ![128, 8, 128]⟩
abbrev S1x128x8x128 : Shape := ⟨4, ![1, 128, 8, 128]⟩
abbrev S16x128 : Shape := ⟨2, ![16, 128]⟩
abbrev S1x16x128 : Shape := ⟨3, ![1, 16, 128]⟩

abbrev nBuf : Space → Nat
  | .hbm => 41
  | .vmem => 34
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x1536, .bf16⟩
  | .hbm, ⟨3, _⟩ => ⟨S8x4096x1536, .bf16⟩
  | .hbm, ⟨4, _⟩ => ⟨S8x4096x512, .f32⟩
  | .hbm, ⟨5, _⟩ => ⟨S8x4096x2048, .bf16⟩
  | .hbm, ⟨6, _⟩ => ⟨S8x4096x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x24, .f32⟩
  | .hbm, ⟨11, _⟩ => ⟨S1x1536, .f32⟩
  | .hbm, ⟨12, _⟩ => ⟨S1x1024, .f32⟩
  | .hbm, ⟨13, _⟩ => ⟨S1x1024, .f32⟩
  | .hbm, ⟨14, _⟩ => ⟨S1x1536x1024, .f32⟩
  | .hbm, ⟨15, _⟩ => ⟨S1x512x1024, .f32⟩
  | .hbm, ⟨16, _⟩ => ⟨S1x1024x1024, .f32⟩
  | .hbm, ⟨17, _⟩ => ⟨S1x1024x16, .f32⟩
  | .hbm, ⟨18, _⟩ => ⟨S24, .f32⟩
  | .hbm, ⟨19, _⟩ => ⟨S24x64, .f32⟩
  | .hbm, ⟨20, _⟩ => ⟨S1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1536x1024, .f32⟩
  | .hbm, ⟨29, _⟩ => ⟨S1536x1024, .bf16⟩
  | .hbm, ⟨30, _⟩ => ⟨S512x1024, .f32⟩
  | .hbm, ⟨31, _⟩ => ⟨S512x1024, .bf16⟩
  | .hbm, ⟨32, _⟩ => ⟨S1024x1024, .f32⟩
  | .hbm, ⟨33, _⟩ => ⟨S1024x1024, .bf16⟩
  | .hbm, ⟨34, _⟩ => ⟨S1024x16, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S8x4096x1024, .f32⟩
  | .hbm, ⟨39, _⟩ => ⟨S8x4096x8x128, .f32⟩
  | .hbm, ⟨40, _⟩ => ⟨S8x16x4096, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x512, .f32⟩
  | .local _ .vmem, ⟨9, _⟩ => ⟨S1x512x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1536, .f32⟩
  | .local _ .vmem, ⟨21, _⟩ => ⟨S1x1536, .f32⟩
  | .local _ .vmem, ⟨22, _⟩ => ⟨S1x1024, .f32⟩
  | .local _ .vmem, ⟨23, _⟩ => ⟨S1x1024, .f32⟩
  | .local _ .vmem, ⟨24, _⟩ => ⟨S1536x1024, .bf16⟩
  | .local _ .vmem, ⟨25, _⟩ => ⟨S512x1024, .bf16⟩
  | .local _ .vmem, ⟨26, _⟩ => ⟨S1024x1024, .bf16⟩
  | .local _ .vmem, ⟨27, _⟩ => ⟨S1024x128, .f32⟩
  | .local _ .vmem, ⟨28, _⟩ => ⟨S1x512x1024, .f32⟩
  | .local _ .vmem, ⟨29, _⟩ => ⟨S1x512x1024, .f32⟩
  | .local _ .vmem, ⟨30, _⟩ => ⟨S1x512x8x128, .f32⟩
  | .local _ .vmem, ⟨31, _⟩ => ⟨S1x512x8x128, .f32⟩
  | .local _ .vmem, ⟨32, _⟩ => ⟨S1x16x512, .f32⟩
  | .local _ .vmem, ⟨33, _⟩ => ⟨S1x16x512, .f32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_call0_v0 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== MixReferenceIdeal.lean ====
abbrev S8x4096x1536 : Shape := ⟨3, ![8, 4096, 1536]⟩
abbrev S8x4096x512 : Shape := ⟨3, ![8, 4096, 512]⟩
abbrev S8x4096x2048 : Shape := ⟨3, ![8, 4096, 2048]⟩
abbrev S8x4096x1024 : Shape := ⟨3, ![8, 4096, 1024]⟩
abbrev S8x1x1024 : Shape := ⟨3, ![8, 1, 1024]⟩
abbrev S1x24 : Shape := ⟨2, ![1, 24]⟩
abbrev S1x1536 : Shape := ⟨2, ![1, 1536]⟩
abbrev S1x1024 : Shape := ⟨2, ![1, 1024]⟩
abbrev S1x1536x1024 : Shape := ⟨3, ![1, 1536, 1024]⟩
abbrev S1x512x1024 : Shape := ⟨3, ![1, 512, 1024]⟩
abbrev S1x1024x1024 : Shape := ⟨3, ![1, 1024, 1024]⟩
abbrev S1x1024x16 : Shape := ⟨3, ![1, 1024, 16]⟩
abbrev S8x4096x24x64 : Shape := ⟨4, ![8, 4096, 24, 64]⟩
abbrev S24 : Shape := ⟨1, ![24]⟩
abbrev S24x1 : Shape := ⟨2, ![24, 1]⟩
abbrev S1x1x24x1 : Shape := ⟨4, ![1, 1, 24, 1]⟩
abbrev S1536 : Shape := ⟨1, ![1536]⟩
abbrev S_ : Shape := ⟨0, ![]⟩
abbrev S8x4096 : Shape := ⟨2, ![8, 4096]⟩
abbrev S8x4096x1 : Shape := ⟨3, ![8, 4096, 1]⟩
abbrev S1x1x1536 : Shape := ⟨3, ![1, 1, 1536]⟩
abbrev S1536x1024 : Shape := ⟨2, ![1536, 1024]⟩
abbrev S512x1024 : Shape := ⟨2, ![512, 1024]⟩
abbrev S8x4096x2x1024 : Shape := ⟨4, ![8, 4096, 2, 1024]⟩
abbrev S8x4096x1x1024 : Shape := ⟨4, ![8, 4096, 1, 1024]⟩
abbrev S1024x1024 : Shape := ⟨2, ![1024, 1024]⟩
abbrev S1024 : Shape := ⟨1, ![1024]⟩
abbrev S1x1x1024 : Shape := ⟨3, ![1, 1, 1024]⟩
abbrev S8x4096x8x128 : Shape := ⟨4, ![8, 4096, 8, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x1536, .bf16⟩
  | .hbm, ⟨3, _⟩ => ⟨S8x4096x1536, .bf16⟩
  | .hbm, ⟨4, _⟩ => ⟨S8x4096x512, .f32⟩
  | .hbm, ⟨5, _⟩ => ⟨S8x4096x2048, .bf16⟩
  | .hbm, ⟨6, _⟩ => ⟨S8x4096x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x24, .f32⟩
  | .hbm, ⟨11, _⟩ => ⟨S1x1536, .f32⟩
  | .hbm, ⟨12, _⟩ => ⟨S1x1024, .f32⟩
  | .hbm, ⟨13, _⟩ => ⟨S1x1024, .f32⟩
  | .hbm, ⟨14, _⟩ => ⟨S1x1536x1024, .f32⟩
  | .hbm, ⟨15, _⟩ => ⟨S1x512x1024, .f32⟩
  | .hbm, ⟨16, _⟩ => ⟨S1x1024x1024, .f32⟩
  | .hbm, ⟨17, _⟩ => ⟨S1x1024x16, .f32⟩
  | .hbm, ⟨18, _⟩ => ⟨S8x4096x1536, .f32⟩
  | .hbm, ⟨19, _⟩ => ⟨S8x4096x24x64, .f32⟩
  | .hbm, ⟨20, _⟩ => ⟨S8x4096x1536, .f32⟩
  | .hbm, ⟨21, _⟩ => ⟨S8x4096x1536, .f32⟩
  | .hbm, ⟨22, _⟩ => ⟨S8x4096x1536, .f32⟩
  | .hbm, ⟨23, _⟩ => ⟨S8x4096x24x64, .f32⟩
  | .hbm, ⟨24, _⟩ => ⟨S24, .f32⟩
  | .hbm, ⟨25, _⟩ => ⟨S24x1, .f32⟩
  | .hbm, ⟨26, _⟩ => ⟨S1x1x24x1, .f32⟩
  | .hbm, ⟨27, _⟩ => ⟨S8x4096x24x64, .f32⟩
  | .hbm, ⟨28, _⟩ => ⟨S8x4096x24x64, .f32⟩
  | .hbm, ⟨29, _⟩ => ⟨S8x4096x24x64, .f32⟩
  | .hbm, ⟨30, _⟩ => ⟨S8x4096x1536, .f32⟩
  | .hbm, ⟨31, _⟩ => ⟨S8x4096x1536, .f32⟩
  | .hbm, ⟨32, _⟩ => ⟨S8x4096x1536, .f32⟩
  | .hbm, ⟨33, _⟩ => ⟨S1536, .f32⟩
  | .hbm, ⟨34, _⟩ => ⟨S8x4096x1536, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1536, .f32⟩
  | .hbm, ⟨46, _⟩ => ⟨S8x4096x1536, .f32⟩
  | .hbm, ⟨47, _⟩ => ⟨S1x1x1536, .f32⟩
  | .hbm, ⟨48, _⟩ => ⟨S8x4096x1536, .f32⟩
  | .hbm, ⟨49, _⟩ => ⟨S8x4096x1536, .f32⟩
  | .hbm, ⟨50, _⟩ => ⟨S1536x1024, .f32⟩
  | .hbm, ⟨51, _⟩ => ⟨S8x4096x1024, .f32⟩
  | .hbm, ⟨52, _⟩ => ⟨S512x1024, .f32⟩
  | .hbm, ⟨53, _⟩ => ⟨S8x4096x1024, .f32⟩
  | .hbm, ⟨54, _⟩ => ⟨S8x4096x2048, .f32⟩
  | .hbm, ⟨55, _⟩ => ⟨S8x4096x2x1024, .f32⟩
  | .hbm, ⟨56, _⟩ => ⟨S8x4096x1x1024, .f32⟩
  | .hbm, ⟨57, _⟩ => ⟨S8x4096x1024, .f32⟩
  | .hbm, ⟨58, _⟩ => ⟨S8x4096x1024, .f32⟩
  | .hbm, ⟨59, _⟩ => ⟨S8x4096x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S1024x1024, .f32⟩
  | .hbm, ⟨64, _⟩ => ⟨S8x4096x1024, .f32⟩
  | .hbm, ⟨65, _⟩ => ⟨S1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S_, .f32⟩
  | .hbm, ⟨103, _⟩ => ⟨S8x1x1024, .f32⟩
  | .hbm, ⟨104, _⟩ => ⟨S8x1x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | .hbm, ⟨109, _⟩ => ⟨S8x4096x8x128, .f32⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_cst_7 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== CtxKernel.lean ====
abbrev S8x256x1024 : Shape := ⟨3, ![8, 256, 1024]⟩
abbrev S6144 : Shape := ⟨1, ![6144]⟩
abbrev S1x1024 : Shape := ⟨2, ![1, 1024]⟩
abbrev S1x1024x6704 : Shape := ⟨3, ![1, 1024, 6704]⟩
abbrev S1x3x2560 : Shape := ⟨3, ![1, 3, 2560]⟩
abbrev S1x2560 : Shape := ⟨2, ![1, 2560]⟩
abbrev S1x2x24 : Shape := ⟨3, ![1, 2, 24]⟩
abbrev S1x6x1x1024 : Shape := ⟨4, ![1, 6, 1, 1024]⟩
abbrev S8x6x1x1024 : Shape := ⟨4, ![8, 6, 1, 1024]⟩
abbrev S1024x6704 : Shape := ⟨2, ![1024, 6704]⟩
abbrev S_ : Shape := ⟨0, ![]⟩
abbrev S1024x256 : Shape := ⟨2, ![1024, 256]⟩
abbrev S1024x24 : Shape := ⟨2, ![1024, 24]⟩
abbrev S1 : Shape := ⟨1, ![1]⟩
abbrev S1x256 : Shape := ⟨2, ![1, 256]⟩
abbrev S1x1x24 : Shape := ⟨3, ![1, 1, 24]⟩
abbrev S24 : Shape := ⟨1, ![24]⟩
abbrev S2 : Shape := ⟨1, ![2]⟩
abbrev S3x2560 : Shape := ⟨2, ![3, 2560]⟩
abbrev S2560 : Shape := ⟨1, ![2560]⟩
abbrev S1024x1536 : Shape := ⟨2, ![1024, 1536]⟩
abbrev S1024x512 : Shape := ⟨2, ![1024, 512]⟩
abbrev S3x1536 : Shape := ⟨2, ![3, 1536]⟩
abbrev S1536 : Shape := ⟨1, ![1536]⟩
abbrev S1x1536 : Shape := ⟨2, ![1, 1536]⟩
abbrev S3x512 : Shape := ⟨2, ![3, 512]⟩
abbrev S512 : Shape := ⟨1, ![512]⟩
abbrev S1x512 : Shape := ⟨2, ![1, 512]⟩
abbrev S8x1x1x1024 : Shape := ⟨4, ![8, 1, 1, 1024]⟩
abbrev S8x1x1024 : Shape := ⟨3, ![8, 1, 1024]⟩
abbrev S1024 : Shape := ⟨1, ![1024]⟩
abbrev S8x256x1536 : Shape := ⟨3, ![8, 256, 1536]⟩
abbrev S8x256x512 : Shape := ⟨3, ![8, 256, 512]⟩
abbrev S8x256x256 : Shape := ⟨3, ![8, 256, 256]⟩
abbrev S1x256x1024 : Shape := ⟨3, ![1, 256, 1024]⟩
abbrev S1x1x1024 : Shape := ⟨3, ![1, 1, 1024]⟩
abbrev S1x256x1536 : Shape := ⟨3, ![1, 256, 1536]⟩
abbrev S1x256x512 : Shape := ⟨3, ![1, 256, 512]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x512 : Shape := ⟨2, ![256, 512]⟩
abbrev S256x256 : Shape := ⟨2, ![256, 256]⟩

abbrev nBuf : Space → Nat
  | .hbm => 66
  | .vmem => 26
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1x1024, .f32⟩
  | .hbm, ⟨3, _⟩ => ⟨S1x1024x6704, .f32⟩
  | .hbm, ⟨4, _⟩ => ⟨S1x3x2560, .f32⟩
  | .hbm, ⟨5, _⟩ => ⟨S1x2560, .f32⟩
  | .hbm, ⟨6, _⟩ => ⟨S1x2x24, .f32⟩
  | .hbm, ⟨7, _⟩ => ⟨S1x6x1x1024, .f32⟩
  | .hbm, ⟨8, _⟩ => ⟨S8x6x1x1024, .f32⟩
  | .hbm, ⟨9, _⟩ => ⟨S1024x6704, .f32⟩
  | .hbm, ⟨10, _⟩ => ⟨S_, .f32⟩
  | .hbm, ⟨11, _⟩ => ⟨S1024x256, .f32⟩
  | .hbm, ⟨12, _⟩ => ⟨S1024x24, .f32⟩
  | .hbm, ⟨13, _⟩ => ⟨S_, .i32⟩
  | .hbm, ⟨14, _⟩ => ⟨S1, .i32⟩
  | .hbm, ⟨15, _⟩ => ⟨S1024x256, .f32⟩
  | .hbm, ⟨16, _⟩ => ⟨S1024x24, .f32⟩
  | .hbm, ⟨17, _⟩ => ⟨S_, .i32⟩
  | .hbm, ⟨18, _⟩ => ⟨S1, .i32⟩
  | .hbm, ⟨19, _⟩ => ⟨S1024x256, .f32⟩
  | .hbm, ⟨20, _⟩ => ⟨S_, .f32⟩
  | .hbm, ⟨21, _⟩ => ⟨S1x256, .f32⟩
  | .hbm, ⟨22, _⟩ => ⟨S1x1x24, .f32⟩
  | .hbm, ⟨23, _⟩ => ⟨S24, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x256, .f32⟩
  | .hbm, ⟨30, _⟩ => ⟨S1x1x24, .f32⟩
  | .hbm, ⟨31, _⟩ => ⟨S24, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x256, .f32⟩
  | .hbm, ⟨38, _⟩ => ⟨S3x2560, .f32⟩
  | .hbm, ⟨39, _⟩ => ⟨S2560, .f32⟩
  | .hbm, ⟨40, _⟩ => ⟨S1024x1536, .f32⟩
  | .hbm, ⟨41, _⟩ => ⟨S1024x1536, .bf16⟩
  | .hbm, ⟨42, _⟩ => ⟨S1024x512, .f32⟩
  | .hbm, ⟨43, _⟩ => ⟨S1024x512, .bf16⟩
  | .hbm, ⟨44, _⟩ => ⟨S1024x512, .f32⟩
  | .hbm, ⟨45, _⟩ => ⟨S1024x512, .bf16⟩
  | .hbm, ⟨46, _⟩ => ⟨S1024x256, .bf16⟩
  | .hbm, ⟨47, _⟩ => ⟨S3x1536, .f32⟩
  | .hbm, ⟨48, _⟩ => ⟨S1536, .f32⟩
  | .hbm, ⟨49, _⟩ => ⟨S1x1536, .f32⟩
  | .hbm, ⟨50, _⟩ => ⟨S3x512, .f32⟩
  | .hbm, ⟨51, _⟩ => ⟨S512, .f32⟩
  | .hbm, ⟨52, _⟩ => ⟨S1x512, .f32⟩
  | .hbm, ⟨53, _⟩ => ⟨S3x512, .f32⟩
  | .hbm, ⟨54, _⟩ => ⟨S512, .f32⟩
  | .hbm, ⟨55, _⟩ => ⟨S1x512, .f32⟩
  | .hbm, ⟨56, _⟩ => ⟨S8x1x1x1024, .f32⟩
  | .hbm, ⟨57, _⟩ => ⟨S8x1x1024, .f32⟩
  | .hbm, ⟨58, _⟩ => ⟨S8x1x1x1024, .f32⟩
  | .hbm, ⟨59, _⟩ => ⟨S8x1x1024, .f32⟩
  | .hbm, ⟨60, _⟩ => ⟨S1024, .f32⟩
  | .hbm, ⟨61, _⟩ => ⟨S1x1024, .f32⟩
  | .hbm, ⟨62, _⟩ => ⟨S8x256x1536, .bf16⟩
  | .hbm, ⟨63, _⟩ => ⟨S8x256x512, .bf16⟩
  | .hbm, ⟨64, _⟩ => ⟨S8x256x512, .bf16⟩
  | .hbm, ⟨65, _⟩ => ⟨S8x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S3x1536, .f32⟩
  | .local _ .vmem, ⟨12, _⟩ => ⟨S1x1536, .f32⟩
  | .local _ .vmem, ⟨13, _⟩ => ⟨S3x512, .f32⟩
  | .local _ .vmem, ⟨14, _⟩ => ⟨S1x512, .f32⟩
  | .local _ .vmem, ⟨15, _⟩ => ⟨S3x512, .f32⟩
  | .local _ .vmem, ⟨16, _⟩ => ⟨S1x512, .f32⟩
  | .local _ .vmem, ⟨17, _⟩ => ⟨S1x256, .f32⟩
  | .local _ .vmem, ⟨18, _⟩ => ⟨S1x256x1536, .bf16⟩
  | .local _ .vmem, ⟨19, _⟩ => ⟨S1x256x1536, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x256, .f32⟩
  | .local _ .vmem, ⟨25, _⟩ => ⟨S1x256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== CtxReferenceIdeal.lean ====
abbrev S8x256x1024 : Shape := ⟨3, ![8, 256, 1024]⟩
abbrev S6144 : Shape := ⟨1, ![6144]⟩
abbrev S1x1024 : Shape := ⟨2, ![1, 1024]⟩
abbrev S1x1024x6704 : Shape := ⟨3, ![1, 1024, 6704]⟩
abbrev S1x3x2560 : Shape := ⟨3, ![1, 3, 2560]⟩
abbrev S1x2560 : Shape := ⟨2, ![1, 2560]⟩
abbrev S1x2x24 : Shape := ⟨3, ![1, 2, 24]⟩
abbrev S6x1024 : Shape := ⟨2, ![6, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x6704 : Shape := ⟨2, ![1024, 6704]⟩
abbrev S8x256x6704 : Shape := ⟨3, ![8, 256, 6704]⟩
abbrev S8x256x512 : Shape := ⟨3, ![8, 256, 512]⟩
abbrev S8x256x1536 : Shape := ⟨3, ![8, 256, 1536]⟩
abbrev S8x256x2560 : Shape := ⟨3, ![8, 256, 2560]⟩
abbrev S8x256x48 : Shape := ⟨3, ![8, 256, 48]⟩
abbrev S8x256x2048 : Shape := ⟨3, ![8, 256, 2048]⟩
abbrev S3x2560 : Shape := ⟨2, ![3, 2560]⟩
abbrev S2560 : Shape := ⟨1, ![2560]⟩
abbrev S8x1x256x2560 : Shape := ⟨4, ![8, 1, 256, 2560]⟩
abbrev S8x1x258x2560 : Shape := ⟨4, ![8, 1, 258, 2560]⟩
abbrev S1x1x1x2560 : Shape := ⟨4, ![1, 1, 1, 2560]⟩
abbrev S8x256x2x24 : Shape := ⟨4, ![8, 256, 2, 24]⟩
abbrev S2x24 : Shape := ⟨2, ![2, 24]⟩
abbrev S1x1x2x24 : Shape := ⟨4, ![1, 1, 2, 24]⟩
abbrev S8x256x2x128 : Shape := ⟨4, ![8, 256, 2, 128]⟩
abbrev S8x256x256 : Shape := ⟨3, ![8, 256, 256]⟩

abbrev nBuf : Space → Nat
  | .hbm => 116
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1x1024, .f32⟩
  | .hbm, ⟨3, _⟩ => ⟨S1x1024x6704, .f32⟩
  | .hbm, ⟨4, _⟩ => ⟨S1x3x2560, .f32⟩
  | .hbm, ⟨5, _⟩ => ⟨S1x2560, .f32⟩
  | .hbm, ⟨6, _⟩ => ⟨S1x2x24, .f32⟩
  | .hbm, ⟨7, _⟩ => ⟨S6x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x1, .f32⟩
  | .hbm, ⟨24, _⟩ => ⟨S8x256x1024, .f32⟩
  | .hbm, ⟨25, _⟩ => ⟨S8x256x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1x1x1024, .f32⟩
  | .hbm, ⟨36, _⟩ => ⟨S8x256x1024, .f32⟩
  | .hbm, ⟨37, _⟩ => ⟨S8x256x1024, .f32⟩
  | .hbm, ⟨38, _⟩ => ⟨S1024x6704, .f32⟩
  | .hbm, ⟨39, _⟩ => ⟨S8x256x6704, .f32⟩
  | .hbm, ⟨40, _⟩ => ⟨S8x256x512, .f32⟩
  | .hbm, ⟨41, _⟩ => ⟨S8x256x1536, .f32⟩
  | .hbm, ⟨42, _⟩ => ⟨S8x256x2560, .f32⟩
  | .hbm, ⟨43, _⟩ => ⟨S8x256x48, .f32⟩
  | .hbm, ⟨44, _⟩ => ⟨S8x256x2048, .f32⟩
  | .hbm, ⟨45, _⟩ => ⟨S3x2560, .f32⟩
  | .hbm, ⟨46, _⟩ => ⟨S2560, .f32⟩
  | .hbm, ⟨47, _⟩ => ⟨S8x1x256x2560, .f32⟩
  | .hbm, ⟨48, _⟩ => ⟨S_, .i32⟩
  | .hbm, ⟨49, _⟩ => ⟨S_, .f32⟩
  | .hbm, ⟨50, _⟩ => ⟨S8x1x258x2560, .f32⟩
  | .hbm, ⟨51, _⟩ => ⟨S8x1x256x2560, .f32⟩
  | .hbm, ⟨52, _⟩ => ⟨S1x2560, .f32⟩
  | .hbm, ⟨53, _⟩ => ⟨S2560, .f32⟩
  | .hbm, ⟨54, _⟩ => ⟨S1x1x1x2560, .f32⟩
  | .hbm, ⟨55, _⟩ => ⟨S8x1x256x2560, .f32⟩
  | .hbm, ⟨56, _⟩ => ⟨S8x1x256x2560, .f32⟩
  | .hbm, ⟨57, _⟩ => ⟨S_, .f32⟩
  | .hbm, ⟨58, _⟩ => ⟨S8x1x256x2560, .f32⟩
  | .hbm, ⟨59, _⟩ => ⟨S8x1x256x2560, .f32⟩
  | .hbm, ⟨60, _⟩ => ⟨S8x1x256x2560, .f32⟩
  | .hbm, ⟨61, _⟩ => ⟨S1x2560, .f32⟩
  | .hbm, ⟨62, _⟩ => ⟨S2560, .f32⟩
  | .hbm, ⟨63, _⟩ => ⟨S1x1x1x2560, .f32⟩
  | .hbm, ⟨64, _⟩ => ⟨S8x1x256x2560, .f32⟩
  | .hbm, ⟨65, _⟩ => ⟨S8x1x256x2560, .f32⟩
  | .hbm, ⟨66, _⟩ => ⟨S8x1x256x2560, .f32⟩
  | .hbm, ⟨67, _⟩ => ⟨S8x1x256x2560, .f32⟩
  | .hbm, ⟨68, _⟩ => ⟨S1x2560, .f32⟩
  | .hbm, ⟨69, _⟩ => ⟨S2560, .f32⟩
  | .hbm, ⟨70, _⟩ => ⟨S1x1x1x2560, .f32⟩
  | .hbm, ⟨71, _⟩ => ⟨S8x1x256x2560, .f32⟩
  | .hbm, ⟨72, _⟩ => ⟨S8x1x256x2560, .f32⟩
  | .hbm, ⟨73, _⟩ => ⟨S8x1x256x2560, .f32⟩
  | .hbm, ⟨74, _⟩ => ⟨S1x1x1x2560, .f32⟩
  | .hbm, ⟨75, _⟩ => ⟨S8x1x256x2560, .f32⟩
  | .hbm, ⟨76, _⟩ => ⟨S8x1x256x2560, .f32⟩
  | .hbm, ⟨77, _⟩ => ⟨S8x256x2560, .f32⟩
  | .hbm, ⟨78, _⟩ => ⟨S8x256x2560, .f32⟩
  | .hbm, ⟨79, _⟩ => ⟨S8x256x2560, .f32⟩
  | .hbm, ⟨80, _⟩ => ⟨S_, .f32⟩
  | .hbm, ⟨81, _⟩ => ⟨S8x256x2560, .f32⟩
  | .hbm, ⟨82, _⟩ => ⟨S8x256x2560, .f32⟩
  | .hbm, ⟨83, _⟩ => ⟨S_, .f32⟩
  | .hbm, ⟨84, _⟩ => ⟨S8x256x2560, .f32⟩
  | .hbm, ⟨85, _⟩ => ⟨S8x256x2560, .f32⟩
  | .hbm, ⟨86, _⟩ => ⟨S8x256x2560, .f32⟩
  | .hbm, ⟨87, _⟩ => ⟨S8x256x1536, .f32⟩
  | .hbm, ⟨88, _⟩ => ⟨S8x256x512, .f32⟩
  | .hbm, ⟨89, _⟩ => ⟨S8x256x512, .f32⟩
  | .hbm, ⟨90, _⟩ => ⟨S8x256x2x24, .f32⟩
  | .hbm, ⟨91, _⟩ => ⟨S2x24, .f32⟩
  | .hbm, ⟨92, _⟩ => ⟨S1x1x2x24, .f32⟩
  | .hbm, ⟨93, _⟩ => ⟨S8x256x2x24, .f32⟩
  | .hbm, ⟨94, _⟩ => ⟨S8x256x2x24, .f32⟩
  | .hbm, ⟨95, _⟩ => ⟨S_, .i32⟩
  | .hbm, ⟨96, _⟩ => ⟨S_, .f32⟩
  | .hbm, ⟨97, _⟩ => ⟨S8x256x2x128, .f32⟩
  | .hbm, ⟨98, _⟩ => ⟨S8x256x256, .f32⟩
  | .hbm, ⟨99, _⟩ => ⟨S_, .f32⟩
  | .hbm, ⟨100, _⟩ => ⟨S8x256x256, .f32⟩
  | .hbm, ⟨101, _⟩ => ⟨S8x256x256, .f32⟩
  | .hbm, ⟨102, _⟩ => ⟨S8x256x256, .f32⟩
  | .hbm, ⟨103, _⟩ => ⟨S8x256x256, .f32⟩
  | .hbm, ⟨104, _⟩ => ⟨S8x256x256, .i1⟩
  | .hbm, ⟨105, _⟩ => ⟨S8x256x256, .f32⟩
  | .hbm, ⟨106, _⟩ => ⟨S8x256x256, .f32⟩
  | .hbm, ⟨107, _⟩ => ⟨S8x256x256, .f32⟩
  | .hbm, ⟨108, _⟩ => ⟨S8x256x256, .f32⟩
  | .hbm, ⟨109, _⟩ => ⟨S8x256x256, .f32⟩
  | .hbm, ⟨110, _⟩ => ⟨S8x256x256, .f32⟩
  | .hbm, ⟨111, _⟩ => ⟨S8x256x256, .f32⟩
  | .hbm, ⟨112, _⟩ => ⟨S8x256x256, .f32⟩
  | .hbm, ⟨113, _⟩ => ⟨S8x256x1536, .bf16⟩
  | .hbm, ⟨114, _⟩ => ⟨S8x256x512, .bf16⟩
  | .hbm, ⟨115, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_4 : Ref sig .tc := ⟨.hbm, 95, rfl⟩
abbrev main_call2_v0 : Ref sig .tc := ⟨.hbm, 96, rfl⟩
abbrev main_v73 : Ref sig .tc := ⟨.hbm, 97, rfl⟩
abbrev main_v74 : Ref sig .tc := ⟨.hbm, 98, rfl⟩
abbrev main_call3_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== ModKernel.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩
abbrev S8x6144 : Shape := ⟨2, ![8, 6144]⟩
abbrev S8x6x1x1024 : Shape := ⟨4, ![8, 6, 1, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S16x6144, .f32⟩
  | .hbm, ⟨12, _⟩ => ⟨S8x6144, .f32⟩
  | .hbm, ⟨13, _⟩ => ⟨S8x6x1x1024, .f32⟩
  | .hbm, ⟨14, _⟩ => ⟨S1x6144, .f32⟩
  | .hbm, ⟨15, _⟩ => ⟨S6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S8x6x1x1024 : Shape := ⟨4, ![8, 6, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x6144, .f32⟩
  | .hbm, ⟨14, _⟩ => ⟨S8x6144, .f32⟩
  | .hbm, ⟨15, _⟩ => ⟨S6144, .f32⟩
  | .hbm, ⟨16, _⟩ => ⟨S1x6144, .f32⟩
  | .hbm, ⟨17, _⟩ => ⟨S8x6144, .f32⟩
  | .hbm, ⟨18, _⟩ => ⟨S8x6144, .f32⟩
  | .hbm, ⟨19, _⟩ => ⟨S8x6x1x1024, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024x6144, .f32⟩
  | .hbm, ⟨30, _⟩ => ⟨S6144, .f32⟩
  | .hbm, ⟨31, _⟩ => ⟨S6144, .f32⟩
  | .hbm, ⟨32, _⟩ => ⟨S6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== AffKernel.lean ====
abbrev S8x4096x1536 : Shape := ⟨3, ![8, 4096, 1536]⟩
abbrev S8x4096x512 : Shape := ⟨3, ![8, 4096, 512]⟩
abbrev S8x4096x2048 : Shape := ⟨3, ![8, 4096, 2048]⟩
abbrev S8x4096x1024 : Shape := ⟨3, ![8, 4096, 1024]⟩
abbrev S8x1x1024 : Shape := ⟨3, ![8, 1, 1024]⟩
abbrev S1x24 : Shape := ⟨2, ![1, 24]⟩
abbrev S1x1536 : Shape := ⟨2, ![1, 1536]⟩
abbrev S1x1024 : Shape := ⟨2, ![1, 1024]⟩
abbrev S1x1536x1024 : Shape := ⟨3, ![1, 1536, 1024]⟩
abbrev S1x512x1024 : Shape := ⟨3, ![1, 512, 1024]⟩
abbrev S1x1024x1024 : Shape := ⟨3, ![1, 1024, 1024]⟩
abbrev S1x1024x16 : Shape := ⟨3, ![1, 1024, 16]⟩
abbrev S24 : Shape := ⟨1, ![24]⟩
abbrev S24x64 : Shape := ⟨2, ![24, 64]⟩
abbrev S1536 : Shape := ⟨1, ![1536]⟩
abbrev S1024 : Shape := ⟨1, ![1024]⟩
abbrev S1536x1024 : Shape := ⟨2, ![1536, 1024]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S8x4096x8x128 : Shape := ⟨4, ![8, 4096, 8, 128]⟩
abbrev S8x16x4096 : Shape := ⟨3, ![8, 16, 4096]⟩
abbrev S1x512x1536 : Shape := ⟨3, ![1, 512, 1536]⟩
abbrev S1x512x512 : Shape := ⟨3, ![1, 512, 512]⟩
abbrev S1x512x2048 : Shape := ⟨3, ![1, 512, 2048]⟩
abbrev S1x1x1024 : Shape := ⟨3, ![1, 1, 1024]⟩
abbrev S1x512x8x128 : Shape := ⟨4, ![1, 512, 8, 128]⟩
abbrev S1x16x512 : Shape := ⟨3, ![1, 16, 512]⟩
abbrev S1x128x1536 : Shape := ⟨3, ![1, 128, 1536]⟩
abbrev S128x1536 : Shape := ⟨2, ![128, 1536]⟩
abbrev S128 : Shape := ⟨1, ![128]⟩
abbrev S128x1 : Shape := ⟨2, ![128, 1]⟩
abbrev S128x1024 : Shape := ⟨2, ![128, 1024]⟩
abbrev S1x128x512 : Shape := ⟨3, ![1, 128, 512]⟩
abbrev S128x512 : Shape := ⟨2, ![128, 512]⟩
abbrev S1x128x2048 : Shape := ⟨3, ![1, 128, 2048]⟩
abbrev S128x2048 : Shape := ⟨2, ![128, 2048]⟩
abbrev S1x128x1024 : Shape := ⟨3, ![1, 128, 1024]⟩
abbrev S128x128 : Shape := ⟨2, ![128, 128]⟩
abbrev S1x128x128 : Shape := ⟨3, ![1, 128, 128]⟩
abbrev S8x128x128 : Shape := ⟨3, ![8, 128, 128]⟩
abbrev S128x8x128 : Shape := ⟨3, ![128, 8, 128]⟩
abbrev S1x128x8x128 : Shape := ⟨4, ![1, 128, 8, 128]⟩
abbrev S16x128 : Shape := ⟨2, ![16, 128]⟩
abbrev S1x16x128 : Shape := ⟨3, ![1, 16, 128]⟩

abbrev nBuf : Space → Nat
  | .hbm => 41
  | .vmem => 34
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x1536, .bf16⟩
  | .hbm, ⟨3, _⟩ => ⟨S8x4096x1536, .bf16⟩
  | .hbm, ⟨4, _⟩ => ⟨S8x4096x512, .f32⟩
  | .hbm, ⟨5, _⟩ => ⟨S8x4096x2048, .bf16⟩
  | .hbm, ⟨6, _⟩ => ⟨S8x4096x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x24, .f32⟩
  | .hbm, ⟨11, _⟩ => ⟨S1x1536, .f32⟩
  | .hbm, ⟨12, _⟩ => ⟨S1x1024, .f32⟩
  | .hbm, ⟨13, _⟩ => ⟨S1x1024, .f32⟩
  | .hbm, ⟨14, _⟩ => ⟨S1x1536x1024, .f32⟩
  | .hbm, ⟨15, _⟩ => ⟨S1x512x1024, .f32⟩
  | .hbm, ⟨16, _⟩ => ⟨S1x1024x1024, .f32⟩
  | .hbm, ⟨17, _⟩ => ⟨S1x1024x16, .f32⟩
  | .hbm, ⟨18, _⟩ => ⟨S24, .f32⟩
  | .hbm, ⟨19, _⟩ => ⟨S24x64, .f32⟩
  | .hbm, ⟨20, _⟩ => ⟨S1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1536x1024, .f32⟩
  | .hbm, ⟨29, _⟩ => ⟨S1536x1024, .bf16⟩
  | .hbm, ⟨30, _⟩ => ⟨S512x1024, .f32⟩
  | .hbm, ⟨31, _⟩ => ⟨S512x1024, .bf16⟩
  | .hbm, ⟨32, _⟩ => ⟨S1024x1024, .f32⟩
  | .hbm, ⟨33, _⟩ => ⟨S1024x1024, .bf16⟩
  | .hbm, ⟨34, _⟩ => ⟨S1024x16, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S8x4096x1024, .f32⟩
  | .hbm, ⟨39, _⟩ => ⟨S8x4096x8x128, .f32⟩
  | .hbm, ⟨40, _⟩ => ⟨S8x16x4096, .f32⟩
  | .local _ .vmem, ⟨0, _⟩ => ⟨S1x512x1536, .bf16⟩
  | .local _ .vmem, ⟨1, _⟩ => ⟨S1x512x1536, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x1536, .bf16⟩
  | .local _ .vmem, ⟨5, _⟩ => ⟨S1x512x1536, .bf16⟩
  | .local _ .vmem, ⟨6, _⟩ => ⟨S1x512x1536, .bf16⟩
  | .local _ .vmem, ⟨7, _⟩ => ⟨S1x512x1536, .bf16⟩
  | .local _ .vmem, ⟨8, _⟩ => ⟨S1x512x512, .f32⟩
  | .local _ .vmem, ⟨9, _⟩ => ⟨S1x512x512, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1536, .f32⟩
  | .local _ .vmem, ⟨21, _⟩ => ⟨S1x1536, .f32⟩
  | .local _ .vmem, ⟨22, _⟩ => ⟨S1x1024, .f32⟩
  | .local _ .vmem, ⟨23, _⟩ => ⟨S1x1024, .f32⟩
  | .local _ .vmem, ⟨24, _⟩ => ⟨S1536x1024, .bf16⟩
  | .local _ .vmem, ⟨25, _⟩ => ⟨S512x1024, .bf16⟩
  | .local _ .vmem, ⟨26, _⟩ => ⟨S1024x1024, .bf16⟩
  | .local _ .vmem, ⟨27, _⟩ => ⟨S1024x128, .f32⟩
  | .local _ .vmem, ⟨28, _⟩ => ⟨S1x512x1024, .f32⟩
  | .local _ .vmem, ⟨29, _⟩ => ⟨S1x512x1024, .f32⟩
  | .local _ .vmem, ⟨30, _⟩ => ⟨S1x512x8x128, .f32⟩
  | .local _ .vmem, ⟨31, _⟩ => ⟨S1x512x8x128, .f32⟩
  | .local _ .vmem, ⟨32, _⟩ => ⟨S1x16x512, .f32⟩
  | .local _ .vmem, ⟨33, _⟩ => ⟨S1x16x512, .f32⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_call0_v0 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== AffKernelIdeal.lean ====
variable {F : FTy → Type} [FloatOps F] [Named F]
def κ : String → Option EReal := fun
  | "mask" => some ⊥
  | _ => none
-- ==== AffReferenceIdeal.lean ====
abbrev S8x4096x1536 : Shape := ⟨3, ![8, 4096, 1536]⟩
abbrev S8x4096x512 : Shape := ⟨3, ![8, 4096, 512]⟩
abbrev S8x4096x2048 : Shape := ⟨3, ![8, 4096, 2048]⟩
abbrev S8x4096x1024 : Shape := ⟨3, ![8, 4096, 1024]⟩
abbrev S8x1x1024 : Shape := ⟨3, ![8, 1, 1024]⟩
abbrev S1x24 : Shape := ⟨2, ![1, 24]⟩
abbrev S1x1536 : Shape := ⟨2, ![1, 1536]⟩
abbrev S1x1024 : Shape := ⟨2, ![1, 1024]⟩
abbrev S1x1536x1024 : Shape := ⟨3, ![1, 1536, 1024]⟩
abbrev S1x512x1024 : Shape := ⟨3, ![1, 512, 1024]⟩
abbrev S1x1024x1024 : Shape := ⟨3, ![1, 1024, 1024]⟩
abbrev S1x1024x16 : Shape := ⟨3, ![1, 1024, 16]⟩
abbrev S8x4096x24x64 : Shape := ⟨4, ![8, 4096, 24, 64]⟩
abbrev S24 : Shape := ⟨1, ![24]⟩
abbrev S24x1 : Shape := ⟨2, ![24, 1]⟩
abbrev S1x1x24x1 : Shape := ⟨4, ![1, 1, 24, 1]⟩
abbrev S1536 : Shape := ⟨1, ![1536]⟩
abbrev S_ : Shape := ⟨0, ![]⟩
abbrev S8x4096 : Shape := ⟨2, ![8, 4096]⟩
abbrev S8x4096x1 : Shape := ⟨3, ![8, 4096, 1]⟩
abbrev S1x1x1536 : Shape := ⟨3, ![1, 1, 1536]⟩
abbrev S1536x1024 : Shape := ⟨2, ![1536, 1024]⟩
abbrev S512x1024 : Shape := ⟨2, ![512, 1024]⟩
abbrev S8x4096x2x1024 : Shape := ⟨4, ![8, 4096, 2, 1024]⟩
abbrev S8x4096x1x1024 : Shape := ⟨4, ![8, 4096, 1, 1024]⟩
abbrev S1024x1024 : Shape := ⟨2, ![1024, 1024]⟩
abbrev S1024 : Shape := ⟨1, ![1024]⟩
abbrev S1x1x1024 : Shape := ⟨3, ![1, 1, 1024]⟩
abbrev S1024x16 : Shape := ⟨2, ![1024, 16]⟩
abbrev S8x4096x16 : Shape := ⟨3, ![8, 4096, 16]⟩
abbrev S8x16x4096 : Shape := ⟨3, ![8, 16, 4096]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S8x4096x1536, .bf16⟩
  | .hbm, ⟨2, _⟩ => ⟨S8x4096x1536, .bf16⟩
  | .hbm, ⟨3, _⟩ => ⟨S8x4096x1536, .bf16⟩
  | .hbm, ⟨4, _⟩ => ⟨S8x4096x512, .f32⟩
  | .hbm, ⟨5, _⟩ => ⟨S8x4096x2048, .bf16⟩
  | .hbm, ⟨6, _⟩ => ⟨S8x4096x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S1x24, .f32⟩
  | .hbm, ⟨11, _⟩ => ⟨S1x1536, .f32⟩
  | .hbm, ⟨12, _⟩ => ⟨S1x1024, .f32⟩
  | .hbm, ⟨13, _⟩ => ⟨S1x1024, .f32⟩
  | .hbm, ⟨14, _⟩ => ⟨S1x1536x1024, .f32⟩
  | .hbm, ⟨15, _⟩ => ⟨S1x512x1024, .f32⟩
  | .hbm, ⟨16, _⟩ => ⟨S1x1024x1024, .f32⟩
  | .hbm, ⟨17, _⟩ => ⟨S1x1024x16, .f32⟩
  | .hbm, ⟨18, _⟩ => ⟨S8x4096x1536, .f32⟩
  | .hbm, ⟨19, _⟩ => ⟨S8x4096x24x64, .f32⟩
  | .hbm, ⟨20, _⟩ => ⟨S8x4096x1536, .f32⟩
  | .hbm, ⟨21, _⟩ => ⟨S8x4096x1536, .f32⟩
  | .hbm, ⟨22, _⟩ => ⟨S8x4096x1536, .f32⟩
  | .hbm, ⟨23, _⟩ => ⟨S8x4096x24x64, .f32⟩
  | .hbm, ⟨24, _⟩ => ⟨S24, .f32⟩
  | .hbm, ⟨25, _⟩ => ⟨S24x1, .f32⟩
  | .hbm, ⟨26, _⟩ => ⟨S1x1x24x1, .f32⟩
  | .hbm, ⟨27, _⟩ => ⟨S8x4096x24x64, .f32⟩
  | .hbm, ⟨28, _⟩ => ⟨S8x4096x24x64, .f32⟩
  | .hbm, ⟨29, _⟩ => ⟨S8x4096x24x64, .f32⟩
  | .hbm, ⟨30, _⟩ => ⟨S8x4096x1536, .f32⟩
  | .hbm, ⟨31, _⟩ => ⟨S8x4096x1536, .f32⟩
  | .hbm, ⟨32, _⟩ => ⟨S8x4096x1536, .f32⟩
  | .hbm, ⟨33, _⟩ => ⟨S1536, .f32⟩
  | .hbm, ⟨34, _⟩ => ⟨S8x4096x1536, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1536, .f32⟩
  | .hbm, ⟨46, _⟩ => ⟨S8x4096x1536, .f32⟩
  | .hbm, ⟨47, _⟩ => ⟨S1x1x1536, .f32⟩
  | .hbm, ⟨48, _⟩ => ⟨S8x4096x1536, .f32⟩
  | .hbm, ⟨49, _⟩ => ⟨S8x4096x1536, .f32⟩
  | .hbm, ⟨50, _⟩ => ⟨S1536x1024, .f32⟩
  | .hbm, ⟨51, _⟩ => ⟨S8x4096x1024, .f32⟩
  | .hbm, ⟨52, _⟩ => ⟨S512x1024, .f32⟩
  | .hbm, ⟨53, _⟩ => ⟨S8x4096x1024, .f32⟩
  | .hbm, ⟨54, _⟩ => ⟨S8x4096x2048, .f32⟩
  | .hbm, ⟨55, _⟩ => ⟨S8x4096x2x1024, .f32⟩
  | .hbm, ⟨56, _⟩ => ⟨S8x4096x1x1024, .f32⟩
  | .hbm, ⟨57, _⟩ => ⟨S8x4096x1024, .f32⟩
  | .hbm, ⟨58, _⟩ => ⟨S8x4096x1024, .f32⟩
  | .hbm, ⟨59, _⟩ => ⟨S8x4096x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S1024x1024, .f32⟩
  | .hbm, ⟨64, _⟩ => ⟨S8x4096x1024, .f32⟩
  | .hbm, ⟨65, _⟩ => ⟨S1024, .f32⟩
  | .hbm, ⟨66, _⟩ => ⟨S8x4096x1024, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x1, .f32⟩
  | .hbm, ⟨77, _⟩ => ⟨S8x4096x1024, .f32⟩
  | .hbm, ⟨78, _⟩ => ⟨S8x4096x1024, .f32⟩
  | .hbm, ⟨79, _⟩ => ⟨S1x1x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S_, .f32⟩
  | .hbm, ⟨103, _⟩ => ⟨S8x1x1024, .f32⟩
  | .hbm, ⟨104, _⟩ => ⟨S8x1x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | .hbm, ⟨109, _⟩ => ⟨S1024x16, .f32⟩
  | .hbm, ⟨110, _⟩ => ⟨S8x4096x16, .f32⟩
  | .hbm, ⟨111, _⟩ => ⟨S_, .f32⟩
  | .hbm, ⟨112, _⟩ => ⟨S8x4096, .f32⟩
  | .hbm, ⟨113, _⟩ => ⟨S_, .f32⟩
  | .hbm, ⟨114, _⟩ => ⟨S8x4096, .f32⟩
  | .hbm, ⟨115, _⟩ => ⟨S8x4096, .f32⟩
  | .hbm, ⟨116, _⟩ => ⟨S8x4096x1, .f32⟩
  | .hbm, ⟨117, _⟩ => ⟨S8x4096x16, .f32⟩
  | .hbm, ⟨118, _⟩ => ⟨S8x4096x16, .f32⟩
  | .hbm, ⟨119, _⟩ => ⟨S8x4096x16, .f32⟩
  | .hbm, ⟨120, _⟩ => ⟨S_, .f32⟩
  | .hbm, ⟨121, _⟩ => ⟨S8x4096, .f32⟩
  | .hbm, ⟨122, _⟩ => ⟨S8x4096x1, .f32⟩
  | .hbm, ⟨123, _⟩ => ⟨S8x4096x16, .f32⟩
  | .hbm, ⟨124, _⟩ => ⟨S8x4096x16, .f32⟩
  | .hbm, ⟨125, _⟩ => ⟨S8x16x4096, .f32⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_cst_7 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_8 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_9 : Ref sig .tc := ⟨.hbm, 111, rfl⟩
abbrev main_v83 : Ref sig .tc := ⟨.hbm, 112, rfl⟩
abbrev main_cst_10 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Proof.Slot.lean ====
/- Reading and writing one row tile of one slot of the two-slot accumulator. -/
module

public import proofs.«01_k».proof.Proof.Gen.KernelIdeal.Frame
public import Idealize.ShloMosaic.Lib.Pointwise

@[expose] public section

set_option maxRecDepth 16384

noncomputable section

namespace Cert.Proof.Combine

open Cert.KernelIdeal Cert.KernelIdeal.Gen
open Idealize.ShloMosaic Idealize.ShloMosaic.TcCoe Idealize.ShloMosaic.Tactic

variable {F : FTy → Type} [FloatOps F]

/-- The accumulator read as an array: slot, row, and the row's 8 by 128 tile. -/
abbrev Scr (F : FTy → Type) : Type := S2x4096x8x128.Idx → F .f32

/-- A squeezed slot's index, unsqueezed. -/
theorem unsqueeze (h : S4096x8x128.numel = S1x4096x8x128.numel) (a : Fin 4096) (b : Fin 8) (l : Fin 128) :
    Shape.reshapeEquiv (s := S1x4096x8x128) (s' := S4096x8x128) h (ix3 a b l) = ix4 0 a b l := by
  apply Shape.reshapeEquiv_eq_of_rowMajor
  show (Shape.rowMajorPi ![1, 4096, 8, 128] (ix4 0 a b l)).val = (Shape.rowMajorPi ![4096, 8, 128] (ix3 a b l)).val
  rw [Shape.rowMajorPi_succ_val]
  show 0 * _ + (Shape.rowMajorPi ![4096, 8, 128] (ix3 a b l)).val = _
  simp

/-- One row tile of a slot, as a view of the accumulator. -/
abbrev slotView (M : Memref sig .tc .vmem S2x4096x8x128 .f32) (o : Fin 4 → Nat) (ho : ∀ a, o a + S1x4096x8x128.size a ≤ S2x4096x8x128.size a) :
    Memref sig .tc .vmem S4096x8x128 .f32 :=
  (M.slice (Rect.unit (s := S2x4096x8x128) o S1x4096x8x128.size ho) (fun _ => rfl)).squeeze S4096x8x128 squeezes_S1x4096x8x128_S4096x8x128

variable (M : Memref sig .tc .vmem S2x4096x8x128 .f32)

/-- Where the slot's view places row `a`. -/
theorem slotView_emb (o : Fin 4 → Nat) (ho) (s : Fin 2) (hs : o = ![s.val, 0, 0, 0]) (a : Fin 4096) (b : Fin 8) (l : Fin 128) :
    (slotView M o ho).view.emb (ix3 a b l) = M.view.emb (ix4 s a b l) := by
  subst hs
  show M.view.emb ((Rect.unit (s := S2x4096x8x128) _ S1x4096x8x128.size ho).emb (Shape.reshapeEquiv _ (ix3 a b l))) = _
  rw [unsqueeze]
  congr 1
  funext x
  apply Fin.ext
  fin_cases x <;> simp [Rect.unit, Rect.emb, ix4]

/-- A row tile loaded through the slot's view. -/
theorem load_row (o : Fin 4 → Nat) (ho) (s : Fin 2) (hs : o = ![s.val, 0, 0, 0]) (r : Fin 3 → Nat) (hr) (v : Fin 4096) (hv : r = ![v.val, 0, 0])
    (f : M.view.ty.Contents (Elt F)) (z : Fin 1) (b : Fin 8) (l : Fin 128) :
    (slotView M o ho).view.readAt (Elt F) (Rect.unit (s := S4096x8x128) r S1x8x128.size hr).toLoadRect f (ix3 z b l)
      = M.view.read (Elt F) f (ix4 s v b l) := by
  subst hv
  have e : (Rect.unit (s := S4096x8x128) _ S1x8x128.size hr).toLoadRect.idx (ix3 z b l) = ix3 v b l := by
    funext x
    apply Fin.ext
    have hz := z.isLt
    fin_cases x <;> simp [Rect.unit, LoadRect.idx, Rect.toLoadRect, ix3]
  rw [View.readAt_apply, e]
  exact congrArg (fun q => cast (congrArg (Elt F) M.view.elt_eq) (f q)) (slotView_emb M o ho s hs v b l)

/-- The accumulator after one row tile is stored. -/
def putRow (s : Fin 2) (v : Fin 4096) (w : Fin 8 → Fin 128 → F .f32) (G : Scr F) : Scr F :=
  fun j => if (j 0).val = s.val ∧ (j 1).val = v.val then w (j 2) (j 3) else G j

/-- A row tile stored through the slot's view. -/
theorem store_row (o : Fin 4 → Nat) (ho) (s : Fin 2) (hs : o = ![s.val, 0, 0, 0]) (r : Fin 3 → Nat) (hr) (v : Fin 4096) (hv : r = ![v.val, 0, 0])
    (g : M.view.ty.Contents (Elt F)) (w : S1x8x128.Idx → Elt F .f32) :
    M.view.read (Elt F) (((slotView M o ho).access (Rect.unit (s := S4096x8x128) r S1x8x128.size hr)).write (Elt F) g w Finset.univ)
      = putRow s v (fun b l => w (ix3 0 b l)) (M.view.read (Elt F) g) := by
  have emb : ∀ (z : Fin 1) (b : Fin 8) (l : Fin 128), ((slotView M o ho).access (Rect.unit (s := S4096x8x128) r S1x8x128.size hr)).emb (ix3 z b l)
      = M.view.emb (ix4 s v b l) := by
    intro z b l
    subst hv
    have e : (Rect.unit (s := S4096x8x128) _ S1x8x128.size hr).emb (ix3 z b l) = ix3 v b l := by
      funext x
      apply Fin.ext
      have hz := z.isLt
      fin_cases x <;> simp [Rect.unit, Rect.emb, ix3]
    show (slotView M o ho).view.emb ((Rect.unit (s := S4096x8x128) _ S1x8x128.size hr).emb (ix3 z b l)) = _
    rw [e]
    exact slotView_emb M o ho s hs v b l
  funext j
  obtain ⟨s', v', b, l, rfl⟩ : ∃ (s' : Fin 2) (v' : Fin 4096) (b : Fin 8) (l : Fin 128), j = ix4 s' v' b l := ⟨j 0, j 1, j 2, j 3, eq_ix4 j⟩
  show cast (congrArg (Elt F) M.view.elt_eq) _ = if s'.val = s.val ∧ v'.val = v.val then w (ix3 0 b l) else _
  by_cases h : s'.val = s.val ∧ v'.val = v.val
  · obtain ⟨h1, h2⟩ := h
    obtain rfl := Fin.ext h1
    obtain rfl := Fin.ext h2
    rw [if_pos ⟨rfl, rfl⟩, ← emb 0 b l, View.write_emb_of_mem _ _ (Finset.mem_univ _), cast_cast, cast_eq]
  · rw [if_neg h, View.write_of_not_mem]
    · rfl
    · intro hm
      obtain ⟨x, -, hx⟩ := Finset.mem_map.mp hm
      obtain ⟨z, b', l', rfl⟩ : ∃ (z : Fin 1) (b : Fin 8) (l : Fin 128), x = ix3 z b l := ⟨x 0, x 1, x 2, eq_ix3 x⟩
      rw [emb] at hx
      have := M.view.emb.injective hx
      exact h ⟨congrArg Fin.val (congrFun this 0).symm, congrArg Fin.val (congrFun this 1).symm⟩

/-- The row the `n`-th word of a list names. -/
def rowOf (I : S1x1x512.Idx → BitVec 32) (n : Nat) : Fin 4096 := ⟨(I (ix3 0 0 ⟨n % 512, Nat.mod_lt _ (by decide)⟩)).toNat % 4096, Nat.mod_lt _ (by decide)⟩

/-- What the `n`-th list entry adds to its row: the expert's output row, weighted. -/
def addend (V : S1x1x512.Idx → F .f32) (Y : S1x256x16x128.Idx → F .bf16) (n : Nat) (b : Fin 8) (l : Fin 128) : F .f32 :=
  FloatOps.mulf (FloatOps.extf .f32 bitsLt_bf16_f32 (Y (ix4 0 ⟨n / 2 % 256, Nat.mod_lt _ (by decide)⟩ ⟨(8 * (n % 2) + b.val) % 16, Nat.mod_lt _ (by decide)⟩ l)))
    (V (ix3 0 0 ⟨n % 512, Nat.mod_lt _ (by decide)⟩))

/-- Entry `n` of the lists, applied: its row of slot `s` becomes what the row held in `f` plus the entry's addend. -/
def stepRow (s : Fin 2) (I : S1x1x512.Idx → BitVec 32) (V : S1x1x512.Idx → F .f32) (Y : S1x256x16x128.Idx → F .bf16) (f : Scr F) (n : Nat) (G : Scr F) : Scr F :=
  putRow s (rowOf I n) (fun b l => FloatOps.addf (f (ix4 s (rowOf I n) b l)) (addend V Y n b l)) G

/-- The entries `16 k, …, 16 k + u - 1`, every row read before any is written. -/
def chain (s : Fin 2) (I : S1x1x512.Idx → BitVec 32) (V : S1x1x512.Idx → F .f32) (Y : S1x256x16x128.Idx → F .bf16) (k : Nat) (f : Scr F) : Nat → Scr F
  | 0 => f
  | u + 1 => stepRow s I V Y f (16 * k + u) (chain s I V Y k f u)

/-- What one trip stores of one row, at an index. -/
theorem payload_apply (q : Nat) (hq : q < 2) (o : Fin 2 → Nat) (ho : o = ![8 * q, 0]) (hs : S16x128.Slices o S8x128) (old : S1x8x128.Idx → F .f32)
    (y : S1x1x16x128.Idx → F .bf16) (x : F .f32) (b : Fin 8) (l : Fin 128) :
    (shapeCast S1x8x128 (addf (shapeCast S8x128 old shapeCasts_S1x8x128_S8x128) (mulf (extractStridedSlice S8x128 o (extf .f32 (shapeCast S16x128 y shapeCasts_S1x1x16x128_S16x128) bitsLt_bf16_f32) hs) (broadcast S8x128 x)))
      shapeCasts_S8x128_S1x8x128 : S1x8x128.Idx → F .f32) (ix3 0 b l)
      = FloatOps.addf (old (ix3 0 b l)) (FloatOps.mulf (FloatOps.extf .f32 bitsLt_bf16_f32 (y (ix4 0 0 ⟨8 * q + b.val, by omega⟩ l))) x) := by
  subst ho
  obtain rfl | rfl : q = 0 ∨ q = 1 := by omega
  all_goals pointwise

/-- The loop's grid slot: the batch's parity. -/
def slotOf (i : grid0.Coords) : Fin 2 := ⟨(i 0).val % 2, Nat.mod_lt _ (by decide)⟩

/-- A word read from a list in scalar memory. -/
theorem word_read {e : EltTy} (A : Memref sig .tc .smem S1x1x512 e) (o : Fin 3 → Nat) (ho : ∀ a, o a + S1x1x1.size a ≤ S1x1x512.size a) (n : Nat)
    (hn : o = ![0, 0, n]) (X : A.view.ty.Contents (Elt F)) (x : S1x1x1.Idx) :
    A.view.readAt (Elt F) (Rect.unit (s := S1x1x512) o S1x1x1.size ho).toLoadRect X x = A.view.read (Elt F) X (ix3 0 0 ⟨n % 512, Nat.mod_lt _ (by decide)⟩) := by
  subst hn
  have hlt : n < 512 := by have := ho 2; simpa using this
  rw [View.readAt_apply]
  congr 1
  funext a
  apply Fin.ext
  have h2 : (x 2).val < 1 := (x 2).isLt
  have h1 : (x 1).val < 1 := (x 1).isLt
  have h0 : (x 0).val < 1 := (x 0).isLt
  fin_cases a <;> simp [Rect.unit, LoadRect.idx, Rect.toLoadRect, ix3, Nat.mod_eq_of_lt hlt] <;> omega

/-- One box of two expert rows loaded. -/
theorem box_read (A : Memref sig .tc .vmem S1x256x16x128 .bf16) (o : Fin 4 → Nat) (ho : ∀ a, o a + S1x1x16x128.size a ≤ S1x256x16x128.size a) (p : Nat)
    (hp : o = ![0, p, 0, 0]) (X : A.view.ty.Contents (Elt F)) (b : Fin 16) (l : Fin 128) :
    A.view.readAt (Elt F) (Rect.unit (s := S1x256x16x128) o S1x1x16x128.size ho).toLoadRect X (ix4 0 0 b l)
      = A.view.read (Elt F) X (ix4 0 ⟨p % 256, Nat.mod_lt _ (by decide)⟩ b l) := by
  subst hp
  have hlt : p < 256 := by have := ho 1; simpa using this
  rw [View.readAt_apply]
  congr 1
  funext a
  apply Fin.ext
  fin_cases a <;> simp [Rect.unit, LoadRect.idx, Rect.toLoadRect, ix4, Nat.mod_eq_of_lt hlt]

/-- One entry's read-and-store, as the program does it, applies the entry. -/
theorem row_step (s : Fin 2) (I : Memref sig .tc .smem S1x1x512 .i32) (V : Memref sig .tc .smem S1x1x512 .f32) (Y : Memref sig .tc .vmem S1x256x16x128 .bf16)
    (XI : I.view.ty.Contents (Elt F)) (XV : V.view.ty.Contents (Elt F)) (XY : Y.view.ty.Contents (Elt F)) (k u : Nat) (f g : M.view.ty.Contents (Elt F))
    (oL oS : Fin 4 → Nat) (hoL hoS) (eL : oL = ![s.val, 0, 0, 0]) (eS : oS = ![s.val, 0, 0, 0])
    (oV : Fin 3 → Nat) (hoV) (x' : S1x1x1.Idx) (eV : oV = ![0, 0, 16 * k + u])
    (oY : Fin 4 → Nat) (hoY) (eY : oY = ![0, (16 * k + u) / 2, 0, 0])
    (o : Fin 2 → Nat) (ho : o = ![8 * ((16 * k + u) % 2), 0]) (hs : S16x128.Slices o S8x128)
    (hlt : (I.view.read (Elt F) XI (ix3 0 0 ⟨(16 * k + u) % 512, Nat.mod_lt _ (by decide)⟩) : BitVec 32).toNat < 4096)
    (rL rS : Fin 3 → Nat) (hrL hrS)
    (w : BitVec 32) (erL : rL = ![w.toNat, 0, 0]) (erS : rS = ![w.toNat, 0, 0])
    (ew : w = (I.view.read (Elt F) XI (ix3 0 0 ⟨(16 * k + u) % 512, Nat.mod_lt _ (by decide)⟩) : BitVec 32))
    (hg : M.view.read (Elt F) g = chain s (I.view.read (Elt F) XI) (V.view.read (Elt F) XV) (Y.view.read (Elt F) XY) k (M.view.read (Elt F) f) u) :
    M.view.read (Elt F) (((slotView M oS hoS).access (Rect.unit (s := S4096x8x128) rS S1x8x128.size hrS)).write (Elt F) g
        (shapeCast S1x8x128 (addf (F := F) (φ := .f32) (shapeCast S8x128 ((slotView M oL hoL).view.readAt (Elt F) (Rect.unit (s := S4096x8x128) rL S1x8x128.size hrL).toLoadRect f) shapeCasts_S1x8x128_S8x128)
          (mulf (extractStridedSlice S8x128 o (extf .f32 (shapeCast S16x128 (Y.view.readAt (Elt F) (Rect.unit (s := S1x256x16x128) oY S1x1x16x128.size hoY).toLoadRect XY) shapeCasts_S1x1x16x128_S16x128) bitsLt_bf16_f32) hs)
            (broadcast S8x128 (V.view.readAt (Elt F) (Rect.unit (s := S1x1x512) oV S1x1x1.size hoV).toLoadRect XV x')))) shapeCasts_S8x128_S1x8x128) Finset.univ)
      = chain s (I.view.read (Elt F) XI) (V.view.read (Elt F) XV) (Y.view.read (Elt F) XY) k (M.view.read (Elt F) f) (u + 1) := by
  have er : ∀ r : Fin 3 → Nat, r = ![w.toNat, 0, 0] → r = ![(rowOf (I.view.read (Elt F) XI) (16 * k + u)).val, 0, 0] := by
    intro r h
    rw [h, ew]
    exact congrArg (fun n : Nat => (![n, 0, 0] : Fin 3 → Nat)) (Nat.mod_eq_of_lt hlt).symm
  rw [store_row M oS hoS s eS rS hrS _ (er rS erS), hg]
  show _ = stepRow _ _ _ _ _ _ _
  unfold stepRow
  congr 1
  funext b l
  rw [payload_apply _ (Nat.mod_lt _ (by decide)) o ho hs, load_row M oL hoL s eL rL hrL _ (er rL erL), box_read Y oY hoY _ eY, word_read V oV hoV _ eV]
  have hb := b.isLt
  have e : (⟨(8 * ((16 * k + u) % 2) + b.val) % 16, Nat.mod_lt _ (by decide)⟩ : Fin 16) = ⟨8 * ((16 * k + u) % 2) + b.val, by omega⟩ := Fin.ext (Nat.mod_eq_of_lt (by omega))
  unfold addend
  rw [e]
end Cert.Proof.Combine
end
-- ==== Proof.Trip.lean ====
/- One trip of the row loops, run symbolically. -/
module

public import proofs.«01_k».proof.Proof.Gen.KernelIdeal.Frame
public import proofs.«01_k».proof.Proof.Gen.KernelIdeal.Loops
public import proofs.«01_k».proof.Proof.Slot

@[expose] public section

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- No variants beside the pipeline's own. -/
abbrev 𝒱₀ : Variants := Variants.none

/-- A row named by a word below 4096 lies inside a slot of 4096 row tiles. -/
theorem row_inb (v : BitVec 32) (h : v.toNat < 4096) : ∀ a, (![v.toNat, 0, 0] : Fin 3 → Nat) a + S1x8x128.size a ≤ S4096x8x128.size a := by
  intro a
  fin_cases a
  · show v.toNat + 1 ≤ 4096; omega
  · exact Nat.le_refl 8
  · exact Nat.le_refl 128

/-- Every access through a slot is at the batch's parity. -/
theorem off4_eq : ∀ i : grid0.Coords, k0_off4 i = ![(slotOf i).val, 0, 0, 0] := by decide +kernel

section
variable (c : Dev nD) (i : grid0.Coords) (arg2 : Memref sig .tc .smem S1x1x512 .i32) (harg2 : arg2.IsWhole) (arg3 : Memref sig .tc .smem S1x1x512 .i32) (harg3 : arg3.IsWhole) (arg4 : Memref sig .tc .smem S1x1x512 .f32) (harg4 : arg4.IsWhole) (arg5 : Memref sig .tc .smem S1x1x512 .f32) (harg5 : arg5.IsWhole) (arg6 : Memref sig .tc .vmem S1x256x16x128 .bf16) (harg6 : arg6.IsWhole) (arg7 : Memref sig .tc .vmem S1x256x16x128 .bf16) (harg7 : arg7.IsWhole) (arg8 : Memref sig .tc .vmem S1x512x1024 .f32) (harg8 : arg8.IsWhole) (arg9 : Memref sig .tc .vmem S1x1x1024 .f32) (harg9 : arg9.IsWhole) (arg10 : Memref sig .tc .vmem S1x8x128 .f32) (harg10 : arg10.IsWhole) (arg11 : Memref sig .tc .vmem S1x512x1024 .f32) (harg11 : arg11.IsWhole) (arg12 : Memref sig .tc .vmem S2x4096x8x128 .f32) (harg12 : arg12.IsWhole) (k0_h2 : k0_cond2 i = 1#1)

/-- A memref's own elements, held whole at `f`. -/
abbrev at_ {sp : Space} {s : Shape} {e : EltTy} (c : Dev nD) (M : Memref sig .tc sp s e) (f : Buf (Elt F) (M.view.loc (c : Thread nD τ))) : sProp 𝕄 :=
  iprop(M.view.loc (c : Thread nD τ) ↦[M.view.set]{fullShare} f)

/-- The whole buffer a memref names, held at `f`. -/
abbrev atw {sp : Space} {s : Shape} {e : EltTy} (c : Dev nD) (M : Memref sig .tc sp s e) (f : Buf (Elt F) (M.view.loc (c : Thread nD τ))) : sProp 𝕄 :=
  iprop(M.view.loc (c : Thread nD τ) ↦{fullShare} f)
theorem trip1 (k : Fin k0_t1_loop.trips)
    (X2 : Buf (Elt F) (arg2.view.loc (c : Thread nD τ))) (X4 : Buf (Elt F) (arg4.view.loc (c : Thread nD τ))) (X6 : Buf (Elt F) (arg6.view.loc (c : Thread nD τ)))
    (f : Buf (Elt F) (arg12.view.loc (c : Thread nD τ)))
    (hX : ∀ j, (arg2.view.read (Elt F) X2 j : BitVec 32).toNat < 4096) :
    iprop(at_ c arg2 X2 ∗ at_ c arg4 X4 ∗ at_ c arg6 X6 ∗ atw c arg12 f)
      ⊢ wp frame (wpE defs₀ 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 k0_h2 k ())
          (fun _ => iprop(at_ c arg2 X2 ∗ at_ c arg4 X4 ∗ at_ c arg6 X6 ∗ ∃ f', atw c arg12 f' ∗
            ⌜arg12.view.read (Elt F) f' = chain (slotOf i) (arg2.view.read (Elt F) X2) (arg4.view.read (Elt F) X4) (arg6.view.read (Elt F) X6) k.val (arg12.view.read (Elt F) f) 16⌝)) := by
  iintro ⟨H2, H4, H6, H12⟩
  sl_unfold [k0_t1_body]
  sl_exec (disch := first | exact ⟨fun _ => row_inb _ (hX _), fun _ => row_inb _ (hX _)⟩ | exact fun _ => row_inb _ (hX _))
  sl_step
  isplitl [H2]; · iexact H2
  isplitl [H4]; · iexact H4
  isplitl [H6]; · iexact H6
  iexists _
  isplitl [H12]; · iexact H12
  ipureintro
  iterate 16
    refine row_step arg12 (slotOf i) arg2 arg4 arg6 X2 X4 X6 k.val _ f _ _ _ _ _ (off4_eq i) (off4_eq i) _ _ _ ?_ _ _ ?_ _
      (congrArg (fun n : Nat => (![n, 0] : Fin 2 → Nat)) (by omega)) (by first | exact slices_S16x128_o0_0_S8x128 | exact slices_S16x128_o8_0_S8x128) (hX _) _ _ _ _ _ rfl rfl (word_read arg2 _ _ _ ?_ X2 _) ?_
    · revert k; decide +kernel
    · revert k; decide +kernel
    · revert k; decide +kernel
  rfl

/-- The second loop's body is the first's, over the second expert's windows. -/
theorem body2_eq (k : Fin k0_t1_loop.trips) :
    k0_t2_body (F := F) i arg2 harg2 arg3 harg3 arg4 harg4 arg5 harg5 arg6 harg6 arg7 harg7 arg8 harg8 arg9 harg9 arg10 harg10 arg11 harg11 arg12 harg12 k0_h2 k ()
      = k0_t1_body (F := F) i arg3 harg3 arg2 harg2 arg5 harg5 arg4 harg4 arg7 harg7 arg6 harg6 arg8 harg8 arg9 harg9 arg10 harg10 arg11 harg11 arg12 harg12 k0_h2 k () := rfl
end
end Cert.Proof.Combine
end
-- ==== Proof.Body.lean ====
/- The kernel body, run symbolically at a grid point. -/
module

public import proofs.«01_k».proof.Proof.Gen.KernelIdeal.Frame
public import proofs.«01_k».proof.Proof.Gen.KernelIdeal.Loops
public import proofs.«01_k».proof.Proof.Trip
public import Idealize.ShloMosaic.Lib.VecWindow

@[expose] public section

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A slot after `k` trips over one expert's lists. -/
def after (s : Fin 2) (I : S1x1x512.Idx → BitVec 32) (V : S1x1x512.Idx → F .f32) (Y : S1x256x16x128.Idx → F .bf16) (f : Scr F) : Nat → Scr F
  | 0 => f
  | k + 1 => chain s I V Y k (after s I V Y f k) 16

section
variable (c : Dev nD) (i : grid0.Coords) (arg2 : Memref sig .tc .smem S1x1x512 .i32) (harg2 : arg2.IsWhole) (arg3 : Memref sig .tc .smem S1x1x512 .i32) (harg3 : arg3.IsWhole) (arg4 : Memref sig .tc .smem S1x1x512 .f32) (harg4 : arg4.IsWhole) (arg5 : Memref sig .tc .smem S1x1x512 .f32) (harg5 : arg5.IsWhole) (arg6 : Memref sig .tc .vmem S1x256x16x128 .bf16) (harg6 : arg6.IsWhole) (arg7 : Memref sig .tc .vmem S1x256x16x128 .bf16) (harg7 : arg7.IsWhole) (arg8 : Memref sig .tc .vmem S1x512x1024 .f32) (harg8 : arg8.IsWhole) (arg9 : Memref sig .tc .vmem S1x1x1024 .f32) (harg9 : arg9.IsWhole) (arg10 : Memref sig .tc .vmem S1x8x128 .f32) (harg10 : arg10.IsWhole) (arg11 : Memref sig .tc .vmem S1x512x1024 .f32) (harg11 : arg11.IsWhole) (arg12 : Memref sig .tc .vmem S2x4096x8x128 .f32) (harg12 : arg12.IsWhole) (k0_h2 : k0_cond2 i = 1#1)

/-- The accumulator's buffer after `k` trips. -/
def bufAfter (s : Fin 2) (I : S1x1x512.Idx → BitVec 32) (V : S1x1x512.Idx → F .f32) (Y : S1x256x16x128.Idx → F .bf16) (f : Buf (Elt F) (arg12.view.loc (c : Thread nD τ))) :
    Nat → Buf (Elt F) (arg12.view.loc (c : Thread nD τ))
  | 0 => f
  | k + 1 => harg12.unread (chain s I V Y k (arg12.view.read (Elt F) (bufAfter s I V Y f k)) 16)

theorem read_bufAfter (s : Fin 2) (I : S1x1x512.Idx → BitVec 32) (V : S1x1x512.Idx → F .f32) (Y : S1x256x16x128.Idx → F .bf16) (f : Buf (Elt F) (arg12.view.loc (c : Thread nD τ))) (k : Nat) :
    arg12.view.read (Elt F) (bufAfter c arg12 harg12 s I V Y f k) = after s I V Y (arg12.view.read (Elt F) f) k := by
  induction k with
  | zero => rfl
  | succ k ih =>
    show arg12.view.read (Elt F) (harg12.unread _) = chain _ _ _ _ _ _ _
    rw [harg12.read_unread, ih]

/-- What one expert's loop holds before trip `k`. -/
def loopHeld (arg2 : Memref sig .tc .smem S1x1x512 .i32) (arg4 : Memref sig .tc .smem S1x1x512 .f32) (arg6 : Memref sig .tc .vmem S1x256x16x128 .bf16)
    (X2 : Buf (Elt F) (arg2.view.loc (c : Thread nD τ))) (X4 : Buf (Elt F) (arg4.view.loc (c : Thread nD τ))) (X6 : Buf (Elt F) (arg6.view.loc (c : Thread nD τ)))
    (f : Buf (Elt F) (arg12.view.loc (c : Thread nD τ))) (k : Nat) : sProp 𝕄 :=
  iprop(⌜∀ j, (arg2.view.read (Elt F) X2 j : BitVec 32).toNat < 4096⌝ ∗ at_ c arg2 X2 ∗ at_ c arg4 X4 ∗ at_ c arg6 X6
    ∗ atw c arg12 (bufAfter c arg12 harg12 (slotOf i) (arg2.view.read (Elt F) X2) (arg4.view.read (Elt F) X4) (arg6.view.read (Elt F) X6) f k))

/-- One trip keeps what the loop holds. -/
theorem loopHeld_step (k : Fin k0_t1_loop.trips)
    (X2 : Buf (Elt F) (arg2.view.loc (c : Thread nD τ))) (X4 : Buf (Elt F) (arg4.view.loc (c : Thread nD τ))) (X6 : Buf (Elt F) (arg6.view.loc (c : Thread nD τ)))
    (f : Buf (Elt F) (arg12.view.loc (c : Thread nD τ))) :
    loopHeld c i arg12 harg12 arg2 arg4 arg6 X2 X4 X6 f k.val
      ⊢ wp frame (wpE defs₀ 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 k0_h2 k ())
          (fun _ => loopHeld c i arg12 harg12 arg2 arg4 arg6 X2 X4 X6 f (k.val + 1)) := by
  unfold loopHeld
  iintro ⟨%hX, H2, H4, H6, H12⟩
  iapply (wp_wand_r Idealize.ShloMosaic.frame (wpE (defs₀ (F := F)) 𝒱₀ (c : Thread nD τ) none) Set.univ)
  isplitl [H2 H4 H6 H12]
  · iapply (trip1 c i arg2 harg2 arg3 harg3 arg4 harg4 arg5 harg5 arg6 harg6 arg7 harg7 arg8 harg8 arg9 harg9 arg10 harg10 arg11 harg11 arg12 harg12 k0_h2 k X2 X4 X6 _ hX)
    isplitl [H2]; · iexact H2
    isplitl [H4]; · iexact H4
    isplitl [H6]; · iexact H6
    iexact H12
  · iintro %_ ⟨H2, H4, H6, %f', H12, %hf'⟩
    isplitr; · ipureintro; exact hX
    isplitl [H2]; · iexact H2
    isplitl [H4]; · iexact H4
    isplitl [H6]; · iexact H6
    have e : f' = bufAfter c arg12 harg12 (slotOf i) (arg2.view.read (Elt F) X2) (arg4.view.read (Elt F) X4) (arg6.view.read (Elt F) X6) f (k.val + 1) := by
      show f' = harg12.unread _
      rw [← hf', harg12.unread_read]
    rw [← e]
    iexact H12

set_option warn.classDefReducibility false in
@[sl_loop] def loopInv1 (X2 : Buf (Elt F) (arg2.view.loc (c : Thread nD τ))) (X4 : Buf (Elt F) (arg4.view.loc (c : Thread nD τ))) (X6 : Buf (Elt F) (arg6.view.loc (c : Thread nD τ)))
    (f : Buf (Elt F) (arg12.view.loc (c : Thread nD τ))) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 k0_h2 where
  inv k _ := loopHeld c i arg12 harg12 arg2 arg4 arg6 X2 X4 X6 f k
  step k _ := loopHeld_step c i arg2 harg2 arg3 harg3 arg4 harg4 arg5 harg5 arg6 harg6 arg7 harg7 arg8 harg8 arg9 harg9 arg10 harg10 arg11 harg11 arg12 harg12 k0_h2 k X2 X4 X6 f

set_option warn.classDefReducibility false in
@[sl_loop] def loopInv2 (X3 : Buf (Elt F) (arg3.view.loc (c : Thread nD τ))) (X5 : Buf (Elt F) (arg5.view.loc (c : Thread nD τ))) (X7 : Buf (Elt F) (arg7.view.loc (c : Thread nD τ)))
    (f : Buf (Elt F) (arg12.view.loc (c : Thread nD τ))) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 k0_h2 where
  inv k _ := loopHeld c i arg12 harg12 arg3 arg5 arg7 X3 X5 X7 f k
  step k _ := by
    rw [body2_eq]
    exact loopHeld_step c i arg3 harg3 arg2 harg2 arg5 harg5 arg4 harg4 arg7 harg7 arg6 harg6 arg8 harg8 arg9 harg9 arg10 harg10 arg11 harg11 arg12 harg12 k0_h2 k X3 X5 X7 f

end

/-- A slot set to zero. -/
def zeroSlot (s : Fin 2) (G : Scr F) : Scr F := fun j => if (j 0).val = s.val then Scalar.ofBits .f32 0x00000000#32 else G j

/-- The accumulator after the body at a point: the slot zeroed where a batch begins, then the point's two experts added to it. -/
def scrNext (i : grid0.Coords) (I2 I3 : S1x1x512.Idx → BitVec 32) (V4 V5 : S1x1x512.Idx → F .f32) (Y6 Y7 : S1x256x16x128.Idx → F .bf16) (G : Scr F) : Scr F :=
  if k0_cond2 i = 1#1 then
    after (slotOf i) I3 V5 Y7 (after (slotOf i) I2 V4 Y6 (if k0_cond1 i = 1#1 then zeroSlot (slotOf i) G else G) 32) 32
  else G

/-- The block of 512 rows of the other slot that the point writes out. -/
def rowsOut (i : grid0.Coords) (h3 : k0_cond3 i = 1#1) (G : Scr F) : S1x512x8x128.Idx → F .f32 :=
  fun x => G ((Rect.unit (s := S2x4096x8x128) (k0_off134 i) S1x512x8x128.size (k0_off134_inb i h3)).toLoadRect.idx x)

/-- The block a point writes out, of the accumulator, the residual block, the gate and the norm's weights. -/
def outBlk (i : grid0.Coords) (h3 : k0_cond3 i = 1#1) (G : Scr F) (X8 : S1x512x1024.Idx → F .f32) (X9 : S1x1x1024.Idx → F .f32) (X10 : S1x8x128.Idx → F .f32) : S1x512x1024.Idx → F .f32 :=
  k0_pay4 (k0_pay119 (rowsOut i h3 G) X10) (k0_pay120 X8) (k0_pay121 X9)

/-- A store of zeros over a slot zeroes the slot. -/
theorem read_zero (M : Memref sig .tc .vmem S2x4096x8x128 .f32) (s : Fin 2) (o : Fin 4 → Nat) (ho) (hs : o = ![s.val, 0, 0, 0]) (f : M.view.ty.Contents (Elt F)) :
    M.view.read (Elt F) (M.view.writes (Elt F) f [⟨Rect.unit (s := S2x4096x8x128) o S1x4096x8x128.size ho, k0_pay1 (F := F)⟩]) = zeroSlot s (M.view.read (Elt F) f) := by
  funext j
  rw [View.read_writes_cons_unit M.view f ho _ [] j hs, View.writes_nil]
  unfold zeroSlot
  obtain ⟨s', v', b, l, rfl⟩ : ∃ (s' : Fin 2) (v' : Fin 4096) (b : Fin 8) (l : Fin 128), j = ix4 s' v' b l := ⟨j 0, j 1, j 2, j 3, eq_ix4 j⟩
  by_cases h : s'.val = s.val
  · rw [dif_pos]
    · exact (if_pos h).symm
    · intro a
      have hv := v'.isLt
      have hb := b.isLt
      have hl := l.isLt
      fin_cases a
      · show s.val ≤ s'.val ∧ s'.val < s.val + 1; omega
      · show 0 ≤ v'.val ∧ v'.val < 0 + 4096; omega
      · show 0 ≤ b.val ∧ b.val < 0 + 8; omega
      · show 0 ≤ l.val ∧ l.val < 0 + 128; omega
  · rw [dif_neg]
    · exact (if_neg h).symm
    intro hh
    have : s.val ≤ s'.val ∧ s'.val < s.val + 1 := hh 0
    exact h (by omega)

/-- A load of the whole of a memref at offset zero. -/
theorem readAt_all {sp : Space} {s : Shape} {e : EltTy} (A : Memref sig .tc sp s e) (o : Fin s.rank → Nat) (ho : ∀ a, o a + s.size a ≤ s.size a) (X : A.view.ty.Contents (Elt F)) :
    A.view.readAt (Elt F) (Rect.unit (s := s) o s.size ho).toLoadRect X = A.view.read (Elt F) X := by
  funext x
  rw [View.readAt_apply]
  congr 1
  funext a
  apply Fin.ext
  show o a + 1 * (x a).val = (x a).val
  have := ho a
  omega

theorem cond1_cond2 : ∀ i : grid0.Coords, k0_cond1 i = 1#1 → k0_cond2 i = 1#1 := by decide +kernel
theorem off1_eq : ∀ i : grid0.Coords, k0_off1 i = ![(slotOf i).val, 0, 0, 0] := by decide +kernel

section
variable (c : Dev nD) (i : grid0.Coords) (arg2 : Memref sig .tc .smem S1x1x512 .i32) (harg2 : arg2.IsWhole) (arg3 : Memref sig .tc .smem S1x1x512 .i32) (harg3 : arg3.IsWhole) (arg4 : Memref sig .tc .smem S1x1x512 .f32) (harg4 : arg4.IsWhole) (arg5 : Memref sig .tc .smem S1x1x512 .f32) (harg5 : arg5.IsWhole) (arg6 : Memref sig .tc .vmem S1x256x16x128 .bf16) (harg6 : arg6.IsWhole) (arg7 : Memref sig .tc .vmem S1x256x16x128 .bf16) (harg7 : arg7.IsWhole) (arg8 : Memref sig .tc .vmem S1x512x1024 .f32) (harg8 : arg8.IsWhole) (arg9 : Memref sig .tc .vmem S1x1x1024 .f32) (harg9 : arg9.IsWhole) (arg10 : Memref sig .tc .vmem S1x8x128 .f32) (harg10 : arg10.IsWhole) (arg11 : Memref sig .tc .vmem S1x512x1024 .f32) (harg11 : arg11.IsWhole) (arg12 : Memref sig .tc .vmem S2x4096x8x128 .f32) (harg12 : arg12.IsWhole)

/-- The body at any point. -/
theorem body_run
    (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ)))
    (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ)))
    (X10 : Buf (Elt F) (arg10.view.loc (c : Thread nD τ))) (X11 : Buf (Elt F) (arg11.view.loc (c : Thread nD τ))) (f : Buf (Elt F) (arg12.view.loc (c : Thread nD τ)))
    (h2 : ∀ j, (arg2.view.read (Elt F) X2 j : BitVec 32).toNat < 4096) (h3 : ∀ j, (arg3.view.read (Elt F) X3 j : BitVec 32).toNat < 4096) :
    iprop(at_ c arg2 X2 ∗ at_ c arg3 X3 ∗ at_ c arg4 X4 ∗ at_ c arg5 X5 ∗ at_ c arg6 X6 ∗ at_ c arg7 X7 ∗ at_ c arg8 X8 ∗ at_ c arg9 X9 ∗ at_ c arg10 X10 ∗ at_ c arg11 X11 ∗ atw c arg12 f)
      ⊢ wp frame (wpE defs₀ 𝒱₀ (c : Thread nD τ) none) Set.univ
          (cc0_expert_combine_residual_skel (F := F) i arg2 harg2 arg3 harg3 arg4 harg4 arg5 harg5 arg6 harg6 arg7 harg7 arg8 harg8 arg9 harg9 arg10 harg10 arg11 harg11 arg12 harg12)
          (fun _ => iprop(at_ c arg2 X2 ∗ at_ c arg3 X3 ∗ at_ c arg4 X4 ∗ at_ c arg5 X5 ∗ at_ c arg6 X6 ∗ at_ c arg7 X7 ∗ at_ c arg8 X8 ∗ at_ c arg9 X9 ∗ at_ c arg10 X10
            ∗ ∃ f', atw c arg12 f' ∗ ∃ o', at_ c arg11 o' ∗
              ⌜arg12.view.read (Elt F) f' = scrNext i (arg2.view.read (Elt F) X2) (arg3.view.read (Elt F) X3) (arg4.view.read (Elt F) X4) (arg5.view.read (Elt F) X5) (arg6.view.read (Elt F) X6) (arg7.view.read (Elt F) X7) (arg12.view.read (Elt F) f)
                ∧ (∀ h : k0_cond3 i = 1#1, arg11.view.read (Elt F) o' = outBlk i h (arg12.view.read (Elt F) f') (arg8.view.read (Elt F) X8) (arg9.view.read (Elt F) X9) (arg10.view.read (Elt F) X10))
                ∧ (¬ k0_cond3 i = 1#1 → o' = X11)⌝)) := by
  iintro ⟨H2, H3, H4, H5, H6, H7, H8, H9, H10, H11, H12⟩
  sl_unfold [cc0_expert_combine_residual_skel]
  by_cases c1 : k0_cond1 i = 1#1 <;> by_cases c2 : k0_cond2 i = 1#1 <;> by_cases c3 : k0_cond3 i = 1#1
  all_goals first
    | exact absurd (cond1_cond2 i c1) c2
    | skip
  all_goals
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _
    isplitl [H12]; · iexact H12
    iexists _
    isplitl [H11]; · iexact H11
    ipureintro
    refine ⟨?_, fun h => ?_, fun h => ?_⟩
    · first
      | (unfold scrNext
         rw [if_neg c2])
      | (show arg12.view.read (Elt F) (bufAfter c arg12 harg12 (slotOf i) _ _ _ (bufAfter c arg12 harg12 (slotOf i) _ _ _ _ 32) 32) = _
         unfold scrNext
         rw [read_bufAfter, read_bufAfter, if_pos c2]
         first
           | rw [if_neg c1]
           | (rw [if_pos c1]
              congr 2
              exact read_zero arg12 (slotOf i) _ _ (off1_eq i) f))
    · first
      | exact absurd h c3
      | (refine (View.read_writes_full arg11.view X11 _ _ []).trans ?_
         unfold outBlk
         have e8 := readAt_all arg8 _ inb_S1x512x1024_S1x512x1024_0_0_0 X8
         have e9 := readAt_all arg9 _ inb_S1x1x1024_S1x1x1024_0_0_0 X9
         have e10 := readAt_all arg10 _ inb_S1x8x128_S1x8x128_0_0_0 X10
         rw [← e8, ← e9, ← e10]
         rfl)
    · first
      | exact absurd c3 h
      | rfl
end
end Cert.Proof.Combine
end
-- ==== Proof.Points.lean ====
/-
  The grid, point by point: what the accumulator and the output block hold after each point, the pipeline's proof
  data, the body's obligation at every point, and the launch.

  The accumulator's two slots hold anything before the first point. A slot is cleared when a batch of its parity begins, and only
  then read: so what is followed is `scrAt n`, the accumulator as if it had begun at zero, and the invariant is that the real
  accumulator agrees with it on the slots already cleared (slot 0 from point 1 on, slot 1 from point 9 on).
-/
module

public import proofs.«01_k».proof.Proof.Body

@[expose] public section

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Agreement on a slot -/

/-- Two accumulators agree on slot `s`. -/
def Agree (s : Fin 2) (G G' : Scr F) : Prop := ∀ j, (j 0).val = s.val → G j = G' j

theorem agree_stepRow {s : Fin 2} (q : Fin 2) (I : S1x1x512.Idx → BitVec 32) (V : S1x1x512.Idx → F .f32) (Y : S1x256x16x128.Idx → F .bf16) {f f' G G' : Scr F} (n : Nat)
    (hf : Agree s f f') (hG : Agree s G G') : Agree s (stepRow q I V Y f n G) (stepRow q I V Y f' n G') := by
  intro j hj
  unfold stepRow putRow
  by_cases h : (j 0).val = q.val ∧ (j 1).val = (rowOf I n).val
  · rw [if_pos h, if_pos h]
    exact congrArg (fun z => FloatOps.addf z _) (hf (ix4 q (rowOf I n) (j 2) (j 3)) (h.1.symm.trans hj))
  · rw [if_neg h, if_neg h]
    exact hG j hj

theorem agree_chain {s : Fin 2} (q : Fin 2) (I : S1x1x512.Idx → BitVec 32) (V : S1x1x512.Idx → F .f32) (Y : S1x256x16x128.Idx → F .bf16) (k : Nat) {f f' : Scr F}
    (hf : Agree s f f') : ∀ u, Agree s (chain q I V Y k f u) (chain q I V Y k f' u)
  | 0 => hf
  | u + 1 => agree_stepRow q I V Y _ hf (agree_chain q I V Y k hf u)

theorem agree_after {s : Fin 2} (q : Fin 2) (I : S1x1x512.Idx → BitVec 32) (V : S1x1x512.Idx → F .f32) (Y : S1x256x16x128.Idx → F .bf16) {f f' : Scr F}
    (hf : Agree s f f') : ∀ k, Agree s (after q I V Y f k) (after q I V Y f' k)
  | 0 => hf
  | k + 1 => agree_chain q I V Y k (agree_after q I V Y hf k) 16

theorem agree_zero {s : Fin 2} (q : Fin 2) {G G' : Scr F} (h : s = q ∨ Agree s G G') : Agree s (zeroSlot q G) (zeroSlot q G') := by
  intro j hj
  unfold zeroSlot
  by_cases hq : (j 0).val = q.val
  · rw [if_pos hq, if_pos hq]
  · rw [if_neg hq, if_neg hq]
    rcases h with rfl | h
    · exact absurd hj hq
    · exact h j hj

/-- A point's body keeps agreement on a slot, and makes it on the slot that it clears. -/
theorem agree_next {s : Fin 2} (i : grid0.Coords) (I2 I3 : S1x1x512.Idx → BitVec 32) (V4 V5 : S1x1x512.Idx → F .f32) (Y6 Y7 : S1x256x16x128.Idx → F .bf16) {G G' : Scr F}
    (h : (k0_cond1 i = 1#1 ∧ s = slotOf i) ∨ Agree s G G') : Agree s (scrNext i I2 I3 V4 V5 Y6 Y7 G) (scrNext i I2 I3 V4 V5 Y6 Y7 G') := by
  unfold scrNext
  by_cases c2 : k0_cond2 i = 1#1
  · rw [if_pos c2, if_pos c2]
    refine agree_after _ _ _ _ (agree_after _ _ _ _ ?_ 32) 32
    by_cases c1 : k0_cond1 i = 1#1
    · rw [if_pos c1, if_pos c1]
      exact agree_zero _ (h.imp (fun h => h.2) id)
    · rw [if_neg c1, if_neg c1]
      exact h.resolve_left fun h => c1 h.1
  · rw [if_neg c2, if_neg c2]
    exact h.resolve_left fun h => c2 (cond1_cond2 i h.1)

/-- The rows a point writes out come from the other slot. -/
theorem off134_slot : ∀ i : grid0.Coords, k0_off134 i 0 = 1 - (slotOf i).val := by decide +kernel

theorem rowsOut_congr (i : grid0.Coords) (h3 : k0_cond3 i = 1#1) (s : Fin 2) (hs : s.val = 1 - (slotOf i).val) {G G' : Scr F} (h : Agree s G G') :
    rowsOut i h3 G = rowsOut i h3 G' := by
  funext x
  unfold rowsOut
  apply h
  show k0_off134 i 0 + 1 * (x 0).val = s.val
  have := (x 0).isLt
  have hx : (x 0).val < 1 := this
  rw [off134_slot, hs]
  omega

/-! ## The run -/

section
variable (m : (ℓ : Loc nD τ sig) → Buf (Elt F) ℓ) (ρ : Dev nD → PrngReg)

local notation "𝕄" => MT nD τ sig Unit (Elt F) ℕ (UR sig nD τ) ℕ

/-- The accumulator after the first `n` points, as if it had begun at zero. -/
def scrAt (c : Dev nD) : Nat → Scr F
  | 0 => fun _ => Scalar.ofBits .f32 0x00000000#32
  | n + 1 => if h : n < grid0.N then
      scrNext (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (scrAt c n)
    else scrAt c n

theorem scrAt_succ (c : Dev nD) (t : Fin cfg0.N) :
    scrAt m c (t.val + 1) = scrNext (grid0.coords t) (iblk m c 0 t) (iblk m c 1 t) (iblk m c 2 t) (iblk m c 3 t) (iblk m c 4 t) (iblk m c 5 t) (scrAt m c t.val) := by
  rw [scrAt, dif_pos t.isLt]

/-- The real accumulator agrees with the followed one on every slot already cleared. -/
def Fits (c : Dev nD) (n : Nat) (G : Scr F) : Prop := ∀ s : Fin 2, 8 * s.val < n → Agree s G (scrAt m c n)

theorem clears : ∀ t : Fin grid0.N, ∀ s : Fin 2, 8 * s.val < t.val + 1 → ¬ 8 * s.val < t.val → k0_cond1 (grid0.coords t) = 1#1 ∧ s = slotOf (grid0.coords t) := by decide +kernel
theorem written : ∀ t : Fin grid0.N, k0_cond3 (grid0.coords t) = 1#1 → 8 * (1 - (slotOf (grid0.coords t)).val) < t.val + 1 := by decide +kernel
theorem kept : ∀ t : Fin grid0.N, ¬ k0_cond3 (grid0.coords t) = 1#1 → win0_9.flush t = false := by decide +kernel

theorem fits_next (c : Dev nD) (t : Fin cfg0.N) {G : Scr F} (h : Fits m c t.val G) :
    Fits m c (t.val + 1) (scrNext (grid0.coords t) (iblk m c 0 t) (iblk m c 1 t) (iblk m c 2 t) (iblk m c 3 t) (iblk m c 4 t) (iblk m c 5 t) G) := by
  intro s hs
  rw [scrAt_succ]
  apply agree_next
  by_cases h' : 8 * s.val < t.val
  · exact Or.inr (h s h')
  · exact Or.inl (clears t s hs h')

/-- The block written out at a point (nothing is, at the first batch's points). -/
def outAt (c : Dev nD) (t : Fin cfg0.N) : S1x512x1024.Idx → F .f32 :=
  if h : k0_cond3 (grid0.coords t) = 1#1 then outBlk (grid0.coords t) h (scrAt m c (t.val + 1)) (iblk m c 6 t) (iblk m c 7 t) (iblk m c 8 t)
  else fun _ => Scalar.ofBits .f32 0x00000000#32

theorem outBlk_fits (c : Dev nD) (t : Fin cfg0.N) (h : k0_cond3 (grid0.coords t) = 1#1) {G : Scr F} (hG : Fits m c (t.val + 1) G) :
    outBlk (grid0.coords t) h G (iblk m c 6 t) (iblk m c 7 t) (iblk m c 8 t) = outAt m c t := by
  unfold outAt
  rw [dif_pos h]
  unfold outBlk
  rw [rowsOut_congr (grid0.coords t) h ⟨1 - (slotOf (grid0.coords t)).val, by omega⟩ rfl (hG _ (written t h))]

/-- The invariant before point `n`: the accumulator at contents that fit, the generator's register at anything. -/
def held (c : Dev nD) (n : Nat) : sProp 𝕄 :=
  iprop((∃ G : Buf (Elt F) ((c : Thread nD τ).loc cc0_scratch0), (((c : Thread nD τ).loc cc0_scratch0) ↦{fullShare} G) ∗ ⌜Fits m c n ((Memref.whole cc0_scratch0).view.read (Elt F) G)⌝) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨_ + 10, h⟩ => absurd h (Nat.not_lt.2 (Nat.le_add_left _ _))
  Φ t := held m c t.val
  q w := Pipeline.shareOf spec0 w
  owed _ := 0

theorem A_eq (c : Dev nD) (w : Fin cfg0.W) : (dats m 0 c).A w = V m c (Pipeline.arrRef spec0 w) := by dsimp only [dats]

/-- An input's staging buffer holds its block when the body runs. -/
theorem before_0 (c : Dev nD) (t : Fin cfg0.N) (d) : (dats m 0 c).before 0 t d = iblk m c 0 t := before0_0_of m (dats m 0 c) (A_eq m c 0) (fun t => by dsimp only [dats]) t d
theorem before_1 (c : Dev nD) (t : Fin cfg0.N) (d) : (dats m 0 c).before 1 t d = iblk m c 1 t := before0_1_of m (dats m 0 c) (A_eq m c 1) (fun t => by dsimp only [dats]) t d
theorem before_2 (c : Dev nD) (t : Fin cfg0.N) (d) : (dats m 0 c).before 2 t d = iblk m c 2 t := before0_2_of m (dats m 0 c) (A_eq m c 2) (fun t => by dsimp only [dats]) t d
theorem before_3 (c : Dev nD) (t : Fin cfg0.N) (d) : (dats m 0 c).before 3 t d = iblk m c 3 t := before0_3_of m (dats m 0 c) (A_eq m c 3) (fun t => by dsimp only [dats]) t d
theorem before_4 (c : Dev nD) (t : Fin cfg0.N) (d) : (dats m 0 c).before 4 t d = iblk m c 4 t := before0_4_of m (dats m 0 c) (A_eq m c 4) (fun t => by dsimp only [dats]) t d
theorem before_5 (c : Dev nD) (t : Fin cfg0.N) (d) : (dats m 0 c).before 5 t d = iblk m c 5 t := before0_5_of m (dats m 0 c) (A_eq m c 5) (fun t => by dsimp only [dats]) t d
theorem before_6 (c : Dev nD) (t : Fin cfg0.N) (d) : (dats m 0 c).before 6 t d = iblk m c 6 t := before0_6_of m (dats m 0 c) (A_eq m c 6) (fun t => by dsimp only [dats]) t d
theorem before_7 (c : Dev nD) (t : Fin cfg0.N) (d) : (dats m 0 c).before 7 t d = iblk m c 7 t := before0_7_of m (dats m 0 c) (A_eq m c 7) (fun t => by dsimp only [dats]) t d
theorem before_8 (c : Dev nD) (t : Fin cfg0.N) (d) : (dats m 0 c).before 8 t d = iblk m c 8 t := before0_8_of m (dats m 0 c) (A_eq m c 8) (fun t => by dsimp only [dats]) t d

theorem Phi_castSucc (c : Dev nD) (t : Fin cfg0.N) : (dats m 0 c).Φ t.castSucc = held m c t.val := by dsimp only [dats]; rfl
theorem Phi_succ (c : Dev nD) (t : Fin cfg0.N) : (dats m 0 c).Φ t.succ = held m c (t.val + 1) := by dsimp only [dats]; rfl

/-- An input window is left at its block. -/
theorem leaves_in (c : Dev nD) (t : Fin cfg0.N) (w : Fin cfg0.W) (hw : ∀ i, cfg0.idle w i = false) :
    (dats m 0 c).leavesExact w t = owns (c : Thread nD τ) ((cfg0.win w).stage (cfg0.slots t w)) fullShare ((dats m 0 c).after w t) := by
  unfold Dat.leavesExact
  rw [hw]

/-- The output window is left at the block written, or untouched. -/
theorem leaves_out (c : Dev nD) (t : Fin cfg0.N) (h : k0_cond3 (grid0.coords t) = 1#1) :
    (dats m 0 c).leavesExact 9 t = owns (c : Thread nD τ) ((cfg0.win 9).stage (cfg0.slots t 9)) fullShare (outAt m c t) := by
  have hi : cfg0.idle 9 (cfg0.grid.coords t) = false := by
    show (!(k0_cond3 (grid0.coords t) == 1#1)) = false
    rw [h]; rfl
  unfold Dat.leavesExact
  rw [hi]
  dsimp only [dats]

theorem leaves_kept (c : Dev nD) (t : Fin cfg0.N) (h : ¬ k0_cond3 (grid0.coords t) = 1#1) :
    (dats m 0 c).leavesExact 9 t = iprop(∃ d, owns (c : Thread nD τ) ((cfg0.win 9).stage (cfg0.slots t 9)) fullShare ((dats m 0 c).before 9 t d)) := by
  have hi : cfg0.idle 9 (cfg0.grid.coords t) = true := by
    show (!(k0_cond3 (grid0.coords t) == 1#1)) = true
    rw [beq_eq_false_iff_ne.mpr h]; rfl
  have hf : (cfg0.win 9).flush t = false := kept t h
  unfold Dat.leavesExact
  rw [hi, hf]

/-- What the launch gives of the scratch. -/
theorem PhiA_eq (c : Dev nD) :
    (Pipeline.ΦA spec0 c : sProp 𝕄)
      = iprop((∃ f : Buf (Elt F) ((c : Thread nD τ).loc cc0_scratch0), (((c : Thread nD τ).loc cc0_scratch0) ↦{fullShare} f)) ∗ (∃ r, prngReg c r)) := by
  unfold Pipeline.ΦA; rw [scopedRest0_eq]; try rfl

theorem hin (c : Dev nD) : Pipeline.ΦA spec0 c ⊢ (dats m 0 c).Φ 0 := by
  rw [show (dats m 0 c).Φ 0 = held m c 0 from rfl, PhiA_eq]
  unfold held
  iintro ⟨⟨%f, H⟩, Hg⟩
  isplitl [H]
  · iexists f
    isplitl [H]; · iexact H
    ipureintro
    exact fun s hs => absurd hs (Nat.not_lt_zero _)
  iexact Hg

theorem hout (c : Dev nD) : (dats m 0 c).Φ (Fin.last cfg0.N) ⊢ Pipeline.ΦA spec0 c := by
  rw [show (dats m 0 c).Φ (Fin.last cfg0.N) = held m c cfg0.N from rfl, PhiA_eq]
  unfold held
  iintro ⟨⟨%f, H, -⟩, Hg⟩
  isplitl [H]
  · iexists f; iexact H
  iexact Hg

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The words the kernel reads name rows. -/
def Words (c : Dev nD) : Prop := ∀ t : Fin cfg0.N, (∀ j, (iblk m c 0 t j : BitVec 32).toNat < 4096) ∧ (∀ j, (iblk m c 1 t j : BitVec 32).toNat < 4096)

/-- The body at a point. -/
theorem sound_body (c : Dev nD) (hW : Words m c) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl, Phi_castSucc, Phi_succ, cc0_expert_combine_residual_eq_skeleton]
  rw [leaves_in m c t 0 fun _ => rfl, leaves_in m c t 1 fun _ => rfl, leaves_in m c t 2 fun _ => rfl, leaves_in m c t 3 fun _ => rfl, leaves_in m c t 4 fun _ => rfl,
    leaves_in m c t 5 fun _ => rfl, leaves_in m c t 6 fun _ => rfl, leaves_in m c t 7 fun _ => rfl, leaves_in m c t 8 fun _ => rfl]
  unfold held owns
  iintro ⟨⟨⟨%G, HG, %hG⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  have hr := body_run c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _) f0 f1 f2 f3 f4 f5 f6 f7 f8 f9 G
    (fun j => by rw [show _ = _ from congrFun e0 j]; exact (hW t).1 j) (fun j => by rw [show _ = _ from congrFun e1 j]; exact (hW t).2 j)
  iapply (wp_wand_r frame (wpE (defs₀ (F := F)) Variants.none (c : Thread nD τ) none) Set.univ)
  isplitl [H0 H1 H2 H3 H4 H5 H6 H7 H8 H9 HG]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HG
  iintro %_ ⟨H0, H1, H2, H3, H4, H5, H6, H7, H8, ⟨%G', HG, ⟨%o', H9, %hp⟩⟩⟩
  obtain ⟨hs, hw, hk⟩ := hp
  have hfit : Fits m c (t.val + 1) ((Memref.whole cc0_scratch0).view.read (Elt F) G') := by
    rw [hs, show _ = _ from e0, show _ = _ from e1, show _ = _ from e2, show _ = _ from e3, show _ = _ from e4, show _ = _ from e5]
    exact fits_next m c t hG
  isplitl [HG Hg]
  · isplitl [HG]
    · iexists G'
      isplitl [HG]; · iexact HG
      ipureintro; exact hfit
    iexact Hg
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  by_cases h3 : k0_cond3 (grid0.coords t) = 1#1
  · rw [leaves_out m c t h3]
    unfold owns
    iexists o'
    isplitr
    · ipureintro
      refine (hw h3).trans ?_
      rw [← outBlk_fits m c t h3 hfit]
      exact congr (congr (congrArg _ e6) e7) e8
    iexact H9
  · rw [leaves_kept m c t h3]
    unfold owns
    iexists d9
    iexists o'
    isplitr
    · ipureintro
      rw [hk h3]; exact e9
    iexact H9

/-- The body table's row at a point's slots. -/
theorem defs₀_row (t : Fin cfg0.N) : defs₀ (F := F) .tc cfg0.body (cfg0.bodyArgs t (cfg0.slots t)) = bodyAt0 t := by
  unfold defs₀; rw [Defs.onTc_tc]

theorem body_obligation (c : Dev nD) (hW : Words m c) : BodyObligation (dats (F := F) m 0 c) (defs₀ (F := F)) Variants.none () Set.univ := fun t => by
  rw [bigSep_W0, bigSep_W0, defs₀_row]
  exact triple_restated (sound_body m c hW t) rfl .rfl fun _ => .rfl

-- the run theorem's implicit arguments are found by unifying its conclusion with this one
set_option backward.isDefEq.respectTransparency.types false in
/-- The launch: every weakly fair execution ends, with each array at what the write-backs leave of it, every other buffer as
    the region found it, every counter at zero. -/
theorem run_main_quiescent (hW : ∀ c, Words m c) :
    θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c (hW c)).loose) (hq := fun _ _ _ => rfl)
    (howed := fun _ _ => rfl) (V := V m) (hmain := hmain m Variants.none) (hA := A_eq m) (hin := hin m) (hout := hout m)

theorem run_main (hW : ∀ c, Words m c) : θ_run defs (onTc (τ := τ) (main (F := F))) (s₀ m ρ) (Pipeline.FramePost cfgs (dats m) 0 (V m)) :=
  (θ_run defs _ _).mono (fun _ h => h.1) (run_main_quiescent m ρ hW)

end
end Cert.Proof.Combine
end
-- ==== Proof.Blocks.lean ====
/-
  What each window's block holds at a point, read off the arguments, and what the precondition says of the indices.
-/
module

public import proofs.«01_k».proof.Proof.Points
public import proofs.«01_k».proof.Defs
public import proofs.«01_k».proof.Proof.Gen.Pre_idx_ok
public import Idealize.ShloMosaic.Lib.Pipeline.ValueKit
public import Idealize.ShloMosaic.Lib.ReduceAll
public import Idealize.ShloMosaic.Lib.Claim

@[expose] public section

set_option maxRecDepth 16384

noncomputable section

namespace Cert.Proof.Combine

open Cert.KernelIdeal Cert.KernelIdeal.Gen
open Idealize.ShloMosaic Idealize.ShloMosaic.TcCoe Idealize.ShloMosaic.Tactic
open Idealize.SL Idealize.SL.Sem

variable {F : FTy → Type} [FloatOps F]

section
variable (m : (ℓ : Loc nD τ sig) → Buf (Elt F) ℓ)

/-- The expert whose tokens the window of the even (odd) experts holds at a point, and the batch. -/
def expOf (t : Fin cfg0.N) (p : Fin 2) : Fin 16 := ⟨2 * (t.val % 8) + p.val, by omega⟩
def batOf (t : Fin cfg0.N) : Fin 8 := ⟨min (t.val / 8) 7, by omega⟩

theorem idx : ∀ t : Fin grid0.N,
    win0_0.index t = ![8 * (2 * (t.val % 8)) + min (t.val / 8) 7, 0, 0] ∧ win0_1.index t = ![8 * (2 * (t.val % 8) + 1) + min (t.val / 8) 7, 0, 0]
    ∧ win0_2.index t = ![8 * (2 * (t.val % 8)) + min (t.val / 8) 7, 0, 0] ∧ win0_3.index t = ![8 * (2 * (t.val % 8) + 1) + min (t.val / 8) 7, 0, 0]
    ∧ win0_4.index t = ![8 * (2 * (t.val % 8)) + min (t.val / 8) 7, 0, 0, 0] ∧ win0_5.index t = ![8 * (2 * (t.val % 8) + 1) + min (t.val / 8) 7, 0, 0, 0]
    ∧ win0_6.index t = ![t.val / 8 - 1, if t.val / 8 = 0 then 0 else t.val % 8, 0] ∧ win0_7.index t = ![t.val / 8 - 1, 0, 0]
    ∧ win0_8.index t = ![0, 0, 0] ∧ win0_9.index t = ![t.val / 8 - 1, if t.val / 8 = 0 then 0 else t.val % 8, 0] := by decide +kernel

/-- The row of the experts' outputs that holds expert `e`'s tokens of batch `b`. -/
def rowYe (e : Fin 16) (b : Fin 8) : Fin 128 := ⟨8 * e.val + b.val, by omega⟩

theorem iblk0 (c : Dev nD) (t : Fin cfg0.N) (q : Fin 512) :
    iblk m c 0 t (ix3 0 0 q) = m ((c : Thread nD τ).loc main_arg0) (ix3 (batOf t) (expOf t 0) q) := by
  unfold iblk
  rw [View.read_apply]
  show V m c main_v1 _ = _
  entry_read
  pointwise
  unfold expOf batOf
  blk_ext [iblk, V, idx t]

theorem iblk1 (c : Dev nD) (t : Fin cfg0.N) (q : Fin 512) :
    iblk m c 1 t (ix3 0 0 q) = m ((c : Thread nD τ).loc main_arg0) (ix3 (batOf t) (expOf t 1) q) := by
  unfold iblk
  rw [View.read_apply]
  show V m c main_v1 _ = _
  entry_read
  pointwise
  unfold expOf batOf
  blk_ext [iblk, V, idx t]

theorem iblk2 (c : Dev nD) (t : Fin cfg0.N) (q : Fin 512) :
    iblk m c 2 t (ix3 0 0 q) = m ((c : Thread nD τ).loc main_arg1) (ix3 (batOf t) (expOf t 0) q) := by
  unfold iblk
  rw [View.read_apply]
  show V m c main_v3 _ = _
  entry_read
  pointwise
  unfold expOf batOf
  blk_ext [iblk, V, idx t]

theorem iblk3 (c : Dev nD) (t : Fin cfg0.N) (q : Fin 512) :
    iblk m c 3 t (ix3 0 0 q) = m ((c : Thread nD τ).loc main_arg1) (ix3 (batOf t) (expOf t 1) q) := by
  unfold iblk
  rw [View.read_apply]
  show V m c main_v3 _ = _
  entry_read
  pointwise
  unfold expOf batOf
  blk_ext [iblk, V, idx t]

theorem iblk4 (c : Dev nD) (t : Fin cfg0.N) (r : Fin 256) (s : Fin 16) (l : Fin 128) :
    iblk m c 4 t (ix4 0 r s l) = m ((c : Thread nD τ).loc main_arg2) (ix4 (rowYe (expOf t 0) (batOf t)) r s l) := by
  unfold iblk
  rw [View.read_apply]
  show V m c main_arg2 _ = _
  rw [V_main_arg2]
  unfold rowYe expOf batOf
  blk_ext [iblk, V, idx t]

theorem iblk5 (c : Dev nD) (t : Fin cfg0.N) (r : Fin 256) (s : Fin 16) (l : Fin 128) :
    iblk m c 5 t (ix4 0 r s l) = m ((c : Thread nD τ).loc main_arg2) (ix4 (rowYe (expOf t 1) (batOf t)) r s l) := by
  unfold iblk
  rw [View.read_apply]
  show V m c main_arg2 _ = _
  rw [V_main_arg2]
  unfold rowYe expOf batOf
  blk_ext [iblk, V, idx t]

/-- The batch written out at a point past the first batch's. -/
def batOut (t : Fin cfg0.N) : Fin 8 := ⟨t.val / 8 - 1, by have : t.val < 72 := t.isLt; omega⟩

theorem iblk6 (c : Dev nD) (t : Fin cfg0.N) (ht : 8 ≤ t.val) (r : Fin 512) (d : Fin 1024) :
    iblk m c 6 t (ix3 0 r d) = m ((c : Thread nD τ).loc main_arg3) (ix3 (batOut t) ⟨512 * (t.val % 8) + r.val, by omega⟩ d) := by
  have h0 : ¬ t.val / 8 = 0 := by omega
  have hi := (idx t).2.2.2.2.2.2.1
  rw [if_neg h0] at hi
  unfold iblk
  rw [View.read_apply]
  show V m c main_arg3 _ = _
  rw [V_main_arg3]
  unfold batOut
  blk_ext [iblk, V, hi]

theorem iblk7 (c : Dev nD) (t : Fin cfg0.N) (d : Fin 1024) :
    iblk m c 7 t (ix3 0 0 d) = m ((c : Thread nD τ).loc main_arg4) (ix3 (batOut t) 0 d) := by
  unfold iblk
  rw [View.read_apply]
  show V m c main_arg4 _ = _
  rw [V_main_arg4]
  unfold batOut
  blk_ext [iblk, V, idx t]

theorem iblk8 (c : Dev nD) (t : Fin cfg0.N) (b : Fin 8) (l : Fin 128) :
    iblk m c 8 t (ix3 0 b l) = m ((c : Thread nD τ).loc main_arg5) (ix2 0 ⟨128 * b.val + l.val, by omega⟩) := by
  unfold iblk
  rw [View.read_apply]
  show V m c main_v6 _ = _
  entry_read
  pointwise
  blk_ext [iblk, V, idx t]

/-- What the precondition says of the indices: each names a row, and an expert names no row twice. -/
def Idx (I : S8x16x512.Idx → BitVec 32) : Prop :=
  (∀ b e q, (I (ix3 b e q)).toNat < 4096) ∧ (∀ b e q q', I (ix3 b e q) = I (ix3 b e q') → q = q')

theorem idx_of_pre (I : IVec S8x16x512 32) (a1 : FVec F S8x16x512 .f32) (a2 : FVec F S128x256x16x128 .bf16) (a3 : FVec F S8x4096x1024 .f32) (a4 : FVec F S8x1x1024 .f32) (a5 : FVec F S1x1024 .f32)
    (h : Cert.Pre_idx_ok.fn (F := F) I a1 a2 a3 a4 a5 = fun _ => 1#1) : Idx I := by
  have h0 := congrFun h ix0
  dsimp only [Cert.Pre_idx_ok.fn, Cert.Pre_idx_ok.fn_part1] at h0
  have : Subsingleton (Cert.Pre_idx_ok.S_).Idx := ⟨fun a b => funext fun i => i.elim0⟩
  obtain ⟨hr, hd⟩ := IntOp.andi_eq_one.mp (show IntOp.andi _ _ = 1#1 from h0)
  refine ⟨fun b e q => ?_, fun b e q q' hq => ?_⟩
  · have h1 := Host.reduce_andi_all _ _ _ _ _ hr (ix3 b e q)
    obtain ⟨hge, hlt⟩ := IntOp.andi_eq_one.mp (show IntOp.andi _ _ = 1#1 from h1)
    have hge' : (0#32 : BitVec 32).toInt ≤ (I (ix3 b e q)).toInt := IntOp.cmpi_sge.mp hge
    have hlt' : (I (ix3 b e q)).toInt < (4096#32 : BitVec 32).toInt := IntOp.cmpi_slt.mp hlt
    simp only [BitVec.toInt, BitVec.toNat_ofNat] at hge' hlt'
    have := (I (ix3 b e q)).isLt
    norm_num at hge' hlt'
    split at hlt' <;> omega
  · have h1 := Host.reduce_andi_all _ _ _ _ _ hd (ix4 b e q q')
    rcases IntOp.ori_eq_one.mp (show IntOp.ori _ _ = 1#1 from h1) with hne | heq
    · have := IntOp.cmpi_ne.mp (show IntOp.cmpi .ne (broadcastInDim _ _ _ (broadcastInDim _ _ _ I) (ix4 b e q q')) (broadcastInDim _ _ _ (broadcastInDim _ _ _ I) (ix4 b e q q')) = 1#1 from hne)
      pointwise at this
      exact absurd hq this
    · pointwise at heq
      have := IntOp.cmpi_eq.mp heq
      have h2 := congrArg BitVec.toNat this
      simp only [BitVec.toNat_ofNat] at h2
      apply Fin.ext
      have := q.isLt
      have := q'.isLt
      omega

theorem words (c : Dev nD) (h : Idx (m ((c : Thread nD τ).loc main_arg0))) : Words m c := by
  intro t
  refine ⟨fun j => ?_, fun j => ?_⟩
  · obtain ⟨a, b, q, rfl⟩ : ∃ (a b : Fin 1) (q : Fin 512), j = ix3 a b q := ⟨j 0, j 1, j 2, eq_ix3 j⟩
    obtain rfl := Fin.fin_one_eq_zero a
    obtain rfl := Fin.fin_one_eq_zero b
    rw [iblk0]; exact h.1 _ _ _
  · obtain ⟨a, b, q, rfl⟩ : ∃ (a b : Fin 1) (q : Fin 512), j = ix3 a b q := ⟨j 0, j 1, j 2, eq_ix3 j⟩
    obtain rfl := Fin.fin_one_eq_zero a
    obtain rfl := Fin.fin_one_eq_zero b
    rw [iblk1]; exact h.1 _ _ _

end
end Cert.Proof.Combine
end
-- ==== Proof.Sum.lean ====
/-
  The accumulator as sums over the real numbers with infinities: what the two slots hold after each point.

  The words of one expert's list name distinct rows, so inside a group of sixteen updates no row read has been written by the group:
  each update adds its own addend to what the row held before, and a list's updates add up to one sum over the list.
-/
module

public import proofs.«01_k».proof.Proof.Blocks

@[expose] public section

set_option maxRecDepth 16384

noncomputable section

namespace Cert.Proof.Combine

open Cert.KernelIdeal Cert.KernelIdeal.Gen
open Idealize.ShloMosaic Idealize.ShloMosaic.TcCoe Idealize.ShloMosaic.Tactic
open Finset

/-- What the `n`-th word of a list adds to row `v` at `(b, l)`. -/
def adds (I : S1x1x512.Idx → BitVec 32) (V : S1x1x512.Idx → Ideal .f32) (Y : S1x256x16x128.Idx → Ideal .bf16) (v : Nat) (b : Fin 8) (l : Fin 128) (n : Nat) : EReal :=
  if (rowOf I n).val = v then addend (F := Ideal) V Y n b l else 0

/-- A list's words name distinct rows. -/
def Apart (I : S1x1x512.Idx → BitVec 32) : Prop := ∀ n n', n < 512 → n' < 512 → rowOf I n = rowOf I n' → n = n'

/-- A group's updates so far. -/
theorem chain_apply (s : Fin 2) (I : S1x1x512.Idx → BitVec 32) (V : S1x1x512.Idx → Ideal .f32) (Y : S1x256x16x128.Idx → Ideal .bf16) (hI : Apart I) (k : Nat) (hk : k < 32) (f : Scr Ideal)
    (j : S2x4096x8x128.Idx) : ∀ u, u ≤ 16 →
    (chain s I V Y k f u j : EReal) = (f j : EReal) + if (j 0).val = s.val then ∑ x ∈ range u, adds I V Y (j 1).val (j 2) (j 3) (16 * k + x) else 0
  | 0, _ => by
    show (f j : EReal) = _
    split <;> simp
  | u + 1, hu => by
    have ih := chain_apply s I V Y hI k hk f j u (by omega)
    show (stepRow s I V Y f (16 * k + u) (chain s I V Y k f u) j : EReal) = _
    unfold stepRow putRow
    by_cases h0 : (j 0).val = s.val
    · rw [if_pos h0] at ih
      rw [if_pos h0, sum_range_succ]
      by_cases h1 : (j 1).val = (rowOf I (16 * k + u)).val
      · rw [if_pos ⟨h0, h1⟩]
        have hz : ∑ x ∈ range u, adds I V Y (j 1).val (j 2) (j 3) (16 * k + x) = 0 := by
          refine sum_eq_zero fun x hx => ?_
          rw [mem_range] at hx
          unfold adds
          rw [if_neg]
          intro e
          have := hI (16 * k + x) (16 * k + u) (by omega) (by omega) (Fin.ext (e.trans h1))
          omega
        rw [hz, zero_add]
        have ej : ix4 s (rowOf I (16 * k + u)) (j 2) (j 3) = j := by
          rw [eq_ix4 j]
          congr 1
          · exact Fin.ext h0.symm
          · exact Fin.ext h1.symm
        exact congr (congrArg (HAdd.hAdd (α := EReal) (β := EReal)) (congrArg f ej)) (if_pos h1.symm).symm
      · rw [if_neg (fun h => h1 h.2), ih]
        have : adds I V Y (j 1).val (j 2) (j 3) (16 * k + u) = 0 := if_neg fun e => h1 e.symm
        rw [this, add_zero]
    · rw [if_neg (fun h => h0 h.1), ih, if_neg h0, if_neg h0]

/-- The updates of the first `k` groups. -/
theorem after_apply (s : Fin 2) (I : S1x1x512.Idx → BitVec 32) (V : S1x1x512.Idx → Ideal .f32) (Y : S1x256x16x128.Idx → Ideal .bf16) (hI : Apart I) (f : Scr Ideal)
    (j : S2x4096x8x128.Idx) : ∀ k, k ≤ 32 →
    (after s I V Y f k j : EReal) = (f j : EReal) + if (j 0).val = s.val then ∑ x ∈ range (16 * k), adds I V Y (j 1).val (j 2) (j 3) x else 0
  | 0, _ => by
    show (f j : EReal) = _
    split <;> simp
  | k + 1, hk => by
    have ih := after_apply s I V Y hI f j k (by omega)
    show (chain s I V Y k (after s I V Y f k) 16 j : EReal) = _
    rw [chain_apply s I V Y hI k (by omega) _ j 16 le_rfl, ih, show 16 * (k + 1) = 16 * k + 16 by omega, sum_range_add]
    split <;> simp [add_assoc]

theorem after_at (s : Fin 2) (I : S1x1x512.Idx → BitVec 32) (V : S1x1x512.Idx → Ideal .f32) (Y : S1x256x16x128.Idx → Ideal .bf16) (hI : Apart I) (f : Scr Ideal)
    (q : Fin 2) (v : Fin 4096) (b : Fin 8) (l : Fin 128) :
    (after s I V Y f 32 (ix4 q v b l) : EReal) = (f (ix4 q v b l) : EReal) + if q.val = s.val then ∑ x ∈ range 512, adds I V Y v.val b l x else 0 :=
  after_apply s I V Y hI f (ix4 q v b l) 32 le_rfl

/-! ## The slots after each point -/

section
variable (m : (ℓ : Loc nD τ sig) → Buf (Elt Ideal) ℓ) (c : Dev nD)

/-- Expert `e`'s share of batch `b`'s row `v`, at lane `(bb, l)` of the row tile. -/
def share (A0 : S8x16x512.Idx → BitVec 32) (A1 : S8x16x512.Idx → EReal) (A2 : S128x256x16x128.Idx → EReal) (b : Fin 8) (v : Nat) (bb : Fin 8) (l : Fin 128) (e : Fin 16) : EReal :=
  ∑ n : Fin 512, if (A0 (ix3 b e n)).toNat = v then A2 (ix4 (rowYe e b) ⟨n.val / 2, by omega⟩ ⟨8 * (n.val % 2) + bb.val, by omega⟩ l) * A1 (ix3 b e n) else 0

/-- A list's words, over any block of indices, weights and rows that are an expert's. -/
theorem adds_share {A0 : S8x16x512.Idx → BitVec 32} {A1 : S8x16x512.Idx → EReal} {A2 : S128x256x16x128.Idx → EReal} (h0 : Idx A0) (b : Fin 8) (e : Fin 16)
    {I : S1x1x512.Idx → BitVec 32} {V : S1x1x512.Idx → Ideal .f32} {Y : S1x256x16x128.Idx → Ideal .bf16}
    (hI : ∀ q, I (ix3 0 0 q) = A0 (ix3 b e q)) (hV : ∀ q, V (ix3 0 0 q) = A1 (ix3 b e q)) (hY : ∀ r s l, Y (ix4 0 r s l) = A2 (ix4 (rowYe e b) r s l)) :
    Apart I ∧ ∀ v bb l, ∑ x ∈ range 512, adds I V Y v bb l x = share A0 A1 A2 b v bb l e := by
  constructor
  · intro n n' hn hn' h
    have h := congrArg Fin.val h
    unfold rowOf at h
    dsimp only at h
    rw [hI, hI, Nat.mod_eq_of_lt (h0.1 _ _ _), Nat.mod_eq_of_lt (h0.1 _ _ _)] at h
    have := congrArg Fin.val (h0.2 _ _ _ _ (BitVec.eq_of_toNat_eq h))
    dsimp only at this
    omega
  · intro v bb l
    rw [sum_range]
    unfold share
    refine sum_congr rfl fun n _ => ?_
    have hn := n.isLt
    have en : (⟨n.val % 512, Nat.mod_lt _ (by decide)⟩ : Fin 512) = n := Fin.ext (Nat.mod_eq_of_lt hn)
    have er : (rowOf I n.val).val = (A0 (ix3 b e n)).toNat :=
      (congrArg (fun w : BitVec 32 => w.toNat % 4096) ((hI _).trans (by rw [en]))).trans (Nat.mod_eq_of_lt (h0.1 _ _ _))
    have ea : addend (F := Ideal) V Y n.val bb l = A2 (ix4 (rowYe e b) ⟨n.val / 2, by omega⟩ ⟨8 * (n.val % 2) + bb.val, by omega⟩ l) * A1 (ix3 b e n) := by
      refine congr (congrArg (HMul.hMul (α := EReal) (β := EReal)) ((hY _ _ _).trans (congrArg A2 ?_))) ((hV _).trans (by rw [en]))
      congr 1
      · exact Fin.ext (Nat.mod_eq_of_lt (by omega))
      · exact Fin.ext (Nat.mod_eq_of_lt (by omega))
    unfold adds
    rw [er, ea]

theorem flags : ∀ t : Fin grid0.N, (k0_cond1 (grid0.coords t) = 1#1 ↔ t.val % 8 = 0 ∧ t.val < 64) ∧ (k0_cond2 (grid0.coords t) = 1#1 ↔ t.val < 64)
    ∧ (k0_cond3 (grid0.coords t) = 1#1 ↔ 8 ≤ t.val) ∧ (slotOf (grid0.coords t)).val = t.val / 8 % 2 := by decide +kernel

/-- The three arrays read at the lists' points: the indices, the weights, the experts' rows. -/
abbrev a0 : S8x16x512.Idx → BitVec 32 := m ((c : Thread nD τ).loc main_arg0)
abbrev a1 : S8x16x512.Idx → EReal := m ((c : Thread nD τ).loc main_arg1)
abbrev a2 : S128x256x16x128.Idx → EReal := m ((c : Thread nD τ).loc main_arg2)

/-- One point's effect on one element. -/
theorem scr_step (h0 : Idx (a0 m c)) (t : Fin cfg0.N) (q : Fin 2) (v : Fin 4096) (bb : Fin 8) (l : Fin 128) :
    (scrAt m c (t.val + 1) (ix4 q v bb l) : EReal) = if t.val < 64 ∧ q.val = t.val / 8 % 2 then
        ((if t.val % 8 = 0 then 0 else scrAt m c t.val (ix4 q v bb l) : EReal) + share (a0 m c) (a1 m c) (a2 m c) (batOf t) v.val bb l (expOf t 0))
          + share (a0 m c) (a1 m c) (a2 m c) (batOf t) v.val bb l (expOf t 1)
      else scrAt m c t.val (ix4 q v bb l) := by
  obtain ⟨f1, f2, _, f4⟩ := flags t
  obtain ⟨p0, q0⟩ := adds_share (A1 := a1 m c) (A2 := a2 m c) h0 (batOf t) (expOf t 0) (iblk0 m c t) (iblk2 m c t) (iblk4 m c t)
  obtain ⟨p1, q1⟩ := adds_share (A1 := a1 m c) (A2 := a2 m c) h0 (batOf t) (expOf t 1) (iblk1 m c t) (iblk3 m c t) (iblk5 m c t)
  rw [scrAt_succ]
  unfold scrNext
  by_cases h2 : t.val < 64
  · rw [if_pos (f2.2 h2), after_at _ _ _ _ p1, after_at _ _ _ _ p0, q0, q1, f4]
    by_cases hj : q.val = t.val / 8 % 2
    · rw [if_pos hj, if_pos hj, if_pos (show t.val < 64 ∧ q.val = t.val / 8 % 2 from ⟨h2, hj⟩)]
      congr 2
      by_cases h1 : t.val % 8 = 0
      · rw [if_pos h1, if_pos (f1.2 ⟨h1, h2⟩)]
        exact (if_pos (hj.trans f4.symm)).trans (Ideal.ofBits_zero _)
      · rw [if_neg h1, if_neg (show ¬ k0_cond1 (grid0.coords t) = 1#1 from fun h => h1 (f1.1 h).1)]
    · rw [if_neg hj, if_neg hj, if_neg (show ¬ (t.val < 64 ∧ q.val = t.val / 8 % 2) from fun h => hj h.2), add_zero, add_zero]
      split
      · exact if_neg (fun h => hj (h.trans f4))
      · rfl
  · rw [if_neg (show ¬ k0_cond2 (grid0.coords t) = 1#1 from fun h => h2 (f2.1 h)), if_neg (show ¬ (t.val < 64 ∧ q.val = t.val / 8 % 2) from fun h => h2 h.1)]

/-- The same at a point named by its batch and its pair of experts. -/
theorem scr_pair (h0 : Idx (a0 m c)) (b : Fin 8) (q : Fin 2) (hq : q.val = b.val % 2) (v : Fin 4096) (bb : Fin 8) (l : Fin 128) (n e2 : Nat) (he : e2 < 8) (hn : n = 8 * b.val + e2) :
    (scrAt m c (n + 1) (ix4 q v bb l) : EReal) = ((if e2 = 0 then 0 else scrAt m c n (ix4 q v bb l) : EReal)
      + share (a0 m c) (a1 m c) (a2 m c) b v.val bb l ⟨2 * e2 % 16, Nat.mod_lt _ (by decide)⟩) + share (a0 m c) (a1 m c) (a2 m c) b v.val bb l ⟨(2 * e2 + 1) % 16, Nat.mod_lt _ (by decide)⟩ := by
  have hb := b.isLt
  have hn' : n < cfg0.N := by show n < 72; omega
  have h := scr_step m c h0 ⟨n, hn'⟩ q v bb l
  have hbat : batOf ⟨n, hn'⟩ = b := Fin.ext (by show min (n / 8) 7 = b.val; omega)
  have hex0 : expOf ⟨n, hn'⟩ 0 = ⟨2 * e2 % 16, Nat.mod_lt _ (by decide)⟩ := Fin.ext (by show 2 * (n % 8) + 0 = 2 * e2 % 16; omega)
  have hex1 : expOf ⟨n, hn'⟩ 1 = ⟨(2 * e2 + 1) % 16, Nat.mod_lt _ (by decide)⟩ := Fin.ext (by show 2 * (n % 8) + 1 = (2 * e2 + 1) % 16; omega)
  rw [hbat, hex0, hex1] at h
  dsimp only at h
  rw [if_pos (by omega)] at h
  rw [h]
  by_cases h8 : e2 = 0
  · rw [if_pos h8, if_pos (by omega)]
  · rw [if_neg h8, if_neg (by omega)]

/-- A slot while its batch is being added up. -/
theorem scr_batch (h0 : Idx (a0 m c)) (b : Fin 8) (q : Fin 2) (hq : q.val = b.val % 2) (v : Fin 4096) (bb : Fin 8) (l : Fin 128) : ∀ e2, e2 < 8 →
    (scrAt m c (8 * b.val + e2 + 1) (ix4 q v bb l) : EReal) = ∑ e ∈ range (2 * (e2 + 1)), share (a0 m c) (a1 m c) (a2 m c) b v.val bb l ⟨e % 16, Nat.mod_lt _ (by decide)⟩
  | 0, _ => by
    rw [scr_pair m c h0 b q hq v bb l _ 0 (by omega) rfl, if_pos rfl, show 2 * (0 + 1) = 2 from rfl, sum_range_succ, sum_range_succ, sum_range_zero]
  | e2 + 1, he => by
    rw [scr_pair m c h0 b q hq v bb l _ (e2 + 1) he rfl, if_neg (by omega), show 8 * b.val + (e2 + 1) = 8 * b.val + e2 + 1 by omega, scr_batch h0 b q hq v bb l e2 (by omega),
      show 2 * (e2 + 1 + 1) = 2 * (e2 + 1) + 1 + 1 by omega, sum_range_succ _ (2 * (e2 + 1) + 1), sum_range_succ _ (2 * (e2 + 1))]

/-- A row of the combined tokens: every expert's share. -/
def ffn (A0 : S8x16x512.Idx → BitVec 32) (A1 : S8x16x512.Idx → EReal) (A2 : S128x256x16x128.Idx → EReal) (b : Fin 8) (v : Nat) (bb : Fin 8) (l : Fin 128) : EReal :=
  ∑ e : Fin 16, share A0 A1 A2 b v bb l e

/-- A slot while the next batch is being added up in the other. -/
theorem scr_kept (h0 : Idx (a0 m c)) (b : Fin 8) (q : Fin 2) (hq : q.val = b.val % 2) (v : Fin 4096) (bb : Fin 8) (l : Fin 128) : ∀ e2, e2 ≤ 8 →
    (scrAt m c (8 * (b.val + 1) + e2) (ix4 q v bb l) : EReal) = ffn (a0 m c) (a1 m c) (a2 m c) b v.val bb l
  | 0, _ => by
    rw [show 8 * (b.val + 1) + 0 = 8 * b.val + 7 + 1 by omega, scr_batch m c h0 b q hq v bb l 7 (by omega), show 2 * (7 + 1) = 16 from rfl, sum_range]
    unfold ffn
    refine sum_congr rfl fun e _ => ?_
    congr 1
    exact Fin.ext (Nat.mod_eq_of_lt e.isLt)
  | e2 + 1, he => by
    have hb := b.isLt
    have h := scr_step m c h0 ⟨8 * (b.val + 1) + e2, by show _ < 72; omega⟩ q v bb l
    dsimp only at h
    rw [if_neg (by omega)] at h
    rw [show 8 * (b.val + 1) + (e2 + 1) = 8 * (b.val + 1) + e2 + 1 by omega, h, scr_kept h0 b q hq v bb l e2 (by omega)]

end

end Cert.Proof.Combine

end
-- ==== Proof.Out.lean ====
/- The block a point writes out, and the array all of them leave. -/
module

public import proofs.«01_k».proof.Proof.Sum

@[expose] public section

set_option maxRecDepth 16384

noncomputable section

namespace Cert.Proof.Combine

open Cert.KernelIdeal Cert.KernelIdeal.Gen
open Idealize.ShloMosaic Idealize.ShloMosaic.TcCoe Idealize.ShloMosaic.Tactic
open Finset

/-- An element of a row tile, its lane named by a number. -/
theorem lane_at (R : S1x512x8x128.Idx → EReal) (w : S1x8x128.Idx → EReal) (q : EReal) (r : Fin 512) (b : Fin 8) (l : Fin 128) (n : Nat) (h : n < 128) (e : n = l.val) :
    R (ix4 0 r b ⟨n, h⟩) * q * w (ix3 0 b ⟨n, h⟩) = R (ix4 0 r b l) * q * w (ix3 0 b l) := by
  subst e; rfl

/-- The normalised rows, lane tile by lane tile. -/
theorem pay119_at (R : S1x512x8x128.Idx → Ideal .f32) (w : S1x8x128.Idx → Ideal .f32) (r : Fin 512) (b : Fin 8) (l : Fin 128) :
    (k0_pay119 (F := Ideal) R w (ix2 r ⟨128 * b.val + l.val, by omega⟩) : EReal)
      = (R (ix4 0 r b l) * Ideal.rsqrt (Ideal.div (∑ x : Fin 8, ∑ y : Fin 128, R (ix4 0 r x y) * R (ix4 0 r x y)) (Ideal.ofBits .f32 0x44800000#32) + Ideal.ofBits .f32 0x358637BD#32)) * w (ix3 0 b l) := by
  have hl := l.isLt
  unfold k0_pay119
  fin_cases b
  · pointwise
  · pointwise
  · pointwise
    rewrite [dif_neg (by omega), dif_neg (by omega), dif_pos (by omega)]
    exact lane_at R w _ r 2 l _ _ (by omega)
  · pointwise
    rewrite [dif_neg (by omega), dif_neg (by omega), dif_neg (by omega), dif_pos (by omega)]
    exact lane_at R w _ r 3 l _ _ (by omega)
  · pointwise
    rewrite [dif_neg (by omega), dif_neg (by omega), dif_neg (by omega), dif_neg (by omega), dif_pos (by omega)]
    exact lane_at R w _ r 4 l _ _ (by omega)
  · pointwise
    rewrite [dif_neg (by omega), dif_neg (by omega), dif_neg (by omega), dif_neg (by omega), dif_neg (by omega), dif_pos (by omega)]
    exact lane_at R w _ r 5 l _ _ (by omega)
  · pointwise
    rewrite [dif_neg (by omega), dif_neg (by omega), dif_neg (by omega), dif_neg (by omega), dif_neg (by omega), dif_neg (by omega), dif_pos (by omega)]
    exact lane_at R w _ r 6 l _ _ (by omega)
  · pointwise
    rewrite [dif_neg (by omega), dif_neg (by omega), dif_neg (by omega), dif_neg (by omega), dif_neg (by omega), dif_neg (by omega), dif_neg (by omega)]
    exact lane_at R w _ r 7 l _ _ (by omega)

theorem pay_at (X : S512x1024.Idx → Ideal .f32) (X8 : S1x512x1024.Idx → Ideal .f32) (X9 : S1x1x1024.Idx → Ideal .f32) (r : Fin 512) (d : Fin 1024) :
    (k0_pay4 (F := Ideal) X (k0_pay120 X8) (k0_pay121 X9) (ix3 0 r d) : EReal) = X8 (ix3 0 r d) + X9 (ix3 0 0 d) * X (ix2 r d) := by
  unfold k0_pay4 k0_pay120 k0_pay121
  pointwise

/-! ## The array written -/

/-- A token's combined row, lane by lane. -/
def lanes (A0 : S8x16x512.Idx → BitVec 32) (A1 : S8x16x512.Idx → EReal) (A2 : S128x256x16x128.Idx → EReal) (b : Fin 8) (v : Fin 4096) (d : Fin 1024) : EReal :=
  ffn A0 A1 A2 b v.val ⟨d.val / 128, by omega⟩ ⟨d.val % 128, by omega⟩

/-- The result: the residual plus the gated, normalised sum of the experts' rows. -/
def result (A0 : S8x16x512.Idx → BitVec 32) (A1 : S8x16x512.Idx → EReal) (A2 : S128x256x16x128.Idx → EReal) (A3 : S8x4096x1024.Idx → EReal) (A4 : S8x1x1024.Idx → EReal) (A5 : S1x1024.Idx → EReal)
    (b : Fin 8) (v : Fin 4096) (d : Fin 1024) : EReal :=
  A3 (ix3 b v d) + A4 (ix3 b 0 d) * ((lanes A0 A1 A2 b v d
    * Ideal.rsqrt (Ideal.div (∑ x : Fin 1024, lanes A0 A1 A2 b v x * lanes A0 A1 A2 b v x) (Ideal.ofBits .f32 0x44800000#32) + Ideal.ofBits .f32 0x358637BD#32)) * A5 (ix2 0 d))

/-- A sum over the lanes, tile by tile. -/
theorem sum_tiles (f : Fin 8 → Fin 128 → EReal) : ∑ x : Fin 8, ∑ y : Fin 128, f x y = ∑ d : Fin 1024, f ⟨d.val / 128, by omega⟩ ⟨d.val % 128, by omega⟩ := by
  rw [← Fintype.sum_prod_type' f]
  refine (Fintype.sum_equiv (finProdFinEquiv (m := 8) (n := 128)).symm _ _ fun d => ?_).symm
  rfl

theorem off134 : ∀ t : Fin grid0.N, 8 ≤ t.val → k0_off134 (grid0.coords t) = ![1 - t.val / 8 % 2, 512 * (t.val % 8), 0, 0] := by decide +kernel

section
variable (m : (ℓ : Loc nD τ sig) → Buf (Elt Ideal) ℓ) (c : Dev nD)

abbrev a3 : S8x4096x1024.Idx → EReal := m ((c : Thread nD τ).loc main_arg3)
abbrev a4 : S8x1x1024.Idx → EReal := m ((c : Thread nD τ).loc main_arg4)
abbrev a5 : S1x1024.Idx → EReal := m ((c : Thread nD τ).loc main_arg5)

/-- The row of the batch that row `r` of the block written at a point is. -/
def rowOut (t : Fin cfg0.N) (r : Fin 512) : Fin 4096 := ⟨512 * (t.val % 8) + r.val, by omega⟩

/-- The accumulator's rows that a point normalises and writes out. -/
theorem rows_out (h0 : Idx (a0 m c)) (t : Fin cfg0.N) (ht : 8 ≤ t.val) (h3 : k0_cond3 (grid0.coords t) = 1#1) (r : Fin 512) (b : Fin 8) (l : Fin 128) :
    (rowsOut (grid0.coords t) h3 (scrAt m c (t.val + 1)) (ix4 0 r b l) : EReal) = ffn (a0 m c) (a1 m c) (a2 m c) (batOut t) (rowOut t r).val b l := by
  have hN : t.val < 72 := t.isLt
  have hk := scr_kept m c h0 (batOut t) ⟨(batOut t).val % 2, Nat.mod_lt _ (by decide)⟩ rfl (rowOut t r) b l (t.val % 8 + 1) (by omega)
  rw [show 8 * ((batOut t).val + 1) + (t.val % 8 + 1) = t.val + 1 by unfold batOut; dsimp only; omega] at hk
  refine Eq.trans ?_ hk
  unfold rowsOut
  refine congrArg (scrAt m c (t.val + 1)) (funext fun a => Fin.ext ?_)
  have ho := off134 t ht
  fin_cases a
  · show k0_off134 (grid0.coords t) 0 + 1 * 0 = (batOut t).val % 2
    rw [ho]
    show 1 - t.val / 8 % 2 + 1 * 0 = (t.val / 8 - 1) % 2
    omega
  · show k0_off134 (grid0.coords t) 1 + 1 * r.val = 512 * (t.val % 8) + r.val
    rw [ho]
    show 512 * (t.val % 8) + 1 * r.val = _
    omega
  · show k0_off134 (grid0.coords t) 2 + 1 * b.val = b.val
    rw [ho]
    show 0 + 1 * b.val = _
    omega
  · show k0_off134 (grid0.coords t) 3 + 1 * l.val = l.val
    rw [ho]
    show 0 + 1 * l.val = _
    omega

/-- The block a point writes out. -/
theorem out_at (h0 : Idx (a0 m c)) (t : Fin cfg0.N) (ht : 8 ≤ t.val) (r : Fin 512) (d : Fin 1024) :
    (outAt m c t (ix3 0 r d) : EReal) = result (a0 m c) (a1 m c) (a2 m c) (a3 m c) (a4 m c) (a5 m c) (batOut t) (rowOut t r) d := by
  have h3 := (flags t).2.2.1.2 ht
  unfold outAt
  rw [dif_pos h3]
  unfold outBlk
  have e0 := pay_at (k0_pay119 (rowsOut (grid0.coords t) h3 (scrAt m c (t.val + 1))) (iblk m c 8 t)) (iblk m c 6 t) (iblk m c 7 t) r d
  refine e0.trans ?_
  have hd : d = ⟨128 * (⟨d.val / 128, by omega⟩ : Fin 8).val + (⟨d.val % 128, by omega⟩ : Fin 128).val, by dsimp only; omega⟩ := Fin.ext (by dsimp only; omega)
  have e1 := pay119_at (rowsOut (grid0.coords t) h3 (scrAt m c (t.val + 1))) (iblk m c 8 t) r ⟨d.val / 128, by omega⟩ ⟨d.val % 128, by omega⟩
  rw [← hd] at e1
  rw [e1, sum_tiles (fun x y => rowsOut (grid0.coords t) h3 (scrAt m c (t.val + 1)) (ix4 0 r x y) * rowsOut (grid0.coords t) h3 (scrAt m c (t.val + 1)) (ix4 0 r x y))]
  simp only [rows_out m c h0 t ht h3]
  unfold result
  have e6 : iblk m c 6 t (ix3 0 r d) = a3 m c (ix3 (batOut t) (rowOut t r) d) := iblk6 m c t ht r d
  have e7 : iblk m c 7 t (ix3 0 0 d) = a4 m c (ix3 (batOut t) 0 d) := iblk7 m c t d
  have e8 : iblk m c 8 t (ix3 0 ⟨d.val / 128, by omega⟩ ⟨d.val % 128, by omega⟩) = a5 m c (ix2 0 d) :=
    (iblk8 m c t _ _).trans (congrArg (fun z => a5 m c (ix2 0 z)) hd.symm)
  rw [e6, e7, e8]
  rfl

/-- The result as an array. -/
def resultArr (A0 : S8x16x512.Idx → BitVec 32) (A1 : S8x16x512.Idx → EReal) (A2 : S128x256x16x128.Idx → EReal) (A3 : S8x4096x1024.Idx → EReal) (A4 : S8x1x1024.Idx → EReal) (A5 : S1x1024.Idx → EReal) :
    S8x4096x1024.Idx → EReal := fun x => result A0 A1 A2 A3 A4 A5 (x 0) (x 1) (x 2)

/-- What the call's result holds after the last point. -/
theorem arr_eq (h0 : Idx (a0 m c)) : (dats m 0 c).arrAt 9 cfg0.N = resultArr (a0 m c) (a1 m c) (a2 m c) (a3 m c) (a4 m c) (a5 m c) := by
  refine (dats m 0 c).arrAt_eq_of_covers 9 _ (by decide +kernel) fun t hf y => ?_
  have ht : 8 ≤ t.val := by
    by_contra h
    have := kept t (fun h' => h ((flags t).2.2.1.1 h'))
    exact absurd (hf.symm.trans this) (by decide)
  obtain ⟨z, r, d, rfl⟩ : ∃ (z : Fin 1) (r : Fin 512) (d : Fin 1024), y = ix3 z r d := ⟨y 0, y 1, y 2, eq_ix3 y⟩
  obtain rfl := Fin.fin_one_eq_zero z
  blk_simp
  show outAt m c t (ix3 0 r d) = _
  rw [show outAt m c t (ix3 0 r d) = _ from out_at m c h0 t ht r d]
  have hi := (idx t).2.2.2.2.2.2.2.2.2
  have hN : t.val < 72 := t.isLt
  have e : (win0_9.blk t).view.emb (ix3 0 r d) = ix3 (batOut t) (rowOut t r) d := by
    funext a
    apply Fin.ext
    refine (Pipeline.Window.rect_emb_val win0_9 t (ix3 0 r d) a rfl).trans ?_
    rw [hi]
    unfold batOut rowOut
    fin_cases a
    · show (t.val / 8 - 1) * 1 + 0 = t.val / 8 - 1; omega
    · show (if t.val / 8 = 0 then 0 else t.val % 8) * 512 + r.val = 512 * (t.val % 8) + r.val
      rw [if_neg (by omega)]; omega
    · show 0 * 1024 + d.val = d.val; omega
  rw [e]
  rfl

end

end Cert.Proof.Combine

end
-- ==== Proof.Launch.lean ====
/- The combine call's whole run, read at its arguments and its result: under a launch memory whose word array holds row
   numbers, every execution ends with the six arguments as launched, every counter at zero and, over the extended reals, the
   result at `resultArr` of the arguments. -/
module

public import proofs.«01_k».proof.Proof.Out

@[expose] public section

set_option maxRecDepth 16384

noncomputable section

namespace Cert.Proof.Combine

open Idealize.ShloMosaic Idealize.SL.Sem Idealize.ShloMosaic.Pipeline Cert.KernelIdeal Cert.KernelIdeal.Gen

/-- What a memory keeps of another: the six argument arrays on a device. -/
def Kept {F : FTy → Type} [FloatOps F] (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

section
variable {F : FTy → Type} [FloatOps F] (m : (ℓ : Loc nD τ sig) → Buf (Elt F) ℓ) (ρ : Dev nD → PrngReg)

/-- The run: arguments kept, the result at what the write-backs leave, counters at zero. -/
theorem run (hW : ∀ c, Words m c) :
    θ_run defs (onTc (τ := τ) (main (F := F))) ⟨m, fun _ => 0, ρ⟩ (fun r =>
      (∀ c : Dev nD, r.2.mem ((c.tc : Thread nD τ).loc main_v7) = (dats m 0 c).arrAt 9 cfg0.N ∧ Kept m r.2.mem c)
      ∧ r.2.sem = fun _ => 0) :=
  (θ_run defs _ _).mono (fun _ h => ⟨fun c => ⟨(h.1 c).1 9,
      ((h.1 c).2 main_arg0 (mem_restRefs_of main_arg0 (by decide) (by decide))).trans (V_main_arg0 m c),
      ((h.1 c).2 main_arg1 (mem_restRefs_of main_arg1 (by decide) (by decide))).trans (V_main_arg1 m c),
      ((h.1 c).1 5).trans (((dats m 0 c).arrAt_in 5 rfl _).trans ((A_eq m c 5).trans (V_main_arg2 m c))),
      ((h.1 c).1 6).trans (((dats m 0 c).arrAt_in 6 rfl _).trans ((A_eq m c 6).trans (V_main_arg3 m c))),
      ((h.1 c).1 7).trans (((dats m 0 c).arrAt_in 7 rfl _).trans ((A_eq m c 7).trans (V_main_arg4 m c))),
      ((h.1 c).2 main_arg5 (mem_restRefs_of main_arg5 (by decide) (by decide))).trans (V_main_arg5 m c)⟩, h.2⟩)
    (run_main_quiescent m ρ hW)

end

end Cert.Proof.Combine
end
-- ==== Proof.Same.lean ====
/- The two printed texts of the combine call are one: no rewrite was offered, so the body, the body table and the host program are
   the same terms, and a run of one is a run of the other. -/
module

public import proofs.«01_k».proof.Defs
public import proofs.«01_k».proof.Proof.Gen.Kernel
public import proofs.«01_k».proof.Proof.Gen.KernelIdeal

@[expose] public section

set_option maxRecDepth 16384
set_option maxHeartbeats 1000000

noncomputable section

namespace Cert.Proof

open Idealize.ShloMosaic Idealize.SL.Sem

/-- The kernel functions. -/
theorem same_body : Cert.Kernel.cc0_expert_combine_residual (F := Bits) = Cert.KernelIdeal.cc0_expert_combine_residual (F := Bits) := rfl

/-- The body tables: one label, the kernel function on the same operands. -/
theorem same_bodies : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) =>
    dsimp only
    rw [same_body]
    rfl
  | ⟨_ + 1, h⟩, _ => exact absurd h (Nat.not_lt.2 (Nat.le_add_left _ _))

/-- The definition tables. -/
theorem same_defs : Cert.Kernel.defs (F := Bits) = Cert.KernelIdeal.defs (F := Bits) := by
  unfold Cert.Kernel.defs Cert.KernelIdeal.defs
  rw [same_bodies]
  rfl

/-- The host programs. -/
theorem same_main : Cert.Kernel.main (F := Bits) = Cert.KernelIdeal.main (F := Bits) := rfl

/-- The runs. -/
theorem same_run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ := by
  rw [same_defs, same_main]
  rfl

end Cert.Proof
end
-- ==== Proof.Ref.lean ====
/- The reference's result, index by index. -/
module

public import proofs.«01_k».proof.Proof.Gen.ReferenceIdeal.Run
public import Idealize.ShloMosaic.Lib.Pointwise
public import proofs.«01_k».proof.Proof.Out
public import Idealize.ShloMosaic.Lib.Routing.OpsPair

@[expose] public section

set_option maxRecDepth 16384

noncomputable section

namespace Cert.Proof.Reference

open Cert.ReferenceIdeal Cert.ReferenceIdeal.Gen
open Idealize.ShloMosaic Idealize.ShloMosaic.TcCoe Idealize.ShloMosaic.Tactic Idealize.ShloMosaic.Routing
open Finset

section
variable (m : (ℓ : Loc nD τ sig) → Buf (Elt Ideal) ℓ) (c : Dev nD)

abbrev a0 : S8x16x512.Idx → BitVec 32 := m ((c.tc : Thread nD τ).loc main_arg0)
abbrev a1 : S8x16x512.Idx → EReal := m ((c.tc : Thread nD τ).loc main_arg1)
abbrev a2 : S128x256x16x128.Idx → EReal := m ((c.tc : Thread nD τ).loc main_arg2)
abbrev a3 : S8x4096x1024.Idx → EReal := m ((c.tc : Thread nD τ).loc main_arg3)
abbrev a4 : S8x1x1024.Idx → EReal := m ((c.tc : Thread nD τ).loc main_arg4)
abbrev a5 : S1x1024.Idx → EReal := m ((c.tc : Thread nD τ).loc main_arg5)

/-- The index words of the scatter: the batch and the row. -/
def words (A0 : S8x16x512.Idx → BitVec 32) : IVec S8x8192x2 32 :=
  concatenate S8x8192x2 2 [⟨S8x8192x1, (broadcastInDim S8x8192x1 ![0, 1] bcast_S8x8192_S8x8192x1_0_1 (broadcastInDim S8x8192 ![0, 1] bcast_S8x1_S8x8192_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩, ⟨S8x8192x1, (broadcastInDim S8x8192x1 ![0, 1] bcast_S8x8192_S8x8192x1_0_1 (select (cmpi .slt (shapeCast _ A0 shapeCasts_S8x16x512_S8x8192) (broadcastInDim S8x8192 ![] bcast_S_S8x8192 (constantI S_ 32 0#32))) (addi (shapeCast _ A0 shapeCasts_S8x16x512_S8x8192) (broadcastInDim S8x8192 ![] bcast_S_S8x8192 (constantI S_ 32 4096#32))) (shapeCast _ A0 shapeCasts_S8x16x512_S8x8192)))⟩] concatenates_S8x8192x1_S8x8192x1_S8x8192x2_d2

/-- The rows scattered: the experts' output rows, weighted. -/
def rows (A1 : S8x16x512.Idx → Ideal .f32) (A2 : S128x256x16x128.Idx → Ideal .bf16) : FVec Ideal S8x8192x1024 .f32 :=
  shapeCast _ (mulf (transpose S8x16x512x1024 [1, 0, 2, 3] (shapeCast _ (extf .f32 A2 bitsLt_bf16_f32) shapeCasts_S128x256x16x128_S16x8x512x1024) transposes_S16x8x512x1024_S8x16x512x1024_1_0_2_3) (broadcastInDim S8x16x512x1024 ![0, 1, 2, 3] bcast_S8x16x512x1_S8x16x512x1024_0_1_2_3 (broadcastInDim S8x16x512x1 ![0, 1, 2] bcast_S8x16x512_S8x16x512x1_0_1_2 A1))) shapeCasts_S8x16x512x1024_S8x8192x1024

/-- The scattered rows, added up. -/
def combined (A0 : S8x16x512.Idx → BitVec 32) (A1 : S8x16x512.Idx → Ideal .f32) (A2 : S128x256x16x128.Idx → Ideal .bf16) : FVec Ideal S8x4096x1024 .f32 :=
  Host.scatterAdd scatter_S8x4096x1024_S8x8192x2_S8x8192x1024_2_01_01_2 (broadcastInDim S8x4096x1024 ![] bcast_S_S8x4096x1024 (constant S_ .f32 0x00000000#32)) (words A0) (rows A1 A2)

/-- The combined rows, normalised, scaled and added to the residual. -/
def tail (C : FVec Ideal S8x4096x1024 .f32) (A3 : FVec Ideal S8x4096x1024 .f32) (A4 : FVec Ideal S8x1x1024 .f32) (A5 : FVec Ideal S1x1024 .f32) : FVec Ideal S8x4096x1024 .f32 :=
  addf A3 (mulf (broadcastInDim S8x4096x1024 ![0, 1, 2] bcast_S8x1x1024_S8x4096x1024_0_1_2 A4) (mulf (mulf C (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf C C) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A5 shapeCasts_S1x1024_S1024)))))

theorem res_eq : Cert.ReferenceIdeal.Value.res_main_v42 m c = tail (combined (a0 m c) (a1 m c) (a2 m c)) (a3 m c) (a4 m c) (a5 m c) := by
  unfold Cert.ReferenceIdeal.Value.res_main_v42 tail combined words rows
  rfl

theorem tail_at (C : FVec Ideal S8x4096x1024 .f32) (A3 : FVec Ideal S8x4096x1024 .f32) (A4 : FVec Ideal S8x1x1024 .f32) (A5 : FVec Ideal S1x1024 .f32) (b : Fin 8) (v : Fin 4096) (d : Fin 1024) :
    (tail C A3 A4 A5 (ix3 b v d) : EReal)
      = A3 (ix3 b v d) + A4 (ix3 b 0 d) * ((C (ix3 b v d)
          * Ideal.rsqrt (Ideal.div (∑ x : Fin 1024, C (ix3 b v x) * C (ix3 b v x)) (Ideal.ofBits .f32 0x44800000#32)
            + Ideal.ofBits .f32 0x358637BD#32)) * A5 (ix2 0 d)) := by
  unfold tail
  pointwise

theorem rows_at (A1 : S8x16x512.Idx → Ideal .f32) (A2 : S128x256x16x128.Idx → Ideal .bf16) (b : Fin 8) (e : Fin 16) (n : Fin 512) (d : Fin 1024) :
    (rows A1 A2 (ix3 b ⟨512 * e.val + n.val, by omega⟩ d) : EReal)
      = A2 (ix4 ⟨8 * e.val + b.val, by omega⟩ ⟨n.val / 2, by omega⟩ ⟨8 * (n.val % 2) + d.val / 128, by omega⟩ ⟨d.val % 128, by omega⟩) * A1 (ix3 b e n) := by
  unfold rows
  pointwise
  refine congrArg (fun z : EReal => z * A1 (ix3 b e n)) (congrArg A2 ?_)
  congr 1
  · exact Fin.ext (by dsimp only; omega)
  · exact Fin.ext (by dsimp only; omega)

theorem words_0 (A0 : S8x16x512.Idx → BitVec 32) (b : Fin 8) (k : Fin 8192) : words A0 (ix3 b k 0) = BitVec.ofNat 32 b.val := by
  unfold words
  pointwise
  exact wrap_of_lt _ _ (by rw [BitVec.toNat_ofNat]; have := b.isLt; omega)

theorem words_1 (A0 : S8x16x512.Idx → BitVec 32) (h : ∀ b e n, (A0 (ix3 b e n)).toNat < 4096) (b : Fin 8) (e : Fin 16) (n : Fin 512) :
    words A0 (ix3 b ⟨512 * e.val + n.val, by omega⟩ 1) = A0 (ix3 b e n) := by
  unfold words
  pointwise
  exact wrap_of_lt _ _ (by have := h b e n; omega)

/-- Where a scattered element lands: its row's words name the batch and the row, and its lane is kept. -/
theorem lands (I : IVec S8x8192x2 32) (p : Fin 8) (k : Fin 8192) (x : Fin 1024) (b : Fin 8) (v : Fin 4096) (d : Fin 1024) :
    scatter_S8x4096x1024_S8x8192x2_S8x8192x1024_2_01_01_2.resultIdx? (ix3 p k x) I = some (ix3 b v d)
      ↔ (I (ix3 p k 0)).toInt = b.val ∧ (I (ix3 p k 1)).toInt = v.val ∧ x = d := by
  have s0 : scatter_S8x4096x1024_S8x8192x2_S8x8192x1024_2_01_01_2.start (ix3 p k x) I 0 = (I (ix3 p k 0)).toInt :=
    congrArg (fun i => (I i).toInt) (funext fun q => by fin_cases q <;> rfl)
  have s1 : scatter_S8x4096x1024_S8x8192x2_S8x8192x1024_2_01_01_2.start (ix3 p k x) I 1 = (I (ix3 p k 1)).toInt :=
    congrArg (fun i => (I i).toInt) (funext fun q => by fin_cases q <;> rfl)
  have s2 : scatter_S8x4096x1024_S8x8192x2_S8x8192x1024_2_01_01_2.start (ix3 p k x) I 2 = 0 := by
    rfl
  have w0 : scatter_S8x4096x1024_S8x8192x2_S8x8192x1024_2_01_01_2.window (ix3 p k x) 0 = 0 := by
    rfl
  have w1 : scatter_S8x4096x1024_S8x8192x2_S8x8192x1024_2_01_01_2.window (ix3 p k x) 1 = 0 := by
    rfl
  have w2 : scatter_S8x4096x1024_S8x8192x2_S8x8192x1024_2_01_01_2.window (ix3 p k x) 2 = x.val := by
    rfl
  rw [resultIdx?_eq_some]
  constructor
  · intro h
    refine ⟨?_, ?_, Fin.ext ?_⟩
    · have := h 0; rw [s0, w0] at this; simpa using this
    · have := h 1; rw [s1, w1] at this; simpa using this
    · have := h 2; rw [s2, w2] at this; exact_mod_cast (zero_add _).symm.trans this
  · rintro ⟨h0, h1, rfl⟩ a
    have g0 : scatter_S8x4096x1024_S8x8192x2_S8x8192x1024_2_01_01_2.start (ix3 p k x) I 0 + (scatter_S8x4096x1024_S8x8192x2_S8x8192x1024_2_01_01_2.window (ix3 p k x) 0 : Int) = (b.val : Int) := by rw [s0, w0]; simpa using h0
    have g1 : scatter_S8x4096x1024_S8x8192x2_S8x8192x1024_2_01_01_2.start (ix3 p k x) I 1 + (scatter_S8x4096x1024_S8x8192x2_S8x8192x1024_2_01_01_2.window (ix3 p k x) 1 : Int) = (v.val : Int) := by rw [s1, w1]; simpa using h1
    have g2 : scatter_S8x4096x1024_S8x8192x2_S8x8192x1024_2_01_01_2.start (ix3 p k x) I 2 + (scatter_S8x4096x1024_S8x8192x2_S8x8192x1024_2_01_01_2.window (ix3 p k x) 2 : Int) = (x.val : Int) := by rw [s2, w2]; simp
    fin_cases a
    · exact g0
    · exact g1
    · exact g2

/-- A word below 4096 is read the same signed or unsigned. -/
theorem signed (x : BitVec 32) (h : x.toNat < 4096) : x.toInt = (x.toNat : Int) := by
  rw [BitVec.toInt_eq_toNat_cond, if_pos (by omega)]

/-- The scatter adds up every expert's share. -/
theorem combined_at (A0 : S8x16x512.Idx → BitVec 32) (A1 : S8x16x512.Idx → Ideal .f32) (A2 : S128x256x16x128.Idx → Ideal .bf16) (h : ∀ b e n, (A0 (ix3 b e n)).toNat < 4096)
    (b : Fin 8) (v : Fin 4096) (d : Fin 1024) :
    (combined A0 A1 A2 (ix3 b v d) : EReal) = Cert.Proof.Combine.lanes A0 A1 A2 b v d := by
  have e0 : (combined A0 A1 A2 (ix3 b v d) : EReal)
      = Ideal.ofBits .f32 0x00000000#32 + ∑ j ∈ univ.filter (fun j => scatter_S8x4096x1024_S8x8192x2_S8x8192x1024_2_01_01_2.resultIdx? j (words A0) = some (ix3 b v d)), rows A1 A2 j := rfl
  rw [e0, Ideal.ofBits_zero, zero_add, sum_filter, sum_idx3]
  have e1 : ∀ (p : Fin 8) (k : Fin 8192) (x : Fin 1024),
      (if scatter_S8x4096x1024_S8x8192x2_S8x8192x1024_2_01_01_2.resultIdx? (ix3 p k x) (words A0) = some (ix3 b v d) then (rows A1 A2 (ix3 p k x) : EReal) else 0)
        = if p = b then (if x = d then (if (words A0 (ix3 b k 1)).toInt = v.val then (rows A1 A2 (ix3 b k d) : EReal) else 0) else 0) else 0 := by
    intro p k x
    by_cases hp : p = b
    · subst hp
      by_cases hx : x = d
      · subst hx
        rw [if_pos rfl, if_pos rfl]
        refine if_congr ((lands (words A0) p k x p v x).trans ⟨fun q => q.2.1, fun q => ⟨?_, q, rfl⟩⟩) rfl rfl
        rw [words_0, signed _ (by rw [BitVec.toNat_ofNat]; have := p.isLt; omega), BitVec.toNat_ofNat]
        have := p.isLt
        omega
      · rw [if_pos rfl, if_neg hx, if_neg]
        exact fun q => hx ((lands (words A0) p k x p v d).1 q).2.2
    · rw [if_neg hp, if_neg]
      intro q
      have := ((lands (words A0) p k x b v d).1 q).1
      rw [words_0, signed _ (by rw [BitVec.toNat_ofNat]; have := p.isLt; omega), BitVec.toNat_ofNat] at this
      refine hp (Fin.ext ?_)
      have := p.isLt
      omega
  simp only [e1]
  have e2 : ∀ p : Fin 8, (∑ k : Fin 8192, ∑ x : Fin 1024, if p = b then (if x = d then (if (words A0 (ix3 b k 1)).toInt = v.val then (rows A1 A2 (ix3 b k d) : EReal) else 0) else 0) else 0)
      = if p = b then ∑ k : Fin 8192, (if (words A0 (ix3 b k 1)).toInt = v.val then (rows A1 A2 (ix3 b k d) : EReal) else 0) else 0 := by
    intro p
    by_cases hp : p = b
    · simp only [if_pos hp, sum_ite_eq', mem_univ, if_true]
    · simp only [if_neg hp, sum_const_zero]
  simp only [e2, sum_ite_eq', mem_univ, if_true]
  have e3 : ∀ f : Fin 8192 → EReal, ∑ k, f k = ∑ e : Fin 16, ∑ n : Fin 512, f ⟨512 * e.val + n.val, by omega⟩ := by
    intro f
    rw [← Fintype.sum_prod_type' (f := fun (e : Fin 16) (n : Fin 512) => f ⟨512 * e.val + n.val, by omega⟩)]
    refine Fintype.sum_equiv (finProdFinEquiv (m := 16) (n := 512)).symm _ _ fun k => congrArg f (Fin.ext ?_)
    show k.val = 512 * (k.val / 512) + k.val % 512
    omega
  rw [e3]
  unfold Cert.Proof.Combine.lanes Cert.Proof.Combine.ffn Cert.Proof.Combine.share
  refine sum_congr rfl fun e _ => sum_congr rfl fun n _ => ?_
  rw [words_1 A0 h, signed _ (h b e n), rows_at]
  exact if_congr Nat.cast_inj rfl rfl

/-- The reference's result. -/
theorem result_at (h : ∀ b e n, (a0 m c (ix3 b e n)).toNat < 4096) :
    Cert.ReferenceIdeal.Value.res_main_v42 m c = Cert.Proof.Combine.resultArr (a0 m c) (a1 m c) (a2 m c) (a3 m c) (a4 m c) (a5 m c) := by
  funext x
  obtain ⟨b, v, d, rfl⟩ : ∃ (b : Fin 8) (v : Fin 4096) (d : Fin 1024), x = ix3 b v d := ⟨x 0, x 1, x 2, eq_ix3 x⟩
  rw [res_eq]
  refine (tail_at _ _ _ _ b v d).trans ?_
  simp only [combined_at (a0 m c) (a1 m c) (a2 m c) h]
  rfl

end
end Cert.Proof.Reference

end
-- ==== Proof.InSame.lean ====
/- The two printed texts of the projection call are one: no rewrite was offered, so the body, the body table and the host program are
   the same terms, and a run of one is a run of the other. -/
module

public import proofs.«01_k».proof.Defs
public import proofs.«01_k».proof.Proof.Gen.InKernel
public import proofs.«01_k».proof.Proof.Gen.InKernelIdeal

@[expose] public section

set_option maxRecDepth 16384
set_option maxHeartbeats 1000000

noncomputable section

namespace Cert.Proof.InProj

open Idealize.ShloMosaic Idealize.SL.Sem

/-- The kernel functions. -/
theorem same_body : Cert.InKernel.cc0_in_projection (F := Bits) = Cert.InKernelIdeal.cc0_in_projection (F := Bits) := rfl

/-- The body tables: one label, the kernel function on the same operands. -/
theorem same_bodies : Cert.InKernel.defs₀ (F := Bits) = Cert.InKernelIdeal.defs₀ (F := Bits) := by
  unfold Cert.InKernel.defs₀ Cert.InKernelIdeal.defs₀
  refine congrArg Defs.onTc (funext fun l => funext fun x => ?_)
  match l, x with
  | ⟨0, _⟩, (t, s) =>
    dsimp only
    rw [same_body]
    rfl
  | ⟨_ + 1, h⟩, _ => exact absurd h (Nat.not_lt.2 (Nat.le_add_left _ _))

/-- The definition tables. -/
theorem same_defs : Cert.InKernel.defs (F := Bits) = Cert.InKernelIdeal.defs (F := Bits) := by
  unfold Cert.InKernel.defs Cert.InKernelIdeal.defs
  rw [same_bodies]
  rfl

/-- The host programs. -/
theorem same_main : Cert.InKernel.main (F := Bits) = Cert.InKernelIdeal.main (F := Bits) := rfl

/-- The runs. -/
theorem same_run (m : (ℓ : Loc Cert.InKernel.nD Cert.InKernel.τ Cert.InKernel.sig) → Buf (Elt Bits) ℓ) (ρ : Dev Cert.InKernel.nD → PrngReg) :
    θ_run (Cert.InKernel.defs (F := Bits)) (onTc (τ := Cert.InKernel.τ) (Cert.InKernel.main (F := Bits))) ⟨m, fun _ => 0, ρ⟩
      = θ_run (Cert.InKernelIdeal.defs (F := Bits)) (onTc (τ := Cert.InKernelIdeal.τ) (Cert.InKernelIdeal.main (F := Bits))) ⟨m, fun _ => 0, ρ⟩ := by
  rw [same_defs, same_main]
  rfl

end Cert.Proof.InProj
end
-- ==== Proof.InFrame.lean ====
/- The projection's run: the blocks its windows stage, its body's triple and the launch, with the heartbeats that its
   twenty-eight windows take (the generated text of the same module stops at Lean's default). -/
module

public import proofs.«01_k».proof.Proof.Gen.InKernelIdeal.Launch
public import proofs.«01_k».proof.Proof.Gen.InKernelIdeal.Skeleton
public import proofs.«01_k».proof.Proof.Gen.InKernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.InProj

open Cert.InKernelIdeal Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats 0 c).arrAt_in 11 rfl _).trans ((hA c 11).trans (V_main_arg9 m c)))⟩) h

/-! ## The body's accesses -/

abbrev r0_0 : Rect S1x512x1024 := Rect.unit (s := S1x512x1024) ![0, 0, 0] S1x128x1024.size inb_S1x512x1024_S1x128x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x1536 := Rect.unit (s := S1024x1536) ![0, 0] S1024x1536.size inb_S1024x1536_S1024x1536_0_0
abbrev r0_4 : Rect S3x1536 := Rect.unit (s := S3x1536) ![0, 0] S1x1536.size inb_S3x1536_S1x1536_0_0
abbrev r0_5 : Rect S3x1536 := Rect.unit (s := S3x1536) ![1, 0] S1x1536.size inb_S3x1536_S1x1536_1_0
abbrev r0_6 : Rect S3x1536 := Rect.unit (s := S3x1536) ![2, 0] S1x1536.size inb_S3x1536_S1x1536_2_0
abbrev r0_7 : Rect S1x1536 := Rect.unit (s := S1x1536) ![0, 0] S1x1536.size inb_S1x1536_S1x1536_0_0
abbrev r0_8 : Rect S1x512x1536 := Rect.unit (s := S1x512x1536) ![0, 0, 0] S1x128x1536.size inb_S1x512x1536_S1x128x1536_0_0_0
abbrev r0_9 : Rect S1024x512 := Rect.unit (s := S1024x512) ![0, 0] S1024x512.size inb_S1024x512_S1024x512_0_0
abbrev r0_10 : Rect S3x512 := Rect.unit (s := S3x512) ![0, 0] S1x512.size inb_S3x512_S1x512_0_0
abbrev r0_11 : Rect S3x512 := Rect.unit (s := S3x512) ![1, 0] S1x512.size inb_S3x512_S1x512_1_0
abbrev r0_12 : Rect S3x512 := Rect.unit (s := S3x512) ![2, 0] S1x512.size inb_S3x512_S1x512_2_0
abbrev r0_13 : Rect S1x512 := Rect.unit (s := S1x512) ![0, 0] S1x512.size inb_S1x512_S1x512_0_0
abbrev r0_14 : Rect S1x512x512 := Rect.unit (s := S1x512x512) ![0, 0, 0] S1x128x512.size inb_S1x512x512_S1x128x512_0_0_0
abbrev r0_15 : Rect S1024x256 := Rect.unit (s := S1024x256) ![0, 0] S1024x256.size inb_S1024x256_S1024x256_0_0
abbrev r0_16 : Rect S1x256 := Rect.unit (s := S1x256) ![0, 0] S1x256.size inb_S1x256_S1x256_0_0
abbrev r0_17 : Rect S1x512x256 := Rect.unit (s := S1x512x256) ![0, 0, 0] S1x128x256.size inb_S1x512x256_S1x128x256_0_0_0
abbrev r0_18 : Rect S128x256 := Rect.unit (s := S128x256) ![0, 0] S128x256.size inb_S128x256_S128x256_0_0
abbrev r0_19 : Rect S1x512x512 := Rect.unit (s := S1x512x512) ![0, 0, 0] S1x128x128.size inb_S1x512x512_S1x128x128_0_0_0
abbrev r0_20 : Rect S1x512x512 := Rect.unit (s := S1x512x512) ![0, 0, 128] S1x128x128.size inb_S1x512x512_S1x128x128_0_0_128
abbrev r0_21 : Rect S1x512x512 := Rect.unit (s := S1x512x512) ![0, 0, 256] S1x128x128.size inb_S1x512x512_S1x128x128_0_0_256
abbrev r0_22 : Rect S1x512x512 := Rect.unit (s := S1x512x512) ![0, 0, 384] S1x128x128.size inb_S1x512x512_S1x128x128_0_0_384
abbrev r0_23 : Rect S1024x2048 := Rect.unit (s := S1024x2048) ![0, 0] S1024x2048.size inb_S1024x2048_S1024x2048_0_0
abbrev r0_24 : Rect S1x2048 := Rect.unit (s := S1x2048) ![0, 0] S1x2048.size inb_S1x2048_S1x2048_0_0
abbrev r0_25 : Rect S1x512x2048 := Rect.unit (s := S1x512x2048) ![0, 0, 0] S1x128x2048.size inb_S1x512x2048_S1x128x2048_0_0_0
abbrev r0_26 : Rect S1x512x1024 := Rect.unit (s := S1x512x1024) ![0, 128, 0] S1x128x1024.size inb_S1x512x1024_S1x128x1024_0_128_0
abbrev r0_27 : Rect S1x512x1536 := Rect.unit (s := S1x512x1536) ![0, 128, 0] S1x128x1536.size inb_S1x512x1536_S1x128x1536_0_128_0
abbrev r0_28 : Rect S1x512x512 := Rect.unit (s := S1x512x512) ![0, 128, 0] S1x128x512.size inb_S1x512x512_S1x128x512_0_128_0
abbrev r0_29 : Rect S1x512x256 := Rect.unit (s := S1x512x256) ![0, 128, 0] S1x128x256.size inb_S1x512x256_S1x128x256_0_128_0
abbrev r0_30 : Rect S1x512x512 := Rect.unit (s := S1x512x512) ![0, 128, 0] S1x128x128.size inb_S1x512x512_S1x128x128_0_128_0
abbrev r0_31 : Rect S1x512x512 := Rect.unit (s := S1x512x512) ![0, 128, 128] S1x128x128.size inb_S1x512x512_S1x128x128_0_128_128
abbrev r0_32 : Rect S1x512x512 := Rect.unit (s := S1x512x512) ![0, 128, 256] S1x128x128.size inb_S1x512x512_S1x128x128_0_128_256
abbrev r0_33 : Rect S1x512x512 := Rect.unit (s := S1x512x512) ![0, 128, 384] S1x128x128.size inb_S1x512x512_S1x128x128_0_128_384
abbrev r0_34 : Rect S1x512x2048 := Rect.unit (s := S1x512x2048) ![0, 128, 0] S1x128x2048.size inb_S1x512x2048_S1x128x2048_0_128_0
abbrev r0_35 : Rect S1x512x1024 := Rect.unit (s := S1x512x1024) ![0, 256, 0] S1x128x1024.size inb_S1x512x1024_S1x128x1024_0_256_0
abbrev r0_36 : Rect S1x512x1536 := Rect.unit (s := S1x512x1536) ![0, 256, 0] S1x128x1536.size inb_S1x512x1536_S1x128x1536_0_256_0
abbrev r0_37 : Rect S1x512x512 := Rect.unit (s := S1x512x512) ![0, 256, 0] S1x128x512.size inb_S1x512x512_S1x128x512_0_256_0
abbrev r0_38 : Rect S1x512x256 := Rect.unit (s := S1x512x256) ![0, 256, 0] S1x128x256.size inb_S1x512x256_S1x128x256_0_256_0
abbrev r0_39 : Rect S1x512x512 := Rect.unit (s := S1x512x512) ![0, 256, 0] S1x128x128.size inb_S1x512x512_S1x128x128_0_256_0
abbrev r0_40 : Rect S1x512x512 := Rect.unit (s := S1x512x512) ![0, 256, 128] S1x128x128.size inb_S1x512x512_S1x128x128_0_256_128
abbrev r0_41 : Rect S1x512x512 := Rect.unit (s := S1x512x512) ![0, 256, 256] S1x128x128.size inb_S1x512x512_S1x128x128_0_256_256
abbrev r0_42 : Rect S1x512x512 := Rect.unit (s := S1x512x512) ![0, 256, 384] S1x128x128.size inb_S1x512x512_S1x128x128_0_256_384
abbrev r0_43 : Rect S1x512x2048 := Rect.unit (s := S1x512x2048) ![0, 256, 0] S1x128x2048.size inb_S1x512x2048_S1x128x2048_0_256_0
abbrev r0_44 : Rect S1x512x1024 := Rect.unit (s := S1x512x1024) ![0, 384, 0] S1x128x1024.size inb_S1x512x1024_S1x128x1024_0_384_0
abbrev r0_45 : Rect S1x512x1536 := Rect.unit (s := S1x512x1536) ![0, 384, 0] S1x128x1536.size inb_S1x512x1536_S1x128x1536_0_384_0
abbrev r0_46 : Rect S1x512x512 := Rect.unit (s := S1x512x512) ![0, 384, 0] S1x128x512.size inb_S1x512x512_S1x128x512_0_384_0
abbrev r0_47 : Rect S1x512x256 := Rect.unit (s := S1x512x256) ![0, 384, 0] S1x128x256.size inb_S1x512x256_S1x128x256_0_384_0
abbrev r0_48 : Rect S1x512x512 := Rect.unit (s := S1x512x512) ![0, 384, 0] S1x128x128.size inb_S1x512x512_S1x128x128_0_384_0
abbrev r0_49 : Rect S1x512x512 := Rect.unit (s := S1x512x512) ![0, 384, 128] S1x128x128.size inb_S1x512x512_S1x128x128_0_384_128
abbrev r0_50 : Rect S1x512x512 := Rect.unit (s := S1x512x512) ![0, 384, 256] S1x128x128.size inb_S1x512x512_S1x128x128_0_384_256
abbrev r0_51 : Rect S1x512x512 := Rect.unit (s := S1x512x512) ![0, 384, 384] S1x128x128.size inb_S1x512x512_S1x128x128_0_384_384
abbrev r0_52 : Rect S1x512x2048 := Rect.unit (s := S1x512x2048) ![0, 384, 0] S1x128x2048.size inb_S1x512x2048_S1x128x2048_0_384_0

/-! ## What the body leaves in each output window's buffer -/

/-! ### Values of the body that the stores' payloads, spelt out, would write more than once

    Each is a vector the body binds (often a part call's result), stated over the input windows' blocks and
    numbered on from the skeleton's payload functions (`k0_pay155` …, after `k0_pay154`), so that
    `out0_W` and the values after it name it instead of spelling it out (`unfold_out out0_W` opens a canon
    with them, `unfold_payloads` opens them with the payloads); the comment after each is the printed function's
    name for the value (a count appended where that name is bound again). -/

def k0_pay155 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1024 .bf16 :=
  k0_pay2 (View.ld x0 r0_0) (View.ld x3 r0_1) (View.ld x2 r0_2) (View.ld x1 r0_2) -- `v26`
def k0_pay156 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : IVec S128x1 32 :=
  iota .tc S128x1 32 [0] iota_S128x1_d0_w32 -- `v158`
def k0_pay157 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x512 .f32 :=
  k0_pay13 (k0_pay155 x0 x1 x2 x3 x4 x5 x6 x7 x8 x9 x10 x11 x12 x13 x14 x15 x16 x17 x18 x19) (View.ld x8 r0_9) -- `v157`
def k0_pay158 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x512 .bf16 :=
  k0_pay19 (k0_pay155 x0 x1 x2 x3 x4 x5 x6 x7 x8 x9 x10 x11 x12 x13 x14 x15 x16 x17 x18 x19) (View.ld x4 r0_9) -- `v242`
def k0_pay159 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x128 .bf16 :=
  k0_pay26 (k0_pay155 x0 x1 x2 x3 x4 x5 x6 x7 x8 x9 x10 x11 x12 x13 x14 x15 x16 x17 x18 x19) (View.ld x4 r0_9) -- `v271`
def k0_pay160 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x256 .bf16 :=
  k0_pay27 (View.ld x11 r0_18) -- `v273`
def k0_pay161 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1024 .f32 :=
  k0_pay39 (View.ld x0 r0_26) -- `v333`
def k0_pay162 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S1x1024 .f32 :=
  k0_pay40 (View.ld x3 r0_1) -- `v335`
def k0_pay163 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1 .f32 :=
  k0_pay41 (View.ld x0 r0_26) -- `v343`
def k0_pay164 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1024 .bf16 :=
  k0_pay42 (k0_pay161 x0 x1 x2 x3 x4 x5 x6 x7 x8 x9 x10 x11 x12 x13 x14 x15 x16 x17 x18 x19) (k0_pay162 x0 x1 x2 x3 x4 x5 x6 x7 x8 x9 x10 x11 x12 x13 x14 x15 x16 x17 x18 x19) (k0_pay163 x0 x1 x2 x3 x4 x5 x6 x7 x8 x9 x10 x11 x12 x13 x14 x15 x16 x17 x18 x19) (View.ld x2 r0_2) (View.ld x1 r0_2) -- `v358`
def k0_pay165 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S1024x512 .bf16 :=
  k0_pay49 (View.ld x7 r0_9) -- `v424`
def k0_pay166 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x512 .bf16 :=
  k0_pay60 (k0_pay164 x0 x1 x2 x3 x4 x5 x6 x7 x8 x9 x10 x11 x12 x13 x14 x15 x16 x17 x18 x19) (View.ld x4 r0_9) -- `v574`
def k0_pay167 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x128 .bf16 :=
  k0_pay71 (k0_pay166 x0 x1 x2 x3 x4 x5 x6 x7 x8 x9 x10 x11 x12 x13 x14 x15 x16 x17 x18 x19) -- `v617`
def k0_pay168 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1024 .bf16 :=
  k0_pay78 (View.ld x0 r0_35) (View.ld x3 r0_1) (View.ld x2 r0_2) (View.ld x1 r0_2) -- `v690`
def k0_pay169 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x512 .bf16 :=
  k0_pay100 (k0_pay168 x0 x1 x2 x3 x4 x5 x6 x7 x8 x9 x10 x11 x12 x13 x14 x15 x16 x17 x18 x19) (View.ld x4 r0_9) -- `v906`
def k0_pay170 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1024 .bf16 :=
  k0_pay116 (View.ld x0 r0_44) (View.ld x3 r0_1) (View.ld x2 r0_2) (View.ld x1 r0_2) -- `v1022`
def k0_pay171 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x1536 .f32 :=
  k0_pay117 (View.ld x0 r0_44) (View.ld x3 r0_1) (View.ld x2 r0_2) (View.ld x1 r0_2) (View.ld x6 r0_3) -- `v1025`
def k0_pay172 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : IVec S128x1 32 :=
  k0_pay118 -- `v1030`
def k0_pay173 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : IVec S128x1 1 :=
  k0_pay119 -- `v1032`
def k0_pay174 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : IVec S128x1 1 :=
  k0_pay120 -- `v1034`
def k0_pay175 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x512 .bf16 :=
  k0_pay137 (k0_pay170 x0 x1 x2 x3 x4 x5 x6 x7 x8 x9 x10 x11 x12 x13 x14 x15 x16 x17 x18 x19) (View.ld x4 r0_9) -- `v1238`
def k0_pay176 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : FVec F S128x128 .bf16 :=
  k0_pay138 (k0_pay170 x0 x1 x2 x3 x4 x5 x6 x7 x8 x9 x10 x11 x12 x13 x14 x15 x16 x17 x18 x19) (View.ld x4 r0_9) -- `v1239`

/-- Window 20's staging buffer after the body, from the input windows' blocks: its 16 stores as pieces, LAST
    FIRST (Lib/Pipeline/FrameBody.lean `View.canon`; the payloads are the skeleton's and the values stated above). -/
def out0_20 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x512 .bf16 :=
  View.canon [⟨r0_51, k0_pay150 (k0_pay175 x0 x1 x2 x3 x4 x5 x6 x7 x8 x9 x10 x11 x12 x13 x14 x15 x16 x17 x18 x19) (View.ld x11 r0_18)⟩,
    ⟨r0_50, k0_pay147 (k0_pay146 (k0_pay175 x0 x1 x2 x3 x4 x5 x6 x7 x8 x9 x10 x11 x12 x13 x14 x15 x16 x17 x18 x19) (View.ld x11 r0_18))⟩,
    ⟨r0_49, k0_pay143 (k0_pay175 x0 x1 x2 x3 x4 x5 x6 x7 x8 x9 x10 x11 x12 x13 x14 x15 x16 x17 x18 x19) (View.ld x11 r0_18)⟩,
    ⟨r0_48, k0_pay140 (k0_pay176 x0 x1 x2 x3 x4 x5 x6 x7 x8 x9 x10 x11 x12 x13 x14 x15 x16 x17 x18 x19) (View.ld x11 r0_18)⟩,
    ⟨r0_42, k0_pay112 (k0_pay169 x0 x1 x2 x3 x4 x5 x6 x7 x8 x9 x10 x11 x12 x13 x14 x15 x16 x17 x18 x19) (View.ld x11 r0_18)⟩,
    ⟨r0_41, k0_pay109 (k0_pay169 x0 x1 x2 x3 x4 x5 x6 x7 x8 x9 x10 x11 x12 x13 x14 x15 x16 x17 x18 x19) (View.ld x11 r0_18)⟩,
    ⟨r0_40, k0_pay106 (k0_pay105 (k0_pay168 x0 x1 x2 x3 x4 x5 x6 x7 x8 x9 x10 x11 x12 x13 x14 x15 x16 x17 x18 x19) (View.ld x4 r0_9) (View.ld x11 r0_18))⟩,
    ⟨r0_39, k0_pay102 (k0_pay168 x0 x1 x2 x3 x4 x5 x6 x7 x8 x9 x10 x11 x12 x13 x14 x15 x16 x17 x18 x19) (View.ld x4 r0_9) (View.ld x11 r0_18)⟩,
    ⟨r0_33, k0_pay73 (k0_pay167 x0 x1 x2 x3 x4 x5 x6 x7 x8 x9 x10 x11 x12 x13 x14 x15 x16 x17 x18 x19) (View.ld x11 r0_18)⟩,
    ⟨r0_32, k0_pay69 (k0_pay166 x0 x1 x2 x3 x4 x5 x6 x7 x8 x9 x10 x11 x12 x13 x14 x15 x16 x17 x18 x19) (View.ld x11 r0_18)⟩,
    ⟨r0_31, k0_pay66 (k0_pay166 x0 x1 x2 x3 x4 x5 x6 x7 x8 x9 x10 x11 x12 x13 x14 x15 x16 x17 x18 x19) (View.ld x11 r0_18)⟩,
    ⟨r0_30, k0_pay62 (k0_pay164 x0 x1 x2 x3 x4 x5 x6 x7 x8 x9 x10 x11 x12 x13 x14 x15 x16 x17 x18 x19) (View.ld x4 r0_9) (View.ld x11 r0_18)⟩,
    ⟨r0_22, k0_pay32 (k0_pay158 x0 x1 x2 x3 x4 x5 x6 x7 x8 x9 x10 x11 x12 x13 x14 x15 x16 x17 x18 x19) (View.ld x11 r0_18)⟩,
    ⟨r0_21, k0_pay29 (k0_pay159 x0 x1 x2 x3 x4 x5 x6 x7 x8 x9 x10 x11 x12 x13 x14 x15 x16 x17 x18 x19) (k0_pay160 x0 x1 x2 x3 x4 x5 x6 x7 x8 x9 x10 x11 x12 x13 x14 x15 x16 x17 x18 x19)⟩,
    ⟨r0_20, k0_pay24 (k0_pay155 x0 x1 x2 x3 x4 x5 x6 x7 x8 x9 x10 x11 x12 x13 x14 x15 x16 x17 x18 x19) (View.ld x4 r0_9) (View.ld x11 r0_18)⟩,
    ⟨r0_19, k0_pay21 (k0_pay155 x0 x1 x2 x3 x4 x5 x6 x7 x8 x9 x10 x11 x12 x13 x14 x15 x16 x17 x18 x19) (View.ld x4 r0_9) (View.ld x11 r0_18)⟩]

/-- Its stores tile the buffer (checked by evaluation), so they cover it. -/
theorem cover0_20 (p0 : Vec F S1x128x128 .bf16) (p1 : Vec F S1x128x128 .bf16) (p2 : Vec F S1x128x128 .bf16) (p3 : Vec F S1x128x128 .bf16) (p4 : Vec F S1x128x128 .bf16) (p5 : Vec F S1x128x128 .bf16) (p6 : Vec F S1x128x128 .bf16) (p7 : Vec F S1x128x128 .bf16) (p8 : Vec F S1x128x128 .bf16) (p9 : Vec F S1x128x128 .bf16) (p10 : Vec F S1x128x128 .bf16) (p11 : Vec F S1x128x128 .bf16) (p12 : Vec F S1x128x128 .bf16) (p13 : Vec F S1x128x128 .bf16) (p14 : Vec F S1x128x128 .bf16) (p15 : Vec F S1x128x128 .bf16) (y : S1x512x512.Idx) :
    ∃ pc ∈ ([⟨r0_51, p0⟩, ⟨r0_50, p1⟩, ⟨r0_49, p2⟩, ⟨r0_48, p3⟩, ⟨r0_42, p4⟩, ⟨r0_41, p5⟩, ⟨r0_40, p6⟩, ⟨r0_39, p7⟩, ⟨r0_33, p8⟩, ⟨r0_32, p9⟩, ⟨r0_31, p10⟩, ⟨r0_30, p11⟩, ⟨r0_22, p12⟩, ⟨r0_21, p13⟩, ⟨r0_20, p14⟩, ⟨r0_19, p15⟩] : List (View.Piece (Elt F) S1x512x512 .bf16)), y ∈ pc.1.set :=
  View.cover_of_tiled [⟨r0_51, p0⟩, ⟨r0_50, p1⟩, ⟨r0_49, p2⟩, ⟨r0_48, p3⟩, ⟨r0_42, p4⟩, ⟨r0_41, p5⟩, ⟨r0_40, p6⟩, ⟨r0_39, p7⟩, ⟨r0_33, p8⟩, ⟨r0_32, p9⟩, ⟨r0_31, p10⟩, ⟨r0_30, p11⟩, ⟨r0_22, p12⟩, ⟨r0_21, p13⟩, ⟨r0_20, p14⟩, ⟨r0_19, p15⟩] S1x128x128.size (by rfl) y

/-- Window 21's staging buffer after the body, from the input windows' blocks: its 16 stores as pieces, LAST
    FIRST (Lib/Pipeline/FrameBody.lean `View.canon`; the payloads are the skeleton's and the values stated above). -/
def out0_21 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x512 .bf16 :=
  View.canon [⟨r0_51, k0_pay151 (k0_pay175 x0 x1 x2 x3 x4 x5 x6 x7 x8 x9 x10 x11 x12 x13 x14 x15 x16 x17 x18 x19) (View.ld x11 r0_18)⟩,
    ⟨r0_50, k0_pay148 (k0_pay145 (k0_pay175 x0 x1 x2 x3 x4 x5 x6 x7 x8 x9 x10 x11 x12 x13 x14 x15 x16 x17 x18 x19) (View.ld x11 r0_18))⟩,
    ⟨r0_49, k0_pay144 (k0_pay175 x0 x1 x2 x3 x4 x5 x6 x7 x8 x9 x10 x11 x12 x13 x14 x15 x16 x17 x18 x19) (View.ld x11 r0_18)⟩,
    ⟨r0_48, k0_pay141 (k0_pay176 x0 x1 x2 x3 x4 x5 x6 x7 x8 x9 x10 x11 x12 x13 x14 x15 x16 x17 x18 x19) (View.ld x11 r0_18)⟩,
    ⟨r0_42, k0_pay113 (k0_pay169 x0 x1 x2 x3 x4 x5 x6 x7 x8 x9 x10 x11 x12 x13 x14 x15 x16 x17 x18 x19) (View.ld x11 r0_18)⟩,
    ⟨r0_41, k0_pay110 (k0_pay169 x0 x1 x2 x3 x4 x5 x6 x7 x8 x9 x10 x11 x12 x13 x14 x15 x16 x17 x18 x19) (View.ld x11 r0_18)⟩,
    ⟨r0_40, k0_pay107 (k0_pay104 (k0_pay168 x0 x1 x2 x3 x4 x5 x6 x7 x8 x9 x10 x11 x12 x13 x14 x15 x16 x17 x18 x19) (View.ld x4 r0_9) (View.ld x11 r0_18))⟩,
    ⟨r0_39, k0_pay103 (k0_pay168 x0 x1 x2 x3 x4 x5 x6 x7 x8 x9 x10 x11 x12 x13 x14 x15 x16 x17 x18 x19) (View.ld x4 r0_9) (View.ld x11 r0_18)⟩,
    ⟨r0_33, k0_pay74 (k0_pay167 x0 x1 x2 x3 x4 x5 x6 x7 x8 x9 x10 x11 x12 x13 x14 x15 x16 x17 x18 x19) (View.ld x11 r0_18)⟩,
    ⟨r0_32, k0_pay70 (k0_pay166 x0 x1 x2 x3 x4 x5 x6 x7 x8 x9 x10 x11 x12 x13 x14 x15 x16 x17 x18 x19) (View.ld x11 r0_18)⟩,
    ⟨r0_31, k0_pay67 (k0_pay166 x0 x1 x2 x3 x4 x5 x6 x7 x8 x9 x10 x11 x12 x13 x14 x15 x16 x17 x18 x19) (View.ld x11 r0_18)⟩,
    ⟨r0_30, k0_pay64 (k0_pay63 (k0_pay164 x0 x1 x2 x3 x4 x5 x6 x7 x8 x9 x10 x11 x12 x13 x14 x15 x16 x17 x18 x19) (View.ld x4 r0_9) (View.ld x11 r0_18))⟩,
    ⟨r0_22, k0_pay33 (k0_pay158 x0 x1 x2 x3 x4 x5 x6 x7 x8 x9 x10 x11 x12 x13 x14 x15 x16 x17 x18 x19) (View.ld x11 r0_18)⟩,
    ⟨r0_21, k0_pay30 (k0_pay159 x0 x1 x2 x3 x4 x5 x6 x7 x8 x9 x10 x11 x12 x13 x14 x15 x16 x17 x18 x19) (k0_pay160 x0 x1 x2 x3 x4 x5 x6 x7 x8 x9 x10 x11 x12 x13 x14 x15 x16 x17 x18 x19)⟩,
    ⟨r0_20, k0_pay25 (k0_pay155 x0 x1 x2 x3 x4 x5 x6 x7 x8 x9 x10 x11 x12 x13 x14 x15 x16 x17 x18 x19) (View.ld x4 r0_9) (View.ld x11 r0_18)⟩,
    ⟨r0_19, k0_pay22 (k0_pay155 x0 x1 x2 x3 x4 x5 x6 x7 x8 x9 x10 x11 x12 x13 x14 x15 x16 x17 x18 x19) (View.ld x4 r0_9) (View.ld x11 r0_18)⟩]

/-- Its stores tile the buffer (checked by evaluation), so they cover it. -/
theorem cover0_21 (p0 : Vec F S1x128x128 .bf16) (p1 : Vec F S1x128x128 .bf16) (p2 : Vec F S1x128x128 .bf16) (p3 : Vec F S1x128x128 .bf16) (p4 : Vec F S1x128x128 .bf16) (p5 : Vec F S1x128x128 .bf16) (p6 : Vec F S1x128x128 .bf16) (p7 : Vec F S1x128x128 .bf16) (p8 : Vec F S1x128x128 .bf16) (p9 : Vec F S1x128x128 .bf16) (p10 : Vec F S1x128x128 .bf16) (p11 : Vec F S1x128x128 .bf16) (p12 : Vec F S1x128x128 .bf16) (p13 : Vec F S1x128x128 .bf16) (p14 : Vec F S1x128x128 .bf16) (p15 : Vec F S1x128x128 .bf16) (y : S1x512x512.Idx) :
    ∃ pc ∈ ([⟨r0_51, p0⟩, ⟨r0_50, p1⟩, ⟨r0_49, p2⟩, ⟨r0_48, p3⟩, ⟨r0_42, p4⟩, ⟨r0_41, p5⟩, ⟨r0_40, p6⟩, ⟨r0_39, p7⟩, ⟨r0_33, p8⟩, ⟨r0_32, p9⟩, ⟨r0_31, p10⟩, ⟨r0_30, p11⟩, ⟨r0_22, p12⟩, ⟨r0_21, p13⟩, ⟨r0_20, p14⟩, ⟨r0_19, p15⟩] : List (View.Piece (Elt F) S1x512x512 .bf16)), y ∈ pc.1.set :=
  View.cover_of_tiled [⟨r0_51, p0⟩, ⟨r0_50, p1⟩, ⟨r0_49, p2⟩, ⟨r0_48, p3⟩, ⟨r0_42, p4⟩, ⟨r0_41, p5⟩, ⟨r0_40, p6⟩, ⟨r0_39, p7⟩, ⟨r0_33, p8⟩, ⟨r0_32, p9⟩, ⟨r0_31, p10⟩, ⟨r0_30, p11⟩, ⟨r0_22, p12⟩, ⟨r0_21, p13⟩, ⟨r0_20, p14⟩, ⟨r0_19, p15⟩] S1x128x128.size (by rfl) y

/-- Window 22's staging buffer after the body, from the input windows' blocks: its 4 stores as pieces, LAST
    FIRST (Lib/Pipeline/FrameBody.lean `View.canon`; the payloads are the skeleton's and the values stated above). -/
def out0_22 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x1536 .bf16 :=
  View.canon [⟨r0_45, k0_pay153 (k0_pay152 (k0_pay170 x0 x1 x2 x3 x4 x5 x6 x7 x8 x9 x10 x11 x12 x13 x14 x15 x16 x17 x18 x19) (View.ld x5 r0_3))⟩,
    ⟨r0_36, k0_pay114 (k0_pay168 x0 x1 x2 x3 x4 x5 x6 x7 x8 x9 x10 x11 x12 x13 x14 x15 x16 x17 x18 x19) (View.ld x5 r0_3)⟩,
    ⟨r0_27, k0_pay75 (k0_pay164 x0 x1 x2 x3 x4 x5 x6 x7 x8 x9 x10 x11 x12 x13 x14 x15 x16 x17 x18 x19) (View.ld x5 r0_3)⟩,
    ⟨r0_8, k0_pay37 (k0_pay34 (k0_pay155 x0 x1 x2 x3 x4 x5 x6 x7 x8 x9 x10 x11 x12 x13 x14 x15 x16 x17 x18 x19) (View.ld x5 r0_3)) (k0_pay35 (k0_pay155 x0 x1 x2 x3 x4 x5 x6 x7 x8 x9 x10 x11 x12 x13 x14 x15 x16 x17 x18 x19) (View.ld x5 r0_3)) (k0_pay36 (F := F))⟩]

/-- Its stores tile the buffer (checked by evaluation), so they cover it. -/
theorem cover0_22 (p0 : Vec F S1x128x1536 .bf16) (p1 : Vec F S1x128x1536 .bf16) (p2 : Vec F S1x128x1536 .bf16) (p3 : Vec F S1x128x1536 .bf16) (y : S1x512x1536.Idx) :
    ∃ pc ∈ ([⟨r0_45, p0⟩, ⟨r0_36, p1⟩, ⟨r0_27, p2⟩, ⟨r0_8, p3⟩] : List (View.Piece (Elt F) S1x512x1536 .bf16)), y ∈ pc.1.set :=
  View.cover_of_tiled [⟨r0_45, p0⟩, ⟨r0_36, p1⟩, ⟨r0_27, p2⟩, ⟨r0_8, p3⟩] S1x128x1536.size (by rfl) y

/-- Window 23's staging buffer after the body, from the input windows' blocks: its 4 stores as pieces, LAST
    FIRST (Lib/Pipeline/FrameBody.lean `View.canon`; the payloads are the skeleton's and the values stated above). -/
def out0_23 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x1536 .bf16 :=
  View.canon [⟨r0_45, k0_pay123 (k0_pay121 (k0_pay171 x0 x1 x2 x3 x4 x5 x6 x7 x8 x9 x10 x11 x12 x13 x14 x15 x16 x17 x18 x19) (Scalar.select (Scalar.cmpi .eq 64#32 0#32) 1#32 64#32) (k0_pay172 x0 x1 x2 x3 x4 x5 x6 x7 x8 x9 x10 x11 x12 x13 x14 x15 x16 x17 x18 x19) (k0_pay173 x0 x1 x2 x3 x4 x5 x6 x7 x8 x9 x10 x11 x12 x13 x14 x15 x16 x17 x18 x19) (k0_pay174 x0 x1 x2 x3 x4 x5 x6 x7 x8 x9 x10 x11 x12 x13 x14 x15 x16 x17 x18 x19) (Scalar.cmpi .slt (Scalar.select (Scalar.cmpi .eq 64#32 0#32) 1#32 64#32) 0#32) (View.ld x12 r0_4) (View.ld x12 r0_5) (View.ld x12 r0_6) (View.ld x13 r0_7)) (k0_pay122 (k0_pay171 x0 x1 x2 x3 x4 x5 x6 x7 x8 x9 x10 x11 x12 x13 x14 x15 x16 x17 x18 x19) (Scalar.select (Scalar.cmpi .eq 64#32 0#32) 1#32 64#32) (k0_pay172 x0 x1 x2 x3 x4 x5 x6 x7 x8 x9 x10 x11 x12 x13 x14 x15 x16 x17 x18 x19) (k0_pay173 x0 x1 x2 x3 x4 x5 x6 x7 x8 x9 x10 x11 x12 x13 x14 x15 x16 x17 x18 x19) (k0_pay174 x0 x1 x2 x3 x4 x5 x6 x7 x8 x9 x10 x11 x12 x13 x14 x15 x16 x17 x18 x19) (Scalar.cmpi .slt (Scalar.select (Scalar.cmpi .eq 64#32 0#32) 1#32 64#32) 0#32) (View.ld x12 r0_4) (View.ld x12 r0_5) (View.ld x12 r0_6) (View.ld x13 r0_7))⟩,
    ⟨r0_36, k0_pay84 (k0_pay79 (k0_pay168 x0 x1 x2 x3 x4 x5 x6 x7 x8 x9 x10 x11 x12 x13 x14 x15 x16 x17 x18 x19) (View.ld x6 r0_3)) (k0_pay81 (k0_pay168 x0 x1 x2 x3 x4 x5 x6 x7 x8 x9 x10 x11 x12 x13 x14 x15 x16 x17 x18 x19) (View.ld x6 r0_3)) (k0_pay82 (k0_pay168 x0 x1 x2 x3 x4 x5 x6 x7 x8 x9 x10 x11 x12 x13 x14 x15 x16 x17 x18 x19) (View.ld x6 r0_3) (View.ld x12 r0_4)) (k0_pay83 (View.ld x12 r0_5)) (View.ld x12 r0_6) (View.ld x13 r0_7)⟩,
    ⟨r0_27, k0_pay48 (k0_pay43 (k0_pay161 x0 x1 x2 x3 x4 x5 x6 x7 x8 x9 x10 x11 x12 x13 x14 x15 x16 x17 x18 x19) (k0_pay162 x0 x1 x2 x3 x4 x5 x6 x7 x8 x9 x10 x11 x12 x13 x14 x15 x16 x17 x18 x19) (k0_pay163 x0 x1 x2 x3 x4 x5 x6 x7 x8 x9 x10 x11 x12 x13 x14 x15 x16 x17 x18 x19) (View.ld x2 r0_2) (View.ld x1 r0_2) (View.ld x6 r0_3)) k0_pay44 (k0_pay45 (k0_pay161 x0 x1 x2 x3 x4 x5 x6 x7 x8 x9 x10 x11 x12 x13 x14 x15 x16 x17 x18 x19) (k0_pay162 x0 x1 x2 x3 x4 x5 x6 x7 x8 x9 x10 x11 x12 x13 x14 x15 x16 x17 x18 x19) (k0_pay163 x0 x1 x2 x3 x4 x5 x6 x7 x8 x9 x10 x11 x12 x13 x14 x15 x16 x17 x18 x19) (View.ld x2 r0_2) (View.ld x1 r0_2) (View.ld x6 r0_3)) k0_pay46 (k0_pay47 (F := F)) (View.ld x12 r0_4) (View.ld x12 r0_5) (View.ld x12 r0_6) (View.ld x13 r0_7)⟩,
    ⟨r0_8, k0_pay7 (k0_pay6 (k0_pay3 (View.ld x0 r0_0) (View.ld x3 r0_1) (View.ld x2 r0_2) (View.ld x1 r0_2) (View.ld x6 r0_3)) (Scalar.select (Scalar.cmpi .eq 64#32 0#32) 1#32 64#32) k0_pay4 k0_pay5 (View.ld x12 r0_4) (View.ld x12 r0_5) (View.ld x12 r0_6) (View.ld x13 r0_7)) (Scalar.ofBits .f32 0x00000000#32)⟩]

/-- Its stores tile the buffer (checked by evaluation), so they cover it. -/
theorem cover0_23 (p0 : Vec F S1x128x1536 .bf16) (p1 : Vec F S1x128x1536 .bf16) (p2 : Vec F S1x128x1536 .bf16) (p3 : Vec F S1x128x1536 .bf16) (y : S1x512x1536.Idx) :
    ∃ pc ∈ ([⟨r0_45, p0⟩, ⟨r0_36, p1⟩, ⟨r0_27, p2⟩, ⟨r0_8, p3⟩] : List (View.Piece (Elt F) S1x512x1536 .bf16)), y ∈ pc.1.set :=
  View.cover_of_tiled [⟨r0_45, p0⟩, ⟨r0_36, p1⟩, ⟨r0_27, p2⟩, ⟨r0_8, p3⟩] S1x128x1536.size (by rfl) y

/-- Window 24's staging buffer after the body, from the input windows' blocks: its 4 stores as pieces, LAST
    FIRST (Lib/Pipeline/FrameBody.lean `View.canon`; the payloads are the skeleton's and the values stated above). -/
def out0_24 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x512 .bf16 :=
  View.canon [⟨r0_46, k0_pay130 (k0_pay124 (k0_pay170 x0 x1 x2 x3 x4 x5 x6 x7 x8 x9 x10 x11 x12 x13 x14 x15 x16 x17 x18 x19) (View.ld x7 r0_9)) (k0_pay126 (k0_pay170 x0 x1 x2 x3 x4 x5 x6 x7 x8 x9 x10 x11 x12 x13 x14 x15 x16 x17 x18 x19) (View.ld x7 r0_9)) (k0_pay127 (k0_pay170 x0 x1 x2 x3 x4 x5 x6 x7 x8 x9 x10 x11 x12 x13 x14 x15 x16 x17 x18 x19) (View.ld x7 r0_9)) k0_pay128 (k0_pay129 (F := F)) (View.ld x14 r0_10) (View.ld x14 r0_11) (View.ld x14 r0_12) (View.ld x15 r0_13)⟩,
    ⟨r0_37, k0_pay89 (k0_pay88 (k0_pay85 (k0_pay168 x0 x1 x2 x3 x4 x5 x6 x7 x8 x9 x10 x11 x12 x13 x14 x15 x16 x17 x18 x19) (View.ld x7 r0_9)) (Scalar.select (Scalar.cmpi .eq 64#32 0#32) 1#32 64#32) k0_pay86 k0_pay87 (View.ld x14 r0_10) (View.ld x14 r0_11) (View.ld x14 r0_12) (View.ld x15 r0_13))⟩,
    ⟨r0_28, k0_pay54 (k0_pay52 (k0_pay164 x0 x1 x2 x3 x4 x5 x6 x7 x8 x9 x10 x11 x12 x13 x14 x15 x16 x17 x18 x19) (k0_pay165 x0 x1 x2 x3 x4 x5 x6 x7 x8 x9 x10 x11 x12 x13 x14 x15 x16 x17 x18 x19)) (k0_pay53 (k0_pay164 x0 x1 x2 x3 x4 x5 x6 x7 x8 x9 x10 x11 x12 x13 x14 x15 x16 x17 x18 x19) (k0_pay165 x0 x1 x2 x3 x4 x5 x6 x7 x8 x9 x10 x11 x12 x13 x14 x15 x16 x17 x18 x19) (View.ld x14 r0_10) (View.ld x14 r0_11)) (View.ld x14 r0_12) (View.ld x15 r0_13)⟩,
    ⟨r0_14, k0_pay12 (k0_pay8 (k0_pay155 x0 x1 x2 x3 x4 x5 x6 x7 x8 x9 x10 x11 x12 x13 x14 x15 x16 x17 x18 x19) (View.ld x7 r0_9)) (k0_pay10 (k0_pay155 x0 x1 x2 x3 x4 x5 x6 x7 x8 x9 x10 x11 x12 x13 x14 x15 x16 x17 x18 x19) (View.ld x7 r0_9)) k0_pay11 (View.ld x14 r0_10) (View.ld x14 r0_11) (View.ld x14 r0_12) (View.ld x15 r0_13)⟩]

/-- Its stores tile the buffer (checked by evaluation), so they cover it. -/
theorem cover0_24 (p0 : Vec F S1x128x512 .bf16) (p1 : Vec F S1x128x512 .bf16) (p2 : Vec F S1x128x512 .bf16) (p3 : Vec F S1x128x512 .bf16) (y : S1x512x512.Idx) :
    ∃ pc ∈ ([⟨r0_46, p0⟩, ⟨r0_37, p1⟩, ⟨r0_28, p2⟩, ⟨r0_14, p3⟩] : List (View.Piece (Elt F) S1x512x512 .bf16)), y ∈ pc.1.set :=
  View.cover_of_tiled [⟨r0_46, p0⟩, ⟨r0_37, p1⟩, ⟨r0_28, p2⟩, ⟨r0_14, p3⟩] S1x128x512.size (by rfl) y

/-- Window 25's staging buffer after the body, from the input windows' blocks: its 4 stores as pieces, LAST
    FIRST (Lib/Pipeline/FrameBody.lean `View.canon`; the payloads are the skeleton's and the values stated above). -/
def out0_25 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x512 .bf16 :=
  View.canon [⟨r0_46, k0_pay135 (k0_pay133 (k0_pay131 (k0_pay170 x0 x1 x2 x3 x4 x5 x6 x7 x8 x9 x10 x11 x12 x13 x14 x15 x16 x17 x18 x19) (View.ld x8 r0_9)) (Scalar.select (Scalar.cmpi .eq 64#32 0#32) 1#32 64#32) k0_pay132 (View.ld x16 r0_10) (View.ld x16 r0_11) (View.ld x16 r0_12)) (k0_pay134 (View.ld x17 r0_13))⟩,
    ⟨r0_37, k0_pay94 (k0_pay90 (k0_pay168 x0 x1 x2 x3 x4 x5 x6 x7 x8 x9 x10 x11 x12 x13 x14 x15 x16 x17 x18 x19) (View.ld x8 r0_9)) (k0_pay92 (k0_pay168 x0 x1 x2 x3 x4 x5 x6 x7 x8 x9 x10 x11 x12 x13 x14 x15 x16 x17 x18 x19) (View.ld x8 r0_9)) (k0_pay93 (k0_pay168 x0 x1 x2 x3 x4 x5 x6 x7 x8 x9 x10 x11 x12 x13 x14 x15 x16 x17 x18 x19) (View.ld x8 r0_9)) (View.ld x16 r0_10) (View.ld x16 r0_11) (View.ld x16 r0_12) (View.ld x17 r0_13)⟩,
    ⟨r0_28, k0_pay58 (k0_pay57 (k0_pay55 (k0_pay164 x0 x1 x2 x3 x4 x5 x6 x7 x8 x9 x10 x11 x12 x13 x14 x15 x16 x17 x18 x19) (View.ld x8 r0_9)) k0_pay56 0#32 (View.ld x16 r0_10) (View.ld x16 r0_11) (View.ld x16 r0_12) (View.ld x17 r0_13))⟩,
    ⟨r0_14, k0_pay17 (k0_pay15 (k0_pay157 x0 x1 x2 x3 x4 x5 x6 x7 x8 x9 x10 x11 x12 x13 x14 x15 x16 x17 x18 x19) (k0_pay156 x0 x1 x2 x3 x4 x5 x6 x7 x8 x9 x10 x11 x12 x13 x14 x15 x16 x17 x18 x19) 64#32 (View.ld x16 r0_10) (View.ld x16 r0_11)) (k0_pay16 (k0_pay157 x0 x1 x2 x3 x4 x5 x6 x7 x8 x9 x10 x11 x12 x13 x14 x15 x16 x17 x18 x19) (k0_pay156 x0 x1 x2 x3 x4 x5 x6 x7 x8 x9 x10 x11 x12 x13 x14 x15 x16 x17 x18 x19) 64#32 (View.ld x16 r0_12)) (View.ld x17 r0_13)⟩]

/-- Its stores tile the buffer (checked by evaluation), so they cover it. -/
theorem cover0_25 (p0 : Vec F S1x128x512 .bf16) (p1 : Vec F S1x128x512 .bf16) (p2 : Vec F S1x128x512 .bf16) (p3 : Vec F S1x128x512 .bf16) (y : S1x512x512.Idx) :
    ∃ pc ∈ ([⟨r0_46, p0⟩, ⟨r0_37, p1⟩, ⟨r0_28, p2⟩, ⟨r0_14, p3⟩] : List (View.Piece (Elt F) S1x512x512 .bf16)), y ∈ pc.1.set :=
  View.cover_of_tiled [⟨r0_46, p0⟩, ⟨r0_37, p1⟩, ⟨r0_28, p2⟩, ⟨r0_14, p3⟩] S1x128x512.size (by rfl) y

/-- Window 26's staging buffer after the body, from the input windows' blocks: its 4 stores as pieces, LAST
    FIRST (Lib/Pipeline/FrameBody.lean `View.canon`; the payloads are the skeleton's and the values stated above). -/
def out0_26 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x256 .f32 :=
  View.canon [⟨r0_47, k0_pay136 (k0_pay170 x0 x1 x2 x3 x4 x5 x6 x7 x8 x9 x10 x11 x12 x13 x14 x15 x16 x17 x18 x19) (View.ld x9 r0_15) (View.ld x18 r0_16)⟩,
    ⟨r0_38, k0_pay99 (k0_pay96 (k0_pay168 x0 x1 x2 x3 x4 x5 x6 x7 x8 x9 x10 x11 x12 x13 x14 x15 x16 x17 x18 x19) (View.ld x9 r0_15) (View.ld x18 r0_16)) (k0_pay97 (k0_pay168 x0 x1 x2 x3 x4 x5 x6 x7 x8 x9 x10 x11 x12 x13 x14 x15 x16 x17 x18 x19) (View.ld x9 r0_15) (View.ld x18 r0_16)) (k0_pay98 (F := F))⟩,
    ⟨r0_29, k0_pay59 (k0_pay164 x0 x1 x2 x3 x4 x5 x6 x7 x8 x9 x10 x11 x12 x13 x14 x15 x16 x17 x18 x19) (View.ld x9 r0_15) (View.ld x18 r0_16)⟩,
    ⟨r0_17, k0_pay18 (k0_pay155 x0 x1 x2 x3 x4 x5 x6 x7 x8 x9 x10 x11 x12 x13 x14 x15 x16 x17 x18 x19) (View.ld x9 r0_15) (View.ld x18 r0_16)⟩]

/-- Its stores tile the buffer (checked by evaluation), so they cover it. -/
theorem cover0_26 (p0 : Vec F S1x128x256 .f32) (p1 : Vec F S1x128x256 .f32) (p2 : Vec F S1x128x256 .f32) (p3 : Vec F S1x128x256 .f32) (y : S1x512x256.Idx) :
    ∃ pc ∈ ([⟨r0_47, p0⟩, ⟨r0_38, p1⟩, ⟨r0_29, p2⟩, ⟨r0_17, p3⟩] : List (View.Piece (Elt F) S1x512x256 .f32)), y ∈ pc.1.set :=
  View.cover_of_tiled [⟨r0_47, p0⟩, ⟨r0_38, p1⟩, ⟨r0_29, p2⟩, ⟨r0_17, p3⟩] S1x128x256.size (by rfl) y

/-- Window 27's staging buffer after the body, from the input windows' blocks: its 4 stores as pieces, LAST
    FIRST (Lib/Pipeline/FrameBody.lean `View.canon`; the payloads are the skeleton's and the values stated above). -/
def out0_27 (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) : Vec F S1x512x2048 .bf16 :=
  View.canon [⟨r0_52, k0_pay1 (k0_pay154 (k0_pay170 x0 x1 x2 x3 x4 x5 x6 x7 x8 x9 x10 x11 x12 x13 x14 x15 x16 x17 x18 x19) (View.ld x10 r0_23) (View.ld x19 r0_24))⟩,
    ⟨r0_43, k0_pay115 (k0_pay168 x0 x1 x2 x3 x4 x5 x6 x7 x8 x9 x10 x11 x12 x13 x14 x15 x16 x17 x18 x19) (View.ld x10 r0_23) (View.ld x19 r0_24)⟩,
    ⟨r0_34, k0_pay77 (k0_pay76 (k0_pay164 x0 x1 x2 x3 x4 x5 x6 x7 x8 x9 x10 x11 x12 x13 x14 x15 x16 x17 x18 x19) (View.ld x10 r0_23) (View.ld x19 r0_24))⟩,
    ⟨r0_25, k0_pay38 (k0_pay155 x0 x1 x2 x3 x4 x5 x6 x7 x8 x9 x10 x11 x12 x13 x14 x15 x16 x17 x18 x19) (View.ld x10 r0_23) (View.ld x19 r0_24)⟩]

/-- Its stores tile the buffer (checked by evaluation), so they cover it. -/
theorem cover0_27 (p0 : Vec F S1x128x2048 .bf16) (p1 : Vec F S1x128x2048 .bf16) (p2 : Vec F S1x128x2048 .bf16) (p3 : Vec F S1x128x2048 .bf16) (y : S1x512x2048.Idx) :
    ∃ pc ∈ ([⟨r0_52, p0⟩, ⟨r0_43, p1⟩, ⟨r0_34, p2⟩, ⟨r0_25, p3⟩] : List (View.Piece (Elt F) S1x512x2048 .bf16)), y ∈ pc.1.set :=
  View.cover_of_tiled [⟨r0_52, p0⟩, ⟨r0_43, p1⟩, ⟨r0_34, p2⟩, ⟨r0_25, p3⟩] S1x128x2048.size (by rfl) y

/-! ## The body's triple -/

set_option maxHeartbeats 1488000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x1536 .bf16) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x256 .bf16) (harg11 : arg11.IsWhole) (arg12 : Memref sig .tc .vmem S1024x2048 .bf16) (harg12 : arg12.IsWhole) (arg13 : Memref sig .tc .vmem S128x256 .f32) (harg13 : arg13.IsWhole) (arg14 : Memref sig .tc .vmem S3x1536 .f32) (harg14 : arg14.IsWhole) (arg15 : Memref sig .tc .vmem S1x1536 .f32) (harg15 : arg15.IsWhole) (arg16 : Memref sig .tc .vmem S3x512 .f32) (harg16 : arg16.IsWhole) (arg17 : Memref sig .tc .vmem S1x512 .f32) (harg17 : arg17.IsWhole) (arg18 : Memref sig .tc .vmem S3x512 .f32) (harg18 : arg18.IsWhole) (arg19 : Memref sig .tc .vmem S1x512 .f32) (harg19 : arg19.IsWhole) (arg20 : Memref sig .tc .vmem S1x256 .f32) (harg20 : arg20.IsWhole) (arg21 : Memref sig .tc .vmem S1x2048 .f32) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x1536 .bf16) (harg24 : arg24.IsWhole) (arg25 : Memref sig .tc .vmem S1x512x1536 .bf16) (harg25 : arg25.IsWhole) (arg26 : Memref sig .tc .vmem S1x512x512 .bf16) (harg26 : arg26.IsWhole) (arg27 : Memref sig .tc .vmem S1x512x512 .bf16) (harg27 : arg27.IsWhole) (arg28 : Memref sig .tc .vmem S1x512x256 .f32) (harg28 : arg28.IsWhole) (arg29 : Memref sig .tc .vmem S1x512x2048 .bf16) (harg29 : arg29.IsWhole)
    (x0 : Vec F S1x512x1024 .f32) (x1 : Vec F S1x1x1024 .f32) (x2 : Vec F S1x1x1024 .f32) (x3 : Vec F S1x1024 .f32) (x4 : Vec F S1024x512 .bf16) (x5 : Vec F S1024x1536 .bf16) (x6 : Vec F S1024x1536 .bf16) (x7 : Vec F S1024x512 .bf16) (x8 : Vec F S1024x512 .bf16) (x9 : Vec F S1024x256 .bf16) (x10 : Vec F S1024x2048 .bf16) (x11 : Vec F S128x256 .f32) (x12 : Vec F S3x1536 .f32) (x13 : Vec F S1x1536 .f32) (x14 : Vec F S3x512 .f32) (x15 : Vec F S1x512 .f32) (x16 : Vec F S3x512 .f32) (x17 : Vec F S1x512 .f32) (x18 : Vec F S1x256 .f32) (x19 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out0_20 x0 x1 x2 x3 x4 x5 x6 x7 x8 x9 x10 x11 x12 x13 x14 x15 x16 x17 x18 x19) ∗ owns (c : Thread nD τ) arg23 fullShare (out0_21 x0 x1 x2 x3 x4 x5 x6 x7 x8 x9 x10 x11 x12 x13 x14 x15 x16 x17 x18 x19) ∗ owns (c : Thread nD τ) arg24 fullShare (out0_22 x0 x1 x2 x3 x4 x5 x6 x7 x8 x9 x10 x11 x12 x13 x14 x15 x16 x17 x18 x19) ∗ owns (c : Thread nD τ) arg25 fullShare (out0_23 x0 x1 x2 x3 x4 x5 x6 x7 x8 x9 x10 x11 x12 x13 x14 x15 x16 x17 x18 x19) ∗ owns (c : Thread nD τ) arg26 fullShare (out0_24 x0 x1 x2 x3 x4 x5 x6 x7 x8 x9 x10 x11 x12 x13 x14 x15 x16 x17 x18 x19) ∗ owns (c : Thread nD τ) arg27 fullShare (out0_25 x0 x1 x2 x3 x4 x5 x6 x7 x8 x9 x10 x11 x12 x13 x14 x15 x16 x17 x18 x19) ∗ owns (c : Thread nD τ) arg28 fullShare (out0_26 x0 x1 x2 x3 x4 x5 x6 x7 x8 x9 x10 x11 x12 x13 x14 x15 x16 x17 x18 x19) ∗ owns (c : Thread nD τ) arg29 fullShare (out0_27 x0 x1 x2 x3 x4 x5 x6 x7 x8 x9 x10 x11 x12 x13 x14 x15 x16 x17 x18 x19)) -∗ K ⟨⟩))
      ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_in_projection_eq_skeleton]; unfold cc0_in_projection_skel
  simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _ _ _ _ _ _ _ _ _ _ _ _ _ _ _)).trans ?_
    rfl
  isplitl [H21]
  · iexists _; isplitr
    swap; · iexact H21
    ipureintro
    refine (View.read_writes_eq_canon _ _ _ (cover0_21 _ _ _ _ _ _ _ _ _ _ _ _ _ _ _ _)).trans ?_
    rfl
  isplitl [H22]
  · iexists _; isplitr
    swap; · iexact H22
    ipureintro
    refine (View.read_writes_eq_canon _ _ _ (cover0_22 _ _ _ _)).trans ?_
    rfl
  isplitl [H23]
  · iexists _; isplitr
    swap; · iexact H23
    ipureintro
    refine (View.read_writes_eq_canon _ _ _ (cover0_23 _ _ _ _)).trans ?_
    rfl
  isplitl [H24]
  · iexists _; isplitr
    swap; · iexact H24
    ipureintro
    refine (View.read_writes_eq_canon _ _ _ (cover0_24 _ _ _ _)).trans ?_
    rfl
  isplitl [H25]
  · iexists _; isplitr
    swap; · iexact H25
    ipureintro
    refine (View.read_writes_eq_canon _ _ _ (cover0_25 _ _ _ _)).trans ?_
    rfl
  isplitl [H26]
  · iexists _; isplitr
    swap; · iexact H26
    ipureintro
    refine (View.read_writes_eq_canon _ _ _ (cover0_26 _ _ _ _)).trans ?_
    rfl
  iexists _; isplitr
  swap; · iexact H27
  ipureintro
  refine (View.read_writes_eq_canon _ _ _ (cover0_27 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_InKernelIdeal`'s statement (Defs.lean) at any `F` — Proof.lean cites it at `Bits`:
    `theorem Cert.Proof.claim : Cert.Claim := ⟨Cert.InKernelIdeal.Gen.facts, fun m ρ _ => Cert.InKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proof.InProj

end
-- ==== Proof.InBody.lean ====
/- The projection's body: what each store writes, row by row. -/
module

public import proofs.«01_k».proof.Proof.Gen.InKernelIdeal.Skeleton
public import Idealize.ShloMosaic.Lib.Pointwise

@[expose] public section

set_option maxRecDepth 16384

noncomputable section

namespace Cert.Proof.InProj

open Cert.InKernelIdeal Cert.InKernelIdeal.Gen
open Idealize.ShloMosaic Idealize.ShloMosaic.TcCoe Idealize.ShloMosaic.Tactic
open Finset

/-- A row normalised by its root mean square, then scaled and shifted. -/
def hid (X gain sc sh : Fin 1024 → EReal) (k : Fin 1024) : EReal :=
  ((X k * Ideal.rsqrt (Ideal.div (∑ x : Fin 1024, X x * X x) (Ideal.ofBits .f32 0x44800000#32) + Ideal.ofBits .f32 0x358637BD#32)) * gain k)
    * (1 + sc k) + sh k

/-- The logistic function, as a quotient. -/
def sgm (x : EReal) : EReal := Ideal.div 1 (1 + Ideal.exp (0 - x))

/-- The softplus function, folded about zero. -/
def splus (x : EReal) : EReal := max x 0 + Ideal.log (1 + Ideal.exp (0 - FloatOps.absf (F := Ideal) (φ := .f32) x))

theorem pay2_at (X : S1x128x1024.Idx → Ideal .f32) (g : S1x1024.Idx → Ideal .f32) (sc sh : S1x1x1024.Idx → Ideal .f32) (s : Fin 128) (k : Fin 1024) :
    (k0_pay2 (F := Ideal) X g sc sh (ix2 s k) : EReal) = hid (fun k => X (ix3 0 s k)) (fun k => g (ix2 0 k)) (fun k => sc (ix3 0 0 k)) (fun k => sh (ix3 0 0 k)) k := by
  unfold k0_pay2 hid
  pointwise

theorem proj_at (X : S1x128x1024.Idx → Ideal .f32) (g : S1x1024.Idx → Ideal .f32) (sc sh : S1x1x1024.Idx → Ideal .f32) (W : S1024x1536.Idx → Ideal .bf16) (s : Fin 128) (j : Fin 1536) :
    (k0_pay3 (F := Ideal) X g sc sh W (ix2 s j) : EReal) = ∑ k : Fin 1024, (k0_pay2 (F := Ideal) X g sc sh (ix2 s k) : EReal) * W (ix2 k j) := by
  unfold k0_pay3
  pointwise

theorem z_at (h : S128x1024.Idx → Ideal .bf16) (W : S1024x1536.Idx → Ideal .bf16) (s : Fin 128) (j : Fin 1536) :
    (k0_pay37 (F := Ideal) (k0_pay34 h W) (k0_pay35 h W) k0_pay36 (ix3 0 s j) : EReal)
      = (∑ k : Fin 1024, h (ix2 s k) * W (ix2 k j)) * sgm (∑ k : Fin 1024, h (ix2 s k) * W (ix2 k j)) := by
  unfold k0_pay37 k0_pay36 k0_pay35 k0_pay34 sgm
  pointwise

theorem dt_at (h : S128x1024.Idx → Ideal .bf16) (W : S1024x256.Idx → Ideal .bf16) (b : S1x256.Idx → Ideal .f32) (s : Fin 128) (j : Fin 256) :
    (k0_pay18 (F := Ideal) h W b (ix3 0 s j) : EReal) = splus ((∑ k : Fin 1024, h (ix2 s k) * W (ix2 k j)) + b (ix2 0 j)) := by
  unfold k0_pay18 splus
  pointwise

theorem g_at (h : S128x1024.Idx → Ideal .bf16) (W : S1024x2048.Idx → Ideal .bf16) (b : S1x2048.Idx → Ideal .f32) (s : Fin 128) (j : Fin 2048) :
    (k0_pay38 (F := Ideal) h W b (ix3 0 s j) : EReal) = sgm ((∑ k : Fin 1024, h (ix2 s k) * W (ix2 k j)) + b (ix2 0 j)) := by
  unfold k0_pay38 sgm
  pointwise

theorem zr0_at (h : S128x1024.Idx → Ideal .bf16) (W : S1024x512.Idx → Ideal .bf16) (d : S128x256.Idx → Ideal .f32) (s : Fin 128) (j : Fin 128) :
    (k0_pay21 (F := Ideal) h W d (ix3 0 s j) : EReal)
      = ∑ e : Fin 128, (∑ k : Fin 1024, h (ix2 s k) * W (ix2 k ⟨e.val, by omega⟩)) * d (ix2 e ⟨j.val, by omega⟩) := by
  unfold k0_pay21 k0_pay20 k0_pay19
  pointwise

theorem zi0_at (h : S128x1024.Idx → Ideal .bf16) (W : S1024x512.Idx → Ideal .bf16) (d : S128x256.Idx → Ideal .f32) (s : Fin 128) (j : Fin 128) :
    (k0_pay22 (F := Ideal) h W d (ix3 0 s j) : EReal)
      = ∑ e : Fin 128, (∑ k : Fin 1024, h (ix2 s k) * W (ix2 k ⟨e.val, by omega⟩)) * d (ix2 e ⟨128 + j.val, by omega⟩) := by
  unfold k0_pay22 k0_pay20 k0_pay19
  pointwise

theorem zr1_at (h : S128x1024.Idx → Ideal .bf16) (W : S1024x512.Idx → Ideal .bf16) (d : S128x256.Idx → Ideal .f32) (s : Fin 128) (j : Fin 128) :
    (k0_pay24 (F := Ideal) h W d (ix3 0 s j) : EReal)
      = ∑ e : Fin 128, (∑ k : Fin 1024, h (ix2 s k) * W (ix2 k ⟨128 + e.val, by omega⟩)) * d (ix2 e ⟨j.val, by omega⟩) := by
  unfold k0_pay24 k0_pay23 k0_pay19
  pointwise

theorem zi1_at (h : S128x1024.Idx → Ideal .bf16) (W : S1024x512.Idx → Ideal .bf16) (d : S128x256.Idx → Ideal .f32) (s : Fin 128) (j : Fin 128) :
    (k0_pay25 (F := Ideal) h W d (ix3 0 s j) : EReal)
      = ∑ e : Fin 128, (∑ k : Fin 1024, h (ix2 s k) * W (ix2 k ⟨128 + e.val, by omega⟩)) * d (ix2 e ⟨128 + j.val, by omega⟩) := by
  unfold k0_pay25 k0_pay23 k0_pay19
  pointwise

theorem zr2_at (h : S128x1024.Idx → Ideal .bf16) (W : S1024x512.Idx → Ideal .bf16) (d : S128x256.Idx → Ideal .f32) (s : Fin 128) (j : Fin 128) :
    (k0_pay29 (F := Ideal) (k0_pay26 h W) (k0_pay27 d) (ix3 0 s j) : EReal)
      = ∑ e : Fin 128, (∑ k : Fin 1024, h (ix2 s k) * W (ix2 k ⟨256 + e.val, by omega⟩)) * d (ix2 e ⟨j.val, by omega⟩) := by
  unfold k0_pay29 k0_pay28 k0_pay27 k0_pay26 k0_pay19
  pointwise

theorem zi2_at (h : S128x1024.Idx → Ideal .bf16) (W : S1024x512.Idx → Ideal .bf16) (d : S128x256.Idx → Ideal .f32) (s : Fin 128) (j : Fin 128) :
    (k0_pay30 (F := Ideal) (k0_pay26 h W) (k0_pay27 d) (ix3 0 s j) : EReal)
      = ∑ e : Fin 128, (∑ k : Fin 1024, h (ix2 s k) * W (ix2 k ⟨256 + e.val, by omega⟩)) * d (ix2 e ⟨128 + j.val, by omega⟩) := by
  unfold k0_pay30 k0_pay28 k0_pay27 k0_pay26 k0_pay19
  pointwise

theorem zr3_at (h : S128x1024.Idx → Ideal .bf16) (W : S1024x512.Idx → Ideal .bf16) (d : S128x256.Idx → Ideal .f32) (s : Fin 128) (j : Fin 128) :
    (k0_pay32 (F := Ideal) (k0_pay19 h W) d (ix3 0 s j) : EReal)
      = ∑ e : Fin 128, (∑ k : Fin 1024, h (ix2 s k) * W (ix2 k ⟨384 + e.val, by omega⟩)) * d (ix2 e ⟨j.val, by omega⟩) := by
  unfold k0_pay32 k0_pay31 k0_pay19
  pointwise

theorem zi3_at (h : S128x1024.Idx → Ideal .bf16) (W : S1024x512.Idx → Ideal .bf16) (d : S128x256.Idx → Ideal .f32) (s : Fin 128) (j : Fin 128) :
    (k0_pay33 (F := Ideal) (k0_pay19 h W) d (ix3 0 s j) : EReal)
      = ∑ e : Fin 128, (∑ k : Fin 1024, h (ix2 s k) * W (ix2 k ⟨384 + e.val, by omega⟩)) * d (ix2 e ⟨128 + j.val, by omega⟩) := by
  unfold k0_pay33 k0_pay31 k0_pay19
  pointwise

/-! ## The convolution -/

/-- The mask word of a row: whether its position among its sixty-four is `e`. -/
def edge (e : BitVec 32) (s : Fin 128) : BitVec 1 :=
  (IntOp.cmpi CmpIPredicate.eq (Scalar.select (IntOp.andi (IntOp.xori (IntOp.cmpi CmpIPredicate.slt (IntOp.remsi ArithUnit.vector (BitVec.ofNat 32 s.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 s.val) (Scalar.select (Scalar.cmpi CmpIPredicate.eq 64#32 0#32) 1#32 64#32)) 0#32)) (IntOp.addi (IntOp.remsi ArithUnit.vector (BitVec.ofNat 32 s.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 s.val) (Scalar.select (Scalar.cmpi CmpIPredicate.eq 64#32 0#32) 1#32 64#32))) e)

theorem edge_first : ∀ s : Fin 128, edge 0#32 s = if s.val % 64 = 0 then 1#1 else 0#1 := by decide +kernel
theorem edge_last : ∀ s : Fin 128, edge 63#32 s = if s.val % 64 = 63 then 1#1 else 0#1 := by decide +kernel

/-- Three taps down the rows of a sixty-four-row window, nothing beyond its ends. -/
def taps (P : Fin 128 → EReal) (w0 w1 w2 b : EReal) (s : Fin 128) : EReal :=
  (if s.val % 64 = 0 then 0 else P ⟨(s.val + 128 - 1) % 128, by omega⟩ * w0) + P s * w1
    + (if s.val % 64 = 63 then 0 else P ⟨(s.val + 128 - 127) % 128, by omega⟩ * w2) + b

/-- The same with the masks as words. -/
def tapsW (P : Fin 128 → EReal) (w0 w1 w2 b : EReal) (s : Fin 128) : EReal :=
  Scalar.select (edge 0#32 s) 0 (P ⟨(s.val + 128 - 1) % 128, by omega⟩ * w0) + P s * w1
    + Scalar.select (edge 63#32 s) 0 (P ⟨(s.val + 128 - 127) % 128, by omega⟩ * w2) + b

theorem tapsW_eq (P : Fin 128 → EReal) (w0 w1 w2 b : EReal) (s : Fin 128) : tapsW P w0 w1 w2 b s = taps P w0 w1 w2 b s := by
  unfold tapsW taps
  rw [edge_first, edge_last]
  congr 1
  congr 1
  · congr 1
    by_cases h : s.val % 64 = 0
    · rw [if_pos h, if_pos h]; rfl
    · rw [if_neg h, if_neg h]; rfl
  · by_cases h : s.val % 64 = 63
    · rw [if_pos h, if_pos h]; rfl
    · rw [if_neg h, if_neg h]; rfl

theorem xs_at (v : S128x1536.Idx → Ideal .f32) (w0 w1 w2 b : S1x1536.Idx → Ideal .f32) (s : Fin 128) (j : Fin 1536) :
    (k0_pay7 (F := Ideal) (k0_pay6 v (Scalar.select (Scalar.cmpi .eq 64#32 0#32) 1#32 64#32) k0_pay4 k0_pay5 w0 w1 w2 b) (Scalar.ofBits .f32 0x00000000#32) (ix3 0 s j) : EReal)
      = taps (fun s => v (ix2 s j)) (w0 (ix2 0 j)) (w1 (ix2 0 j)) (w2 (ix2 0 j)) (b (ix2 0 j)) s
        * sgm (taps (fun s => v (ix2 s j)) (w0 (ix2 0 j)) (w1 (ix2 0 j)) (w2 (ix2 0 j)) (b (ix2 0 j)) s) := by
  rw [← tapsW_eq]
  unfold k0_pay7 k0_pay6 k0_pay5 k0_pay4 sgm tapsW edge
  pointwise

theorem bm_at (h : S128x1024.Idx → Ideal .bf16) (W : S1024x512.Idx → Ideal .bf16) (w0 w1 w2 b : S1x512.Idx → Ideal .f32) (s : Fin 128) (j : Fin 512) :
    (k0_pay12 (F := Ideal) (k0_pay8 h W) (k0_pay10 h W) k0_pay11 w0 w1 w2 b (ix3 0 s j) : EReal)
      = taps (fun s => ∑ k : Fin 1024, h (ix2 s k) * W (ix2 k j)) (w0 (ix2 0 j)) (w1 (ix2 0 j)) (w2 (ix2 0 j)) (b (ix2 0 j)) s
        * sgm (taps (fun s => ∑ k : Fin 1024, h (ix2 s k) * W (ix2 k j)) (w0 (ix2 0 j)) (w1 (ix2 0 j)) (w2 (ix2 0 j)) (b (ix2 0 j)) s) := by
  rw [← tapsW_eq]
  unfold k0_pay12 k0_pay11 k0_pay10 k0_pay9 k0_pay8 sgm tapsW edge
  pointwise

end Cert.Proof.InProj
-- ==== Proof.InOut.lean ====
/- The block a point of the projection writes, output by output. -/
module

public import proofs.«01_k».proof.Proof.InFrame
public import proofs.«01_k».proof.Proof.InBody

@[expose] public section

set_option maxRecDepth 16384

noncomputable section

namespace Cert.Proof.InProj

open Cert.InKernelIdeal Cert.InKernelIdeal.Gen
open Idealize.ShloMosaic Idealize.ShloMosaic.TcCoe Idealize.ShloMosaic.Tactic
open Finset

/-- Three taps down the rows of a 512-row block. -/
def tapsR (P : Fin 512 → EReal) (w0 w1 w2 b : EReal) (r : Fin 512) : EReal :=
  (if r.val % 64 = 0 then 0 else P ⟨r.val - 1, by omega⟩ * w0) + P r * w1
    + (if h : r.val % 64 = 63 then 0 else P ⟨r.val + 1, by omega⟩ * w2) + b

/-- Row `s` of the quarter `q` of a block. -/
def rowQ (q : Fin 4) (s : Fin 128) : Fin 512 := ⟨128 * q.val + s.val, by omega⟩

theorem taps_row (P : Fin 512 → EReal) (w0 w1 w2 b : EReal) (q : Fin 4) (s : Fin 128) :
    taps (fun s => P (rowQ q s)) w0 w1 w2 b s = tapsR P w0 w1 w2 b (rowQ q s) := by
  have hm : (rowQ q s).val % 64 = s.val % 64 := by simp only [rowQ]; omega
  unfold taps tapsR
  congr 1
  congr 1
  · congr 1
    by_cases h : s.val % 64 = 0
    · rw [if_pos h, if_pos (by rw [hm]; exact h)]
    · rw [if_neg h, if_neg (by rw [hm]; exact h)]
      refine congrArg (· * w0) (congrArg P (Fin.ext ?_))
      show 128 * q.val + (s.val + 128 - 1) % 128 = 128 * q.val + s.val - 1
      omega
  · by_cases h : s.val % 64 = 63
    · rw [if_pos h, dif_pos (by rw [hm]; exact h)]
    · rw [if_neg h, dif_neg (by rw [hm]; exact h)]
      refine congrArg (· * w2) (congrArg P (Fin.ext ?_))
      show 128 * q.val + (s.val + 128 - 127) % 128 = 128 * q.val + s.val + 1
      omega

/-- A rectangle of a quarter's rows sends a row to the block's row. -/
theorem emb_row {n : Nat} (q : Fin 4) (off : Fin 3 → Nat) (h0 : off 0 = 0) (h1 : off 1 = 128 * q.val) (h2 : off 2 = 0)
    (inb : ∀ a, off a + (⟨3, ![1, 128, n]⟩ : Shape).size a ≤ (⟨3, ![1, 512, n]⟩ : Shape).size a) (z : Fin 1) (s : Fin 128) (j : Fin n) :
    (Rect.unit (s := ⟨3, ![1, 512, n]⟩) off (⟨3, ![1, 128, n]⟩ : Shape).size inb).emb (ix3 z s j) = ix3 0 (rowQ q s) j := by
  funext x
  apply Fin.ext
  fin_cases x <;> simp [Rect.unit, Rect.emb, ix3, rowQ, h0, h1, h2] <;> omega

/-- A rectangle of a quarter's rows and a quarter's columns. -/
theorem emb_tile (q p : Fin 4) (off : Fin 3 → Nat) (h0 : off 0 = 0) (h1 : off 1 = 128 * q.val) (h2 : off 2 = 128 * p.val)
    (inb : ∀ a, off a + S1x128x128.size a ≤ S1x512x512.size a) (z : Fin 1) (s : Fin 128) (j : Fin 128) :
    (Rect.unit (s := S1x512x512) off S1x128x128.size inb).emb (ix3 z s j) = ix3 0 (rowQ q s) (rowQ p j) := by
  funext x
  apply Fin.ext
  fin_cases x <;> simp [Rect.unit, Rect.emb, ix3, rowQ, h0, h1, h2] <;> omega

/-- The rectangle of the input block's quarter `q`. -/
theorem rq_inb : ∀ (q : Fin 4) (a : Fin 3), (![0, 128 * q.val, 0] : Fin 3 → Nat) a + S1x128x1024.size a ≤ S1x512x1024.size a := by decide

abbrev rq (q : Fin 4) : Rect S1x512x1024 := Rect.unit (s := S1x512x1024) ![0, 128 * q.val, 0] S1x128x1024.size (rq_inb q)

section
variable (x0 : S1x512x1024.Idx → Ideal .f32) (x1 x2 : S1x1x1024.Idx → Ideal .f32) (x3 : S1x1024.Idx → Ideal .f32)

/-- A row of the block, normalised and modulated. -/
def row (r : Fin 512) (k : Fin 1024) : EReal :=
  hid (fun k => x0 (ix3 0 r k)) (fun k => x3 (ix2 0 k)) (fun k => x2 (ix3 0 0 k)) (fun k => x1 (ix3 0 0 k)) k

/-- The same, a quarter at a time, as the body computes it. -/
def hq (q : Fin 4) : S128x1024.Idx → Ideal .bf16 := k0_pay2 (F := Ideal) (View.ld x0 (rq q)) (View.ld x3 r0_1) (View.ld x2 r0_2) (View.ld x1 r0_2)

theorem hq_at (q : Fin 4) (s : Fin 128) (k : Fin 1024) : (hq x0 x1 x2 x3 q (ix2 s k) : EReal) = row x0 x1 x2 x3 (rowQ q s) k := by
  unfold hq row
  refine (pay2_at _ _ _ _ s k).trans ?_
  have e : ∀ k : Fin 1024, (View.ld (Val := Elt Ideal) (e' := .f32) x0 (rq q) : S1x128x1024.Idx → EReal) (ix3 0 s k) = x0 (ix3 0 (rowQ q s) k) := fun k =>
    congrArg x0 (emb_row q _ rfl rfl rfl (rq_inb q) 0 s k)
  rw [View.ld_unit_zero (by funext a; fin_cases a <;> rfl), View.ld_unit_zero (by funext a; fin_cases a <;> rfl), View.ld_unit_zero (by funext a; fin_cases a <;> rfl)]
  exact congrArg (fun f => hid f (fun k => x3 (ix2 0 k)) (fun k => x2 (ix3 0 0 k)) (fun k => x1 (ix3 0 0 k)) k) (funext e)

/-- A row's product with a weight's column. -/
def prod {n : Nat} (W : (⟨2, ![1024, n]⟩ : Shape).Idx → EReal) (r : Fin 512) (j : Fin n) : EReal := ∑ k : Fin 1024, row x0 x1 x2 x3 r k * W (ix2 k j)

theorem hq_prod {n : Nat} (W : (⟨2, ![1024, n]⟩ : Shape).Idx → EReal) (q : Fin 4) (s : Fin 128) (j : Fin n) :
    ∑ k : Fin 1024, (hq x0 x1 x2 x3 q (ix2 s k) : EReal) * W (ix2 k j) = prod x0 x1 x2 x3 W (rowQ q s) j :=
  Finset.sum_congr rfl fun k _ => by rw [hq_at]

/-- The gate branch. -/
def outZ (W : S1024x1536.Idx → Ideal .bf16) (y : S1x512x1536.Idx) : EReal := prod x0 x1 x2 x3 W (y 1) (y 2) * sgm (prod x0 x1 x2 x3 W (y 1) (y 2))

theorem outZ_piece (W : S1024x1536.Idx → Ideal .bf16) (q : Fin 4) (off : Fin 3 → Nat) (h0 : off 0 = 0) (h1 : off 1 = 128 * q.val) (h2 : off 2 = 0) (inb) (x : S1x128x1536.Idx) :
    k0_pay37 (F := Ideal) (k0_pay34 (hq x0 x1 x2 x3 q) (View.ld W r0_3)) (k0_pay35 (hq x0 x1 x2 x3 q) (View.ld W r0_3)) k0_pay36 x
      = outZ x0 x1 x2 x3 W ((Rect.unit (s := S1x512x1536) off S1x128x1536.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl)]
  refine (z_at _ _ s j).trans ?_
  rw [hq_prod]
  exact (congrArg (outZ x0 x1 x2 x3 W) (emb_row q off h0 h1 h2 inb 0 s j)).symm

/-- The time-step branch. -/
def outDt (W : S1024x256.Idx → Ideal .bf16) (b : S1x256.Idx → Ideal .f32) (y : S1x512x256.Idx) : EReal := splus (prod x0 x1 x2 x3 W (y 1) (y 2) + b (ix2 0 (y 2)))

theorem outDt_piece (W : S1024x256.Idx → Ideal .bf16) (b : S1x256.Idx → Ideal .f32) (q : Fin 4) (off : Fin 3 → Nat) (h0 : off 0 = 0) (h1 : off 1 = 128 * q.val) (h2 : off 2 = 0) (inb) (x : S1x128x256.Idx) :
    k0_pay18 (F := Ideal) (hq x0 x1 x2 x3 q) (View.ld W r0_15) (View.ld b r0_16) x
      = outDt x0 x1 x2 x3 W b ((Rect.unit (s := S1x512x256) off S1x128x256.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (dt_at _ _ _ s j).trans ?_
  rw [hq_prod]
  exact (congrArg (outDt x0 x1 x2 x3 W b) (emb_row q off h0 h1 h2 inb 0 s j)).symm

/-- The merge gates. -/
def outG (W : S1024x2048.Idx → Ideal .bf16) (b : S1x2048.Idx → Ideal .f32) (y : S1x512x2048.Idx) : EReal := sgm (prod x0 x1 x2 x3 W (y 1) (y 2) + b (ix2 0 (y 2)))

theorem outG_piece (W : S1024x2048.Idx → Ideal .bf16) (b : S1x2048.Idx → Ideal .f32) (q : Fin 4) (off : Fin 3 → Nat) (h0 : off 0 = 0) (h1 : off 1 = 128 * q.val) (h2 : off 2 = 0) (inb) (x : S1x128x2048.Idx) :
    k0_pay38 (F := Ideal) (hq x0 x1 x2 x3 q) (View.ld W r0_23) (View.ld b r0_24) x
      = outG x0 x1 x2 x3 W b ((Rect.unit (s := S1x512x2048) off S1x128x2048.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (g_at _ _ _ s j).trans ?_
  rw [hq_prod]
  exact (congrArg (outG x0 x1 x2 x3 W b) (emb_row q off h0 h1 h2 inb 0 s j)).symm

/-- A convolved branch: three taps down the rows, a bias, and the activation. -/
def outC {n : Nat} (W : (⟨2, ![1024, n]⟩ : Shape).Idx → EReal) (w : (⟨2, ![3, n]⟩ : Shape).Idx → EReal) (b : (⟨2, ![1, n]⟩ : Shape).Idx → EReal) (y : (⟨3, ![1, 512, n]⟩ : Shape).Idx) : EReal :=
  tapsR (fun r => prod x0 x1 x2 x3 W r (y 2)) (w (ix2 0 (y 2))) (w (ix2 1 (y 2))) (w (ix2 2 (y 2))) (b (ix2 0 (y 2))) (y 1)
    * sgm (tapsR (fun r => prod x0 x1 x2 x3 W r (y 2)) (w (ix2 0 (y 2))) (w (ix2 1 (y 2))) (w (ix2 2 (y 2))) (b (ix2 0 (y 2))) (y 1))

/-- A row of the taps' weights. -/
theorem ld_tap {n : Nat} (w : (⟨2, ![3, n]⟩ : Shape).Idx → Ideal .f32) (t : Fin 3) (off : Fin 2 → Nat) (h0 : off 0 = t.val) (h1 : off 1 = 0)
    (inb : ∀ a, off a + (⟨2, ![1, n]⟩ : Shape).size a ≤ (⟨2, ![3, n]⟩ : Shape).size a) (j : Fin n) :
    (View.ld (Val := Elt Ideal) (e' := .f32) w (Rect.unit (s := ⟨2, ![3, n]⟩) off (⟨2, ![1, n]⟩ : Shape).size inb) : (⟨2, ![1, n]⟩ : Shape).Idx → EReal) (ix2 0 j) = w (ix2 t j) := by
  refine congrArg w ?_
  funext x
  apply Fin.ext
  fin_cases x <;> simp [Rect.unit, Rect.emb, ix2, h0, h1]

theorem outXs_piece (W : S1024x1536.Idx → Ideal .bf16) (w : S3x1536.Idx → Ideal .f32) (b : S1x1536.Idx → Ideal .f32) (q : Fin 4) (off : Fin 3 → Nat) (h0 : off 0 = 0) (h1 : off 1 = 128 * q.val) (h2 : off 2 = 0) (inb) (x : S1x128x1536.Idx) :
    k0_pay7 (F := Ideal) (k0_pay6 (k0_pay3 (View.ld x0 (rq q)) (View.ld x3 r0_1) (View.ld x2 r0_2) (View.ld x1 r0_2) (View.ld W r0_3)) (Scalar.select (Scalar.cmpi .eq 64#32 0#32) 1#32 64#32) k0_pay4 k0_pay5
        (View.ld w r0_4) (View.ld w r0_5) (View.ld w r0_6) (View.ld b r0_7)) (Scalar.ofBits .f32 0x00000000#32) x
      = outC x0 x1 x2 x3 (n := 1536) W w b ((Rect.unit (s := S1x512x1536) off S1x128x1536.size inb).emb x) := by
  obtain ⟨z, s, j, rfl⟩ : ∃ z s j, x = ix3 z s j := ⟨x 0, x 1, x 2, by funext a; fin_cases a <;> rfl⟩
  obtain rfl : z = 0 := Subsingleton.elim _ _
  refine (xs_at _ _ _ _ _ s j).trans ?_
  have e : ∀ s : Fin 128, (k0_pay3 (F := Ideal) (View.ld x0 (rq q)) (View.ld x3 r0_1) (View.ld x2 r0_2) (View.ld x1 r0_2) (View.ld W r0_3) (ix2 s j) : EReal) = prod x0 x1 x2 x3 (n := 1536) W (rowQ q s) j := fun s => by
    refine (proj_at _ _ _ _ _ s j).trans ?_
    rw [View.ld_unit_zero (S := S1024x1536) (by funext a; fin_cases a <;> rfl)]
    exact hq_prod x0 x1 x2 x3 W q s j
  rw [funext e, View.ld_unit_zero (S := S1x1536) (by funext a; fin_cases a <;> rfl), ld_tap w 0 _ rfl rfl, ld_tap w 1 _ rfl rfl, ld_tap w 2 _ rfl rfl,
    taps_row (fun r => prod x0 x1 x2 x3 (n := 1536) W r j)]
  exact (congrArg (outC x0 x1 x2 x3 (n := 1536) W w b) (emb_row q off h0 h1 h2 inb 0 s j)).symm

theorem outB_piece (W : S1024x512.Idx → Ideal .bf16) (w : S3x512.Idx → Ideal .f32) (b : S1x512.Idx → Ideal .f32) (q : Fin 4) (off : Fin 3 → Nat) (h0 : off 0 = 0) (h1 : off 1 = 128 * q.val) (h2 : off 2 = 0) (inb) (x : S1x128x512.Idx) :
    k0_pay12 (F := Ideal) (k0_pay8 (hq x0 x1 x2 x3 q) (View.ld W r0_9)) (k0_pay10 (hq x0 x1 x2 x3 q) (View.ld W r0_9)) k0_pay11 (View.ld w r0_10) (View.ld w r0_11) (View.ld w r0_12) (View.ld b r0_13) x
      = outC x0 x1 x2 x3 (n := 512) W w b ((Rect.unit (s := S1x512x512) off S1x128x512.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (S := S1024x512) (by funext a; fin_cases a <;> rfl)]
  refine (bm_at _ _ _ _ _ _ s j).trans ?_
  rw [funext fun s => hq_prod x0 x1 x2 x3 (n := 512) W q s j, View.ld_unit_zero (S := S1x512) (by funext a; fin_cases a <;> rfl), ld_tap w 0 _ rfl rfl, ld_tap w 1 _ rfl rfl, ld_tap w 2 _ rfl rfl,
    taps_row (fun r => prod x0 x1 x2 x3 (n := 512) W r j)]
  exact (congrArg (outC x0 x1 x2 x3 (n := 512) W w b) (emb_row q off h0 h1 h2 inb 0 s j)).symm

/-- Lane `e` of the group of 128 a column lies in. -/
def grp (j : Fin 512) (e : Fin 128) : Fin 512 := ⟨128 * (j.val / 128) + e.val, by omega⟩

/-- A column's place in its group, from column `o` of the matrix. -/
def col (o : Nat) (ho : o ≤ 128) (j : Fin 512) : Fin 256 := ⟨o + j.val % 128, by omega⟩

/-- A Fourier branch: each group of 128 lanes against 128 columns of the matrix, from column `o`. -/
def outF (o : Nat) (ho : o ≤ 128) (W : S1024x512.Idx → Ideal .bf16) (d : S128x256.Idx → Ideal .f32) (y : S1x512x512.Idx) : EReal :=
  ∑ e : Fin 128, prod x0 x1 x2 x3 (n := 512) W (y 1) (grp (y 2) e) * d (ix2 e (col o ho (y 2)))

theorem outF_tile (o : Nat) (ho : o ≤ 128) (W : S1024x512.Idx → Ideal .bf16) (d : S128x256.Idx → Ideal .f32) (q p : Fin 4) (off : Fin 3 → Nat) (h0 : off 0 = 0) (h1 : off 1 = 128 * q.val) (h2 : off 2 = 128 * p.val)
    (inb : ∀ a, off a + S1x128x128.size a ≤ S1x512x512.size a) (s j : Fin 128) :
    ∑ e : Fin 128, (∑ k : Fin 1024, (hq x0 x1 x2 x3 q (ix2 s k) : EReal) * W (ix2 k ⟨128 * p.val + e.val, by omega⟩)) * d (ix2 e ⟨o + j.val, by omega⟩)
      = outF x0 x1 x2 x3 o ho W d ((Rect.unit (s := S1x512x512) off S1x128x128.size inb).emb (ix3 0 s j)) := by
  rw [emb_tile q p off h0 h1 h2 inb 0 s j]
  refine Finset.sum_congr rfl fun e _ => ?_
  rw [hq_prod x0 x1 x2 x3 (n := 512) W q s]
  have e1 : grp (rowQ p j) e = ⟨128 * p.val + e.val, by omega⟩ := by
    apply Fin.ext; simp only [grp, rowQ]; omega
  have e2 : col o ho (rowQ p j) = ⟨o + j.val, by omega⟩ := by
    apply Fin.ext; simp only [col, rowQ]; omega
  exact congrArg₂ (fun a c => prod x0 x1 x2 x3 (n := 512) W (rowQ q s) a * d (ix2 e c)) e1.symm e2.symm

theorem zr0_piece (W : S1024x512.Idx → Ideal .bf16) (d : S128x256.Idx → Ideal .f32) (q : Fin 4) (off : Fin 3 → Nat) (h0 : off 0 = 0) (h1 : off 1 = 128 * q.val) (h2 : off 2 = 128 * 0) (inb) (x : S1x128x128.Idx) :
    k0_pay21 (F := Ideal) (hq x0 x1 x2 x3 q) (View.ld W r0_9) (View.ld d r0_18) x
      = outF x0 x1 x2 x3 0 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zr0_at _ _ _ s j).trans ?_
  rw [← outF_tile x0 x1 x2 x3 0 (by decide) W d q 0 off h0 h1 h2 inb s j]
  exact Finset.sum_congr rfl fun e _ => by congr 3 <;> simp

theorem zi0_piece (W : S1024x512.Idx → Ideal .bf16) (d : S128x256.Idx → Ideal .f32) (q : Fin 4) (off : Fin 3 → Nat) (h0 : off 0 = 0) (h1 : off 1 = 128 * q.val) (h2 : off 2 = 128 * 0) (inb) (x : S1x128x128.Idx) :
    k0_pay22 (F := Ideal) (hq x0 x1 x2 x3 q) (View.ld W r0_9) (View.ld d r0_18) x
      = outF x0 x1 x2 x3 128 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zi0_at _ _ _ s j).trans ?_
  rw [← outF_tile x0 x1 x2 x3 128 (by decide) W d q 0 off h0 h1 h2 inb s j]
  exact Finset.sum_congr rfl fun e _ => by congr 3 <;> simp

theorem zr1_piece (W : S1024x512.Idx → Ideal .bf16) (d : S128x256.Idx → Ideal .f32) (q : Fin 4) (off : Fin 3 → Nat) (h0 : off 0 = 0) (h1 : off 1 = 128 * q.val) (h2 : off 2 = 128 * 1) (inb) (x : S1x128x128.Idx) :
    k0_pay24 (F := Ideal) (hq x0 x1 x2 x3 q) (View.ld W r0_9) (View.ld d r0_18) x
      = outF x0 x1 x2 x3 0 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zr1_at _ _ _ s j).trans ?_
  rw [← outF_tile x0 x1 x2 x3 0 (by decide) W d q 1 off h0 h1 h2 inb s j]
  exact Finset.sum_congr rfl fun e _ => by congr 3 <;> simp

theorem zi1_piece (W : S1024x512.Idx → Ideal .bf16) (d : S128x256.Idx → Ideal .f32) (q : Fin 4) (off : Fin 3 → Nat) (h0 : off 0 = 0) (h1 : off 1 = 128 * q.val) (h2 : off 2 = 128 * 1) (inb) (x : S1x128x128.Idx) :
    k0_pay25 (F := Ideal) (hq x0 x1 x2 x3 q) (View.ld W r0_9) (View.ld d r0_18) x
      = outF x0 x1 x2 x3 128 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zi1_at _ _ _ s j).trans ?_
  rw [← outF_tile x0 x1 x2 x3 128 (by decide) W d q 1 off h0 h1 h2 inb s j]
  exact Finset.sum_congr rfl fun e _ => by congr 3 <;> simp

theorem zr2_piece (W : S1024x512.Idx → Ideal .bf16) (d : S128x256.Idx → Ideal .f32) (q : Fin 4) (off : Fin 3 → Nat) (h0 : off 0 = 0) (h1 : off 1 = 128 * q.val) (h2 : off 2 = 128 * 2) (inb) (x : S1x128x128.Idx) :
    k0_pay29 (F := Ideal) (k0_pay26 (hq x0 x1 x2 x3 q) (View.ld W r0_9)) (k0_pay27 (View.ld d r0_18)) x
      = outF x0 x1 x2 x3 0 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zr2_at _ _ _ s j).trans ?_
  rw [← outF_tile x0 x1 x2 x3 0 (by decide) W d q 2 off h0 h1 h2 inb s j]
  exact Finset.sum_congr rfl fun e _ => by congr 3 <;> simp

theorem zi2_piece (W : S1024x512.Idx → Ideal .bf16) (d : S128x256.Idx → Ideal .f32) (q : Fin 4) (off : Fin 3 → Nat) (h0 : off 0 = 0) (h1 : off 1 = 128 * q.val) (h2 : off 2 = 128 * 2) (inb) (x : S1x128x128.Idx) :
    k0_pay30 (F := Ideal) (k0_pay26 (hq x0 x1 x2 x3 q) (View.ld W r0_9)) (k0_pay27 (View.ld d r0_18)) x
      = outF x0 x1 x2 x3 128 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zi2_at _ _ _ s j).trans ?_
  rw [← outF_tile x0 x1 x2 x3 128 (by decide) W d q 2 off h0 h1 h2 inb s j]
  exact Finset.sum_congr rfl fun e _ => by congr 3 <;> simp

theorem zr3_piece (W : S1024x512.Idx → Ideal .bf16) (d : S128x256.Idx → Ideal .f32) (q : Fin 4) (off : Fin 3 → Nat) (h0 : off 0 = 0) (h1 : off 1 = 128 * q.val) (h2 : off 2 = 128 * 3) (inb) (x : S1x128x128.Idx) :
    k0_pay32 (F := Ideal) (k0_pay19 (hq x0 x1 x2 x3 q) (View.ld W r0_9)) (View.ld d r0_18) x
      = outF x0 x1 x2 x3 0 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zr3_at _ _ _ s j).trans ?_
  rw [← outF_tile x0 x1 x2 x3 0 (by decide) W d q 3 off h0 h1 h2 inb s j]
  exact Finset.sum_congr rfl fun e _ => by congr 3 <;> simp

theorem zi3_piece (W : S1024x512.Idx → Ideal .bf16) (d : S128x256.Idx → Ideal .f32) (q : Fin 4) (off : Fin 3 → Nat) (h0 : off 0 = 0) (h1 : off 1 = 128 * q.val) (h2 : off 2 = 128 * 3) (inb) (x : S1x128x128.Idx) :
    k0_pay33 (F := Ideal) (k0_pay19 (hq x0 x1 x2 x3 q) (View.ld W r0_9)) (View.ld d r0_18) x
      = outF x0 x1 x2 x3 128 (by decide) W d ((Rect.unit (s := S1x512x512) off S1x128x128.size inb).emb x) := by
  obtain ⟨z, s, j, rfl⟩ : ∃ z s j, x = ix3 z s j := ⟨x 0, x 1, x 2, by funext a; fin_cases a <;> rfl⟩
  obtain rfl : z = 0 := Subsingleton.elim _ _
  rw [View.ld_unit_zero (by funext a; fin_cases a <;> rfl), View.ld_unit_zero (by funext a; fin_cases a <;> rfl)]
  refine (zi3_at _ _ _ s j).trans ?_
  rw [← outF_tile x0 x1 x2 x3 128 (by decide) W d q 3 off h0 h1 h2 inb s j]
  exact Finset.sum_congr rfl fun e _ => by congr 3 <;> simp

variable (x4 : S1024x512.Idx → Ideal .bf16) (x5 x6 : S1024x1536.Idx → Ideal .bf16) (x7 x8 : S1024x512.Idx → Ideal .bf16) (x9 : S1024x256.Idx → Ideal .bf16) (x10 : S1024x2048.Idx → Ideal .bf16) (x11 : S128x256.Idx → Ideal .f32)
    (x12 : S3x1536.Idx → Ideal .f32) (x13 : S1x1536.Idx → Ideal .f32) (x14 : S3x512.Idx → Ideal .f32) (x15 : S1x512.Idx → Ideal .f32) (x16 : S3x512.Idx → Ideal .f32) (x17 : S1x512.Idx → Ideal .f32) (x18 : S1x256.Idx → Ideal .f32) (x19 : S1x2048.Idx → Ideal .f32)

theorem out22 (y : S1x512x1536.Idx) : out0_22 (F := Ideal) x0 x1 x2 x3 x4 x5 x6 x7 x8 x9 x10 x11 x12 x13 x14 x15 x16 x17 x18 x19 y = outZ x0 x1 x2 x3 x5 y := by
  unfold out0_22
  refine View.canon_apply_of_pieces (Val := Elt Ideal) (outZ x0 x1 x2 x3 x5) _ (List.forall_mem_cons.2 ⟨?_, (List.forall_mem_cons.2 ⟨?_, (List.forall_mem_cons.2 ⟨?_, (List.forall_mem_cons.2 ⟨?_, List.forall_mem_nil _⟩)⟩)⟩)⟩) y (cover0_22 _ _ _ _ y)
  · exact outZ_piece x0 x1 x2 x3 x5 3 _ rfl rfl rfl (by decide)
  · exact outZ_piece x0 x1 x2 x3 x5 2 _ rfl rfl rfl (by decide)
  · exact outZ_piece x0 x1 x2 x3 x5 1 _ rfl rfl rfl (by decide)
  · exact outZ_piece x0 x1 x2 x3 x5 0 _ rfl rfl rfl (by decide)

theorem out26 (y : S1x512x256.Idx) : out0_26 (F := Ideal) x0 x1 x2 x3 x4 x5 x6 x7 x8 x9 x10 x11 x12 x13 x14 x15 x16 x17 x18 x19 y = outDt x0 x1 x2 x3 x9 x18 y := by
  unfold out0_26
  refine View.canon_apply_of_pieces (Val := Elt Ideal) (outDt x0 x1 x2 x3 x9 x18) _ (List.forall_mem_cons.2 ⟨?_, (List.forall_mem_cons.2 ⟨?_, (List.forall_mem_cons.2 ⟨?_, (List.forall_mem_cons.2 ⟨?_, List.forall_mem_nil _⟩)⟩)⟩)⟩) y (cover0_26 _ _ _ _ y)
  · exact outDt_piece x0 x1 x2 x3 x9 x18 3 _ rfl rfl rfl (by decide)
  · exact outDt_piece x0 x1 x2 x3 x9 x18 2 _ rfl rfl rfl (by decide)
  · exact outDt_piece x0 x1 x2 x3 x9 x18 1 _ rfl rfl rfl (by decide)
  · exact outDt_piece x0 x1 x2 x3 x9 x18 0 _ rfl rfl rfl (by decide)

theorem out27 (y : S1x512x2048.Idx) : out0_27 (F := Ideal) x0 x1 x2 x3 x4 x5 x6 x7 x8 x9 x10 x11 x12 x13 x14 x15 x16 x17 x18 x19 y = outG x0 x1 x2 x3 x10 x19 y := by
  unfold out0_27
  refine View.canon_apply_of_pieces (Val := Elt Ideal) (outG x0 x1 x2 x3 x10 x19) _ (List.forall_mem_cons.2 ⟨?_, (List.forall_mem_cons.2 ⟨?_, (List.forall_mem_cons.2 ⟨?_, (List.forall_mem_cons.2 ⟨?_, List.forall_mem_nil _⟩)⟩)⟩)⟩) y (cover0_27 _ _ _ _ y)
  · exact outG_piece x0 x1 x2 x3 x10 x19 3 _ rfl rfl rfl (by decide)
  · exact outG_piece x0 x1 x2 x3 x10 x19 2 _ rfl rfl rfl (by decide)
  · exact outG_piece x0 x1 x2 x3 x10 x19 1 _ rfl rfl rfl (by decide)
  · exact outG_piece x0 x1 x2 x3 x10 x19 0 _ rfl rfl rfl (by decide)

theorem out23 (y : S1x512x1536.Idx) : out0_23 (F := Ideal) x0 x1 x2 x3 x4 x5 x6 x7 x8 x9 x10 x11 x12 x13 x14 x15 x16 x17 x18 x19 y = outC x0 x1 x2 x3 (n := 1536) x6 x12 x13 y := by
  unfold out0_23
  refine View.canon_apply_of_pieces (Val := Elt Ideal) (outC x0 x1 x2 x3 (n := 1536) x6 x12 x13) _ (List.forall_mem_cons.2 ⟨?_, (List.forall_mem_cons.2 ⟨?_, (List.forall_mem_cons.2 ⟨?_, (List.forall_mem_cons.2 ⟨?_, List.forall_mem_nil _⟩)⟩)⟩)⟩) y (cover0_23 _ _ _ _ y)
  · exact outXs_piece x0 x1 x2 x3 x6 x12 x13 3 _ rfl rfl rfl (by decide)
  · exact outXs_piece x0 x1 x2 x3 x6 x12 x13 2 _ rfl rfl rfl (by decide)
  · exact outXs_piece x0 x1 x2 x3 x6 x12 x13 1 _ rfl rfl rfl (by decide)
  · exact outXs_piece x0 x1 x2 x3 x6 x12 x13 0 _ rfl rfl rfl (by decide)

theorem out24 (y : S1x512x512.Idx) : out0_24 (F := Ideal) x0 x1 x2 x3 x4 x5 x6 x7 x8 x9 x10 x11 x12 x13 x14 x15 x16 x17 x18 x19 y = outC x0 x1 x2 x3 (n := 512) x7 x14 x15 y := by
  unfold out0_24
  refine View.canon_apply_of_pieces (Val := Elt Ideal) (outC x0 x1 x2 x3 (n := 512) x7 x14 x15) _ (List.forall_mem_cons.2 ⟨?_, (List.forall_mem_cons.2 ⟨?_, (List.forall_mem_cons.2 ⟨?_, (List.forall_mem_cons.2 ⟨?_, List.forall_mem_nil _⟩)⟩)⟩)⟩) y (cover0_24 _ _ _ _ y)
  · exact outB_piece x0 x1 x2 x3 x7 x14 x15 3 _ rfl rfl rfl (by decide)
  · exact outB_piece x0 x1 x2 x3 x7 x14 x15 2 _ rfl rfl rfl (by decide)
  · exact outB_piece x0 x1 x2 x3 x7 x14 x15 1 _ rfl rfl rfl (by decide)
  · exact outB_piece x0 x1 x2 x3 x7 x14 x15 0 _ rfl rfl rfl (by decide)

theorem out25 (y : S1x512x512.Idx) : out0_25 (F := Ideal) x0 x1 x2 x3 x4 x5 x6 x7 x8 x9 x10 x11 x12 x13 x14 x15 x16 x17 x18 x19 y = outC x0 x1 x2 x3 (n := 512) x8 x16 x17 y := by
  unfold out0_25
  refine View.canon_apply_of_pieces (Val := Elt Ideal) (outC x0 x1 x2 x3 (n := 512) x8 x16 x17) _ (List.forall_mem_cons.2 ⟨?_, (List.forall_mem_cons.2 ⟨?_, (List.forall_mem_cons.2 ⟨?_, (List.forall_mem_cons.2 ⟨?_, List.forall_mem_nil _⟩)⟩)⟩)⟩) y (cover0_25 _ _ _ _ y)
  · exact outB_piece x0 x1 x2 x3 x8 x16 x17 3 _ rfl rfl rfl (by decide)
  · exact outB_piece x0 x1 x2 x3 x8 x16 x17 2 _ rfl rfl rfl (by decide)
  · exact outB_piece x0 x1 x2 x3 x8 x16 x17 1 _ rfl rfl rfl (by decide)
  · exact outB_piece x0 x1 x2 x3 x8 x16 x17 0 _ rfl rfl rfl (by decide)

theorem out20 (y : S1x512x512.Idx) : out0_20 (F := Ideal) x0 x1 x2 x3 x4 x5 x6 x7 x8 x9 x10 x11 x12 x13 x14 x15 x16 x17 x18 x19 y = outF x0 x1 x2 x3 0 (by decide) x4 x11 y := by
  unfold out0_20
  refine View.canon_apply_of_pieces (Val := Elt Ideal) (outF x0 x1 x2 x3 0 (by decide) x4 x11) _ (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, List.forall_mem_nil _⟩)⟩)⟩)⟩)⟩)⟩)⟩)⟩)⟩)⟩)⟩)⟩)⟩)⟩)⟩)⟩) y (cover0_20 _ _ _ _ _ _ _ _ _ _ _ _ _ _ _ _ y)
  · exact zr3_piece x0 x1 x2 x3 x4 x11 3 _ rfl rfl rfl (by decide)
  · exact zr2_piece x0 x1 x2 x3 x4 x11 3 _ rfl rfl rfl (by decide)
  · exact zr1_piece x0 x1 x2 x3 x4 x11 3 _ rfl rfl rfl (by decide)
  · exact zr0_piece x0 x1 x2 x3 x4 x11 3 _ rfl rfl rfl (by decide)
  · exact zr3_piece x0 x1 x2 x3 x4 x11 2 _ rfl rfl rfl (by decide)
  · exact zr2_piece x0 x1 x2 x3 x4 x11 2 _ rfl rfl rfl (by decide)
  · exact zr1_piece x0 x1 x2 x3 x4 x11 2 _ rfl rfl rfl (by decide)
  · exact zr0_piece x0 x1 x2 x3 x4 x11 2 _ rfl rfl rfl (by decide)
  · exact zr3_piece x0 x1 x2 x3 x4 x11 1 _ rfl rfl rfl (by decide)
  · exact zr2_piece x0 x1 x2 x3 x4 x11 1 _ rfl rfl rfl (by decide)
  · exact zr1_piece x0 x1 x2 x3 x4 x11 1 _ rfl rfl rfl (by decide)
  · exact zr0_piece x0 x1 x2 x3 x4 x11 1 _ rfl rfl rfl (by decide)
  · exact zr3_piece x0 x1 x2 x3 x4 x11 0 _ rfl rfl rfl (by decide)
  · exact zr2_piece x0 x1 x2 x3 x4 x11 0 _ rfl rfl rfl (by decide)
  · exact zr1_piece x0 x1 x2 x3 x4 x11 0 _ rfl rfl rfl (by decide)
  · exact zr0_piece x0 x1 x2 x3 x4 x11 0 _ rfl rfl rfl (by decide)

theorem out21 (y : S1x512x512.Idx) : out0_21 (F := Ideal) x0 x1 x2 x3 x4 x5 x6 x7 x8 x9 x10 x11 x12 x13 x14 x15 x16 x17 x18 x19 y = outF x0 x1 x2 x3 128 (by decide) x4 x11 y := by
  unfold out0_21
  refine View.canon_apply_of_pieces (Val := Elt Ideal) (outF x0 x1 x2 x3 128 (by decide) x4 x11) _ (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, (List.forall_mem_cons.2 ⟨?_, List.forall_mem_nil _⟩)⟩)⟩)⟩)⟩)⟩)⟩)⟩)⟩)⟩)⟩)⟩)⟩)⟩)⟩)⟩) y (cover0_21 _ _ _ _ _ _ _ _ _ _ _ _ _ _ _ _ y)
  · exact zi3_piece x0 x1 x2 x3 x4 x11 3 _ rfl rfl rfl (by decide)
  · exact zi2_piece x0 x1 x2 x3 x4 x11 3 _ rfl rfl rfl (by decide)
  · exact zi1_piece x0 x1 x2 x3 x4 x11 3 _ rfl rfl rfl (by decide)
  · exact zi0_piece x0 x1 x2 x3 x4 x11 3 _ rfl rfl rfl (by decide)
  · exact zi3_piece x0 x1 x2 x3 x4 x11 2 _ rfl rfl rfl (by decide)
  · exact zi2_piece x0 x1 x2 x3 x4 x11 2 _ rfl rfl rfl (by decide)
  · exact zi1_piece x0 x1 x2 x3 x4 x11 2 _ rfl rfl rfl (by decide)
  · exact zi0_piece x0 x1 x2 x3 x4 x11 2 _ rfl rfl rfl (by decide)
  · exact zi3_piece x0 x1 x2 x3 x4 x11 1 _ rfl rfl rfl (by decide)
  · exact zi2_piece x0 x1 x2 x3 x4 x11 1 _ rfl rfl rfl (by decide)
  · exact zi1_piece x0 x1 x2 x3 x4 x11 1 _ rfl rfl rfl (by decide)
  · exact zi0_piece x0 x1 x2 x3 x4 x11 1 _ rfl rfl rfl (by decide)
  · exact zi3_piece x0 x1 x2 x3 x4 x11 0 _ rfl rfl rfl (by decide)
  · exact zi2_piece x0 x1 x2 x3 x4 x11 0 _ rfl rfl rfl (by decide)
  · exact zi1_piece x0 x1 x2 x3 x4 x11 0 _ rfl rfl rfl (by decide)
  · exact zi0_piece x0 x1 x2 x3 x4 x11 0 _ rfl rfl rfl (by decide)

end

end Cert.Proof.InProj
-- ==== Proof.InBlocks.lean ====
/- The blocks the projection's windows stage, read from the arguments. -/
module

public import proofs.«01_k».proof.Proof.InOut
public import Idealize.ShloMosaic.Lib.Pointwise
public import Idealize.ShloMosaic.Lib.Pipeline.ValueKit
public import Idealize.ShloMosaic.Lib.Routing.OpsPair
public import Idealize.ShloMosaic.Lib.Routing.OpsSet

@[expose] public section

set_option maxRecDepth 16384

noncomputable section

namespace Cert.Proof.InProj

open Cert.InKernelIdeal Cert.InKernelIdeal.Gen
open Idealize.ShloMosaic Idealize.ShloMosaic.TcCoe Idealize.ShloMosaic.Tactic
open Idealize.SL Idealize.SL.Sem
open Idealize.ShloMosaic.Routing

/-- Where an element of 24 columns set from column `n` on lands: its row is kept and its column moves by `n`. -/
theorem cols_lands (I : IVec S1 32) (k' : Fin 1024) (e : Fin 24) (k : Fin 1024) (j : Fin 256) :
    scatter_S1024x256_S1_S1024x24_01_n_1_0.resultIdx? (ix2 k' e) I = some (ix2 k j) ↔ k' = k ∧ (I (ix1 0)).toInt + e.val = j.val := by
  have s0 : scatter_S1024x256_S1_S1024x24_01_n_1_0.start (ix2 k' e) I 0 = 0 := by
    rfl
  have s1 : scatter_S1024x256_S1_S1024x24_01_n_1_0.start (ix2 k' e) I 1 = (I (ix1 0)).toInt :=
    congrArg (fun i => (I i).toInt) (funext fun q => by fin_cases q; rfl)
  have w0 : scatter_S1024x256_S1_S1024x24_01_n_1_0.window (ix2 k' e) 0 = k'.val := by
    rfl
  have w1 : scatter_S1024x256_S1_S1024x24_01_n_1_0.window (ix2 k' e) 1 = e.val := by
    rfl
  rw [resultIdx?_eq_some]
  constructor
  · intro h
    refine ⟨Fin.ext ?_, ?_⟩
    · have := h 0; rw [s0, w0] at this; exact_mod_cast (zero_add _).symm.trans this
    · have := h 1; rw [s1, w1] at this; exact this
  · rintro ⟨rfl, h1⟩ a
    have g0 : scatter_S1024x256_S1_S1024x24_01_n_1_0.start (ix2 k' e) I 0 + (scatter_S1024x256_S1_S1024x24_01_n_1_0.window (ix2 k' e) 0 : Int) = (k'.val : Int) := by rw [s0, w0]; simp
    have g1 : scatter_S1024x256_S1_S1024x24_01_n_1_0.start (ix2 k' e) I 1 + (scatter_S1024x256_S1_S1024x24_01_n_1_0.window (ix2 k' e) 1 : Int) = (j.val : Int) := by rw [s1, w1]; exact h1
    fin_cases a
    · exact g0
    · exact g1

/-- Setting 24 columns from column `n` on, read at an element. -/
theorem cols_set (x : S1024x256.Idx → EReal) (I : IVec S1 32) (u : S1024x24.Idx → EReal) (n : ℕ) (hn : (I (ix1 0)).toInt = n) (k : Fin 1024) (j : Fin 256) :
    Host.scatter scatter_S1024x256_S1_S1024x24_01_n_1_0 (fun _ b => b) x I u (ix2 k j)
      = if h : n ≤ j.val ∧ j.val < n + 24 then u (ix2 k ⟨j.val - n, by omega⟩) else x (ix2 k j) := by
  split
  · next h =>
    refine scatter_set_hit _ x I u (ix2 k j) _ (fun q hq => ?_) (ix2 k ⟨j.val - n, by omega⟩) ((cols_lands I _ _ _ _).2 ⟨rfl, ?_⟩)
    · obtain ⟨k', e, rfl⟩ : ∃ k' e, q = ix2 k' e := ⟨q 0, q 1, by funext a; fin_cases a <;> rfl⟩
      obtain ⟨rfl, h1⟩ := (cols_lands I _ _ _ _).1 hq
      refine congrArg (fun e => u (ix2 k' e)) (Fin.ext ?_)
      rw [hn] at h1
      show e.val = j.val - n
      omega
    · rw [hn]
      show (n : Int) + ((j.val - n : ℕ) : Int) = j.val
      omega
  · next h =>
    refine scatter_set_miss _ x I u (ix2 k j) fun q hq => h ?_
    obtain ⟨k', e, rfl⟩ : ∃ k' e, q = ix2 k' e := ⟨q 0, q 1, by funext a; fin_cases a <;> rfl⟩
    obtain ⟨-, h1⟩ := (cols_lands I _ _ _ _).1 hq
    rw [hn] at h1
    omega

/-- Where an element of 24 scalars set in the one row from column `n` on lands. -/
theorem row_lands (I : IVec S2 32) (hI : (I (ix1 0)).toInt = 0) (e : Fin 24) (j : Fin 256) :
    scatter_S1x256_S2_S24_0_0_01_0.resultIdx? (ix1 e) I = some (ix2 0 j) ↔ (I (ix1 1)).toInt + e.val = j.val := by
  have s0 : scatter_S1x256_S2_S24_0_0_01_0.start (ix1 e) I 0 = (I (ix1 0)).toInt :=
    congrArg (fun i => (I i).toInt) (funext fun q => by fin_cases q; rfl)
  have s1 : scatter_S1x256_S2_S24_0_0_01_0.start (ix1 e) I 1 = (I (ix1 1)).toInt :=
    congrArg (fun i => (I i).toInt) (funext fun q => by fin_cases q; rfl)
  have w0 : scatter_S1x256_S2_S24_0_0_01_0.window (ix1 e) 0 = 0 := by
    rfl
  have w1 : scatter_S1x256_S2_S24_0_0_01_0.window (ix1 e) 1 = e.val := by
    rfl
  rw [resultIdx?_eq_some]
  constructor
  · intro h
    have := h 1; rw [s1, w1] at this; exact this
  · rintro h1 a
    have g0 : scatter_S1x256_S2_S24_0_0_01_0.start (ix1 e) I 0 + (scatter_S1x256_S2_S24_0_0_01_0.window (ix1 e) 0 : Int) = ((0 : Fin 1).val : Int) := by rw [s0, w0, hI]; rfl
    have g1 : scatter_S1x256_S2_S24_0_0_01_0.start (ix1 e) I 1 + (scatter_S1x256_S2_S24_0_0_01_0.window (ix1 e) 1 : Int) = (j.val : Int) := by rw [s1, w1]; exact h1
    fin_cases a
    · exact g0
    · exact g1

/-- Setting 24 elements of the one row from column `n` on, read at an element. -/
theorem row_set (x : S1x256.Idx → EReal) (I : IVec S2 32) (u : S24.Idx → EReal) (n : ℕ) (hI : (I (ix1 0)).toInt = 0) (hn : (I (ix1 1)).toInt = n) (j : Fin 256) :
    Host.scatter scatter_S1x256_S2_S24_0_0_01_0 (fun _ b => b) x I u (ix2 0 j)
      = if h : n ≤ j.val ∧ j.val < n + 24 then u (ix1 ⟨j.val - n, by omega⟩) else x (ix2 0 j) := by
  split
  · next h =>
    refine scatter_set_hit _ x I u (ix2 0 j) _ (fun q hq => ?_) (ix1 ⟨j.val - n, by omega⟩) ((row_lands I hI _ _).2 ?_)
    · obtain ⟨e, rfl⟩ : ∃ e, q = ix1 e := ⟨q 0, by funext a; fin_cases a; rfl⟩
      have h1 := (row_lands I hI _ _).1 hq
      refine congrArg (fun e => u (ix1 e)) (Fin.ext ?_)
      rw [hn] at h1
      show e.val = j.val - n
      omega
    · rw [hn]
      show (n : Int) + ((j.val - n : ℕ) : Int) = j.val
      omega
  · next h =>
    refine scatter_set_miss _ x I u (ix2 0 j) fun q hq => h ?_
    obtain ⟨e, rfl⟩ : ∃ e, q = ix1 e := ⟨q 0, by funext a; fin_cases a; rfl⟩
    have h1 := (row_lands I hI _ _).1 hq
    rw [hn] at h1
    omega

/-- The columns of the time steps, in two groups of 24 at the head of 128 lanes each, and 0 in the other lanes. -/
def wdt (A : S1x1024x6704.Idx → EReal) (k : Fin 1024) (j : Fin 256) : EReal :=
  if h : j.val % 128 < 24 then A (ix3 0 k ⟨4608 + 24 * (j.val / 128) + j.val % 128, by omega⟩) else 0

/-- The biases of the time steps, laid out the same way. -/
def dtb (A : S1x2x24.Idx → EReal) (j : Fin 256) : EReal :=
  if h : j.val % 128 < 24 then A (ix3 0 ⟨j.val / 128, by omega⟩ ⟨j.val % 128, h⟩) else 0

section
variable (m : (ℓ : Loc nD τ sig) → Buf (Elt Ideal) ℓ) (c : Dev nD)

abbrev a0 : S8x4096x1024.Idx → EReal := m ((c : Thread nD τ).loc main_arg0)
abbrev a1 : S8x1x1024.Idx → EReal := m ((c : Thread nD τ).loc main_arg1)
abbrev a2 : S8x1x1024.Idx → EReal := m ((c : Thread nD τ).loc main_arg2)
abbrev a3 : S1x1024.Idx → EReal := m ((c : Thread nD τ).loc main_arg3)
abbrev a4 : S1x1024x6704.Idx → EReal := m ((c : Thread nD τ).loc main_arg4)
abbrev a5 : S1x3x2560.Idx → EReal := m ((c : Thread nD τ).loc main_arg5)
abbrev a6 : S1x2560.Idx → EReal := m ((c : Thread nD τ).loc main_arg6)
abbrev a7 : S1x2x24.Idx → EReal := m ((c : Thread nD τ).loc main_arg7)
abbrev a8 : S1x2x1024.Idx → EReal := m ((c : Thread nD τ).loc main_arg8)
abbrev a9 : S128x256.Idx → EReal := m ((c : Thread nD τ).loc main_arg9)

/-- The batch and the rows of a point. -/
def bat (t : Fin cfg0.N) : Fin 8 := ⟨t.val / 8, by have : t.val < 64 := t.isLt; omega⟩
def tok (t : Fin cfg0.N) (r : Fin 512) : Fin 4096 := ⟨512 * (t.val % 8) + r.val, by omega⟩

theorem idx : ∀ t : Fin grid0.N,
    win0_0.index t = ![t.val / 8, t.val % 8, 0] ∧ win0_1.index t = ![t.val / 8, 0, 0] ∧ win0_2.index t = ![t.val / 8, 0, 0] := by decide +kernel

theorem idx' : ∀ t : Fin grid0.N,
    win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0] ∧ win0_19.index t = ![0, 0] := by decide +kernel

theorem iblk0 (t : Fin cfg0.N) (r : Fin 512) (k : Fin 1024) : (iblk (F := Ideal) m c 0 t (ix3 0 r k) : EReal) = a0 m c (ix3 (bat t) (tok t r) k) := by
  unfold iblk
  rw [View.read_apply]
  show V m c main_arg0 _ = _
  rw [V_main_arg0]
  unfold bat tok
  blk_ext [iblk, V, idx t]

theorem iblk1 (t : Fin cfg0.N) (k : Fin 1024) : (iblk (F := Ideal) m c 1 t (ix3 0 0 k) : EReal) = a1 m c (ix3 (bat t) 0 k) := by
  unfold iblk
  rw [View.read_apply]
  show V m c main_arg1 _ = _
  rw [V_main_arg1]
  unfold bat
  blk_ext [iblk, V, idx t]

theorem iblk2 (t : Fin cfg0.N) (k : Fin 1024) : (iblk (F := Ideal) m c 2 t (ix3 0 0 k) : EReal) = a2 m c (ix3 (bat t) 0 k) := by
  unfold iblk
  rw [View.read_apply]
  show V m c main_arg2 _ = _
  rw [V_main_arg2]
  unfold bat
  blk_ext [iblk, V, idx t]

theorem iblk3 (t : Fin cfg0.N) (k : Fin 1024) : (iblk (F := Ideal) m c 3 t (ix2 0 k) : EReal) = a3 m c (ix2 0 k) := by
  unfold iblk
  rw [View.read_apply]
  show V m c main_v48 _ = _
  entry_read
  pointwise
  blk_ext [iblk, V, idx' t]

theorem iblk4 (t : Fin cfg0.N) (k : Fin 1024) (j : Fin 512) : (iblk (F := Ideal) m c 4 t (ix2 k j) : EReal) = a4 m c (ix3 0 k ⟨0 + j.val, by omega⟩) := by
  unfold iblk
  rw [View.read_apply]
  show V m c main_v24 _ = _
  entry_read
  pointwise
  blk_ext [iblk, V, idx' t]

theorem iblk5 (t : Fin cfg0.N) (k : Fin 1024) (j : Fin 1536) : (iblk (F := Ideal) m c 5 t (ix2 k j) : EReal) = a4 m c (ix3 0 k ⟨512 + j.val, by omega⟩) := by
  unfold iblk
  rw [View.read_apply]
  show V m c main_v26 _ = _
  entry_read
  pointwise
  blk_ext [iblk, V, idx' t]

theorem iblk6 (t : Fin cfg0.N) (k : Fin 1024) (j : Fin 1536) : (iblk (F := Ideal) m c 6 t (ix2 k j) : EReal) = a4 m c (ix3 0 k ⟨2048 + j.val, by omega⟩) := by
  unfold iblk
  rw [View.read_apply]
  show V m c main_v28 _ = _
  entry_read
  pointwise
  blk_ext [iblk, V, idx' t]

theorem iblk7 (t : Fin cfg0.N) (k : Fin 1024) (j : Fin 512) : (iblk (F := Ideal) m c 7 t (ix2 k j) : EReal) = a4 m c (ix3 0 k ⟨3584 + j.val, by omega⟩) := by
  unfold iblk
  rw [View.read_apply]
  show V m c main_v30 _ = _
  entry_read
  pointwise
  blk_ext [iblk, V, idx' t]

theorem iblk8 (t : Fin cfg0.N) (k : Fin 1024) (j : Fin 512) : (iblk (F := Ideal) m c 8 t (ix2 k j) : EReal) = a4 m c (ix3 0 k ⟨4096 + j.val, by omega⟩) := by
  unfold iblk
  rw [View.read_apply]
  show V m c main_v32 _ = _
  entry_read
  pointwise
  blk_ext [iblk, V, idx' t]

theorem iblk10 (t : Fin cfg0.N) (k : Fin 1024) (j : Fin 2048) : (iblk (F := Ideal) m c 10 t (ix2 k j) : EReal) = a4 m c (ix3 0 k ⟨4656 + j.val, by omega⟩) := by
  unfold iblk
  rw [View.read_apply]
  show V m c main_v35 _ = _
  entry_read
  pointwise
  blk_ext [iblk, V, idx' t]

theorem iblk11 (t : Fin cfg0.N) (e : Fin 128) (j : Fin 256) : (iblk (F := Ideal) m c 11 t (ix2 e j) : EReal) = a9 m c (ix2 e j) := by
  unfold iblk
  rw [View.read_apply]
  show V m c main_arg9 _ = _
  rw [V_main_arg9]
  blk_ext [iblk, V, idx' t]

theorem iblk12 (t : Fin cfg0.N) (k : Fin 3) (j : Fin 1536) : (iblk (F := Ideal) m c 12 t (ix2 k j) : EReal) = a5 m c (ix3 0 k ⟨0 + j.val, by omega⟩) := by
  unfold iblk
  rw [View.read_apply]
  show V m c main_v36 _ = _
  entry_read
  pointwise
  blk_ext [iblk, V, idx' t]

theorem iblk14 (t : Fin cfg0.N) (k : Fin 3) (j : Fin 512) : (iblk (F := Ideal) m c 14 t (ix2 k j) : EReal) = a5 m c (ix3 0 k ⟨1536 + j.val, by omega⟩) := by
  unfold iblk
  rw [View.read_apply]
  show V m c main_v39 _ = _
  entry_read
  pointwise
  blk_ext [iblk, V, idx' t]

theorem iblk16 (t : Fin cfg0.N) (k : Fin 3) (j : Fin 512) : (iblk (F := Ideal) m c 16 t (ix2 k j) : EReal) = a5 m c (ix3 0 k ⟨2048 + j.val, by omega⟩) := by
  unfold iblk
  rw [View.read_apply]
  show V m c main_v42 _ = _
  entry_read
  pointwise
  blk_ext [iblk, V, idx' t]

theorem iblk13 (t : Fin cfg0.N) (j : Fin 1536) : (iblk (F := Ideal) m c 13 t (ix2 0 j) : EReal) = a6 m c (ix2 0 ⟨0 + j.val, by omega⟩) := by
  unfold iblk
  rw [View.read_apply]
  show V m c main_v38 _ = _
  entry_read
  pointwise
  blk_ext [iblk, V, idx' t]

theorem iblk15 (t : Fin cfg0.N) (j : Fin 512) : (iblk (F := Ideal) m c 15 t (ix2 0 j) : EReal) = a6 m c (ix2 0 ⟨1536 + j.val, by omega⟩) := by
  unfold iblk
  rw [View.read_apply]
  show V m c main_v41 _ = _
  entry_read
  pointwise
  blk_ext [iblk, V, idx' t]

theorem iblk17 (t : Fin cfg0.N) (j : Fin 512) : (iblk (F := Ideal) m c 17 t (ix2 0 j) : EReal) = a6 m c (ix2 0 ⟨2048 + j.val, by omega⟩) := by
  unfold iblk
  rw [View.read_apply]
  show V m c main_v44 _ = _
  entry_read
  pointwise
  blk_ext [iblk, V, idx' t]

theorem iblk19 (t : Fin cfg0.N) (j : Fin 2048) : (iblk (F := Ideal) m c 19 t (ix2 0 j) : EReal) = a8 m c (ix3 0 ⟨j.val / 1024, by omega⟩ ⟨j.val % 1024, by omega⟩) := by
  unfold iblk
  rw [View.read_apply]
  show V m c main_v46 _ = _
  entry_read
  pointwise
  blk_ext [iblk, V, idx' t]

theorem at_v33 (k : Fin 1024) (j : Fin 256) : (V m c main_v33 : S1024x256.Idx → EReal) (ix2 k j) = wdt (a4 m c) k j := by
  entry_read
  pointwise
  refine (cols_set _ _ _ 128 rfl k j).trans ?_
  unfold wdt
  by_cases h : 128 ≤ j.val ∧ j.val < 128 + 24
  · rw [dif_pos h, dif_pos (by omega)]
    pointwise
    refine congrArg (fun q => a4 m c (ix3 0 k q)) (Fin.ext ?_)
    show 4632 + (j.val - 128) = 4608 + 24 * (j.val / 128) + j.val % 128
    omega
  · rw [dif_neg h]
    refine (cols_set _ _ _ 0 rfl k j).trans ?_
    by_cases h' : 0 ≤ j.val ∧ j.val < 0 + 24
    · rw [dif_pos h', dif_pos (by omega)]
      pointwise
      refine congrArg (fun q => a4 m c (ix3 0 k q)) (Fin.ext ?_)
      show 4608 + (j.val - 0) = 4608 + 24 * (j.val / 128) + j.val % 128
      omega
    · rw [dif_neg h', dif_neg (by omega)]
      pointwise

theorem at_v20 (j : Fin 256) : (V m c main_v20 : S1x256.Idx → EReal) (ix2 0 j) = dtb (a7 m c) j := by
  entry_read
  pointwise
  refine (row_set _ _ _ 128 rfl rfl j).trans ?_
  unfold dtb
  by_cases h : 128 ≤ j.val ∧ j.val < 128 + 24
  · rw [dif_pos h, dif_pos (by omega)]
    exact congrArg₂ (fun p q => a7 m c (ix3 0 p q)) (Fin.ext (by show 1 = j.val / 128; omega)) (Fin.ext (by show j.val - 128 = j.val % 128; omega))
  · rw [dif_neg h]
    refine (row_set _ _ _ 0 rfl rfl j).trans ?_
    by_cases h' : 0 ≤ j.val ∧ j.val < 0 + 24
    · rw [dif_pos h', dif_pos (by omega)]
      exact congrArg₂ (fun p q => a7 m c (ix3 0 p q)) (Fin.ext (by show 0 = j.val / 128; omega)) (Fin.ext (by show j.val - 0 = j.val % 128; omega))
    · rw [dif_neg h', dif_neg (by omega)]
      pointwise

theorem iblk9 (t : Fin cfg0.N) (k : Fin 1024) (j : Fin 256) : (iblk m c 9 t (ix2 k j) : EReal) = wdt (a4 m c) k j := by
  refine Eq.trans ?_ (at_v33 m c k j)
  unfold iblk
  rw [View.read_apply]
  refine congrArg (V m c main_v33) ?_
  blk_ext [iblk, V, idx' t]

theorem iblk18 (t : Fin cfg0.N) (j : Fin 256) : (iblk m c 18 t (ix2 0 j) : EReal) = dtb (a7 m c) j := by
  refine Eq.trans ?_ (at_v20 m c j)
  unfold iblk
  rw [View.read_apply]
  refine congrArg (V m c main_v20) ?_
  blk_ext [iblk, V, idx' t]

end

end Cert.Proof.InProj
-- ==== Proof.InSpec.lean ====
/- The projection's eight results as functions of its arguments, over the extended reals. -/
module

public import proofs.«01_k».proof.Proof.InBlocks

@[expose] public section

set_option maxRecDepth 16384

noncomputable section

namespace Cert.Proof.InProj

open Idealize.ShloMosaic Idealize.ShloMosaic.TcCoe Idealize.ShloMosaic.Tactic
open Cert.InKernelIdeal
open Finset

/-- Three taps down the tokens, each token in a line of 64 and a tap past the line's end reading 0. -/
def tapsG (P : Fin 4096 → EReal) (w0 w1 w2 b : EReal) (r : Fin 4096) : EReal :=
  (if r.val % 64 = 0 then 0 else P ⟨r.val - 1, by omega⟩ * w0) + P r * w1
    + (if h : r.val % 64 = 63 then 0 else P ⟨r.val + 1, by omega⟩ * w2) + b

section
variable (A0 : S8x4096x1024.Idx → EReal) (A1 A2 : S8x1x1024.Idx → EReal) (A3 : S1x1024.Idx → EReal) (A4 : S1x1024x6704.Idx → EReal)

/-- A token's features, normalised and modulated. -/
def hidG (b : Fin 8) (r : Fin 4096) (k : Fin 1024) : EReal :=
  hid (fun k => A0 (ix3 b r k)) (fun k => A3 (ix2 0 k)) (fun k => A2 (ix3 b 0 k)) (fun k => A1 (ix3 b 0 k)) k

/-- A token's projection to a column. -/
def pr (b : Fin 8) (r : Fin 4096) (j : Fin 6704) : EReal := ∑ k : Fin 1024, hidG A0 A1 A2 A3 b r k * A4 (ix3 0 k j)

/-- A transform of a group of 128 columns, `o` choosing the real or the imaginary half. -/
def gF (A9 : S128x256.Idx → EReal) (o : ℕ) (ho : o ≤ 128) (b : Fin 8) (r : Fin 4096) (j : Fin 512) : EReal :=
  ∑ e : Fin 128, pr A0 A1 A2 A3 A4 b r ⟨0 + (grp j e).val, by omega⟩ * A9 (ix2 e (col o ho j))

/-- The gate branch. -/
def gZ (b : Fin 8) (r : Fin 4096) (j : Fin 1536) : EReal :=
  pr A0 A1 A2 A3 A4 b r ⟨512 + j.val, by omega⟩ * sgm (pr A0 A1 A2 A3 A4 b r ⟨512 + j.val, by omega⟩)

/-- The convolved columns before their activation. -/
def cv (A5 : S1x3x2560.Idx → EReal) (A6 : S1x2560.Idx → EReal) (b : Fin 8) (r : Fin 4096) (q : Fin 2560) : EReal :=
  tapsG (fun r => pr A0 A1 A2 A3 A4 b r ⟨2048 + q.val, by omega⟩) (A5 (ix3 0 0 q)) (A5 (ix3 0 1 q)) (A5 (ix3 0 2 q)) (A6 (ix2 0 q)) r

/-- The convolved columns. -/
def gC (A5 : S1x3x2560.Idx → EReal) (A6 : S1x2560.Idx → EReal) (b : Fin 8) (r : Fin 4096) (q : Fin 2560) : EReal :=
  cv A0 A1 A2 A3 A4 A5 A6 b r q * sgm (cv A0 A1 A2 A3 A4 A5 A6 b r q)

/-- The time steps. -/
def gDt (A7 : S1x2x24.Idx → EReal) (b : Fin 8) (r : Fin 4096) (j : Fin 256) : EReal :=
  splus (∑ k : Fin 1024, hidG A0 A1 A2 A3 b r k * wdt A4 k j + dtb A7 j)

/-- The merge gates. -/
def gG (A8 : S1x2x1024.Idx → EReal) (b : Fin 8) (r : Fin 4096) (j : Fin 2048) : EReal :=
  sgm (pr A0 A1 A2 A3 A4 b r ⟨4656 + j.val, by omega⟩ + A8 (ix3 0 ⟨j.val / 1024, by omega⟩ ⟨j.val % 1024, by omega⟩))

end

/-- An array from its elements. -/
def arr3 {n : Nat} (g : Fin 8 → Fin 4096 → Fin n → EReal) : (⟨3, ![8, 4096, n]⟩ : Shape).Idx → EReal := fun y => g (y 0) (y 1) (y 2)

end Cert.Proof.InProj
-- ==== Proof.InArr.lean ====
/- What the projection's eight result arrays hold after the last point. -/
module

public import proofs.«01_k».proof.Proof.InSpec

@[expose] public section

set_option maxRecDepth 16384

noncomputable section

namespace Cert.Proof.InProj

open Cert.InKernelIdeal Cert.InKernelIdeal.Gen
open Idealize.ShloMosaic Idealize.ShloMosaic.TcCoe Idealize.ShloMosaic.Tactic
open Idealize.SL Idealize.SL.Sem
open Finset

section
variable (m : (ℓ : Loc nD τ sig) → Buf (Elt Ideal) ℓ) (c : Dev nD)

theorem row_blk (t : Fin cfg0.N) (r : Fin 512) (k : Fin 1024) :
    row (iblk m c 0 t) (iblk m c 1 t) (iblk m c 2 t) (iblk m c 3 t) r k = hidG (a0 m c) (a1 m c) (a2 m c) (a3 m c) (bat t) (tok t r) k := by
  unfold row hidG
  rw [show (fun k => iblk m c 0 t (ix3 0 r k)) = _ from funext (iblk0 m c t r), show (fun k => iblk m c 1 t (ix3 0 0 k)) = _ from funext (iblk1 m c t),
    show (fun k => iblk m c 2 t (ix3 0 0 k)) = _ from funext (iblk2 m c t), show (fun k => iblk m c 3 t (ix2 0 k)) = _ from funext (iblk3 m c t)]

theorem prod_blk {n : Nat} (W : (⟨2, ![1024, n]⟩ : Shape).Idx → EReal) (t : Fin cfg0.N) (r : Fin 512) (j : Fin n) (J : Fin 6704) (hW : ∀ k, W (ix2 k j) = a4 m c (ix3 0 k J)) :
    prod (iblk m c 0 t) (iblk m c 1 t) (iblk m c 2 t) (iblk m c 3 t) W r j = pr (a0 m c) (a1 m c) (a2 m c) (a3 m c) (a4 m c) (bat t) (tok t r) J := by
  unfold prod pr
  exact Finset.sum_congr rfl fun k _ => by rw [row_blk, hW]

theorem taps_blk (P : Fin 512 → EReal) (Q : Fin 4096 → EReal) (t : Fin cfg0.N) (h : ∀ r, P r = Q (tok t r)) (w0 w1 w2 b : EReal) (r : Fin 512) :
    tapsR P w0 w1 w2 b r = tapsG Q w0 w1 w2 b (tok t r) := by
  have hm : (tok t r).val % 64 = r.val % 64 := by simp only [tok]; omega
  unfold tapsR tapsG
  rw [h r]
  refine congrArg (· + b) (congrArg₂ (· + ·) (congrArg (· + Q (tok t r) * w1) ?_) ?_)
  · by_cases h' : r.val % 64 = 0
    · rw [if_pos h', if_pos (by rw [hm]; exact h')]
    · rw [if_neg h', if_neg (by rw [hm]; exact h'), h]
      refine congrArg (· * w0) (congrArg Q (Fin.ext ?_))
      show 512 * (t.val % 8) + (r.val - 1) = 512 * (t.val % 8) + r.val - 1
      omega
  · by_cases h' : r.val % 64 = 63
    · rw [dif_pos h', dif_pos (by rw [hm]; exact h')]
    · rw [dif_neg h', dif_neg (by rw [hm]; exact h'), h]
      refine congrArg (· * w2) (congrArg Q (Fin.ext ?_))
      show 512 * (t.val % 8) + (r.val + 1) = 512 * (t.val % 8) + r.val + 1
      omega

theorem outC_blk {n : Nat} (W : (⟨2, ![1024, n]⟩ : Shape).Idx → EReal) (w : (⟨2, ![3, n]⟩ : Shape).Idx → EReal) (b : (⟨2, ![1, n]⟩ : Shape).Idx → EReal) (t : Fin cfg0.N)
    (r : Fin 512) (j : Fin n) (q : Fin 2560) (hW : ∀ k, W (ix2 k j) = a4 m c (ix3 0 k ⟨2048 + q.val, by omega⟩)) (hw : ∀ k, w (ix2 k j) = a5 m c (ix3 0 k q)) (hb : b (ix2 0 j) = a6 m c (ix2 0 q)) :
    outC (iblk m c 0 t) (iblk m c 1 t) (iblk m c 2 t) (iblk m c 3 t) W w b (ix3 0 r j)
      = gC (a0 m c) (a1 m c) (a2 m c) (a3 m c) (a4 m c) (a5 m c) (a6 m c) (bat t) (tok t r) q := by
  have e : tapsR (fun r => prod (iblk m c 0 t) (iblk m c 1 t) (iblk m c 2 t) (iblk m c 3 t) W r j) (w (ix2 0 j)) (w (ix2 1 j)) (w (ix2 2 j)) (b (ix2 0 j)) r
      = cv (a0 m c) (a1 m c) (a2 m c) (a3 m c) (a4 m c) (a5 m c) (a6 m c) (bat t) (tok t r) q := by
    rw [hw, hw, hw, hb]
    exact taps_blk _ _ t (fun r => prod_blk m c W t r j _ hW) _ _ _ _ r
  unfold gC
  rw [← e]
  rfl

theorem outF_blk (o : ℕ) (ho : o ≤ 128) (t : Fin cfg0.N) (r : Fin 512) (j : Fin 512) :
    outF (iblk m c 0 t) (iblk m c 1 t) (iblk m c 2 t) (iblk m c 3 t) o ho (iblk m c 4 t) (iblk m c 11 t) (ix3 0 r j)
      = gF (a0 m c) (a1 m c) (a2 m c) (a3 m c) (a4 m c) (a9 m c) o ho (bat t) (tok t r) j :=
  Finset.sum_congr rfl fun e _ => congrArg₂ (· * ·) (prod_blk m c _ t r (grp j e) _ (fun k => iblk4 m c t k (grp j e))) (iblk11 m c t e (col o ho j))

theorem outZ_blk (t : Fin cfg0.N) (r : Fin 512) (j : Fin 1536) :
    outZ (iblk m c 0 t) (iblk m c 1 t) (iblk m c 2 t) (iblk m c 3 t) (iblk m c 5 t) (ix3 0 r j) = gZ (a0 m c) (a1 m c) (a2 m c) (a3 m c) (a4 m c) (bat t) (tok t r) j :=
  congrArg (fun x => x * sgm x) (prod_blk m c _ t r j _ (fun k => iblk5 m c t k j))

theorem outDt_blk (t : Fin cfg0.N) (r : Fin 512) (j : Fin 256) :
    outDt (iblk m c 0 t) (iblk m c 1 t) (iblk m c 2 t) (iblk m c 3 t) (iblk m c 9 t) (iblk m c 18 t) (ix3 0 r j) = gDt (a0 m c) (a1 m c) (a2 m c) (a3 m c) (a4 m c) (a7 m c) (bat t) (tok t r) j :=
  congrArg splus (congrArg₂ (· + ·) (Finset.sum_congr rfl fun k _ => congrArg₂ (· * ·) (row_blk m c t r k) (iblk9 m c t k j)) (iblk18 m c t j))

theorem outG_blk (t : Fin cfg0.N) (r : Fin 512) (j : Fin 2048) :
    outG (iblk m c 0 t) (iblk m c 1 t) (iblk m c 2 t) (iblk m c 3 t) (iblk m c 10 t) (iblk m c 19 t) (ix3 0 r j) = gG (a0 m c) (a1 m c) (a2 m c) (a3 m c) (a4 m c) (a8 m c) (bat t) (tok t r) j :=
  congrArg sgm (congrArg₂ (· + ·) (prod_blk m c _ t r j _ (fun k => iblk10 m c t k j)) (iblk19 m c t j))

/-- A block's row of a result array. -/
theorem spot {n : Nat} (t : Fin cfg0.N) (r : Fin 512) (d : Fin n) (i : (⟨3, ![8, 4096, n]⟩ : Shape).Idx)
    (h0 : (i 0).val = t.val / 8 * 1 + 0) (h1 : (i 1).val = t.val % 8 * 512 + r.val) (h2 : (i 2).val = 0 * n + d.val) : i = ix3 (bat t) (tok t r) d := by
  funext a
  apply Fin.ext
  fin_cases a
  · exact h0.trans (by show t.val / 8 * 1 + 0 = t.val / 8; omega)
  · exact h1.trans (by show t.val % 8 * 512 + r.val = 512 * (t.val % 8) + r.val; omega)
  · exact h2.trans (by show 0 * n + d.val = d.val; omega)

theorem idxo : ∀ t : Fin grid0.N,
    win0_20.index t = ![t.val / 8, t.val % 8, 0] ∧ win0_21.index t = ![t.val / 8, t.val % 8, 0] ∧ win0_22.index t = ![t.val / 8, t.val % 8, 0] ∧ win0_23.index t = ![t.val / 8, t.val % 8, 0]
    ∧ win0_24.index t = ![t.val / 8, t.val % 8, 0] ∧ win0_25.index t = ![t.val / 8, t.val % 8, 0] ∧ win0_26.index t = ![t.val / 8, t.val % 8, 0] ∧ win0_27.index t = ![t.val / 8, t.val % 8, 0] := by
  decide +kernel

theorem arr20 : (dats m 0 c).arrAt 20 cfg0.N = arr3 (n := 512) (gF (a0 m c) (a1 m c) (a2 m c) (a3 m c) (a4 m c) (a9 m c) 0 (by decide)) := by
  refine (dats m 0 c).arrAt_eq_of_covers 20 _ (by decide +kernel) fun t hf y => ?_
  obtain ⟨z, r, d, rfl⟩ : ∃ (z : Fin 1) (r : Fin 512) (d : Fin 512), y = ix3 z r d := ⟨y 0, y 1, y 2, eq_ix3 y⟩
  obtain rfl := Fin.fin_one_eq_zero z
  have hi := (idxo t).1
  have e : (win0_20.blk t).view.emb (ix3 0 r d) = ix3 (bat t) (tok t r) d :=
    spot t r d _ ((Pipeline.Window.rect_emb_val win0_20 t (ix3 0 r d) 0 rfl).trans (by rw [hi]; rfl)) ((Pipeline.Window.rect_emb_val win0_20 t (ix3 0 r d) 1 rfl).trans (by rw [hi]; rfl))
      ((Pipeline.Window.rect_emb_val win0_20 t (ix3 0 r d) 2 rfl).trans (by rw [hi]; rfl))
  blk_simp
  show (dats m 0 c).after 20 t (ix3 0 r d) = _
  rw [after0_20, e]
  refine (out20 _ _ _ _ _ _ _ _ _ _ _ _ _ _ _ _ _ _ _ _ (ix3 0 r d)).trans ?_
  exact outF_blk m c 0 (by decide) t r d

theorem arr21 : (dats m 0 c).arrAt 21 cfg0.N = arr3 (n := 512) (gF (a0 m c) (a1 m c) (a2 m c) (a3 m c) (a4 m c) (a9 m c) 128 (by decide)) := by
  refine (dats m 0 c).arrAt_eq_of_covers 21 _ (by decide +kernel) fun t hf y => ?_
  obtain ⟨z, r, d, rfl⟩ : ∃ (z : Fin 1) (r : Fin 512) (d : Fin 512), y = ix3 z r d := ⟨y 0, y 1, y 2, eq_ix3 y⟩
  obtain rfl := Fin.fin_one_eq_zero z
  have hi := (idxo t).2.1
  have e : (win0_21.blk t).view.emb (ix3 0 r d) = ix3 (bat t) (tok t r) d :=
    spot t r d _ ((Pipeline.Window.rect_emb_val win0_21 t (ix3 0 r d) 0 rfl).trans (by rw [hi]; rfl)) ((Pipeline.Window.rect_emb_val win0_21 t (ix3 0 r d) 1 rfl).trans (by rw [hi]; rfl))
      ((Pipeline.Window.rect_emb_val win0_21 t (ix3 0 r d) 2 rfl).trans (by rw [hi]; rfl))
  blk_simp
  show (dats m 0 c).after 21 t (ix3 0 r d) = _
  rw [after0_21, e]
  refine (out21 _ _ _ _ _ _ _ _ _ _ _ _ _ _ _ _ _ _ _ _ (ix3 0 r d)).trans ?_
  exact outF_blk m c 128 (by decide) t r d

theorem arr22 : (dats m 0 c).arrAt 22 cfg0.N = arr3 (n := 1536) (gZ (a0 m c) (a1 m c) (a2 m c) (a3 m c) (a4 m c)) := by
  refine (dats m 0 c).arrAt_eq_of_covers 22 _ (by decide +kernel) fun t hf y => ?_
  obtain ⟨z, r, d, rfl⟩ : ∃ (z : Fin 1) (r : Fin 512) (d : Fin 1536), y = ix3 z r d := ⟨y 0, y 1, y 2, eq_ix3 y⟩
  obtain rfl := Fin.fin_one_eq_zero z
  have hi := (idxo t).2.2.1
  have e : (win0_22.blk t).view.emb (ix3 0 r d) = ix3 (bat t) (tok t r) d :=
    spot t r d _ ((Pipeline.Window.rect_emb_val win0_22 t (ix3 0 r d) 0 rfl).trans (by rw [hi]; rfl)) ((Pipeline.Window.rect_emb_val win0_22 t (ix3 0 r d) 1 rfl).trans (by rw [hi]; rfl))
      ((Pipeline.Window.rect_emb_val win0_22 t (ix3 0 r d) 2 rfl).trans (by rw [hi]; rfl))
  blk_simp
  show (dats m 0 c).after 22 t (ix3 0 r d) = _
  rw [after0_22, e]
  refine (out22 _ _ _ _ _ _ _ _ _ _ _ _ _ _ _ _ _ _ _ _ (ix3 0 r d)).trans ?_
  exact outZ_blk m c t r d

/-- The first convolved columns begin at the first. -/
theorem outXs_blk (t : Fin cfg0.N) (r : Fin 512) (d : Fin 1536) (q : Fin 2560) (hq : q.val = d.val) :
    outC (n := 1536) (iblk m c 0 t) (iblk m c 1 t) (iblk m c 2 t) (iblk m c 3 t) (iblk m c 6 t) (iblk m c 12 t) (iblk m c 13 t) (ix3 0 r d)
      = gC (a0 m c) (a1 m c) (a2 m c) (a3 m c) (a4 m c) (a5 m c) (a6 m c) (bat t) (tok t r) q := by
  have e : (⟨0 + d.val, by omega⟩ : Fin 2560) = q := Fin.ext ((Nat.zero_add _).trans hq.symm)
  refine outC_blk m c (n := 1536) (iblk m c 6 t) (iblk m c 12 t) (iblk m c 13 t) t r d q (fun k => ?_) (fun k => ?_) ?_
  · refine (iblk6 m c t k d).trans (congrArg (fun q => a4 m c (ix3 0 k q)) (Fin.ext ?_))
    show 2048 + d.val = 2048 + q.val
    rw [hq]
  · exact (iblk12 m c t k d).trans (congrArg (fun q => a5 m c (ix3 0 k q)) e)
  · exact (iblk13 m c t d).trans (congrArg (fun q => a6 m c (ix2 0 q)) e)

theorem arr23 : (dats m 0 c).arrAt 23 cfg0.N = arr3 (n := 1536) (fun b r (j : Fin 1536) => gC (a0 m c) (a1 m c) (a2 m c) (a3 m c) (a4 m c) (a5 m c) (a6 m c) b r ⟨j.val, by omega⟩) := by
  refine (dats m 0 c).arrAt_eq_of_covers 23 _ (by decide +kernel) fun t hf y => ?_
  obtain ⟨z, r, d, rfl⟩ : ∃ (z : Fin 1) (r : Fin 512) (d : Fin 1536), y = ix3 z r d := ⟨y 0, y 1, y 2, eq_ix3 y⟩
  obtain rfl := Fin.fin_one_eq_zero z
  have hi := (idxo t).2.2.2.1
  have e : (win0_23.blk t).view.emb (ix3 0 r d) = ix3 (bat t) (tok t r) d :=
    spot t r d _ ((Pipeline.Window.rect_emb_val win0_23 t (ix3 0 r d) 0 rfl).trans (by rw [hi]; rfl)) ((Pipeline.Window.rect_emb_val win0_23 t (ix3 0 r d) 1 rfl).trans (by rw [hi]; rfl))
      ((Pipeline.Window.rect_emb_val win0_23 t (ix3 0 r d) 2 rfl).trans (by rw [hi]; rfl))
  blk_simp
  show (dats m 0 c).after 23 t (ix3 0 r d) = _
  rw [after0_23, e]
  refine (out23 _ _ _ _ _ _ _ _ _ _ _ _ _ _ _ _ _ _ _ _ (ix3 0 r d)).trans ?_
  exact outXs_blk m c t r d ⟨d.val, by omega⟩ rfl

theorem arr24 : (dats m 0 c).arrAt 24 cfg0.N = arr3 (n := 512) (fun b r (j : Fin 512) => gC (a0 m c) (a1 m c) (a2 m c) (a3 m c) (a4 m c) (a5 m c) (a6 m c) b r ⟨1536 + j.val, by omega⟩) := by
  refine (dats m 0 c).arrAt_eq_of_covers 24 _ (by decide +kernel) fun t hf y => ?_
  obtain ⟨z, r, d, rfl⟩ : ∃ (z : Fin 1) (r : Fin 512) (d : Fin 512), y = ix3 z r d := ⟨y 0, y 1, y 2, eq_ix3 y⟩
  obtain rfl := Fin.fin_one_eq_zero z
  have hi := (idxo t).2.2.2.2.1
  have e : (win0_24.blk t).view.emb (ix3 0 r d) = ix3 (bat t) (tok t r) d :=
    spot t r d _ ((Pipeline.Window.rect_emb_val win0_24 t (ix3 0 r d) 0 rfl).trans (by rw [hi]; rfl)) ((Pipeline.Window.rect_emb_val win0_24 t (ix3 0 r d) 1 rfl).trans (by rw [hi]; rfl))
      ((Pipeline.Window.rect_emb_val win0_24 t (ix3 0 r d) 2 rfl).trans (by rw [hi]; rfl))
  blk_simp
  show (dats m 0 c).after 24 t (ix3 0 r d) = _
  rw [after0_24, e]
  refine (out24 _ _ _ _ _ _ _ _ _ _ _ _ _ _ _ _ _ _ _ _ (ix3 0 r d)).trans ?_
  exact outC_blk m c _ _ _ t r d ⟨1536 + d.val, by omega⟩ (fun k => (iblk7 m c t k d).trans (congrArg (fun q => a4 m c (ix3 0 k q)) (Fin.ext (by show 3584 + d.val = 2048 + (1536 + d.val); omega)))) (fun k => iblk14 m c t k d) (iblk15 m c t d)

theorem arr25 : (dats m 0 c).arrAt 25 cfg0.N = arr3 (n := 512) (fun b r (j : Fin 512) => gC (a0 m c) (a1 m c) (a2 m c) (a3 m c) (a4 m c) (a5 m c) (a6 m c) b r ⟨2048 + j.val, by omega⟩) := by
  refine (dats m 0 c).arrAt_eq_of_covers 25 _ (by decide +kernel) fun t hf y => ?_
  obtain ⟨z, r, d, rfl⟩ : ∃ (z : Fin 1) (r : Fin 512) (d : Fin 512), y = ix3 z r d := ⟨y 0, y 1, y 2, eq_ix3 y⟩
  obtain rfl := Fin.fin_one_eq_zero z
  have hi := (idxo t).2.2.2.2.2.1
  have e : (win0_25.blk t).view.emb (ix3 0 r d) = ix3 (bat t) (tok t r) d :=
    spot t r d _ ((Pipeline.Window.rect_emb_val win0_25 t (ix3 0 r d) 0 rfl).trans (by rw [hi]; rfl)) ((Pipeline.Window.rect_emb_val win0_25 t (ix3 0 r d) 1 rfl).trans (by rw [hi]; rfl))
      ((Pipeline.Window.rect_emb_val win0_25 t (ix3 0 r d) 2 rfl).trans (by rw [hi]; rfl))
  blk_simp
  show (dats m 0 c).after 25 t (ix3 0 r d) = _
  rw [after0_25, e]
  refine (out25 _ _ _ _ _ _ _ _ _ _ _ _ _ _ _ _ _ _ _ _ (ix3 0 r d)).trans ?_
  exact outC_blk m c _ _ _ t r d ⟨2048 + d.val, by omega⟩ (fun k => (iblk8 m c t k d).trans (congrArg (fun q => a4 m c (ix3 0 k q)) (Fin.ext (by show 4096 + d.val = 2048 + (2048 + d.val); omega)))) (fun k => iblk16 m c t k d) (iblk17 m c t d)

theorem arr26 : (dats m 0 c).arrAt 26 cfg0.N = arr3 (n := 256) (gDt (a0 m c) (a1 m c) (a2 m c) (a3 m c) (a4 m c) (a7 m c)) := by
  refine (dats m 0 c).arrAt_eq_of_covers 26 _ (by decide +kernel) fun t hf y => ?_
  obtain ⟨z, r, d, rfl⟩ : ∃ (z : Fin 1) (r : Fin 512) (d : Fin 256), y = ix3 z r d := ⟨y 0, y 1, y 2, eq_ix3 y⟩
  obtain rfl := Fin.fin_one_eq_zero z
  have hi := (idxo t).2.2.2.2.2.2.1
  have e : (win0_26.blk t).view.emb (ix3 0 r d) = ix3 (bat t) (tok t r) d :=
    spot t r d _ ((Pipeline.Window.rect_emb_val win0_26 t (ix3 0 r d) 0 rfl).trans (by rw [hi]; rfl)) ((Pipeline.Window.rect_emb_val win0_26 t (ix3 0 r d) 1 rfl).trans (by rw [hi]; rfl))
      ((Pipeline.Window.rect_emb_val win0_26 t (ix3 0 r d) 2 rfl).trans (by rw [hi]; rfl))
  blk_simp
  show (dats m 0 c).after 26 t (ix3 0 r d) = _
  rw [after0_26, e]
  refine (out26 _ _ _ _ _ _ _ _ _ _ _ _ _ _ _ _ _ _ _ _ (ix3 0 r d)).trans ?_
  exact outDt_blk m c t r d

theorem arr27 : (dats m 0 c).arrAt 27 cfg0.N = arr3 (n := 2048) (gG (a0 m c) (a1 m c) (a2 m c) (a3 m c) (a4 m c) (a8 m c)) := by
  refine (dats m 0 c).arrAt_eq_of_covers 27 _ (by decide +kernel) fun t hf y => ?_
  obtain ⟨z, r, d, rfl⟩ : ∃ (z : Fin 1) (r : Fin 512) (d : Fin 2048), y = ix3 z r d := ⟨y 0, y 1, y 2, eq_ix3 y⟩
  obtain rfl := Fin.fin_one_eq_zero z
  have hi := (idxo t).2.2.2.2.2.2.2
  have e : (win0_27.blk t).view.emb (ix3 0 r d) = ix3 (bat t) (tok t r) d :=
    spot t r d _ ((Pipeline.Window.rect_emb_val win0_27 t (ix3 0 r d) 0 rfl).trans (by rw [hi]; rfl)) ((Pipeline.Window.rect_emb_val win0_27 t (ix3 0 r d) 1 rfl).trans (by rw [hi]; rfl))
      ((Pipeline.Window.rect_emb_val win0_27 t (ix3 0 r d) 2 rfl).trans (by rw [hi]; rfl))
  blk_simp
  show (dats m 0 c).after 27 t (ix3 0 r d) = _
  rw [after0_27, e]
  refine (out27 _ _ _ _ _ _ _ _ _ _ _ _ _ _ _ _ _ _ _ _ (ix3 0 r d)).trans ?_
  exact outG_blk m c t r d

end

end Cert.Proof.InProj
-- ==== Proof.InRef.lean ====
/- The projection's plain reference: its results' terms, read an element at a time. -/
module

public import proofs.«01_k».proof.Proof.InSpec
public import proofs.«01_k».proof.Proof.Gen.InReferenceIdeal.Run
public import Idealize.ShloMosaic.Lib.Pointwise
public import Idealize.ShloMosaic.Lib.Pipeline.ValueKit

@[expose] public section

set_option maxRecDepth 16384

noncomputable section

namespace Cert.Proof.InRef

open Cert.InReferenceIdeal Cert.InReferenceIdeal.Gen
open Idealize.ShloMosaic Idealize.ShloMosaic.TcCoe Idealize.ShloMosaic.Tactic
open Idealize.SL Idealize.SL.Sem
open Cert.Proof.InProj (hid sgm splus hidG pr tapsG gF gZ cv gC gDt gG wdt dtb arr3 grp col)
open Finset

/-- The normalised, modulated features. -/
def hidT (A0 : S8x4096x1024.Idx → Ideal .f32) (A1 A2 : S8x1x1024.Idx → Ideal .f32) (A3 : S1x1024.Idx → Ideal .f32) : S8x4096x1024.Idx → Ideal .f32 :=
  addf (mulf (mulf (mulf A0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf A0 A0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A3 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) A2))) (broadcastInDim S8x4096x1024 ![0, 1, 2] bcast_S8x1x1024_S8x4096x1024_0_1_2 A1)

/-- The features projected. -/
def projT (A0 : S8x4096x1024.Idx → Ideal .f32) (A1 A2 : S8x1x1024.Idx → Ideal .f32) (A3 : S1x1024.Idx → Ideal .f32) (A4 : S1x1024x6704.Idx → Ideal .f32) : S8x4096x6704.Idx → Ideal .f32 :=
  Host.dotGeneral dot_S8x4096x1024_S1024x6704_S8x4096x6704_2_0_01_1_n_n none (hidT A0 A1 A2 A3) (shapeCast _ A4 shapeCasts_S1x1024x6704_S1024x6704)

/-- The time steps before their activation. -/
def dtP (P : S8x4096x6704.Idx → Ideal .f32) (A7 : S1x2x24.Idx → Ideal .f32) : S8x4096x256.Idx → Ideal .f32 :=
  shapeCast _ (pad S8x4096x2x128 ![0, 0, 0, 0] ![0, 0, 0, 104] ![0, 0, 0, 0] (addf (shapeCast _ (extractStridedSlice S8x4096x48 ![0, 0, 4608] P slices_S8x4096x6704_S8x4096x48_0_0_4608) shapeCasts_S8x4096x48_S8x4096x2x24) (broadcastInDim S8x4096x2x24 ![0, 1, 2, 3] bcast_S1x1x2x24_S8x4096x2x24_0_1_2_3 (broadcastInDim S1x1x2x24 ![2, 3] bcast_S2x24_S1x1x2x24_2_3 (shapeCast _ A7 shapeCasts_S1x2x24_S2x24)))) (sitofp .f32 (constantI S_ 32 0#32)) pads_S8x4096x2x24_S8x4096x2x128_000_000_000_01040 h_S_) shapeCasts_S8x4096x2x128_S8x4096x256

/-- Their activation. -/
def dtR (D : S8x4096x256.Idx → Ideal .f32) : S8x4096x256.Idx → Ideal .f32 :=
  select (cmpf .une (subf D (broadcastInDim S8x4096x256 ![] bcast_S_S8x4096x256 (constant S_ .f32 0x00000000#32))) (subf D (broadcastInDim S8x4096x256 ![] bcast_S_S8x4096x256 (constant S_ .f32 0x00000000#32)))) (addf D (broadcastInDim S8x4096x256 ![] bcast_S_S8x4096x256 (constant S_ .f32 0x00000000#32))) (addf (maximumf D (broadcastInDim S8x4096x256 ![] bcast_S_S8x4096x256 (constant S_ .f32 0x00000000#32))) (Host.log1p (Host.exp (Host.negf (Host.absf (subf D (broadcastInDim S8x4096x256 ![] bcast_S_S8x4096x256 (constant S_ .f32 0x00000000#32))))))))

/-- The columns to convolve, in lines of 64 with a zero at each end. -/
def padP (P : S8x4096x6704.Idx → Ideal .f32) : S8x64x66x2560.Idx → Ideal .f32 :=
  pad S8x64x66x2560 ![0, 0, 1, 0] ![0, 0, 1, 0] ![0, 0, 0, 0] (shapeCast _ (extractStridedSlice S8x4096x2560 ![0, 0, 2048] P slices_S8x4096x6704_S8x4096x2560_0_0_2048) shapeCasts_S8x4096x2560_S8x64x64x2560) (sitofp .f32 (constantI S_ 32 0#32)) pads_S8x64x64x2560_S8x64x66x2560_000_000_110_000 h_S_

/-- The convolved columns. -/
def cvP (D : S8x64x66x2560.Idx → Ideal .f32) (A5 : S1x3x2560.Idx → Ideal .f32) (A6 : S1x2560.Idx → Ideal .f32) : S8x4096x2560.Idx → Ideal .f32 :=
  shapeCast _ (addf (addf (addf (addf (broadcastInDim S8x64x64x2560 ![] bcast_S_S8x64x64x2560 (constant S_ .f32 0x00000000#32)) (mulf (extractStridedSlice S8x64x64x2560 ![0, 0, 0, 0] D slices_S8x64x66x2560_S8x64x64x2560_0_0_0_0) (broadcastInDim S8x64x64x2560 ![0, 1, 2, 3] bcast_S1x1x1x2560_S8x64x64x2560_0_1_2_3 (broadcastInDim S1x1x1x2560 ![3] bcast_S2560_S1x1x1x2560_3 (shapeCast _ (extractStridedSlice S1x2560 ![0, 0] (shapeCast _ A5 shapeCasts_S1x3x2560_S3x2560) slices_S3x2560_S1x2560_0_0) shapeCasts_S1x2560_S2560))))) (mulf (extractStridedSlice S8x64x64x2560 ![0, 0, 1, 0] D slices_S8x64x66x2560_S8x64x64x2560_0_0_1_0) (broadcastInDim S8x64x64x2560 ![0, 1, 2, 3] bcast_S1x1x1x2560_S8x64x64x2560_0_1_2_3 (broadcastInDim S1x1x1x2560 ![3] bcast_S2560_S1x1x1x2560_3 (shapeCast _ (extractStridedSlice S1x2560 ![1, 0] (shapeCast _ A5 shapeCasts_S1x3x2560_S3x2560) slices_S3x2560_S1x2560_1_0) shapeCasts_S1x2560_S2560))))) (mulf (extractStridedSlice S8x64x64x2560 ![0, 0, 2, 0] D slices_S8x64x66x2560_S8x64x64x2560_0_0_2_0) (broadcastInDim S8x64x64x2560 ![0, 1, 2, 3] bcast_S1x1x1x2560_S8x64x64x2560_0_1_2_3 (broadcastInDim S1x1x1x2560 ![3] bcast_S2560_S1x1x1x2560_3 (shapeCast _ (extractStridedSlice S1x2560 ![2, 0] (shapeCast _ A5 shapeCasts_S1x3x2560_S3x2560) slices_S3x2560_S1x2560_2_0) shapeCasts_S1x2560_S2560))))) (broadcastInDim S8x64x64x2560 ![0, 1, 2, 3] bcast_S1x1x1x2560_S8x64x64x2560_0_1_2_3 (broadcastInDim S1x1x1x2560 ![3] bcast_S2560_S1x1x1x2560_3 (shapeCast _ A6 shapeCasts_S1x2560_S2560)))) shapeCasts_S8x64x64x2560_S8x4096x2560

/-- Their activation. -/
def cvR (C : S8x4096x2560.Idx → Ideal .f32) : S8x4096x2560.Idx → Ideal .f32 :=
  mulf C (Host.divf (broadcastInDim S8x4096x2560 ![] bcast_S_S8x4096x2560 (constant S_ .f32 0x3F800000#32)) (addf (broadcastInDim S8x4096x2560 ![] bcast_S_S8x4096x2560 (constant S_ .f32 0x3F800000#32)) (Host.exp (Host.negf C))))

/-- The two transforms, the gate branch and the merge gates. -/
def zrR (P : S8x4096x6704.Idx → Ideal .f32) (A9 : S128x256.Idx → Ideal .f32) : S8x4096x512.Idx → Ideal .bf16 :=
  truncf .bf16 (shapeCast _ (Host.dotGeneral dot_S8x4096x4x128_S128x128_S8x4096x4x128_3_0_012_1_n_n none (shapeCast _ (extractStridedSlice S8x4096x512 ![0, 0, 0] P slices_S8x4096x6704_S8x4096x512_0_0_0) shapeCasts_S8x4096x512_S8x4096x4x128) (extractStridedSlice S128x128 ![0, 0] A9 slices_S128x256_S128x128_0_0)) shapeCasts_S8x4096x4x128_S8x4096x512) bitsLt_bf16_f32

def ziR (P : S8x4096x6704.Idx → Ideal .f32) (A9 : S128x256.Idx → Ideal .f32) : S8x4096x512.Idx → Ideal .bf16 :=
  truncf .bf16 (shapeCast _ (Host.dotGeneral dot_S8x4096x4x128_S128x128_S8x4096x4x128_3_0_012_1_n_n none (shapeCast _ (extractStridedSlice S8x4096x512 ![0, 0, 0] P slices_S8x4096x6704_S8x4096x512_0_0_0) shapeCasts_S8x4096x512_S8x4096x4x128) (extractStridedSlice S128x128 ![0, 128] A9 slices_S128x256_S128x128_0_128)) shapeCasts_S8x4096x4x128_S8x4096x512) bitsLt_bf16_f32

def zR (P : S8x4096x6704.Idx → Ideal .f32) : S8x4096x1536.Idx → Ideal .bf16 :=
  truncf .bf16 (mulf (extractStridedSlice S8x4096x1536 ![0, 0, 512] P slices_S8x4096x6704_S8x4096x1536_0_0_512) (Host.divf (broadcastInDim S8x4096x1536 ![] bcast_S_S8x4096x1536 (constant S_ .f32 0x3F800000#32)) (addf (broadcastInDim S8x4096x1536 ![] bcast_S_S8x4096x1536 (constant S_ .f32 0x3F800000#32)) (Host.exp (Host.negf (extractStridedSlice S8x4096x1536 ![0, 0, 512] P slices_S8x4096x6704_S8x4096x1536_0_0_512)))))) bitsLt_bf16_f32

def gR (P : S8x4096x6704.Idx → Ideal .f32) (A8 : S1x2x1024.Idx → Ideal .f32) : S8x4096x2048.Idx → Ideal .bf16 :=
  truncf .bf16 (shapeCast _ (Host.divf (broadcastInDim S8x4096x2x1024 ![] bcast_S_S8x4096x2x1024 (constant S_ .f32 0x3F800000#32)) (addf (broadcastInDim S8x4096x2x1024 ![] bcast_S_S8x4096x2x1024 (constant S_ .f32 0x3F800000#32)) (Host.exp (Host.negf (addf (shapeCast _ (extractStridedSlice S8x4096x2048 ![0, 0, 4656] P slices_S8x4096x6704_S8x4096x2048_0_0_4656) shapeCasts_S8x4096x2048_S8x4096x2x1024) (broadcastInDim S8x4096x2x1024 ![0, 1, 2, 3] bcast_S1x1x2x1024_S8x4096x2x1024_0_1_2_3 (broadcastInDim S1x1x2x1024 ![2, 3] bcast_S2x1024_S1x1x2x1024_2_3 (shapeCast _ A8 shapeCasts_S1x2x1024_S2x1024)))))))) shapeCasts_S8x4096x2x1024_S8x4096x2048) bitsLt_bf16_f32

section
variable (A0 : S8x4096x1024.Idx → Ideal .f32) (A1 A2 : S8x1x1024.Idx → Ideal .f32) (A3 : S1x1024.Idx → Ideal .f32) (A4 : S1x1024x6704.Idx → Ideal .f32)

theorem hidT_at (b : Fin 8) (r : Fin 4096) (k : Fin 1024) : (hidT A0 A1 A2 A3 (ix3 b r k) : EReal) = hidG A0 A1 A2 A3 b r k := by
  unfold hidT hidG hid
  pointwise

theorem projT_at (b : Fin 8) (r : Fin 4096) (j : Fin 6704) : (projT A0 A1 A2 A3 A4 (ix3 b r j) : EReal) = pr A0 A1 A2 A3 A4 b r j := by
  unfold projT pr
  pointwise
  exact Finset.sum_congr rfl fun k _ => congrArg (· * A4 (ix3 0 k j)) (hidT_at A0 A1 A2 A3 b r k)
end

theorem neg_sub0 (x : EReal) : -x = 0 - x := by rw [sub_eq_add_neg, zero_add]

/-- The pads' value. -/
theorem pad0 : (FloatOps.sitofp (F := Ideal) FTy.f32 (0#32) : EReal) = 0 := by
  show (((0#32 : BitVec 32).toInt : ℝ) : EReal) = 0
  simp

/-- Two choices on equivalent conditions with equal branches. -/
theorem choice_congr {p q : Prop} [Decidable p] [Decidable q] (hpq : p ↔ q) {t : p → EReal} {t' : q → EReal} {e e' : EReal} (ht : ∀ hp hq, t hp = t' hq) (he : e = e') :
    (if h : p then t h else e) = if h : q then t' h else e' := by
  by_cases h : p
  · rw [dif_pos h, dif_pos (hpq.1 h)]
    exact ht h (hpq.1 h)
  · rw [dif_neg h, dif_neg fun q => h (hpq.2 q)]
    exact he

section
variable (P : S8x4096x6704.Idx → Ideal .f32)

theorem zR_at (b : Fin 8) (r : Fin 4096) (j : Fin 1536) : (zR P (ix3 b r j) : EReal) = P (ix3 b r ⟨512 + j.val, by omega⟩) * sgm (P (ix3 b r ⟨512 + j.val, by omega⟩)) := by
  unfold zR sgm
  pointwise
  rw [neg_sub0]

theorem gR_at (A8 : S1x2x1024.Idx → Ideal .f32) (b : Fin 8) (r : Fin 4096) (j : Fin 2048) :
    (gR P A8 (ix3 b r j) : EReal) = sgm (P (ix3 b r ⟨4656 + j.val, by omega⟩) + A8 (ix3 0 ⟨j.val / 1024, by omega⟩ ⟨j.val % 1024, by omega⟩)) := by
  unfold gR sgm
  pointwise
  rw [neg_sub0]

theorem zrR_at (A9 : S128x256.Idx → Ideal .f32) (b : Fin 8) (r : Fin 4096) (j : Fin 512) :
    (zrR P A9 (ix3 b r j) : EReal) = ∑ e : Fin 128, P (ix3 b r ⟨0 + (grp j e).val, by omega⟩) * A9 (ix2 e (col 0 (by decide) j)) := by
  unfold zrR
  pointwise
  refine Finset.sum_congr rfl fun e _ => congrArg₂ (· * ·) (congrArg (fun q => P (ix3 b r q)) (Fin.ext ?_)) (congrArg (fun q => A9 (ix2 e q)) (Fin.ext ?_))
  · show j.val / 128 * 128 + e.val = (grp j e).val
    unfold grp
    show j.val / 128 * 128 + e.val = 128 * (j.val / 128) + e.val
    omega
  · show j.val % 128 = 0 + j.val % 128
    omega

theorem ziR_at (A9 : S128x256.Idx → Ideal .f32) (b : Fin 8) (r : Fin 4096) (j : Fin 512) :
    (ziR P A9 (ix3 b r j) : EReal) = ∑ e : Fin 128, P (ix3 b r ⟨0 + (grp j e).val, by omega⟩) * A9 (ix2 e (col 128 (by decide) j)) := by
  unfold ziR
  pointwise
  refine Finset.sum_congr rfl fun e _ => congrArg₂ (· * ·) (congrArg (fun q => P (ix3 b r q)) (Fin.ext ?_)) (congrArg (fun q => A9 (ix2 e q)) (Fin.ext ?_))
  · show j.val / 128 * 128 + e.val = (grp j e).val
    unfold grp
    show j.val / 128 * 128 + e.val = 128 * (j.val / 128) + e.val
    omega
  · show 128 + j.val % 128 = 128 + j.val % 128
    omega

theorem cvR_at (C : S8x4096x2560.Idx → Ideal .f32) (b : Fin 8) (r : Fin 4096) (q : Fin 2560) : (cvR C (ix3 b r q) : EReal) = C (ix3 b r q) * sgm (C (ix3 b r q)) := by
  unfold cvR sgm
  pointwise
  rw [neg_sub0]

theorem padP_at (b : Fin 8) (l : Fin 64) (s : Fin 66) (q : Fin 2560) :
    (padP P (ix4 b l s q) : EReal) = if h : 1 ≤ s.val ∧ s.val < 65 then P (ix3 b ⟨64 * l.val + (s.val - 1), by omega⟩ ⟨2048 + q.val, by omega⟩) else 0 := by
  unfold padP
  pointwise
  by_cases h : 1 ≤ s.val ∧ s.val < 65
  · rw [dif_pos h, dif_pos (by omega)]
    exact congrArg (fun x => P (ix3 b x ⟨2048 + q.val, by omega⟩)) (Fin.ext (by show l.val * 64 + (s.val - 1) = 64 * l.val + (s.val - 1); omega))
  · rw [dif_neg h, dif_neg (by omega)]
    exact pad0

theorem cvP_at (D : S8x64x66x2560.Idx → Ideal .f32) (A5 : S1x3x2560.Idx → Ideal .f32) (A6 : S1x2560.Idx → Ideal .f32) (b : Fin 8) (r : Fin 4096) (q : Fin 2560) :
    (cvP D A5 A6 (ix3 b r q) : EReal) = D (ix4 b ⟨r.val / 64, by omega⟩ ⟨r.val % 64, by omega⟩ q) * A5 (ix3 0 0 q) + D (ix4 b ⟨r.val / 64, by omega⟩ ⟨r.val % 64 + 1, by omega⟩ q) * A5 (ix3 0 1 q)
      + D (ix4 b ⟨r.val / 64, by omega⟩ ⟨r.val % 64 + 2, by omega⟩ q) * A5 (ix3 0 2 q) + A6 (ix2 0 q) := by
  unfold cvP
  pointwise
  refine congrArg (· + A6 (ix2 0 q)) (congrArg₂ (· + ·) (congrArg₂ (· + ·) rfl (congrArg (· * A5 (ix3 0 1 q)) (congrArg (fun x => D (ix4 b ⟨r.val / 64, by omega⟩ x q)) (Fin.ext ?_))))
    (congrArg (· * A5 (ix3 0 2 q)) (congrArg (fun x => D (ix4 b ⟨r.val / 64, by omega⟩ x q)) (Fin.ext ?_))))
  · show 1 + r.val % 64 = r.val % 64 + 1; omega
  · show 2 + r.val % 64 = r.val % 64 + 2; omega

/-- A head's column, its block of 24 counted either way. -/
theorem step_col (n a b : ℕ) (h : n + (a * 24 + b) < 6704) : (⟨n + (a * 24 + b), h⟩ : Fin 6704) = ⟨n + 24 * a + b, by omega⟩ :=
  Fin.ext (by show n + (a * 24 + b) = n + 24 * a + b; omega)

set_option maxHeartbeats 2000000 in
theorem dtP_at (A7 : S1x2x24.Idx → Ideal .f32) (b : Fin 8) (r : Fin 4096) (j : Fin 256) :
    (dtP P A7 (ix3 b r j) : EReal) = if h : j.val % 128 < 24 then P (ix3 b r ⟨4608 + 24 * (j.val / 128) + j.val % 128, by omega⟩) + A7 (ix3 0 ⟨j.val / 128, by omega⟩ ⟨j.val % 128, h⟩) else 0 := by
  unfold dtP
  pointwise
  refine choice_congr ⟨And.right, fun h => ⟨by omega, h⟩⟩ (fun hp hq => ?_) pad0
  rw [step_col 4608]

theorem dtR_at (D : S8x4096x256.Idx → Ideal .f32) (b : Fin 8) (r : Fin 4096) (j : Fin 256) : (dtR D (ix3 b r j) : EReal) = splus (D (ix3 b r j)) := by
  unfold dtR splus
  pointwise
  rw [if_neg (not_not.2 rfl), neg_sub0]
  rfl
end

section
variable (A0 : S8x4096x1024.Idx → Ideal .f32) (A1 A2 : S8x1x1024.Idx → Ideal .f32) (A3 : S1x1024.Idx → Ideal .f32) (A4 : S1x1024x6704.Idx → Ideal .f32)

/-- The reference's lines of 64 with zeros at their ends are the taps of the specification. -/
theorem cv_eq (A5 : S1x3x2560.Idx → Ideal .f32) (A6 : S1x2560.Idx → Ideal .f32) (b : Fin 8) (r : Fin 4096) (q : Fin 2560) :
    (cvP (padP (projT A0 A1 A2 A3 A4)) A5 A6 (ix3 b r q) : EReal) = cv A0 A1 A2 A3 A4 A5 A6 b r q := by
  rw [cvP_at, padP_at, padP_at, padP_at]
  unfold cv tapsG
  refine congrArg (· + A6 (ix2 0 q)) (congrArg₂ (· + ·) (congrArg₂ (· + ·) ?_ ?_) ?_)
  · by_cases h : r.val % 64 = 0
    · rw [if_pos h, dif_neg (by show ¬(1 ≤ r.val % 64 ∧ r.val % 64 < 65); omega), zero_mul]
    · rw [if_neg h, dif_pos (by show 1 ≤ r.val % 64 ∧ r.val % 64 < 65; omega), projT_at]
      refine congrArg (· * A5 (ix3 0 0 q)) (congrArg (fun x => pr A0 A1 A2 A3 A4 b x ⟨2048 + q.val, by omega⟩) (Fin.ext ?_))
      show 64 * (r.val / 64) + (r.val % 64 - 1) = r.val - 1
      omega
  · rw [dif_pos (by show 1 ≤ r.val % 64 + 1 ∧ r.val % 64 + 1 < 65; omega), projT_at]
    refine congrArg (· * A5 (ix3 0 1 q)) (congrArg (fun x => pr A0 A1 A2 A3 A4 b x ⟨2048 + q.val, by omega⟩) (Fin.ext ?_))
    show 64 * (r.val / 64) + (r.val % 64 + 1 - 1) = r.val
    omega
  · by_cases h : r.val % 64 = 63
    · rw [dif_pos h, dif_neg (by show ¬(1 ≤ r.val % 64 + 2 ∧ r.val % 64 + 2 < 65); omega), zero_mul]
    · rw [dif_neg h, dif_pos (by show 1 ≤ r.val % 64 + 2 ∧ r.val % 64 + 2 < 65; omega), projT_at]
      refine congrArg (· * A5 (ix3 0 2 q)) (congrArg (fun x => pr A0 A1 A2 A3 A4 b x ⟨2048 + q.val, by omega⟩) (Fin.ext ?_))
      show 64 * (r.val / 64) + (r.val % 64 + 2 - 1) = r.val + 1
      omega

theorem c_eq (A5 : S1x3x2560.Idx → Ideal .f32) (A6 : S1x2560.Idx → Ideal .f32) (b : Fin 8) (r : Fin 4096) (q : Fin 2560) :
    (cvR (cvP (padP (projT A0 A1 A2 A3 A4)) A5 A6) (ix3 b r q) : EReal) = gC A0 A1 A2 A3 A4 A5 A6 b r q := by
  rw [cvR_at, cv_eq]
  rfl

/-- A padded column's product is with zeros, whatever the features are, and so is 0. -/
theorem dt_eq (A7 : S1x2x24.Idx → Ideal .f32) (b : Fin 8) (r : Fin 4096) (j : Fin 256) :
    (dtR (dtP (projT A0 A1 A2 A3 A4) A7) (ix3 b r j) : EReal) = gDt A0 A1 A2 A3 A4 A7 b r j := by
  rw [dtR_at, dtP_at]
  unfold gDt
  refine congrArg splus ?_
  by_cases h : j.val % 128 < 24
  · rw [dif_pos h, projT_at]
    unfold pr wdt dtb
    rw [dif_pos h]
    refine congrArg (· + A7 (ix3 0 ⟨j.val / 128, by omega⟩ ⟨j.val % 128, h⟩)) (Finset.sum_congr rfl fun k _ => ?_)
    rw [dif_pos h]
  · rw [dif_neg h]
    unfold wdt dtb
    rw [dif_neg h, add_zero]
    refine (Finset.sum_eq_zero fun k _ => ?_).symm
    rw [dif_neg h, mul_zero]

theorem zr_eq (A9 : S128x256.Idx → Ideal .f32) (b : Fin 8) (r : Fin 4096) (j : Fin 512) :
    (zrR (projT A0 A1 A2 A3 A4) A9 (ix3 b r j) : EReal) = gF A0 A1 A2 A3 A4 A9 0 (by decide) b r j := by
  rw [zrR_at]
  exact Finset.sum_congr rfl fun e _ => by rw [projT_at]

theorem zi_eq (A9 : S128x256.Idx → Ideal .f32) (b : Fin 8) (r : Fin 4096) (j : Fin 512) :
    (ziR (projT A0 A1 A2 A3 A4) A9 (ix3 b r j) : EReal) = gF A0 A1 A2 A3 A4 A9 128 (by decide) b r j := by
  rw [ziR_at]
  exact Finset.sum_congr rfl fun e _ => by rw [projT_at]

theorem z_eq (b : Fin 8) (r : Fin 4096) (j : Fin 1536) : (zR (projT A0 A1 A2 A3 A4) (ix3 b r j) : EReal) = gZ A0 A1 A2 A3 A4 b r j := by
  rw [zR_at, projT_at]
  rfl

theorem g_eq (A8 : S1x2x1024.Idx → Ideal .f32) (b : Fin 8) (r : Fin 4096) (j : Fin 2048) :
    (gR (projT A0 A1 A2 A3 A4) A8 (ix3 b r j) : EReal) = gG A0 A1 A2 A3 A4 A8 b r j := by
  rw [gR_at, projT_at]
  rfl
end

end Cert.Proof.InRef
-- ==== Proof.InRun.lean ====
/- The projection's reference as a run: its eight results are the functions of the arguments `InSpec.lean` writes. -/
module

public import proofs.«01_k».proof.Proof.InRef

@[expose] public section

set_option maxRecDepth 16384

noncomputable section

namespace Cert.Proof.InRef

open Idealize.ShloMosaic Idealize.ShloMosaic.TcCoe Idealize.ShloMosaic.Tactic Idealize.SL.Sem
open Cert.InReferenceIdeal Cert.InReferenceIdeal.Gen
open Cert.Proof.InProj (gF gZ gC gDt gG arr3)

/-! ### The results whole -/

/-- An array whose elements are given is `arr3` of them. -/
theorem arr_of {n : Nat} (f : (⟨3, ![8, 4096, n]⟩ : Shape).Idx → EReal) (g : Fin 8 → Fin 4096 → Fin n → EReal) (h : ∀ b r j, f (ix3 b r j) = g b r j) : f = arr3 g := by
  funext y
  obtain ⟨b, r, j, rfl⟩ : ∃ (b : Fin 8) (r : Fin 4096) (j : Fin n), y = ix3 b r j := ⟨y 0, y 1, y 2, eq_ix3 y⟩
  exact h b r j

/-- The first 1536 convolved columns. -/
def xsR (C : S8x4096x2560.Idx → Ideal .f32) : S8x4096x1536.Idx → Ideal .bf16 :=
  truncf .bf16 (extractStridedSlice S8x4096x1536 ![0, 0, 0] C slices_S8x4096x2560_S8x4096x1536_0_0_0) bitsLt_bf16_f32

/-- The next 512. -/
def bmR (C : S8x4096x2560.Idx → Ideal .f32) : S8x4096x512.Idx → Ideal .bf16 :=
  truncf .bf16 (extractStridedSlice S8x4096x512 ![0, 0, 1536] C slices_S8x4096x2560_S8x4096x512_0_0_1536) bitsLt_bf16_f32

/-- The last 512. -/
def cmR (C : S8x4096x2560.Idx → Ideal .f32) : S8x4096x512.Idx → Ideal .bf16 :=
  truncf .bf16 (extractStridedSlice S8x4096x512 ![0, 0, 2048] C slices_S8x4096x2560_S8x4096x512_0_0_2048) bitsLt_bf16_f32

theorem xsR_at (C : S8x4096x2560.Idx → Ideal .f32) (b : Fin 8) (r : Fin 4096) (j : Fin 1536) (q : Fin 2560) (hq : q.val = j.val) : (xsR C (ix3 b r j) : EReal) = C (ix3 b r q) := by
  unfold xsR
  pointwise
  exact congrArg (fun x => C (ix3 b r x)) (Fin.ext (by simp [hq]))

theorem bmR_at (C : S8x4096x2560.Idx → Ideal .f32) (b : Fin 8) (r : Fin 4096) (j : Fin 512) (q : Fin 2560) (hq : q.val = 1536 + j.val) : (bmR C (ix3 b r j) : EReal) = C (ix3 b r q) := by
  unfold bmR
  pointwise
  exact congrArg (fun x => C (ix3 b r x)) (Fin.ext (by simp [hq]))

theorem cmR_at (C : S8x4096x2560.Idx → Ideal .f32) (b : Fin 8) (r : Fin 4096) (j : Fin 512) (q : Fin 2560) (hq : q.val = 2048 + j.val) : (cmR C (ix3 b r j) : EReal) = C (ix3 b r q) := by
  unfold cmR
  pointwise
  exact congrArg (fun x => C (ix3 b r x)) (Fin.ext (by simp [hq]))

section
variable (m : (ℓ : Loc nD τ sig) → Buf (Elt Ideal) ℓ) (ρ : Dev nD → PrngReg) (c : Dev nD)

abbrev b0 : S8x4096x1024.Idx → EReal := m ((c.tc : Thread nD τ).loc main_arg0)
abbrev b1 : S8x1x1024.Idx → EReal := m ((c.tc : Thread nD τ).loc main_arg1)
abbrev b2 : S8x1x1024.Idx → EReal := m ((c.tc : Thread nD τ).loc main_arg2)
abbrev b3 : S1x1024.Idx → EReal := m ((c.tc : Thread nD τ).loc main_arg3)
abbrev b4 : S1x1024x6704.Idx → EReal := m ((c.tc : Thread nD τ).loc main_arg4)
abbrev b5 : S1x3x2560.Idx → EReal := m ((c.tc : Thread nD τ).loc main_arg5)
abbrev b6 : S1x2560.Idx → EReal := m ((c.tc : Thread nD τ).loc main_arg6)
abbrev b7 : S1x2x24.Idx → EReal := m ((c.tc : Thread nD τ).loc main_arg7)
abbrev b8 : S1x2x1024.Idx → EReal := m ((c.tc : Thread nD τ).loc main_arg8)
abbrev b9 : S128x256.Idx → EReal := m ((c.tc : Thread nD τ).loc main_arg9)

theorem res0 : zrR (projT (b0 m c) (b1 m c) (b2 m c) (b3 m c) (b4 m c)) (b9 m c) = arr3 (n := 512) (gF (b0 m c) (b1 m c) (b2 m c) (b3 m c) (b4 m c) (b9 m c) 0 (by decide)) :=
  arr_of _ _ (zr_eq (b0 m c) (b1 m c) (b2 m c) (b3 m c) (b4 m c) (b9 m c))

theorem res1 : ziR (projT (b0 m c) (b1 m c) (b2 m c) (b3 m c) (b4 m c)) (b9 m c) = arr3 (n := 512) (gF (b0 m c) (b1 m c) (b2 m c) (b3 m c) (b4 m c) (b9 m c) 128 (by decide)) :=
  arr_of _ _ (zi_eq (b0 m c) (b1 m c) (b2 m c) (b3 m c) (b4 m c) (b9 m c))

theorem res2 : zR (projT (b0 m c) (b1 m c) (b2 m c) (b3 m c) (b4 m c)) = arr3 (n := 1536) (gZ (b0 m c) (b1 m c) (b2 m c) (b3 m c) (b4 m c)) :=
  arr_of _ _ (z_eq (b0 m c) (b1 m c) (b2 m c) (b3 m c) (b4 m c))

theorem res3 : xsR (cvR (cvP (padP (projT (b0 m c) (b1 m c) (b2 m c) (b3 m c) (b4 m c))) (b5 m c) (b6 m c))) = arr3 (n := 1536) (fun b r (j : Fin 1536) => gC (b0 m c) (b1 m c) (b2 m c) (b3 m c) (b4 m c) (b5 m c) (b6 m c) b r ⟨j.val, by omega⟩) :=
  arr_of _ _ (fun b r j => (xsR_at _ b r j ⟨j.val, by omega⟩ rfl).trans (c_eq (b0 m c) (b1 m c) (b2 m c) (b3 m c) (b4 m c) (b5 m c) (b6 m c) b r _))

theorem res4 : bmR (cvR (cvP (padP (projT (b0 m c) (b1 m c) (b2 m c) (b3 m c) (b4 m c))) (b5 m c) (b6 m c))) = arr3 (n := 512) (fun b r (j : Fin 512) => gC (b0 m c) (b1 m c) (b2 m c) (b3 m c) (b4 m c) (b5 m c) (b6 m c) b r ⟨1536 + j.val, by omega⟩) :=
  arr_of _ _ (fun b r j => (bmR_at _ b r j ⟨1536 + j.val, by omega⟩ rfl).trans (c_eq (b0 m c) (b1 m c) (b2 m c) (b3 m c) (b4 m c) (b5 m c) (b6 m c) b r _))

theorem res5 : cmR (cvR (cvP (padP (projT (b0 m c) (b1 m c) (b2 m c) (b3 m c) (b4 m c))) (b5 m c) (b6 m c))) = arr3 (n := 512) (fun b r (j : Fin 512) => gC (b0 m c) (b1 m c) (b2 m c) (b3 m c) (b4 m c) (b5 m c) (b6 m c) b r ⟨2048 + j.val, by omega⟩) :=
  arr_of _ _ (fun b r j => (cmR_at _ b r j ⟨2048 + j.val, by omega⟩ rfl).trans (c_eq (b0 m c) (b1 m c) (b2 m c) (b3 m c) (b4 m c) (b5 m c) (b6 m c) b r _))

theorem res6 : dtR (dtP (projT (b0 m c) (b1 m c) (b2 m c) (b3 m c) (b4 m c)) (b7 m c)) = arr3 (n := 256) (gDt (b0 m c) (b1 m c) (b2 m c) (b3 m c) (b4 m c) (b7 m c)) :=
  arr_of _ _ (dt_eq (b0 m c) (b1 m c) (b2 m c) (b3 m c) (b4 m c) (b7 m c))

theorem res7 : gR (projT (b0 m c) (b1 m c) (b2 m c) (b3 m c) (b4 m c)) (b8 m c) = arr3 (n := 2048) (gG (b0 m c) (b1 m c) (b2 m c) (b3 m c) (b4 m c) (b8 m c)) :=
  arr_of _ _ (g_eq (b0 m c) (b1 m c) (b2 m c) (b3 m c) (b4 m c) (b8 m c))
end

/-- The run, its results read. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v88) = arr3 (n := 512) (gF (b0 m c) (b1 m c) (b2 m c) (b3 m c) (b4 m c) (b9 m c) 0 (by decide))
      ∧ r.2.mem ((c.tc : Thread nD τ).loc main_v89) = arr3 (n := 512) (gF (b0 m c) (b1 m c) (b2 m c) (b3 m c) (b4 m c) (b9 m c) 128 (by decide))
      ∧ r.2.mem ((c.tc : Thread nD τ).loc main_v91) = arr3 (n := 1536) (gZ (b0 m c) (b1 m c) (b2 m c) (b3 m c) (b4 m c))
      ∧ r.2.mem ((c.tc : Thread nD τ).loc main_v92) = arr3 (n := 1536) (fun b r (j : Fin 1536) => gC (b0 m c) (b1 m c) (b2 m c) (b3 m c) (b4 m c) (b5 m c) (b6 m c) b r ⟨j.val, by omega⟩)
      ∧ r.2.mem ((c.tc : Thread nD τ).loc main_v93) = arr3 (n := 512) (fun b r (j : Fin 512) => gC (b0 m c) (b1 m c) (b2 m c) (b3 m c) (b4 m c) (b5 m c) (b6 m c) b r ⟨1536 + j.val, by omega⟩)
      ∧ r.2.mem ((c.tc : Thread nD τ).loc main_v94) = arr3 (n := 512) (fun b r (j : Fin 512) => gC (b0 m c) (b1 m c) (b2 m c) (b3 m c) (b4 m c) (b5 m c) (b6 m c) b r ⟨2048 + j.val, by omega⟩)
      ∧ r.2.mem ((c.tc : Thread nD τ).loc main_v75) = arr3 (n := 256) (gDt (b0 m c) (b1 m c) (b2 m c) (b3 m c) (b4 m c) (b7 m c))
      ∧ r.2.mem ((c.tc : Thread nD τ).loc main_v95) = arr3 (n := 2048) (gG (b0 m c) (b1 m c) (b2 m c) (b3 m c) (b4 m c) (b8 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r q c => ?_) (Value.run (F := Ideal) m ρ)
  obtain ⟨q0, q1, q2, q3, q4, q5, q6, q7, q⟩ := q c
  unfold Value.res_main_v92 at q3
  unfold Value.res_main_v93 at q4
  unfold Value.res_main_v94 at q5
  unfold Value.res_main_v75 at q6
  exact ⟨q0.trans (res0 m c), q1.trans (res1 m c), q2.trans (res2 m c), q3.trans (res3 m c), q4.trans (res4 m c), q5.trans (res5 m c), q6.trans (res6 m c), q7.trans (res7 m c), q⟩

end Cert.Proof.InRef

end
-- ==== Proof.InValue.lean ====
/- The projection call: its frames, and its value against the reference's. -/
module

public import proofs.«01_k».proof.Defs
public import proofs.«01_k».proof.Proof.InSame
public import proofs.«01_k».proof.Proof.InArr
public import proofs.«01_k».proof.Proof.InRun
public import Idealize.ShloMosaic.Adequacy
public import Idealize.ShloMosaic.Init

@[expose] public section

set_option maxRecDepth 16384
set_option maxHeartbeats 4000000

noncomputable section

namespace Cert.Proof.InProj

open Idealize.ShloMosaic Idealize.ShloMosaic.TcCoe Idealize.SL.Sem
open Cert.InKernelIdeal Cert.InKernelIdeal.Gen

/-- The projection call's frame at bits: one run over any float values serves both texts. -/
theorem frame_kernel : Cert.quiescent_InKernel := by
  intro m ρ _
  rw [same_run]
  exact frame (F := Bits) m ρ

/-- The projection call's frame over the extended reals. -/
theorem frame_ideal : Cert.quiescent_InKernelIdeal := fun m ρ _ => frame (F := Ideal) m ρ

/-- Its reference's frame. -/
theorem frame_reference : Cert.quiescent_InReferenceIdeal := fun m ρ _ =>
  (θ_run Cert.InReferenceIdeal.defs _ _).mono (fun r h => ⟨fun c => (h c).2.2.2.2.2.2.2.2, sem_eq_zero_of_no_sems (by decide) r.2⟩)
    (Cert.InReferenceIdeal.Value.run (F := Ideal) m ρ)

/-- The arguments after the kernel's run, and its results as the blocks it wrote. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49_0) = arr3 (n := 512) (gF (a0 m c) (a1 m c) (a2 m c) (a3 m c) (a4 m c) (a9 m c) 0 (by decide))
      ∧ r.2.mem ((c.tc : Thread nD τ).loc main_v49_1) = arr3 (n := 512) (gF (a0 m c) (a1 m c) (a2 m c) (a3 m c) (a4 m c) (a9 m c) 128 (by decide))
      ∧ r.2.mem ((c.tc : Thread nD τ).loc main_v49_2) = arr3 (n := 1536) (gZ (a0 m c) (a1 m c) (a2 m c) (a3 m c) (a4 m c))
      ∧ r.2.mem ((c.tc : Thread nD τ).loc main_v49_3) = arr3 (n := 1536) (fun b r (j : Fin 1536) => gC (a0 m c) (a1 m c) (a2 m c) (a3 m c) (a4 m c) (a5 m c) (a6 m c) b r ⟨j.val, by omega⟩)
      ∧ r.2.mem ((c.tc : Thread nD τ).loc main_v49_4) = arr3 (n := 512) (fun b r (j : Fin 512) => gC (a0 m c) (a1 m c) (a2 m c) (a3 m c) (a4 m c) (a5 m c) (a6 m c) b r ⟨1536 + j.val, by omega⟩)
      ∧ r.2.mem ((c.tc : Thread nD τ).loc main_v49_5) = arr3 (n := 512) (fun b r (j : Fin 512) => gC (a0 m c) (a1 m c) (a2 m c) (a3 m c) (a4 m c) (a5 m c) (a6 m c) b r ⟨2048 + j.val, by omega⟩)
      ∧ r.2.mem ((c.tc : Thread nD τ).loc main_v49_6) = arr3 (n := 256) (gDt (a0 m c) (a1 m c) (a2 m c) (a3 m c) (a4 m c) (a7 m c))
      ∧ r.2.mem ((c.tc : Thread nD τ).loc main_v49_7) = arr3 (n := 2048) (gG (a0 m c) (a1 m c) (a2 m c) (a3 m c) (a4 m c) (a8 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r q c => ?_) (θ_run_and (run_main m ρ) (frame m ρ))
  exact ⟨((q.1 c).1 20).trans (arr20 m c), ((q.1 c).1 21).trans (arr21 m c), ((q.1 c).1 22).trans (arr22 m c), ((q.1 c).1 23).trans (arr23 m c), ((q.1 c).1 24).trans (arr24 m c), ((q.1 c).1 25).trans (arr25 m c), ((q.1 c).1 26).trans (arr26 m c), ((q.1 c).1 27).trans (arr27 m c), q.2.1 c⟩

/-- The value: both runs end at the functions of the arguments `InSpec.lean` writes. -/
theorem value : Cert.algebraic_InKernelIdeal_InReferenceIdeal := by
  intro m g m' g' _ e
  refine ⟨fun c => arr3 (n := 512) (gF (a0 m c) (a1 m c) (a2 m c) (a3 m c) (a4 m c) (a9 m c) 0 (by decide)),
    fun c => arr3 (n := 512) (gF (a0 m c) (a1 m c) (a2 m c) (a3 m c) (a4 m c) (a9 m c) 128 (by decide)),
    fun c => arr3 (n := 1536) (gZ (a0 m c) (a1 m c) (a2 m c) (a3 m c) (a4 m c)),
    fun c => arr3 (n := 1536) (fun b r (j : Fin 1536) => gC (a0 m c) (a1 m c) (a2 m c) (a3 m c) (a4 m c) (a5 m c) (a6 m c) b r ⟨j.val, by omega⟩),
    fun c => arr3 (n := 512) (fun b r (j : Fin 512) => gC (a0 m c) (a1 m c) (a2 m c) (a3 m c) (a4 m c) (a5 m c) (a6 m c) b r ⟨1536 + j.val, by omega⟩),
    fun c => arr3 (n := 512) (fun b r (j : Fin 512) => gC (a0 m c) (a1 m c) (a2 m c) (a3 m c) (a4 m c) (a5 m c) (a6 m c) b r ⟨2048 + j.val, by omega⟩),
    fun c => arr3 (n := 256) (gDt (a0 m c) (a1 m c) (a2 m c) (a3 m c) (a4 m c) (a7 m c)),
    fun c => arr3 (n := 2048) (gG (a0 m c) (a1 m c) (a2 m c) (a3 m c) (a4 m c) (a8 m c)),
    run_kernel m g, (θ_run Cert.InReferenceIdeal.defs _ _).mono (fun r q c => ?_) (InRef.run m' g')⟩
  obtain ⟨e0, e1, e2, e3, e4, e5, e6, e7, e8, e9⟩ := e c
  have k0 : InRef.b0 m' c = a0 m c := e0
  have k1 : InRef.b1 m' c = a1 m c := e1
  have k2 : InRef.b2 m' c = a2 m c := e2
  have k3 : InRef.b3 m' c = a3 m c := e3
  have k4 : InRef.b4 m' c = a4 m c := e4
  have k5 : InRef.b5 m' c = a5 m c := e5
  have k6 : InRef.b6 m' c = a6 m c := e6
  have k7 : InRef.b7 m' c = a7 m c := e7
  have k8 : InRef.b8 m' c = a8 m c := e8
  have k9 : InRef.b9 m' c = a9 m c := e9
  obtain ⟨q0, q1, q2, q3, q4, q5, q6, q7, q⟩ := q c
  exact ⟨q0.trans (by rw [k0, k1, k2, k3, k4, k9]), q1.trans (by rw [k0, k1, k2, k3, k4, k9]), q2.trans (by rw [k0, k1, k2, k3, k4]), q3.trans (by rw [k0, k1, k2, k3, k4, k5, k6]), q4.trans (by rw [k0, k1, k2, k3, k4, k5, k6]), q5.trans (by rw [k0, k1, k2, k3, k4, k5, k6]), q6.trans (by rw [k0, k1, k2, k3, k4, k7]), q7.trans (by rw [k0, k1, k2, k3, k4, k8]), q⟩

end Cert.Proof.InProj

end
-- ==== Proof.MixSame.lean ====
/- The two printed texts of the merge call are one: no rewrite was offered, so the body, the body table and the host program are
   the same terms, and a run of one is a run of the other. -/
module

public import proofs.«01_k».proof.Defs
public import proofs.«01_k».proof.Proof.Gen.MixKernel
public import proofs.«01_k».proof.Proof.Gen.MixKernelIdeal

@[expose] public section

set_option maxRecDepth 16384
set_option maxHeartbeats 1000000

noncomputable section

namespace Cert.Proof.Mix

open Idealize.ShloMosaic Idealize.SL.Sem

/-- The kernel functions. -/
theorem same_body : Cert.MixKernel.cc0_merge_out_router (F := Bits) = Cert.MixKernelIdeal.cc0_merge_out_router (F := Bits) := rfl

/-- The body tables: one label, the kernel function on the same operands. -/
theorem same_bodies : Cert.MixKernel.defs₀ (F := Bits) = Cert.MixKernelIdeal.defs₀ (F := Bits) := by
  unfold Cert.MixKernel.defs₀ Cert.MixKernelIdeal.defs₀
  refine congrArg Defs.onTc (funext fun l => funext fun x => ?_)
  match l, x with
  | ⟨0, _⟩, (t, s) =>
    dsimp only
    rw [same_body]
    rfl
  | ⟨_ + 1, h⟩, _ => exact absurd h (Nat.not_lt.2 (Nat.le_add_left _ _))

/-- The definition tables. -/
theorem same_defs : Cert.MixKernel.defs (F := Bits) = Cert.MixKernelIdeal.defs (F := Bits) := by
  unfold Cert.MixKernel.defs Cert.MixKernelIdeal.defs
  rw [same_bodies]
  rfl

/-- The host programs. -/
theorem same_main : Cert.MixKernel.main (F := Bits) = Cert.MixKernelIdeal.main (F := Bits) := rfl

/-- The runs. -/
theorem same_run (m : (ℓ : Loc Cert.MixKernel.nD Cert.MixKernel.τ Cert.MixKernel.sig) → Buf (Elt Bits) ℓ) (ρ : Dev Cert.MixKernel.nD → PrngReg) :
    θ_run (Cert.MixKernel.defs (F := Bits)) (onTc (τ := Cert.MixKernel.τ) (Cert.MixKernel.main (F := Bits))) ⟨m, fun _ => 0, ρ⟩
      = θ_run (Cert.MixKernelIdeal.defs (F := Bits)) (onTc (τ := Cert.MixKernelIdeal.τ) (Cert.MixKernelIdeal.main (F := Bits))) ⟨m, fun _ => 0, ρ⟩ := by
  rw [same_defs, same_main]
  rfl

end Cert.Proof.Mix
end
-- ==== Proof.MixBody.lean ====
/- The merge's body: what each store writes, row by row. -/
module

public import proofs.«01_k».proof.Proof.Gen.MixKernelIdeal.Skeleton
public import Idealize.ShloMosaic.Lib.Pointwise

@[expose] public section

set_option maxRecDepth 16384

noncomputable section

namespace Cert.Proof.Mix

open Cert.MixKernelIdeal Cert.MixKernelIdeal.Gen
open Idealize.ShloMosaic Idealize.ShloMosaic.TcCoe Idealize.ShloMosaic.Tactic
open Finset

/-- A row over `n` columns divided by its root mean square (`N` spells `n` as a float) and scaled. -/
def rmsRow {n : Nat} (N : BitVec 32) (X gain : Fin n → EReal) (k : Fin n) : EReal :=
  (X k * Ideal.rsqrt (Ideal.div (∑ x : Fin n, X x * X x) (Ideal.ofBits .f32 N) + Ideal.ofBits .f32 0x358637BD#32)) * gain k

/-- The two scans' sum with the skip, times the gate. -/
def gated (yf yb d xs z : Fin 1536 → EReal) (k : Fin 1536) : EReal := (yf k + yb k + d k * xs k) * z k

/-- The two branches' products, weighted by their gates and merged by the last product. -/
def mixRow (Y : Fin 1536 → EReal) (f : Fin 512 → EReal) (g : Fin 2048 → EReal) (ws : Fin 1536 → Fin 1024 → EReal) (wf : Fin 512 → Fin 1024 → EReal)
    (wo : Fin 1024 → Fin 1024 → EReal) (j : Fin 1024) : EReal :=
  ∑ k : Fin 1024, (g ⟨k.val, by omega⟩ * (∑ e : Fin 512, f e * wf e k) + g ⟨1024 + k.val, by omega⟩ * (∑ e : Fin 1536, Y e * ws e k)) * wo k j

/-- The residual: the input row and the gated, normalised mix. -/
def hxRow (m x g np : Fin 1024 → EReal) (j : Fin 1024) : EReal := x j + g j * rmsRow 0x44800000#32 m np j

/-- A row normalised, scaled and shifted. -/
def hmRow (h nq sc sh : Fin 1024 → EReal) (j : Fin 1024) : EReal := rmsRow 0x44800000#32 h nq j * (1 + sc j) + sh j

theorem yn0_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay7 (F := Ideal) (k0_pay5 n) (k0_pay6 yf yb d xs z) (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay7 k0_pay6 k0_pay5 rmsRow gated
  pointwise

theorem yn1_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay8 (F := Ideal) yf yb d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay8 rmsRow gated
  pointwise

theorem yn2_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay9 (F := Ideal) yf yb d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay9 rmsRow gated
  pointwise

theorem yn3_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay12 (F := Ideal) (k0_pay10 yf) (k0_pay11 yb) d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay12 k0_pay11 k0_pay10 rmsRow gated
  pointwise

theorem mix0_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay23 (F := Ideal) (k0_pay13 Y ws) (k0_pay17 f wf) (k0_pay21 g) wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay23 k0_pay13 k0_pay17 k0_pay21 mixRow
  pointwise

theorem mix1_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay24 (F := Ideal) (k0_pay14 Y ws) (k0_pay18 f wf) g wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay24 k0_pay14 k0_pay18 mixRow
  pointwise

theorem mix2_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay25 (F := Ideal) (k0_pay15 Y ws) (k0_pay19 f wf) g wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay25 k0_pay15 k0_pay19 mixRow
  pointwise

theorem mix3_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay26 (F := Ideal) (k0_pay22 (k0_pay16 Y ws) (k0_pay20 f wf) g) wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay26 k0_pay22 k0_pay16 k0_pay20 mixRow
  pointwise

theorem hv0_at (m : S128x1024.Idx → Ideal .f32) (x : S1x128x1024.Idx → Ideal .f32) (g : S1x1x1024.Idx → Ideal .f32) (np : S1x1024.Idx → Ideal .f32) (s : Fin 128) (j : Fin 1024) :
    (k0_pay27 (F := Ideal) m x g np (ix2 s j) : EReal)
      = hxRow (fun k => m (ix2 s k)) (fun k => x (ix3 0 s k)) (fun k => g (ix3 0 0 k)) (fun k => np (ix2 0 k)) j := by
  unfold k0_pay27 hxRow rmsRow
  pointwise

theorem hx0_at (m : S128x1024.Idx → Ideal .f32) (x : S1x128x1024.Idx → Ideal .f32) (g : S1x1x1024.Idx → Ideal .f32) (np : S1x1024.Idx → Ideal .f32) (s : Fin 128) (j : Fin 1024) :
    (k0_pay28 (F := Ideal) m x g np (ix3 0 s j) : EReal)
      = hxRow (fun k => m (ix2 s k)) (fun k => x (ix3 0 s k)) (fun k => g (ix3 0 0 k)) (fun k => np (ix2 0 k)) j := by
  refine Eq.trans ?_ (hv0_at m x g np s j)
  unfold k0_pay28
  pointwise

theorem hv1_at (m : S128x1024.Idx → Ideal .f32) (x : S1x128x1024.Idx → Ideal .f32) (g : S1x1x1024.Idx → Ideal .f32) (np : S1x1024.Idx → Ideal .f32) (s : Fin 128) (j : Fin 1024) :
    (k0_pay35 (F := Ideal) m (k0_pay33 x) (k0_pay34 g) np (ix2 s j) : EReal)
      = hxRow (fun k => m (ix2 s k)) (fun k => x (ix3 0 s k)) (fun k => g (ix3 0 0 k)) (fun k => np (ix2 0 k)) j := by
  unfold k0_pay35 k0_pay33 k0_pay34 hxRow rmsRow
  pointwise

theorem hx1_at (m : S128x1024.Idx → Ideal .f32) (x : S1x128x1024.Idx → Ideal .f32) (g : S1x1x1024.Idx → Ideal .f32) (np : S1x1024.Idx → Ideal .f32) (s : Fin 128) (j : Fin 1024) :
    (k0_pay36 (F := Ideal) m (k0_pay33 x) (k0_pay34 g) np (ix3 0 s j) : EReal)
      = hxRow (fun k => m (ix2 s k)) (fun k => x (ix3 0 s k)) (fun k => g (ix3 0 0 k)) (fun k => np (ix2 0 k)) j := by
  refine Eq.trans ?_ (hv1_at m x g np s j)
  unfold k0_pay36
  pointwise

theorem hv2_at (m : S128x1024.Idx → Ideal .f32) (x : S1x128x1024.Idx → Ideal .f32) (g : S1x1x1024.Idx → Ideal .f32) (np : S1x1024.Idx → Ideal .f32) (s : Fin 128) (j : Fin 1024) :
    (k0_pay41 (F := Ideal) m x g np (ix2 s j) : EReal)
      = hxRow (fun k => m (ix2 s k)) (fun k => x (ix3 0 s k)) (fun k => g (ix3 0 0 k)) (fun k => np (ix2 0 k)) j := by
  unfold k0_pay41 hxRow rmsRow
  pointwise

theorem hx2_at (m : S128x1024.Idx → Ideal .f32) (x : S1x128x1024.Idx → Ideal .f32) (g : S1x1x1024.Idx → Ideal .f32) (np : S1x1024.Idx → Ideal .f32) (s : Fin 128) (j : Fin 1024) :
    (k0_pay42 (F := Ideal) (k0_pay41 m x g np) (ix3 0 s j) : EReal)
      = hxRow (fun k => m (ix2 s k)) (fun k => x (ix3 0 s k)) (fun k => g (ix3 0 0 k)) (fun k => np (ix2 0 k)) j := by
  refine Eq.trans ?_ (hv2_at m x g np s j)
  unfold k0_pay42
  pointwise

theorem hv3_at (m : S128x1024.Idx → Ideal .f32) (x : S1x128x1024.Idx → Ideal .f32) (g : S1x1x1024.Idx → Ideal .f32) (np : S1x1024.Idx → Ideal .f32) (s : Fin 128) (j : Fin 1024) :
    (k0_pay46 (F := Ideal) m x g np (ix2 s j) : EReal)
      = hxRow (fun k => m (ix2 s k)) (fun k => x (ix3 0 s k)) (fun k => g (ix3 0 0 k)) (fun k => np (ix2 0 k)) j := by
  unfold k0_pay46 hxRow rmsRow
  pointwise

theorem hx3_at (m : S128x1024.Idx → Ideal .f32) (x : S1x128x1024.Idx → Ideal .f32) (g : S1x1x1024.Idx → Ideal .f32) (np : S1x1024.Idx → Ideal .f32) (s : Fin 128) (j : Fin 1024) :
    (k0_pay47 (F := Ideal) m x g np (ix3 0 s j) : EReal)
      = hxRow (fun k => m (ix2 s k)) (fun k => x (ix3 0 s k)) (fun k => g (ix3 0 0 k)) (fun k => np (ix2 0 k)) j := by
  refine Eq.trans ?_ (hv3_at m x g np s j)
  unfold k0_pay47
  pointwise

/-- Lane `l` of the group `q` of a row of 1024. -/
def lane (q : Fin 8) (l : Fin 128) : Fin 1024 := ⟨128 * q.val + l.val, by omega⟩

theorem hmv0_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay31 (F := Ideal) (k0_pay27 m x g np) (k0_pay29 nq) (k0_pay30 m x g np) sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv0_at m x g np s)]
  unfold k0_pay31 k0_pay30 k0_pay29 hmRow rmsRow
  pointwise

theorem hm0_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (q : Fin 8) (l : Fin 128) :
    (k0_pay32 (F := Ideal) (k0_pay27 m x g np) (k0_pay29 nq) (k0_pay30 m x g np) sc sh (ix4 0 s q l) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) (lane q l) := by
  refine Eq.trans ?_ (hmv0_at m x g np nq sc sh s (lane q l))
  unfold k0_pay32 lane
  fin_cases q <;> pointwise

theorem hmv1_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay39 (F := Ideal) (k0_pay37 m (k0_pay33 x) (k0_pay34 g) np nq sc) (k0_pay38 sh) (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv1_at m x g np s)]
  unfold k0_pay39 k0_pay38 k0_pay37 hmRow rmsRow
  pointwise

theorem hm1_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (q : Fin 8) (l : Fin 128) :
    (k0_pay40 (F := Ideal) (k0_pay37 m (k0_pay33 x) (k0_pay34 g) np nq sc) (k0_pay38 sh) (ix4 0 s q l) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) (lane q l) := by
  refine Eq.trans ?_ (hmv1_at m x g np nq sc sh s (lane q l))
  unfold k0_pay40 lane
  fin_cases q <;> pointwise

theorem hmv2_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay43 (F := Ideal) (k0_pay41 m x g np) nq sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv2_at m x g np s)]
  unfold k0_pay43 hmRow rmsRow
  pointwise

theorem hm2_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (q : Fin 8) (l : Fin 128) :
    (k0_pay45 (F := Ideal) (k0_pay44 (k0_pay41 m x g np) nq sc sh) (ix4 0 s q l) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) (lane q l) := by
  refine Eq.trans ?_ (hmv2_at m x g np nq sc sh s (lane q l))
  unfold k0_pay45 k0_pay44 lane
  fin_cases q <;> pointwise

theorem hmv3_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay50 (F := Ideal) (k0_pay46 m x g np) (k0_pay48 nq) (k0_pay49 m x g np) (Scalar.ofBits .f32 0x358637BD#32) sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv3_at m x g np s)]
  unfold k0_pay50 k0_pay49 k0_pay48 hmRow rmsRow
  pointwise

theorem hm3_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (q : Fin 8) (l : Fin 128) :
    (k0_pay51 (F := Ideal) (k0_pay46 m x g np) (k0_pay48 nq) (k0_pay49 m x g np) (Scalar.ofBits .f32 0x358637BD#32) sc sh (ix4 0 s q l) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) (lane q l) := by
  refine Eq.trans ?_ (hmv3_at m x g np nq sc sh s (lane q l))
  unfold k0_pay51 lane
  fin_cases q <;> pointwise

end Cert.Proof.Mix
-- ==== Proof.MixOut.lean ====
/- The blocks a point of the merge writes: the residual stream and its normalised rows. -/
module

public import proofs.«01_k».proof.Proof.Gen.MixKernelIdeal.Frame
public import proofs.«01_k».proof.Proof.MixBody

@[expose] public section

set_option maxRecDepth 16384

noncomputable section

namespace Cert.Proof.Mix

open Cert.MixKernelIdeal Cert.MixKernelIdeal.Gen
open Idealize.ShloMosaic Idealize.ShloMosaic.TcCoe Idealize.ShloMosaic.Tactic
open Finset

/-- Row `s` of the quarter `q` of a block. -/
def rowQ (q : Fin 4) (s : Fin 128) : Fin 512 := ⟨128 * q.val + s.val, by omega⟩

/-- A rectangle of a quarter's rows sends a row to the block's row. -/
theorem emb_row {n : Nat} (q : Fin 4) (off : Fin 3 → Nat) (h0 : off 0 = 0) (h1 : off 1 = 128 * q.val) (h2 : off 2 = 0)
    (inb : ∀ a, off a + (⟨3, ![1, 128, n]⟩ : Shape).size a ≤ (⟨3, ![1, 512, n]⟩ : Shape).size a) (z : Fin 1) (s : Fin 128) (j : Fin n) :
    (Rect.unit (s := ⟨3, ![1, 512, n]⟩) off (⟨3, ![1, 128, n]⟩ : Shape).size inb).emb (ix3 z s j) = ix3 0 (rowQ q s) j := by
  funext x
  apply Fin.ext
  fin_cases x <;> simp [Rect.unit, Rect.emb, ix3, rowQ, h0, h1, h2] <;> omega

/-- The same for rows laid out as eight groups of 128 lanes. -/
theorem emb_row4 (q : Fin 4) (off : Fin 4 → Nat) (h0 : off 0 = 0) (h1 : off 1 = 128 * q.val) (h2 : off 2 = 0) (h3 : off 3 = 0)
    (inb : ∀ a, off a + S1x128x8x128.size a ≤ S1x512x8x128.size a) (z : Fin 1) (s : Fin 128) (p : Fin 8) (l : Fin 128) :
    (Rect.unit (s := S1x512x8x128) off S1x128x8x128.size inb).emb (ix4 z s p l) = ix4 0 (rowQ q s) p l := by
  funext x
  apply Fin.ext
  fin_cases x <;> simp [Rect.unit, Rect.emb, ix4, rowQ, h0, h1, h2, h3] <;> omega

theorem rq_inb (n : Nat) : ∀ (q : Fin 4) (a : Fin 3), (![0, 128 * q.val, 0] : Fin 3 → Nat) a + (⟨3, ![1, 128, n]⟩ : Shape).size a ≤ (⟨3, ![1, 512, n]⟩ : Shape).size a := by
  intro q a
  fin_cases a <;> simp <;> omega

/-- The rectangle of a block's quarter `q`. -/
abbrev rq (n : Nat) (q : Fin 4) : Rect (⟨3, ![1, 512, n]⟩ : Shape) := Rect.unit (s := ⟨3, ![1, 512, n]⟩) ![0, 128 * q.val, 0] (⟨3, ![1, 128, n]⟩ : Shape).size (rq_inb n q)

/-- An element of a quarter. -/
theorem ld_row {n : Nat} {e : EltTy} (x : (⟨3, ![1, 512, n]⟩ : Shape).Idx → Elt Ideal e) (q : Fin 4) (s : Fin 128) (k : Fin n) :
    View.ld (Val := Elt Ideal) (e' := e) x (rq n q) (ix3 0 s k) = x (ix3 0 (rowQ q s) k) := congrArg x (emb_row q _ rfl rfl rfl (rq_inb n q) 0 s k)

theorem mixRow_congr {Y Y' : Fin 1536 → EReal} {f f' : Fin 512 → EReal} {g g' : Fin 2048 → EReal} (ws : Fin 1536 → Fin 1024 → EReal) (wf : Fin 512 → Fin 1024 → EReal)
    (wo : Fin 1024 → Fin 1024 → EReal) (j : Fin 1024) (hY : ∀ k, Y k = Y' k) (hf : ∀ k, f k = f' k) (hg : ∀ k, g k = g' k) :
    mixRow Y f g ws wf wo j = mixRow Y' f' g' ws wf wo j := by
  rw [funext hY, funext hf, funext hg]

section
variable (x0 x1 x2 x3 : S1x512x1536.Idx → Ideal .bf16) (x4 : S1x512x512.Idx → Ideal .f32) (x5 : S1x512x2048.Idx → Ideal .bf16) (x6 : S1x512x1024.Idx → Ideal .f32)
    (x7 x8 x9 : S1x1x1024.Idx → Ideal .f32) (x10 x11 : S1x1536.Idx → Ideal .f32) (x12 x13 : S1x1024.Idx → Ideal .f32) (x14 : S1536x1024.Idx → Ideal .bf16) (x15 : S512x1024.Idx → Ideal .bf16)
    (x16 : S1024x1024.Idx → Ideal .bf16) (x17 : S1024x128.Idx → Ideal .f32)

/-- A row of the scans, gated and normalised. -/
def yRow (r : Fin 512) (k : Fin 1536) : EReal :=
  rmsRow 0x44C00000#32 (gated (fun k => x0 (ix3 0 r k)) (fun k => x1 (ix3 0 r k)) (fun k => x10 (ix2 0 k)) (fun k => x2 (ix3 0 r k)) (fun k => x3 (ix3 0 r k))) (fun k => x11 (ix2 0 k)) k

/-- A row of the merged mix. -/
def mRow (r : Fin 512) (j : Fin 1024) : EReal :=
  mixRow (yRow x0 x1 x2 x3 x10 x11 r) (fun k => x4 (ix3 0 r k)) (fun k => x5 (ix3 0 r k)) (fun e k => x14 (ix2 e k)) (fun e k => x15 (ix2 e k)) (fun e k => x16 (ix2 e k)) j

/-- A row of the residual stream. -/
def xRow (r : Fin 512) (j : Fin 1024) : EReal :=
  hxRow (mRow x0 x1 x2 x3 x4 x5 x10 x11 x14 x15 x16 r) (fun k => x6 (ix3 0 r k)) (fun k => x7 (ix3 0 0 k)) (fun k => x12 (ix2 0 k)) j

/-- A row of the stream, normalised and modulated. -/
def nRow (r : Fin 512) (j : Fin 1024) : EReal :=
  hmRow (xRow x0 x1 x2 x3 x4 x5 x6 x7 x10 x11 x12 x14 x15 x16 r) (fun k => x13 (ix2 0 k)) (fun k => x9 (ix3 0 0 k)) (fun k => x8 (ix3 0 0 k)) j

def outX (y : S1x512x1024.Idx) : EReal := xRow x0 x1 x2 x3 x4 x5 x6 x7 x10 x11 x12 x14 x15 x16 (y 1) (y 2)
def outN (y : S1x512x8x128.Idx) : EReal := nRow x0 x1 x2 x3 x4 x5 x6 x7 x8 x9 x10 x11 x12 x13 x14 x15 x16 (y 1) (lane (y 2) (y 3))

/-- A quarter's normalised rows are the block's. -/
theorem y_row (q : Fin 4) (Y : S128x1536.Idx → EReal)
    (h : ∀ s k, Y (ix2 s k) = rmsRow 0x44C00000#32 (gated (fun k => View.ld (Val := Elt Ideal) (e' := .bf16) x0 (rq 1536 q) (ix3 0 s k)) (fun k => View.ld (Val := Elt Ideal) (e' := .bf16) x1 (rq 1536 q) (ix3 0 s k))
      (fun k => x10 (ix2 0 k)) (fun k => View.ld (Val := Elt Ideal) (e' := .bf16) x2 (rq 1536 q) (ix3 0 s k)) (fun k => View.ld (Val := Elt Ideal) (e' := .bf16) x3 (rq 1536 q) (ix3 0 s k))) (fun k => x11 (ix2 0 k)) k)
    (s : Fin 128) (k : Fin 1536) : Y (ix2 s k) = yRow x0 x1 x2 x3 x10 x11 (rowQ q s) k := by
  rw [h, funext fun k => ld_row (n := 1536) (e := .bf16) x0 q s k, funext fun k => ld_row (n := 1536) (e := .bf16) x1 q s k, funext fun k => ld_row (n := 1536) (e := .bf16) x2 q s k,
    funext fun k => ld_row (n := 1536) (e := .bf16) x3 q s k]
  rfl

/-- A quarter's mix is the block's. -/
theorem m_row (q : Fin 4) (Y : S128x1536.Idx → EReal) (M : S128x1024.Idx → EReal) (hY : ∀ s k, Y (ix2 s k) = yRow x0 x1 x2 x3 x10 x11 (rowQ q s) k)
    (h : ∀ s j, M (ix2 s j) = mixRow (fun k => Y (ix2 s k)) (fun k => View.ld (Val := Elt Ideal) (e' := .f32) x4 (rq 512 q) (ix3 0 s k)) (fun k => View.ld (Val := Elt Ideal) (e' := .bf16) x5 (rq 2048 q) (ix3 0 s k))
      (fun e k => x14 (ix2 e k)) (fun e k => x15 (ix2 e k)) (fun e k => x16 (ix2 e k)) j)
    (s : Fin 128) (j : Fin 1024) : M (ix2 s j) = mRow x0 x1 x2 x3 x4 x5 x10 x11 x14 x15 x16 (rowQ q s) j :=
  (h s j).trans (mixRow_congr _ _ _ j (hY s) (fun k => ld_row (n := 512) (e := .f32) x4 q s k) fun k => ld_row (n := 2048) (e := .bf16) x5 q s k)

/-- A quarter's rows of the stream. -/
theorem x_piece (q : Fin 4) (M : S128x1024.Idx → EReal) (H : S1x128x1024.Idx → EReal) (hM : ∀ s j, M (ix2 s j) = mRow x0 x1 x2 x3 x4 x5 x10 x11 x14 x15 x16 (rowQ q s) j)
    (h : ∀ s j, H (ix3 0 s j) = hxRow (fun k => M (ix2 s k)) (fun k => View.ld (Val := Elt Ideal) (e' := .f32) x6 (rq 1024 q) (ix3 0 s k)) (fun k => x7 (ix3 0 0 k)) (fun k => x12 (ix2 0 k)) j)
    (off : Fin 3 → Nat) (h0 : off 0 = 0) (h1 : off 1 = 128 * q.val) (h2 : off 2 = 0) (inb) (x : S1x128x1024.Idx) :
    H x = outX x0 x1 x2 x3 x4 x5 x6 x7 x10 x11 x12 x14 x15 x16 ((Rect.unit (s := S1x512x1024) off S1x128x1024.size inb).emb x) := by
  obtain ⟨z, s, j, rfl⟩ : ∃ z s j, x = ix3 z s j := ⟨x 0, x 1, x 2, by funext a; fin_cases a <;> rfl⟩
  obtain rfl : z = 0 := Subsingleton.elim _ _
  rw [h, funext (hM s), funext fun k => ld_row (n := 1024) (e := .f32) x6 q s k]
  exact (congrArg (outX x0 x1 x2 x3 x4 x5 x6 x7 x10 x11 x12 x14 x15 x16) (emb_row q off h0 h1 h2 inb 0 s j)).symm

/-- A quarter's rows, normalised. -/
theorem n_piece (q : Fin 4) (M : S128x1024.Idx → EReal) (H : S1x128x8x128.Idx → EReal) (hM : ∀ s j, M (ix2 s j) = mRow x0 x1 x2 x3 x4 x5 x10 x11 x14 x15 x16 (rowQ q s) j)
    (h : ∀ s p l, H (ix4 0 s p l) = hmRow (hxRow (fun k => M (ix2 s k)) (fun k => View.ld (Val := Elt Ideal) (e' := .f32) x6 (rq 1024 q) (ix3 0 s k)) (fun k => x7 (ix3 0 0 k)) (fun k => x12 (ix2 0 k)))
      (fun k => x13 (ix2 0 k)) (fun k => x9 (ix3 0 0 k)) (fun k => x8 (ix3 0 0 k)) (lane p l))
    (off : Fin 4 → Nat) (h0 : off 0 = 0) (h1 : off 1 = 128 * q.val) (h2 : off 2 = 0) (h3 : off 3 = 0) (inb) (x : S1x128x8x128.Idx) :
    H x = outN x0 x1 x2 x3 x4 x5 x6 x7 x8 x9 x10 x11 x12 x13 x14 x15 x16 ((Rect.unit (s := S1x512x8x128) off S1x128x8x128.size inb).emb x) := by
  obtain ⟨z, s, p, l, rfl⟩ : ∃ z s p l, x = ix4 z s p l := ⟨x 0, x 1, x 2, x 3, by funext a; fin_cases a <;> rfl⟩
  obtain rfl : z = 0 := Subsingleton.elim _ _
  rw [h, funext (hM s), funext fun k => ld_row (n := 1024) (e := .f32) x6 q s k]
  exact (congrArg (outN x0 x1 x2 x3 x4 x5 x6 x7 x8 x9 x10 x11 x12 x13 x14 x15 x16) (emb_row4 q off h0 h1 h2 h3 inb 0 s p l)).symm

/-- The mix of a quarter as the body spells it. -/
def mixQ : Fin 4 → S128x1024.Idx → EReal
  | 0 => k0_pay23 (F := Ideal) (k0_pay13 (k0_pay7 (k0_pay5 x11) (k0_pay6 (View.ld x0 (rq 1536 0)) (View.ld x1 (rq 1536 0)) x10 (View.ld x2 (rq 1536 0)) (View.ld x3 (rq 1536 0)))) x14)
      (k0_pay17 (View.ld x4 (rq 512 0)) x15) (k0_pay21 (View.ld x5 (rq 2048 0))) x16
  | 1 => k0_pay24 (F := Ideal) (k0_pay14 (k0_pay8 (View.ld x0 (rq 1536 1)) (View.ld x1 (rq 1536 1)) x10 (View.ld x2 (rq 1536 1)) (View.ld x3 (rq 1536 1)) x11) x14)
      (k0_pay18 (View.ld x4 (rq 512 1)) x15) (View.ld x5 (rq 2048 1)) x16
  | 2 => k0_pay25 (F := Ideal) (k0_pay15 (k0_pay9 (View.ld x0 (rq 1536 2)) (View.ld x1 (rq 1536 2)) x10 (View.ld x2 (rq 1536 2)) (View.ld x3 (rq 1536 2)) x11) x14)
      (k0_pay19 (View.ld x4 (rq 512 2)) x15) (View.ld x5 (rq 2048 2)) x16
  | 3 => k0_pay26 (F := Ideal) (k0_pay22 (k0_pay16 (k0_pay12 (k0_pay10 (View.ld x0 (rq 1536 3))) (k0_pay11 (View.ld x1 (rq 1536 3))) x10 (View.ld x2 (rq 1536 3)) (View.ld x3 (rq 1536 3)) x11) x14)
      (k0_pay20 (View.ld x4 (rq 512 3)) x15) (View.ld x5 (rq 2048 3))) x16

theorem mixQ_row (q : Fin 4) (s : Fin 128) (j : Fin 1024) :
    mixQ x0 x1 x2 x3 x4 x5 x10 x11 x14 x15 x16 q (ix2 s j) = mRow x0 x1 x2 x3 x4 x5 x10 x11 x14 x15 x16 (rowQ q s) j := by
  fin_cases q
  · exact m_row x0 x1 x2 x3 x4 x5 x10 x11 x14 x15 x16 0 _ _ (y_row x0 x1 x2 x3 x10 x11 0 _ (yn0_at _ _ x10 _ _ x11)) (mix0_at _ x14 _ x15 _ x16) s j
  · exact m_row x0 x1 x2 x3 x4 x5 x10 x11 x14 x15 x16 1 _ _ (y_row x0 x1 x2 x3 x10 x11 1 _ (yn1_at _ _ x10 _ _ x11)) (mix1_at _ x14 _ x15 _ x16) s j
  · exact m_row x0 x1 x2 x3 x4 x5 x10 x11 x14 x15 x16 2 _ _ (y_row x0 x1 x2 x3 x10 x11 2 _ (yn2_at _ _ x10 _ _ x11)) (mix2_at _ x14 _ x15 _ x16) s j
  · exact m_row x0 x1 x2 x3 x4 x5 x10 x11 x14 x15 x16 3 _ _ (y_row x0 x1 x2 x3 x10 x11 3 _ (yn3_at _ _ x10 _ _ x11)) (mix3_at _ x14 _ x15 _ x16) s j

theorem all_x7 : View.ld (Val := Elt Ideal) (e' := .f32) x7 r0_18 = x7 := by rw [View.ld_unit_zero (by funext a; fin_cases a <;> rfl)]
theorem all_x8 : View.ld (Val := Elt Ideal) (e' := .f32) x8 r0_18 = x8 := by rw [View.ld_unit_zero (by funext a; fin_cases a <;> rfl)]
theorem all_x9 : View.ld (Val := Elt Ideal) (e' := .f32) x9 r0_18 = x9 := by rw [View.ld_unit_zero (by funext a; fin_cases a <;> rfl)]
theorem all_x10 : View.ld (Val := Elt Ideal) (e' := .f32) x10 r0_2 = x10 := by rw [View.ld_unit_zero (by funext a; fin_cases a <;> rfl)]
theorem all_x11 : View.ld (Val := Elt Ideal) (e' := .f32) x11 r0_2 = x11 := by rw [View.ld_unit_zero (by funext a; fin_cases a <;> rfl)]
theorem all_x12 : View.ld (Val := Elt Ideal) (e' := .f32) x12 r0_19 = x12 := by rw [View.ld_unit_zero (by funext a; fin_cases a <;> rfl)]
theorem all_x13 : View.ld (Val := Elt Ideal) (e' := .f32) x13 r0_19 = x13 := by rw [View.ld_unit_zero (by funext a; fin_cases a <;> rfl)]
theorem all_x14 : View.ld (Val := Elt Ideal) (e' := .bf16) x14 r0_6 = x14 := by rw [View.ld_unit_zero (by funext a; fin_cases a <;> rfl)]
theorem all_x15 : View.ld (Val := Elt Ideal) (e' := .bf16) x15 r0_8 = x15 := by rw [View.ld_unit_zero (by funext a; fin_cases a <;> rfl)]
theorem all_x16 : View.ld (Val := Elt Ideal) (e' := .bf16) x16 r0_16 = x16 := by rw [View.ld_unit_zero (by funext a; fin_cases a <;> rfl)]

theorem out18 (y : S1x512x1024.Idx) : out0_18 (F := Ideal) x0 x1 x2 x3 x4 x5 x6 x7 x8 x9 x10 x11 x12 x13 x14 x15 x16 x17 y = outX x0 x1 x2 x3 x4 x5 x6 x7 x10 x11 x12 x14 x15 x16 y := by
  have mq := mixQ_row x0 x1 x2 x3 x4 x5 x10 x11 x14 x15 x16
  unfold_out out0_18
  simp only [all_x10 x10, all_x11 x11, all_x12 x12, all_x14 x14, all_x15 x15, all_x16 x16, all_x7 x7]
  refine View.canon_apply_of_pieces (Val := Elt Ideal) (outX x0 x1 x2 x3 x4 x5 x6 x7 x10 x11 x12 x14 x15 x16) _ (List.forall_mem_cons.2 ⟨?_, (List.forall_mem_cons.2 ⟨?_, (List.forall_mem_cons.2 ⟨?_, (List.forall_mem_cons.2 ⟨?_, List.forall_mem_nil _⟩)⟩)⟩)⟩) y (cover0_18 _ _ _ _ y)
  · exact x_piece x0 x1 x2 x3 x4 x5 x6 x7 x10 x11 x12 x14 x15 x16 3 _ _ (mq 3) (hx3_at _ _ x7 x12) _ rfl rfl rfl (by decide)
  · exact x_piece x0 x1 x2 x3 x4 x5 x6 x7 x10 x11 x12 x14 x15 x16 2 _ _ (mq 2) (hx2_at _ _ x7 x12) _ rfl rfl rfl (by decide)
  · exact x_piece x0 x1 x2 x3 x4 x5 x6 x7 x10 x11 x12 x14 x15 x16 1 _ _ (mq 1) (hx1_at _ _ x7 x12) _ rfl rfl rfl (by decide)
  · exact x_piece x0 x1 x2 x3 x4 x5 x6 x7 x10 x11 x12 x14 x15 x16 0 _ _ (mq 0) (hx0_at _ _ x7 x12) _ rfl rfl rfl (by decide)

theorem out19 (y : S1x512x8x128.Idx) : out0_19 (F := Ideal) x0 x1 x2 x3 x4 x5 x6 x7 x8 x9 x10 x11 x12 x13 x14 x15 x16 x17 y = outN x0 x1 x2 x3 x4 x5 x6 x7 x8 x9 x10 x11 x12 x13 x14 x15 x16 y := by
  have mq := mixQ_row x0 x1 x2 x3 x4 x5 x10 x11 x14 x15 x16
  unfold_out out0_19
  simp only [all_x10 x10, all_x11 x11, all_x12 x12, all_x13 x13, all_x14 x14, all_x15 x15, all_x16 x16, all_x7 x7, all_x8 x8, all_x9 x9]
  refine View.canon_apply_of_pieces (Val := Elt Ideal) (outN x0 x1 x2 x3 x4 x5 x6 x7 x8 x9 x10 x11 x12 x13 x14 x15 x16) _ (List.forall_mem_cons.2 ⟨?_, (List.forall_mem_cons.2 ⟨?_, (List.forall_mem_cons.2 ⟨?_, (List.forall_mem_cons.2 ⟨?_, List.forall_mem_nil _⟩)⟩)⟩)⟩) y (cover0_19 _ _ _ _ y)
  · exact n_piece x0 x1 x2 x3 x4 x5 x6 x7 x8 x9 x10 x11 x12 x13 x14 x15 x16 3 _ _ (mq 3) (hm3_at _ _ x7 x12 x13 x9 x8) _ rfl rfl rfl rfl (by decide)
  · exact n_piece x0 x1 x2 x3 x4 x5 x6 x7 x8 x9 x10 x11 x12 x13 x14 x15 x16 2 _ _ (mq 2) (hm2_at _ _ x7 x12 x13 x9 x8) _ rfl rfl rfl rfl (by decide)
  · exact n_piece x0 x1 x2 x3 x4 x5 x6 x7 x8 x9 x10 x11 x12 x13 x14 x15 x16 1 _ _ (mq 1) (hm1_at _ _ x7 x12 x13 x9 x8) _ rfl rfl rfl rfl (by decide)
  · exact n_piece x0 x1 x2 x3 x4 x5 x6 x7 x8 x9 x10 x11 x12 x13 x14 x15 x16 0 _ _ (mq 0) (hm0_at _ _ x7 x12 x13 x9 x8) _ rfl rfl rfl rfl (by decide)

end

end Cert.Proof.Mix
-- ==== Proof.MixBlocks.lean ====
/- The blocks the merge's windows stage, read from the arguments. -/
module

public import proofs.«01_k».proof.Proof.MixOut
public import Idealize.ShloMosaic.Lib.Pointwise
public import Idealize.ShloMosaic.Lib.Pipeline.ValueKit

@[expose] public section

set_option maxRecDepth 16384

noncomputable section

namespace Cert.Proof.Mix

open Cert.MixKernelIdeal Cert.MixKernelIdeal.Gen
open Idealize.ShloMosaic Idealize.ShloMosaic.TcCoe Idealize.ShloMosaic.Tactic
open Idealize.SL Idealize.SL.Sem

section
variable (m : (ℓ : Loc nD τ sig) → Buf (Elt Ideal) ℓ) (c : Dev nD)

abbrev a0 : S8x4096x1536.Idx → EReal := m ((c : Thread nD τ).loc main_arg0)
abbrev a1 : S8x4096x1536.Idx → EReal := m ((c : Thread nD τ).loc main_arg1)
abbrev a2 : S8x4096x1536.Idx → EReal := m ((c : Thread nD τ).loc main_arg2)
abbrev a3 : S8x4096x1536.Idx → EReal := m ((c : Thread nD τ).loc main_arg3)
abbrev a4 : S8x4096x512.Idx → EReal := m ((c : Thread nD τ).loc main_arg4)
abbrev a5 : S8x4096x2048.Idx → EReal := m ((c : Thread nD τ).loc main_arg5)
abbrev a6 : S8x4096x1024.Idx → EReal := m ((c : Thread nD τ).loc main_arg6)
abbrev a7 : S8x1x1024.Idx → EReal := m ((c : Thread nD τ).loc main_arg7)
abbrev a8 : S8x1x1024.Idx → EReal := m ((c : Thread nD τ).loc main_arg8)
abbrev a9 : S8x1x1024.Idx → EReal := m ((c : Thread nD τ).loc main_arg9)
abbrev a10 : S1x24.Idx → EReal := m ((c : Thread nD τ).loc main_arg10)
abbrev a11 : S1x1536.Idx → EReal := m ((c : Thread nD τ).loc main_arg11)
abbrev a12 : S1x1024.Idx → EReal := m ((c : Thread nD τ).loc main_arg12)
abbrev a13 : S1x1024.Idx → EReal := m ((c : Thread nD τ).loc main_arg13)
abbrev a14 : S1x1536x1024.Idx → EReal := m ((c : Thread nD τ).loc main_arg14)
abbrev a15 : S1x512x1024.Idx → EReal := m ((c : Thread nD τ).loc main_arg15)
abbrev a16 : S1x1024x1024.Idx → EReal := m ((c : Thread nD τ).loc main_arg16)

/-- The batch and the rows of a point. -/
def bat (t : Fin cfg0.N) : Fin 8 := ⟨t.val / 8, by have : t.val < 64 := t.isLt; omega⟩
def tok (t : Fin cfg0.N) (r : Fin 512) : Fin 4096 := ⟨512 * (t.val % 8) + r.val, by omega⟩

theorem idx : ∀ t : Fin grid0.N,
    win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0]
    ∧ win0_7.index t = ![t.val / 8, 0, 0] ∧ win0_8.index t = ![t.val / 8, 0, 0] ∧ win0_9.index t = ![t.val / 8, 0, 0] := by decide +kernel

theorem idx' : ∀ t : Fin grid0.N,
    win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] := by decide +kernel

theorem iblk0 (t : Fin cfg0.N) (r : Fin 512) (k : Fin 1536) : (iblk (F := Ideal) m c 0 t (ix3 0 r k) : EReal) = a0 m c (ix3 (bat t) (tok t r) k) := by
  unfold iblk
  rw [View.read_apply]
  show V m c main_arg0 _ = _
  rw [V_main_arg0]
  unfold bat tok
  blk_ext [iblk, V, idx t]

theorem iblk1 (t : Fin cfg0.N) (r : Fin 512) (k : Fin 1536) : (iblk (F := Ideal) m c 1 t (ix3 0 r k) : EReal) = a1 m c (ix3 (bat t) (tok t r) k) := by
  unfold iblk
  rw [View.read_apply]
  show V m c main_arg1 _ = _
  rw [V_main_arg1]
  unfold bat tok
  blk_ext [iblk, V, idx t]

theorem iblk2 (t : Fin cfg0.N) (r : Fin 512) (k : Fin 1536) : (iblk (F := Ideal) m c 2 t (ix3 0 r k) : EReal) = a2 m c (ix3 (bat t) (tok t r) k) := by
  unfold iblk
  rw [View.read_apply]
  show V m c main_arg2 _ = _
  rw [V_main_arg2]
  unfold bat tok
  blk_ext [iblk, V, idx t]

theorem iblk3 (t : Fin cfg0.N) (r : Fin 512) (k : Fin 1536) : (iblk (F := Ideal) m c 3 t (ix3 0 r k) : EReal) = a3 m c (ix3 (bat t) (tok t r) k) := by
  unfold iblk
  rw [View.read_apply]
  show V m c main_arg3 _ = _
  rw [V_main_arg3]
  unfold bat tok
  blk_ext [iblk, V, idx t]

theorem iblk4 (t : Fin cfg0.N) (r : Fin 512) (k : Fin 512) : (iblk (F := Ideal) m c 4 t (ix3 0 r k) : EReal) = a4 m c (ix3 (bat t) (tok t r) k) := by
  unfold iblk
  rw [View.read_apply]
  show V m c main_arg4 _ = _
  rw [V_main_arg4]
  unfold bat tok
  blk_ext [iblk, V, idx t]

theorem iblk5 (t : Fin cfg0.N) (r : Fin 512) (k : Fin 2048) : (iblk (F := Ideal) m c 5 t (ix3 0 r k) : EReal) = a5 m c (ix3 (bat t) (tok t r) k) := by
  unfold iblk
  rw [View.read_apply]
  show V m c main_arg5 _ = _
  rw [V_main_arg5]
  unfold bat tok
  blk_ext [iblk, V, idx t]

theorem iblk6 (t : Fin cfg0.N) (r : Fin 512) (k : Fin 1024) : (iblk (F := Ideal) m c 6 t (ix3 0 r k) : EReal) = a6 m c (ix3 (bat t) (tok t r) k) := by
  unfold iblk
  rw [View.read_apply]
  show V m c main_arg6 _ = _
  rw [V_main_arg6]
  unfold bat tok
  blk_ext [iblk, V, idx t]

theorem iblk7 (t : Fin cfg0.N) (k : Fin 1024) : (iblk (F := Ideal) m c 7 t (ix3 0 0 k) : EReal) = a7 m c (ix3 (bat t) 0 k) := by
  unfold iblk
  rw [View.read_apply]
  show V m c main_arg7 _ = _
  rw [V_main_arg7]
  unfold bat
  blk_ext [iblk, V, idx t]

theorem iblk8 (t : Fin cfg0.N) (k : Fin 1024) : (iblk (F := Ideal) m c 8 t (ix3 0 0 k) : EReal) = a8 m c (ix3 (bat t) 0 k) := by
  unfold iblk
  rw [View.read_apply]
  show V m c main_arg8 _ = _
  rw [V_main_arg8]
  unfold bat
  blk_ext [iblk, V, idx t]

theorem iblk9 (t : Fin cfg0.N) (k : Fin 1024) : (iblk (F := Ideal) m c 9 t (ix3 0 0 k) : EReal) = a9 m c (ix3 (bat t) 0 k) := by
  unfold iblk
  rw [View.read_apply]
  show V m c main_arg9 _ = _
  rw [V_main_arg9]
  unfold bat
  blk_ext [iblk, V, idx t]

theorem iblk10 (t : Fin cfg0.N) (k : Fin 1536) : (iblk (F := Ideal) m c 10 t (ix2 0 k) : EReal) = a10 m c (ix2 0 ⟨k.val / 64, by omega⟩) := by
  unfold iblk
  rw [View.read_apply]
  show V m c main_v3 _ = _
  unfold V hostOps0 hostOps0_1
  simp only [List.flatten_cons, List.flatten_nil, List.append_nil, List.cons_append, List.nil_append]
  entry_read
  pointwise
  blk_ext [iblk, V, idx' t]

theorem iblk11 (t : Fin cfg0.N) (k : Fin 1536) : (iblk (F := Ideal) m c 11 t (ix2 0 k) : EReal) = a11 m c (ix2 0 k) := by
  unfold iblk
  rw [View.read_apply]
  show V m c main_v5 _ = _
  unfold V hostOps0 hostOps0_1
  simp only [List.flatten_cons, List.flatten_nil, List.append_nil, List.cons_append, List.nil_append]
  entry_read
  pointwise
  blk_ext [iblk, V, idx' t]

theorem iblk12 (t : Fin cfg0.N) (k : Fin 1024) : (iblk (F := Ideal) m c 12 t (ix2 0 k) : EReal) = a12 m c (ix2 0 k) := by
  unfold iblk
  rw [View.read_apply]
  show V m c main_v7 _ = _
  unfold V hostOps0 hostOps0_1
  simp only [List.flatten_cons, List.flatten_nil, List.append_nil, List.cons_append, List.nil_append]
  entry_read
  pointwise
  blk_ext [iblk, V, idx' t]

theorem iblk13 (t : Fin cfg0.N) (k : Fin 1024) : (iblk (F := Ideal) m c 13 t (ix2 0 k) : EReal) = a13 m c (ix2 0 k) := by
  unfold iblk
  rw [View.read_apply]
  show V m c main_v9 _ = _
  unfold V hostOps0 hostOps0_1
  simp only [List.flatten_cons, List.flatten_nil, List.append_nil, List.cons_append, List.nil_append]
  entry_read
  pointwise
  blk_ext [iblk, V, idx' t]

theorem iblk14 (t : Fin cfg0.N) (e : Fin 1536) (k : Fin 1024) : (iblk (F := Ideal) m c 14 t (ix2 e k) : EReal) = a14 m c (ix3 0 e k) := by
  unfold iblk
  rw [View.read_apply]
  show V m c main_v11 _ = _
  unfold V hostOps0 hostOps0_1
  simp only [List.flatten_cons, List.flatten_nil, List.append_nil, List.cons_append, List.nil_append]
  entry_read
  pointwise
  blk_ext [iblk, V, idx' t]

theorem iblk15 (t : Fin cfg0.N) (e : Fin 512) (k : Fin 1024) : (iblk (F := Ideal) m c 15 t (ix2 e k) : EReal) = a15 m c (ix3 0 e k) := by
  unfold iblk
  rw [View.read_apply]
  show V m c main_v13 _ = _
  unfold V hostOps0 hostOps0_1
  simp only [List.flatten_cons, List.flatten_nil, List.append_nil, List.cons_append, List.nil_append]
  entry_read
  pointwise
  blk_ext [iblk, V, idx' t]

theorem iblk16 (t : Fin cfg0.N) (e : Fin 1024) (k : Fin 1024) : (iblk (F := Ideal) m c 16 t (ix2 e k) : EReal) = a16 m c (ix3 0 e k) := by
  unfold iblk
  rw [View.read_apply]
  show V m c main_v15 _ = _
  unfold V hostOps0 hostOps0_1
  simp only [List.flatten_cons, List.flatten_nil, List.append_nil, List.cons_append, List.nil_append]
  entry_read
  pointwise
  blk_ext [iblk, V, idx' t]

end

end Cert.Proof.Mix
-- ==== Proof.MixSpec.lean ====
/- The merge's two results as functions of its arguments, over the extended reals. -/
module

public import proofs.«01_k».proof.Proof.MixBlocks

@[expose] public section

set_option maxRecDepth 16384

noncomputable section

namespace Cert.Proof.Mix

open Idealize.ShloMosaic Idealize.ShloMosaic.TcCoe Idealize.ShloMosaic.Tactic
open Cert.MixKernelIdeal
open Finset

section
variable (A0 A1 A2 A3 : S8x4096x1536.Idx → EReal) (A4 : S8x4096x512.Idx → EReal) (A5 : S8x4096x2048.Idx → EReal) (A6 : S8x4096x1024.Idx → EReal) (A7 A8 A9 : S8x1x1024.Idx → EReal)
    (A10 : S1x24.Idx → EReal) (A11 : S1x1536.Idx → EReal) (A12 A13 : S1x1024.Idx → EReal) (A14 : S1x1536x1024.Idx → EReal) (A15 : S1x512x1024.Idx → EReal) (A16 : S1x1024x1024.Idx → EReal)

/-- A token's two scans with their skip, gated; a head's 64 columns share its skip. -/
def ygG (b : Fin 8) (r : Fin 4096) (k : Fin 1536) : EReal :=
  gated (fun k => A0 (ix3 b r k)) (fun k => A1 (ix3 b r k)) (fun k => A10 (ix2 0 ⟨k.val / 64, by omega⟩)) (fun k => A2 (ix3 b r k)) (fun k => A3 (ix3 b r k)) k

/-- The same, normalised. -/
def yG (b : Fin 8) (r : Fin 4096) (k : Fin 1536) : EReal := rmsRow 0x44C00000#32 (ygG A0 A1 A2 A3 A10 b r) (fun k => A11 (ix2 0 k)) k

/-- A token's merged mix. -/
def mG (b : Fin 8) (r : Fin 4096) (j : Fin 1024) : EReal :=
  mixRow (yG A0 A1 A2 A3 A10 A11 b r) (fun k => A4 (ix3 b r k)) (fun k => A5 (ix3 b r k)) (fun e k => A14 (ix3 0 e k)) (fun e k => A15 (ix3 0 e k)) (fun e k => A16 (ix3 0 e k)) j

/-- A token's residual stream. -/
def xG (b : Fin 8) (r : Fin 4096) (j : Fin 1024) : EReal :=
  hxRow (mG A0 A1 A2 A3 A4 A5 A10 A11 A14 A15 A16 b r) (fun k => A6 (ix3 b r k)) (fun k => A7 (ix3 b 0 k)) (fun k => A12 (ix2 0 k)) j

/-- The stream normalised and modulated. -/
def nG (b : Fin 8) (r : Fin 4096) (j : Fin 1024) : EReal :=
  hmRow (xG A0 A1 A2 A3 A4 A5 A6 A7 A10 A11 A12 A14 A15 A16 b r) (fun k => A13 (ix2 0 k)) (fun k => A9 (ix3 b 0 k)) (fun k => A8 (ix3 b 0 k)) j

end

/-- An array of rows from its elements. -/
def arr3 (g : Fin 8 → Fin 4096 → Fin 1024 → EReal) : S8x4096x1024.Idx → EReal := fun y => g (y 0) (y 1) (y 2)

/-- The same with a row laid out as eight groups of 128 lanes. -/
def arr4 (g : Fin 8 → Fin 4096 → Fin 1024 → EReal) : S8x4096x8x128.Idx → EReal := fun y => g (y 0) (y 1) (lane (y 2) (y 3))

end Cert.Proof.Mix
-- ==== Proof.MixArr.lean ====
/- What the merge's two result arrays hold after the last point. -/
module

public import proofs.«01_k».proof.Proof.MixSpec

@[expose] public section

set_option maxRecDepth 16384

noncomputable section

namespace Cert.Proof.Mix

open Cert.MixKernelIdeal Cert.MixKernelIdeal.Gen
open Idealize.ShloMosaic Idealize.ShloMosaic.TcCoe Idealize.ShloMosaic.Tactic
open Idealize.SL Idealize.SL.Sem
open Finset

section
variable (m : (ℓ : Loc nD τ sig) → Buf (Elt Ideal) ℓ) (c : Dev nD)

theorem y_blk (t : Fin cfg0.N) (r : Fin 512) :
    yRow (iblk m c 0 t) (iblk m c 1 t) (iblk m c 2 t) (iblk m c 3 t) (iblk m c 10 t) (iblk m c 11 t) r
      = yG (a0 m c) (a1 m c) (a2 m c) (a3 m c) (a10 m c) (a11 m c) (bat t) (tok t r) := by
  unfold yRow yG ygG
  rw [show (fun k => iblk m c 0 t (ix3 0 r k)) = _ from funext (iblk0 m c t r), show (fun k => iblk m c 1 t (ix3 0 r k)) = _ from funext (iblk1 m c t r),
    show (fun k => iblk m c 2 t (ix3 0 r k)) = _ from funext (iblk2 m c t r), show (fun k => iblk m c 3 t (ix3 0 r k)) = _ from funext (iblk3 m c t r),
    show (fun k => iblk m c 10 t (ix2 0 k)) = _ from funext (iblk10 m c t), show (fun k => iblk m c 11 t (ix2 0 k)) = _ from funext (iblk11 m c t)]

theorem m_blk (t : Fin cfg0.N) (r : Fin 512) :
    mRow (iblk m c 0 t) (iblk m c 1 t) (iblk m c 2 t) (iblk m c 3 t) (iblk m c 4 t) (iblk m c 5 t) (iblk m c 10 t) (iblk m c 11 t) (iblk m c 14 t) (iblk m c 15 t) (iblk m c 16 t) r
      = mG (a0 m c) (a1 m c) (a2 m c) (a3 m c) (a4 m c) (a5 m c) (a10 m c) (a11 m c) (a14 m c) (a15 m c) (a16 m c) (bat t) (tok t r) := by
  funext j
  unfold mRow mG
  rw [y_blk, show (fun k => iblk m c 4 t (ix3 0 r k)) = _ from funext (iblk4 m c t r), show (fun k => iblk m c 5 t (ix3 0 r k)) = _ from funext (iblk5 m c t r),
    show (fun e k => iblk m c 14 t (ix2 e k)) = _ from funext fun e => funext (iblk14 m c t e), show (fun e k => iblk m c 15 t (ix2 e k)) = _ from funext fun e => funext (iblk15 m c t e),
    show (fun e k => iblk m c 16 t (ix2 e k)) = _ from funext fun e => funext (iblk16 m c t e)]

theorem x_blk (t : Fin cfg0.N) (r : Fin 512) :
    xRow (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 14 t) (iblk m c 15 t) (iblk m c 16 t) r
      = xG (a0 m c) (a1 m c) (a2 m c) (a3 m c) (a4 m c) (a5 m c) (a6 m c) (a7 m c) (a10 m c) (a11 m c) (a12 m c) (a14 m c) (a15 m c) (a16 m c) (bat t) (tok t r) := by
  funext j
  unfold xRow xG
  rw [m_blk, show (fun k => iblk m c 6 t (ix3 0 r k)) = _ from funext (iblk6 m c t r), show (fun k => iblk m c 7 t (ix3 0 0 k)) = _ from funext (iblk7 m c t),
    show (fun k => iblk m c 12 t (ix2 0 k)) = _ from funext (iblk12 m c t)]

theorem n_blk (t : Fin cfg0.N) (r : Fin 512) :
    nRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r
      = nG (a0 m c) (a1 m c) (a2 m c) (a3 m c) (a4 m c) (a5 m c) (a6 m c) (a7 m c) (a8 m c) (a9 m c) (a10 m c) (a11 m c) (a12 m c) (a13 m c) (a14 m c) (a15 m c) (a16 m c) (bat t) (tok t r) := by
  funext j
  unfold nRow nG
  rw [x_blk, show (fun k => iblk m c 13 t (ix2 0 k)) = _ from funext (iblk13 m c t), show (fun k => iblk m c 9 t (ix3 0 0 k)) = _ from funext (iblk9 m c t),
    show (fun k => iblk m c 8 t (ix3 0 0 k)) = _ from funext (iblk8 m c t)]

theorem idxo : ∀ t : Fin grid0.N, win0_18.index t = ![t.val / 8, t.val % 8, 0] ∧ win0_19.index t = ![t.val / 8, t.val % 8, 0, 0] := by
  decide +kernel

/-- A block's row of the first result. -/
theorem spot3 (t : Fin cfg0.N) (r : Fin 512) (d : Fin 1024) (i : S8x4096x1024.Idx)
    (h0 : (i 0).val = t.val / 8 * 1 + 0) (h1 : (i 1).val = t.val % 8 * 512 + r.val) (h2 : (i 2).val = 0 * 1024 + d.val) : i = ix3 (bat t) (tok t r) d := by
  funext a
  apply Fin.ext
  fin_cases a
  · exact h0.trans (by show t.val / 8 * 1 + 0 = t.val / 8; omega)
  · exact h1.trans (by show t.val % 8 * 512 + r.val = 512 * (t.val % 8) + r.val; omega)
  · exact h2.trans (by show 0 * 1024 + d.val = d.val; omega)

/-- A block's lane of the second. -/
theorem spot4 (t : Fin cfg0.N) (r : Fin 512) (p : Fin 8) (l : Fin 128) (i : S8x4096x8x128.Idx)
    (h0 : (i 0).val = t.val / 8 * 1 + 0) (h1 : (i 1).val = t.val % 8 * 512 + r.val) (h2 : (i 2).val = 0 * 8 + p.val) (h3 : (i 3).val = 0 * 128 + l.val) : i = ix4 (bat t) (tok t r) p l := by
  funext a
  apply Fin.ext
  fin_cases a
  · exact h0.trans (by show t.val / 8 * 1 + 0 = t.val / 8; omega)
  · exact h1.trans (by show t.val % 8 * 512 + r.val = 512 * (t.val % 8) + r.val; omega)
  · exact h2.trans (by show 0 * 8 + p.val = p.val; omega)
  · exact h3.trans (by show 0 * 128 + l.val = l.val; omega)

theorem arr18 : (dats m 0 c).arrAt 18 cfg0.N = arr3 (xG (a0 m c) (a1 m c) (a2 m c) (a3 m c) (a4 m c) (a5 m c) (a6 m c) (a7 m c) (a10 m c) (a11 m c) (a12 m c) (a14 m c) (a15 m c) (a16 m c)) := by
  refine (dats m 0 c).arrAt_eq_of_covers 18 _ (by decide +kernel) fun t hf y => ?_
  obtain ⟨z, r, d, rfl⟩ : ∃ (z : Fin 1) (r : Fin 512) (d : Fin 1024), y = ix3 z r d := ⟨y 0, y 1, y 2, eq_ix3 y⟩
  obtain rfl := Fin.fin_one_eq_zero z
  have hi := (idxo t).1
  have e : (win0_18.blk t).view.emb (ix3 0 r d) = ix3 (bat t) (tok t r) d :=
    spot3 t r d _ ((Pipeline.Window.rect_emb_val win0_18 t (ix3 0 r d) 0 rfl).trans (by rw [hi]; rfl)) ((Pipeline.Window.rect_emb_val win0_18 t (ix3 0 r d) 1 rfl).trans (by rw [hi]; rfl))
      ((Pipeline.Window.rect_emb_val win0_18 t (ix3 0 r d) 2 rfl).trans (by rw [hi]; rfl))
  blk_simp
  show (dats m 0 c).after 18 t (ix3 0 r d) = _
  rw [after0_18, e]
  refine (out18 _ _ _ _ _ _ _ _ _ _ _ _ _ _ _ _ _ _ (ix3 0 r d)).trans ?_
  exact congrFun (x_blk m c t r) d

theorem arr19 : (dats m 0 c).arrAt 19 cfg0.N = arr4 (nG (a0 m c) (a1 m c) (a2 m c) (a3 m c) (a4 m c) (a5 m c) (a6 m c) (a7 m c) (a8 m c) (a9 m c) (a10 m c) (a11 m c) (a12 m c) (a13 m c) (a14 m c) (a15 m c) (a16 m c)) := by
  refine (dats m 0 c).arrAt_eq_of_covers 19 _ (by decide +kernel) fun t hf y => ?_
  obtain ⟨z, r, p, l, rfl⟩ : ∃ (z : Fin 1) (r : Fin 512) (p : Fin 8) (l : Fin 128), y = ix4 z r p l := ⟨y 0, y 1, y 2, y 3, by funext a; fin_cases a <;> rfl⟩
  obtain rfl := Fin.fin_one_eq_zero z
  have hi := (idxo t).2
  have e : (win0_19.blk t).view.emb (ix4 0 r p l) = ix4 (bat t) (tok t r) p l :=
    spot4 t r p l _ ((Pipeline.Window.rect_emb_val win0_19 t (ix4 0 r p l) 0 rfl).trans (by rw [hi]; rfl)) ((Pipeline.Window.rect_emb_val win0_19 t (ix4 0 r p l) 1 rfl).trans (by rw [hi]; rfl))
      ((Pipeline.Window.rect_emb_val win0_19 t (ix4 0 r p l) 2 rfl).trans (by rw [hi]; rfl)) ((Pipeline.Window.rect_emb_val win0_19 t (ix4 0 r p l) 3 rfl).trans (by rw [hi]; rfl))
  blk_simp
  show (dats m 0 c).after 19 t (ix4 0 r p l) = _
  rw [after0_19, e]
  refine (out19 _ _ _ _ _ _ _ _ _ _ _ _ _ _ _ _ _ _ (ix4 0 r p l)).trans ?_
  exact congrFun (n_blk m c t r) (lane p l)

end

end Cert.Proof.Mix
-- ==== Proof.MixRef.lean ====
/- The merge's plain reference: its results' terms, read an element at a time. -/
module

public import proofs.«01_k».proof.Proof.MixSpec
public import proofs.«01_k».proof.Proof.Gen.MixReferenceIdeal.Run
public import Idealize.ShloMosaic.Lib.Pointwise
public import Idealize.ShloMosaic.Lib.Pipeline.ValueKit

@[expose] public section

set_option maxRecDepth 16384

noncomputable section

namespace Cert.Proof.MixRef

open Cert.MixReferenceIdeal Cert.MixReferenceIdeal.Gen
open Idealize.ShloMosaic Idealize.ShloMosaic.TcCoe Idealize.ShloMosaic.Tactic
open Idealize.SL Idealize.SL.Sem
open Cert.Proof.Mix (rmsRow gated mixRow hxRow hmRow lane ygG yG mG xG nG arr3 arr4)
open Finset

/-- The scans with their skip, gated. -/
def ygT (A0 A1 A2 A3 : S8x4096x1536.Idx → Ideal .bf16) (A10 : S1x24.Idx → Ideal .f32) : S8x4096x1536.Idx → Ideal .f32 :=
  mulf (shapeCast _ (addf (shapeCast _ (addf (extf .f32 A0 bitsLt_bf16_f32) (extf .f32 A1 bitsLt_bf16_f32)) shapeCasts_S8x4096x1536_S8x4096x24x64) (mulf (broadcastInDim S8x4096x24x64 ![0, 1, 2, 3] bcast_S1x1x24x1_S8x4096x24x64_0_1_2_3 (broadcastInDim S1x1x24x1 ![2, 3] bcast_S24x1_S1x1x24x1_2_3 (broadcastInDim S24x1 ![0] bcast_S24_S24x1_0 (shapeCast _ A10 shapeCasts_S1x24_S24)))) (shapeCast _ (extf .f32 A2 bitsLt_bf16_f32) shapeCasts_S8x4096x1536_S8x4096x24x64))) shapeCasts_S8x4096x24x64_S8x4096x1536) (extf .f32 A3 bitsLt_bf16_f32)

/-- A row of 1536 normalised. -/
def ynT (YG : S8x4096x1536.Idx → Ideal .f32) (A11 : S1x1536.Idx → Ideal .f32) : S8x4096x1536.Idx → Ideal .f32 :=
  mulf (mulf YG (broadcastInDim S8x4096x1536 ![0, 1, 2] bcast_S8x4096x1_S8x4096x1536_0_1_2 (Host.rsqrt (addf (Host.divf (broadcastInDim S8x4096x1 ![0, 1] bcast_S8x4096_S8x4096x1_0_1 (Host.reduceAdd (mulf YG YG) (constant S_ .f32 0x00000000#32) reducesTo_S8x4096x1536_S8x4096_d2 h_S_)) (broadcastInDim S8x4096x1 ![] bcast_S_S8x4096x1 (constant S_ .f32 0x44C00000#32))) (broadcastInDim S8x4096x1 ![] bcast_S_S8x4096x1 (constant S_ .f32 0x358637BD#32)))))) (broadcastInDim S8x4096x1536 ![0, 1, 2] bcast_S1x1x1536_S8x4096x1536_0_1_2 (broadcastInDim S1x1x1536 ![2] bcast_S1536_S1x1x1536_2 (shapeCast _ A11 shapeCasts_S1x1536_S1536)))

/-- The branches merged. -/
def mixT (YN : S8x4096x1536.Idx → Ideal .f32) (A4 : S8x4096x512.Idx → Ideal .f32) (A5 : S8x4096x2048.Idx → Ideal .bf16) (A14 : S1x1536x1024.Idx → Ideal .f32) (A15 : S1x512x1024.Idx → Ideal .f32) (A16 : S1x1024x1024.Idx → Ideal .f32) : S8x4096x1024.Idx → Ideal .f32 :=
  Host.dotGeneral dot_S8x4096x1024_S1024x1024_S8x4096x1024_2_0_01_1_n_n none (addf (mulf (shapeCast _ (extractStridedSlice S8x4096x1x1024 ![0, 0, 0, 0] (shapeCast _ (extf .f32 A5 bitsLt_bf16_f32) shapeCasts_S8x4096x2048_S8x4096x2x1024) slices_S8x4096x2x1024_S8x4096x1x1024_0_0_0_0) shapeCasts_S8x4096x1x1024_S8x4096x1024) (Host.dotGeneral dot_S8x4096x512_S512x1024_S8x4096x1024_2_0_01_1_n_n none A4 (shapeCast _ A15 shapeCasts_S1x512x1024_S512x1024))) (mulf (shapeCast _ (extractStridedSlice S8x4096x1x1024 ![0, 0, 1, 0] (shapeCast _ (extf .f32 A5 bitsLt_bf16_f32) shapeCasts_S8x4096x2048_S8x4096x2x1024) slices_S8x4096x2x1024_S8x4096x1x1024_0_0_1_0) shapeCasts_S8x4096x1x1024_S8x4096x1024) (Host.dotGeneral dot_S8x4096x1536_S1536x1024_S8x4096x1024_2_0_01_1_n_n none YN (shapeCast _ A14 shapeCasts_S1x1536x1024_S1536x1024)))) (shapeCast _ A16 shapeCasts_S1x1024x1024_S1024x1024)

/-- The residual stream. -/
def hxT (MX A6 : S8x4096x1024.Idx → Ideal .f32) (A7 : S8x1x1024.Idx → Ideal .f32) (A12 : S1x1024.Idx → Ideal .f32) : S8x4096x1024.Idx → Ideal .f32 :=
  addf A6 (mulf (broadcastInDim S8x4096x1024 ![0, 1, 2] bcast_S8x1x1024_S8x4096x1024_0_1_2 A7) (mulf (mulf MX (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf MX MX) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A12 shapeCasts_S1x1024_S1024)))))

/-- The stream normalised and modulated. -/
def hmT (HX : S8x4096x1024.Idx → Ideal .f32) (A8 A9 : S8x1x1024.Idx → Ideal .f32) (A13 : S1x1024.Idx → Ideal .f32) : S8x4096x8x128.Idx → Ideal .f32 :=
  shapeCast _ (addf (mulf (mulf (mulf HX (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf HX HX) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A13 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) A9))) (broadcastInDim S8x4096x1024 ![0, 1, 2] bcast_S8x1x1024_S8x4096x1024_0_1_2 A8)) shapeCasts_S8x4096x1024_S8x4096x8x128

theorem ygT_at (A0 A1 A2 A3 : S8x4096x1536.Idx → Ideal .bf16) (A10 : S1x24.Idx → Ideal .f32) (b : Fin 8) (r : Fin 4096) (k : Fin 1536) :
    (ygT A0 A1 A2 A3 A10 (ix3 b r k) : EReal) = ygG A0 A1 A2 A3 A10 b r k := by
  unfold ygT ygG gated
  pointwise

theorem ynT_at (Y : S8x4096x1536.Idx → Ideal .f32) (A11 : S1x1536.Idx → Ideal .f32) (b : Fin 8) (r : Fin 4096) (k : Fin 1536) :
    (ynT Y A11 (ix3 b r k) : EReal) = rmsRow 0x44C00000#32 (fun k => Y (ix3 b r k)) (fun k => A11 (ix2 0 k)) k := by
  unfold ynT rmsRow
  pointwise

theorem mixT_at (Y : S8x4096x1536.Idx → Ideal .f32) (A4 : S8x4096x512.Idx → Ideal .f32) (A5 : S8x4096x2048.Idx → Ideal .bf16) (A14 : S1x1536x1024.Idx → Ideal .f32) (A15 : S1x512x1024.Idx → Ideal .f32) (A16 : S1x1024x1024.Idx → Ideal .f32)
    (b : Fin 8) (r : Fin 4096) (j : Fin 1024) :
    (mixT Y A4 A5 A14 A15 A16 (ix3 b r j) : EReal)
      = mixRow (fun k => Y (ix3 b r k)) (fun k => A4 (ix3 b r k)) (fun k => A5 (ix3 b r k)) (fun e k => A14 (ix3 0 e k)) (fun e k => A15 (ix3 0 e k)) (fun e k => A16 (ix3 0 e k)) j := by
  unfold mixT mixRow
  pointwise

theorem hxT_at (X A6 : S8x4096x1024.Idx → Ideal .f32) (A7 : S8x1x1024.Idx → Ideal .f32) (A12 : S1x1024.Idx → Ideal .f32) (b : Fin 8) (r : Fin 4096) (j : Fin 1024) :
    (hxT X A6 A7 A12 (ix3 b r j) : EReal) = hxRow (fun k => X (ix3 b r k)) (fun k => A6 (ix3 b r k)) (fun k => A7 (ix3 b 0 k)) (fun k => A12 (ix2 0 k)) j := by
  unfold hxT hxRow rmsRow
  pointwise

theorem hmT_at (H : S8x4096x1024.Idx → Ideal .f32) (A8 A9 : S8x1x1024.Idx → Ideal .f32) (A13 : S1x1024.Idx → Ideal .f32) (b : Fin 8) (r : Fin 4096) (p : Fin 8) (l : Fin 128) :
    (hmT H A8 A9 A13 (ix4 b r p l) : EReal) = hmRow (fun k => H (ix3 b r k)) (fun k => A13 (ix2 0 k)) (fun k => A9 (ix3 b 0 k)) (fun k => A8 (ix3 b 0 k)) (lane p l) := by
  have e : (⟨p.val * 128 + l.val, by omega⟩ : Fin 1024) = ⟨128 * p.val + l.val, by omega⟩ := Fin.ext (show p.val * 128 + l.val = 128 * p.val + l.val by omega)
  unfold hmT hmRow rmsRow lane
  pointwise
  rw [e]

section
variable (A0 A1 A2 A3 : S8x4096x1536.Idx → Ideal .bf16) (A4 : S8x4096x512.Idx → Ideal .f32) (A5 : S8x4096x2048.Idx → Ideal .bf16) (A6 : S8x4096x1024.Idx → Ideal .f32) (A7 A8 A9 : S8x1x1024.Idx → Ideal .f32)
    (A10 : S1x24.Idx → Ideal .f32) (A11 : S1x1536.Idx → Ideal .f32) (A12 A13 : S1x1024.Idx → Ideal .f32) (A14 : S1x1536x1024.Idx → Ideal .f32) (A15 : S1x512x1024.Idx → Ideal .f32) (A16 : S1x1024x1024.Idx → Ideal .f32)

theorem y_eq (b : Fin 8) (r : Fin 4096) (k : Fin 1536) : (ynT (ygT A0 A1 A2 A3 A10) A11 (ix3 b r k) : EReal) = yG A0 A1 A2 A3 A10 A11 b r k := by
  rw [ynT_at, show (fun k => ygT A0 A1 A2 A3 A10 (ix3 b r k)) = _ from funext (ygT_at A0 A1 A2 A3 A10 b r)]
  rfl

theorem m_eq (b : Fin 8) (r : Fin 4096) (j : Fin 1024) :
    (mixT (ynT (ygT A0 A1 A2 A3 A10) A11) A4 A5 A14 A15 A16 (ix3 b r j) : EReal) = mG A0 A1 A2 A3 A4 A5 A10 A11 A14 A15 A16 b r j := by
  rw [mixT_at, show (fun k => ynT (ygT A0 A1 A2 A3 A10) A11 (ix3 b r k)) = _ from funext (y_eq A0 A1 A2 A3 A10 A11 b r)]
  rfl

theorem x_eq (b : Fin 8) (r : Fin 4096) (j : Fin 1024) :
    (hxT (mixT (ynT (ygT A0 A1 A2 A3 A10) A11) A4 A5 A14 A15 A16) A6 A7 A12 (ix3 b r j) : EReal) = xG A0 A1 A2 A3 A4 A5 A6 A7 A10 A11 A12 A14 A15 A16 b r j := by
  rw [hxT_at, show (fun k => mixT (ynT (ygT A0 A1 A2 A3 A10) A11) A4 A5 A14 A15 A16 (ix3 b r k)) = _ from funext (m_eq A0 A1 A2 A3 A4 A5 A10 A11 A14 A15 A16 b r)]
  rfl

/-- The first result whole. -/
theorem x_all : hxT (mixT (ynT (ygT A0 A1 A2 A3 A10) A11) A4 A5 A14 A15 A16) A6 A7 A12 = arr3 (xG A0 A1 A2 A3 A4 A5 A6 A7 A10 A11 A12 A14 A15 A16) := by
  funext y
  obtain ⟨b, r, j, rfl⟩ : ∃ (b : Fin 8) (r : Fin 4096) (j : Fin 1024), y = ix3 b r j := ⟨y 0, y 1, y 2, eq_ix3 y⟩
  exact x_eq A0 A1 A2 A3 A4 A5 A6 A7 A10 A11 A12 A14 A15 A16 b r j

/-- The second. -/
theorem n_all : hmT (hxT (mixT (ynT (ygT A0 A1 A2 A3 A10) A11) A4 A5 A14 A15 A16) A6 A7 A12) A8 A9 A13 = arr4 (nG A0 A1 A2 A3 A4 A5 A6 A7 A8 A9 A10 A11 A12 A13 A14 A15 A16) := by
  funext y
  obtain ⟨b, r, p, l, rfl⟩ : ∃ (b : Fin 8) (r : Fin 4096) (p : Fin 8) (l : Fin 128), y = ix4 b r p l := ⟨y 0, y 1, y 2, y 3, by funext a; fin_cases a <;> rfl⟩
  rw [hmT_at, x_all]
  rfl

end

end Cert.Proof.MixRef
-- ==== Proof.MixRun.lean ====
/- The merge's reference as a run: its two results are the functions of the arguments `MixSpec.lean` writes. -/
module

public import proofs.«01_k».proof.Proof.MixRef

@[expose] public section

set_option maxRecDepth 16384

noncomputable section

namespace Cert.Proof.MixRef

open Idealize.ShloMosaic Idealize.ShloMosaic.TcCoe Idealize.ShloMosaic.Tactic Idealize.SL.Sem
open Cert.MixReferenceIdeal Cert.MixReferenceIdeal.Gen
open Cert.Proof.Mix (xG nG arr3 arr4)

section
variable (m : (ℓ : Loc nD τ sig) → Buf (Elt Ideal) ℓ) (ρ : Dev nD → PrngReg) (c : Dev nD)

abbrev b0 : S8x4096x1536.Idx → EReal := m ((c.tc : Thread nD τ).loc main_arg0)
abbrev b1 : S8x4096x1536.Idx → EReal := m ((c.tc : Thread nD τ).loc main_arg1)
abbrev b2 : S8x4096x1536.Idx → EReal := m ((c.tc : Thread nD τ).loc main_arg2)
abbrev b3 : S8x4096x1536.Idx → EReal := m ((c.tc : Thread nD τ).loc main_arg3)
abbrev b4 : S8x4096x512.Idx → EReal := m ((c.tc : Thread nD τ).loc main_arg4)
abbrev b5 : S8x4096x2048.Idx → EReal := m ((c.tc : Thread nD τ).loc main_arg5)
abbrev b6 : S8x4096x1024.Idx → EReal := m ((c.tc : Thread nD τ).loc main_arg6)
abbrev b7 : S8x1x1024.Idx → EReal := m ((c.tc : Thread nD τ).loc main_arg7)
abbrev b8 : S8x1x1024.Idx → EReal := m ((c.tc : Thread nD τ).loc main_arg8)
abbrev b9 : S8x1x1024.Idx → EReal := m ((c.tc : Thread nD τ).loc main_arg9)
abbrev b10 : S1x24.Idx → EReal := m ((c.tc : Thread nD τ).loc main_arg10)
abbrev b11 : S1x1536.Idx → EReal := m ((c.tc : Thread nD τ).loc main_arg11)
abbrev b12 : S1x1024.Idx → EReal := m ((c.tc : Thread nD τ).loc main_arg12)
abbrev b13 : S1x1024.Idx → EReal := m ((c.tc : Thread nD τ).loc main_arg13)
abbrev b14 : S1x1536x1024.Idx → EReal := m ((c.tc : Thread nD τ).loc main_arg14)
abbrev b15 : S1x512x1024.Idx → EReal := m ((c.tc : Thread nD τ).loc main_arg15)
abbrev b16 : S1x1024x1024.Idx → EReal := m ((c.tc : Thread nD τ).loc main_arg16)

theorem res0 : Value.res_main_v60 (F := Ideal) m c = arr3 (xG (b0 m c) (b1 m c) (b2 m c) (b3 m c) (b4 m c) (b5 m c) (b6 m c) (b7 m c) (b10 m c) (b11 m c) (b12 m c) (b14 m c) (b15 m c) (b16 m c)) := by
  unfold Value.res_main_v60
  exact x_all (b0 m c) (b1 m c) (b2 m c) (b3 m c) (b4 m c) (b5 m c) (b6 m c) (b7 m c) (b10 m c) (b11 m c) (b12 m c) (b14 m c) (b15 m c) (b16 m c)

theorem res1 : Value.res_main_v81 (F := Ideal) m c = arr4 (nG (b0 m c) (b1 m c) (b2 m c) (b3 m c) (b4 m c) (b5 m c) (b6 m c) (b7 m c) (b8 m c) (b9 m c) (b10 m c) (b11 m c) (b12 m c) (b13 m c) (b14 m c) (b15 m c) (b16 m c)) := by
  unfold Value.res_main_v81
  exact n_all (b0 m c) (b1 m c) (b2 m c) (b3 m c) (b4 m c) (b5 m c) (b6 m c) (b7 m c) (b8 m c) (b9 m c) (b10 m c) (b11 m c) (b12 m c) (b13 m c) (b14 m c) (b15 m c) (b16 m c)

end

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60) = arr3 (xG (b0 m c) (b1 m c) (b2 m c) (b3 m c) (b4 m c) (b5 m c) (b6 m c) (b7 m c) (b10 m c) (b11 m c) (b12 m c) (b14 m c) (b15 m c) (b16 m c))
      ∧ r.2.mem ((c.tc : Thread nD τ).loc main_v81) = arr4 (nG (b0 m c) (b1 m c) (b2 m c) (b3 m c) (b4 m c) (b5 m c) (b6 m c) (b7 m c) (b8 m c) (b9 m c) (b10 m c) (b11 m c) (b12 m c) (b13 m c) (b14 m c) (b15 m c) (b16 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r q c => ?_) (Value.run (F := Ideal) m ρ)
  obtain ⟨q0, q1, q⟩ := q c
  exact ⟨q0.trans (res0 m c), q1.trans (res1 m c), q⟩

end Cert.Proof.MixRef

end
-- ==== Proof.MixValue.lean ====
/- The merge call: its frames, and its value against the reference's. -/
module

public import proofs.«01_k».proof.Defs
public import proofs.«01_k».proof.Proof.MixSame
public import proofs.«01_k».proof.Proof.MixArr
public import proofs.«01_k».proof.Proof.MixRun
public import Idealize.ShloMosaic.Adequacy
public import Idealize.ShloMosaic.Init

@[expose] public section

set_option maxRecDepth 16384
set_option maxHeartbeats 4000000

noncomputable section

namespace Cert.Proof.Mix

open Idealize.ShloMosaic Idealize.ShloMosaic.TcCoe Idealize.SL.Sem
open Cert.MixKernelIdeal Cert.MixKernelIdeal.Gen

/-- The merge call's frame at bits: one run over any float values serves both texts. -/
theorem frame_kernel : Cert.quiescent_MixKernel := by
  intro m ρ _
  rw [same_run]
  exact frame (F := Bits) m ρ

/-- The merge call's frame over the extended reals. -/
theorem frame_ideal : Cert.quiescent_MixKernelIdeal := fun m ρ _ => frame (F := Ideal) m ρ

/-- Its reference's frame. -/
theorem frame_reference : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run (F := Ideal) m ρ)

/-- The arguments after the kernel's run, and its two claimed results as the blocks it wrote. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18_0) = arr3 (xG (a0 m c) (a1 m c) (a2 m c) (a3 m c) (a4 m c) (a5 m c) (a6 m c) (a7 m c) (a10 m c) (a11 m c) (a12 m c) (a14 m c) (a15 m c) (a16 m c))
      ∧ r.2.mem ((c.tc : Thread nD τ).loc main_v18_1) = arr4 (nG (a0 m c) (a1 m c) (a2 m c) (a3 m c) (a4 m c) (a5 m c) (a6 m c) (a7 m c) (a8 m c) (a9 m c) (a10 m c) (a11 m c) (a12 m c) (a13 m c) (a14 m c) (a15 m c) (a16 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r q c => ?_) (θ_run_and (run_main m ρ) (frame m ρ))
  exact ⟨((q.1 c).1 18).trans (arr18 m c), ((q.1 c).1 19).trans (arr19 m c), q.2.1 c⟩

/-- The value: both runs end at the functions of the arguments `MixSpec.lean` writes. -/
theorem value : Cert.algebraic_MixKernelIdeal_MixReferenceIdeal := by
  intro m g m' g' _ e
  refine ⟨fun c => arr3 (xG (a0 m c) (a1 m c) (a2 m c) (a3 m c) (a4 m c) (a5 m c) (a6 m c) (a7 m c) (a10 m c) (a11 m c) (a12 m c) (a14 m c) (a15 m c) (a16 m c)),
    fun c => arr4 (nG (a0 m c) (a1 m c) (a2 m c) (a3 m c) (a4 m c) (a5 m c) (a6 m c) (a7 m c) (a8 m c) (a9 m c) (a10 m c) (a11 m c) (a12 m c) (a13 m c) (a14 m c) (a15 m c) (a16 m c)),
    run_kernel m g, (θ_run Cert.MixReferenceIdeal.defs _ _).mono (fun r q c => ?_) (MixRef.run m' g')⟩
  obtain ⟨e0, e1, e2, e3, e4, e5, e6, e7, e8, e9, e10, e11, e12, e13, e14, e15, e16, e17⟩ := e c
  have k0 : MixRef.b0 m' c = a0 m c := e0
  have k1 : MixRef.b1 m' c = a1 m c := e1
  have k2 : MixRef.b2 m' c = a2 m c := e2
  have k3 : MixRef.b3 m' c = a3 m c := e3
  have k4 : MixRef.b4 m' c = a4 m c := e4
  have k5 : MixRef.b5 m' c = a5 m c := e5
  have k6 : MixRef.b6 m' c = a6 m c := e6
  have k7 : MixRef.b7 m' c = a7 m c := e7
  have k8 : MixRef.b8 m' c = a8 m c := e8
  have k9 : MixRef.b9 m' c = a9 m c := e9
  have k10 : MixRef.b10 m' c = a10 m c := e10
  have k11 : MixRef.b11 m' c = a11 m c := e11
  have k12 : MixRef.b12 m' c = a12 m c := e12
  have k13 : MixRef.b13 m' c = a13 m c := e13
  have k14 : MixRef.b14 m' c = a14 m c := e14
  have k15 : MixRef.b15 m' c = a15 m c := e15
  have k16 : MixRef.b16 m' c = a16 m c := e16
  obtain ⟨q0, q1, q⟩ := q c
  exact ⟨q0.trans (by rw [k0, k1, k2, k3, k4, k5, k6, k7, k10, k11, k12, k14, k15, k16]), q1.trans (by rw [k0, k1, k2, k3, k4, k5, k6, k7, k8, k9, k10, k11, k12, k13, k14, k15, k16]), q⟩

end Cert.Proof.Mix

end
-- ==== Proof.CtxSame.lean ====
/- The two printed texts of the context projection call are one: no rewrite was offered, so the body, the body table and the host program are
   the same terms, and a run of one is a run of the other. -/
module

public import proofs.«01_k».proof.Defs
public import proofs.«01_k».proof.Proof.Gen.CtxKernel
public import proofs.«01_k».proof.Proof.Gen.CtxKernelIdeal

@[expose] public section

set_option maxRecDepth 16384
set_option maxHeartbeats 1000000

noncomputable section

namespace Cert.Proof.Ctx

open Idealize.ShloMosaic Idealize.SL.Sem

/-- The kernel functions. -/
theorem same_body : Cert.CtxKernel.cc0_in_projection_ctx (F := Bits) = Cert.CtxKernelIdeal.cc0_in_projection_ctx (F := Bits) := rfl

/-- The body tables: one label, the kernel function on the same operands. -/
theorem same_bodies : Cert.CtxKernel.defs₀ (F := Bits) = Cert.CtxKernelIdeal.defs₀ (F := Bits) := by
  unfold Cert.CtxKernel.defs₀ Cert.CtxKernelIdeal.defs₀
  refine congrArg Defs.onTc (funext fun l => funext fun x => ?_)
  match l, x with
  | ⟨0, _⟩, (t, s) =>
    dsimp only
    rw [same_body]
    rfl
  | ⟨_ + 1, h⟩, _ => exact absurd h (Nat.not_lt.2 (Nat.le_add_left _ _))

/-- The definition tables. -/
theorem same_defs : Cert.CtxKernel.defs (F := Bits) = Cert.CtxKernelIdeal.defs (F := Bits) := by
  unfold Cert.CtxKernel.defs Cert.CtxKernelIdeal.defs
  rw [same_bodies]
  rfl

/-- The host programs. -/
theorem same_main : Cert.CtxKernel.main (F := Bits) = Cert.CtxKernelIdeal.main (F := Bits) := rfl

/-- The runs. -/
theorem same_run (m : (ℓ : Loc Cert.CtxKernel.nD Cert.CtxKernel.τ Cert.CtxKernel.sig) → Buf (Elt Bits) ℓ) (ρ : Dev Cert.CtxKernel.nD → PrngReg) :
    θ_run (Cert.CtxKernel.defs (F := Bits)) (onTc (τ := Cert.CtxKernel.τ) (Cert.CtxKernel.main (F := Bits))) ⟨m, fun _ => 0, ρ⟩
      = θ_run (Cert.CtxKernelIdeal.defs (F := Bits)) (onTc (τ := Cert.CtxKernelIdeal.τ) (Cert.CtxKernelIdeal.main (F := Bits))) ⟨m, fun _ => 0, ρ⟩ := by
  rw [same_defs, same_main]
  rfl

end Cert.Proof.Ctx
end
-- ==== Proof.CtxBody.lean ====
/- The context projection's body: what each store writes, row by row. -/
module

public import proofs.«01_k».proof.Proof.InBody
public import proofs.«01_k».proof.Proof.Gen.CtxKernelIdeal.Skeleton
public import Idealize.ShloMosaic.Lib.Pointwise

@[expose] public section

set_option maxRecDepth 16384

noncomputable section

namespace Cert.Proof.Ctx

open Cert.CtxKernelIdeal Cert.CtxKernelIdeal.Gen
open Idealize.ShloMosaic Idealize.ShloMosaic.TcCoe Idealize.ShloMosaic.Tactic
open Cert.Proof.InProj (hid sgm splus)
open Finset

theorem pay2_at (X : S1x256x1024.Idx → Ideal .f32) (g : S1x1024.Idx → Ideal .f32) (sc sh : S1x1x1024.Idx → Ideal .f32) (s : Fin 256) (k : Fin 1024) :
    (k0_pay2 (F := Ideal) X g sc sh (ix2 s k) : EReal) = hid (fun k => X (ix3 0 s k)) (fun k => g (ix2 0 k)) (fun k => sc (ix3 0 0 k)) (fun k => sh (ix3 0 0 k)) k := by
  unfold k0_pay2 hid
  pointwise

theorem proj_at (X : S1x256x1024.Idx → Ideal .f32) (g : S1x1024.Idx → Ideal .f32) (sc sh : S1x1x1024.Idx → Ideal .f32) (W : S1024x1536.Idx → Ideal .bf16) (s : Fin 256) (j : Fin 1536) :
    (k0_pay3 (F := Ideal) X g sc sh W (ix2 s j) : EReal) = ∑ k : Fin 1024, (k0_pay2 (F := Ideal) X g sc sh (ix2 s k) : EReal) * W (ix2 k j) := by
  unfold k0_pay3
  pointwise

theorem dt_at (h : S256x1024.Idx → Ideal .bf16) (W : S1024x256.Idx → Ideal .bf16) (b : S1x256.Idx → Ideal .f32) (s : Fin 256) (j : Fin 256) :
    (k0_pay1 (F := Ideal) (k0_pay18 h W b) (ix3 0 s j) : EReal) = splus ((∑ k : Fin 1024, h (ix2 s k) * W (ix2 k j)) + b (ix2 0 j)) := by
  unfold k0_pay1 k0_pay18 splus
  pointwise

/-! ## The convolution -/

/-- The mask word of a row: whether it is `e`. -/
def edge (e : BitVec 32) (s : Fin 256) : BitVec 1 :=
  (IntOp.cmpi CmpIPredicate.eq (Scalar.select (IntOp.andi (IntOp.xori (IntOp.cmpi CmpIPredicate.slt (IntOp.remsi ArithUnit.vector (BitVec.ofNat 32 s.val) (Scalar.select (Scalar.cmpi CmpIPredicate.eq 256#32 0#32) 1#32 256#32)) 0#32) (Scalar.cmpi CmpIPredicate.slt (Scalar.select (Scalar.cmpi CmpIPredicate.eq 256#32 0#32) 1#32 256#32) 0#32)) (IntOp.cmpi CmpIPredicate.ne (IntOp.remsi ArithUnit.vector (BitVec.ofNat 32 s.val) (Scalar.select (Scalar.cmpi CmpIPredicate.eq 256#32 0#32) 1#32 256#32)) 0#32)) (IntOp.addi (IntOp.remsi ArithUnit.vector (BitVec.ofNat 32 s.val) (Scalar.select (Scalar.cmpi CmpIPredicate.eq 256#32 0#32) 1#32 256#32)) (Scalar.select (Scalar.cmpi CmpIPredicate.eq 256#32 0#32) 1#32 256#32)) (IntOp.remsi ArithUnit.vector (BitVec.ofNat 32 s.val) (Scalar.select (Scalar.cmpi CmpIPredicate.eq 256#32 0#32) 1#32 256#32))) e)

theorem edge_first : ∀ s : Fin 256, edge 0#32 s = if s.val = 0 then 1#1 else 0#1 := by decide +kernel
theorem edge_last : ∀ s : Fin 256, edge 255#32 s = if s.val = 255 then 1#1 else 0#1 := by decide +kernel

/-- Three taps down the rows of the line, nothing beyond its ends. -/
def taps (P : Fin 256 → EReal) (w0 w1 w2 b : EReal) (s : Fin 256) : EReal :=
  (if s.val = 0 then 0 else P ⟨(s.val + 256 - 1) % 256, by omega⟩ * w0) + P s * w1
    + (if s.val = 255 then 0 else P ⟨(s.val + 256 - 255) % 256, by omega⟩ * w2) + b

/-- The same with the masks as words. -/
def tapsW (P : Fin 256 → EReal) (w0 w1 w2 b : EReal) (s : Fin 256) : EReal :=
  Scalar.select (edge 0#32 s) 0 (P ⟨(s.val + 256 - 1) % 256, by omega⟩ * w0) + P s * w1
    + Scalar.select (edge 255#32 s) 0 (P ⟨(s.val + 256 - 255) % 256, by omega⟩ * w2) + b

theorem tapsW_eq (P : Fin 256 → EReal) (w0 w1 w2 b : EReal) (s : Fin 256) : tapsW P w0 w1 w2 b s = taps P w0 w1 w2 b s := by
  unfold tapsW taps
  rw [edge_first, edge_last]
  congr 1
  congr 1
  · congr 1
    by_cases h : s.val = 0
    · rw [if_pos h, if_pos h]; rfl
    · rw [if_neg h, if_neg h]; rfl
  · by_cases h : s.val = 255
    · rw [if_pos h, if_pos h]; rfl
    · rw [if_neg h, if_neg h]; rfl

theorem xs_at (v : S256x1536.Idx → Ideal .f32) (w0 w1 w2 b : S1x1536.Idx → Ideal .f32) (s : Fin 256) (j : Fin 1536) :
    (k0_pay7 (F := Ideal) (k0_pay6 v (Scalar.select (Scalar.cmpi .eq 256#32 0#32) 1#32 256#32) k0_pay4 k0_pay5 w0 w1 w2 b) (Scalar.ofBits .f32 0x00000000#32) (ix3 0 s j) : EReal)
      = taps (fun s => v (ix2 s j)) (w0 (ix2 0 j)) (w1 (ix2 0 j)) (w2 (ix2 0 j)) (b (ix2 0 j)) s
        * sgm (taps (fun s => v (ix2 s j)) (w0 (ix2 0 j)) (w1 (ix2 0 j)) (w2 (ix2 0 j)) (b (ix2 0 j)) s) := by
  rw [← tapsW_eq]
  unfold k0_pay7 k0_pay6 k0_pay5 k0_pay4 sgm tapsW edge
  pointwise

theorem bm_at (h : S256x1024.Idx → Ideal .bf16) (W : S1024x512.Idx → Ideal .bf16) (w0 w1 w2 b : S1x512.Idx → Ideal .f32) (s : Fin 256) (j : Fin 512) :
    (k0_pay12 (F := Ideal) (k0_pay8 h W) (k0_pay10 h W) k0_pay11 w0 w1 w2 b (ix3 0 s j) : EReal)
      = taps (fun s => ∑ k : Fin 1024, h (ix2 s k) * W (ix2 k j)) (w0 (ix2 0 j)) (w1 (ix2 0 j)) (w2 (ix2 0 j)) (b (ix2 0 j)) s
        * sgm (taps (fun s => ∑ k : Fin 1024, h (ix2 s k) * W (ix2 k j)) (w0 (ix2 0 j)) (w1 (ix2 0 j)) (w2 (ix2 0 j)) (b (ix2 0 j)) s) := by
  rw [← tapsW_eq]
  unfold k0_pay12 k0_pay11 k0_pay10 k0_pay9 k0_pay8 sgm tapsW edge
  pointwise

theorem cm_at (h : S256x1024.Idx → Ideal .bf16) (W : S1024x512.Idx → Ideal .bf16) (w0 w1 w2 b : S1x512.Idx → Ideal .f32) (s : Fin 256) (j : Fin 512) :
    (k0_pay17 (F := Ideal) (k0_pay15 (k0_pay13 h W) (iota .tc S256x1 32 [0] iota_S256x1_d0_w32) 256#32 w0 w1) (k0_pay16 (k0_pay13 h W) (iota .tc S256x1 32 [0] iota_S256x1_d0_w32) 256#32 w2) b (ix3 0 s j) : EReal)
      = taps (fun s => ∑ k : Fin 1024, h (ix2 s k) * W (ix2 k j)) (w0 (ix2 0 j)) (w1 (ix2 0 j)) (w2 (ix2 0 j)) (b (ix2 0 j)) s
        * sgm (taps (fun s => ∑ k : Fin 1024, h (ix2 s k) * W (ix2 k j)) (w0 (ix2 0 j)) (w1 (ix2 0 j)) (w2 (ix2 0 j)) (b (ix2 0 j)) s) := by
  rw [← tapsW_eq]
  unfold k0_pay17 k0_pay16 k0_pay15 k0_pay14 k0_pay13 sgm tapsW edge
  pointwise

end Cert.Proof.Ctx
-- ==== Proof.CtxOut.lean ====
/- The context projection's body: each result block as a function of the blocks it reads. -/
module

public import proofs.«01_k».proof.Proof.CtxBody
public import proofs.«01_k».proof.Proof.InOut
public import proofs.«01_k».proof.Proof.Gen.CtxKernelIdeal.Frame
public import Idealize.ShloMosaic.Lib.Pointwise

@[expose] public section

set_option maxRecDepth 16384

noncomputable section

namespace Cert.Proof.Ctx

open Cert.CtxKernelIdeal Cert.CtxKernelIdeal.Gen
open Idealize.ShloMosaic Idealize.ShloMosaic.TcCoe Idealize.ShloMosaic.Tactic
open Cert.Proof.InProj (hid sgm splus ld_tap)
open Finset

/-- A store of the whole block keeps each element's place. -/
theorem emb_whole {n : Nat} (off : Fin 3 → Nat) (h : ∀ a, off a = 0) (inb : ∀ a, off a + (⟨3, ![1, 256, n]⟩ : Shape).size a ≤ (⟨3, ![1, 256, n]⟩ : Shape).size a) (x : (⟨3, ![1, 256, n]⟩ : Shape).Idx) :
    (Rect.unit (s := ⟨3, ![1, 256, n]⟩) off (⟨3, ![1, 256, n]⟩ : Shape).size inb).emb x = x := by
  funext a
  apply Fin.ext
  simp [Rect.unit, Rect.emb, h a]

section
variable (x0 : S1x256x1024.Idx → Ideal .f32) (x1 x2 : S1x1x1024.Idx → Ideal .f32) (x3 : S1x1024.Idx → Ideal .f32)

/-- A row of the block, normalised and modulated. -/
def row (r : Fin 256) (k : Fin 1024) : EReal :=
  hid (fun k => x0 (ix3 0 r k)) (fun k => x3 (ix2 0 k)) (fun k => x2 (ix3 0 0 k)) (fun k => x1 (ix3 0 0 k)) k

/-- The same, as the body computes it. -/
def hq : S256x1024.Idx → Ideal .bf16 := k0_pay2 (F := Ideal) (View.ld x0 r0_0) (View.ld x3 r0_1) (View.ld x2 r0_2) (View.ld x1 r0_2)

theorem hq_at (s : Fin 256) (k : Fin 1024) : (hq x0 x1 x2 x3 (ix2 s k) : EReal) = row x0 x1 x2 x3 s k := by
  unfold hq row
  refine (pay2_at _ _ _ _ s k).trans ?_
  rw [View.ld_unit_zero (by funext a; fin_cases a <;> rfl), View.ld_unit_zero (by funext a; fin_cases a <;> rfl), View.ld_unit_zero (by funext a; fin_cases a <;> rfl), View.ld_unit_zero (by funext a; fin_cases a <;> rfl)]

/-- A row's product with a weight's column. -/
def prod {n : Nat} (W : (⟨2, ![1024, n]⟩ : Shape).Idx → EReal) (r : Fin 256) (j : Fin n) : EReal := ∑ k : Fin 1024, row x0 x1 x2 x3 r k * W (ix2 k j)

theorem hq_prod {n : Nat} (W : (⟨2, ![1024, n]⟩ : Shape).Idx → EReal) (s : Fin 256) (j : Fin n) :
    ∑ k : Fin 1024, (hq x0 x1 x2 x3 (ix2 s k) : EReal) * W (ix2 k j) = prod x0 x1 x2 x3 W s j :=
  Finset.sum_congr rfl fun k _ => by rw [hq_at]

/-- The time-step branch. -/
def outDt (W : S1024x256.Idx → Ideal .bf16) (b : S1x256.Idx → Ideal .f32) (y : S1x256x256.Idx) : EReal := splus (prod x0 x1 x2 x3 W (y 1) (y 2) + b (ix2 0 (y 2)))

/-- A convolved branch. -/
def outC {n : Nat} (W : (⟨2, ![1024, n]⟩ : Shape).Idx → EReal) (w : (⟨2, ![3, n]⟩ : Shape).Idx → EReal) (b : (⟨2, ![1, n]⟩ : Shape).Idx → EReal) (y : (⟨3, ![1, 256, n]⟩ : Shape).Idx) : EReal :=
  taps (fun r => prod x0 x1 x2 x3 W r (y 2)) (w (ix2 0 (y 2))) (w (ix2 1 (y 2))) (w (ix2 2 (y 2))) (b (ix2 0 (y 2))) (y 1)
    * sgm (taps (fun r => prod x0 x1 x2 x3 W r (y 2)) (w (ix2 0 (y 2))) (w (ix2 1 (y 2))) (w (ix2 2 (y 2))) (b (ix2 0 (y 2))) (y 1))

variable (x4 : S1024x1536.Idx → Ideal .bf16) (x5 x6 : S1024x512.Idx → Ideal .bf16) (x7 : S1024x256.Idx → Ideal .bf16) (x8 : S3x1536.Idx → Ideal .f32) (x9 : S1x1536.Idx → Ideal .f32)
  (x10 : S3x512.Idx → Ideal .f32) (x11 : S1x512.Idx → Ideal .f32) (x12 : S3x512.Idx → Ideal .f32) (x13 : S1x512.Idx → Ideal .f32) (x14 : S1x256.Idx → Ideal .f32)

theorem out18 (y : S1x256x256.Idx) : out0_18 (F := Ideal) x0 x1 x2 x3 x4 x5 x6 x7 x8 x9 x10 x11 x12 x13 x14 y = outDt x0 x1 x2 x3 x7 x14 y := by
  unfold out0_18
  refine View.canon_apply_of_pieces (Val := Elt Ideal) (outDt x0 x1 x2 x3 x7 x14) _ (List.forall_mem_cons.2 ⟨fun x => ?_, List.forall_mem_nil _⟩) y (cover0_18 _ y)
  refine Eq.trans ?_ (congrArg (outDt x0 x1 x2 x3 x7 x14) (emb_whole (n := 256) _ (fun a => by fin_cases a <;> rfl) (by decide) x)).symm
  obtain ⟨z, s, j, rfl⟩ : ∃ z s j, x = ix3 z s j := ⟨x 0, x 1, x 2, by funext a; fin_cases a <;> rfl⟩
  obtain rfl : z = 0 := Subsingleton.elim _ _
  rw [View.ld_unit_zero (S := S1024x256) (by funext a; fin_cases a <;> rfl), View.ld_unit_zero (S := S1x256) (by funext a; fin_cases a <;> rfl)]
  refine (dt_at _ _ _ s j).trans ?_
  exact congrArg (fun p => splus (p + x14 (ix2 0 j))) (hq_prod x0 x1 x2 x3 (n := 256) x7 s j)

theorem out15 (y : S1x256x1536.Idx) : out0_15 (F := Ideal) x0 x1 x2 x3 x4 x5 x6 x7 x8 x9 x10 x11 x12 x13 x14 y = outC x0 x1 x2 x3 (n := 1536) x4 x8 x9 y := by
  unfold out0_15
  refine View.canon_apply_of_pieces (Val := Elt Ideal) (outC x0 x1 x2 x3 (n := 1536) x4 x8 x9) _ (List.forall_mem_cons.2 ⟨fun x => ?_, List.forall_mem_nil _⟩) y (cover0_15 _ y)
  refine Eq.trans ?_ (congrArg (outC x0 x1 x2 x3 (n := 1536) x4 x8 x9) (emb_whole (n := 1536) _ (fun a => by fin_cases a <;> rfl) (by decide) x)).symm
  obtain ⟨z, s, j, rfl⟩ : ∃ z s j, x = ix3 z s j := ⟨x 0, x 1, x 2, by funext a; fin_cases a <;> rfl⟩
  obtain rfl : z = 0 := Subsingleton.elim _ _
  refine (xs_at _ _ _ _ _ s j).trans ?_
  have e : ∀ s : Fin 256, (k0_pay3 (F := Ideal) (View.ld x0 r0_0) (View.ld x3 r0_1) (View.ld x2 r0_2) (View.ld x1 r0_2) (View.ld x4 r0_3) (ix2 s j) : EReal) = prod x0 x1 x2 x3 (n := 1536) x4 s j := fun s => by
    refine (proj_at _ _ _ _ _ s j).trans ?_
    rw [View.ld_unit_zero (S := S1024x1536) (by funext a; fin_cases a <;> rfl)]
    exact hq_prod x0 x1 x2 x3 x4 s j
  rw [funext e, View.ld_unit_zero (S := S1x1536) (by funext a; fin_cases a <;> rfl), ld_tap x8 0 _ rfl rfl, ld_tap x8 1 _ rfl rfl, ld_tap x8 2 _ rfl rfl]
  rfl

theorem out16 (y : S1x256x512.Idx) : out0_16 (F := Ideal) x0 x1 x2 x3 x4 x5 x6 x7 x8 x9 x10 x11 x12 x13 x14 y = outC x0 x1 x2 x3 (n := 512) x5 x10 x11 y := by
  unfold out0_16
  refine View.canon_apply_of_pieces (Val := Elt Ideal) (outC x0 x1 x2 x3 (n := 512) x5 x10 x11) _ (List.forall_mem_cons.2 ⟨fun x => ?_, List.forall_mem_nil _⟩) y (cover0_16 _ y)
  refine Eq.trans ?_ (congrArg (outC x0 x1 x2 x3 (n := 512) x5 x10 x11) (emb_whole (n := 512) _ (fun a => by fin_cases a <;> rfl) (by decide) x)).symm
  obtain ⟨z, s, j, rfl⟩ : ∃ z s j, x = ix3 z s j := ⟨x 0, x 1, x 2, by funext a; fin_cases a <;> rfl⟩
  obtain rfl : z = 0 := Subsingleton.elim _ _
  refine (bm_at _ _ _ _ _ _ s j).trans ?_
  rw [View.ld_unit_zero (S := S1024x512) (by funext a; fin_cases a <;> rfl)]
  rw [show k0_pay19 (F := Ideal) x0 x1 x2 x3 x4 x5 x6 x7 x8 x9 x10 x11 x12 x13 x14 = hq x0 x1 x2 x3 from rfl, funext fun s => hq_prod x0 x1 x2 x3 (n := 512) x5 s j,
    View.ld_unit_zero (S := S1x512) (by funext a; fin_cases a <;> rfl), ld_tap x10 0 _ rfl rfl, ld_tap x10 1 _ rfl rfl, ld_tap x10 2 _ rfl rfl]
  rfl

theorem out17 (y : S1x256x512.Idx) : out0_17 (F := Ideal) x0 x1 x2 x3 x4 x5 x6 x7 x8 x9 x10 x11 x12 x13 x14 y = outC x0 x1 x2 x3 (n := 512) x6 x12 x13 y := by
  unfold out0_17
  refine View.canon_apply_of_pieces (Val := Elt Ideal) (outC x0 x1 x2 x3 (n := 512) x6 x12 x13) _ (List.forall_mem_cons.2 ⟨fun x => ?_, List.forall_mem_nil _⟩) y (cover0_17 _ y)
  refine Eq.trans ?_ (congrArg (outC x0 x1 x2 x3 (n := 512) x6 x12 x13) (emb_whole (n := 512) _ (fun a => by fin_cases a <;> rfl) (by decide) x)).symm
  obtain ⟨z, s, j, rfl⟩ : ∃ z s j, x = ix3 z s j := ⟨x 0, x 1, x 2, by funext a; fin_cases a <;> rfl⟩
  obtain rfl : z = 0 := Subsingleton.elim _ _
  refine (cm_at _ _ _ _ _ _ s j).trans ?_
  rw [View.ld_unit_zero (S := S1024x512) (by funext a; fin_cases a <;> rfl)]
  rw [show k0_pay19 (F := Ideal) x0 x1 x2 x3 x4 x5 x6 x7 x8 x9 x10 x11 x12 x13 x14 = hq x0 x1 x2 x3 from rfl, funext fun s => hq_prod x0 x1 x2 x3 (n := 512) x6 s j,
    View.ld_unit_zero (S := S1x512) (by funext a; fin_cases a <;> rfl), ld_tap x12 0 _ rfl rfl, ld_tap x12 1 _ rfl rfl, ld_tap x12 2 _ rfl rfl]
  rfl

end

end Cert.Proof.Ctx
-- ==== Proof.CtxBlocks.lean ====
/- The blocks the projection's windows stage, read from the arguments. -/
module

public import proofs.«01_k».proof.Proof.CtxOut
public import proofs.«01_k».proof.Proof.InBlocks
public import Idealize.ShloMosaic.Lib.Pointwise
public import Idealize.ShloMosaic.Lib.Pipeline.ValueKit

@[expose] public section

set_option maxRecDepth 16384

noncomputable section

namespace Cert.Proof.Ctx

open Cert.CtxKernelIdeal Cert.CtxKernelIdeal.Gen
open Idealize.ShloMosaic Idealize.ShloMosaic.TcCoe Idealize.ShloMosaic.Tactic
open Idealize.SL Idealize.SL.Sem
open Cert.Proof.InProj (cols_set row_set wdt dtb)

section
variable (m : (ℓ : Loc nD τ sig) → Buf (Elt Ideal) ℓ) (c : Dev nD)

abbrev a0 : S8x256x1024.Idx → EReal := m ((c : Thread nD τ).loc main_arg0)
abbrev a1 : S6144.Idx → EReal := m ((c : Thread nD τ).loc main_arg1)
abbrev a2 : S1x1024.Idx → EReal := m ((c : Thread nD τ).loc main_arg2)
abbrev a3 : S1x1024x6704.Idx → EReal := m ((c : Thread nD τ).loc main_arg3)
abbrev a4 : S1x3x2560.Idx → EReal := m ((c : Thread nD τ).loc main_arg4)
abbrev a5 : S1x2560.Idx → EReal := m ((c : Thread nD τ).loc main_arg5)
abbrev a6 : S1x2x24.Idx → EReal := m ((c : Thread nD τ).loc main_arg6)

/-- The batch of a point. -/
def bat (t : Fin cfg0.N) : Fin 8 := ⟨t.val, t.isLt⟩

theorem idx : ∀ t : Fin grid0.N, win0_0.index t = ![t.val, 0, 0] ∧ win0_1.index t = ![t.val, 0, 0] ∧ win0_2.index t = ![t.val, 0, 0] := by decide +kernel

theorem idx' : ∀ t : Fin grid0.N,
    win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] := by decide +kernel

theorem iblk0 (t : Fin cfg0.N) (r : Fin 256) (k : Fin 1024) : (iblk (F := Ideal) m c 0 t (ix3 0 r k) : EReal) = a0 m c (ix3 (bat t) r k) := by
  unfold iblk
  rw [View.read_apply]
  show V m c main_arg0 _ = _
  rw [V_main_arg0]
  unfold bat
  blk_ext [iblk, V, idx t]

theorem iblk1 (t : Fin cfg0.N) (k : Fin 1024) : (iblk (F := Ideal) m c 1 t (ix3 0 0 k) : EReal) = a1 m c (ix1 ⟨0 + k.val, by omega⟩) := by
  unfold iblk
  rw [View.read_apply]
  show V m c main_v42 _ = _
  entry_read
  pointwise
  blk_ext [iblk, V, idx t]

theorem iblk2 (t : Fin cfg0.N) (k : Fin 1024) : (iblk (F := Ideal) m c 2 t (ix3 0 0 k) : EReal) = a1 m c (ix1 ⟨1024 + k.val, by omega⟩) := by
  unfold iblk
  rw [View.read_apply]
  show V m c main_v44 _ = _
  entry_read
  pointwise
  blk_ext [iblk, V, idx t]

theorem iblk3 (t : Fin cfg0.N) (k : Fin 1024) : (iblk (F := Ideal) m c 3 t (ix2 0 k) : EReal) = a2 m c (ix2 0 k) := by
  unfold iblk
  rw [View.read_apply]
  show V m c main_v46 _ = _
  entry_read
  pointwise
  blk_ext [iblk, V, idx' t]

theorem iblk4 (t : Fin cfg0.N) (k : Fin 1024) (j : Fin 1536) : (iblk (F := Ideal) m c 4 t (ix2 k j) : EReal) = a3 m c (ix3 0 k ⟨2048 + j.val, by omega⟩) := by
  unfold iblk
  rw [View.read_apply]
  show V m c main_v26 _ = _
  entry_read
  pointwise
  blk_ext [iblk, V, idx' t]

theorem iblk5 (t : Fin cfg0.N) (k : Fin 1024) (j : Fin 512) : (iblk (F := Ideal) m c 5 t (ix2 k j) : EReal) = a3 m c (ix3 0 k ⟨3584 + j.val, by omega⟩) := by
  unfold iblk
  rw [View.read_apply]
  show V m c main_v28 _ = _
  entry_read
  pointwise
  blk_ext [iblk, V, idx' t]

theorem iblk6 (t : Fin cfg0.N) (k : Fin 1024) (j : Fin 512) : (iblk (F := Ideal) m c 6 t (ix2 k j) : EReal) = a3 m c (ix3 0 k ⟨4096 + j.val, by omega⟩) := by
  unfold iblk
  rw [View.read_apply]
  show V m c main_v30 _ = _
  entry_read
  pointwise
  blk_ext [iblk, V, idx' t]

theorem iblk8 (t : Fin cfg0.N) (k : Fin 3) (j : Fin 1536) : (iblk (F := Ideal) m c 8 t (ix2 k j) : EReal) = a4 m c (ix3 0 k ⟨0 + j.val, by omega⟩) := by
  unfold iblk
  rw [View.read_apply]
  show V m c main_v32 _ = _
  entry_read
  pointwise
  blk_ext [iblk, V, idx' t]

theorem iblk10 (t : Fin cfg0.N) (k : Fin 3) (j : Fin 512) : (iblk (F := Ideal) m c 10 t (ix2 k j) : EReal) = a4 m c (ix3 0 k ⟨1536 + j.val, by omega⟩) := by
  unfold iblk
  rw [View.read_apply]
  show V m c main_v35 _ = _
  entry_read
  pointwise
  blk_ext [iblk, V, idx' t]

theorem iblk12 (t : Fin cfg0.N) (k : Fin 3) (j : Fin 512) : (iblk (F := Ideal) m c 12 t (ix2 k j) : EReal) = a4 m c (ix3 0 k ⟨2048 + j.val, by omega⟩) := by
  unfold iblk
  rw [View.read_apply]
  show V m c main_v38 _ = _
  entry_read
  pointwise
  blk_ext [iblk, V, idx' t]

theorem iblk9 (t : Fin cfg0.N) (j : Fin 1536) : (iblk (F := Ideal) m c 9 t (ix2 0 j) : EReal) = a5 m c (ix2 0 ⟨0 + j.val, by omega⟩) := by
  unfold iblk
  rw [View.read_apply]
  show V m c main_v34 _ = _
  entry_read
  pointwise
  blk_ext [iblk, V, idx' t]

theorem iblk11 (t : Fin cfg0.N) (j : Fin 512) : (iblk (F := Ideal) m c 11 t (ix2 0 j) : EReal) = a5 m c (ix2 0 ⟨1536 + j.val, by omega⟩) := by
  unfold iblk
  rw [View.read_apply]
  show V m c main_v37 _ = _
  entry_read
  pointwise
  blk_ext [iblk, V, idx' t]

theorem iblk13 (t : Fin cfg0.N) (j : Fin 512) : (iblk (F := Ideal) m c 13 t (ix2 0 j) : EReal) = a5 m c (ix2 0 ⟨2048 + j.val, by omega⟩) := by
  unfold iblk
  rw [View.read_apply]
  show V m c main_v40 _ = _
  entry_read
  pointwise
  blk_ext [iblk, V, idx' t]

theorem at_v31 (k : Fin 1024) (j : Fin 256) : (V m c main_v31 : S1024x256.Idx → EReal) (ix2 k j) = wdt (a3 m c) k j := by
  entry_read
  pointwise
  refine (cols_set _ _ _ 128 rfl k j).trans ?_
  unfold wdt
  by_cases h : 128 ≤ j.val ∧ j.val < 128 + 24
  · rw [dif_pos h, dif_pos (by omega)]
    pointwise
    refine congrArg (fun q => a3 m c (ix3 0 k q)) (Fin.ext ?_)
    show 4632 + (j.val - 128) = 4608 + 24 * (j.val / 128) + j.val % 128
    omega
  · rw [dif_neg h]
    refine (cols_set _ _ _ 0 rfl k j).trans ?_
    by_cases h' : 0 ≤ j.val ∧ j.val < 0 + 24
    · rw [dif_pos h', dif_pos (by omega)]
      pointwise
      refine congrArg (fun q => a3 m c (ix3 0 k q)) (Fin.ext ?_)
      show 4608 + (j.val - 0) = 4608 + 24 * (j.val / 128) + j.val % 128
      omega
    · rw [dif_neg h', dif_neg (by omega)]
      pointwise

theorem at_v22 (j : Fin 256) : (V m c main_v22 : S1x256.Idx → EReal) (ix2 0 j) = dtb (a6 m c) j := by
  entry_read
  pointwise
  refine (row_set _ _ _ 128 rfl rfl j).trans ?_
  unfold dtb
  by_cases h : 128 ≤ j.val ∧ j.val < 128 + 24
  · rw [dif_pos h, dif_pos (by omega)]
    exact congrArg₂ (fun p q => a6 m c (ix3 0 p q)) (Fin.ext (by show 1 = j.val / 128; omega)) (Fin.ext (by show j.val - 128 = j.val % 128; omega))
  · rw [dif_neg h]
    refine (row_set _ _ _ 0 rfl rfl j).trans ?_
    by_cases h' : 0 ≤ j.val ∧ j.val < 0 + 24
    · rw [dif_pos h', dif_pos (by omega)]
      exact congrArg₂ (fun p q => a6 m c (ix3 0 p q)) (Fin.ext (by show 0 = j.val / 128; omega)) (Fin.ext (by show j.val - 0 = j.val % 128; omega))
    · rw [dif_neg h', dif_neg (by omega)]
      pointwise

theorem iblk7 (t : Fin cfg0.N) (k : Fin 1024) (j : Fin 256) : (iblk m c 7 t (ix2 k j) : EReal) = wdt (a3 m c) k j := by
  refine Eq.trans ?_ (at_v31 m c k j)
  unfold iblk
  rw [View.read_apply]
  refine congrArg (V m c main_v31) ?_
  blk_ext [iblk, V, idx' t]

theorem iblk14 (t : Fin cfg0.N) (j : Fin 256) : (iblk m c 14 t (ix2 0 j) : EReal) = dtb (a6 m c) j := by
  refine Eq.trans ?_ (at_v22 m c j)
  unfold iblk
  rw [View.read_apply]
  refine congrArg (V m c main_v22) ?_
  blk_ext [iblk, V, idx' t]

end

end Cert.Proof.Ctx
-- ==== Proof.CtxSpec.lean ====
/- The context projection's four results as functions of its arguments, over the extended reals. -/
module

public import proofs.«01_k».proof.Proof.CtxBlocks

@[expose] public section

set_option maxRecDepth 16384

noncomputable section

namespace Cert.Proof.Ctx

open Idealize.ShloMosaic Idealize.ShloMosaic.TcCoe Idealize.ShloMosaic.Tactic
open Cert.CtxKernelIdeal
open Cert.Proof.InProj (hid sgm splus wdt dtb)
open Finset

/-- Three taps down a batch's 256 tokens, a tap past an end reading 0. -/
def tapsG (P : Fin 256 → EReal) (w0 w1 w2 b : EReal) (r : Fin 256) : EReal :=
  (if r.val = 0 then 0 else P ⟨r.val - 1, by omega⟩ * w0) + P r * w1
    + (if h : r.val = 255 then 0 else P ⟨r.val + 1, by omega⟩ * w2) + b

section
variable (A0 : S8x256x1024.Idx → EReal) (A1 : S6144.Idx → EReal) (A2 : S1x1024.Idx → EReal) (A3 : S1x1024x6704.Idx → EReal)

/-- A token's features, normalised and modulated. -/
def hidG (b : Fin 8) (r : Fin 256) (k : Fin 1024) : EReal :=
  hid (fun k => A0 (ix3 b r k)) (fun k => A2 (ix2 0 k)) (fun k => A1 (ix1 ⟨1024 + k.val, by omega⟩)) (fun k => A1 (ix1 ⟨0 + k.val, by omega⟩)) k

/-- A token's projection to a column. -/
def pr (b : Fin 8) (r : Fin 256) (j : Fin 6704) : EReal := ∑ k : Fin 1024, hidG A0 A1 A2 b r k * A3 (ix3 0 k j)

/-- The convolved columns before their activation. -/
def cv (A4 : S1x3x2560.Idx → EReal) (A5 : S1x2560.Idx → EReal) (b : Fin 8) (r : Fin 256) (q : Fin 2560) : EReal :=
  tapsG (fun r => pr A0 A1 A2 A3 b r ⟨2048 + q.val, by omega⟩) (A4 (ix3 0 0 q)) (A4 (ix3 0 1 q)) (A4 (ix3 0 2 q)) (A5 (ix2 0 q)) r

/-- The convolved columns. -/
def gC (A4 : S1x3x2560.Idx → EReal) (A5 : S1x2560.Idx → EReal) (b : Fin 8) (r : Fin 256) (q : Fin 2560) : EReal :=
  cv A0 A1 A2 A3 A4 A5 b r q * sgm (cv A0 A1 A2 A3 A4 A5 b r q)

/-- The time steps. -/
def gDt (A6 : S1x2x24.Idx → EReal) (b : Fin 8) (r : Fin 256) (j : Fin 256) : EReal :=
  splus (∑ k : Fin 1024, hidG A0 A1 A2 b r k * wdt A3 k j + dtb A6 j)

end

/-- An array from its elements. -/
def arr3 {n : Nat} (g : Fin 8 → Fin 256 → Fin n → EReal) : (⟨3, ![8, 256, n]⟩ : Shape).Idx → EReal := fun y => g (y 0) (y 1) (y 2)

end Cert.Proof.Ctx
-- ==== Proof.CtxArr.lean ====
/- What the context projection's four result arrays hold after the last point. -/
module

public import proofs.«01_k».proof.Proof.CtxSpec

@[expose] public section

set_option maxRecDepth 16384

noncomputable section

namespace Cert.Proof.Ctx

open Cert.CtxKernelIdeal Cert.CtxKernelIdeal.Gen
open Idealize.ShloMosaic Idealize.ShloMosaic.TcCoe Idealize.ShloMosaic.Tactic
open Idealize.SL Idealize.SL.Sem
open Cert.Proof.InProj (splus)
open Finset

section
variable (m : (ℓ : Loc nD τ sig) → Buf (Elt Ideal) ℓ) (c : Dev nD)

theorem row_blk (t : Fin cfg0.N) (r : Fin 256) (k : Fin 1024) :
    row (iblk m c 0 t) (iblk m c 1 t) (iblk m c 2 t) (iblk m c 3 t) r k = hidG (a0 m c) (a1 m c) (a2 m c) (bat t) r k := by
  unfold row hidG
  rw [show (fun k => iblk m c 0 t (ix3 0 r k)) = _ from funext (iblk0 m c t r), show (fun k => iblk m c 1 t (ix3 0 0 k)) = _ from funext (iblk1 m c t),
    show (fun k => iblk m c 2 t (ix3 0 0 k)) = _ from funext (iblk2 m c t), show (fun k => iblk m c 3 t (ix2 0 k)) = _ from funext (iblk3 m c t)]

theorem prod_blk {n : Nat} (W : (⟨2, ![1024, n]⟩ : Shape).Idx → EReal) (t : Fin cfg0.N) (r : Fin 256) (j : Fin n) (J : Fin 6704) (hW : ∀ k, W (ix2 k j) = a3 m c (ix3 0 k J)) :
    prod (iblk m c 0 t) (iblk m c 1 t) (iblk m c 2 t) (iblk m c 3 t) W r j = pr (a0 m c) (a1 m c) (a2 m c) (a3 m c) (bat t) r J := by
  unfold prod pr
  exact Finset.sum_congr rfl fun k _ => by rw [row_blk, hW]

/-- A rotation's neighbour is the next row wherever the mask keeps it. -/
theorem taps_line (P Q : Fin 256 → EReal) (h : ∀ r, P r = Q r) (w0 w1 w2 b : EReal) (r : Fin 256) : taps P w0 w1 w2 b r = tapsG Q w0 w1 w2 b r := by
  obtain rfl : P = Q := funext h
  unfold taps tapsG
  refine congrArg (· + b) (congrArg₂ (· + ·) (congrArg (· + P r * w1) ?_) ?_)
  · by_cases h' : r.val = 0
    · rw [if_pos h', if_pos h']
    · rw [if_neg h', if_neg h']
      refine congrArg (· * w0) (congrArg P (Fin.ext ?_))
      show (r.val + 256 - 1) % 256 = r.val - 1
      omega
  · by_cases h' : r.val = 255
    · rw [if_pos h', dif_pos h']
    · rw [if_neg h', dif_neg h']
      refine congrArg (· * w2) (congrArg P (Fin.ext ?_))
      show (r.val + 256 - 255) % 256 = r.val + 1
      omega

theorem outC_blk {n : Nat} (W : (⟨2, ![1024, n]⟩ : Shape).Idx → EReal) (w : (⟨2, ![3, n]⟩ : Shape).Idx → EReal) (b : (⟨2, ![1, n]⟩ : Shape).Idx → EReal) (t : Fin cfg0.N)
    (r : Fin 256) (j : Fin n) (q : Fin 2560) (hW : ∀ k, W (ix2 k j) = a3 m c (ix3 0 k ⟨2048 + q.val, by omega⟩)) (hw : ∀ k, w (ix2 k j) = a4 m c (ix3 0 k q)) (hb : b (ix2 0 j) = a5 m c (ix2 0 q)) :
    outC (iblk m c 0 t) (iblk m c 1 t) (iblk m c 2 t) (iblk m c 3 t) W w b (ix3 0 r j)
      = gC (a0 m c) (a1 m c) (a2 m c) (a3 m c) (a4 m c) (a5 m c) (bat t) r q := by
  have e : taps (fun r => prod (iblk m c 0 t) (iblk m c 1 t) (iblk m c 2 t) (iblk m c 3 t) W r j) (w (ix2 0 j)) (w (ix2 1 j)) (w (ix2 2 j)) (b (ix2 0 j)) r
      = cv (a0 m c) (a1 m c) (a2 m c) (a3 m c) (a4 m c) (a5 m c) (bat t) r q := by
    rw [hw, hw, hw, hb]
    exact taps_line _ _ (fun r => prod_blk m c W t r j _ hW) _ _ _ _ r
  unfold gC
  rw [← e]
  rfl

theorem outDt_blk (t : Fin cfg0.N) (r : Fin 256) (j : Fin 256) :
    outDt (iblk m c 0 t) (iblk m c 1 t) (iblk m c 2 t) (iblk m c 3 t) (iblk m c 7 t) (iblk m c 14 t) (ix3 0 r j) = gDt (a0 m c) (a1 m c) (a2 m c) (a3 m c) (a6 m c) (bat t) r j :=
  congrArg splus (congrArg₂ (· + ·) (Finset.sum_congr rfl fun k _ => congrArg₂ (· * ·) (row_blk m c t r k) (iblk7 m c t k j)) (iblk14 m c t j))

/-- A block's row of a result array. -/
theorem spot {n : Nat} (t : Fin cfg0.N) (r : Fin 256) (d : Fin n) (i : (⟨3, ![8, 256, n]⟩ : Shape).Idx)
    (h0 : (i 0).val = t.val * 1 + 0) (h1 : (i 1).val = 0 * 256 + r.val) (h2 : (i 2).val = 0 * n + d.val) : i = ix3 (bat t) r d := by
  funext a
  apply Fin.ext
  fin_cases a
  · exact h0.trans (by show t.val * 1 + 0 = t.val; omega)
  · exact h1.trans (by show 0 * 256 + r.val = r.val; omega)
  · exact h2.trans (by show 0 * n + d.val = d.val; omega)

theorem idxo : ∀ t : Fin grid0.N, win0_15.index t = ![t.val, 0, 0] ∧ win0_16.index t = ![t.val, 0, 0] ∧ win0_17.index t = ![t.val, 0, 0] ∧ win0_18.index t = ![t.val, 0, 0] := by
  decide +kernel

/-- The first convolved columns begin at the first. -/
theorem outXs_blk (t : Fin cfg0.N) (r : Fin 256) (d : Fin 1536) (q : Fin 2560) (hq : q.val = d.val) :
    outC (n := 1536) (iblk m c 0 t) (iblk m c 1 t) (iblk m c 2 t) (iblk m c 3 t) (iblk m c 4 t) (iblk m c 8 t) (iblk m c 9 t) (ix3 0 r d)
      = gC (a0 m c) (a1 m c) (a2 m c) (a3 m c) (a4 m c) (a5 m c) (bat t) r q := by
  have e : (⟨0 + d.val, by omega⟩ : Fin 2560) = q := Fin.ext ((Nat.zero_add _).trans hq.symm)
  refine outC_blk m c (n := 1536) (iblk m c 4 t) (iblk m c 8 t) (iblk m c 9 t) t r d q (fun k => ?_) (fun k => ?_) ?_
  · refine (iblk4 m c t k d).trans (congrArg (fun q => a3 m c (ix3 0 k q)) (Fin.ext ?_))
    show 2048 + d.val = 2048 + q.val
    rw [hq]
  · exact (iblk8 m c t k d).trans (congrArg (fun q => a4 m c (ix3 0 k q)) e)
  · exact (iblk9 m c t d).trans (congrArg (fun q => a5 m c (ix2 0 q)) e)

theorem arr15 : (dats m 0 c).arrAt 15 cfg0.N = arr3 (n := 1536) (fun b r (j : Fin 1536) => gC (a0 m c) (a1 m c) (a2 m c) (a3 m c) (a4 m c) (a5 m c) b r ⟨j.val, by omega⟩) := by
  refine (dats m 0 c).arrAt_eq_of_covers 15 _ (by decide +kernel) fun t hf y => ?_
  obtain ⟨z, r, d, rfl⟩ : ∃ (z : Fin 1) (r : Fin 256) (d : Fin 1536), y = ix3 z r d := ⟨y 0, y 1, y 2, eq_ix3 y⟩
  obtain rfl := Fin.fin_one_eq_zero z
  have hi := (idxo t).1
  have e : (win0_15.blk t).view.emb (ix3 0 r d) = ix3 (bat t) r d :=
    spot t r d _ ((Pipeline.Window.rect_emb_val win0_15 t (ix3 0 r d) 0 rfl).trans (by rw [hi]; rfl)) ((Pipeline.Window.rect_emb_val win0_15 t (ix3 0 r d) 1 rfl).trans (by rw [hi]; rfl))
      ((Pipeline.Window.rect_emb_val win0_15 t (ix3 0 r d) 2 rfl).trans (by rw [hi]; rfl))
  blk_simp
  show (dats m 0 c).after 15 t (ix3 0 r d) = _
  rw [after0_15, e]
  refine (out15 _ _ _ _ _ _ _ _ _ _ _ _ _ _ _ (ix3 0 r d)).trans ?_
  exact outXs_blk m c t r d ⟨d.val, by omega⟩ rfl

theorem arr16 : (dats m 0 c).arrAt 16 cfg0.N = arr3 (n := 512) (fun b r (j : Fin 512) => gC (a0 m c) (a1 m c) (a2 m c) (a3 m c) (a4 m c) (a5 m c) b r ⟨1536 + j.val, by omega⟩) := by
  refine (dats m 0 c).arrAt_eq_of_covers 16 _ (by decide +kernel) fun t hf y => ?_
  obtain ⟨z, r, d, rfl⟩ : ∃ (z : Fin 1) (r : Fin 256) (d : Fin 512), y = ix3 z r d := ⟨y 0, y 1, y 2, eq_ix3 y⟩
  obtain rfl := Fin.fin_one_eq_zero z
  have hi := (idxo t).2.1
  have e : (win0_16.blk t).view.emb (ix3 0 r d) = ix3 (bat t) r d :=
    spot t r d _ ((Pipeline.Window.rect_emb_val win0_16 t (ix3 0 r d) 0 rfl).trans (by rw [hi]; rfl)) ((Pipeline.Window.rect_emb_val win0_16 t (ix3 0 r d) 1 rfl).trans (by rw [hi]; rfl))
      ((Pipeline.Window.rect_emb_val win0_16 t (ix3 0 r d) 2 rfl).trans (by rw [hi]; rfl))
  blk_simp
  show (dats m 0 c).after 16 t (ix3 0 r d) = _
  rw [after0_16, e]
  refine (out16 _ _ _ _ _ _ _ _ _ _ _ _ _ _ _ (ix3 0 r d)).trans ?_
  exact outC_blk m c _ _ _ t r d ⟨1536 + d.val, by omega⟩ (fun k => (iblk5 m c t k d).trans (congrArg (fun q => a3 m c (ix3 0 k q)) (Fin.ext (by show 3584 + d.val = 2048 + (1536 + d.val); omega)))) (fun k => iblk10 m c t k d) (iblk11 m c t d)

theorem arr17 : (dats m 0 c).arrAt 17 cfg0.N = arr3 (n := 512) (fun b r (j : Fin 512) => gC (a0 m c) (a1 m c) (a2 m c) (a3 m c) (a4 m c) (a5 m c) b r ⟨2048 + j.val, by omega⟩) := by
  refine (dats m 0 c).arrAt_eq_of_covers 17 _ (by decide +kernel) fun t hf y => ?_
  obtain ⟨z, r, d, rfl⟩ : ∃ (z : Fin 1) (r : Fin 256) (d : Fin 512), y = ix3 z r d := ⟨y 0, y 1, y 2, eq_ix3 y⟩
  obtain rfl := Fin.fin_one_eq_zero z
  have hi := (idxo t).2.2.1
  have e : (win0_17.blk t).view.emb (ix3 0 r d) = ix3 (bat t) r d :=
    spot t r d _ ((Pipeline.Window.rect_emb_val win0_17 t (ix3 0 r d) 0 rfl).trans (by rw [hi]; rfl)) ((Pipeline.Window.rect_emb_val win0_17 t (ix3 0 r d) 1 rfl).trans (by rw [hi]; rfl))
      ((Pipeline.Window.rect_emb_val win0_17 t (ix3 0 r d) 2 rfl).trans (by rw [hi]; rfl))
  blk_simp
  show (dats m 0 c).after 17 t (ix3 0 r d) = _
  rw [after0_17, e]
  refine (out17 _ _ _ _ _ _ _ _ _ _ _ _ _ _ _ (ix3 0 r d)).trans ?_
  exact outC_blk m c _ _ _ t r d ⟨2048 + d.val, by omega⟩ (fun k => (iblk6 m c t k d).trans (congrArg (fun q => a3 m c (ix3 0 k q)) (Fin.ext (by show 4096 + d.val = 2048 + (2048 + d.val); omega)))) (fun k => iblk12 m c t k d) (iblk13 m c t d)

theorem arr18 : (dats m 0 c).arrAt 18 cfg0.N = arr3 (n := 256) (gDt (a0 m c) (a1 m c) (a2 m c) (a3 m c) (a6 m c)) := by
  refine (dats m 0 c).arrAt_eq_of_covers 18 _ (by decide +kernel) fun t hf y => ?_
  obtain ⟨z, r, d, rfl⟩ : ∃ (z : Fin 1) (r : Fin 256) (d : Fin 256), y = ix3 z r d := ⟨y 0, y 1, y 2, eq_ix3 y⟩
  obtain rfl := Fin.fin_one_eq_zero z
  have hi := (idxo t).2.2.2
  have e : (win0_18.blk t).view.emb (ix3 0 r d) = ix3 (bat t) r d :=
    spot t r d _ ((Pipeline.Window.rect_emb_val win0_18 t (ix3 0 r d) 0 rfl).trans (by rw [hi]; rfl)) ((Pipeline.Window.rect_emb_val win0_18 t (ix3 0 r d) 1 rfl).trans (by rw [hi]; rfl))
      ((Pipeline.Window.rect_emb_val win0_18 t (ix3 0 r d) 2 rfl).trans (by rw [hi]; rfl))
  blk_simp
  show (dats m 0 c).after 18 t (ix3 0 r d) = _
  rw [after0_18, e]
  refine (out18 _ _ _ _ _ _ _ _ _ _ _ _ _ _ _ (ix3 0 r d)).trans ?_
  exact outDt_blk m c t r d

end

end Cert.Proof.Ctx
-- ==== Proof.CtxRef.lean ====
/- The context projection's plain reference: its results' terms, read an element at a time. -/
module

public import proofs.«01_k».proof.Proof.CtxSpec
public import proofs.«01_k».proof.Proof.InRef
public import proofs.«01_k».proof.Proof.Gen.CtxReferenceIdeal.Run
public import Idealize.ShloMosaic.Lib.Pointwise
public import Idealize.ShloMosaic.Lib.Pipeline.ValueKit

@[expose] public section

set_option maxRecDepth 16384

noncomputable section

namespace Cert.Proof.CtxRef

open Cert.CtxReferenceIdeal Cert.CtxReferenceIdeal.Gen
open Idealize.ShloMosaic Idealize.ShloMosaic.TcCoe Idealize.ShloMosaic.Tactic
open Idealize.SL Idealize.SL.Sem
open Cert.Proof.InProj (hid sgm splus wdt dtb)
open Cert.Proof.InRef (neg_sub0 pad0 choice_congr step_col)
open Cert.Proof.Ctx (hidG pr tapsG cv gC gDt arr3)
open Finset

/-- The normalised, modulated features. -/
def hidT (A0 : S8x256x1024.Idx → Ideal .f32) (A1 : S6144.Idx → Ideal .f32) (A2 : S1x1024.Idx → Ideal .f32) : S8x256x1024.Idx → Ideal .f32 :=
  addf (mulf (mulf (mulf A0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf A0 A0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ A2 shapeCasts_S1x1024_S1024)))) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1024 ![1, 0] (shapeCast _ A1 shapeCasts_S6144_S6x1024) slices_S6x1024_S1x1024_1_0) shapeCasts_S1x1024_S1024))))) (broadcastInDim S8x256x1024 ![0, 1, 2] bcast_S1x1x1024_S8x256x1024_0_1_2 (broadcastInDim S1x1x1024 ![2] bcast_S1024_S1x1x1024_2 (shapeCast _ (extractStridedSlice S1x1024 ![0, 0] (shapeCast _ A1 shapeCasts_S6144_S6x1024) slices_S6x1024_S1x1024_0_0) shapeCasts_S1x1024_S1024)))

/-- The features projected. -/
def projT (A0 : S8x256x1024.Idx → Ideal .f32) (A1 : S6144.Idx → Ideal .f32) (A2 : S1x1024.Idx → Ideal .f32) (A3 : S1x1024x6704.Idx → Ideal .f32) : S8x256x6704.Idx → Ideal .f32 :=
  Host.dotGeneral dot_S8x256x1024_S1024x6704_S8x256x6704_2_0_01_1_n_n none (hidT A0 A1 A2) (shapeCast _ A3 shapeCasts_S1x1024x6704_S1024x6704)

/-- The time steps before their activation. -/
def dtP (P : S8x256x6704.Idx → Ideal .f32) (A6 : S1x2x24.Idx → Ideal .f32) : S8x256x256.Idx → Ideal .f32 :=
  shapeCast _ (pad S8x256x2x128 ![0, 0, 0, 0] ![0, 0, 0, 104] ![0, 0, 0, 0] (addf (shapeCast _ (extractStridedSlice S8x256x48 ![0, 0, 4608] P slices_S8x256x6704_S8x256x48_0_0_4608) shapeCasts_S8x256x48_S8x256x2x24) (broadcastInDim S8x256x2x24 ![0, 1, 2, 3] bcast_S1x1x2x24_S8x256x2x24_0_1_2_3 (broadcastInDim S1x1x2x24 ![2, 3] bcast_S2x24_S1x1x2x24_2_3 (shapeCast _ A6 shapeCasts_S1x2x24_S2x24)))) (sitofp .f32 (constantI S_ 32 0#32)) pads_S8x256x2x24_S8x256x2x128_000_000_000_01040 h_S_) shapeCasts_S8x256x2x128_S8x256x256

/-- Their activation. -/
def dtR (D : S8x256x256.Idx → Ideal .f32) : S8x256x256.Idx → Ideal .f32 :=
  select (cmpf .une (subf D (broadcastInDim S8x256x256 ![] bcast_S_S8x256x256 (constant S_ .f32 0x00000000#32))) (subf D (broadcastInDim S8x256x256 ![] bcast_S_S8x256x256 (constant S_ .f32 0x00000000#32)))) (addf D (broadcastInDim S8x256x256 ![] bcast_S_S8x256x256 (constant S_ .f32 0x00000000#32))) (addf (maximumf D (broadcastInDim S8x256x256 ![] bcast_S_S8x256x256 (constant S_ .f32 0x00000000#32))) (Host.log1p (Host.exp (Host.negf (Host.absf (subf D (broadcastInDim S8x256x256 ![] bcast_S_S8x256x256 (constant S_ .f32 0x00000000#32))))))))

/-- The columns to convolve, one line a batch with a zero at each end. -/
def padP (P : S8x256x6704.Idx → Ideal .f32) : S8x1x258x2560.Idx → Ideal .f32 :=
  pad S8x1x258x2560 ![0, 0, 1, 0] ![0, 0, 1, 0] ![0, 0, 0, 0] (shapeCast _ (extractStridedSlice S8x256x2560 ![0, 0, 2048] P slices_S8x256x6704_S8x256x2560_0_0_2048) shapeCasts_S8x256x2560_S8x1x256x2560) (sitofp .f32 (constantI S_ 32 0#32)) pads_S8x1x256x2560_S8x1x258x2560_000_000_110_000 h_S_

/-- The convolved columns. -/
def cvP (D : S8x1x258x2560.Idx → Ideal .f32) (A4 : S1x3x2560.Idx → Ideal .f32) (A5 : S1x2560.Idx → Ideal .f32) : S8x256x2560.Idx → Ideal .f32 :=
  shapeCast _ (addf (addf (addf (addf (broadcastInDim S8x1x256x2560 ![] bcast_S_S8x1x256x2560 (constant S_ .f32 0x00000000#32)) (mulf (extractStridedSlice S8x1x256x2560 ![0, 0, 0, 0] D slices_S8x1x258x2560_S8x1x256x2560_0_0_0_0) (broadcastInDim S8x1x256x2560 ![0, 1, 2, 3] bcast_S1x1x1x2560_S8x1x256x2560_0_1_2_3 (broadcastInDim S1x1x1x2560 ![3] bcast_S2560_S1x1x1x2560_3 (shapeCast _ (extractStridedSlice S1x2560 ![0, 0] (shapeCast _ A4 shapeCasts_S1x3x2560_S3x2560) slices_S3x2560_S1x2560_0_0) shapeCasts_S1x2560_S2560))))) (mulf (extractStridedSlice S8x1x256x2560 ![0, 0, 1, 0] D slices_S8x1x258x2560_S8x1x256x2560_0_0_1_0) (broadcastInDim S8x1x256x2560 ![0, 1, 2, 3] bcast_S1x1x1x2560_S8x1x256x2560_0_1_2_3 (broadcastInDim S1x1x1x2560 ![3] bcast_S2560_S1x1x1x2560_3 (shapeCast _ (extractStridedSlice S1x2560 ![1, 0] (shapeCast _ A4 shapeCasts_S1x3x2560_S3x2560) slices_S3x2560_S1x2560_1_0) shapeCasts_S1x2560_S2560))))) (mulf (extractStridedSlice S8x1x256x2560 ![0, 0, 2, 0] D slices_S8x1x258x2560_S8x1x256x2560_0_0_2_0) (broadcastInDim S8x1x256x2560 ![0, 1, 2, 3] bcast_S1x1x1x2560_S8x1x256x2560_0_1_2_3 (broadcastInDim S1x1x1x2560 ![3] bcast_S2560_S1x1x1x2560_3 (shapeCast _ (extractStridedSlice S1x2560 ![2, 0] (shapeCast _ A4 shapeCasts_S1x3x2560_S3x2560) slices_S3x2560_S1x2560_2_0) shapeCasts_S1x2560_S2560))))) (broadcastInDim S8x1x256x2560 ![0, 1, 2, 3] bcast_S1x1x1x2560_S8x1x256x2560_0_1_2_3 (broadcastInDim S1x1x1x2560 ![3] bcast_S2560_S1x1x1x2560_3 (shapeCast _ A5 shapeCasts_S1x2560_S2560)))) shapeCasts_S8x1x256x2560_S8x256x2560

/-- Their activation. -/
def cvR (C : S8x256x2560.Idx → Ideal .f32) : S8x256x2560.Idx → Ideal .f32 :=
  mulf C (Host.divf (broadcastInDim S8x256x2560 ![] bcast_S_S8x256x2560 (constant S_ .f32 0x3F800000#32)) (addf (broadcastInDim S8x256x2560 ![] bcast_S_S8x256x2560 (constant S_ .f32 0x3F800000#32)) (Host.exp (Host.negf C))))

section
variable (A0 : S8x256x1024.Idx → Ideal .f32) (A1 : S6144.Idx → Ideal .f32) (A2 : S1x1024.Idx → Ideal .f32) (A3 : S1x1024x6704.Idx → Ideal .f32)

theorem hidT_at (b : Fin 8) (r : Fin 256) (k : Fin 1024) : (hidT A0 A1 A2 (ix3 b r k) : EReal) = hidG A0 A1 A2 b r k := by
  unfold hidT hidG hid
  pointwise

theorem projT_at (b : Fin 8) (r : Fin 256) (j : Fin 6704) : (projT A0 A1 A2 A3 (ix3 b r j) : EReal) = pr A0 A1 A2 A3 b r j := by
  unfold projT pr
  pointwise
  exact Finset.sum_congr rfl fun k _ => congrArg (· * A3 (ix3 0 k j)) (hidT_at A0 A1 A2 b r k)
end

section
variable (P : S8x256x6704.Idx → Ideal .f32)

theorem cvR_at (C : S8x256x2560.Idx → Ideal .f32) (b : Fin 8) (r : Fin 256) (q : Fin 2560) : (cvR C (ix3 b r q) : EReal) = C (ix3 b r q) * sgm (C (ix3 b r q)) := by
  unfold cvR sgm
  pointwise
  rw [neg_sub0]

theorem padP_at (b : Fin 8) (s : Fin 258) (q : Fin 2560) :
    (padP P (ix4 b 0 s q) : EReal) = if h : 1 ≤ s.val ∧ s.val < 257 then P (ix3 b ⟨s.val - 1, by omega⟩ ⟨2048 + q.val, by omega⟩) else 0 := by
  unfold padP
  pointwise
  exact choice_congr ⟨fun h => by omega, fun h => by omega⟩ (fun hp hq => rfl) pad0

theorem cvP_at (D : S8x1x258x2560.Idx → Ideal .f32) (A4 : S1x3x2560.Idx → Ideal .f32) (A5 : S1x2560.Idx → Ideal .f32) (b : Fin 8) (r : Fin 256) (q : Fin 2560) :
    (cvP D A4 A5 (ix3 b r q) : EReal) = D (ix4 b 0 ⟨r.val, by omega⟩ q) * A4 (ix3 0 0 q) + D (ix4 b 0 ⟨r.val + 1, by omega⟩ q) * A4 (ix3 0 1 q)
      + D (ix4 b 0 ⟨r.val + 2, by omega⟩ q) * A4 (ix3 0 2 q) + A5 (ix2 0 q) := by
  unfold cvP
  pointwise
  refine congrArg (· + A5 (ix2 0 q)) (congrArg₂ (· + ·) (congrArg₂ (· + ·) rfl (congrArg (· * A4 (ix3 0 1 q)) (congrArg (fun x => D (ix4 b 0 x q)) (Fin.ext ?_))))
    (congrArg (· * A4 (ix3 0 2 q)) (congrArg (fun x => D (ix4 b 0 x q)) (Fin.ext ?_))))
  · show 1 + r.val = r.val + 1; omega
  · show 2 + r.val = r.val + 2; omega

set_option maxHeartbeats 2000000 in
theorem dtP_at (A6 : S1x2x24.Idx → Ideal .f32) (b : Fin 8) (r : Fin 256) (j : Fin 256) :
    (dtP P A6 (ix3 b r j) : EReal) = if h : j.val % 128 < 24 then P (ix3 b r ⟨4608 + 24 * (j.val / 128) + j.val % 128, by omega⟩) + A6 (ix3 0 ⟨j.val / 128, by omega⟩ ⟨j.val % 128, h⟩) else 0 := by
  unfold dtP
  pointwise
  refine choice_congr ⟨And.right, fun h => ⟨by omega, h⟩⟩ (fun hp hq => ?_) pad0
  rw [step_col 4608]

theorem dtR_at (D : S8x256x256.Idx → Ideal .f32) (b : Fin 8) (r : Fin 256) (j : Fin 256) : (dtR D (ix3 b r j) : EReal) = splus (D (ix3 b r j)) := by
  unfold dtR splus
  pointwise
  rw [if_neg (not_not.2 rfl), neg_sub0]
  rfl
end

section
variable (A0 : S8x256x1024.Idx → Ideal .f32) (A1 : S6144.Idx → Ideal .f32) (A2 : S1x1024.Idx → Ideal .f32) (A3 : S1x1024x6704.Idx → Ideal .f32)

/-- The reference's line with zeros at its ends gives the taps of the specification. -/
theorem cv_eq (A4 : S1x3x2560.Idx → Ideal .f32) (A5 : S1x2560.Idx → Ideal .f32) (b : Fin 8) (r : Fin 256) (q : Fin 2560) :
    (cvP (padP (projT A0 A1 A2 A3)) A4 A5 (ix3 b r q) : EReal) = cv A0 A1 A2 A3 A4 A5 b r q := by
  rw [cvP_at, padP_at, padP_at, padP_at]
  unfold cv tapsG
  refine congrArg (· + A5 (ix2 0 q)) (congrArg₂ (· + ·) (congrArg₂ (· + ·) ?_ ?_) ?_)
  · by_cases h : r.val = 0
    · rw [if_pos h, dif_neg (by show ¬(1 ≤ r.val ∧ r.val < 257); omega), zero_mul]
    · rw [if_neg h, dif_pos (by show 1 ≤ r.val ∧ r.val < 257; omega), projT_at]
  · rw [dif_pos (by show 1 ≤ r.val + 1 ∧ r.val + 1 < 257; omega), projT_at]
    rfl
  · by_cases h : r.val = 255
    · rw [dif_pos h, dif_neg (by show ¬(1 ≤ r.val + 2 ∧ r.val + 2 < 257); omega), zero_mul]
    · rw [dif_neg h, dif_pos (by show 1 ≤ r.val + 2 ∧ r.val + 2 < 257; omega), projT_at]
      rfl

theorem c_eq (A4 : S1x3x2560.Idx → Ideal .f32) (A5 : S1x2560.Idx → Ideal .f32) (b : Fin 8) (r : Fin 256) (q : Fin 2560) :
    (cvR (cvP (padP (projT A0 A1 A2 A3)) A4 A5) (ix3 b r q) : EReal) = gC A0 A1 A2 A3 A4 A5 b r q := by
  rw [cvR_at, cv_eq]
  rfl

/-- A padded column's product is with zeros, whatever the features are, and so is 0. -/
theorem dt_eq (A6 : S1x2x24.Idx → Ideal .f32) (b : Fin 8) (r : Fin 256) (j : Fin 256) :
    (dtR (dtP (projT A0 A1 A2 A3) A6) (ix3 b r j) : EReal) = gDt A0 A1 A2 A3 A6 b r j := by
  rw [dtR_at, dtP_at]
  unfold gDt
  refine congrArg splus ?_
  by_cases h : j.val % 128 < 24
  · rw [dif_pos h, projT_at]
    unfold pr wdt dtb
    rw [dif_pos h]
    refine congrArg (· + A6 (ix3 0 ⟨j.val / 128, by omega⟩ ⟨j.val % 128, h⟩)) (Finset.sum_congr rfl fun k _ => ?_)
    rw [dif_pos h]
  · rw [dif_neg h]
    unfold wdt dtb
    rw [dif_neg h, add_zero]
    refine (Finset.sum_eq_zero fun k _ => ?_).symm
    rw [dif_neg h, mul_zero]
end

end Cert.Proof.CtxRef
-- ==== Proof.CtxRun.lean ====
/- The context projection's reference as a run: its four results are the functions of the arguments `CtxSpec.lean` writes. -/
module

public import proofs.«01_k».proof.Proof.CtxRef

@[expose] public section

set_option maxRecDepth 16384

noncomputable section

namespace Cert.Proof.CtxRef

open Idealize.ShloMosaic Idealize.ShloMosaic.TcCoe Idealize.ShloMosaic.Tactic Idealize.SL.Sem
open Cert.CtxReferenceIdeal Cert.CtxReferenceIdeal.Gen
open Cert.Proof.Ctx (gC gDt arr3)

/-! ### The results whole -/

/-- An array whose elements are given is `arr3` of them. -/
theorem arr_of {n : Nat} (f : (⟨3, ![8, 256, n]⟩ : Shape).Idx → EReal) (g : Fin 8 → Fin 256 → Fin n → EReal) (h : ∀ b r j, f (ix3 b r j) = g b r j) : f = arr3 g := by
  funext y
  obtain ⟨b, r, j, rfl⟩ : ∃ (b : Fin 8) (r : Fin 256) (j : Fin n), y = ix3 b r j := ⟨y 0, y 1, y 2, eq_ix3 y⟩
  exact h b r j

/-- The first 1536 convolved columns. -/
def xsR (C : S8x256x2560.Idx → Ideal .f32) : S8x256x1536.Idx → Ideal .bf16 :=
  truncf .bf16 (extractStridedSlice S8x256x1536 ![0, 0, 0] C slices_S8x256x2560_S8x256x1536_0_0_0) bitsLt_bf16_f32

/-- The next 512. -/
def bmR (C : S8x256x2560.Idx → Ideal .f32) : S8x256x512.Idx → Ideal .bf16 :=
  truncf .bf16 (extractStridedSlice S8x256x512 ![0, 0, 1536] C slices_S8x256x2560_S8x256x512_0_0_1536) bitsLt_bf16_f32

/-- The last 512. -/
def cmR (C : S8x256x2560.Idx → Ideal .f32) : S8x256x512.Idx → Ideal .bf16 :=
  truncf .bf16 (extractStridedSlice S8x256x512 ![0, 0, 2048] C slices_S8x256x2560_S8x256x512_0_0_2048) bitsLt_bf16_f32

theorem xsR_at (C : S8x256x2560.Idx → Ideal .f32) (b : Fin 8) (r : Fin 256) (j : Fin 1536) (q : Fin 2560) (hq : q.val = j.val) : (xsR C (ix3 b r j) : EReal) = C (ix3 b r q) := by
  unfold xsR
  pointwise
  exact congrArg (fun x => C (ix3 b r x)) (Fin.ext (by simp [hq]))

theorem bmR_at (C : S8x256x2560.Idx → Ideal .f32) (b : Fin 8) (r : Fin 256) (j : Fin 512) (q : Fin 2560) (hq : q.val = 1536 + j.val) : (bmR C (ix3 b r j) : EReal) = C (ix3 b r q) := by
  unfold bmR
  pointwise
  exact congrArg (fun x => C (ix3 b r x)) (Fin.ext (by simp [hq]))

theorem cmR_at (C : S8x256x2560.Idx → Ideal .f32) (b : Fin 8) (r : Fin 256) (j : Fin 512) (q : Fin 2560) (hq : q.val = 2048 + j.val) : (cmR C (ix3 b r j) : EReal) = C (ix3 b r q) := by
  unfold cmR
  pointwise
  exact congrArg (fun x => C (ix3 b r x)) (Fin.ext (by simp [hq]))

section
variable (m : (ℓ : Loc nD τ sig) → Buf (Elt Ideal) ℓ) (ρ : Dev nD → PrngReg) (c : Dev nD)

abbrev b0 : S8x256x1024.Idx → EReal := m ((c.tc : Thread nD τ).loc main_arg0)
abbrev b1 : S6144.Idx → EReal := m ((c.tc : Thread nD τ).loc main_arg1)
abbrev b2 : S1x1024.Idx → EReal := m ((c.tc : Thread nD τ).loc main_arg2)
abbrev b3 : S1x1024x6704.Idx → EReal := m ((c.tc : Thread nD τ).loc main_arg3)
abbrev b4 : S1x3x2560.Idx → EReal := m ((c.tc : Thread nD τ).loc main_arg4)
abbrev b5 : S1x2560.Idx → EReal := m ((c.tc : Thread nD τ).loc main_arg5)
abbrev b6 : S1x2x24.Idx → EReal := m ((c.tc : Thread nD τ).loc main_arg6)

theorem res0 : xsR (cvR (cvP (padP (projT (b0 m c) (b1 m c) (b2 m c) (b3 m c))) (b4 m c) (b5 m c))) = arr3 (n := 1536) (fun b r (j : Fin 1536) => gC (b0 m c) (b1 m c) (b2 m c) (b3 m c) (b4 m c) (b5 m c) b r ⟨j.val, by omega⟩) :=
  arr_of _ _ (fun b r j => (xsR_at _ b r j ⟨j.val, by omega⟩ rfl).trans (c_eq (b0 m c) (b1 m c) (b2 m c) (b3 m c) (b4 m c) (b5 m c) b r _))

theorem res1 : bmR (cvR (cvP (padP (projT (b0 m c) (b1 m c) (b2 m c) (b3 m c))) (b4 m c) (b5 m c))) = arr3 (n := 512) (fun b r (j : Fin 512) => gC (b0 m c) (b1 m c) (b2 m c) (b3 m c) (b4 m c) (b5 m c) b r ⟨1536 + j.val, by omega⟩) :=
  arr_of _ _ (fun b r j => (bmR_at _ b r j ⟨1536 + j.val, by omega⟩ rfl).trans (c_eq (b0 m c) (b1 m c) (b2 m c) (b3 m c) (b4 m c) (b5 m c) b r _))

theorem res2 : cmR (cvR (cvP (padP (projT (b0 m c) (b1 m c) (b2 m c) (b3 m c))) (b4 m c) (b5 m c))) = arr3 (n := 512) (fun b r (j : Fin 512) => gC (b0 m c) (b1 m c) (b2 m c) (b3 m c) (b4 m c) (b5 m c) b r ⟨2048 + j.val, by omega⟩) :=
  arr_of _ _ (fun b r j => (cmR_at _ b r j ⟨2048 + j.val, by omega⟩ rfl).trans (c_eq (b0 m c) (b1 m c) (b2 m c) (b3 m c) (b4 m c) (b5 m c) b r _))

theorem res3 : dtR (dtP (projT (b0 m c) (b1 m c) (b2 m c) (b3 m c)) (b6 m c)) = arr3 (n := 256) (gDt (b0 m c) (b1 m c) (b2 m c) (b3 m c) (b6 m c)) :=
  arr_of _ _ (dt_eq (b0 m c) (b1 m c) (b2 m c) (b3 m c) (b6 m c))
end

/-- The run, its results read. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76) = arr3 (n := 1536) (fun b r (j : Fin 1536) => gC (b0 m c) (b1 m c) (b2 m c) (b3 m c) (b4 m c) (b5 m c) b r ⟨j.val, by omega⟩)
      ∧ r.2.mem ((c.tc : Thread nD τ).loc main_v77) = arr3 (n := 512) (fun b r (j : Fin 512) => gC (b0 m c) (b1 m c) (b2 m c) (b3 m c) (b4 m c) (b5 m c) b r ⟨1536 + j.val, by omega⟩)
      ∧ r.2.mem ((c.tc : Thread nD τ).loc main_v78) = arr3 (n := 512) (fun b r (j : Fin 512) => gC (b0 m c) (b1 m c) (b2 m c) (b3 m c) (b4 m c) (b5 m c) b r ⟨2048 + j.val, by omega⟩)
      ∧ r.2.mem ((c.tc : Thread nD τ).loc main_v75) = arr3 (n := 256) (gDt (b0 m c) (b1 m c) (b2 m c) (b3 m c) (b6 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r q c => ?_) (Value.run (F := Ideal) m ρ)
  obtain ⟨q0, q1, q2, q3, q⟩ := q c
  unfold Value.res_main_v76 at q0
  unfold Value.res_main_v77 at q1
  unfold Value.res_main_v78 at q2
  unfold Value.res_main_v75 at q3
  exact ⟨q0.trans (res0 m c), q1.trans (res1 m c), q2.trans (res2 m c), q3.trans (res3 m c), q⟩

end Cert.Proof.CtxRef

end
-- ==== Proof.CtxValue.lean ====
/- The context projection call: its frames, and its value against the reference's. -/
module

public import proofs.«01_k».proof.Defs
public import proofs.«01_k».proof.Proof.CtxSame
public import proofs.«01_k».proof.Proof.CtxArr
public import proofs.«01_k».proof.Proof.CtxRun
public import Idealize.ShloMosaic.Adequacy
public import Idealize.ShloMosaic.Init

@[expose] public section

set_option maxRecDepth 16384
set_option maxHeartbeats 4000000

noncomputable section

namespace Cert.Proof.Ctx

open Idealize.ShloMosaic Idealize.ShloMosaic.TcCoe Idealize.SL.Sem
open Cert.CtxKernelIdeal Cert.CtxKernelIdeal.Gen

/-- The context projection call's frame at bits: one run over any float values serves both texts. -/
theorem frame_kernel : Cert.quiescent_CtxKernel := by
  intro m ρ _
  rw [same_run]
  exact frame (F := Bits) m ρ

/-- The context projection call's frame over the extended reals. -/
theorem frame_ideal : Cert.quiescent_CtxKernelIdeal := fun m ρ _ => frame (F := Ideal) m ρ

/-- Its reference's frame. -/
theorem frame_reference : Cert.quiescent_CtxReferenceIdeal := fun m ρ _ =>
  (θ_run Cert.CtxReferenceIdeal.defs _ _).mono (fun r h => ⟨fun c => (h c).2.2.2.2, sem_eq_zero_of_no_sems (by decide) r.2⟩)
    (Cert.CtxReferenceIdeal.Value.run (F := Ideal) m ρ)

/-- The arguments after the kernel's run, and its results as the blocks it wrote. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47_0) = arr3 (n := 1536) (fun b r (j : Fin 1536) => gC (a0 m c) (a1 m c) (a2 m c) (a3 m c) (a4 m c) (a5 m c) b r ⟨j.val, by omega⟩)
      ∧ r.2.mem ((c.tc : Thread nD τ).loc main_v47_1) = arr3 (n := 512) (fun b r (j : Fin 512) => gC (a0 m c) (a1 m c) (a2 m c) (a3 m c) (a4 m c) (a5 m c) b r ⟨1536 + j.val, by omega⟩)
      ∧ r.2.mem ((c.tc : Thread nD τ).loc main_v47_2) = arr3 (n := 512) (fun b r (j : Fin 512) => gC (a0 m c) (a1 m c) (a2 m c) (a3 m c) (a4 m c) (a5 m c) b r ⟨2048 + j.val, by omega⟩)
      ∧ r.2.mem ((c.tc : Thread nD τ).loc main_v47_3) = arr3 (n := 256) (gDt (a0 m c) (a1 m c) (a2 m c) (a3 m c) (a6 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r q c => ?_) (θ_run_and (run_main m ρ) (frame m ρ))
  exact ⟨((q.1 c).1 15).trans (arr15 m c), ((q.1 c).1 16).trans (arr16 m c), ((q.1 c).1 17).trans (arr17 m c), ((q.1 c).1 18).trans (arr18 m c), q.2.1 c⟩

/-- The value: both runs end at the functions of the arguments `CtxSpec.lean` writes. -/
theorem value : Cert.algebraic_CtxKernelIdeal_CtxReferenceIdeal := by
  intro m g m' g' _ e
  refine ⟨fun c => arr3 (n := 1536) (fun b r (j : Fin 1536) => gC (a0 m c) (a1 m c) (a2 m c) (a3 m c) (a4 m c) (a5 m c) b r ⟨j.val, by omega⟩),
    fun c => arr3 (n := 512) (fun b r (j : Fin 512) => gC (a0 m c) (a1 m c) (a2 m c) (a3 m c) (a4 m c) (a5 m c) b r ⟨1536 + j.val, by omega⟩),
    fun c => arr3 (n := 512) (fun b r (j : Fin 512) => gC (a0 m c) (a1 m c) (a2 m c) (a3 m c) (a4 m c) (a5 m c) b r ⟨2048 + j.val, by omega⟩),
    fun c => arr3 (n := 256) (gDt (a0 m c) (a1 m c) (a2 m c) (a3 m c) (a6 m c)),
    run_kernel m g, (θ_run Cert.CtxReferenceIdeal.defs _ _).mono (fun r q c => ?_) (CtxRef.run m' g')⟩
  obtain ⟨e0, e1, e2, e3, e4, e5, e6⟩ := e c
  have k0 : CtxRef.b0 m' c = a0 m c := e0
  have k1 : CtxRef.b1 m' c = a1 m c := e1
  have k2 : CtxRef.b2 m' c = a2 m c := e2
  have k3 : CtxRef.b3 m' c = a3 m c := e3
  have k4 : CtxRef.b4 m' c = a4 m c := e4
  have k5 : CtxRef.b5 m' c = a5 m c := e5
  have k6 : CtxRef.b6 m' c = a6 m c := e6
  obtain ⟨q0, q1, q2, q3, q⟩ := q c
  exact ⟨q0.trans (by rw [k0, k1, k2, k3, k4, k5]), q1.trans (by rw [k0, k1, k2, k3, k4, k5]), q2.trans (by rw [k0, k1, k2, k3, k4, k5]), q3.trans (by rw [k0, k1, k2, k3, k6]), q⟩

end Cert.Proof.Ctx

end
-- ==== Proof.AffBody.lean ====
/- The merge's body once more, for its third result: a row of the router's affinities, from the rows before it. -/
module

public import proofs.«01_k».proof.Proof.Gen.AffKernelIdeal.Skeleton
public import proofs.«01_k».proof.Proof.MixSpec
public import Idealize.ShloMosaic.Lib.Pointwise

@[expose] public section

set_option maxRecDepth 16384

noncomputable section

namespace Cert.Proof.Aff

open Cert.AffKernelIdeal Cert.AffKernelIdeal.Gen
open Idealize.ShloMosaic Idealize.ShloMosaic.TcCoe Idealize.ShloMosaic.Tactic
open Cert.Proof.Mix (rmsRow gated mixRow hxRow hmRow)
open Finset

theorem yn0_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay7 (F := Ideal) (k0_pay5 n) (k0_pay6 yf yb d xs z) (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay7 k0_pay6 k0_pay5 rmsRow gated
  pointwise

theorem yn1_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay8 (F := Ideal) yf yb d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay8 rmsRow gated
  pointwise

theorem yn2_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay9 (F := Ideal) yf yb d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay9 rmsRow gated
  pointwise

theorem yn3_at (yf yb : S1x128x1536.Idx → Ideal .bf16) (d : S1x1536.Idx → Ideal .f32) (xs z : S1x128x1536.Idx → Ideal .bf16) (n : S1x1536.Idx → Ideal .f32) (s : Fin 128) (k : Fin 1536) :
    (k0_pay12 (F := Ideal) (k0_pay10 yf) (k0_pay11 yb) d xs z n (ix2 s k) : EReal)
      = rmsRow 0x44C00000#32 (gated (fun k => yf (ix3 0 s k)) (fun k => yb (ix3 0 s k)) (fun k => d (ix2 0 k)) (fun k => xs (ix3 0 s k)) (fun k => z (ix3 0 s k))) (fun k => n (ix2 0 k)) k := by
  unfold k0_pay12 k0_pay11 k0_pay10 rmsRow gated
  pointwise

theorem mix0_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay23 (F := Ideal) (k0_pay13 Y ws) (k0_pay17 f wf) (k0_pay21 g) wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay23 k0_pay13 k0_pay17 k0_pay21 mixRow
  pointwise

theorem mix1_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay24 (F := Ideal) (k0_pay14 Y ws) (k0_pay18 f wf) g wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay24 k0_pay14 k0_pay18 mixRow
  pointwise

theorem mix2_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay25 (F := Ideal) (k0_pay15 Y ws) (k0_pay19 f wf) g wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay25 k0_pay15 k0_pay19 mixRow
  pointwise

theorem mix3_at (Y : S128x1536.Idx → Ideal .bf16) (ws : S1536x1024.Idx → Ideal .bf16) (f : S1x128x512.Idx → Ideal .f32) (wf : S512x1024.Idx → Ideal .bf16) (g : S1x128x2048.Idx → Ideal .bf16) (wo : S1024x1024.Idx → Ideal .bf16) (s : Fin 128) (j : Fin 1024) :
    (k0_pay26 (F := Ideal) (k0_pay22 (k0_pay16 Y ws) (k0_pay20 f wf) g) wo (ix2 s j) : EReal)
      = mixRow (fun k => Y (ix2 s k)) (fun k => f (ix3 0 s k)) (fun k => g (ix3 0 s k)) (fun e k => ws (ix2 e k)) (fun e k => wf (ix2 e k)) (fun e k => wo (ix2 e k)) j := by
  unfold k0_pay26 k0_pay22 k0_pay16 k0_pay20 mixRow
  pointwise

theorem hv0_at (m : S128x1024.Idx → Ideal .f32) (x : S1x128x1024.Idx → Ideal .f32) (g : S1x1x1024.Idx → Ideal .f32) (np : S1x1024.Idx → Ideal .f32) (s : Fin 128) (j : Fin 1024) :
    (k0_pay27 (F := Ideal) m x g np (ix2 s j) : EReal)
      = hxRow (fun k => m (ix2 s k)) (fun k => x (ix3 0 s k)) (fun k => g (ix3 0 0 k)) (fun k => np (ix2 0 k)) j := by
  unfold k0_pay27 hxRow rmsRow
  pointwise

theorem hv1_at (m : S128x1024.Idx → Ideal .f32) (x : S1x128x1024.Idx → Ideal .f32) (g : S1x1x1024.Idx → Ideal .f32) (np : S1x1024.Idx → Ideal .f32) (s : Fin 128) (j : Fin 1024) :
    (k0_pay35 (F := Ideal) m (k0_pay33 x) (k0_pay34 g) np (ix2 s j) : EReal)
      = hxRow (fun k => m (ix2 s k)) (fun k => x (ix3 0 s k)) (fun k => g (ix3 0 0 k)) (fun k => np (ix2 0 k)) j := by
  unfold k0_pay35 k0_pay33 k0_pay34 hxRow rmsRow
  pointwise

theorem hv2_at (m : S128x1024.Idx → Ideal .f32) (x : S1x128x1024.Idx → Ideal .f32) (g : S1x1x1024.Idx → Ideal .f32) (np : S1x1024.Idx → Ideal .f32) (s : Fin 128) (j : Fin 1024) :
    (k0_pay41 (F := Ideal) m x g np (ix2 s j) : EReal)
      = hxRow (fun k => m (ix2 s k)) (fun k => x (ix3 0 s k)) (fun k => g (ix3 0 0 k)) (fun k => np (ix2 0 k)) j := by
  unfold k0_pay41 hxRow rmsRow
  pointwise

theorem hv3_at (m : S128x1024.Idx → Ideal .f32) (x : S1x128x1024.Idx → Ideal .f32) (g : S1x1x1024.Idx → Ideal .f32) (np : S1x1024.Idx → Ideal .f32) (s : Fin 128) (j : Fin 1024) :
    (k0_pay46 (F := Ideal) m x g np (ix2 s j) : EReal)
      = hxRow (fun k => m (ix2 s k)) (fun k => x (ix3 0 s k)) (fun k => g (ix3 0 0 k)) (fun k => np (ix2 0 k)) j := by
  unfold k0_pay46 hxRow rmsRow
  pointwise

theorem hmv0_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay31 (F := Ideal) (k0_pay27 m x g np) (k0_pay29 nq) (k0_pay30 m x g np) sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv0_at m x g np s)]
  unfold k0_pay31 k0_pay30 k0_pay29 hmRow rmsRow
  pointwise

theorem hmv1_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay39 (F := Ideal) (k0_pay37 m (k0_pay33 x) (k0_pay34 g) np nq sc) (k0_pay38 sh) (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv1_at m x g np s)]
  unfold k0_pay39 k0_pay38 k0_pay37 hmRow rmsRow
  pointwise

theorem hmv2_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay43 (F := Ideal) (k0_pay41 m x g np) nq sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv2_at m x g np s)]
  unfold k0_pay43 hmRow rmsRow
  pointwise

theorem hmv3_at (m : S128x1024.Idx → Ideal .f32) (x : S1x128x1024.Idx → Ideal .f32) (g : S1x1x1024.Idx → Ideal .f32) (np : S1x1024.Idx → Ideal .f32) (nq : S1x1024.Idx → Ideal .f32) (sc sh : S1x1x1024.Idx → Ideal .f32) (s : Fin 128) (j : Fin 1024) :
    (k0_pay50 (F := Ideal) (k0_pay46 m x g np) (k0_pay48 nq) (k0_pay49 m x g np) (Scalar.ofBits .f32 0x358637BD#32) sc sh (ix2 s j) : EReal)
      = hmRow (hxRow (fun k => m (ix2 s k)) (fun k => x (ix3 0 s k)) (fun k => g (ix3 0 0 k)) (fun k => np (ix2 0 k))) (fun k => nq (ix2 0 k)) (fun k => sc (ix3 0 0 k)) (fun k => sh (ix3 0 0 k)) j := by
  rw [← funext (hv3_at m x g np s)]
  unfold k0_pay50 k0_pay49 k0_pay48 hmRow rmsRow
  pointwise

/-- A row's product with the router's columns, as the kernel splits both factors. -/
def logRow (h : Fin 1024 → EReal) (w : Fin 1024 → Fin 128 → EReal) (e : Fin 128) : EReal :=
  (∑ k : Fin 1024, h k * w k e) + ((∑ k : Fin 1024, h k * (w k e - w k e)) + ∑ k : Fin 1024, (h k - h k) * w k e)

/-- The columns after the experts' at the mask. -/
def mskRow (L : Fin 128 → EReal) (e : Fin 128) : EReal := if e.val < 16 then L e else ⊥

/-- The greatest of a row. -/
def top {n : Nat} (L : Fin n → EReal) : EReal := Finset.univ.fold max ⊥ L

/-- A row's softmax. -/
def soft {n : Nat} (L : Fin n → EReal) (e : Fin n) : EReal := Ideal.div (Ideal.exp (L e - top L)) (∑ x, Ideal.exp (L x - top L))

theorem sel_msk (e : Fin 128) (a : EReal) :
    (Scalar.select (IntOp.cmpi CmpIPredicate.slt (BitVec.ofNat 32 e.val) 16#32) (a : Ideal .f32) (Named.named κ "mask" 4048155338#32 : Ideal .f32) : Ideal .f32)
      = if e.val < 16 then a else ⊥ := by
  have hb : (Named.named κ "mask" 4048155338#32 : Ideal .f32) = (⊥ : EReal) := rfl
  rw [hb]
  by_cases he : e.val < 16
  · have hc : IntOp.cmpi CmpIPredicate.slt (BitVec.ofNat 32 e.val) 16#32 = 1#1 := by
      revert e; decide
    rw [hc, if_pos he]; rfl
  · have hc : IntOp.cmpi CmpIPredicate.slt (BitVec.ofNat 32 e.val) 16#32 = 0#1 := by
      revert e; decide
    rw [hc, if_neg he]; rfl

theorem aff_eq (L : Fin 128 → EReal) (e : Fin 128) :
    Ideal.div
      (Ideal.exp
        ((Scalar.select (IntOp.cmpi CmpIPredicate.slt (BitVec.ofNat 32 e.val) 16#32) (L e : Ideal .f32) (Named.named κ "mask" 4048155338#32 : Ideal .f32) : Ideal .f32) -
          fold max (Ideal.ofBits FTy.f32 4286578688#32)
            (fun x : Fin 128 => (Scalar.select (IntOp.cmpi CmpIPredicate.slt (BitVec.ofNat 32 x.val) 16#32) (L x : Ideal .f32) (Named.named κ "mask" 4048155338#32 : Ideal .f32) : Ideal .f32))
            univ))
      (∑ x : Fin 128,
        Ideal.exp
          ((Scalar.select (IntOp.cmpi CmpIPredicate.slt (BitVec.ofNat 32 x.val) 16#32) (L x : Ideal .f32) (Named.named κ "mask" 4048155338#32 : Ideal .f32) : Ideal .f32) -
            fold max (Ideal.ofBits FTy.f32 4286578688#32)
              (fun x : Fin 128 => (Scalar.select (IntOp.cmpi CmpIPredicate.slt (BitVec.ofNat 32 x.val) 16#32) (L x : Ideal .f32) (Named.named κ "mask" 4048155338#32 : Ideal .f32) : Ideal .f32))
              univ))
      = soft (mskRow L) e := by
  have hz : Ideal.ofBits FTy.f32 4286578688#32 = (⊥ : EReal) := by
    simp [Ideal.ofBits, Ideal.ieee]
  simp only [sel_msk, hz]
  rfl

variable (h : S128x1024.Idx → Ideal .f32) (w : S1024x128.Idx → Ideal .f32) (e : Fin 16) (s : Fin 128)

theorem aff0_at :
    (k0_pay56 (F := Ideal) (k0_pay53 (k0_pay3 w) h) (k0_pay54 (k0_pay4 w) h) (k0_pay55 (k0_pay3 w) h) (ix3 0 e s) : EReal)
      = soft (mskRow (logRow (fun k => h (ix2 s k)) (fun k e => w (ix2 k e)))) ⟨e.val, by omega⟩ := by
  rw [← aff_eq]
  unfold k0_pay56 k0_pay55 k0_pay54 k0_pay53 k0_pay52 k0_pay4 k0_pay3 k0_pay2 logRow
  pointwise

theorem aff1_at :
    (k0_pay58 (F := Ideal) (k0_pay57 (k0_pay3 w) (k0_pay4 w) h) (ix3 0 e s) : EReal)
      = soft (mskRow (logRow (fun k => h (ix2 s k)) (fun k e => w (ix2 k e)))) ⟨e.val, by omega⟩ := by
  rw [← aff_eq]
  unfold k0_pay58 k0_pay57 k0_pay4 k0_pay3 k0_pay2 logRow
  pointwise

theorem aff2_at :
    (k0_pay59 (F := Ideal) (k0_pay3 w) (k0_pay4 w) h (ix3 0 e s) : EReal)
      = soft (mskRow (logRow (fun k => h (ix2 s k)) (fun k e => w (ix2 k e)))) ⟨e.val, by omega⟩ := by
  rw [← aff_eq]
  unfold k0_pay59 k0_pay4 k0_pay3 k0_pay2 logRow
  pointwise

theorem aff3_at :
    (k0_pay1 (F := Ideal) (k0_pay60 (k0_pay3 w) (k0_pay4 w) h) (iota .tc S128x128 32 [1] iota_S128x128_d1_w32) (ix3 0 e s) : EReal)
      = soft (mskRow (logRow (fun k => h (ix2 s k)) (fun k e => w (ix2 k e)))) ⟨e.val, by omega⟩ :=
  aff2_at h w e s

end Cert.Proof.Aff
-- ==== Proof.AffFin.lean ====
/- A row of affinities where every argument is finite: the parts the kernel splits off are 0, and the columns after the experts'
   weigh nothing. -/
module

public import proofs.«01_k».proof.Proof.AffBody

@[expose] public section

set_option maxRecDepth 16384

noncomputable section

namespace Cert.Proof.Aff

open Idealize.ShloMosaic
open Cert.Proof.Mix (rmsRow gated mixRow hxRow hmRow)
open Finset

/-- A real number. -/
def IsReal (x : EReal) : Prop := ∃ r : ℝ, x = (r : EReal)

theorem fin_add {x y : EReal} (hx : IsReal x) (hy : IsReal y) : IsReal (x + y) := by
  obtain ⟨a, rfl⟩ := hx
  obtain ⟨b, rfl⟩ := hy
  exact ⟨a + b, (EReal.coe_add a b).symm⟩

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem sum_real {n : Nat} (f : Fin n → ℝ) : ∑ i, (f i : EReal) = ((∑ i, f i : ℝ) : EReal) :=
  (map_sum (⟨⟨Real.toEReal, EReal.coe_zero⟩, EReal.coe_add⟩ : ℝ →+ EReal) f Finset.univ).symm

theorem fin_sum {n : Nat} {f : Fin n → EReal} (h : ∀ i, IsReal (f i)) : IsReal (∑ i, f i) := by
  choose g hg using h
  exact ⟨∑ i, g i, by rw [← sum_real]; exact Finset.sum_congr rfl fun i _ => hg i⟩

theorem fin_one : IsReal 1 := ⟨1, EReal.coe_one.symm⟩
theorem fin_zero : IsReal 0 := ⟨0, EReal.coe_zero.symm⟩

theorem fin_sub_self {x : EReal} (h : IsReal x) : x - x = 0 := by
  obtain ⟨a, rfl⟩ := h
  rw [← EReal.coe_sub, sub_self, EReal.coe_zero]

/-- The reciprocal square root of a mean of squares and the positive constant under it. -/
theorem fin_rms {n : Nat} {N : BitVec 32} (hN : ∃ r : ℝ, 0 < r ∧ Ideal.ofBits .f32 N = (r : EReal)) {X gain : Fin n → EReal} (hX : ∀ k, IsReal (X k)) (hg : ∀ k, IsReal (gain k)) (k : Fin n) :
    IsReal (rmsRow N X gain k) := by
  obtain ⟨r, hr, hb⟩ := hN
  obtain ⟨ε, hε, he⟩ : ∃ r : ℝ, 0 < r ∧ Ideal.ofBits .f32 0x358637BD#32 = (r : EReal) := by
    refine ⟨_, ?_, by simp [Ideal.ofBits, Ideal.ieee]; rfl⟩
    norm_num
  refine fin_mul (fin_mul (hX k) ?_) (hg k)
  choose x hx using hX
  have hs : (∑ i, X i * X i) = ((∑ i, x i * x i : ℝ) : EReal) := by
    rw [← sum_real]
    exact Finset.sum_congr rfl fun i _ => by rw [hx i, EReal.coe_mul]
  have hp : 0 ≤ (∑ i, x i * x i) := Finset.sum_nonneg fun i _ => mul_self_nonneg _
  have hq : 0 < (∑ i, x i * x i) * (1 / r) + ε := by positivity
  rw [hs, hb, he, Ideal.div_coe hr.ne', ← EReal.coe_mul, ← EReal.coe_add, Ideal.rsqrt_coe, if_neg (not_lt.2 hq.le), if_neg hq.ne']
  exact ⟨_, rfl⟩

theorem n1536 : ∃ r : ℝ, 0 < r ∧ Ideal.ofBits .f32 0x44C00000#32 = (r : EReal) := by
  refine ⟨_, ?_, by simp [Ideal.ofBits, Ideal.ieee]; rfl⟩
  norm_num

theorem n1024 : ∃ r : ℝ, 0 < r ∧ Ideal.ofBits .f32 0x44800000#32 = (r : EReal) := by
  refine ⟨_, ?_, by simp [Ideal.ofBits, Ideal.ieee]; rfl⟩
  norm_num

theorem fin_gated {yf yb d xs z : Fin 1536 → EReal} (h0 : ∀ k, IsReal (yf k)) (h1 : ∀ k, IsReal (yb k)) (h2 : ∀ k, IsReal (d k)) (h3 : ∀ k, IsReal (xs k)) (h4 : ∀ k, IsReal (z k)) (k : Fin 1536) :
    IsReal (gated yf yb d xs z k) := fin_mul (fin_add (fin_add (h0 k) (h1 k)) (fin_mul (h2 k) (h3 k))) (h4 k)

theorem fin_mix {Y : Fin 1536 → EReal} {f : Fin 512 → EReal} {g : Fin 2048 → EReal} {ws : Fin 1536 → Fin 1024 → EReal} {wf : Fin 512 → Fin 1024 → EReal} {wo : Fin 1024 → Fin 1024 → EReal}
    (h0 : ∀ k, IsReal (Y k)) (h1 : ∀ k, IsReal (f k)) (h2 : ∀ k, IsReal (g k)) (h3 : ∀ e k, IsReal (ws e k)) (h4 : ∀ e k, IsReal (wf e k)) (h5 : ∀ e k, IsReal (wo e k)) (j : Fin 1024) :
    IsReal (mixRow Y f g ws wf wo j) :=
  fin_sum fun k => fin_mul (fin_add (fin_mul (h2 _) (fin_sum fun e => fin_mul (h1 e) (h4 e k))) (fin_mul (h2 _) (fin_sum fun e => fin_mul (h0 e) (h3 e k)))) (h5 k j)

theorem fin_hx {m x g np : Fin 1024 → EReal} (h0 : ∀ k, IsReal (m k)) (h1 : ∀ k, IsReal (x k)) (h2 : ∀ k, IsReal (g k)) (h3 : ∀ k, IsReal (np k)) (j : Fin 1024) : IsReal (hxRow m x g np j) :=
  fin_add (h1 j) (fin_mul (h2 j) (fin_rms n1024 h0 h3 j))

theorem fin_hm {h nq sc sh : Fin 1024 → EReal} (h0 : ∀ k, IsReal (h k)) (h1 : ∀ k, IsReal (nq k)) (h2 : ∀ k, IsReal (sc k)) (h3 : ∀ k, IsReal (sh k)) (j : Fin 1024) : IsReal (hmRow h nq sc sh j) :=
  fin_add (fin_mul (fin_rms n1024 h0 h1 j) (fin_add fin_one (h2 j))) (h3 j)

/-- The split product is the product. -/
theorem log_fin {h : Fin 1024 → EReal} {w : Fin 1024 → Fin 128 → EReal} (hh : ∀ k, IsReal (h k)) (hw : ∀ k e, IsReal (w k e)) (e : Fin 128) : logRow h w e = ∑ k, h k * w k e := by
  unfold logRow
  rw [Finset.sum_eq_zero (f := fun k => h k * (w k e - w k e)) fun k _ => by rw [fin_sub_self (hw k e), mul_zero],
    Finset.sum_eq_zero (f := fun k => (h k - h k) * w k e) fun k _ => by rw [fin_sub_self (hh k), zero_mul], add_zero, add_zero]

theorem top_eq {n : Nat} (L : Fin n → EReal) : top L = Finset.univ.sup L := rfl

/-- The greatest of a row with columns at −∞ after it. -/
theorem top_msk (L : Fin 128 → EReal) : top (mskRow L) = top fun e : Fin 16 => L ⟨e.val, by omega⟩ := by
  rw [top_eq, top_eq]
  apply le_antisymm
  · refine Finset.sup_le fun e _ => ?_
    unfold mskRow
    split
    · rename_i he
      exact Finset.le_sup (f := fun e : Fin 16 => L ⟨e.val, by omega⟩) (Finset.mem_univ (⟨e.val, he⟩ : Fin 16))
    · exact bot_le
  · refine Finset.sup_le fun e _ => ?_
    refine le_trans (le_of_eq ?_) (Finset.le_sup (f := mskRow L) (Finset.mem_univ (⟨e.val, by omega⟩ : Fin 128)))
    unfold mskRow
    rw [if_pos e.isLt]

/-- The greatest of a row of real numbers is one. -/
theorem top_fin {n : Nat} (hn : 0 < n) {L : Fin n → EReal} (h : ∀ e, IsReal (L e)) : IsReal (top L) := by
  haveI : Nonempty (Fin n) := ⟨⟨0, hn⟩⟩
  obtain ⟨e, -, he⟩ := Finset.exists_mem_eq_sup Finset.univ Finset.univ_nonempty L
  rw [top_eq, he]
  exact h e

/-- The softmax over the row with columns at −∞ after it is the softmax over the row. -/
theorem soft_msk {L : Fin 128 → EReal} (h : ∀ e : Fin 16, IsReal (L ⟨e.val, by omega⟩)) (e : Fin 16) :
    soft (mskRow L) ⟨e.val, by omega⟩ = soft (fun e : Fin 16 => L ⟨e.val, by omega⟩) e := by
  have hm : ∀ e : Fin 16, mskRow L ⟨e.val, by omega⟩ = L ⟨e.val, by omega⟩ := fun e => if_pos e.isLt
  obtain ⟨t, ht⟩ := top_fin (by decide) h
  unfold soft
  rw [top_msk, hm, ht]
  congr 1
  refine (Finset.sum_subset (Finset.subset_univ ((Finset.univ : Finset (Fin 16)).map (Fin.castLEEmb (by decide : 16 ≤ 128)))) fun x _ hx => ?_).symm.trans ?_
  · have hx' : ¬ x.val < 16 := fun hlt => hx (Finset.mem_map.2 ⟨⟨x.val, hlt⟩, Finset.mem_univ _, rfl⟩)
    unfold mskRow
    rw [if_neg hx', EReal.bot_sub, Ideal.exp_bot]
  · rw [Finset.sum_map]
    exact Finset.sum_congr rfl fun i _ => by
      show Ideal.exp (mskRow L ⟨i.val, by omega⟩ - _) = _
      rw [hm i]

end Cert.Proof.Aff
-- ==== Proof.AffOut.lean ====
/- The block of affinities a point of the merge writes. -/
module

public import proofs.«01_k».proof.Proof.Gen.AffKernelIdeal.Frame
public import proofs.«01_k».proof.Proof.AffBody
public import proofs.«01_k».proof.Proof.MixOut

@[expose] public section

set_option maxRecDepth 16384

noncomputable section

namespace Cert.Proof.Aff

open Cert.AffKernelIdeal Cert.AffKernelIdeal.Gen
open Idealize.ShloMosaic Idealize.ShloMosaic.TcCoe Idealize.ShloMosaic.Tactic
open Cert.Proof.Mix (rmsRow gated mixRow hxRow hmRow rowQ rq rq_inb ld_row yRow mRow xRow nRow y_row m_row)
open Finset

/-- A rectangle of a quarter's lanes sends a lane to the block's row. -/
theorem emb_lane (q : Fin 4) (off : Fin 3 → Nat) (h0 : off 0 = 0) (h1 : off 1 = 0) (h2 : off 2 = 128 * q.val)
    (inb : ∀ a, off a + S1x16x128.size a ≤ S1x16x512.size a) (z : Fin 1) (e : Fin 16) (s : Fin 128) :
    (Rect.unit (s := S1x16x512) off S1x16x128.size inb).emb (ix3 z e s) = ix3 0 e (rowQ q s) := by
  funext x
  apply Fin.ext
  fin_cases x <;> simp [Rect.unit, Rect.emb, ix3, rowQ, h0, h1, h2] <;> omega

section
variable (x0 x1 x2 x3 : S1x512x1536.Idx → Ideal .bf16) (x4 : S1x512x512.Idx → Ideal .f32) (x5 : S1x512x2048.Idx → Ideal .bf16) (x6 : S1x512x1024.Idx → Ideal .f32)
    (x7 x8 x9 : S1x1x1024.Idx → Ideal .f32) (x10 x11 : S1x1536.Idx → Ideal .f32) (x12 x13 : S1x1024.Idx → Ideal .f32) (x14 : S1536x1024.Idx → Ideal .bf16) (x15 : S512x1024.Idx → Ideal .bf16)
    (x16 : S1024x1024.Idx → Ideal .bf16) (x17 : S1024x128.Idx → Ideal .f32)

/-- A block of affinities: expert by row. -/
def outA (y : S1x16x512.Idx) : EReal :=
  soft (mskRow (logRow (nRow x0 x1 x2 x3 x4 x5 x6 x7 x8 x9 x10 x11 x12 x13 x14 x15 x16 (y 2)) (fun k e => x17 (ix2 k e)))) ⟨(y 1).val, by have : (y 1).val < 16 := (y 1).isLt; omega⟩

/-- A quarter's modulated rows are the block's. -/
theorem n_row (q : Fin 4) (M H : S128x1024.Idx → EReal) (hM : ∀ s j, M (ix2 s j) = mRow x0 x1 x2 x3 x4 x5 x10 x11 x14 x15 x16 (rowQ q s) j)
    (h : ∀ s j, H (ix2 s j) = hmRow (hxRow (fun k => M (ix2 s k)) (fun k => View.ld (Val := Elt Ideal) (e' := .f32) x6 (rq 1024 q) (ix3 0 s k)) (fun k => x7 (ix3 0 0 k)) (fun k => x12 (ix2 0 k)))
      (fun k => x13 (ix2 0 k)) (fun k => x9 (ix3 0 0 k)) (fun k => x8 (ix3 0 0 k)) j)
    (s : Fin 128) : (fun j => H (ix2 s j)) = nRow x0 x1 x2 x3 x4 x5 x6 x7 x8 x9 x10 x11 x12 x13 x14 x15 x16 (rowQ q s) := by
  funext j
  rw [h, funext (hM s), funext fun k => ld_row (n := 1024) (e := .f32) x6 q s k]
  rfl

/-- A quarter's lanes of the affinities. -/
theorem a_piece (q : Fin 4) (M H : S128x1024.Idx → EReal) (P : S1x16x128.Idx → EReal) (hM : ∀ s j, M (ix2 s j) = mRow x0 x1 x2 x3 x4 x5 x10 x11 x14 x15 x16 (rowQ q s) j)
    (h : ∀ s j, H (ix2 s j) = hmRow (hxRow (fun k => M (ix2 s k)) (fun k => View.ld (Val := Elt Ideal) (e' := .f32) x6 (rq 1024 q) (ix3 0 s k)) (fun k => x7 (ix3 0 0 k)) (fun k => x12 (ix2 0 k)))
      (fun k => x13 (ix2 0 k)) (fun k => x9 (ix3 0 0 k)) (fun k => x8 (ix3 0 0 k)) j)
    (hP : ∀ (e : Fin 16) (s : Fin 128), P (ix3 0 e s) = soft (mskRow (logRow (fun k => H (ix2 s k)) (fun k e => x17 (ix2 k e)))) ⟨e.val, by omega⟩)
    (off : Fin 3 → Nat) (h0 : off 0 = 0) (h1 : off 1 = 0) (h2 : off 2 = 128 * q.val) (inb) (x : S1x16x128.Idx) :
    P x = outA x0 x1 x2 x3 x4 x5 x6 x7 x8 x9 x10 x11 x12 x13 x14 x15 x16 x17 ((Rect.unit (s := S1x16x512) off S1x16x128.size inb).emb x) := by
  obtain ⟨z, e, s, rfl⟩ : ∃ z e s, x = ix3 z e s := ⟨x 0, x 1, x 2, by funext a; fin_cases a <;> rfl⟩
  obtain rfl : z = 0 := Subsingleton.elim _ _
  rw [hP, n_row x0 x1 x2 x3 x4 x5 x6 x7 x8 x9 x10 x11 x12 x13 x14 x15 x16 q M H hM h s]
  exact (congrArg (outA x0 x1 x2 x3 x4 x5 x6 x7 x8 x9 x10 x11 x12 x13 x14 x15 x16 x17) (emb_lane q off h0 h1 h2 inb 0 e s)).symm

/-- The mix of a quarter as the body spells it. -/
def mixQ : Fin 4 → S128x1024.Idx → EReal
  | 0 => k0_pay23 (F := Ideal) (k0_pay13 (k0_pay7 (k0_pay5 x11) (k0_pay6 (View.ld x0 (rq 1536 0)) (View.ld x1 (rq 1536 0)) x10 (View.ld x2 (rq 1536 0)) (View.ld x3 (rq 1536 0)))) x14)
      (k0_pay17 (View.ld x4 (rq 512 0)) x15) (k0_pay21 (View.ld x5 (rq 2048 0))) x16
  | 1 => k0_pay24 (F := Ideal) (k0_pay14 (k0_pay8 (View.ld x0 (rq 1536 1)) (View.ld x1 (rq 1536 1)) x10 (View.ld x2 (rq 1536 1)) (View.ld x3 (rq 1536 1)) x11) x14)
      (k0_pay18 (View.ld x4 (rq 512 1)) x15) (View.ld x5 (rq 2048 1)) x16
  | 2 => k0_pay25 (F := Ideal) (k0_pay15 (k0_pay9 (View.ld x0 (rq 1536 2)) (View.ld x1 (rq 1536 2)) x10 (View.ld x2 (rq 1536 2)) (View.ld x3 (rq 1536 2)) x11) x14)
      (k0_pay19 (View.ld x4 (rq 512 2)) x15) (View.ld x5 (rq 2048 2)) x16
  | 3 => k0_pay26 (F := Ideal) (k0_pay22 (k0_pay16 (k0_pay12 (k0_pay10 (View.ld x0 (rq 1536 3))) (k0_pay11 (View.ld x1 (rq 1536 3))) x10 (View.ld x2 (rq 1536 3)) (View.ld x3 (rq 1536 3)) x11) x14)
      (k0_pay20 (View.ld x4 (rq 512 3)) x15) (View.ld x5 (rq 2048 3))) x16

theorem mixQ_row (q : Fin 4) (s : Fin 128) (j : Fin 1024) :
    mixQ x0 x1 x2 x3 x4 x5 x10 x11 x14 x15 x16 q (ix2 s j) = mRow x0 x1 x2 x3 x4 x5 x10 x11 x14 x15 x16 (rowQ q s) j := by
  fin_cases q
  · exact m_row x0 x1 x2 x3 x4 x5 x10 x11 x14 x15 x16 0 _ _ (y_row x0 x1 x2 x3 x10 x11 0 _ (yn0_at _ _ x10 _ _ x11)) (mix0_at _ x14 _ x15 _ x16) s j
  · exact m_row x0 x1 x2 x3 x4 x5 x10 x11 x14 x15 x16 1 _ _ (y_row x0 x1 x2 x3 x10 x11 1 _ (yn1_at _ _ x10 _ _ x11)) (mix1_at _ x14 _ x15 _ x16) s j
  · exact m_row x0 x1 x2 x3 x4 x5 x10 x11 x14 x15 x16 2 _ _ (y_row x0 x1 x2 x3 x10 x11 2 _ (yn2_at _ _ x10 _ _ x11)) (mix2_at _ x14 _ x15 _ x16) s j
  · exact m_row x0 x1 x2 x3 x4 x5 x10 x11 x14 x15 x16 3 _ _ (y_row x0 x1 x2 x3 x10 x11 3 _ (yn3_at _ _ x10 _ _ x11)) (mix3_at _ x14 _ x15 _ x16) s j

theorem all_x7 : View.ld (Val := Elt Ideal) (e' := .f32) x7 r0_18 = x7 := by rw [View.ld_unit_zero (by funext a; fin_cases a <;> rfl)]
theorem all_x8 : View.ld (Val := Elt Ideal) (e' := .f32) x8 r0_18 = x8 := by rw [View.ld_unit_zero (by funext a; fin_cases a <;> rfl)]
theorem all_x9 : View.ld (Val := Elt Ideal) (e' := .f32) x9 r0_18 = x9 := by rw [View.ld_unit_zero (by funext a; fin_cases a <;> rfl)]
theorem all_x10 : View.ld (Val := Elt Ideal) (e' := .f32) x10 r0_2 = x10 := by rw [View.ld_unit_zero (by funext a; fin_cases a <;> rfl)]
theorem all_x11 : View.ld (Val := Elt Ideal) (e' := .f32) x11 r0_2 = x11 := by rw [View.ld_unit_zero (by funext a; fin_cases a <;> rfl)]
theorem all_x12 : View.ld (Val := Elt Ideal) (e' := .f32) x12 r0_19 = x12 := by rw [View.ld_unit_zero (by funext a; fin_cases a <;> rfl)]
theorem all_x13 : View.ld (Val := Elt Ideal) (e' := .f32) x13 r0_19 = x13 := by rw [View.ld_unit_zero (by funext a; fin_cases a <;> rfl)]
theorem all_x14 : View.ld (Val := Elt Ideal) (e' := .bf16) x14 r0_6 = x14 := by rw [View.ld_unit_zero (by funext a; fin_cases a <;> rfl)]
theorem all_x15 : View.ld (Val := Elt Ideal) (e' := .bf16) x15 r0_8 = x15 := by rw [View.ld_unit_zero (by funext a; fin_cases a <;> rfl)]
theorem all_x16 : View.ld (Val := Elt Ideal) (e' := .bf16) x16 r0_16 = x16 := by rw [View.ld_unit_zero (by funext a; fin_cases a <;> rfl)]

theorem all_x17 : View.ld (Val := Elt Ideal) (e' := .f32) x17 r0_0 = x17 := by rw [View.ld_unit_zero (by funext a; fin_cases a <;> rfl)]

theorem out20 (y : S1x16x512.Idx) : out0_20 (F := Ideal) x0 x1 x2 x3 x4 x5 x6 x7 x8 x9 x10 x11 x12 x13 x14 x15 x16 x17 y = outA x0 x1 x2 x3 x4 x5 x6 x7 x8 x9 x10 x11 x12 x13 x14 x15 x16 x17 y := by
  have mq := mixQ_row x0 x1 x2 x3 x4 x5 x10 x11 x14 x15 x16
  unfold_out out0_20
  simp only [all_x10 x10, all_x11 x11, all_x12 x12, all_x13 x13, all_x14 x14, all_x15 x15, all_x16 x16, all_x17 x17, all_x7 x7, all_x8 x8, all_x9 x9]
  refine View.canon_apply_of_pieces (Val := Elt Ideal) (outA x0 x1 x2 x3 x4 x5 x6 x7 x8 x9 x10 x11 x12 x13 x14 x15 x16 x17) _ (List.forall_mem_cons.2 ⟨?_, (List.forall_mem_cons.2 ⟨?_, (List.forall_mem_cons.2 ⟨?_, (List.forall_mem_cons.2 ⟨?_, List.forall_mem_nil _⟩)⟩)⟩)⟩) y (cover0_20 _ _ _ _ y)
  · exact a_piece x0 x1 x2 x3 x4 x5 x6 x7 x8 x9 x10 x11 x12 x13 x14 x15 x16 x17 3 _ _ _ (mq 3) (hmv3_at _ _ x7 x12 x13 x9 x8) (aff3_at _ x17) _ rfl rfl rfl (by decide)
  · exact a_piece x0 x1 x2 x3 x4 x5 x6 x7 x8 x9 x10 x11 x12 x13 x14 x15 x16 x17 2 _ _ _ (mq 2) (hmv2_at _ _ x7 x12 x13 x9 x8) (aff2_at _ x17) _ rfl rfl rfl (by decide)
  · exact a_piece x0 x1 x2 x3 x4 x5 x6 x7 x8 x9 x10 x11 x12 x13 x14 x15 x16 x17 1 _ _ _ (mq 1) (hmv1_at _ _ x7 x12 x13 x9 x8) (aff1_at _ x17) _ rfl rfl rfl (by decide)
  · exact a_piece x0 x1 x2 x3 x4 x5 x6 x7 x8 x9 x10 x11 x12 x13 x14 x15 x16 x17 0 _ _ _ (mq 0) (hmv0_at _ _ x7 x12 x13 x9 x8) (aff0_at _ x17) _ rfl rfl rfl (by decide)

end

end Cert.Proof.Aff
-- ==== Proof.AffBlocks.lean ====
/- The blocks the merge's windows stage, with the router's. -/
module

public import proofs.«01_k».proof.Proof.AffOut
public import Idealize.ShloMosaic.Lib.Pointwise
public import Idealize.ShloMosaic.Lib.Pipeline.ValueKit

@[expose] public section

set_option maxRecDepth 16384

noncomputable section

namespace Cert.Proof.Aff

open Cert.AffKernelIdeal Cert.AffKernelIdeal.Gen
open Idealize.ShloMosaic Idealize.ShloMosaic.TcCoe Idealize.ShloMosaic.Tactic
open Idealize.SL Idealize.SL.Sem

section
variable (m : (ℓ : Loc nD τ sig) → Buf (Elt Ideal) ℓ) (c : Dev nD)

abbrev a0 : S8x4096x1536.Idx → EReal := m ((c : Thread nD τ).loc main_arg0)
abbrev a1 : S8x4096x1536.Idx → EReal := m ((c : Thread nD τ).loc main_arg1)
abbrev a2 : S8x4096x1536.Idx → EReal := m ((c : Thread nD τ).loc main_arg2)
abbrev a3 : S8x4096x1536.Idx → EReal := m ((c : Thread nD τ).loc main_arg3)
abbrev a4 : S8x4096x512.Idx → EReal := m ((c : Thread nD τ).loc main_arg4)
abbrev a5 : S8x4096x2048.Idx → EReal := m ((c : Thread nD τ).loc main_arg5)
abbrev a6 : S8x4096x1024.Idx → EReal := m ((c : Thread nD τ).loc main_arg6)
abbrev a7 : S8x1x1024.Idx → EReal := m ((c : Thread nD τ).loc main_arg7)
abbrev a8 : S8x1x1024.Idx → EReal := m ((c : Thread nD τ).loc main_arg8)
abbrev a9 : S8x1x1024.Idx → EReal := m ((c : Thread nD τ).loc main_arg9)
abbrev a10 : S1x24.Idx → EReal := m ((c : Thread nD τ).loc main_arg10)
abbrev a11 : S1x1536.Idx → EReal := m ((c : Thread nD τ).loc main_arg11)
abbrev a12 : S1x1024.Idx → EReal := m ((c : Thread nD τ).loc main_arg12)
abbrev a13 : S1x1024.Idx → EReal := m ((c : Thread nD τ).loc main_arg13)
abbrev a14 : S1x1536x1024.Idx → EReal := m ((c : Thread nD τ).loc main_arg14)
abbrev a15 : S1x512x1024.Idx → EReal := m ((c : Thread nD τ).loc main_arg15)
abbrev a17 : S1x1024x16.Idx → EReal := m ((c : Thread nD τ).loc main_arg17)
abbrev a16 : S1x1024x1024.Idx → EReal := m ((c : Thread nD τ).loc main_arg16)

/-- The batch and the rows of a point. -/
def bat (t : Fin cfg0.N) : Fin 8 := ⟨t.val / 8, by have : t.val < 64 := t.isLt; omega⟩
def tok (t : Fin cfg0.N) (r : Fin 512) : Fin 4096 := ⟨512 * (t.val % 8) + r.val, by omega⟩

theorem idx : ∀ t : Fin grid0.N,
    win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0]
    ∧ win0_7.index t = ![t.val / 8, 0, 0] ∧ win0_8.index t = ![t.val / 8, 0, 0] ∧ win0_9.index t = ![t.val / 8, 0, 0] := by decide +kernel

theorem idx' : ∀ t : Fin grid0.N,
    win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] := by decide +kernel

theorem iblk0 (t : Fin cfg0.N) (r : Fin 512) (k : Fin 1536) : (iblk (F := Ideal) m c 0 t (ix3 0 r k) : EReal) = a0 m c (ix3 (bat t) (tok t r) k) := by
  unfold iblk
  rw [View.read_apply]
  show V m c main_arg0 _ = _
  rw [V_main_arg0]
  unfold bat tok
  blk_ext [iblk, V, idx t]

theorem iblk1 (t : Fin cfg0.N) (r : Fin 512) (k : Fin 1536) : (iblk (F := Ideal) m c 1 t (ix3 0 r k) : EReal) = a1 m c (ix3 (bat t) (tok t r) k) := by
  unfold iblk
  rw [View.read_apply]
  show V m c main_arg1 _ = _
  rw [V_main_arg1]
  unfold bat tok
  blk_ext [iblk, V, idx t]

theorem iblk2 (t : Fin cfg0.N) (r : Fin 512) (k : Fin 1536) : (iblk (F := Ideal) m c 2 t (ix3 0 r k) : EReal) = a2 m c (ix3 (bat t) (tok t r) k) := by
  unfold iblk
  rw [View.read_apply]
  show V m c main_arg2 _ = _
  rw [V_main_arg2]
  unfold bat tok
  blk_ext [iblk, V, idx t]

theorem iblk3 (t : Fin cfg0.N) (r : Fin 512) (k : Fin 1536) : (iblk (F := Ideal) m c 3 t (ix3 0 r k) : EReal) = a3 m c (ix3 (bat t) (tok t r) k) := by
  unfold iblk
  rw [View.read_apply]
  show V m c main_arg3 _ = _
  rw [V_main_arg3]
  unfold bat tok
  blk_ext [iblk, V, idx t]

theorem iblk4 (t : Fin cfg0.N) (r : Fin 512) (k : Fin 512) : (iblk (F := Ideal) m c 4 t (ix3 0 r k) : EReal) = a4 m c (ix3 (bat t) (tok t r) k) := by
  unfold iblk
  rw [View.read_apply]
  show V m c main_arg4 _ = _
  rw [V_main_arg4]
  unfold bat tok
  blk_ext [iblk, V, idx t]

theorem iblk5 (t : Fin cfg0.N) (r : Fin 512) (k : Fin 2048) : (iblk (F := Ideal) m c 5 t (ix3 0 r k) : EReal) = a5 m c (ix3 (bat t) (tok t r) k) := by
  unfold iblk
  rw [View.read_apply]
  show V m c main_arg5 _ = _
  rw [V_main_arg5]
  unfold bat tok
  blk_ext [iblk, V, idx t]

theorem iblk6 (t : Fin cfg0.N) (r : Fin 512) (k : Fin 1024) : (iblk (F := Ideal) m c 6 t (ix3 0 r k) : EReal) = a6 m c (ix3 (bat t) (tok t r) k) := by
  unfold iblk
  rw [View.read_apply]
  show V m c main_arg6 _ = _
  rw [V_main_arg6]
  unfold bat tok
  blk_ext [iblk, V, idx t]

theorem iblk7 (t : Fin cfg0.N) (k : Fin 1024) : (iblk (F := Ideal) m c 7 t (ix3 0 0 k) : EReal) = a7 m c (ix3 (bat t) 0 k) := by
  unfold iblk
  rw [View.read_apply]
  show V m c main_arg7 _ = _
  rw [V_main_arg7]
  unfold bat
  blk_ext [iblk, V, idx t]

theorem iblk8 (t : Fin cfg0.N) (k : Fin 1024) : (iblk (F := Ideal) m c 8 t (ix3 0 0 k) : EReal) = a8 m c (ix3 (bat t) 0 k) := by
  unfold iblk
  rw [View.read_apply]
  show V m c main_arg8 _ = _
  rw [V_main_arg8]
  unfold bat
  blk_ext [iblk, V, idx t]

theorem iblk9 (t : Fin cfg0.N) (k : Fin 1024) : (iblk (F := Ideal) m c 9 t (ix3 0 0 k) : EReal) = a9 m c (ix3 (bat t) 0 k) := by
  unfold iblk
  rw [View.read_apply]
  show V m c main_arg9 _ = _
  rw [V_main_arg9]
  unfold bat
  blk_ext [iblk, V, idx t]

theorem iblk10 (t : Fin cfg0.N) (k : Fin 1536) : (iblk (F := Ideal) m c 10 t (ix2 0 k) : EReal) = a10 m c (ix2 0 ⟨k.val / 64, by omega⟩) := by
  unfold iblk
  rw [View.read_apply]
  show V m c main_v3 _ = _
  unfold V hostOps0 hostOps0_1
  simp only [List.flatten_cons, List.flatten_nil, List.append_nil, List.cons_append, List.nil_append]
  entry_read
  pointwise
  blk_ext [iblk, V, idx' t]

theorem iblk11 (t : Fin cfg0.N) (k : Fin 1536) : (iblk (F := Ideal) m c 11 t (ix2 0 k) : EReal) = a11 m c (ix2 0 k) := by
  unfold iblk
  rw [View.read_apply]
  show V m c main_v5 _ = _
  unfold V hostOps0 hostOps0_1
  simp only [List.flatten_cons, List.flatten_nil, List.append_nil, List.cons_append, List.nil_append]
  entry_read
  pointwise
  blk_ext [iblk, V, idx' t]

theorem iblk12 (t : Fin cfg0.N) (k : Fin 1024) : (iblk (F := Ideal) m c 12 t (ix2 0 k) : EReal) = a12 m c (ix2 0 k) := by
  unfold iblk
  rw [View.read_apply]
  show V m c main_v7 _ = _
  unfold V hostOps0 hostOps0_1
  simp only [List.flatten_cons, List.flatten_nil, List.append_nil, List.cons_append, List.nil_append]
  entry_read
  pointwise
  blk_ext [iblk, V, idx' t]

theorem iblk13 (t : Fin cfg0.N) (k : Fin 1024) : (iblk (F := Ideal) m c 13 t (ix2 0 k) : EReal) = a13 m c (ix2 0 k) := by
  unfold iblk
  rw [View.read_apply]
  show V m c main_v9 _ = _
  unfold V hostOps0 hostOps0_1
  simp only [List.flatten_cons, List.flatten_nil, List.append_nil, List.cons_append, List.nil_append]
  entry_read
  pointwise
  blk_ext [iblk, V, idx' t]

theorem iblk14 (t : Fin cfg0.N) (e : Fin 1536) (k : Fin 1024) : (iblk (F := Ideal) m c 14 t (ix2 e k) : EReal) = a14 m c (ix3 0 e k) := by
  unfold iblk
  rw [View.read_apply]
  show V m c main_v11 _ = _
  unfold V hostOps0 hostOps0_1
  simp only [List.flatten_cons, List.flatten_nil, List.append_nil, List.cons_append, List.nil_append]
  entry_read
  pointwise
  blk_ext [iblk, V, idx' t]

theorem iblk15 (t : Fin cfg0.N) (e : Fin 512) (k : Fin 1024) : (iblk (F := Ideal) m c 15 t (ix2 e k) : EReal) = a15 m c (ix3 0 e k) := by
  unfold iblk
  rw [View.read_apply]
  show V m c main_v13 _ = _
  unfold V hostOps0 hostOps0_1
  simp only [List.flatten_cons, List.flatten_nil, List.append_nil, List.cons_append, List.nil_append]
  entry_read
  pointwise
  blk_ext [iblk, V, idx' t]

theorem iblk16 (t : Fin cfg0.N) (e : Fin 1024) (k : Fin 1024) : (iblk (F := Ideal) m c 16 t (ix2 e k) : EReal) = a16 m c (ix3 0 e k) := by
  unfold iblk
  rw [View.read_apply]
  show V m c main_v15 _ = _
  unfold V hostOps0 hostOps0_1
  simp only [List.flatten_cons, List.flatten_nil, List.append_nil, List.cons_append, List.nil_append]
  entry_read
  pointwise
  blk_ext [iblk, V, idx' t]

/-- The router padded to 128 columns, an element at a time. -/
theorem pad_router (X : S1024x16.Idx → Ideal .f32) (z : S_.Idx → Ideal .f32) (hz : ∀ i, (z i : EReal) = 0) (e : Fin 1024) (k : Fin 128) :
    (pad S1024x128 ![0, 0] ![0, 112] ![0, 0] X z pads_S1024x16_S1024x128_000_01120 h_S_ (ix2 e k) : EReal)
      = if h : k.val < 16 then X (ix2 e ⟨k.val, h⟩) else 0 := by
  pointwise
  simp only [hz]

theorem iblk17 (t : Fin cfg0.N) (e : Fin 1024) (k : Fin 128) : (iblk (F := Ideal) m c 17 t (ix2 e k) : EReal) = if h : k.val < 16 then a17 m c (ix3 0 e ⟨k.val, h⟩) else 0 := by
  have he : (win0_17.blk t).view.emb (ix2 e k) = ix2 e k := by
    blk_ext [idx' t]
  unfold iblk
  rw [View.read_apply]
  show V m c main_v17 _ = _
  unfold V hostOps0 hostOps0_1
  simp only [List.flatten_cons, List.flatten_nil, List.append_nil, List.cons_append, List.nil_append]
  entry_read
  pointwise
  refine (congrArg _ he).trans ?_
  refine (pad_router _ _ (fun i => ?_) e k).trans ?_
  · show (((0#32 : BitVec 32).toInt : ℝ) : EReal) = 0
    simp
  · rfl

end

end Cert.Proof.Aff
-- ==== Proof.AffSpec.lean ====
/- The merge's affinities as functions of its arguments: as the kernel computes them, as they are meant, and that the two are one
   where every argument is finite. -/
module

public import proofs.«01_k».proof.Proof.AffFin
public import proofs.«01_k».proof.Proof.AffBlocks

@[expose] public section

set_option maxRecDepth 16384

noncomputable section

namespace Cert.Proof.Aff

open Idealize.ShloMosaic Idealize.ShloMosaic.TcCoe Idealize.ShloMosaic.Tactic
open Cert.AffKernelIdeal
open Cert.Proof.Mix (ygG yG mG xG nG)
open Finset

section
variable (A0 A1 A2 A3 : S8x4096x1536.Idx → EReal) (A4 : S8x4096x512.Idx → EReal) (A5 : S8x4096x2048.Idx → EReal) (A6 : S8x4096x1024.Idx → EReal) (A7 A8 A9 : S8x1x1024.Idx → EReal)
    (A10 : S1x24.Idx → EReal) (A11 : S1x1536.Idx → EReal) (A12 A13 : S1x1024.Idx → EReal) (A14 : S1x1536x1024.Idx → EReal) (A15 : S1x512x1024.Idx → EReal) (A16 : S1x1024x1024.Idx → EReal)
    (A17 : S1x1024x16.Idx → EReal)

/-- A token's affinity to an expert: the softmax of the modulated row's products with the router. -/
def affG (b : Fin 8) (e : Fin 16) (r : Fin 4096) : EReal :=
  soft (fun e : Fin 16 => ∑ k : Fin 1024, nG A0 A1 A2 A3 A4 A5 A6 A7 A8 A9 A10 A11 A12 A13 A14 A15 A16 b r k * A17 (ix3 0 k e)) e

/-- The same as the kernel computes it, over 128 columns. -/
def affK (b : Fin 8) (e : Fin 16) (r : Fin 4096) : EReal :=
  soft (mskRow (logRow (nG A0 A1 A2 A3 A4 A5 A6 A7 A8 A9 A10 A11 A12 A13 A14 A15 A16 b r) (fun k e => if h : e.val < 16 then A17 (ix3 0 k ⟨e.val, h⟩) else 0))) ⟨e.val, by omega⟩

/-- An array of affinities from its elements. -/
def arrA (g : Fin 8 → Fin 16 → Fin 4096 → EReal) : S8x16x4096.Idx → EReal := fun y => g (y 0) (y 1) (y 2)

section
variable {A0 A1 A2 A3 A4 A5 A6 A7 A8 A9 A10 A11 A12 A13 A14 A15 A16 A17}
    (h0 : ∀ i, IsReal (A0 i)) (h1 : ∀ i, IsReal (A1 i)) (h2 : ∀ i, IsReal (A2 i)) (h3 : ∀ i, IsReal (A3 i)) (h4 : ∀ i, IsReal (A4 i)) (h5 : ∀ i, IsReal (A5 i))
    (h6 : ∀ i, IsReal (A6 i)) (h7 : ∀ i, IsReal (A7 i)) (h8 : ∀ i, IsReal (A8 i)) (h9 : ∀ i, IsReal (A9 i)) (h10 : ∀ i, IsReal (A10 i)) (h11 : ∀ i, IsReal (A11 i))
    (h12 : ∀ i, IsReal (A12 i)) (h13 : ∀ i, IsReal (A13 i)) (h14 : ∀ i, IsReal (A14 i)) (h15 : ∀ i, IsReal (A15 i)) (h16 : ∀ i, IsReal (A16 i)) (h17 : ∀ i, IsReal (A17 i))

include h0 h1 h2 h3 h4 h5 h6 h7 h8 h9 h10 h11 h12 h13 h14 h15 h16 in
/-- The modulated rows are real. -/
theorem n_fin (b : Fin 8) (r : Fin 4096) (j : Fin 1024) : IsReal (nG A0 A1 A2 A3 A4 A5 A6 A7 A8 A9 A10 A11 A12 A13 A14 A15 A16 b r j) :=
  fin_hm (fin_hx (fin_mix (fin_rms n1536 (fin_gated (fun _ => h0 _) (fun _ => h1 _) (fun _ => h10 _) (fun _ => h2 _) (fun _ => h3 _)) (fun _ => h11 _)) (fun _ => h4 _) (fun _ => h5 _)
    (fun _ _ => h14 _) (fun _ _ => h15 _) (fun _ _ => h16 _)) (fun _ => h6 _) (fun _ => h7 _) (fun _ => h12 _)) (fun _ => h13 _) (fun _ => h9 _) (fun _ => h8 _) j

include h0 h1 h2 h3 h4 h5 h6 h7 h8 h9 h10 h11 h12 h13 h14 h15 h16 h17 in
theorem aff_fin : affK A0 A1 A2 A3 A4 A5 A6 A7 A8 A9 A10 A11 A12 A13 A14 A15 A16 A17 = affG A0 A1 A2 A3 A4 A5 A6 A7 A8 A9 A10 A11 A12 A13 A14 A15 A16 A17 := by
  funext b e r
  have hn := n_fin h0 h1 h2 h3 h4 h5 h6 h7 h8 h9 h10 h11 h12 h13 h14 h15 h16 b r
  have hw : ∀ (k : Fin 1024) (e : Fin 128), IsReal (if h : e.val < 16 then A17 (ix3 0 k ⟨e.val, h⟩) else 0) := fun k e => by
    split
    · exact h17 _
    · exact fin_zero
  have hl : (logRow (nG A0 A1 A2 A3 A4 A5 A6 A7 A8 A9 A10 A11 A12 A13 A14 A15 A16 b r) fun k e => if h : e.val < 16 then A17 (ix3 0 k ⟨e.val, h⟩) else 0) = _ := funext (log_fin hn hw)
  have hc : ∀ e : Fin 16, (∑ k : Fin 1024, nG A0 A1 A2 A3 A4 A5 A6 A7 A8 A9 A10 A11 A12 A13 A14 A15 A16 b r k * (if h : e.val < 16 then A17 (ix3 0 k ⟨e.val, h⟩) else 0))
      = ∑ k : Fin 1024, nG A0 A1 A2 A3 A4 A5 A6 A7 A8 A9 A10 A11 A12 A13 A14 A15 A16 b r k * A17 (ix3 0 k e) := fun e =>
    Finset.sum_congr rfl fun k _ => by rw [dif_pos e.isLt]
  unfold affK affG
  rw [hl]
  refine (soft_msk (fun e => fin_sum fun k => fin_mul (hn k) (hw k _)) e).trans ?_
  exact congrArg (fun L => soft L e) (funext hc)

end

end

end Cert.Proof.Aff
-- ==== Proof.AffArr.lean ====
/- What the merge's array of affinities holds after the last point. -/
module

public import proofs.«01_k».proof.Proof.AffSpec

@[expose] public section

set_option maxRecDepth 16384

noncomputable section

namespace Cert.Proof.Aff

open Cert.AffKernelIdeal Cert.AffKernelIdeal.Gen
open Idealize.ShloMosaic Idealize.ShloMosaic.TcCoe Idealize.ShloMosaic.Tactic
open Idealize.SL Idealize.SL.Sem
open Cert.Proof.Mix (yRow mRow xRow nRow ygG yG mG xG nG)
open Finset

section
variable (m : (ℓ : Loc nD τ sig) → Buf (Elt Ideal) ℓ) (c : Dev nD)

theorem y_blk (t : Fin cfg0.N) (r : Fin 512) :
    yRow (iblk m c 0 t) (iblk m c 1 t) (iblk m c 2 t) (iblk m c 3 t) (iblk m c 10 t) (iblk m c 11 t) r
      = yG (a0 m c) (a1 m c) (a2 m c) (a3 m c) (a10 m c) (a11 m c) (bat t) (tok t r) := by
  unfold yRow yG ygG
  rw [show (fun k => iblk m c 0 t (ix3 0 r k)) = _ from funext (iblk0 m c t r), show (fun k => iblk m c 1 t (ix3 0 r k)) = _ from funext (iblk1 m c t r),
    show (fun k => iblk m c 2 t (ix3 0 r k)) = _ from funext (iblk2 m c t r), show (fun k => iblk m c 3 t (ix3 0 r k)) = _ from funext (iblk3 m c t r),
    show (fun k => iblk m c 10 t (ix2 0 k)) = _ from funext (iblk10 m c t), show (fun k => iblk m c 11 t (ix2 0 k)) = _ from funext (iblk11 m c t)]

theorem m_blk (t : Fin cfg0.N) (r : Fin 512) :
    mRow (iblk m c 0 t) (iblk m c 1 t) (iblk m c 2 t) (iblk m c 3 t) (iblk m c 4 t) (iblk m c 5 t) (iblk m c 10 t) (iblk m c 11 t) (iblk m c 14 t) (iblk m c 15 t) (iblk m c 16 t) r
      = mG (a0 m c) (a1 m c) (a2 m c) (a3 m c) (a4 m c) (a5 m c) (a10 m c) (a11 m c) (a14 m c) (a15 m c) (a16 m c) (bat t) (tok t r) := by
  funext j
  unfold mRow mG
  rw [y_blk, show (fun k => iblk m c 4 t (ix3 0 r k)) = _ from funext (iblk4 m c t r), show (fun k => iblk m c 5 t (ix3 0 r k)) = _ from funext (iblk5 m c t r),
    show (fun e k => iblk m c 14 t (ix2 e k)) = _ from funext fun e => funext (iblk14 m c t e), show (fun e k => iblk m c 15 t (ix2 e k)) = _ from funext fun e => funext (iblk15 m c t e),
    show (fun e k => iblk m c 16 t (ix2 e k)) = _ from funext fun e => funext (iblk16 m c t e)]

theorem x_blk (t : Fin cfg0.N) (r : Fin 512) :
    xRow (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 14 t) (iblk m c 15 t) (iblk m c 16 t) r
      = xG (a0 m c) (a1 m c) (a2 m c) (a3 m c) (a4 m c) (a5 m c) (a6 m c) (a7 m c) (a10 m c) (a11 m c) (a12 m c) (a14 m c) (a15 m c) (a16 m c) (bat t) (tok t r) := by
  funext j
  unfold xRow xG
  rw [m_blk, show (fun k => iblk m c 6 t (ix3 0 r k)) = _ from funext (iblk6 m c t r), show (fun k => iblk m c 7 t (ix3 0 0 k)) = _ from funext (iblk7 m c t),
    show (fun k => iblk m c 12 t (ix2 0 k)) = _ from funext (iblk12 m c t)]

theorem n_blk (t : Fin cfg0.N) (r : Fin 512) :
    nRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r
      = nG (a0 m c) (a1 m c) (a2 m c) (a3 m c) (a4 m c) (a5 m c) (a6 m c) (a7 m c) (a8 m c) (a9 m c) (a10 m c) (a11 m c) (a12 m c) (a13 m c) (a14 m c) (a15 m c) (a16 m c) (bat t) (tok t r) := by
  funext j
  unfold nRow nG
  rw [x_blk, show (fun k => iblk m c 13 t (ix2 0 k)) = _ from funext (iblk13 m c t), show (fun k => iblk m c 9 t (ix3 0 0 k)) = _ from funext (iblk9 m c t),
    show (fun k => iblk m c 8 t (ix3 0 0 k)) = _ from funext (iblk8 m c t)]

theorem idxo : ∀ t : Fin grid0.N, win0_20.index t = ![t.val / 8, 0, t.val % 8] := by
  decide +kernel

/-- A block's lane of an expert's row. -/
theorem spotA (t : Fin cfg0.N) (e : Fin 16) (r : Fin 512) (i : S8x16x4096.Idx)
    (h0 : (i 0).val = t.val / 8 * 1 + 0) (h1 : (i 1).val = 0 * 16 + e.val) (h2 : (i 2).val = t.val % 8 * 512 + r.val) : i = ix3 (bat t) e (tok t r) := by
  funext a
  apply Fin.ext
  fin_cases a
  · exact h0.trans (by show t.val / 8 * 1 + 0 = t.val / 8; omega)
  · exact h1.trans (by show 0 * 16 + e.val = e.val; omega)
  · exact h2.trans (by show t.val % 8 * 512 + r.val = 512 * (t.val % 8) + r.val; omega)

theorem arr20 : (dats m 0 c).arrAt 20 cfg0.N = arrA (affK (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)) := by
  refine (dats m 0 c).arrAt_eq_of_covers 20 _ (by decide +kernel) fun t hf y => ?_
  obtain ⟨z, e, r, rfl⟩ : ∃ (z : Fin 1) (e : Fin 16) (r : Fin 512), y = ix3 z e r := ⟨y 0, y 1, y 2, eq_ix3 y⟩
  obtain rfl := Fin.fin_one_eq_zero z
  have hi := idxo t
  have he : (win0_20.blk t).view.emb (ix3 0 e r) = ix3 (bat t) e (tok t r) :=
    spotA t e r _ ((Pipeline.Window.rect_emb_val win0_20 t (ix3 0 e r) 0 rfl).trans (by rw [hi]; rfl)) ((Pipeline.Window.rect_emb_val win0_20 t (ix3 0 e r) 1 rfl).trans (by rw [hi]; rfl))
      ((Pipeline.Window.rect_emb_val win0_20 t (ix3 0 e r) 2 rfl).trans (by rw [hi]; rfl))
  blk_simp
  show (dats m 0 c).after 20 t (ix3 0 e r) = _
  rw [after0_20, he]
  refine (out20 _ _ _ _ _ _ _ _ _ _ _ _ _ _ _ _ _ _ (ix3 0 e r)).trans ?_
  have hw : (fun (k : Fin 1024) (j : Fin 128) => (iblk m c 17 t (ix2 k j) : EReal)) = _ := funext fun k => funext (iblk17 m c t k)
  unfold outA
  show soft (mskRow (logRow (nRow _ _ _ _ _ _ _ _ _ _ _ _ _ _ _ _ _ r) _)) ⟨e.val, _⟩ = affK _ _ _ _ _ _ _ _ _ _ _ _ _ _ _ _ _ _ (bat t) e (tok t r)
  unfold affK
  rw [n_blk m c t r]
  exact congrArg (fun w => soft (mskRow (logRow _ w)) _) hw

end

end Cert.Proof.Aff
-- ==== Proof.AffRef.lean ====
/- The plain reference of the merge's affinities: its result's terms, read an element at a time. -/
module

public import proofs.«01_k».proof.Proof.AffSpec
public import proofs.«01_k».proof.Proof.Gen.AffReferenceIdeal.Run
public import Idealize.ShloMosaic.Lib.Pointwise
public import Idealize.ShloMosaic.Lib.Pipeline.ValueKit

@[expose] public section

set_option maxRecDepth 16384

noncomputable section

namespace Cert.Proof.AffRef

open Cert.AffReferenceIdeal Cert.AffReferenceIdeal.Gen
open Idealize.ShloMosaic Idealize.ShloMosaic.TcCoe Idealize.ShloMosaic.Tactic
open Idealize.SL Idealize.SL.Sem
open Cert.Proof.Mix (rmsRow gated mixRow hxRow hmRow ygG yG mG xG nG arr3)
open Cert.Proof.Aff (top soft affG arrA)
open Finset

/-- The scans with their skip, gated. -/
def ygT (A0 A1 A2 A3 : S8x4096x1536.Idx → Ideal .bf16) (A10 : S1x24.Idx → Ideal .f32) : S8x4096x1536.Idx → Ideal .f32 :=
  mulf (shapeCast _ (addf (shapeCast _ (addf (extf .f32 A0 bitsLt_bf16_f32) (extf .f32 A1 bitsLt_bf16_f32)) shapeCasts_S8x4096x1536_S8x4096x24x64) (mulf (broadcastInDim S8x4096x24x64 ![0, 1, 2, 3] bcast_S1x1x24x1_S8x4096x24x64_0_1_2_3 (broadcastInDim S1x1x24x1 ![2, 3] bcast_S24x1_S1x1x24x1_2_3 (broadcastInDim S24x1 ![0] bcast_S24_S24x1_0 (shapeCast _ A10 shapeCasts_S1x24_S24)))) (shapeCast _ (extf .f32 A2 bitsLt_bf16_f32) shapeCasts_S8x4096x1536_S8x4096x24x64))) shapeCasts_S8x4096x24x64_S8x4096x1536) (extf .f32 A3 bitsLt_bf16_f32)

/-- A row of 1536 normalised. -/
def ynT (YG : S8x4096x1536.Idx → Ideal .f32) (A11 : S1x1536.Idx → Ideal .f32) : S8x4096x1536.Idx → Ideal .f32 :=
  mulf (mulf YG (broadcastInDim S8x4096x1536 ![0, 1, 2] bcast_S8x4096x1_S8x4096x1536_0_1_2 (Host.rsqrt (addf (Host.divf (broadcastInDim S8x4096x1 ![0, 1] bcast_S8x4096_S8x4096x1_0_1 (Host.reduceAdd (mulf YG YG) (constant S_ .f32 0x00000000#32) reducesTo_S8x4096x1536_S8x4096_d2 h_S_)) (broadcastInDim S8x4096x1 ![] bcast_S_S8x4096x1 (constant S_ .f32 0x44C00000#32))) (broadcastInDim S8x4096x1 ![] bcast_S_S8x4096x1 (constant S_ .f32 0x358637BD#32)))))) (broadcastInDim S8x4096x1536 ![0, 1, 2] bcast_S1x1x1536_S8x4096x1536_0_1_2 (broadcastInDim S1x1x1536 ![2] bcast_S1536_S1x1x1536_2 (shapeCast _ A11 shapeCasts_S1x1536_S1536)))

/-- The branches merged. -/
def mixT (YN : S8x4096x1536.Idx → Ideal .f32) (A4 : S8x4096x512.Idx → Ideal .f32) (A5 : S8x4096x2048.Idx → Ideal .bf16) (A14 : S1x1536x1024.Idx → Ideal .f32) (A15 : S1x512x1024.Idx → Ideal .f32) (A16 : S1x1024x1024.Idx → Ideal .f32) : S8x4096x1024.Idx → Ideal .f32 :=
  Host.dotGeneral dot_S8x4096x1024_S1024x1024_S8x4096x1024_2_0_01_1_n_n none (addf (mulf (shapeCast _ (extractStridedSlice S8x4096x1x1024 ![0, 0, 0, 0] (shapeCast _ (extf .f32 A5 bitsLt_bf16_f32) shapeCasts_S8x4096x2048_S8x4096x2x1024) slices_S8x4096x2x1024_S8x4096x1x1024_0_0_0_0) shapeCasts_S8x4096x1x1024_S8x4096x1024) (Host.dotGeneral dot_S8x4096x512_S512x1024_S8x4096x1024_2_0_01_1_n_n none A4 (shapeCast _ A15 shapeCasts_S1x512x1024_S512x1024))) (mulf (shapeCast _ (extractStridedSlice S8x4096x1x1024 ![0, 0, 1, 0] (shapeCast _ (extf .f32 A5 bitsLt_bf16_f32) shapeCasts_S8x4096x2048_S8x4096x2x1024) slices_S8x4096x2x1024_S8x4096x1x1024_0_0_1_0) shapeCasts_S8x4096x1x1024_S8x4096x1024) (Host.dotGeneral dot_S8x4096x1536_S1536x1024_S8x4096x1024_2_0_01_1_n_n none YN (shapeCast _ A14 shapeCasts_S1x1536x1024_S1536x1024)))) (shapeCast _ A16 shapeCasts_S1x1024x1024_S1024x1024)

/-- The residual stream. -/
def hxT (MX A6 : S8x4096x1024.Idx → Ideal .f32) (A7 : S8x1x1024.Idx → Ideal .f32) (A12 : S1x1024.Idx → Ideal .f32) : S8x4096x1024.Idx → Ideal .f32 :=
  addf A6 (mulf (broadcastInDim S8x4096x1024 ![0, 1, 2] bcast_S8x1x1024_S8x4096x1024_0_1_2 A7) (mulf (mulf MX (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf MX MX) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A12 shapeCasts_S1x1024_S1024)))))

/-- The stream normalised and modulated. -/
def hmT (HX : S8x4096x1024.Idx → Ideal .f32) (A8 A9 : S8x1x1024.Idx → Ideal .f32) (A13 : S1x1024.Idx → Ideal .f32) : S8x4096x1024.Idx → Ideal .f32 :=
  addf (mulf (mulf (mulf HX (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf HX HX) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ A13 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) A9))) (broadcastInDim S8x4096x1024 ![0, 1, 2] bcast_S8x1x1024_S8x4096x1024_0_1_2 A8)

/-- The products with the router. -/
def logT (H : S8x4096x1024.Idx → Ideal .f32) (A17 : S1x1024x16.Idx → Ideal .f32) : S8x4096x16.Idx → Ideal .f32 :=
  Host.dotGeneral dot_S8x4096x1024_S1024x16_S8x4096x16_2_0_01_1_n_n none H (shapeCast _ A17 shapeCasts_S1x1024x16_S1024x16)

/-- Their exponentials, the greatest taken off. -/
def expT (L : S8x4096x16.Idx → Ideal .f32) : S8x4096x16.Idx → Ideal .f32 :=
  Host.exp (subf L (broadcastInDim S8x4096x16 ![0, 1, 2] bcast_S8x4096x1_S8x4096x16_0_1_2 (broadcastInDim S8x4096x1 ![0, 1] bcast_S8x4096_S8x4096x1_0_1 (maximumf (broadcastInDim S8x4096 ![] bcast_S_S8x4096 (constant S_ .f32 0xFF800000#32)) (Host.reduce FloatOps.maximumf L (constant S_ .f32 0xFF800000#32) reducesTo_S8x4096x16_S8x4096_d2 h_S_)))))

/-- The quotients by their sums, expert by row. -/
def affT (E : S8x4096x16.Idx → Ideal .f32) : S8x16x4096.Idx → Ideal .f32 :=
  transpose S8x16x4096 [0, 2, 1] (Host.divf E (broadcastInDim S8x4096x16 ![0, 1, 2] bcast_S8x4096x1_S8x4096x16_0_1_2 (broadcastInDim S8x4096x1 ![0, 1] bcast_S8x4096_S8x4096x1_0_1 (Host.reduceAdd E (constant S_ .f32 0x00000000#32) reducesTo_S8x4096x16_S8x4096_d2 h_S_)))) transposes_S8x4096x16_S8x16x4096_0_2_1

theorem ygT_at (A0 A1 A2 A3 : S8x4096x1536.Idx → Ideal .bf16) (A10 : S1x24.Idx → Ideal .f32) (b : Fin 8) (r : Fin 4096) (k : Fin 1536) :
    (ygT A0 A1 A2 A3 A10 (ix3 b r k) : EReal) = ygG A0 A1 A2 A3 A10 b r k := by
  unfold ygT ygG gated
  pointwise

theorem ynT_at (Y : S8x4096x1536.Idx → Ideal .f32) (A11 : S1x1536.Idx → Ideal .f32) (b : Fin 8) (r : Fin 4096) (k : Fin 1536) :
    (ynT Y A11 (ix3 b r k) : EReal) = rmsRow 0x44C00000#32 (fun k => Y (ix3 b r k)) (fun k => A11 (ix2 0 k)) k := by
  unfold ynT rmsRow
  pointwise

theorem mixT_at (Y : S8x4096x1536.Idx → Ideal .f32) (A4 : S8x4096x512.Idx → Ideal .f32) (A5 : S8x4096x2048.Idx → Ideal .bf16) (A14 : S1x1536x1024.Idx → Ideal .f32) (A15 : S1x512x1024.Idx → Ideal .f32) (A16 : S1x1024x1024.Idx → Ideal .f32)
    (b : Fin 8) (r : Fin 4096) (j : Fin 1024) :
    (mixT Y A4 A5 A14 A15 A16 (ix3 b r j) : EReal)
      = mixRow (fun k => Y (ix3 b r k)) (fun k => A4 (ix3 b r k)) (fun k => A5 (ix3 b r k)) (fun e k => A14 (ix3 0 e k)) (fun e k => A15 (ix3 0 e k)) (fun e k => A16 (ix3 0 e k)) j := by
  unfold mixT mixRow
  pointwise

theorem hxT_at (X A6 : S8x4096x1024.Idx → Ideal .f32) (A7 : S8x1x1024.Idx → Ideal .f32) (A12 : S1x1024.Idx → Ideal .f32) (b : Fin 8) (r : Fin 4096) (j : Fin 1024) :
    (hxT X A6 A7 A12 (ix3 b r j) : EReal) = hxRow (fun k => X (ix3 b r k)) (fun k => A6 (ix3 b r k)) (fun k => A7 (ix3 b 0 k)) (fun k => A12 (ix2 0 k)) j := by
  unfold hxT hxRow rmsRow
  pointwise

theorem hmT_at (H : S8x4096x1024.Idx → Ideal .f32) (A8 A9 : S8x1x1024.Idx → Ideal .f32) (A13 : S1x1024.Idx → Ideal .f32) (b : Fin 8) (r : Fin 4096) (j : Fin 1024) :
    (hmT H A8 A9 A13 (ix3 b r j) : EReal) = hmRow (fun k => H (ix3 b r k)) (fun k => A13 (ix2 0 k)) (fun k => A9 (ix3 b 0 k)) (fun k => A8 (ix3 b 0 k)) j := by
  unfold hmT hmRow rmsRow
  pointwise

theorem logT_at (H : S8x4096x1024.Idx → Ideal .f32) (A17 : S1x1024x16.Idx → Ideal .f32) (b : Fin 8) (r : Fin 4096) (e : Fin 16) :
    (logT H A17 (ix3 b r e) : EReal) = ∑ k : Fin 1024, H (ix3 b r k) * A17 (ix3 0 k e) := by
  unfold logT
  pointwise

theorem expT_at (L : S8x4096x16.Idx → Ideal .f32) (b : Fin 8) (r : Fin 4096) (e : Fin 16) :
    (expT L (ix3 b r e) : EReal) = Ideal.exp (L (ix3 b r e) - top fun e => L (ix3 b r e)) := by
  have hz : Ideal.ofBits FTy.f32 4286578688#32 = (⊥ : EReal) := by
    simp [Ideal.ofBits, Ideal.ieee]
  unfold expT top
  pointwise
  rw [hz, max_eq_right bot_le]

theorem affT_at (E : S8x4096x16.Idx → Ideal .f32) (b : Fin 8) (e : Fin 16) (r : Fin 4096) :
    (affT E (ix3 b e r) : EReal) = Ideal.div (E (ix3 b r e)) (∑ x : Fin 16, E (ix3 b r x)) := by
  unfold affT
  pointwise

section
variable (A0 A1 A2 A3 : S8x4096x1536.Idx → Ideal .bf16) (A4 : S8x4096x512.Idx → Ideal .f32) (A5 : S8x4096x2048.Idx → Ideal .bf16) (A6 : S8x4096x1024.Idx → Ideal .f32) (A7 A8 A9 : S8x1x1024.Idx → Ideal .f32)
    (A10 : S1x24.Idx → Ideal .f32) (A11 : S1x1536.Idx → Ideal .f32) (A12 A13 : S1x1024.Idx → Ideal .f32) (A14 : S1x1536x1024.Idx → Ideal .f32) (A15 : S1x512x1024.Idx → Ideal .f32) (A16 : S1x1024x1024.Idx → Ideal .f32)
    (A17 : S1x1024x16.Idx → Ideal .f32)

theorem y_eq (b : Fin 8) (r : Fin 4096) (k : Fin 1536) : (ynT (ygT A0 A1 A2 A3 A10) A11 (ix3 b r k) : EReal) = yG A0 A1 A2 A3 A10 A11 b r k := by
  rw [ynT_at, show (fun k => ygT A0 A1 A2 A3 A10 (ix3 b r k)) = _ from funext (ygT_at A0 A1 A2 A3 A10 b r)]
  rfl

theorem m_eq (b : Fin 8) (r : Fin 4096) (j : Fin 1024) :
    (mixT (ynT (ygT A0 A1 A2 A3 A10) A11) A4 A5 A14 A15 A16 (ix3 b r j) : EReal) = mG A0 A1 A2 A3 A4 A5 A10 A11 A14 A15 A16 b r j := by
  rw [mixT_at, show (fun k => ynT (ygT A0 A1 A2 A3 A10) A11 (ix3 b r k)) = _ from funext (y_eq A0 A1 A2 A3 A10 A11 b r)]
  rfl

theorem x_eq (b : Fin 8) (r : Fin 4096) (j : Fin 1024) :
    (hxT (mixT (ynT (ygT A0 A1 A2 A3 A10) A11) A4 A5 A14 A15 A16) A6 A7 A12 (ix3 b r j) : EReal) = xG A0 A1 A2 A3 A4 A5 A6 A7 A10 A11 A12 A14 A15 A16 b r j := by
  rw [hxT_at, show (fun k => mixT (ynT (ygT A0 A1 A2 A3 A10) A11) A4 A5 A14 A15 A16 (ix3 b r k)) = _ from funext (m_eq A0 A1 A2 A3 A4 A5 A10 A11 A14 A15 A16 b r)]
  rfl

/-- The first result whole. -/
theorem x_all : hxT (mixT (ynT (ygT A0 A1 A2 A3 A10) A11) A4 A5 A14 A15 A16) A6 A7 A12 = arr3 (xG A0 A1 A2 A3 A4 A5 A6 A7 A10 A11 A12 A14 A15 A16) := by
  funext y
  obtain ⟨b, r, j, rfl⟩ : ∃ (b : Fin 8) (r : Fin 4096) (j : Fin 1024), y = ix3 b r j := ⟨y 0, y 1, y 2, eq_ix3 y⟩
  exact x_eq A0 A1 A2 A3 A4 A5 A6 A7 A10 A11 A12 A14 A15 A16 b r j

/-- The modulated rows. -/
theorem n_eq (b : Fin 8) (r : Fin 4096) (j : Fin 1024) :
    (hmT (hxT (mixT (ynT (ygT A0 A1 A2 A3 A10) A11) A4 A5 A14 A15 A16) A6 A7 A12) A8 A9 A13 (ix3 b r j) : EReal) = nG A0 A1 A2 A3 A4 A5 A6 A7 A8 A9 A10 A11 A12 A13 A14 A15 A16 b r j := by
  rw [hmT_at, x_all]
  rfl

/-- The affinities whole. -/
theorem aff_all : affT (expT (logT (hmT (hxT (mixT (ynT (ygT A0 A1 A2 A3 A10) A11) A4 A5 A14 A15 A16) A6 A7 A12) A8 A9 A13) A17)) = arrA (affG A0 A1 A2 A3 A4 A5 A6 A7 A8 A9 A10 A11 A12 A13 A14 A15 A16 A17) := by
  funext y
  obtain ⟨b, e, r, rfl⟩ : ∃ (b : Fin 8) (e : Fin 16) (r : Fin 4096), y = ix3 b e r := ⟨y 0, y 1, y 2, eq_ix3 y⟩
  have hl : ∀ e : Fin 16, (logT (hmT (hxT (mixT (ynT (ygT A0 A1 A2 A3 A10) A11) A4 A5 A14 A15 A16) A6 A7 A12) A8 A9 A13) A17 (ix3 b r e) : EReal)
      = ∑ k : Fin 1024, nG A0 A1 A2 A3 A4 A5 A6 A7 A8 A9 A10 A11 A12 A13 A14 A15 A16 b r k * A17 (ix3 0 k e) := fun e => by
    rw [logT_at]
    exact Finset.sum_congr rfl fun k _ => by rw [n_eq]
  simp only [affT_at, expT_at, hl]
  rfl

end

end Cert.Proof.AffRef
-- ==== Proof.AffRun.lean ====
/- The affinities' reference as a run: its result is the function of the arguments `AffSpec.lean` writes. -/
module

public import proofs.«01_k».proof.Proof.AffRef

@[expose] public section

set_option maxRecDepth 16384

noncomputable section

namespace Cert.Proof.AffRef

open Idealize.ShloMosaic Idealize.ShloMosaic.TcCoe Idealize.ShloMosaic.Tactic Idealize.SL.Sem Idealize.ShloMosaic.StableHlo
open Cert.AffReferenceIdeal Cert.AffReferenceIdeal.Gen
open Cert.Proof.Aff (affG arrA)

section
variable (m : (ℓ : Loc nD τ sig) → Buf (Elt Ideal) ℓ) (ρ : Dev nD → PrngReg) (c : Dev nD)

abbrev b0 : S8x4096x1536.Idx → EReal := m ((c.tc : Thread nD τ).loc main_arg0)
abbrev b1 : S8x4096x1536.Idx → EReal := m ((c.tc : Thread nD τ).loc main_arg1)
abbrev b2 : S8x4096x1536.Idx → EReal := m ((c.tc : Thread nD τ).loc main_arg2)
abbrev b3 : S8x4096x1536.Idx → EReal := m ((c.tc : Thread nD τ).loc main_arg3)
abbrev b4 : S8x4096x512.Idx → EReal := m ((c.tc : Thread nD τ).loc main_arg4)
abbrev b5 : S8x4096x2048.Idx → EReal := m ((c.tc : Thread nD τ).loc main_arg5)
abbrev b6 : S8x4096x1024.Idx → EReal := m ((c.tc : Thread nD τ).loc main_arg6)
abbrev b7 : S8x1x1024.Idx → EReal := m ((c.tc : Thread nD τ).loc main_arg7)
abbrev b8 : S8x1x1024.Idx → EReal := m ((c.tc : Thread nD τ).loc main_arg8)
abbrev b9 : S8x1x1024.Idx → EReal := m ((c.tc : Thread nD τ).loc main_arg9)
abbrev b10 : S1x24.Idx → EReal := m ((c.tc : Thread nD τ).loc main_arg10)
abbrev b11 : S1x1536.Idx → EReal := m ((c.tc : Thread nD τ).loc main_arg11)
abbrev b12 : S1x1024.Idx → EReal := m ((c.tc : Thread nD τ).loc main_arg12)
abbrev b13 : S1x1024.Idx → EReal := m ((c.tc : Thread nD τ).loc main_arg13)
abbrev b14 : S1x1536x1024.Idx → EReal := m ((c.tc : Thread nD τ).loc main_arg14)
abbrev b15 : S1x512x1024.Idx → EReal := m ((c.tc : Thread nD τ).loc main_arg15)
abbrev b16 : S1x1024x1024.Idx → EReal := m ((c.tc : Thread nD τ).loc main_arg16)
abbrev b17 : S1x1024x16.Idx → EReal := m ((c.tc : Thread nD τ).loc main_arg17)

theorem res0 : transpose S8x16x4096 [0, 2, 1] (Host.divf (F := Ideal) (Value.res_main_v89 (F := Ideal) (launchContents m c)) (broadcastInDim S8x4096x16 ![0, 1, 2] bcast_S8x4096x1_S8x4096x16_0_1_2 (broadcastInDim S8x4096x1 ![0, 1] bcast_S8x4096_S8x4096x1_0_1 (Host.reduceAdd (Value.res_main_v89 (F := Ideal) (launchContents m c)) (constant (F := Ideal) S_ .f32 0x00000000#32) reducesTo_S8x4096x16_S8x4096_d2 h_S_)))) transposes_S8x4096x16_S8x16x4096_0_2_1 = arrA (affG (b0 m c) (b1 m c) (b2 m c) (b3 m c) (b4 m c) (b5 m c) (b6 m c) (b7 m c) (b8 m c) (b9 m c) (b10 m c) (b11 m c) (b12 m c) (b13 m c) (b14 m c) (b15 m c) (b16 m c) (b17 m c)) := by
  unfold Value.res_main_v89 Value.res_main_v82
  exact aff_all (b0 m c) (b1 m c) (b2 m c) (b3 m c) (b4 m c) (b5 m c) (b6 m c) (b7 m c) (b8 m c) (b9 m c) (b10 m c) (b11 m c) (b12 m c) (b13 m c) (b14 m c) (b15 m c) (b16 m c) (b17 m c)

end

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94) = arrA (affG (b0 m c) (b1 m c) (b2 m c) (b3 m c) (b4 m c) (b5 m c) (b6 m c) (b7 m c) (b8 m c) (b9 m c) (b10 m c) (b11 m c) (b12 m c) (b13 m c) (b14 m c) (b15 m c) (b16 m c) (b17 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r q c => ?_) (Value.run (F := Ideal) m ρ)
  obtain ⟨q0, q⟩ := q c
  exact ⟨q0.trans (res0 m c), q⟩

end Cert.Proof.AffRef

end
-- ==== Proof.AffPre.lean ====
/- What the precondition says of the arguments: every element is a real number. -/
module

public import proofs.«01_k».proof.Proof.AffFin
public import proofs.«01_k».proof.Proof.Gen.Pre_finite
public import Idealize.ShloMosaic.Lib.ReduceAll

@[expose] public section

set_option maxRecDepth 16384

noncomputable section

namespace Cert.Proof.Aff

open Idealize.ShloMosaic Idealize.ShloMosaic.Tactic
open Cert.Pre_finite Cert.Pre_finite.Gen

theorem real_of_lt {v : EReal} (h : Ideal.cmp .olt (max v (-v)) ⊤ = 1#1) : IsReal v := by
  induction v with
  | bot => simp [Ideal.cmp] at h
  | top => simp [Ideal.cmp] at h
  | coe r => exact ⟨r, rfl⟩

theorem real_f32 {v : EReal} (h : Ideal.cmp .olt (max v (-v)) (Ideal.ofBits FTy.f32 0x7F800000#32) = 1#1) : IsReal v := by
  have hz : Ideal.ofBits FTy.f32 0x7F800000#32 = (⊤ : EReal) := by simp [Ideal.ofBits, Ideal.ieee]
  rw [hz] at h
  exact real_of_lt h

theorem real_bf16 {v : EReal} (h : Ideal.cmp .olt (max v (-v)) (Ideal.ofBits FTy.bf16 0x7F80#16) = 1#1) : IsReal v := by
  have hz : Ideal.ofBits FTy.bf16 0x7F80#16 = (⊤ : EReal) := by simp [Ideal.ofBits, Ideal.ieee]
  rw [hz] at h
  exact real_of_lt h

theorem finite_of_pre (A0 : FVec Ideal S8x4096x1536 .bf16) (A1 : FVec Ideal S8x4096x1536 .bf16) (A2 : FVec Ideal S8x4096x1536 .bf16) (A3 : FVec Ideal S8x4096x1536 .bf16) (A4 : FVec Ideal S8x4096x512 .f32) (A5 : FVec Ideal S8x4096x2048 .bf16) (A6 : FVec Ideal S8x4096x1024 .f32) (A7 : FVec Ideal S8x1x1024 .f32) (A8 : FVec Ideal S8x1x1024 .f32) (A9 : FVec Ideal S8x1x1024 .f32) (A10 : FVec Ideal S1x24 .f32) (A11 : FVec Ideal S1x1536 .f32) (A12 : FVec Ideal S1x1024 .f32) (A13 : FVec Ideal S1x1024 .f32) (A14 : FVec Ideal S1x1536x1024 .f32) (A15 : FVec Ideal S1x512x1024 .f32) (A16 : FVec Ideal S1x1024x1024 .f32) (A17 : FVec Ideal S1x1024x16 .f32)
    (h : Cert.Pre_finite.fn (F := Ideal) A0 A1 A2 A3 A4 A5 A6 A7 A8 A9 A10 A11 A12 A13 A14 A15 A16 A17 = fun _ => 1#1) :
    (∀ i, IsReal (A0 i))
      ∧ (∀ i, IsReal (A1 i))
      ∧ (∀ i, IsReal (A2 i))
      ∧ (∀ i, IsReal (A3 i))
      ∧ (∀ i, IsReal (A4 i))
      ∧ (∀ i, IsReal (A5 i))
      ∧ (∀ i, IsReal (A6 i))
      ∧ (∀ i, IsReal (A7 i))
      ∧ (∀ i, IsReal (A8 i))
      ∧ (∀ i, IsReal (A9 i))
      ∧ (∀ i, IsReal (A10 i))
      ∧ (∀ i, IsReal (A11 i))
      ∧ (∀ i, IsReal (A12 i))
      ∧ (∀ i, IsReal (A13 i))
      ∧ (∀ i, IsReal (A14 i))
      ∧ (∀ i, IsReal (A15 i))
      ∧ (∀ i, IsReal (A16 i))
      ∧ (∀ i, IsReal (A17 i)) := by
  have h0 := congrFun h ix0
  dsimp only [Cert.Pre_finite.fn, Cert.Pre_finite.fn_part1, Cert.Pre_finite.fn_part2, Cert.Pre_finite.fn_part3, Cert.Pre_finite.fn_part4, Cert.Pre_finite.fn_part5] at h0
  have : Subsingleton (Cert.Pre_finite.S_).Idx := ⟨fun a b => funext fun i => i.elim0⟩
  obtain ⟨h0, r17⟩ := IntOp.andi_eq_one.mp (show IntOp.andi _ _ = 1#1 from h0)
  obtain ⟨h0, r16⟩ := IntOp.andi_eq_one.mp (show IntOp.andi _ _ = 1#1 from h0)
  obtain ⟨h0, r15⟩ := IntOp.andi_eq_one.mp (show IntOp.andi _ _ = 1#1 from h0)
  obtain ⟨h0, r14⟩ := IntOp.andi_eq_one.mp (show IntOp.andi _ _ = 1#1 from h0)
  obtain ⟨h0, r13⟩ := IntOp.andi_eq_one.mp (show IntOp.andi _ _ = 1#1 from h0)
  obtain ⟨h0, r12⟩ := IntOp.andi_eq_one.mp (show IntOp.andi _ _ = 1#1 from h0)
  obtain ⟨h0, r11⟩ := IntOp.andi_eq_one.mp (show IntOp.andi _ _ = 1#1 from h0)
  obtain ⟨h0, r10⟩ := IntOp.andi_eq_one.mp (show IntOp.andi _ _ = 1#1 from h0)
  obtain ⟨h0, r9⟩ := IntOp.andi_eq_one.mp (show IntOp.andi _ _ = 1#1 from h0)
  obtain ⟨h0, r8⟩ := IntOp.andi_eq_one.mp (show IntOp.andi _ _ = 1#1 from h0)
  obtain ⟨h0, r7⟩ := IntOp.andi_eq_one.mp (show IntOp.andi _ _ = 1#1 from h0)
  obtain ⟨h0, r6⟩ := IntOp.andi_eq_one.mp (show IntOp.andi _ _ = 1#1 from h0)
  obtain ⟨h0, r5⟩ := IntOp.andi_eq_one.mp (show IntOp.andi _ _ = 1#1 from h0)
  obtain ⟨h0, r4⟩ := IntOp.andi_eq_one.mp (show IntOp.andi _ _ = 1#1 from h0)
  obtain ⟨h0, r3⟩ := IntOp.andi_eq_one.mp (show IntOp.andi _ _ = 1#1 from h0)
  obtain ⟨h0, r2⟩ := IntOp.andi_eq_one.mp (show IntOp.andi _ _ = 1#1 from h0)
  obtain ⟨r0, r1⟩ := IntOp.andi_eq_one.mp (show IntOp.andi _ _ = 1#1 from h0)
  exact ⟨fun i => real_bf16 (Host.reduce_andi_all _ _ _ _ _ r0 i),
    fun i => real_bf16 (Host.reduce_andi_all _ _ _ _ _ r1 i),
    fun i => real_bf16 (Host.reduce_andi_all _ _ _ _ _ r2 i),
    fun i => real_bf16 (Host.reduce_andi_all _ _ _ _ _ r3 i),
    fun i => real_f32 (Host.reduce_andi_all _ _ _ _ _ r4 i),
    fun i => real_bf16 (Host.reduce_andi_all _ _ _ _ _ r5 i),
    fun i => real_f32 (Host.reduce_andi_all _ _ _ _ _ r6 i),
    fun i => real_f32 (Host.reduce_andi_all _ _ _ _ _ r7 i),
    fun i => real_f32 (Host.reduce_andi_all _ _ _ _ _ r8 i),
    fun i => real_f32 (Host.reduce_andi_all _ _ _ _ _ r9 i),
    fun i => real_f32 (Host.reduce_andi_all _ _ _ _ _ r10 i),
    fun i => real_f32 (Host.reduce_andi_all _ _ _ _ _ r11 i),
    fun i => real_f32 (Host.reduce_andi_all _ _ _ _ _ r12 i),
    fun i => real_f32 (Host.reduce_andi_all _ _ _ _ _ r13 i),
    fun i => real_f32 (Host.reduce_andi_all _ _ _ _ _ r14 i),
    fun i => real_f32 (Host.reduce_andi_all _ _ _ _ _ r15 i),
    fun i => real_f32 (Host.reduce_andi_all _ _ _ _ _ r16 i),
    fun i => real_f32 (Host.reduce_andi_all _ _ _ _ _ r17 i)⟩

end Cert.Proof.Aff

end
-- ==== Proof.AffValue.lean ====
/- The merge call's router affinities: the frames, and the value against the reference's for finite arguments. -/
module

public import proofs.«01_k».proof.Defs
public import proofs.«01_k».proof.Proof.Gen.AffKernel.Frame
public import proofs.«01_k».proof.Proof.AffArr
public import proofs.«01_k».proof.Proof.AffRun
public import proofs.«01_k».proof.Proof.AffPre
public import Idealize.ShloMosaic.Adequacy
public import Idealize.ShloMosaic.Init

@[expose] public section

set_option maxRecDepth 16384
set_option maxHeartbeats 4000000

noncomputable section

namespace Cert.Proof.Aff

open Idealize.ShloMosaic Idealize.ShloMosaic.TcCoe Idealize.SL.Sem
open Cert.AffKernelIdeal Cert.AffKernelIdeal.Gen

/-- The call's frame at bits. -/
theorem frame_kernel : Cert.quiescent_AffKernel := fun m ρ _ => Cert.AffKernel.Gen.frame (F := Bits) m ρ

/-- Its frame over the extended reals, where the mask's literal is −∞. -/
theorem frame_ideal : Cert.quiescent_AffKernelIdeal := fun m ρ _ => frame (F := Ideal) m ρ

theorem frame_ideal_pre : Cert.quiescent_AffKernelIdeal_pre_finite := fun m ρ _ => frame (F := Ideal) m ρ

/-- Its reference's frame. -/
theorem frame_reference : Cert.quiescent_AffReferenceIdeal := fun m ρ _ =>
  (θ_run Cert.AffReferenceIdeal.defs _ _).mono (fun r h => ⟨fun c => (h c).2, sem_eq_zero_of_no_sems (by decide) r.2⟩)
    (Cert.AffReferenceIdeal.Value.run (F := Ideal) m ρ)

theorem frame_reference_pre : Cert.quiescent_AffReferenceIdeal_pre_finite := fun m ρ _ =>
  (θ_run Cert.AffReferenceIdeal.defs _ _).mono (fun r h => ⟨fun c => (h c).2, sem_eq_zero_of_no_sems (by decide) r.2⟩)
    (Cert.AffReferenceIdeal.Value.run (F := Ideal) m ρ)

/-- The mask's literal stands for −∞. -/
theorem preserves : Cert.preserves_AffKernel_AffKernelIdeal :=
  IdealRules.named_const.statement _ _ _ _ _ rfl

/-- The arguments after the kernel's run, and its affinities as the blocks it wrote. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18_2) = arrA (affK (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r q c => ?_) (θ_run_and (run_main m ρ) (frame m ρ))
  exact ⟨((q.1 c).1 20).trans (arr20 m c), q.2.1 c⟩

/-- The value: both runs end at the softmax of the rows' logits. -/
theorem value : Cert.algebraic_AffKernelIdeal_AffReferenceIdeal_pre_finite := by
  intro m g m' g' hp e
  refine ⟨fun c => arrA (affG (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)),
    (θ_run defs _ _).mono (fun r q c => ?_) (run_kernel m g), (θ_run Cert.AffReferenceIdeal.defs _ _).mono (fun r q c => ?_) (AffRef.run m' g')⟩
  · obtain ⟨f0, f1, f2, f3, f4, f5, f6, f7, f8, f9, f10, f11, f12, f13, f14, f15, f16, f17⟩ := finite_of_pre (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (hp c)
    exact ⟨(q c).1.trans (congrArg arrA (aff_fin f0 f1 f2 f3 f4 f5 f6 f7 f8 f9 f10 f11 f12 f13 f14 f15 f16 f17)), (q c).2⟩
  obtain ⟨e0, e1, e2, e3, e4, e5, e6, e7, e8, e9, e10, e11, e12, e13, e14, e15, e16, e17⟩ := e c
  have k0 : AffRef.b0 m' c = a0 m c := e0
  have k1 : AffRef.b1 m' c = a1 m c := e1
  have k2 : AffRef.b2 m' c = a2 m c := e2
  have k3 : AffRef.b3 m' c = a3 m c := e3
  have k4 : AffRef.b4 m' c = a4 m c := e4
  have k5 : AffRef.b5 m' c = a5 m c := e5
  have k6 : AffRef.b6 m' c = a6 m c := e6
  have k7 : AffRef.b7 m' c = a7 m c := e7
  have k8 : AffRef.b8 m' c = a8 m c := e8
  have k9 : AffRef.b9 m' c = a9 m c := e9
  have k10 : AffRef.b10 m' c = a10 m c := e10
  have k11 : AffRef.b11 m' c = a11 m c := e11
  have k12 : AffRef.b12 m' c = a12 m c := e12
  have k13 : AffRef.b13 m' c = a13 m c := e13
  have k14 : AffRef.b14 m' c = a14 m c := e14
  have k15 : AffRef.b15 m' c = a15 m c := e15
  have k16 : AffRef.b16 m' c = a16 m c := e16
  have k17 : AffRef.b17 m' c = a17 m c := e17
  obtain ⟨q0, q⟩ := q c
  exact ⟨q0.trans (by rw [k0, k1, k2, k3, k4, k5, k6, k7, k8, k9, k10, k11, k12, k13, k14, k15, k16, k17]), q⟩

end Cert.Proof.Aff

end
-- ==== Proof.ModSame.lean ====
/- The two printed texts of the modulation call are one: no rewrite was offered, so the body, the body table and the host program are
   the same terms, and a run of one is a run of the other. -/
module

public import proofs.«01_k».proof.Defs
public import proofs.«01_k».proof.Proof.Gen.ModKernel
public import proofs.«01_k».proof.Proof.Gen.ModKernelIdeal

@[expose] public section

set_option maxRecDepth 16384
set_option maxHeartbeats 1000000

noncomputable section

namespace Cert.Proof.Mod

open Idealize.ShloMosaic Idealize.SL.Sem

/-- The kernel functions. -/
theorem same_body : Cert.ModKernel.cc0_modulation (F := Bits) = Cert.ModKernelIdeal.cc0_modulation (F := Bits) := rfl

/-- The body tables: one label, the kernel function on the same operands. -/
theorem same_bodies : Cert.ModKernel.defs₀ (F := Bits) = Cert.ModKernelIdeal.defs₀ (F := Bits) := by
  unfold Cert.ModKernel.defs₀ Cert.ModKernelIdeal.defs₀
  refine congrArg Defs.onTc (funext fun l => funext fun x => ?_)
  match l, x with
  | ⟨0, _⟩, (t, s) =>
    dsimp only
    rw [same_body]
    rfl
  | ⟨_ + 1, h⟩, _ => exact absurd h (Nat.not_lt.2 (Nat.le_add_left _ _))

/-- The definition tables. -/
theorem same_defs : Cert.ModKernel.defs (F := Bits) = Cert.ModKernelIdeal.defs (F := Bits) := by
  unfold Cert.ModKernel.defs Cert.ModKernelIdeal.defs
  rw [same_bodies]
  rfl

/-- The host programs. -/
theorem same_main : Cert.ModKernel.main (F := Bits) = Cert.ModKernelIdeal.main (F := Bits) := rfl

/-- The runs. -/
theorem same_run (m : (ℓ : Loc Cert.ModKernel.nD Cert.ModKernel.τ Cert.ModKernel.sig) → Buf (Elt Bits) ℓ) (ρ : Dev Cert.ModKernel.nD → PrngReg) :
    θ_run (Cert.ModKernel.defs (F := Bits)) (onTc (τ := Cert.ModKernel.τ) (Cert.ModKernel.main (F := Bits))) ⟨m, fun _ => 0, ρ⟩
      = θ_run (Cert.ModKernelIdeal.defs (F := Bits)) (onTc (τ := Cert.ModKernelIdeal.τ) (Cert.ModKernelIdeal.main (F := Bits))) ⟨m, fun _ => 0, ρ⟩ := by
  rw [same_defs, same_main]
  rfl

end Cert.Proof.Mod
end
-- ==== Proof.ModOut.lean ====
/- The modulation's body: the block it stores, element by element. -/
module

public import proofs.«01_k».proof.Proof.InBody
public import proofs.«01_k».proof.Proof.Gen.ModKernelIdeal.Frame
public import Idealize.ShloMosaic.Lib.Pointwise

@[expose] public section

set_option maxRecDepth 16384

noncomputable section

namespace Cert.Proof.Mod

open Cert.ModKernelIdeal Cert.ModKernelIdeal.Gen
open Idealize.ShloMosaic Idealize.ShloMosaic.TcCoe Idealize.ShloMosaic.Tactic
open Cert.Proof.InProj (sgm)
open Finset

/-- A conditioning row through its activation, a weight's column and a bias. -/
def lin (f w : Fin 1024 → EReal) (b : EReal) : EReal := ∑ k : Fin 1024, f k * sgm (f k) * w k + b

section
variable (x0 : S16x1024.Idx → Ideal .f32) (x1 : S1024x1024.Idx → Ideal .f32) (x2 : S1x1024.Idx → Ideal .f32)

theorem pay_at (i : Fin 16) (j : Fin 1024) : (k0_pay1 (F := Ideal) x0 x1 x2 (ix2 i j) : EReal) = lin (fun k => x0 (ix2 i k)) (fun k => x1 (ix2 k j)) (x2 (ix2 0 j)) := by
  unfold k0_pay1 lin sgm
  pointwise

/-- The block stored. -/
def outM (y : S16x1024.Idx) : EReal := lin (fun k => x0 (ix2 (y 0) k)) (fun k => x1 (ix2 k (y 1))) (x2 (ix2 0 (y 1)))

theorem out3 (y : S16x1024.Idx) : out0_3 (F := Ideal) x0 x1 x2 y = outM x0 x1 x2 y := by
  unfold out0_3
  refine View.canon_apply_of_pieces (Val := Elt Ideal) (outM x0 x1 x2) _ (List.forall_mem_cons.2 ⟨fun x => ?_, List.forall_mem_nil _⟩) y (cover0_3 _ y)
  have e : (Rect.unit (s := S16x1024) ![0, 0] S16x1024.size inb_S16x1024_S16x1024_0_0).emb x = x := by
    funext a
    apply Fin.ext
    fin_cases a <;> simp [Rect.unit, Rect.emb]
  refine Eq.trans ?_ (congrArg (outM x0 x1 x2) e).symm
  obtain ⟨i, j, rfl⟩ : ∃ (i : Fin 16) (j : Fin 1024), x = ix2 i j := ⟨x 0, x 1, by funext a; fin_cases a <;> rfl⟩
  rw [View.ld_unit_zero (S := S16x1024) (by funext a; fin_cases a <;> rfl), View.ld_unit_zero (S := S1024x1024) (by funext a; fin_cases a <;> rfl), View.ld_unit_zero (S := S1x1024) (by funext a; fin_cases a <;> rfl)]
  exact pay_at _ _ _ i j

end

end Cert.Proof.Mod
-- ==== Proof.ModArr.lean ====
/- The modulation's blocks read from the arguments, and what its array and then its two results hold at the end. -/
module

public import proofs.«01_k».proof.Proof.ModOut
public import Idealize.ShloMosaic.Lib.Pipeline.ValueKit

@[expose] public section

set_option maxRecDepth 16384
set_option maxHeartbeats 1000000

noncomputable section

namespace Cert.Proof.Mod

open Cert.ModKernelIdeal Cert.ModKernelIdeal.Gen
open Idealize.ShloMosaic Idealize.ShloMosaic.TcCoe Idealize.ShloMosaic.Tactic
open Idealize.SL Idealize.SL.Sem
open Finset

/-- A conditioning row's modulation. -/
def fx (A2 : S1x1024x6144.Idx → EReal) (A3 : S1x6144.Idx → EReal) (f : Fin 1024 → EReal) (j : Fin 6144) : EReal :=
  lin f (fun k => A2 (ix3 0 k j)) (A3 (ix2 0 j))

/-- The batches' modulations, six vectors each. -/
def gX (A0 : S8x1024.Idx → EReal) (A2 : S1x1024x6144.Idx → EReal) (A3 : S1x6144.Idx → EReal) : S8x6x1x1024.Idx → EReal :=
  fun y => fx A2 A3 (fun k => A0 (ix2 (y 0) k)) ⟨(y 1).val * 1024 + (y 3).val, by
    have h1 : (y 1).val < 6 := (y 1).isLt
    have h3 : (y 3).val < 1024 := (y 3).isLt
    omega⟩

/-- The context's modulation. -/
def gC (A1 : S1024.Idx → EReal) (A2 : S1x1024x6144.Idx → EReal) (A3 : S1x6144.Idx → EReal) : S6144.Idx → EReal :=
  fun y => fx A2 A3 (fun k => A1 (ix1 k)) (y 0)

section
variable (m : (ℓ : Loc nD τ sig) → Buf (Elt Ideal) ℓ) (c : Dev nD)

abbrev a0 : S8x1024.Idx → EReal := m ((c : Thread nD τ).loc main_arg0)
abbrev a1 : S1024.Idx → EReal := m ((c : Thread nD τ).loc main_arg1)
abbrev a2 : S1x1024x6144.Idx → EReal := m ((c : Thread nD τ).loc main_arg2)
abbrev a3 : S1x6144.Idx → EReal := m ((c : Thread nD τ).loc main_arg3)

/-- The rows staged: the batches', the context's, and zeros. -/
abbrev rows : S16x1024.Idx → EReal := V m c main_v2

theorem rows_eq : rows m c = concatenate S16x1024 0 [⟨S8x1024, a0 m c⟩, ⟨S1x1024, broadcastInDim S1x1024 ![1] bcast_S1024_S1x1024_1 (a1 m c)⟩, ⟨S7x1024, broadcastInDim S7x1024 ![] bcast_S_S7x1024 (constant (F := Ideal) S_ .f32 0x00000000#32)⟩] concatenates_S8x1024_S1x1024_S7x1024_S16x1024_d0 := by
  unfold rows V V0
  simp only [hostOps0, List.flatten_cons, List.flatten_nil, List.append_nil, List.cons_append, List.nil_append]
  after_results <;> rfl

theorem weight_eq : (V m c main_v3 : S1024x6144.Idx → EReal) = shapeCast S1024x6144 (a2 m c) shapeCasts_S1x1024x6144_S1024x6144 := by
  unfold V V0
  simp only [hostOps0, List.flatten_cons, List.flatten_nil, List.append_nil, List.cons_append, List.nil_append]
  after_results <;> rfl

theorem bias_eq : (V m c main_v5 : S1x6144.Idx → EReal) = shapeCast S1x6144 (shapeCast S6144 (a3 m c) shapeCasts_S1x6144_S6144) shapeCasts_S6144_S1x6144 := by
  unfold V V0
  simp only [hostOps0, List.flatten_cons, List.flatten_nil, List.append_nil, List.cons_append, List.nil_append]
  after_results <;> rfl

theorem rows_batch (b : Fin 8) (k : Fin 1024) : rows m c (ix2 ⟨b.val, by omega⟩ k) = a0 m c (ix2 b k) := by
  rw [rows_eq]
  pointwise

theorem rows_ctx (k : Fin 1024) : rows m c (ix2 8 k) = a1 m c (ix1 k) := by
  rw [rows_eq]
  pointwise

theorem idx : ∀ t : Fin grid0.N, win0_0.index t = ![0, 0] ∧ win0_1.index t = ![0, t.val] ∧ win0_2.index t = ![0, t.val] ∧ win0_3.index t = ![0, t.val] := by decide +kernel

/-- A column of a point's block in the whole. -/
def colOf (t : Fin cfg0.N) (j : Fin 1024) : Fin 6144 := ⟨t.val * 1024 + j.val, by
  have h : t.val < 6 := t.isLt
  omega⟩

theorem iblk0 (t : Fin cfg0.N) (i : Fin 16) (k : Fin 1024) : (iblk (F := Ideal) m c 0 t (ix2 i k) : EReal) = rows m c (ix2 i k) := by
  unfold iblk
  rw [View.read_apply]
  show V m c main_v2 _ = _
  unfold rows
  blk_ext [iblk, V, idx t]

theorem iblk1 (t : Fin cfg0.N) (k : Fin 1024) (j : Fin 1024) : (iblk (F := Ideal) m c 1 t (ix2 k j) : EReal) = a2 m c (ix3 0 k (colOf t j)) := by
  unfold iblk
  rw [View.read_apply]
  show V m c main_v3 _ = _
  rw [weight_eq]
  pointwise
  unfold colOf
  blk_ext [iblk, V, idx t]

theorem iblk2 (t : Fin cfg0.N) (j : Fin 1024) : (iblk (F := Ideal) m c 2 t (ix2 0 j) : EReal) = a3 m c (ix2 0 (colOf t j)) := by
  unfold iblk
  rw [View.read_apply]
  show V m c main_v5 _ = _
  rw [bias_eq]
  pointwise
  unfold colOf
  blk_ext [iblk, V, idx t]

/-- The whole product, all sixteen rows. -/
def all : S16x6144.Idx → EReal := fun y => fx (a2 m c) (a3 m c) (fun k => rows m c (ix2 (y 0) k)) (y 1)

theorem arr3 : (dats m 0 c).arrAt 3 cfg0.N = all m c := by
  refine (dats m 0 c).arrAt_eq_of_covers 3 _ (by decide +kernel) fun t hf y => ?_
  obtain ⟨i, j, rfl⟩ : ∃ (i : Fin 16) (j : Fin 1024), y = ix2 i j := ⟨y 0, y 1, by funext a; fin_cases a <;> rfl⟩
  have hi := (idx t).2.2.2
  have e : (win0_3.blk t).view.emb (ix2 i j) = ix2 i (colOf t j) := by
    funext a
    apply Fin.ext
    fin_cases a
    · exact (Pipeline.Window.rect_emb_val win0_3 t (ix2 i j) 0 rfl).trans (by rw [hi]; show 0 * 16 + i.val = i.val; omega)
    · exact (Pipeline.Window.rect_emb_val win0_3 t (ix2 i j) 1 rfl).trans (by rw [hi]; rfl)
  blk_simp
  show (dats m 0 c).after 3 t (ix2 i j) = _
  rw [after0_3, e]
  refine (out3 _ _ _ (ix2 i j)).trans ?_
  unfold outM all fx
  show lin (fun k => iblk m c 0 t (ix2 i k)) (fun k => iblk m c 1 t (ix2 k j)) (iblk m c 2 t (ix2 0 j)) = _
  rw [funext fun k => iblk0 m c t i k, funext fun k => iblk1 m c t k j, iblk2]
  rfl

/-- The array after the region is the product. -/
theorem at_v6 : Pipeline.withArrays spec0 c (V0 m c) (fun w => (dats m 0 c).arrAt w cfg0.N) (Proc.devRef .tc main_v6) = all m c :=
  (Pipeline.withArrays_arr spec0 (by decide) c (V0 m c) (fun w => (dats m 0 c).arrAt w cfg0.N) 3).trans (arr3 m c)

theorem tail_x : Pipeline.afterTail₀ cfgs (dats m) 0 (V0 m) [hostOps1] c main_v8 = gX (a0 m c) (a2 m c) (a3 m c) := by
  have e : Pipeline.afterTail₀ cfgs (dats m) 0 (V0 m) [hostOps1] c main_v8
      = shapeCast S8x6x1x1024 (extractStridedSlice S8x6144 ![0, 0] (Pipeline.withArrays spec0 c (V0 m c) (fun w => (dats m 0 c).arrAt w cfg0.N) (Proc.devRef .tc main_v6)) slices_S16x6144_S8x6144_0_0) shapeCasts_S8x6144_S8x6x1x1024 := by
    unfold Pipeline.afterTail₀
    simp only [hostOps1, List.flatten_cons, List.flatten_nil, List.append_nil, List.cons_append, List.nil_append]
    after_results <;> rfl
  rw [e, at_v6]
  funext y
  obtain ⟨b, q, z, k, rfl⟩ : ∃ (b : Fin 8) (q : Fin 6) (z : Fin 1) (k : Fin 1024), y = ix4 b q z k := ⟨y 0, y 1, y 2, y 3, by funext a; fin_cases a <;> rfl⟩
  obtain rfl := Fin.fin_one_eq_zero z
  have h : (shapeCast S8x6x1x1024 (extractStridedSlice S8x6144 ![0, 0] (all m c) slices_S16x6144_S8x6144_0_0) shapeCasts_S8x6144_S8x6x1x1024 (ix4 b q 0 k) : EReal)
      = all m c (ix2 ⟨b.val, by omega⟩ ⟨q.val * 1024 + k.val, by omega⟩) := by
    pointwise
  refine h.trans ?_
  unfold all gX
  exact congrArg (fun f => fx (a2 m c) (a3 m c) f _) (funext fun k => rows_batch m c b k)

theorem tail_c : Pipeline.afterTail₀ cfgs (dats m) 0 (V0 m) [hostOps1] c main_v10 = gC (a1 m c) (a2 m c) (a3 m c) := by
  have e : Pipeline.afterTail₀ cfgs (dats m) 0 (V0 m) [hostOps1] c main_v10
      = shapeCast S6144 (extractStridedSlice S1x6144 ![8, 0] (Pipeline.withArrays spec0 c (V0 m c) (fun w => (dats m 0 c).arrAt w cfg0.N) (Proc.devRef .tc main_v6)) slices_S16x6144_S1x6144_8_0) shapeCasts_S1x6144_S6144 := by
    unfold Pipeline.afterTail₀
    simp only [hostOps1, List.flatten_cons, List.flatten_nil, List.append_nil, List.cons_append, List.nil_append]
    after_results <;> rfl
  rw [e, at_v6]
  funext y
  obtain ⟨j, rfl⟩ : ∃ j : Fin 6144, y = ix1 j := ⟨y 0, by funext a; fin_cases a; rfl⟩
  have h : (shapeCast S6144 (extractStridedSlice S1x6144 ![8, 0] (all m c) slices_S16x6144_S1x6144_8_0) shapeCasts_S1x6144_S6144 (ix1 j) : EReal)
      = all m c (ix2 8 j) := by
    pointwise
  refine h.trans ?_
  unfold all gC
  exact congrArg (fun f => fx (a2 m c) (a3 m c) f _) (funext fun k => rows_ctx m c k)

end

end Cert.Proof.Mod
-- ==== Proof.ModRef.lean ====
/- The modulation's plain reference: its results' terms, read an element at a time, and its run. -/
module

public import proofs.«01_k».proof.Proof.ModArr
public import proofs.«01_k».proof.Proof.InRef
public import proofs.«01_k».proof.Proof.Gen.ModReferenceIdeal.Run

@[expose] public section

set_option maxRecDepth 16384

noncomputable section

namespace Cert.Proof.ModRef

open Cert.ModReferenceIdeal Cert.ModReferenceIdeal.Gen
open Idealize.ShloMosaic Idealize.ShloMosaic.TcCoe Idealize.ShloMosaic.Tactic
open Idealize.SL Idealize.SL.Sem
open Cert.Proof.InProj (sgm)
open Cert.Proof.InRef (neg_sub0)
open Cert.Proof.Mod (lin fx gX gC)
open Finset

/-- The batches' rows through their activation. -/
def actX (A0 : S8x1024.Idx → Ideal .f32) : S8x1024.Idx → Ideal .f32 :=
  mulf A0 (Host.divf (broadcastInDim S8x1024 ![] bcast_S_S8x1024 (constant S_ .f32 0x3F800000#32)) (addf (broadcastInDim S8x1024 ![] bcast_S_S8x1024 (constant S_ .f32 0x3F800000#32)) (Host.exp (Host.negf A0))))

/-- The context's row through its activation. -/
def actC (A1 : S1024.Idx → Ideal .f32) : S1024.Idx → Ideal .f32 :=
  mulf A1 (Host.divf (broadcastInDim S1024 ![] bcast_S_S1024 (constant S_ .f32 0x3F800000#32)) (addf (broadcastInDim S1024 ![] bcast_S_S1024 (constant S_ .f32 0x3F800000#32)) (Host.exp (Host.negf A1))))

/-- The batches' result. -/
def resX (H : S8x1024.Idx → Ideal .f32) (A2 : S1x1024x6144.Idx → Ideal .f32) (A3 : S1x6144.Idx → Ideal .f32) : S8x6x1x1024.Idx → Ideal .f32 :=
  shapeCast _ (addf (Host.dotGeneral dot_S8x1024_S1024x6144_S8x6144_1_0_0_1_n_n none H (shapeCast _ A2 shapeCasts_S1x1024x6144_S1024x6144)) (broadcastInDim S8x6144 ![0, 1] bcast_S1x6144_S8x6144_0_1 (broadcastInDim S1x6144 ![1] bcast_S6144_S1x6144_1 (shapeCast _ A3 shapeCasts_S1x6144_S6144)))) shapeCasts_S8x6144_S8x6x1x1024

/-- The context's result. -/
def resC (H : S1024.Idx → Ideal .f32) (A2 : S1x1024x6144.Idx → Ideal .f32) (A3 : S1x6144.Idx → Ideal .f32) : S6144.Idx → Ideal .f32 :=
  addf (Host.dotGeneral dot_S1024_S1024x6144_S6144_0_0_n_1_n_n none H (shapeCast _ A2 shapeCasts_S1x1024x6144_S1024x6144)) (shapeCast _ A3 shapeCasts_S1x6144_S6144)

theorem actX_at (A0 : S8x1024.Idx → Ideal .f32) (b : Fin 8) (k : Fin 1024) : (actX A0 (ix2 b k) : EReal) = A0 (ix2 b k) * sgm (A0 (ix2 b k)) := by
  unfold actX sgm
  pointwise
  rw [neg_sub0]

theorem actC_at (A1 : S1024.Idx → Ideal .f32) (k : Fin 1024) : (actC A1 (ix1 k) : EReal) = A1 (ix1 k) * sgm (A1 (ix1 k)) := by
  unfold actC sgm
  pointwise
  rw [neg_sub0]

section
variable (A2 : S1x1024x6144.Idx → Ideal .f32) (A3 : S1x6144.Idx → Ideal .f32)

theorem resX_at (H : S8x1024.Idx → Ideal .f32) (b : Fin 8) (q : Fin 6) (k : Fin 1024) :
    (resX H A2 A3 (ix4 b q 0 k) : EReal) = ∑ s : Fin 1024, H (ix2 b s) * A2 (ix3 0 s ⟨q.val * 1024 + k.val, by omega⟩) + A3 (ix2 0 ⟨q.val * 1024 + k.val, by omega⟩) := by
  unfold resX
  pointwise

theorem resC_at (H : S1024.Idx → Ideal .f32) (j : Fin 6144) :
    (resC H A2 A3 (ix1 j) : EReal) = ∑ s : Fin 1024, H (ix1 s) * A2 (ix3 0 s j) + A3 (ix2 0 j) := by
  unfold resC
  pointwise

theorem x_eq (A0 : S8x1024.Idx → Ideal .f32) : resX (actX A0) A2 A3 = gX A0 A2 A3 := by
  funext y
  obtain ⟨b, q, z, k, rfl⟩ : ∃ (b : Fin 8) (q : Fin 6) (z : Fin 1) (k : Fin 1024), y = ix4 b q z k := ⟨y 0, y 1, y 2, y 3, by funext a; fin_cases a <;> rfl⟩
  obtain rfl := Fin.fin_one_eq_zero z
  refine (resX_at A2 A3 _ b q k).trans ?_
  rw [Finset.sum_congr rfl fun s _ => congrArg (· * A2 (ix3 0 s ⟨q.val * 1024 + k.val, by omega⟩)) (actX_at A0 b s)]
  rfl

theorem c_eq (A1 : S1024.Idx → Ideal .f32) : resC (actC A1) A2 A3 = gC A1 A2 A3 := by
  funext y
  obtain ⟨j, rfl⟩ : ∃ j : Fin 6144, y = ix1 j := ⟨y 0, by funext a; fin_cases a; rfl⟩
  refine (resC_at A2 A3 _ j).trans ?_
  rw [Finset.sum_congr rfl fun s _ => congrArg (· * A2 (ix3 0 s j)) (actC_at A1 s)]
  rfl

end

section
variable (m : (ℓ : Loc nD τ sig) → Buf (Elt Ideal) ℓ) (c : Dev nD)

abbrev b0 : S8x1024.Idx → EReal := m ((c.tc : Thread nD τ).loc main_arg0)
abbrev b1 : S1024.Idx → EReal := m ((c.tc : Thread nD τ).loc main_arg1)
abbrev b2 : S1x1024x6144.Idx → EReal := m ((c.tc : Thread nD τ).loc main_arg2)
abbrev b3 : S1x6144.Idx → EReal := m ((c.tc : Thread nD τ).loc main_arg3)
end

/-- The run, its results read. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = gX (b0 m c) (b2 m c) (b3 m c)
      ∧ r.2.mem ((c.tc : Thread nD τ).loc main_v12) = gC (b1 m c) (b2 m c) (b3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r q c => ?_) (Value.run (F := Ideal) m ρ)
  obtain ⟨q0, q1, q⟩ := q c
  exact ⟨q0.trans (x_eq (b2 m c) (b3 m c) (b0 m c)), q1.trans (c_eq (b2 m c) (b3 m c) (b1 m c)), q⟩

end Cert.Proof.ModRef

end
-- ==== Proof.ModValue.lean ====
/- The modulation call: its frames, and its value against the reference's. -/
module

public import proofs.«01_k».proof.Defs
public import proofs.«01_k».proof.Proof.ModSame
public import proofs.«01_k».proof.Proof.ModArr
public import proofs.«01_k».proof.Proof.ModRef
public import Idealize.ShloMosaic.Adequacy
public import Idealize.ShloMosaic.Init

@[expose] public section

set_option maxRecDepth 16384
set_option maxHeartbeats 4000000

noncomputable section

namespace Cert.Proof.Mod

open Idealize.ShloMosaic Idealize.ShloMosaic.TcCoe Idealize.SL.Sem
open Cert.ModKernelIdeal Cert.ModKernelIdeal.Gen

/-- The modulation call's frame at bits: one run over any float values serves both texts. -/
theorem frame_kernel : Cert.quiescent_ModKernel := by
  intro m ρ _
  rw [same_run]
  exact frame (F := Bits) m ρ

/-- The modulation call's frame over the extended reals. -/
theorem frame_ideal : Cert.quiescent_ModKernelIdeal := fun m ρ _ => frame (F := Ideal) m ρ

/-- Its reference's frame. -/
theorem frame_reference : Cert.quiescent_ModReferenceIdeal := fun m ρ _ =>
  (θ_run Cert.ModReferenceIdeal.defs _ _).mono (fun r h => ⟨fun c => (h c).2.2, sem_eq_zero_of_no_sems (by decide) r.2⟩)
    (Cert.ModReferenceIdeal.Value.run (F := Ideal) m ρ)

/-- The arguments after the kernel's run, and its results as the lines after it leave them. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = gX (a0 m c) (a2 m c) (a3 m c)
      ∧ r.2.mem ((c.tc : Thread nD τ).loc main_v10) = gC (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r q c => ?_) (θ_run_and (run_main m ρ) (frame m ρ))
  exact ⟨((q.1 c).2 main_v8 (Pipeline.mem_restRefs_of main_v8 (by decide) (by decide))).trans (tail_x m c),
    ((q.1 c).2 main_v10 (Pipeline.mem_restRefs_of main_v10 (by decide) (by decide))).trans (tail_c m c), q.2.1 c⟩

/-- The value: both runs end at the functions of the arguments `ModArr.lean` writes. -/
theorem value : Cert.algebraic_ModKernelIdeal_ModReferenceIdeal := by
  intro m g m' g' _ e
  refine ⟨fun c => gX (a0 m c) (a2 m c) (a3 m c), fun c => gC (a1 m c) (a2 m c) (a3 m c),
    run_kernel m g, (θ_run Cert.ModReferenceIdeal.defs _ _).mono (fun r q c => ?_) (ModRef.run m' g')⟩
  obtain ⟨e0, e1, e2, e3⟩ := e c
  have k0 : ModRef.b0 m' c = a0 m c := e0
  have k1 : ModRef.b1 m' c = a1 m c := e1
  have k2 : ModRef.b2 m' c = a2 m c := e2
  have k3 : ModRef.b3 m' c = a3 m c := e3
  obtain ⟨q0, q1, q⟩ := q c
  exact ⟨q0.trans (by rw [k0, k2, k3]), q1.trans (by rw [k1, k2, k3]), q⟩

end Cert.Proof.Mod

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_idx_ok
public import proofs.«01_k».proof.Proof.Gen.InKernel
public import proofs.«01_k».proof.Proof.Gen.InKernelIdeal
public import proofs.«01_k».proof.Proof.Gen.InReferenceIdeal
public import proofs.«01_k».proof.Proof.Gen.InReferenceIdeal.Run
public import proofs.«01_k».proof.Proof.Gen.MixKernel
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.CtxKernel
public import proofs.«01_k».proof.Proof.Gen.CtxKernelIdeal
public import proofs.«01_k».proof.Proof.Gen.CtxKernelIdeal.Frame
public import proofs.«01_k».proof.Proof.Gen.CtxKernelIdeal.Value
public import proofs.«01_k».proof.Proof.Gen.CtxReferenceIdeal
public import proofs.«01_k».proof.Proof.Gen.CtxReferenceIdeal.Run
public import proofs.«01_k».proof.Proof.Gen.ModKernel
public import proofs.«01_k».proof.Proof.Gen.ModKernelIdeal
public import proofs.«01_k».proof.Proof.Gen.ModKernelIdeal.Frame
public import proofs.«01_k».proof.Proof.Gen.ModReferenceIdeal
public import proofs.«01_k».proof.Proof.Gen.ModReferenceIdeal.Run
public import proofs.«01_k».proof.Proof.Gen.AffKernel
public import proofs.«01_k».proof.Proof.Gen.AffKernel.Frame
public import proofs.«01_k».proof.Proof.Gen.AffKernelIdeal
public import proofs.«01_k».proof.Proof.Gen.AffKernelIdeal.Frame
public import proofs.«01_k».proof.Proof.Gen.AffKernelIdeal.Value
public import proofs.«01_k».proof.Proof.Gen.AffReferenceIdeal
public import proofs.«01_k».proof.Proof.Gen.AffReferenceIdeal.Run
public import proofs.«01_k».proof.Proof.Gen.Pre_finite
public import proofs.«01_k».proof.Proof.Launch
public import proofs.«01_k».proof.Proof.Same
public import proofs.«01_k».proof.Proof.Ref
public import proofs.«01_k».proof.Proof.InValue
public import proofs.«01_k».proof.Proof.MixValue
public import proofs.«01_k».proof.Proof.CtxValue
public import proofs.«01_k».proof.Proof.AffValue
public import proofs.«01_k».proof.Proof.ModValue
public import Idealize.ShloMosaic.Adequacy
public import Idealize.ShloMosaic.Init

@[expose] public section

set_option maxRecDepth 16384

noncomputable section

namespace Cert.Proof

open Idealize.ShloMosaic Idealize.SL.Sem

/-- The combine call's frame at bits: one run over any float values serves both texts. -/
theorem frame_kernel : Cert.quiescent_Kernel := by
  intro m ρ h
  rw [same_run]
  exact (θ_run Cert.KernelIdeal.defs _ _).mono (fun _ q => ⟨fun c => (q.1 c).2, q.2⟩)
    (Combine.run (F := Bits) m ρ fun c => Combine.words m c (Combine.idx_of_pre _ _ _ _ _ _ (h c)))

/-- The combine call's frame over the extended reals. -/
theorem frame_ideal : Cert.quiescent_KernelIdeal := fun m ρ h =>
  (θ_run Cert.KernelIdeal.defs _ _).mono (fun _ q => ⟨fun c => (q.1 c).2, q.2⟩)
    (Combine.run (F := Ideal) m ρ fun c => Combine.words m c (Combine.idx_of_pre _ _ _ _ _ _ (h c)))

/-- The reference's frame: its host operations' run, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same frame under the statement's precondition on the row numbers. -/
theorem frame_reference_pre : Cert.quiescent_ReferenceIdeal_pre_idx_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: both runs end at `resultArr` of the arguments. -/
theorem value : Cert.algebraic_KernelIdeal_ReferenceIdeal := by
  intro m g m' g' hp e
  have h0 : ∀ c, Combine.Idx (Combine.a0 m c) := fun c => Combine.idx_of_pre _ _ _ _ _ _ (hp c)
  refine ⟨fun c => Combine.resultArr (Combine.a0 m c) (Combine.a1 m c) (Combine.a2 m c) (Combine.a3 m c) (Combine.a4 m c) (Combine.a5 m c),
    (θ_run Cert.KernelIdeal.defs _ _).mono (fun _ q c => ⟨(q.1 c).1.trans (Combine.arr_eq m c (h0 c)), (q.1 c).2⟩)
      (Combine.run (F := Ideal) m g fun c => Combine.words m c (h0 c)),
    (θ_run Cert.ReferenceIdeal.defs _ _).mono (fun _ q c => ⟨(q c).1.trans ?_, (q c).2⟩)
      (Cert.ReferenceIdeal.Value.run (F := Ideal) m' g')⟩
  obtain ⟨e0, e1, e2, e3, e4, e5⟩ := e c
  have k0 : Reference.a0 m' c = Combine.a0 m c := e0
  have k1 : Reference.a1 m' c = Combine.a1 m c := e1
  have k2 : Reference.a2 m' c = Combine.a2 m c := e2
  have k3 : Reference.a3 m' c = Combine.a3 m c := e3
  have k4 : Reference.a4 m' c = Combine.a4 m c := e4
  have k5 : Reference.a5 m' c = Combine.a5 m c := e5
  rw [Reference.result_at m' c (by rw [k0]; exact (h0 c).1), k0, k1, k2, k3, k4, k5]

theorem claim : Cert.Claim := ⟨Cert.Kernel.Gen.facts, Cert.KernelIdeal.Gen.facts, Cert.ReferenceIdeal.Gen.facts, Cert.InKernel.Gen.facts,
  Cert.InKernelIdeal.Gen.facts, Cert.InReferenceIdeal.Gen.facts,
  Cert.MixKernel.Gen.facts, Cert.MixKernelIdeal.Gen.facts, Cert.MixReferenceIdeal.Gen.facts, Cert.CtxKernel.Gen.facts, Cert.CtxKernelIdeal.Gen.facts, Cert.CtxReferenceIdeal.Gen.facts,
  Cert.ModKernel.Gen.facts, Cert.ModKernelIdeal.Gen.facts, Cert.ModReferenceIdeal.Gen.facts,
  Cert.AffKernel.Gen.facts, Cert.AffKernelIdeal.Gen.facts, Cert.AffReferenceIdeal.Gen.facts, Cert.Pre_idx_ok.Gen.facts, Cert.Pre_finite.Gen.facts,
  frame_kernel, frame_ideal, frame_reference, frame_reference_pre, InProj.frame_kernel, InProj.frame_ideal, InProj.frame_reference,
  Mix.frame_kernel, Mix.frame_ideal, Mix.frame_reference, Ctx.frame_kernel, Ctx.frame_ideal, Ctx.frame_reference,
  Mod.frame_kernel, Mod.frame_ideal, Mod.frame_reference,
  Aff.frame_kernel, Aff.frame_ideal, Aff.frame_ideal_pre, Aff.frame_reference, Aff.frame_reference_pre, trivial, value, trivial, InProj.value, trivial, Mix.value, trivial, Ctx.value, trivial, Mod.value, Aff.preserves, Aff.value⟩

end Cert.Proof

end
